-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.2 = (fun _ => 1#1)

def Pre_UpDx (m : (ℓ : Loc Cert.UpDx.nD Cert.UpDx.τ Cert.UpDx.sig) → Buf (Elt Bits) ℓ) : Prop :=
  True

def Pre_UpDxIdeal (m : (ℓ : Loc Cert.UpDxIdeal.nD Cert.UpDxIdeal.τ Cert.UpDxIdeal.sig) → Buf (Elt Ideal) ℓ) : Prop :=
  True

def Pre_UpDxRefIdeal (m : (ℓ : Loc Cert.UpDxRefIdeal.nD Cert.UpDxRefIdeal.τ Cert.UpDxRefIdeal.sig) → Buf (Elt Ideal) ℓ) : Prop :=
  True

def Pre_UpDw (m : (ℓ : Loc Cert.UpDw.nD Cert.UpDw.τ Cert.UpDw.sig) → Buf (Elt Bits) ℓ) : Prop :=
  True

def Pre_UpDwIdeal (m : (ℓ : Loc Cert.UpDwIdeal.nD Cert.UpDwIdeal.τ Cert.UpDwIdeal.sig) → Buf (Elt Ideal) ℓ) : Prop :=
  True

def Pre_UpDwRefIdeal (m : (ℓ : Loc Cert.UpDwRefIdeal.nD Cert.UpDwRefIdeal.τ Cert.UpDwRefIdeal.sig) → Buf (Elt Ideal) ℓ) : Prop :=
  True

def Pre_DownDx (m : (ℓ : Loc Cert.DownDx.nD Cert.DownDx.τ Cert.DownDx.sig) → Buf (Elt Bits) ℓ) : Prop :=
  True

def Pre_DownDxIdeal (m : (ℓ : Loc Cert.DownDxIdeal.nD Cert.DownDxIdeal.τ Cert.DownDxIdeal.sig) → Buf (Elt Ideal) ℓ) : Prop :=
  True

def Pre_DownDxRefIdeal (m : (ℓ : Loc Cert.DownDxRefIdeal.nD Cert.DownDxRefIdeal.τ Cert.DownDxRefIdeal.sig) → Buf (Elt Ideal) ℓ) : Prop :=
  True

def Pre_DownDw (m : (ℓ : Loc Cert.DownDw.nD Cert.DownDw.τ Cert.DownDw.sig) → Buf (Elt Bits) ℓ) : Prop :=
  True

def Pre_DownDwIdeal (m : (ℓ : Loc Cert.DownDwIdeal.nD Cert.DownDwIdeal.τ Cert.DownDwIdeal.sig) → Buf (Elt Ideal) ℓ) : Prop :=
  True

def Pre_DownDwRefIdeal (m : (ℓ : Loc Cert.DownDwRefIdeal.nD Cert.DownDwRefIdeal.τ Cert.DownDwRefIdeal.sig) → Buf (Elt Ideal) ℓ) : Prop :=
  True

def Pre_QkvDx (m : (ℓ : Loc Cert.QkvDx.nD Cert.QkvDx.τ Cert.QkvDx.sig) → Buf (Elt Bits) ℓ) : Prop :=
  True

def Pre_QkvDxIdeal (m : (ℓ : Loc Cert.QkvDxIdeal.nD Cert.QkvDxIdeal.τ Cert.QkvDxIdeal.sig) → Buf (Elt Ideal) ℓ) : Prop :=
  True

def Pre_QkvDxRefIdeal (m : (ℓ : Loc Cert.QkvDxRefIdeal.nD Cert.QkvDxRefIdeal.τ Cert.QkvDxRefIdeal.sig) → Buf (Elt Ideal) ℓ) : Prop :=
  True

def Pre_QkvDw (m : (ℓ : Loc Cert.QkvDw.nD Cert.QkvDw.τ Cert.QkvDw.sig) → Buf (Elt Bits) ℓ) : Prop :=
  True

def Pre_QkvDwIdeal (m : (ℓ : Loc Cert.QkvDwIdeal.nD Cert.QkvDwIdeal.τ Cert.QkvDwIdeal.sig) → Buf (Elt Ideal) ℓ) : Prop :=
  True

def Pre_QkvDwRefIdeal (m : (ℓ : Loc Cert.QkvDwRefIdeal.nD Cert.QkvDwRefIdeal.τ Cert.QkvDwRefIdeal.sig) → Buf (Elt Ideal) ℓ) : Prop :=
  True

def Pre_Up (m : (ℓ : Loc Cert.Up.nD Cert.Up.τ Cert.Up.sig) → Buf (Elt Bits) ℓ) : Prop :=
  True

def Pre_UpIdeal (m : (ℓ : Loc Cert.UpIdeal.nD Cert.UpIdeal.τ Cert.UpIdeal.sig) → Buf (Elt Ideal) ℓ) : Prop :=
  True

def Pre_UpRefIdeal (m : (ℓ : Loc Cert.UpRefIdeal.nD Cert.UpRefIdeal.τ Cert.UpRefIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownRefIdeal (m : (ℓ : Loc Cert.DownRefIdeal.nD Cert.DownRefIdeal.τ Cert.DownRefIdeal.sig) → Buf (Elt Ideal) ℓ) : Prop :=
  True

def Pre_Qkv (m : (ℓ : Loc Cert.Qkv.nD Cert.Qkv.τ Cert.Qkv.sig) → Buf (Elt Bits) ℓ) : Prop :=
  True

def Pre_QkvIdeal (m : (ℓ : Loc Cert.QkvIdeal.nD Cert.QkvIdeal.τ Cert.QkvIdeal.sig) → Buf (Elt Ideal) ℓ) : Prop :=
  True

def Pre_QkvRefIdeal (m : (ℓ : Loc Cert.QkvRefIdeal.nD Cert.QkvRefIdeal.τ Cert.QkvRefIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjRefIdeal (m : (ℓ : Loc Cert.OutProjRefIdeal.nD Cert.OutProjRefIdeal.τ Cert.OutProjRefIdeal.sig) → Buf (Elt Ideal) ℓ) : Prop :=
  True

def Pre_OutProjDx (m : (ℓ : Loc Cert.OutProjDx.nD Cert.OutProjDx.τ Cert.OutProjDx.sig) → Buf (Elt Bits) ℓ) : Prop :=
  True

def Pre_OutProjDxIdeal (m : (ℓ : Loc Cert.OutProjDxIdeal.nD Cert.OutProjDxIdeal.τ Cert.OutProjDxIdeal.sig) → Buf (Elt Ideal) ℓ) : Prop :=
  True

def Pre_OutProjDxRefIdeal (m : (ℓ : Loc Cert.OutProjDxRefIdeal.nD Cert.OutProjDxRefIdeal.τ Cert.OutProjDxRefIdeal.sig) → Buf (Elt Ideal) ℓ) : Prop :=
  True

def Pre_OutProjDw (m : (ℓ : Loc Cert.OutProjDw.nD Cert.OutProjDw.τ Cert.OutProjDw.sig) → Buf (Elt Bits) ℓ) : Prop :=
  True

def Pre_OutProjDwIdeal (m : (ℓ : Loc Cert.OutProjDwIdeal.nD Cert.OutProjDwIdeal.τ Cert.OutProjDwIdeal.sig) → Buf (Elt Ideal) ℓ) : Prop :=
  True

def Pre_OutProjDwRefIdeal (m : (ℓ : Loc Cert.OutProjDwRefIdeal.nD Cert.OutProjDwRefIdeal.τ Cert.OutProjDwRefIdeal.sig) → Buf (Elt Ideal) ℓ) : Prop :=
  True

def Pre_AdamMod (m : (ℓ : Loc Cert.AdamMod.nD Cert.AdamMod.τ Cert.AdamMod.sig) → Buf (Elt Bits) ℓ) : Prop :=
  True

def Pre_AdamModIdeal (m : (ℓ : Loc Cert.AdamModIdeal.nD Cert.AdamModIdeal.τ Cert.AdamModIdeal.sig) → Buf (Elt Ideal) ℓ) : Prop :=
  True

def Pre_AdamModRefIdeal (m : (ℓ : Loc Cert.AdamModRefIdeal.nD Cert.AdamModRefIdeal.τ Cert.AdamModRefIdeal.sig) → Buf (Elt Ideal) ℓ) : Prop :=
  True

def Pre_AdamModBias (m : (ℓ : Loc Cert.AdamModBias.nD Cert.AdamModBias.τ Cert.AdamModBias.sig) → Buf (Elt Bits) ℓ) : Prop :=
  True

def Pre_AdamModBiasIdeal (m : (ℓ : Loc Cert.AdamModBiasIdeal.nD Cert.AdamModBiasIdeal.τ Cert.AdamModBiasIdeal.sig) → Buf (Elt Ideal) ℓ) : Prop :=
  True

def Pre_AdamModBiasRefIdeal (m : (ℓ : Loc Cert.AdamModBiasRefIdeal.nD Cert.AdamModBiasRefIdeal.τ Cert.AdamModBiasRefIdeal.sig) → Buf (Elt Ideal) ℓ) : Prop :=
  True

def Pre_AdamNorm (m : (ℓ : Loc Cert.AdamNorm.nD Cert.AdamNorm.τ Cert.AdamNorm.sig) → Buf (Elt Bits) ℓ) : Prop :=
  True

def Pre_AdamNormIdeal (m : (ℓ : Loc Cert.AdamNormIdeal.nD Cert.AdamNormIdeal.τ Cert.AdamNormIdeal.sig) → Buf (Elt Ideal) ℓ) : Prop :=
  True

def Pre_AdamNormRefIdeal (m : (ℓ : Loc Cert.AdamNormRefIdeal.nD Cert.AdamNormRefIdeal.τ Cert.AdamNormRefIdeal.sig) → Buf (Elt Ideal) ℓ) : Prop :=
  True

def Pre_AdamQkv (m : (ℓ : Loc Cert.AdamQkv.nD Cert.AdamQkv.τ Cert.AdamQkv.sig) → Buf (Elt Bits) ℓ) : Prop :=
  True

def Pre_AdamQkvIdeal (m : (ℓ : Loc Cert.AdamQkvIdeal.nD Cert.AdamQkvIdeal.τ Cert.AdamQkvIdeal.sig) → Buf (Elt Ideal) ℓ) : Prop :=
  True

def Pre_AdamQkvRefIdeal (m : (ℓ : Loc Cert.AdamQkvRefIdeal.nD Cert.AdamQkvRefIdeal.τ Cert.AdamQkvRefIdeal.sig) → Buf (Elt Ideal) ℓ) : Prop :=
  True

def Pre_AdamO (m : (ℓ : Loc Cert.AdamO.nD Cert.AdamO.τ Cert.AdamO.sig) → Buf (Elt Bits) ℓ) : Prop :=
  True

def Pre_AdamOIdeal (m : (ℓ : Loc Cert.AdamOIdeal.nD Cert.AdamOIdeal.τ Cert.AdamOIdeal.sig) → Buf (Elt Ideal) ℓ) : Prop :=
  True

def Pre_AdamORefIdeal (m : (ℓ : Loc Cert.AdamORefIdeal.nD Cert.AdamORefIdeal.τ Cert.AdamORefIdeal.sig) → Buf (Elt Ideal) ℓ) : Prop :=
  True

def Pre_AdamForget (m : (ℓ : Loc Cert.AdamForget.nD Cert.AdamForget.τ Cert.AdamForget.sig) → Buf (Elt Bits) ℓ) : Prop :=
  True

def Pre_AdamForgetIdeal (m : (ℓ : Loc Cert.AdamForgetIdeal.nD Cert.AdamForgetIdeal.τ Cert.AdamForgetIdeal.sig) → Buf (Elt Ideal) ℓ) : Prop :=
  True

def Pre_AdamForgetRefIdeal (m : (ℓ : Loc Cert.AdamForgetRefIdeal.nD Cert.AdamForgetRefIdeal.τ Cert.AdamForgetRefIdeal.sig) → Buf (Elt Ideal) ℓ) : Prop :=
  True

def Pre_AdamForgetBias (m : (ℓ : Loc Cert.AdamForgetBias.nD Cert.AdamForgetBias.τ Cert.AdamForgetBias.sig) → Buf (Elt Bits) ℓ) : Prop :=
  True

def Pre_AdamForgetBiasIdeal (m : (ℓ : Loc Cert.AdamForgetBiasIdeal.nD Cert.AdamForgetBiasIdeal.τ Cert.AdamForgetBiasIdeal.sig) → Buf (Elt Ideal) ℓ) : Prop :=
  True

def Pre_AdamForgetBiasRefIdeal (m : (ℓ : Loc Cert.AdamForgetBiasRefIdeal.nD Cert.AdamForgetBiasRefIdeal.τ Cert.AdamForgetBiasRefIdeal.sig) → Buf (Elt Ideal) ℓ) : Prop :=
  True

def Pre_AdamUp (m : (ℓ : Loc Cert.AdamUp.nD Cert.AdamUp.τ Cert.AdamUp.sig) → Buf (Elt Bits) ℓ) : Prop :=
  True

def Pre_AdamUpIdeal (m : (ℓ : Loc Cert.AdamUpIdeal.nD Cert.AdamUpIdeal.τ Cert.AdamUpIdeal.sig) → Buf (Elt Ideal) ℓ) : Prop :=
  True

def Pre_AdamUpRefIdeal (m : (ℓ : Loc Cert.AdamUpRefIdeal.nD Cert.AdamUpRefIdeal.τ Cert.AdamUpRefIdeal.sig) → Buf (Elt Ideal) ℓ) : Prop :=
  True

def Pre_AdamConv (m : (ℓ : Loc Cert.AdamConv.nD Cert.AdamConv.τ Cert.AdamConv.sig) → Buf (Elt Bits) ℓ) : Prop :=
  True

def Pre_AdamConvIdeal (m : (ℓ : Loc Cert.AdamConvIdeal.nD Cert.AdamConvIdeal.τ Cert.AdamConvIdeal.sig) → Buf (Elt Ideal) ℓ) : Prop :=
  True

def Pre_AdamConvRefIdeal (m : (ℓ : Loc Cert.AdamConvRefIdeal.nD Cert.AdamConvRefIdeal.τ Cert.AdamConvRefIdeal.sig) → Buf (Elt Ideal) ℓ) : Prop :=
  True

def Pre_AdamConvBias (m : (ℓ : Loc Cert.AdamConvBias.nD Cert.AdamConvBias.τ Cert.AdamConvBias.sig) → Buf (Elt Bits) ℓ) : Prop :=
  True

def Pre_AdamConvBiasIdeal (m : (ℓ : Loc Cert.AdamConvBiasIdeal.nD Cert.AdamConvBiasIdeal.τ Cert.AdamConvBiasIdeal.sig) → Buf (Elt Ideal) ℓ) : Prop :=
  True

def Pre_AdamConvBiasRefIdeal (m : (ℓ : Loc Cert.AdamConvBiasRefIdeal.nD Cert.AdamConvBiasRefIdeal.τ Cert.AdamConvBiasRefIdeal.sig) → Buf (Elt Ideal) ℓ) : Prop :=
  True

def Pre_AdamDown (m : (ℓ : Loc Cert.AdamDown.nD Cert.AdamDown.τ Cert.AdamDown.sig) → Buf (Elt Bits) ℓ) : Prop :=
  True

def Pre_AdamDownIdeal (m : (ℓ : Loc Cert.AdamDownIdeal.nD Cert.AdamDownIdeal.τ Cert.AdamDownIdeal.sig) → Buf (Elt Ideal) ℓ) : Prop :=
  True

def Pre_AdamDownRefIdeal (m : (ℓ : Loc Cert.AdamDownRefIdeal.nD Cert.AdamDownRefIdeal.τ Cert.AdamDownRefIdeal.sig) → Buf (Elt Ideal) ℓ) : Prop :=
  True

def Pre_ModDw (m : (ℓ : Loc Cert.ModDw.nD Cert.ModDw.τ Cert.ModDw.sig) → Buf (Elt Bits) ℓ) : Prop :=
  True

def Pre_ModDwIdeal (m : (ℓ : Loc Cert.ModDwIdeal.nD Cert.ModDwIdeal.τ Cert.ModDwIdeal.sig) → Buf (Elt Ideal) ℓ) : Prop :=
  True

def Pre_ModDwRefIdeal (m : (ℓ : Loc Cert.ModDwRefIdeal.nD Cert.ModDwRefIdeal.τ Cert.ModDwRefIdeal.sig) → Buf (Elt Ideal) ℓ) : Prop :=
  True

def Pre_SumQkv (m : (ℓ : Loc Cert.SumQkv.nD Cert.SumQkv.τ Cert.SumQkv.sig) → Buf (Elt Bits) ℓ) : Prop :=
  True

def Pre_SumQkvIdeal (m : (ℓ : Loc Cert.SumQkvIdeal.nD Cert.SumQkvIdeal.τ Cert.SumQkvIdeal.sig) → Buf (Elt Ideal) ℓ) : Prop :=
  True

def Pre_SumQkvRefIdeal (m : (ℓ : Loc Cert.SumQkvRefIdeal.nD Cert.SumQkvRefIdeal.τ Cert.SumQkvRefIdeal.sig) → Buf (Elt Ideal) ℓ) : Prop :=
  True

def Pre_SumO (m : (ℓ : Loc Cert.SumO.nD Cert.SumO.τ Cert.SumO.sig) → Buf (Elt Bits) ℓ) : Prop :=
  True

def Pre_SumOIdeal (m : (ℓ : Loc Cert.SumOIdeal.nD Cert.SumOIdeal.τ Cert.SumOIdeal.sig) → Buf (Elt Ideal) ℓ) : Prop :=
  True

def Pre_SumORefIdeal (m : (ℓ : Loc Cert.SumORefIdeal.nD Cert.SumORefIdeal.τ Cert.SumORefIdeal.sig) → Buf (Elt Ideal) ℓ) : Prop :=
  True

def Pre_SumUp (m : (ℓ : Loc Cert.SumUp.nD Cert.SumUp.τ Cert.SumUp.sig) → Buf (Elt Bits) ℓ) : Prop :=
  True

def Pre_SumUpIdeal (m : (ℓ : Loc Cert.SumUpIdeal.nD Cert.SumUpIdeal.τ Cert.SumUpIdeal.sig) → Buf (Elt Ideal) ℓ) : Prop :=
  True

def Pre_SumUpRefIdeal (m : (ℓ : Loc Cert.SumUpRefIdeal.nD Cert.SumUpRefIdeal.τ Cert.SumUpRefIdeal.sig) → Buf (Elt Ideal) ℓ) : Prop :=
  True

def Pre_SumDown (m : (ℓ : Loc Cert.SumDown.nD Cert.SumDown.τ Cert.SumDown.sig) → Buf (Elt Bits) ℓ) : Prop :=
  True

def Pre_SumDownIdeal (m : (ℓ : Loc Cert.SumDownIdeal.nD Cert.SumDownIdeal.τ Cert.SumDownIdeal.sig) → Buf (Elt Ideal) ℓ) : Prop :=
  True

def Pre_SumDownRefIdeal (m : (ℓ : Loc Cert.SumDownRefIdeal.nD Cert.SumDownRefIdeal.τ Cert.SumDownRefIdeal.sig) → Buf (Elt Ideal) ℓ) : Prop :=
  True

def Pre_SumSmall (m : (ℓ : Loc Cert.SumSmall.nD Cert.SumSmall.τ Cert.SumSmall.sig) → Buf (Elt Bits) ℓ) : Prop :=
  True

def Pre_SumSmallIdeal (m : (ℓ : Loc Cert.SumSmallIdeal.nD Cert.SumSmallIdeal.τ Cert.SumSmallIdeal.sig) → Buf (Elt Ideal) ℓ) : Prop :=
  True

def Pre_SumSmallRefIdeal (m : (ℓ : Loc Cert.SumSmallRefIdeal.nD Cert.SumSmallRefIdeal.τ Cert.SumSmallRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_UpDx [hUpDx : Cert.UpDx.Facts] : Prop :=
  ∀ (m : (ℓ : Loc Cert.UpDx.nD Cert.UpDx.τ Cert.UpDx.sig) → Buf (Elt Bits) ℓ) (g : Dev Cert.UpDx.nD → PrngReg), Pre_UpDx m →
    θ_run (Cert.UpDx.defs (F := Bits)) (onTc (τ := Cert.UpDx.τ) (Cert.UpDx.main (F := Bits))) ⟨m, fun _ => 0, g⟩ (fun r => (∀ c : Dev Cert.UpDx.nD,
      r.2.mem ((c.tc : Thread Cert.UpDx.nD Cert.UpDx.τ).loc Cert.UpDx.main_arg0) = m ((c.tc : Thread Cert.UpDx.nD Cert.UpDx.τ).loc Cert.UpDx.main_arg0)
      ∧ r.2.mem ((c.tc : Thread Cert.UpDx.nD Cert.UpDx.τ).loc Cert.UpDx.main_arg1) = m ((c.tc : Thread Cert.UpDx.nD Cert.UpDx.τ).loc Cert.UpDx.main_arg1))
      ∧ r.2.sem = fun _ => 0)

def quiescent_UpDxIdeal [hUpDxIdeal : Cert.UpDxIdeal.Facts] : Prop :=
  ∀ (m : (ℓ : Loc Cert.UpDxIdeal.nD Cert.UpDxIdeal.τ Cert.UpDxIdeal.sig) → Buf (Elt Ideal) ℓ) (g : Dev Cert.UpDxIdeal.nD → PrngReg), Pre_UpDxIdeal m →
    θ_run (Cert.UpDxIdeal.defs (F := Ideal)) (onTc (τ := Cert.UpDxIdeal.τ) (Cert.UpDxIdeal.main (F := Ideal))) ⟨m, fun _ => 0, g⟩ (fun r => (∀ c : Dev Cert.UpDxIdeal.nD,
      r.2.mem ((c.tc : Thread Cert.UpDxIdeal.nD Cert.UpDxIdeal.τ).loc Cert.UpDxIdeal.main_arg0) = m ((c.tc : Thread Cert.UpDxIdeal.nD Cert.UpDxIdeal.τ).loc Cert.UpDxIdeal.main_arg0)
      ∧ r.2.mem ((c.tc : Thread Cert.UpDxIdeal.nD Cert.UpDxIdeal.τ).loc Cert.UpDxIdeal.main_arg1) = m ((c.tc : Thread Cert.UpDxIdeal.nD Cert.UpDxIdeal.τ).loc Cert.UpDxIdeal.main_arg1))
      ∧ r.2.sem = fun _ => 0)

def quiescent_UpDxRefIdeal [hUpDxRefIdeal : Cert.UpDxRefIdeal.Facts] : Prop :=
  ∀ (m : (ℓ : Loc Cert.UpDxRefIdeal.nD Cert.UpDxRefIdeal.τ Cert.UpDxRefIdeal.sig) → Buf (Elt Ideal) ℓ) (g : Dev Cert.UpDxRefIdeal.nD → PrngReg), Pre_UpDxRefIdeal m →
    θ_run (Cert.UpDxRefIdeal.defs (F := Ideal)) (onTc (τ := Cert.UpDxRefIdeal.τ) (Cert.UpDxRefIdeal.main (F := Ideal))) ⟨m, fun _ => 0, g⟩ (fun r => (∀ c : Dev Cert.UpDxRefIdeal.nD,
      r.2.mem ((c.tc : Thread Cert.UpDxRefIdeal.nD Cert.UpDxRefIdeal.τ).loc Cert.UpDxRefIdeal.main_arg0) = m ((c.tc : Thread Cert.UpDxRefIdeal.nD Cert.UpDxRefIdeal.τ).loc Cert.UpDxRefIdeal.main_arg0)
      ∧ r.2.mem ((c.tc : Thread Cert.UpDxRefIdeal.nD Cert.UpDxRefIdeal.τ).loc Cert.UpDxRefIdeal.main_arg1) = m ((c.tc : Thread Cert.UpDxRefIdeal.nD Cert.UpDxRefIdeal.τ).loc Cert.UpDxRefIdeal.main_arg1))
      ∧ r.2.sem = fun _ => 0)

def quiescent_UpDw [hUpDw : Cert.UpDw.Facts] : Prop :=
  ∀ (m : (ℓ : Loc Cert.UpDw.nD Cert.UpDw.τ Cert.UpDw.sig) → Buf (Elt Bits) ℓ) (g : Dev Cert.UpDw.nD → PrngReg), Pre_UpDw m →
    θ_run (Cert.UpDw.defs (F := Bits)) (onTc (τ := Cert.UpDw.τ) (Cert.UpDw.main (F := Bits))) ⟨m, fun _ => 0, g⟩ (fun r => (∀ c : Dev Cert.UpDw.nD,
      r.2.mem ((c.tc : Thread Cert.UpDw.nD Cert.UpDw.τ).loc Cert.UpDw.main_arg0) = m ((c.tc : Thread Cert.UpDw.nD Cert.UpDw.τ).loc Cert.UpDw.main_arg0)
      ∧ r.2.mem ((c.tc : Thread Cert.UpDw.nD Cert.UpDw.τ).loc Cert.UpDw.main_arg1) = m ((c.tc : Thread Cert.UpDw.nD Cert.UpDw.τ).loc Cert.UpDw.main_arg1))
      ∧ r.2.sem = fun _ => 0)

def quiescent_UpDwIdeal [hUpDwIdeal : Cert.UpDwIdeal.Facts] : Prop :=
  ∀ (m : (ℓ : Loc Cert.UpDwIdeal.nD Cert.UpDwIdeal.τ Cert.UpDwIdeal.sig) → Buf (Elt Ideal) ℓ) (g : Dev Cert.UpDwIdeal.nD → PrngReg), Pre_UpDwIdeal m →
    θ_run (Cert.UpDwIdeal.defs (F := Ideal)) (onTc (τ := Cert.UpDwIdeal.τ) (Cert.UpDwIdeal.main (F := Ideal))) ⟨m, fun _ => 0, g⟩ (fun r => (∀ c : Dev Cert.UpDwIdeal.nD,
      r.2.mem ((c.tc : Thread Cert.UpDwIdeal.nD Cert.UpDwIdeal.τ).loc Cert.UpDwIdeal.main_arg0) = m ((c.tc : Thread Cert.UpDwIdeal.nD Cert.UpDwIdeal.τ).loc Cert.UpDwIdeal.main_arg0)
      ∧ r.2.mem ((c.tc : Thread Cert.UpDwIdeal.nD Cert.UpDwIdeal.τ).loc Cert.UpDwIdeal.main_arg1) = m ((c.tc : Thread Cert.UpDwIdeal.nD Cert.UpDwIdeal.τ).loc Cert.UpDwIdeal.main_arg1))
      ∧ r.2.sem = fun _ => 0)

def quiescent_UpDwRefIdeal [hUpDwRefIdeal : Cert.UpDwRefIdeal.Facts] : Prop :=
  ∀ (m : (ℓ : Loc Cert.UpDwRefIdeal.nD Cert.UpDwRefIdeal.τ Cert.UpDwRefIdeal.sig) → Buf (Elt Ideal) ℓ) (g : Dev Cert.UpDwRefIdeal.nD → PrngReg), Pre_UpDwRefIdeal m →
    θ_run (Cert.UpDwRefIdeal.defs (F := Ideal)) (onTc (τ := Cert.UpDwRefIdeal.τ) (Cert.UpDwRefIdeal.main (F := Ideal))) ⟨m, fun _ => 0, g⟩ (fun r => (∀ c : Dev Cert.UpDwRefIdeal.nD,
      r.2.mem ((c.tc : Thread Cert.UpDwRefIdeal.nD Cert.UpDwRefIdeal.τ).loc Cert.UpDwRefIdeal.main_arg0) = m ((c.tc : Thread Cert.UpDwRefIdeal.nD Cert.UpDwRefIdeal.τ).loc Cert.UpDwRefIdeal.main_arg0)
      ∧ r.2.mem ((c.tc : Thread Cert.UpDwRefIdeal.nD Cert.UpDwRefIdeal.τ).loc Cert.UpDwRefIdeal.main_arg1) = m ((c.tc : Thread Cert.UpDwRefIdeal.nD Cert.UpDwRefIdeal.τ).loc Cert.UpDwRefIdeal.main_arg1))
      ∧ r.2.sem = fun _ => 0)

def quiescent_DownDx [hDownDx : Cert.DownDx.Facts] : Prop :=
  ∀ (m : (ℓ : Loc Cert.DownDx.nD Cert.DownDx.τ Cert.DownDx.sig) → Buf (Elt Bits) ℓ) (g : Dev Cert.DownDx.nD → PrngReg), Pre_DownDx m →
    θ_run (Cert.DownDx.defs (F := Bits)) (onTc (τ := Cert.DownDx.τ) (Cert.DownDx.main (F := Bits))) ⟨m, fun _ => 0, g⟩ (fun r => (∀ c : Dev Cert.DownDx.nD,
      r.2.mem ((c.tc : Thread Cert.DownDx.nD Cert.DownDx.τ).loc Cert.DownDx.main_arg0) = m ((c.tc : Thread Cert.DownDx.nD Cert.DownDx.τ).loc Cert.DownDx.main_arg0)
      ∧ r.2.mem ((c.tc : Thread Cert.DownDx.nD Cert.DownDx.τ).loc Cert.DownDx.main_arg1) = m ((c.tc : Thread Cert.DownDx.nD Cert.DownDx.τ).loc Cert.DownDx.main_arg1))
      ∧ r.2.sem = fun _ => 0)

def quiescent_DownDxIdeal [hDownDxIdeal : Cert.DownDxIdeal.Facts] : Prop :=
  ∀ (m : (ℓ : Loc Cert.DownDxIdeal.nD Cert.DownDxIdeal.τ Cert.DownDxIdeal.sig) → Buf (Elt Ideal) ℓ) (g : Dev Cert.DownDxIdeal.nD → PrngReg), Pre_DownDxIdeal m →
    θ_run (Cert.DownDxIdeal.defs (F := Ideal)) (onTc (τ := Cert.DownDxIdeal.τ) (Cert.DownDxIdeal.main (F := Ideal))) ⟨m, fun _ => 0, g⟩ (fun r => (∀ c : Dev Cert.DownDxIdeal.nD,
      r.2.mem ((c.tc : Thread Cert.DownDxIdeal.nD Cert.DownDxIdeal.τ).loc Cert.DownDxIdeal.main_arg0) = m ((c.tc : Thread Cert.DownDxIdeal.nD Cert.DownDxIdeal.τ).loc Cert.DownDxIdeal.main_arg0)
      ∧ r.2.mem ((c.tc : Thread Cert.DownDxIdeal.nD Cert.DownDxIdeal.τ).loc Cert.DownDxIdeal.main_arg1) = m ((c.tc : Thread Cert.DownDxIdeal.nD Cert.DownDxIdeal.τ).loc Cert.DownDxIdeal.main_arg1))
      ∧ r.2.sem = fun _ => 0)

def quiescent_DownDxRefIdeal [hDownDxRefIdeal : Cert.DownDxRefIdeal.Facts] : Prop :=
  ∀ (m : (ℓ : Loc Cert.DownDxRefIdeal.nD Cert.DownDxRefIdeal.τ Cert.DownDxRefIdeal.sig) → Buf (Elt Ideal) ℓ) (g : Dev Cert.DownDxRefIdeal.nD → PrngReg), Pre_DownDxRefIdeal m →
    θ_run (Cert.DownDxRefIdeal.defs (F := Ideal)) (onTc (τ := Cert.DownDxRefIdeal.τ) (Cert.DownDxRefIdeal.main (F := Ideal))) ⟨m, fun _ => 0, g⟩ (fun r => (∀ c : Dev Cert.DownDxRefIdeal.nD,
      r.2.mem ((c.tc : Thread Cert.DownDxRefIdeal.nD Cert.DownDxRefIdeal.τ).loc Cert.DownDxRefIdeal.main_arg0) = m ((c.tc : Thread Cert.DownDxRefIdeal.nD Cert.DownDxRefIdeal.τ).loc Cert.DownDxRefIdeal.main_arg0)
      ∧ r.2.mem ((c.tc : Thread Cert.DownDxRefIdeal.nD Cert.DownDxRefIdeal.τ).loc Cert.DownDxRefIdeal.main_arg1) = m ((c.tc : Thread Cert.DownDxRefIdeal.nD Cert.DownDxRefIdeal.τ).loc Cert.DownDxRefIdeal.main_arg1))
      ∧ r.2.sem = fun _ => 0)

def quiescent_DownDw [hDownDw : Cert.DownDw.Facts] : Prop :=
  ∀ (m : (ℓ : Loc Cert.DownDw.nD Cert.DownDw.τ Cert.DownDw.sig) → Buf (Elt Bits) ℓ) (g : Dev Cert.DownDw.nD → PrngReg), Pre_DownDw m →
    θ_run (Cert.DownDw.defs (F := Bits)) (onTc (τ := Cert.DownDw.τ) (Cert.DownDw.main (F := Bits))) ⟨m, fun _ => 0, g⟩ (fun r => (∀ c : Dev Cert.DownDw.nD,
      r.2.mem ((c.tc : Thread Cert.DownDw.nD Cert.DownDw.τ).loc Cert.DownDw.main_arg0) = m ((c.tc : Thread Cert.DownDw.nD Cert.DownDw.τ).loc Cert.DownDw.main_arg0)
      ∧ r.2.mem ((c.tc : Thread Cert.DownDw.nD Cert.DownDw.τ).loc Cert.DownDw.main_arg1) = m ((c.tc : Thread Cert.DownDw.nD Cert.DownDw.τ).loc Cert.DownDw.main_arg1))
      ∧ r.2.sem = fun _ => 0)

def quiescent_DownDwIdeal [hDownDwIdeal : Cert.DownDwIdeal.Facts] : Prop :=
  ∀ (m : (ℓ : Loc Cert.DownDwIdeal.nD Cert.DownDwIdeal.τ Cert.DownDwIdeal.sig) → Buf (Elt Ideal) ℓ) (g : Dev Cert.DownDwIdeal.nD → PrngReg), Pre_DownDwIdeal m →
    θ_run (Cert.DownDwIdeal.defs (F := Ideal)) (onTc (τ := Cert.DownDwIdeal.τ) (Cert.DownDwIdeal.main (F := Ideal))) ⟨m, fun _ => 0, g⟩ (fun r => (∀ c : Dev Cert.DownDwIdeal.nD,
      r.2.mem ((c.tc : Thread Cert.DownDwIdeal.nD Cert.DownDwIdeal.τ).loc Cert.DownDwIdeal.main_arg0) = m ((c.tc : Thread Cert.DownDwIdeal.nD Cert.DownDwIdeal.τ).loc Cert.DownDwIdeal.main_arg0)
      ∧ r.2.mem ((c.tc : Thread Cert.DownDwIdeal.nD Cert.DownDwIdeal.τ).loc Cert.DownDwIdeal.main_arg1) = m ((c.tc : Thread Cert.DownDwIdeal.nD Cert.DownDwIdeal.τ).loc Cert.DownDwIdeal.main_arg1))
      ∧ r.2.sem = fun _ => 0)

def quiescent_DownDwRefIdeal [hDownDwRefIdeal : Cert.DownDwRefIdeal.Facts] : Prop :=
  ∀ (m : (ℓ : Loc Cert.DownDwRefIdeal.nD Cert.DownDwRefIdeal.τ Cert.DownDwRefIdeal.sig) → Buf (Elt Ideal) ℓ) (g : Dev Cert.DownDwRefIdeal.nD → PrngReg), Pre_DownDwRefIdeal m →
    θ_run (Cert.DownDwRefIdeal.defs (F := Ideal)) (onTc (τ := Cert.DownDwRefIdeal.τ) (Cert.DownDwRefIdeal.main (F := Ideal))) ⟨m, fun _ => 0, g⟩ (fun r => (∀ c : Dev Cert.DownDwRefIdeal.nD,
      r.2.mem ((c.tc : Thread Cert.DownDwRefIdeal.nD Cert.DownDwRefIdeal.τ).loc Cert.DownDwRefIdeal.main_arg0) = m ((c.tc : Thread Cert.DownDwRefIdeal.nD Cert.DownDwRefIdeal.τ).loc Cert.DownDwRefIdeal.main_arg0)
      ∧ r.2.mem ((c.tc : Thread Cert.DownDwRefIdeal.nD Cert.DownDwRefIdeal.τ).loc Cert.DownDwRefIdeal.main_arg1) = m ((c.tc : Thread Cert.DownDwRefIdeal.nD Cert.DownDwRefIdeal.τ).loc Cert.DownDwRefIdeal.main_arg1))
      ∧ r.2.sem = fun _ => 0)

def quiescent_QkvDx [hQkvDx : Cert.QkvDx.Facts] : Prop :=
  ∀ (m : (ℓ : Loc Cert.QkvDx.nD Cert.QkvDx.τ Cert.QkvDx.sig) → Buf (Elt Bits) ℓ) (g : Dev Cert.QkvDx.nD → PrngReg), Pre_QkvDx m →
    θ_run (Cert.QkvDx.defs (F := Bits)) (onTc (τ := Cert.QkvDx.τ) (Cert.QkvDx.main (F := Bits))) ⟨m, fun _ => 0, g⟩ (fun r => (∀ c : Dev Cert.QkvDx.nD,
      r.2.mem ((c.tc : Thread Cert.QkvDx.nD Cert.QkvDx.τ).loc Cert.QkvDx.main_arg0) = m ((c.tc : Thread Cert.QkvDx.nD Cert.QkvDx.τ).loc Cert.QkvDx.main_arg0)
      ∧ r.2.mem ((c.tc : Thread Cert.QkvDx.nD Cert.QkvDx.τ).loc Cert.QkvDx.main_arg1) = m ((c.tc : Thread Cert.QkvDx.nD Cert.QkvDx.τ).loc Cert.QkvDx.main_arg1))
      ∧ r.2.sem = fun _ => 0)

def quiescent_QkvDxIdeal [hQkvDxIdeal : Cert.QkvDxIdeal.Facts] : Prop :=
  ∀ (m : (ℓ : Loc Cert.QkvDxIdeal.nD Cert.QkvDxIdeal.τ Cert.QkvDxIdeal.sig) → Buf (Elt Ideal) ℓ) (g : Dev Cert.QkvDxIdeal.nD → PrngReg), Pre_QkvDxIdeal m →
    θ_run (Cert.QkvDxIdeal.defs (F := Ideal)) (onTc (τ := Cert.QkvDxIdeal.τ) (Cert.QkvDxIdeal.main (F := Ideal))) ⟨m, fun _ => 0, g⟩ (fun r => (∀ c : Dev Cert.QkvDxIdeal.nD,
      r.2.mem ((c.tc : Thread Cert.QkvDxIdeal.nD Cert.QkvDxIdeal.τ).loc Cert.QkvDxIdeal.main_arg0) = m ((c.tc : Thread Cert.QkvDxIdeal.nD Cert.QkvDxIdeal.τ).loc Cert.QkvDxIdeal.main_arg0)
      ∧ r.2.mem ((c.tc : Thread Cert.QkvDxIdeal.nD Cert.QkvDxIdeal.τ).loc Cert.QkvDxIdeal.main_arg1) = m ((c.tc : Thread Cert.QkvDxIdeal.nD Cert.QkvDxIdeal.τ).loc Cert.QkvDxIdeal.main_arg1))
      ∧ r.2.sem = fun _ => 0)

def quiescent_QkvDxRefIdeal [hQkvDxRefIdeal : Cert.QkvDxRefIdeal.Facts] : Prop :=
  ∀ (m : (ℓ : Loc Cert.QkvDxRefIdeal.nD Cert.QkvDxRefIdeal.τ Cert.QkvDxRefIdeal.sig) → Buf (Elt Ideal) ℓ) (g : Dev Cert.QkvDxRefIdeal.nD → PrngReg), Pre_QkvDxRefIdeal m →
    θ_run (Cert.QkvDxRefIdeal.defs (F := Ideal)) (onTc (τ := Cert.QkvDxRefIdeal.τ) (Cert.QkvDxRefIdeal.main (F := Ideal))) ⟨m, fun _ => 0, g⟩ (fun r => (∀ c : Dev Cert.QkvDxRefIdeal.nD,
      r.2.mem ((c.tc : Thread Cert.QkvDxRefIdeal.nD Cert.QkvDxRefIdeal.τ).loc Cert.QkvDxRefIdeal.main_arg0) = m ((c.tc : Thread Cert.QkvDxRefIdeal.nD Cert.QkvDxRefIdeal.τ).loc Cert.QkvDxRefIdeal.main_arg0)
      ∧ r.2.mem ((c.tc : Thread Cert.QkvDxRefIdeal.nD Cert.QkvDxRefIdeal.τ).loc Cert.QkvDxRefIdeal.main_arg1) = m ((c.tc : Thread Cert.QkvDxRefIdeal.nD Cert.QkvDxRefIdeal.τ).loc Cert.QkvDxRefIdeal.main_arg1))
      ∧ r.2.sem = fun _ => 0)

def quiescent_QkvDw [hQkvDw : Cert.QkvDw.Facts] : Prop :=
  ∀ (m : (ℓ : Loc Cert.QkvDw.nD Cert.QkvDw.τ Cert.QkvDw.sig) → Buf (Elt Bits) ℓ) (g : Dev Cert.QkvDw.nD → PrngReg), Pre_QkvDw m →
    θ_run (Cert.QkvDw.defs (F := Bits)) (onTc (τ := Cert.QkvDw.τ) (Cert.QkvDw.main (F := Bits))) ⟨m, fun _ => 0, g⟩ (fun r => (∀ c : Dev Cert.QkvDw.nD,
      r.2.mem ((c.tc : Thread Cert.QkvDw.nD Cert.QkvDw.τ).loc Cert.QkvDw.main_arg0) = m ((c.tc : Thread Cert.QkvDw.nD Cert.QkvDw.τ).loc Cert.QkvDw.main_arg0)
      ∧ r.2.mem ((c.tc : Thread Cert.QkvDw.nD Cert.QkvDw.τ).loc Cert.QkvDw.main_arg1) = m ((c.tc : Thread Cert.QkvDw.nD Cert.QkvDw.τ).loc Cert.QkvDw.main_arg1))
      ∧ r.2.sem = fun _ => 0)

def quiescent_QkvDwIdeal [hQkvDwIdeal : Cert.QkvDwIdeal.Facts] : Prop :=
  ∀ (m : (ℓ : Loc Cert.QkvDwIdeal.nD Cert.QkvDwIdeal.τ Cert.QkvDwIdeal.sig) → Buf (Elt Ideal) ℓ) (g : Dev Cert.QkvDwIdeal.nD → PrngReg), Pre_QkvDwIdeal m →
    θ_run (Cert.QkvDwIdeal.defs (F := Ideal)) (onTc (τ := Cert.QkvDwIdeal.τ) (Cert.QkvDwIdeal.main (F := Ideal))) ⟨m, fun _ => 0, g⟩ (fun r => (∀ c : Dev Cert.QkvDwIdeal.nD,
      r.2.mem ((c.tc : Thread Cert.QkvDwIdeal.nD Cert.QkvDwIdeal.τ).loc Cert.QkvDwIdeal.main_arg0) = m ((c.tc : Thread Cert.QkvDwIdeal.nD Cert.QkvDwIdeal.τ).loc Cert.QkvDwIdeal.main_arg0)
      ∧ r.2.mem ((c.tc : Thread Cert.QkvDwIdeal.nD Cert.QkvDwIdeal.τ).loc Cert.QkvDwIdeal.main_arg1) = m ((c.tc : Thread Cert.QkvDwIdeal.nD Cert.QkvDwIdeal.τ).loc Cert.QkvDwIdeal.main_arg1))
      ∧ r.2.sem = fun _ => 0)

def quiescent_QkvDwRefIdeal [hQkvDwRefIdeal : Cert.QkvDwRefIdeal.Facts] : Prop :=
  ∀ (m : (ℓ : Loc Cert.QkvDwRefIdeal.nD Cert.QkvDwRefIdeal.τ Cert.QkvDwRefIdeal.sig) → Buf (Elt Ideal) ℓ) (g : Dev Cert.QkvDwRefIdeal.nD → PrngReg), Pre_QkvDwRefIdeal m →
    θ_run (Cert.QkvDwRefIdeal.defs (F := Ideal)) (onTc (τ := Cert.QkvDwRefIdeal.τ) (Cert.QkvDwRefIdeal.main (F := Ideal))) ⟨m, fun _ => 0, g⟩ (fun r => (∀ c : Dev Cert.QkvDwRefIdeal.nD,
      r.2.mem ((c.tc : Thread Cert.QkvDwRefIdeal.nD Cert.QkvDwRefIdeal.τ).loc Cert.QkvDwRefIdeal.main_arg0) = m ((c.tc : Thread Cert.QkvDwRefIdeal.nD Cert.QkvDwRefIdeal.τ).loc Cert.QkvDwRefIdeal.main_arg0)
      ∧ r.2.mem ((c.tc : Thread Cert.QkvDwRefIdeal.nD Cert.QkvDwRefIdeal.τ).loc Cert.QkvDwRefIdeal.main_arg1) = m ((c.tc : Thread Cert.QkvDwRefIdeal.nD Cert.QkvDwRefIdeal.τ).loc Cert.QkvDwRefIdeal.main_arg1))
      ∧ r.2.sem = fun _ => 0)

def quiescent_Up [hUp : Cert.Up.Facts] : Prop :=
  ∀ (m : (ℓ : Loc Cert.Up.nD Cert.Up.τ Cert.Up.sig) → Buf (Elt Bits) ℓ) (g : Dev Cert.Up.nD → PrngReg), Pre_Up m →
    θ_run (Cert.Up.defs (F := Bits)) (onTc (τ := Cert.Up.τ) (Cert.Up.main (F := Bits))) ⟨m, fun _ => 0, g⟩ (fun r => (∀ c : Dev Cert.Up.nD,
      r.2.mem ((c.tc : Thread Cert.Up.nD Cert.Up.τ).loc Cert.Up.main_arg0) = m ((c.tc : Thread Cert.Up.nD Cert.Up.τ).loc Cert.Up.main_arg0)
      ∧ r.2.mem ((c.tc : Thread Cert.Up.nD Cert.Up.τ).loc Cert.Up.main_arg1) = m ((c.tc : Thread Cert.Up.nD Cert.Up.τ).loc Cert.Up.main_arg1))
      ∧ r.2.sem = fun _ => 0)

def quiescent_UpIdeal [hUpIdeal : Cert.UpIdeal.Facts] : Prop :=
  ∀ (m : (ℓ : Loc Cert.UpIdeal.nD Cert.UpIdeal.τ Cert.UpIdeal.sig) → Buf (Elt Ideal) ℓ) (g : Dev Cert.UpIdeal.nD → PrngReg), Pre_UpIdeal m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1))
      ∧ r.2.sem = fun _ => 0)

def quiescent_UpRefIdeal [hUpRefIdeal : Cert.UpRefIdeal.Facts] : Prop :=
  ∀ (m : (ℓ : Loc Cert.UpRefIdeal.nD Cert.UpRefIdeal.τ Cert.UpRefIdeal.sig) → Buf (Elt Ideal) ℓ) (g : Dev Cert.UpRefIdeal.nD → PrngReg), Pre_UpRefIdeal m →
    θ_run (Cert.UpRefIdeal.defs (F := Ideal)) (onTc (τ := Cert.UpRefIdeal.τ) (Cert.UpRefIdeal.main (F := Ideal))) ⟨m, fun _ => 0, g⟩ (fun r => (∀ c : Dev Cert.UpRefIdeal.nD,
      r.2.mem ((c.tc : Thread Cert.UpRefIdeal.nD Cert.UpRefIdeal.τ).loc Cert.UpRefIdeal.main_arg0) = m ((c.tc : Thread Cert.UpRefIdeal.nD Cert.UpRefIdeal.τ).loc Cert.UpRefIdeal.main_arg0)
      ∧ r.2.mem ((c.tc : Thread Cert.UpRefIdeal.nD Cert.UpRefIdeal.τ).loc Cert.UpRefIdeal.main_arg1) = m ((c.tc : Thread Cert.UpRefIdeal.nD Cert.UpRefIdeal.τ).loc Cert.UpRefIdeal.main_arg1))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1))
      ∧ r.2.sem = fun _ => 0)

def quiescent_Qkv [hQkv : Cert.Qkv.Facts] : Prop :=
  ∀ (m : (ℓ : Loc Cert.Qkv.nD Cert.Qkv.τ Cert.Qkv.sig) → Buf (Elt Bits) ℓ) (g : Dev Cert.Qkv.nD → PrngReg), Pre_Qkv m →
    θ_run (Cert.Qkv.defs (F := Bits)) (onTc (τ := Cert.Qkv.τ) (Cert.Qkv.main (F := Bits))) ⟨m, fun _ => 0, g⟩ (fun r => (∀ c : Dev Cert.Qkv.nD,
      r.2.mem ((c.tc : Thread Cert.Qkv.nD Cert.Qkv.τ).loc Cert.Qkv.main_arg0) = m ((c.tc : Thread Cert.Qkv.nD Cert.Qkv.τ).loc Cert.Qkv.main_arg0)
      ∧ r.2.mem ((c.tc : Thread Cert.Qkv.nD Cert.Qkv.τ).loc Cert.Qkv.main_arg1) = m ((c.tc : Thread Cert.Qkv.nD Cert.Qkv.τ).loc Cert.Qkv.main_arg1))
      ∧ r.2.sem = fun _ => 0)

def quiescent_QkvIdeal [hQkvIdeal : Cert.QkvIdeal.Facts] : Prop :=
  ∀ (m : (ℓ : Loc Cert.QkvIdeal.nD Cert.QkvIdeal.τ Cert.QkvIdeal.sig) → Buf (Elt Ideal) ℓ) (g : Dev Cert.QkvIdeal.nD → PrngReg), Pre_QkvIdeal m →
    θ_run (Cert.QkvIdeal.defs (F := Ideal)) (onTc (τ := Cert.QkvIdeal.τ) (Cert.QkvIdeal.main (F := Ideal))) ⟨m, fun _ => 0, g⟩ (fun r => (∀ c : Dev Cert.QkvIdeal.nD,
      r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
      ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1))
      ∧ r.2.sem = fun _ => 0)

def quiescent_QkvRefIdeal [hQkvRefIdeal : Cert.QkvRefIdeal.Facts] : Prop :=
  ∀ (m : (ℓ : Loc Cert.QkvRefIdeal.nD Cert.QkvRefIdeal.τ Cert.QkvRefIdeal.sig) → Buf (Elt Ideal) ℓ) (g : Dev Cert.QkvRefIdeal.nD → PrngReg), Pre_QkvRefIdeal m →
    θ_run (Cert.QkvRefIdeal.defs (F := Ideal)) (onTc (τ := Cert.QkvRefIdeal.τ) (Cert.QkvRefIdeal.main (F := Ideal))) ⟨m, fun _ => 0, g⟩ (fun r => (∀ c : Dev Cert.QkvRefIdeal.nD,
      r.2.mem ((c.tc : Thread Cert.QkvRefIdeal.nD Cert.QkvRefIdeal.τ).loc Cert.QkvRefIdeal.main_arg0) = m ((c.tc : Thread Cert.QkvRefIdeal.nD Cert.QkvRefIdeal.τ).loc Cert.QkvRefIdeal.main_arg0)
      ∧ r.2.mem ((c.tc : Thread Cert.QkvRefIdeal.nD Cert.QkvRefIdeal.τ).loc Cert.QkvRefIdeal.main_arg1) = m ((c.tc : Thread Cert.QkvRefIdeal.nD Cert.QkvRefIdeal.τ).loc Cert.QkvRefIdeal.main_arg1))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1))
      ∧ r.2.sem = fun _ => 0)

def quiescent_OutProjRefIdeal [hOutProjRefIdeal : Cert.OutProjRefIdeal.Facts] : Prop :=
  ∀ (m : (ℓ : Loc Cert.OutProjRefIdeal.nD Cert.OutProjRefIdeal.τ Cert.OutProjRefIdeal.sig) → Buf (Elt Ideal) ℓ) (g : Dev Cert.OutProjRefIdeal.nD → PrngReg), Pre_OutProjRefIdeal m →
    θ_run (Cert.OutProjRefIdeal.defs (F := Ideal)) (onTc (τ := Cert.OutProjRefIdeal.τ) (Cert.OutProjRefIdeal.main (F := Ideal))) ⟨m, fun _ => 0, g⟩ (fun r => (∀ c : Dev Cert.OutProjRefIdeal.nD,
      r.2.mem ((c.tc : Thread Cert.OutProjRefIdeal.nD Cert.OutProjRefIdeal.τ).loc Cert.OutProjRefIdeal.main_arg0) = m ((c.tc : Thread Cert.OutProjRefIdeal.nD Cert.OutProjRefIdeal.τ).loc Cert.OutProjRefIdeal.main_arg0)
      ∧ r.2.mem ((c.tc : Thread Cert.OutProjRefIdeal.nD Cert.OutProjRefIdeal.τ).loc Cert.OutProjRefIdeal.main_arg1) = m ((c.tc : Thread Cert.OutProjRefIdeal.nD Cert.OutProjRefIdeal.τ).loc Cert.OutProjRefIdeal.main_arg1))
      ∧ r.2.sem = fun _ => 0)

def quiescent_OutProjDx [hOutProjDx : Cert.OutProjDx.Facts] : Prop :=
  ∀ (m : (ℓ : Loc Cert.OutProjDx.nD Cert.OutProjDx.τ Cert.OutProjDx.sig) → Buf (Elt Bits) ℓ) (g : Dev Cert.OutProjDx.nD → PrngReg), Pre_OutProjDx m →
    θ_run (Cert.OutProjDx.defs (F := Bits)) (onTc (τ := Cert.OutProjDx.τ) (Cert.OutProjDx.main (F := Bits))) ⟨m, fun _ => 0, g⟩ (fun r => (∀ c : Dev Cert.OutProjDx.nD,
      r.2.mem ((c.tc : Thread Cert.OutProjDx.nD Cert.OutProjDx.τ).loc Cert.OutProjDx.main_arg0) = m ((c.tc : Thread Cert.OutProjDx.nD Cert.OutProjDx.τ).loc Cert.OutProjDx.main_arg0)
      ∧ r.2.mem ((c.tc : Thread Cert.OutProjDx.nD Cert.OutProjDx.τ).loc Cert.OutProjDx.main_arg1) = m ((c.tc : Thread Cert.OutProjDx.nD Cert.OutProjDx.τ).loc Cert.OutProjDx.main_arg1))
      ∧ r.2.sem = fun _ => 0)

def quiescent_OutProjDxIdeal [hOutProjDxIdeal : Cert.OutProjDxIdeal.Facts] : Prop :=
  ∀ (m : (ℓ : Loc Cert.OutProjDxIdeal.nD Cert.OutProjDxIdeal.τ Cert.OutProjDxIdeal.sig) → Buf (Elt Ideal) ℓ) (g : Dev Cert.OutProjDxIdeal.nD → PrngReg), Pre_OutProjDxIdeal m →
    θ_run (Cert.OutProjDxIdeal.defs (F := Ideal)) (onTc (τ := Cert.OutProjDxIdeal.τ) (Cert.OutProjDxIdeal.main (F := Ideal))) ⟨m, fun _ => 0, g⟩ (fun r => (∀ c : Dev Cert.OutProjDxIdeal.nD,
      r.2.mem ((c.tc : Thread Cert.OutProjDxIdeal.nD Cert.OutProjDxIdeal.τ).loc Cert.OutProjDxIdeal.main_arg0) = m ((c.tc : Thread Cert.OutProjDxIdeal.nD Cert.OutProjDxIdeal.τ).loc Cert.OutProjDxIdeal.main_arg0)
      ∧ r.2.mem ((c.tc : Thread Cert.OutProjDxIdeal.nD Cert.OutProjDxIdeal.τ).loc Cert.OutProjDxIdeal.main_arg1) = m ((c.tc : Thread Cert.OutProjDxIdeal.nD Cert.OutProjDxIdeal.τ).loc Cert.OutProjDxIdeal.main_arg1))
      ∧ r.2.sem = fun _ => 0)

def quiescent_OutProjDxRefIdeal [hOutProjDxRefIdeal : Cert.OutProjDxRefIdeal.Facts] : Prop :=
  ∀ (m : (ℓ : Loc Cert.OutProjDxRefIdeal.nD Cert.OutProjDxRefIdeal.τ Cert.OutProjDxRefIdeal.sig) → Buf (Elt Ideal) ℓ) (g : Dev Cert.OutProjDxRefIdeal.nD → PrngReg), Pre_OutProjDxRefIdeal m →
    θ_run (Cert.OutProjDxRefIdeal.defs (F := Ideal)) (onTc (τ := Cert.OutProjDxRefIdeal.τ) (Cert.OutProjDxRefIdeal.main (F := Ideal))) ⟨m, fun _ => 0, g⟩ (fun r => (∀ c : Dev Cert.OutProjDxRefIdeal.nD,
      r.2.mem ((c.tc : Thread Cert.OutProjDxRefIdeal.nD Cert.OutProjDxRefIdeal.τ).loc Cert.OutProjDxRefIdeal.main_arg0) = m ((c.tc : Thread Cert.OutProjDxRefIdeal.nD Cert.OutProjDxRefIdeal.τ).loc Cert.OutProjDxRefIdeal.main_arg0)
      ∧ r.2.mem ((c.tc : Thread Cert.OutProjDxRefIdeal.nD Cert.OutProjDxRefIdeal.τ).loc Cert.OutProjDxRefIdeal.main_arg1) = m ((c.tc : Thread Cert.OutProjDxRefIdeal.nD Cert.OutProjDxRefIdeal.τ).loc Cert.OutProjDxRefIdeal.main_arg1))
      ∧ r.2.sem = fun _ => 0)

def quiescent_OutProjDw [hOutProjDw : Cert.OutProjDw.Facts] : Prop :=
  ∀ (m : (ℓ : Loc Cert.OutProjDw.nD Cert.OutProjDw.τ Cert.OutProjDw.sig) → Buf (Elt Bits) ℓ) (g : Dev Cert.OutProjDw.nD → PrngReg), Pre_OutProjDw m →
    θ_run (Cert.OutProjDw.defs (F := Bits)) (onTc (τ := Cert.OutProjDw.τ) (Cert.OutProjDw.main (F := Bits))) ⟨m, fun _ => 0, g⟩ (fun r => (∀ c : Dev Cert.OutProjDw.nD,
      r.2.mem ((c.tc : Thread Cert.OutProjDw.nD Cert.OutProjDw.τ).loc Cert.OutProjDw.main_arg0) = m ((c.tc : Thread Cert.OutProjDw.nD Cert.OutProjDw.τ).loc Cert.OutProjDw.main_arg0)
      ∧ r.2.mem ((c.tc : Thread Cert.OutProjDw.nD Cert.OutProjDw.τ).loc Cert.OutProjDw.main_arg1) = m ((c.tc : Thread Cert.OutProjDw.nD Cert.OutProjDw.τ).loc Cert.OutProjDw.main_arg1))
      ∧ r.2.sem = fun _ => 0)

def quiescent_OutProjDwIdeal [hOutProjDwIdeal : Cert.OutProjDwIdeal.Facts] : Prop :=
  ∀ (m : (ℓ : Loc Cert.OutProjDwIdeal.nD Cert.OutProjDwIdeal.τ Cert.OutProjDwIdeal.sig) → Buf (Elt Ideal) ℓ) (g : Dev Cert.OutProjDwIdeal.nD → PrngReg), Pre_OutProjDwIdeal m →
    θ_run (Cert.OutProjDwIdeal.defs (F := Ideal)) (onTc (τ := Cert.OutProjDwIdeal.τ) (Cert.OutProjDwIdeal.main (F := Ideal))) ⟨m, fun _ => 0, g⟩ (fun r => (∀ c : Dev Cert.OutProjDwIdeal.nD,
      r.2.mem ((c.tc : Thread Cert.OutProjDwIdeal.nD Cert.OutProjDwIdeal.τ).loc Cert.OutProjDwIdeal.main_arg0) = m ((c.tc : Thread Cert.OutProjDwIdeal.nD Cert.OutProjDwIdeal.τ).loc Cert.OutProjDwIdeal.main_arg0)
      ∧ r.2.mem ((c.tc : Thread Cert.OutProjDwIdeal.nD Cert.OutProjDwIdeal.τ).loc Cert.OutProjDwIdeal.main_arg1) = m ((c.tc : Thread Cert.OutProjDwIdeal.nD Cert.OutProjDwIdeal.τ).loc Cert.OutProjDwIdeal.main_arg1))
      ∧ r.2.sem = fun _ => 0)

def quiescent_OutProjDwRefIdeal [hOutProjDwRefIdeal : Cert.OutProjDwRefIdeal.Facts] : Prop :=
  ∀ (m : (ℓ : Loc Cert.OutProjDwRefIdeal.nD Cert.OutProjDwRefIdeal.τ Cert.OutProjDwRefIdeal.sig) → Buf (Elt Ideal) ℓ) (g : Dev Cert.OutProjDwRefIdeal.nD → PrngReg), Pre_OutProjDwRefIdeal m →
    θ_run (Cert.OutProjDwRefIdeal.defs (F := Ideal)) (onTc (τ := Cert.OutProjDwRefIdeal.τ) (Cert.OutProjDwRefIdeal.main (F := Ideal))) ⟨m, fun _ => 0, g⟩ (fun r => (∀ c : Dev Cert.OutProjDwRefIdeal.nD,
      r.2.mem ((c.tc : Thread Cert.OutProjDwRefIdeal.nD Cert.OutProjDwRefIdeal.τ).loc Cert.OutProjDwRefIdeal.main_arg0) = m ((c.tc : Thread Cert.OutProjDwRefIdeal.nD Cert.OutProjDwRefIdeal.τ).loc Cert.OutProjDwRefIdeal.main_arg0)
      ∧ r.2.mem ((c.tc : Thread Cert.OutProjDwRefIdeal.nD Cert.OutProjDwRefIdeal.τ).loc Cert.OutProjDwRefIdeal.main_arg1) = m ((c.tc : Thread Cert.OutProjDwRefIdeal.nD Cert.OutProjDwRefIdeal.τ).loc Cert.OutProjDwRefIdeal.main_arg1))
      ∧ r.2.sem = fun _ => 0)

def quiescent_AdamMod [hAdamMod : Cert.AdamMod.Facts] : Prop :=
  ∀ (m : (ℓ : Loc Cert.AdamMod.nD Cert.AdamMod.τ Cert.AdamMod.sig) → Buf (Elt Bits) ℓ) (g : Dev Cert.AdamMod.nD → PrngReg), Pre_AdamMod m →
    θ_run (Cert.AdamMod.defs (F := Bits)) (onTc (τ := Cert.AdamMod.τ) (Cert.AdamMod.main (F := Bits))) ⟨m, fun _ => 0, g⟩ (fun r => (∀ c : Dev Cert.AdamMod.nD,
      r.2.mem ((c.tc : Thread Cert.AdamMod.nD Cert.AdamMod.τ).loc Cert.AdamMod.main_arg0) = m ((c.tc : Thread Cert.AdamMod.nD Cert.AdamMod.τ).loc Cert.AdamMod.main_arg0)
      ∧ r.2.mem ((c.tc : Thread Cert.AdamMod.nD Cert.AdamMod.τ).loc Cert.AdamMod.main_arg1) = m ((c.tc : Thread Cert.AdamMod.nD Cert.AdamMod.τ).loc Cert.AdamMod.main_arg1)
      ∧ r.2.mem ((c.tc : Thread Cert.AdamMod.nD Cert.AdamMod.τ).loc Cert.AdamMod.main_arg2) = m ((c.tc : Thread Cert.AdamMod.nD Cert.AdamMod.τ).loc Cert.AdamMod.main_arg2)
      ∧ r.2.mem ((c.tc : Thread Cert.AdamMod.nD Cert.AdamMod.τ).loc Cert.AdamMod.main_arg3) = m ((c.tc : Thread Cert.AdamMod.nD Cert.AdamMod.τ).loc Cert.AdamMod.main_arg3))
      ∧ r.2.sem = fun _ => 0)

def quiescent_AdamModIdeal [hAdamModIdeal : Cert.AdamModIdeal.Facts] : Prop :=
  ∀ (m : (ℓ : Loc Cert.AdamModIdeal.nD Cert.AdamModIdeal.τ Cert.AdamModIdeal.sig) → Buf (Elt Ideal) ℓ) (g : Dev Cert.AdamModIdeal.nD → PrngReg), Pre_AdamModIdeal m →
    θ_run (Cert.AdamModIdeal.defs (F := Ideal)) (onTc (τ := Cert.AdamModIdeal.τ) (Cert.AdamModIdeal.main (F := Ideal))) ⟨m, fun _ => 0, g⟩ (fun r => (∀ c : Dev Cert.AdamModIdeal.nD,
      r.2.mem ((c.tc : Thread Cert.AdamModIdeal.nD Cert.AdamModIdeal.τ).loc Cert.AdamModIdeal.main_arg0) = m ((c.tc : Thread Cert.AdamModIdeal.nD Cert.AdamModIdeal.τ).loc Cert.AdamModIdeal.main_arg0)
      ∧ r.2.mem ((c.tc : Thread Cert.AdamModIdeal.nD Cert.AdamModIdeal.τ).loc Cert.AdamModIdeal.main_arg1) = m ((c.tc : Thread Cert.AdamModIdeal.nD Cert.AdamModIdeal.τ).loc Cert.AdamModIdeal.main_arg1)
      ∧ r.2.mem ((c.tc : Thread Cert.AdamModIdeal.nD Cert.AdamModIdeal.τ).loc Cert.AdamModIdeal.main_arg2) = m ((c.tc : Thread Cert.AdamModIdeal.nD Cert.AdamModIdeal.τ).loc Cert.AdamModIdeal.main_arg2)
      ∧ r.2.mem ((c.tc : Thread Cert.AdamModIdeal.nD Cert.AdamModIdeal.τ).loc Cert.AdamModIdeal.main_arg3) = m ((c.tc : Thread Cert.AdamModIdeal.nD Cert.AdamModIdeal.τ).loc Cert.AdamModIdeal.main_arg3))
      ∧ r.2.sem = fun _ => 0)

def quiescent_AdamModRefIdeal [hAdamModRefIdeal : Cert.AdamModRefIdeal.Facts] : Prop :=
  ∀ (m : (ℓ : Loc Cert.AdamModRefIdeal.nD Cert.AdamModRefIdeal.τ Cert.AdamModRefIdeal.sig) → Buf (Elt Ideal) ℓ) (g : Dev Cert.AdamModRefIdeal.nD → PrngReg), Pre_AdamModRefIdeal m →
    θ_run (Cert.AdamModRefIdeal.defs (F := Ideal)) (onTc (τ := Cert.AdamModRefIdeal.τ) (Cert.AdamModRefIdeal.main (F := Ideal))) ⟨m, fun _ => 0, g⟩ (fun r => (∀ c : Dev Cert.AdamModRefIdeal.nD,
      r.2.mem ((c.tc : Thread Cert.AdamModRefIdeal.nD Cert.AdamModRefIdeal.τ).loc Cert.AdamModRefIdeal.main_arg0) = m ((c.tc : Thread Cert.AdamModRefIdeal.nD Cert.AdamModRefIdeal.τ).loc Cert.AdamModRefIdeal.main_arg0)
      ∧ r.2.mem ((c.tc : Thread Cert.AdamModRefIdeal.nD Cert.AdamModRefIdeal.τ).loc Cert.AdamModRefIdeal.main_arg1) = m ((c.tc : Thread Cert.AdamModRefIdeal.nD Cert.AdamModRefIdeal.τ).loc Cert.AdamModRefIdeal.main_arg1)
      ∧ r.2.mem ((c.tc : Thread Cert.AdamModRefIdeal.nD Cert.AdamModRefIdeal.τ).loc Cert.AdamModRefIdeal.main_arg2) = m ((c.tc : Thread Cert.AdamModRefIdeal.nD Cert.AdamModRefIdeal.τ).loc Cert.AdamModRefIdeal.main_arg2)
      ∧ r.2.mem ((c.tc : Thread Cert.AdamModRefIdeal.nD Cert.AdamModRefIdeal.τ).loc Cert.AdamModRefIdeal.main_arg3) = m ((c.tc : Thread Cert.AdamModRefIdeal.nD Cert.AdamModRefIdeal.τ).loc Cert.AdamModRefIdeal.main_arg3))
      ∧ r.2.sem = fun _ => 0)

def quiescent_AdamModBias [hAdamModBias : Cert.AdamModBias.Facts] : Prop :=
  ∀ (m : (ℓ : Loc Cert.AdamModBias.nD Cert.AdamModBias.τ Cert.AdamModBias.sig) → Buf (Elt Bits) ℓ) (g : Dev Cert.AdamModBias.nD → PrngReg), Pre_AdamModBias m →
    θ_run (Cert.AdamModBias.defs (F := Bits)) (onTc (τ := Cert.AdamModBias.τ) (Cert.AdamModBias.main (F := Bits))) ⟨m, fun _ => 0, g⟩ (fun r => (∀ c : Dev Cert.AdamModBias.nD,
      r.2.mem ((c.tc : Thread Cert.AdamModBias.nD Cert.AdamModBias.τ).loc Cert.AdamModBias.main_arg0) = m ((c.tc : Thread Cert.AdamModBias.nD Cert.AdamModBias.τ).loc Cert.AdamModBias.main_arg0)
      ∧ r.2.mem ((c.tc : Thread Cert.AdamModBias.nD Cert.AdamModBias.τ).loc Cert.AdamModBias.main_arg1) = m ((c.tc : Thread Cert.AdamModBias.nD Cert.AdamModBias.τ).loc Cert.AdamModBias.main_arg1)
      ∧ r.2.mem ((c.tc : Thread Cert.AdamModBias.nD Cert.AdamModBias.τ).loc Cert.AdamModBias.main_arg2) = m ((c.tc : Thread Cert.AdamModBias.nD Cert.AdamModBias.τ).loc Cert.AdamModBias.main_arg2)
      ∧ r.2.mem ((c.tc : Thread Cert.AdamModBias.nD Cert.AdamModBias.τ).loc Cert.AdamModBias.main_arg3) = m ((c.tc : Thread Cert.AdamModBias.nD Cert.AdamModBias.τ).loc Cert.AdamModBias.main_arg3))
      ∧ r.2.sem = fun _ => 0)

def quiescent_AdamModBiasIdeal [hAdamModBiasIdeal : Cert.AdamModBiasIdeal.Facts] : Prop :=
  ∀ (m : (ℓ : Loc Cert.AdamModBiasIdeal.nD Cert.AdamModBiasIdeal.τ Cert.AdamModBiasIdeal.sig) → Buf (Elt Ideal) ℓ) (g : Dev Cert.AdamModBiasIdeal.nD → PrngReg), Pre_AdamModBiasIdeal m →
    θ_run (Cert.AdamModBiasIdeal.defs (F := Ideal)) (onTc (τ := Cert.AdamModBiasIdeal.τ) (Cert.AdamModBiasIdeal.main (F := Ideal))) ⟨m, fun _ => 0, g⟩ (fun r => (∀ c : Dev Cert.AdamModBiasIdeal.nD,
      r.2.mem ((c.tc : Thread Cert.AdamModBiasIdeal.nD Cert.AdamModBiasIdeal.τ).loc Cert.AdamModBiasIdeal.main_arg0) = m ((c.tc : Thread Cert.AdamModBiasIdeal.nD Cert.AdamModBiasIdeal.τ).loc Cert.AdamModBiasIdeal.main_arg0)
      ∧ r.2.mem ((c.tc : Thread Cert.AdamModBiasIdeal.nD Cert.AdamModBiasIdeal.τ).loc Cert.AdamModBiasIdeal.main_arg1) = m ((c.tc : Thread Cert.AdamModBiasIdeal.nD Cert.AdamModBiasIdeal.τ).loc Cert.AdamModBiasIdeal.main_arg1)
      ∧ r.2.mem ((c.tc : Thread Cert.AdamModBiasIdeal.nD Cert.AdamModBiasIdeal.τ).loc Cert.AdamModBiasIdeal.main_arg2) = m ((c.tc : Thread Cert.AdamModBiasIdeal.nD Cert.AdamModBiasIdeal.τ).loc Cert.AdamModBiasIdeal.main_arg2)
      ∧ r.2.mem ((c.tc : Thread Cert.AdamModBiasIdeal.nD Cert.AdamModBiasIdeal.τ).loc Cert.AdamModBiasIdeal.main_arg3) = m ((c.tc : Thread Cert.AdamModBiasIdeal.nD Cert.AdamModBiasIdeal.τ).loc Cert.AdamModBiasIdeal.main_arg3))
      ∧ r.2.sem = fun _ => 0)

def quiescent_AdamModBiasRefIdeal [hAdamModBiasRefIdeal : Cert.AdamModBiasRefIdeal.Facts] : Prop :=
  ∀ (m : (ℓ : Loc Cert.AdamModBiasRefIdeal.nD Cert.AdamModBiasRefIdeal.τ Cert.AdamModBiasRefIdeal.sig) → Buf (Elt Ideal) ℓ) (g : Dev Cert.AdamModBiasRefIdeal.nD → PrngReg), Pre_AdamModBiasRefIdeal m →
    θ_run (Cert.AdamModBiasRefIdeal.defs (F := Ideal)) (onTc (τ := Cert.AdamModBiasRefIdeal.τ) (Cert.AdamModBiasRefIdeal.main (F := Ideal))) ⟨m, fun _ => 0, g⟩ (fun r => (∀ c : Dev Cert.AdamModBiasRefIdeal.nD,
      r.2.mem ((c.tc : Thread Cert.AdamModBiasRefIdeal.nD Cert.AdamModBiasRefIdeal.τ).loc Cert.AdamModBiasRefIdeal.main_arg0) = m ((c.tc : Thread Cert.AdamModBiasRefIdeal.nD Cert.AdamModBiasRefIdeal.τ).loc Cert.AdamModBiasRefIdeal.main_arg0)
      ∧ r.2.mem ((c.tc : Thread Cert.AdamModBiasRefIdeal.nD Cert.AdamModBiasRefIdeal.τ).loc Cert.AdamModBiasRefIdeal.main_arg1) = m ((c.tc : Thread Cert.AdamModBiasRefIdeal.nD Cert.AdamModBiasRefIdeal.τ).loc Cert.AdamModBiasRefIdeal.main_arg1)
      ∧ r.2.mem ((c.tc : Thread Cert.AdamModBiasRefIdeal.nD Cert.AdamModBiasRefIdeal.τ).loc Cert.AdamModBiasRefIdeal.main_arg2) = m ((c.tc : Thread Cert.AdamModBiasRefIdeal.nD Cert.AdamModBiasRefIdeal.τ).loc Cert.AdamModBiasRefIdeal.main_arg2)
      ∧ r.2.mem ((c.tc : Thread Cert.AdamModBiasRefIdeal.nD Cert.AdamModBiasRefIdeal.τ).loc Cert.AdamModBiasRefIdeal.main_arg3) = m ((c.tc : Thread Cert.AdamModBiasRefIdeal.nD Cert.AdamModBiasRefIdeal.τ).loc Cert.AdamModBiasRefIdeal.main_arg3))
      ∧ r.2.sem = fun _ => 0)

def quiescent_AdamNorm [hAdamNorm : Cert.AdamNorm.Facts] : Prop :=
  ∀ (m : (ℓ : Loc Cert.AdamNorm.nD Cert.AdamNorm.τ Cert.AdamNorm.sig) → Buf (Elt Bits) ℓ) (g : Dev Cert.AdamNorm.nD → PrngReg), Pre_AdamNorm m →
    θ_run (Cert.AdamNorm.defs (F := Bits)) (onTc (τ := Cert.AdamNorm.τ) (Cert.AdamNorm.main (F := Bits))) ⟨m, fun _ => 0, g⟩ (fun r => (∀ c : Dev Cert.AdamNorm.nD,
      r.2.mem ((c.tc : Thread Cert.AdamNorm.nD Cert.AdamNorm.τ).loc Cert.AdamNorm.main_arg0) = m ((c.tc : Thread Cert.AdamNorm.nD Cert.AdamNorm.τ).loc Cert.AdamNorm.main_arg0)
      ∧ r.2.mem ((c.tc : Thread Cert.AdamNorm.nD Cert.AdamNorm.τ).loc Cert.AdamNorm.main_arg1) = m ((c.tc : Thread Cert.AdamNorm.nD Cert.AdamNorm.τ).loc Cert.AdamNorm.main_arg1)
      ∧ r.2.mem ((c.tc : Thread Cert.AdamNorm.nD Cert.AdamNorm.τ).loc Cert.AdamNorm.main_arg2) = m ((c.tc : Thread Cert.AdamNorm.nD Cert.AdamNorm.τ).loc Cert.AdamNorm.main_arg2)
      ∧ r.2.mem ((c.tc : Thread Cert.AdamNorm.nD Cert.AdamNorm.τ).loc Cert.AdamNorm.main_arg3) = m ((c.tc : Thread Cert.AdamNorm.nD Cert.AdamNorm.τ).loc Cert.AdamNorm.main_arg3))
      ∧ r.2.sem = fun _ => 0)

def quiescent_AdamNormIdeal [hAdamNormIdeal : Cert.AdamNormIdeal.Facts] : Prop :=
  ∀ (m : (ℓ : Loc Cert.AdamNormIdeal.nD Cert.AdamNormIdeal.τ Cert.AdamNormIdeal.sig) → Buf (Elt Ideal) ℓ) (g : Dev Cert.AdamNormIdeal.nD → PrngReg), Pre_AdamNormIdeal m →
    θ_run (Cert.AdamNormIdeal.defs (F := Ideal)) (onTc (τ := Cert.AdamNormIdeal.τ) (Cert.AdamNormIdeal.main (F := Ideal))) ⟨m, fun _ => 0, g⟩ (fun r => (∀ c : Dev Cert.AdamNormIdeal.nD,
      r.2.mem ((c.tc : Thread Cert.AdamNormIdeal.nD Cert.AdamNormIdeal.τ).loc Cert.AdamNormIdeal.main_arg0) = m ((c.tc : Thread Cert.AdamNormIdeal.nD Cert.AdamNormIdeal.τ).loc Cert.AdamNormIdeal.main_arg0)
      ∧ r.2.mem ((c.tc : Thread Cert.AdamNormIdeal.nD Cert.AdamNormIdeal.τ).loc Cert.AdamNormIdeal.main_arg1) = m ((c.tc : Thread Cert.AdamNormIdeal.nD Cert.AdamNormIdeal.τ).loc Cert.AdamNormIdeal.main_arg1)
      ∧ r.2.mem ((c.tc : Thread Cert.AdamNormIdeal.nD Cert.AdamNormIdeal.τ).loc Cert.AdamNormIdeal.main_arg2) = m ((c.tc : Thread Cert.AdamNormIdeal.nD Cert.AdamNormIdeal.τ).loc Cert.AdamNormIdeal.main_arg2)
      ∧ r.2.mem ((c.tc : Thread Cert.AdamNormIdeal.nD Cert.AdamNormIdeal.τ).loc Cert.AdamNormIdeal.main_arg3) = m ((c.tc : Thread Cert.AdamNormIdeal.nD Cert.AdamNormIdeal.τ).loc Cert.AdamNormIdeal.main_arg3))
      ∧ r.2.sem = fun _ => 0)

def quiescent_AdamNormRefIdeal [hAdamNormRefIdeal : Cert.AdamNormRefIdeal.Facts] : Prop :=
  ∀ (m : (ℓ : Loc Cert.AdamNormRefIdeal.nD Cert.AdamNormRefIdeal.τ Cert.AdamNormRefIdeal.sig) → Buf (Elt Ideal) ℓ) (g : Dev Cert.AdamNormRefIdeal.nD → PrngReg), Pre_AdamNormRefIdeal m →
    θ_run (Cert.AdamNormRefIdeal.defs (F := Ideal)) (onTc (τ := Cert.AdamNormRefIdeal.τ) (Cert.AdamNormRefIdeal.main (F := Ideal))) ⟨m, fun _ => 0, g⟩ (fun r => (∀ c : Dev Cert.AdamNormRefIdeal.nD,
      r.2.mem ((c.tc : Thread Cert.AdamNormRefIdeal.nD Cert.AdamNormRefIdeal.τ).loc Cert.AdamNormRefIdeal.main_arg0) = m ((c.tc : Thread Cert.AdamNormRefIdeal.nD Cert.AdamNormRefIdeal.τ).loc Cert.AdamNormRefIdeal.main_arg0)
      ∧ r.2.mem ((c.tc : Thread Cert.AdamNormRefIdeal.nD Cert.AdamNormRefIdeal.τ).loc Cert.AdamNormRefIdeal.main_arg1) = m ((c.tc : Thread Cert.AdamNormRefIdeal.nD Cert.AdamNormRefIdeal.τ).loc Cert.AdamNormRefIdeal.main_arg1)
      ∧ r.2.mem ((c.tc : Thread Cert.AdamNormRefIdeal.nD Cert.AdamNormRefIdeal.τ).loc Cert.AdamNormRefIdeal.main_arg2) = m ((c.tc : Thread Cert.AdamNormRefIdeal.nD Cert.AdamNormRefIdeal.τ).loc Cert.AdamNormRefIdeal.main_arg2)
      ∧ r.2.mem ((c.tc : Thread Cert.AdamNormRefIdeal.nD Cert.AdamNormRefIdeal.τ).loc Cert.AdamNormRefIdeal.main_arg3) = m ((c.tc : Thread Cert.AdamNormRefIdeal.nD Cert.AdamNormRefIdeal.τ).loc Cert.AdamNormRefIdeal.main_arg3))
      ∧ r.2.sem = fun _ => 0)

def quiescent_AdamQkv [hAdamQkv : Cert.AdamQkv.Facts] : Prop :=
  ∀ (m : (ℓ : Loc Cert.AdamQkv.nD Cert.AdamQkv.τ Cert.AdamQkv.sig) → Buf (Elt Bits) ℓ) (g : Dev Cert.AdamQkv.nD → PrngReg), Pre_AdamQkv m →
    θ_run (Cert.AdamQkv.defs (F := Bits)) (onTc (τ := Cert.AdamQkv.τ) (Cert.AdamQkv.main (F := Bits))) ⟨m, fun _ => 0, g⟩ (fun r => (∀ c : Dev Cert.AdamQkv.nD,
      r.2.mem ((c.tc : Thread Cert.AdamQkv.nD Cert.AdamQkv.τ).loc Cert.AdamQkv.main_arg0) = m ((c.tc : Thread Cert.AdamQkv.nD Cert.AdamQkv.τ).loc Cert.AdamQkv.main_arg0)
      ∧ r.2.mem ((c.tc : Thread Cert.AdamQkv.nD Cert.AdamQkv.τ).loc Cert.AdamQkv.main_arg1) = m ((c.tc : Thread Cert.AdamQkv.nD Cert.AdamQkv.τ).loc Cert.AdamQkv.main_arg1)
      ∧ r.2.mem ((c.tc : Thread Cert.AdamQkv.nD Cert.AdamQkv.τ).loc Cert.AdamQkv.main_arg2) = m ((c.tc : Thread Cert.AdamQkv.nD Cert.AdamQkv.τ).loc Cert.AdamQkv.main_arg2)
      ∧ r.2.mem ((c.tc : Thread Cert.AdamQkv.nD Cert.AdamQkv.τ).loc Cert.AdamQkv.main_arg3) = m ((c.tc : Thread Cert.AdamQkv.nD Cert.AdamQkv.τ).loc Cert.AdamQkv.main_arg3))
      ∧ r.2.sem = fun _ => 0)

def quiescent_AdamQkvIdeal [hAdamQkvIdeal : Cert.AdamQkvIdeal.Facts] : Prop :=
  ∀ (m : (ℓ : Loc Cert.AdamQkvIdeal.nD Cert.AdamQkvIdeal.τ Cert.AdamQkvIdeal.sig) → Buf (Elt Ideal) ℓ) (g : Dev Cert.AdamQkvIdeal.nD → PrngReg), Pre_AdamQkvIdeal m →
    θ_run (Cert.AdamQkvIdeal.defs (F := Ideal)) (onTc (τ := Cert.AdamQkvIdeal.τ) (Cert.AdamQkvIdeal.main (F := Ideal))) ⟨m, fun _ => 0, g⟩ (fun r => (∀ c : Dev Cert.AdamQkvIdeal.nD,
      r.2.mem ((c.tc : Thread Cert.AdamQkvIdeal.nD Cert.AdamQkvIdeal.τ).loc Cert.AdamQkvIdeal.main_arg0) = m ((c.tc : Thread Cert.AdamQkvIdeal.nD Cert.AdamQkvIdeal.τ).loc Cert.AdamQkvIdeal.main_arg0)
      ∧ r.2.mem ((c.tc : Thread Cert.AdamQkvIdeal.nD Cert.AdamQkvIdeal.τ).loc Cert.AdamQkvIdeal.main_arg1) = m ((c.tc : Thread Cert.AdamQkvIdeal.nD Cert.AdamQkvIdeal.τ).loc Cert.AdamQkvIdeal.main_arg1)
      ∧ r.2.mem ((c.tc : Thread Cert.AdamQkvIdeal.nD Cert.AdamQkvIdeal.τ).loc Cert.AdamQkvIdeal.main_arg2) = m ((c.tc : Thread Cert.AdamQkvIdeal.nD Cert.AdamQkvIdeal.τ).loc Cert.AdamQkvIdeal.main_arg2)
      ∧ r.2.mem ((c.tc : Thread Cert.AdamQkvIdeal.nD Cert.AdamQkvIdeal.τ).loc Cert.AdamQkvIdeal.main_arg3) = m ((c.tc : Thread Cert.AdamQkvIdeal.nD Cert.AdamQkvIdeal.τ).loc Cert.AdamQkvIdeal.main_arg3))
      ∧ r.2.sem = fun _ => 0)

def quiescent_AdamQkvRefIdeal [hAdamQkvRefIdeal : Cert.AdamQkvRefIdeal.Facts] : Prop :=
  ∀ (m : (ℓ : Loc Cert.AdamQkvRefIdeal.nD Cert.AdamQkvRefIdeal.τ Cert.AdamQkvRefIdeal.sig) → Buf (Elt Ideal) ℓ) (g : Dev Cert.AdamQkvRefIdeal.nD → PrngReg), Pre_AdamQkvRefIdeal m →
    θ_run (Cert.AdamQkvRefIdeal.defs (F := Ideal)) (onTc (τ := Cert.AdamQkvRefIdeal.τ) (Cert.AdamQkvRefIdeal.main (F := Ideal))) ⟨m, fun _ => 0, g⟩ (fun r => (∀ c : Dev Cert.AdamQkvRefIdeal.nD,
      r.2.mem ((c.tc : Thread Cert.AdamQkvRefIdeal.nD Cert.AdamQkvRefIdeal.τ).loc Cert.AdamQkvRefIdeal.main_arg0) = m ((c.tc : Thread Cert.AdamQkvRefIdeal.nD Cert.AdamQkvRefIdeal.τ).loc Cert.AdamQkvRefIdeal.main_arg0)
      ∧ r.2.mem ((c.tc : Thread Cert.AdamQkvRefIdeal.nD Cert.AdamQkvRefIdeal.τ).loc Cert.AdamQkvRefIdeal.main_arg1) = m ((c.tc : Thread Cert.AdamQkvRefIdeal.nD Cert.AdamQkvRefIdeal.τ).loc Cert.AdamQkvRefIdeal.main_arg1)
      ∧ r.2.mem ((c.tc : Thread Cert.AdamQkvRefIdeal.nD Cert.AdamQkvRefIdeal.τ).loc Cert.AdamQkvRefIdeal.main_arg2) = m ((c.tc : Thread Cert.AdamQkvRefIdeal.nD Cert.AdamQkvRefIdeal.τ).loc Cert.AdamQkvRefIdeal.main_arg2)
      ∧ r.2.mem ((c.tc : Thread Cert.AdamQkvRefIdeal.nD Cert.AdamQkvRefIdeal.τ).loc Cert.AdamQkvRefIdeal.main_arg3) = m ((c.tc : Thread Cert.AdamQkvRefIdeal.nD Cert.AdamQkvRefIdeal.τ).loc Cert.AdamQkvRefIdeal.main_arg3))
      ∧ r.2.sem = fun _ => 0)

def quiescent_AdamO [hAdamO : Cert.AdamO.Facts] : Prop :=
  ∀ (m : (ℓ : Loc Cert.AdamO.nD Cert.AdamO.τ Cert.AdamO.sig) → Buf (Elt Bits) ℓ) (g : Dev Cert.AdamO.nD → PrngReg), Pre_AdamO m →
    θ_run (Cert.AdamO.defs (F := Bits)) (onTc (τ := Cert.AdamO.τ) (Cert.AdamO.main (F := Bits))) ⟨m, fun _ => 0, g⟩ (fun r => (∀ c : Dev Cert.AdamO.nD,
      r.2.mem ((c.tc : Thread Cert.AdamO.nD Cert.AdamO.τ).loc Cert.AdamO.main_arg0) = m ((c.tc : Thread Cert.AdamO.nD Cert.AdamO.τ).loc Cert.AdamO.main_arg0)
      ∧ r.2.mem ((c.tc : Thread Cert.AdamO.nD Cert.AdamO.τ).loc Cert.AdamO.main_arg1) = m ((c.tc : Thread Cert.AdamO.nD Cert.AdamO.τ).loc Cert.AdamO.main_arg1)
      ∧ r.2.mem ((c.tc : Thread Cert.AdamO.nD Cert.AdamO.τ).loc Cert.AdamO.main_arg2) = m ((c.tc : Thread Cert.AdamO.nD Cert.AdamO.τ).loc Cert.AdamO.main_arg2)
      ∧ r.2.mem ((c.tc : Thread Cert.AdamO.nD Cert.AdamO.τ).loc Cert.AdamO.main_arg3) = m ((c.tc : Thread Cert.AdamO.nD Cert.AdamO.τ).loc Cert.AdamO.main_arg3))
      ∧ r.2.sem = fun _ => 0)

def quiescent_AdamOIdeal [hAdamOIdeal : Cert.AdamOIdeal.Facts] : Prop :=
  ∀ (m : (ℓ : Loc Cert.AdamOIdeal.nD Cert.AdamOIdeal.τ Cert.AdamOIdeal.sig) → Buf (Elt Ideal) ℓ) (g : Dev Cert.AdamOIdeal.nD → PrngReg), Pre_AdamOIdeal m →
    θ_run (Cert.AdamOIdeal.defs (F := Ideal)) (onTc (τ := Cert.AdamOIdeal.τ) (Cert.AdamOIdeal.main (F := Ideal))) ⟨m, fun _ => 0, g⟩ (fun r => (∀ c : Dev Cert.AdamOIdeal.nD,
      r.2.mem ((c.tc : Thread Cert.AdamOIdeal.nD Cert.AdamOIdeal.τ).loc Cert.AdamOIdeal.main_arg0) = m ((c.tc : Thread Cert.AdamOIdeal.nD Cert.AdamOIdeal.τ).loc Cert.AdamOIdeal.main_arg0)
      ∧ r.2.mem ((c.tc : Thread Cert.AdamOIdeal.nD Cert.AdamOIdeal.τ).loc Cert.AdamOIdeal.main_arg1) = m ((c.tc : Thread Cert.AdamOIdeal.nD Cert.AdamOIdeal.τ).loc Cert.AdamOIdeal.main_arg1)
      ∧ r.2.mem ((c.tc : Thread Cert.AdamOIdeal.nD Cert.AdamOIdeal.τ).loc Cert.AdamOIdeal.main_arg2) = m ((c.tc : Thread Cert.AdamOIdeal.nD Cert.AdamOIdeal.τ).loc Cert.AdamOIdeal.main_arg2)
      ∧ r.2.mem ((c.tc : Thread Cert.AdamOIdeal.nD Cert.AdamOIdeal.τ).loc Cert.AdamOIdeal.main_arg3) = m ((c.tc : Thread Cert.AdamOIdeal.nD Cert.AdamOIdeal.τ).loc Cert.AdamOIdeal.main_arg3))
      ∧ r.2.sem = fun _ => 0)

def quiescent_AdamORefIdeal [hAdamORefIdeal : Cert.AdamORefIdeal.Facts] : Prop :=
  ∀ (m : (ℓ : Loc Cert.AdamORefIdeal.nD Cert.AdamORefIdeal.τ Cert.AdamORefIdeal.sig) → Buf (Elt Ideal) ℓ) (g : Dev Cert.AdamORefIdeal.nD → PrngReg), Pre_AdamORefIdeal m →
    θ_run (Cert.AdamORefIdeal.defs (F := Ideal)) (onTc (τ := Cert.AdamORefIdeal.τ) (Cert.AdamORefIdeal.main (F := Ideal))) ⟨m, fun _ => 0, g⟩ (fun r => (∀ c : Dev Cert.AdamORefIdeal.nD,
      r.2.mem ((c.tc : Thread Cert.AdamORefIdeal.nD Cert.AdamORefIdeal.τ).loc Cert.AdamORefIdeal.main_arg0) = m ((c.tc : Thread Cert.AdamORefIdeal.nD Cert.AdamORefIdeal.τ).loc Cert.AdamORefIdeal.main_arg0)
      ∧ r.2.mem ((c.tc : Thread Cert.AdamORefIdeal.nD Cert.AdamORefIdeal.τ).loc Cert.AdamORefIdeal.main_arg1) = m ((c.tc : Thread Cert.AdamORefIdeal.nD Cert.AdamORefIdeal.τ).loc Cert.AdamORefIdeal.main_arg1)
      ∧ r.2.mem ((c.tc : Thread Cert.AdamORefIdeal.nD Cert.AdamORefIdeal.τ).loc Cert.AdamORefIdeal.main_arg2) = m ((c.tc : Thread Cert.AdamORefIdeal.nD Cert.AdamORefIdeal.τ).loc Cert.AdamORefIdeal.main_arg2)
      ∧ r.2.mem ((c.tc : Thread Cert.AdamORefIdeal.nD Cert.AdamORefIdeal.τ).loc Cert.AdamORefIdeal.main_arg3) = m ((c.tc : Thread Cert.AdamORefIdeal.nD Cert.AdamORefIdeal.τ).loc Cert.AdamORefIdeal.main_arg3))
      ∧ r.2.sem = fun _ => 0)

def quiescent_AdamForget [hAdamForget : Cert.AdamForget.Facts] : Prop :=
  ∀ (m : (ℓ : Loc Cert.AdamForget.nD Cert.AdamForget.τ Cert.AdamForget.sig) → Buf (Elt Bits) ℓ) (g : Dev Cert.AdamForget.nD → PrngReg), Pre_AdamForget m →
    θ_run (Cert.AdamForget.defs (F := Bits)) (onTc (τ := Cert.AdamForget.τ) (Cert.AdamForget.main (F := Bits))) ⟨m, fun _ => 0, g⟩ (fun r => (∀ c : Dev Cert.AdamForget.nD,
      r.2.mem ((c.tc : Thread Cert.AdamForget.nD Cert.AdamForget.τ).loc Cert.AdamForget.main_arg0) = m ((c.tc : Thread Cert.AdamForget.nD Cert.AdamForget.τ).loc Cert.AdamForget.main_arg0)
      ∧ r.2.mem ((c.tc : Thread Cert.AdamForget.nD Cert.AdamForget.τ).loc Cert.AdamForget.main_arg1) = m ((c.tc : Thread Cert.AdamForget.nD Cert.AdamForget.τ).loc Cert.AdamForget.main_arg1)
      ∧ r.2.mem ((c.tc : Thread Cert.AdamForget.nD Cert.AdamForget.τ).loc Cert.AdamForget.main_arg2) = m ((c.tc : Thread Cert.AdamForget.nD Cert.AdamForget.τ).loc Cert.AdamForget.main_arg2)
      ∧ r.2.mem ((c.tc : Thread Cert.AdamForget.nD Cert.AdamForget.τ).loc Cert.AdamForget.main_arg3) = m ((c.tc : Thread Cert.AdamForget.nD Cert.AdamForget.τ).loc Cert.AdamForget.main_arg3))
      ∧ r.2.sem = fun _ => 0)

def quiescent_AdamForgetIdeal [hAdamForgetIdeal : Cert.AdamForgetIdeal.Facts] : Prop :=
  ∀ (m : (ℓ : Loc Cert.AdamForgetIdeal.nD Cert.AdamForgetIdeal.τ Cert.AdamForgetIdeal.sig) → Buf (Elt Ideal) ℓ) (g : Dev Cert.AdamForgetIdeal.nD → PrngReg), Pre_AdamForgetIdeal m →
    θ_run (Cert.AdamForgetIdeal.defs (F := Ideal)) (onTc (τ := Cert.AdamForgetIdeal.τ) (Cert.AdamForgetIdeal.main (F := Ideal))) ⟨m, fun _ => 0, g⟩ (fun r => (∀ c : Dev Cert.AdamForgetIdeal.nD,
      r.2.mem ((c.tc : Thread Cert.AdamForgetIdeal.nD Cert.AdamForgetIdeal.τ).loc Cert.AdamForgetIdeal.main_arg0) = m ((c.tc : Thread Cert.AdamForgetIdeal.nD Cert.AdamForgetIdeal.τ).loc Cert.AdamForgetIdeal.main_arg0)
      ∧ r.2.mem ((c.tc : Thread Cert.AdamForgetIdeal.nD Cert.AdamForgetIdeal.τ).loc Cert.AdamForgetIdeal.main_arg1) = m ((c.tc : Thread Cert.AdamForgetIdeal.nD Cert.AdamForgetIdeal.τ).loc Cert.AdamForgetIdeal.main_arg1)
      ∧ r.2.mem ((c.tc : Thread Cert.AdamForgetIdeal.nD Cert.AdamForgetIdeal.τ).loc Cert.AdamForgetIdeal.main_arg2) = m ((c.tc : Thread Cert.AdamForgetIdeal.nD Cert.AdamForgetIdeal.τ).loc Cert.AdamForgetIdeal.main_arg2)
      ∧ r.2.mem ((c.tc : Thread Cert.AdamForgetIdeal.nD Cert.AdamForgetIdeal.τ).loc Cert.AdamForgetIdeal.main_arg3) = m ((c.tc : Thread Cert.AdamForgetIdeal.nD Cert.AdamForgetIdeal.τ).loc Cert.AdamForgetIdeal.main_arg3))
      ∧ r.2.sem = fun _ => 0)

def quiescent_AdamForgetRefIdeal [hAdamForgetRefIdeal : Cert.AdamForgetRefIdeal.Facts] : Prop :=
  ∀ (m : (ℓ : Loc Cert.AdamForgetRefIdeal.nD Cert.AdamForgetRefIdeal.τ Cert.AdamForgetRefIdeal.sig) → Buf (Elt Ideal) ℓ) (g : Dev Cert.AdamForgetRefIdeal.nD → PrngReg), Pre_AdamForgetRefIdeal m →
    θ_run (Cert.AdamForgetRefIdeal.defs (F := Ideal)) (onTc (τ := Cert.AdamForgetRefIdeal.τ) (Cert.AdamForgetRefIdeal.main (F := Ideal))) ⟨m, fun _ => 0, g⟩ (fun r => (∀ c : Dev Cert.AdamForgetRefIdeal.nD,
      r.2.mem ((c.tc : Thread Cert.AdamForgetRefIdeal.nD Cert.AdamForgetRefIdeal.τ).loc Cert.AdamForgetRefIdeal.main_arg0) = m ((c.tc : Thread Cert.AdamForgetRefIdeal.nD Cert.AdamForgetRefIdeal.τ).loc Cert.AdamForgetRefIdeal.main_arg0)
      ∧ r.2.mem ((c.tc : Thread Cert.AdamForgetRefIdeal.nD Cert.AdamForgetRefIdeal.τ).loc Cert.AdamForgetRefIdeal.main_arg1) = m ((c.tc : Thread Cert.AdamForgetRefIdeal.nD Cert.AdamForgetRefIdeal.τ).loc Cert.AdamForgetRefIdeal.main_arg1)
      ∧ r.2.mem ((c.tc : Thread Cert.AdamForgetRefIdeal.nD Cert.AdamForgetRefIdeal.τ).loc Cert.AdamForgetRefIdeal.main_arg2) = m ((c.tc : Thread Cert.AdamForgetRefIdeal.nD Cert.AdamForgetRefIdeal.τ).loc Cert.AdamForgetRefIdeal.main_arg2)
      ∧ r.2.mem ((c.tc : Thread Cert.AdamForgetRefIdeal.nD Cert.AdamForgetRefIdeal.τ).loc Cert.AdamForgetRefIdeal.main_arg3) = m ((c.tc : Thread Cert.AdamForgetRefIdeal.nD Cert.AdamForgetRefIdeal.τ).loc Cert.AdamForgetRefIdeal.main_arg3))
      ∧ r.2.sem = fun _ => 0)

def quiescent_AdamForgetBias [hAdamForgetBias : Cert.AdamForgetBias.Facts] : Prop :=
  ∀ (m : (ℓ : Loc Cert.AdamForgetBias.nD Cert.AdamForgetBias.τ Cert.AdamForgetBias.sig) → Buf (Elt Bits) ℓ) (g : Dev Cert.AdamForgetBias.nD → PrngReg), Pre_AdamForgetBias m →
    θ_run (Cert.AdamForgetBias.defs (F := Bits)) (onTc (τ := Cert.AdamForgetBias.τ) (Cert.AdamForgetBias.main (F := Bits))) ⟨m, fun _ => 0, g⟩ (fun r => (∀ c : Dev Cert.AdamForgetBias.nD,
      r.2.mem ((c.tc : Thread Cert.AdamForgetBias.nD Cert.AdamForgetBias.τ).loc Cert.AdamForgetBias.main_arg0) = m ((c.tc : Thread Cert.AdamForgetBias.nD Cert.AdamForgetBias.τ).loc Cert.AdamForgetBias.main_arg0)
      ∧ r.2.mem ((c.tc : Thread Cert.AdamForgetBias.nD Cert.AdamForgetBias.τ).loc Cert.AdamForgetBias.main_arg1) = m ((c.tc : Thread Cert.AdamForgetBias.nD Cert.AdamForgetBias.τ).loc Cert.AdamForgetBias.main_arg1)
      ∧ r.2.mem ((c.tc : Thread Cert.AdamForgetBias.nD Cert.AdamForgetBias.τ).loc Cert.AdamForgetBias.main_arg2) = m ((c.tc : Thread Cert.AdamForgetBias.nD Cert.AdamForgetBias.τ).loc Cert.AdamForgetBias.main_arg2)
      ∧ r.2.mem ((c.tc : Thread Cert.AdamForgetBias.nD Cert.AdamForgetBias.τ).loc Cert.AdamForgetBias.main_arg3) = m ((c.tc : Thread Cert.AdamForgetBias.nD Cert.AdamForgetBias.τ).loc Cert.AdamForgetBias.main_arg3))
      ∧ r.2.sem = fun _ => 0)

def quiescent_AdamForgetBiasIdeal [hAdamForgetBiasIdeal : Cert.AdamForgetBiasIdeal.Facts] : Prop :=
  ∀ (m : (ℓ : Loc Cert.AdamForgetBiasIdeal.nD Cert.AdamForgetBiasIdeal.τ Cert.AdamForgetBiasIdeal.sig) → Buf (Elt Ideal) ℓ) (g : Dev Cert.AdamForgetBiasIdeal.nD → PrngReg), Pre_AdamForgetBiasIdeal m →
    θ_run (Cert.AdamForgetBiasIdeal.defs (F := Ideal)) (onTc (τ := Cert.AdamForgetBiasIdeal.τ) (Cert.AdamForgetBiasIdeal.main (F := Ideal))) ⟨m, fun _ => 0, g⟩ (fun r => (∀ c : Dev Cert.AdamForgetBiasIdeal.nD,
      r.2.mem ((c.tc : Thread Cert.AdamForgetBiasIdeal.nD Cert.AdamForgetBiasIdeal.τ).loc Cert.AdamForgetBiasIdeal.main_arg0) = m ((c.tc : Thread Cert.AdamForgetBiasIdeal.nD Cert.AdamForgetBiasIdeal.τ).loc Cert.AdamForgetBiasIdeal.main_arg0)
      ∧ r.2.mem ((c.tc : Thread Cert.AdamForgetBiasIdeal.nD Cert.AdamForgetBiasIdeal.τ).loc Cert.AdamForgetBiasIdeal.main_arg1) = m ((c.tc : Thread Cert.AdamForgetBiasIdeal.nD Cert.AdamForgetBiasIdeal.τ).loc Cert.AdamForgetBiasIdeal.main_arg1)
      ∧ r.2.mem ((c.tc : Thread Cert.AdamForgetBiasIdeal.nD Cert.AdamForgetBiasIdeal.τ).loc Cert.AdamForgetBiasIdeal.main_arg2) = m ((c.tc : Thread Cert.AdamForgetBiasIdeal.nD Cert.AdamForgetBiasIdeal.τ).loc Cert.AdamForgetBiasIdeal.main_arg2)
      ∧ r.2.mem ((c.tc : Thread Cert.AdamForgetBiasIdeal.nD Cert.AdamForgetBiasIdeal.τ).loc Cert.AdamForgetBiasIdeal.main_arg3) = m ((c.tc : Thread Cert.AdamForgetBiasIdeal.nD Cert.AdamForgetBiasIdeal.τ).loc Cert.AdamForgetBiasIdeal.main_arg3))
      ∧ r.2.sem = fun _ => 0)

def quiescent_AdamForgetBiasRefIdeal [hAdamForgetBiasRefIdeal : Cert.AdamForgetBiasRefIdeal.Facts] : Prop :=
  ∀ (m : (ℓ : Loc Cert.AdamForgetBiasRefIdeal.nD Cert.AdamForgetBiasRefIdeal.τ Cert.AdamForgetBiasRefIdeal.sig) → Buf (Elt Ideal) ℓ) (g : Dev Cert.AdamForgetBiasRefIdeal.nD → PrngReg), Pre_AdamForgetBiasRefIdeal m →
    θ_run (Cert.AdamForgetBiasRefIdeal.defs (F := Ideal)) (onTc (τ := Cert.AdamForgetBiasRefIdeal.τ) (Cert.AdamForgetBiasRefIdeal.main (F := Ideal))) ⟨m, fun _ => 0, g⟩ (fun r => (∀ c : Dev Cert.AdamForgetBiasRefIdeal.nD,
      r.2.mem ((c.tc : Thread Cert.AdamForgetBiasRefIdeal.nD Cert.AdamForgetBiasRefIdeal.τ).loc Cert.AdamForgetBiasRefIdeal.main_arg0) = m ((c.tc : Thread Cert.AdamForgetBiasRefIdeal.nD Cert.AdamForgetBiasRefIdeal.τ).loc Cert.AdamForgetBiasRefIdeal.main_arg0)
      ∧ r.2.mem ((c.tc : Thread Cert.AdamForgetBiasRefIdeal.nD Cert.AdamForgetBiasRefIdeal.τ).loc Cert.AdamForgetBiasRefIdeal.main_arg1) = m ((c.tc : Thread Cert.AdamForgetBiasRefIdeal.nD Cert.AdamForgetBiasRefIdeal.τ).loc Cert.AdamForgetBiasRefIdeal.main_arg1)
      ∧ r.2.mem ((c.tc : Thread Cert.AdamForgetBiasRefIdeal.nD Cert.AdamForgetBiasRefIdeal.τ).loc Cert.AdamForgetBiasRefIdeal.main_arg2) = m ((c.tc : Thread Cert.AdamForgetBiasRefIdeal.nD Cert.AdamForgetBiasRefIdeal.τ).loc Cert.AdamForgetBiasRefIdeal.main_arg2)
      ∧ r.2.mem ((c.tc : Thread Cert.AdamForgetBiasRefIdeal.nD Cert.AdamForgetBiasRefIdeal.τ).loc Cert.AdamForgetBiasRefIdeal.main_arg3) = m ((c.tc : Thread Cert.AdamForgetBiasRefIdeal.nD Cert.AdamForgetBiasRefIdeal.τ).loc Cert.AdamForgetBiasRefIdeal.main_arg3))
      ∧ r.2.sem = fun _ => 0)

def quiescent_AdamUp [hAdamUp : Cert.AdamUp.Facts] : Prop :=
  ∀ (m : (ℓ : Loc Cert.AdamUp.nD Cert.AdamUp.τ Cert.AdamUp.sig) → Buf (Elt Bits) ℓ) (g : Dev Cert.AdamUp.nD → PrngReg), Pre_AdamUp m →
    θ_run (Cert.AdamUp.defs (F := Bits)) (onTc (τ := Cert.AdamUp.τ) (Cert.AdamUp.main (F := Bits))) ⟨m, fun _ => 0, g⟩ (fun r => (∀ c : Dev Cert.AdamUp.nD,
      r.2.mem ((c.tc : Thread Cert.AdamUp.nD Cert.AdamUp.τ).loc Cert.AdamUp.main_arg0) = m ((c.tc : Thread Cert.AdamUp.nD Cert.AdamUp.τ).loc Cert.AdamUp.main_arg0)
      ∧ r.2.mem ((c.tc : Thread Cert.AdamUp.nD Cert.AdamUp.τ).loc Cert.AdamUp.main_arg1) = m ((c.tc : Thread Cert.AdamUp.nD Cert.AdamUp.τ).loc Cert.AdamUp.main_arg1)
      ∧ r.2.mem ((c.tc : Thread Cert.AdamUp.nD Cert.AdamUp.τ).loc Cert.AdamUp.main_arg2) = m ((c.tc : Thread Cert.AdamUp.nD Cert.AdamUp.τ).loc Cert.AdamUp.main_arg2)
      ∧ r.2.mem ((c.tc : Thread Cert.AdamUp.nD Cert.AdamUp.τ).loc Cert.AdamUp.main_arg3) = m ((c.tc : Thread Cert.AdamUp.nD Cert.AdamUp.τ).loc Cert.AdamUp.main_arg3))
      ∧ r.2.sem = fun _ => 0)

def quiescent_AdamUpIdeal [hAdamUpIdeal : Cert.AdamUpIdeal.Facts] : Prop :=
  ∀ (m : (ℓ : Loc Cert.AdamUpIdeal.nD Cert.AdamUpIdeal.τ Cert.AdamUpIdeal.sig) → Buf (Elt Ideal) ℓ) (g : Dev Cert.AdamUpIdeal.nD → PrngReg), Pre_AdamUpIdeal m →
    θ_run (Cert.AdamUpIdeal.defs (F := Ideal)) (onTc (τ := Cert.AdamUpIdeal.τ) (Cert.AdamUpIdeal.main (F := Ideal))) ⟨m, fun _ => 0, g⟩ (fun r => (∀ c : Dev Cert.AdamUpIdeal.nD,
      r.2.mem ((c.tc : Thread Cert.AdamUpIdeal.nD Cert.AdamUpIdeal.τ).loc Cert.AdamUpIdeal.main_arg0) = m ((c.tc : Thread Cert.AdamUpIdeal.nD Cert.AdamUpIdeal.τ).loc Cert.AdamUpIdeal.main_arg0)
      ∧ r.2.mem ((c.tc : Thread Cert.AdamUpIdeal.nD Cert.AdamUpIdeal.τ).loc Cert.AdamUpIdeal.main_arg1) = m ((c.tc : Thread Cert.AdamUpIdeal.nD Cert.AdamUpIdeal.τ).loc Cert.AdamUpIdeal.main_arg1)
      ∧ r.2.mem ((c.tc : Thread Cert.AdamUpIdeal.nD Cert.AdamUpIdeal.τ).loc Cert.AdamUpIdeal.main_arg2) = m ((c.tc : Thread Cert.AdamUpIdeal.nD Cert.AdamUpIdeal.τ).loc Cert.AdamUpIdeal.main_arg2)
      ∧ r.2.mem ((c.tc : Thread Cert.AdamUpIdeal.nD Cert.AdamUpIdeal.τ).loc Cert.AdamUpIdeal.main_arg3) = m ((c.tc : Thread Cert.AdamUpIdeal.nD Cert.AdamUpIdeal.τ).loc Cert.AdamUpIdeal.main_arg3))
      ∧ r.2.sem = fun _ => 0)

def quiescent_AdamUpRefIdeal [hAdamUpRefIdeal : Cert.AdamUpRefIdeal.Facts] : Prop :=
  ∀ (m : (ℓ : Loc Cert.AdamUpRefIdeal.nD Cert.AdamUpRefIdeal.τ Cert.AdamUpRefIdeal.sig) → Buf (Elt Ideal) ℓ) (g : Dev Cert.AdamUpRefIdeal.nD → PrngReg), Pre_AdamUpRefIdeal m →
    θ_run (Cert.AdamUpRefIdeal.defs (F := Ideal)) (onTc (τ := Cert.AdamUpRefIdeal.τ) (Cert.AdamUpRefIdeal.main (F := Ideal))) ⟨m, fun _ => 0, g⟩ (fun r => (∀ c : Dev Cert.AdamUpRefIdeal.nD,
      r.2.mem ((c.tc : Thread Cert.AdamUpRefIdeal.nD Cert.AdamUpRefIdeal.τ).loc Cert.AdamUpRefIdeal.main_arg0) = m ((c.tc : Thread Cert.AdamUpRefIdeal.nD Cert.AdamUpRefIdeal.τ).loc Cert.AdamUpRefIdeal.main_arg0)
      ∧ r.2.mem ((c.tc : Thread Cert.AdamUpRefIdeal.nD Cert.AdamUpRefIdeal.τ).loc Cert.AdamUpRefIdeal.main_arg1) = m ((c.tc : Thread Cert.AdamUpRefIdeal.nD Cert.AdamUpRefIdeal.τ).loc Cert.AdamUpRefIdeal.main_arg1)
      ∧ r.2.mem ((c.tc : Thread Cert.AdamUpRefIdeal.nD Cert.AdamUpRefIdeal.τ).loc Cert.AdamUpRefIdeal.main_arg2) = m ((c.tc : Thread Cert.AdamUpRefIdeal.nD Cert.AdamUpRefIdeal.τ).loc Cert.AdamUpRefIdeal.main_arg2)
      ∧ r.2.mem ((c.tc : Thread Cert.AdamUpRefIdeal.nD Cert.AdamUpRefIdeal.τ).loc Cert.AdamUpRefIdeal.main_arg3) = m ((c.tc : Thread Cert.AdamUpRefIdeal.nD Cert.AdamUpRefIdeal.τ).loc Cert.AdamUpRefIdeal.main_arg3))
      ∧ r.2.sem = fun _ => 0)

def quiescent_AdamConv [hAdamConv : Cert.AdamConv.Facts] : Prop :=
  ∀ (m : (ℓ : Loc Cert.AdamConv.nD Cert.AdamConv.τ Cert.AdamConv.sig) → Buf (Elt Bits) ℓ) (g : Dev Cert.AdamConv.nD → PrngReg), Pre_AdamConv m →
    θ_run (Cert.AdamConv.defs (F := Bits)) (onTc (τ := Cert.AdamConv.τ) (Cert.AdamConv.main (F := Bits))) ⟨m, fun _ => 0, g⟩ (fun r => (∀ c : Dev Cert.AdamConv.nD,
      r.2.mem ((c.tc : Thread Cert.AdamConv.nD Cert.AdamConv.τ).loc Cert.AdamConv.main_arg0) = m ((c.tc : Thread Cert.AdamConv.nD Cert.AdamConv.τ).loc Cert.AdamConv.main_arg0)
      ∧ r.2.mem ((c.tc : Thread Cert.AdamConv.nD Cert.AdamConv.τ).loc Cert.AdamConv.main_arg1) = m ((c.tc : Thread Cert.AdamConv.nD Cert.AdamConv.τ).loc Cert.AdamConv.main_arg1)
      ∧ r.2.mem ((c.tc : Thread Cert.AdamConv.nD Cert.AdamConv.τ).loc Cert.AdamConv.main_arg2) = m ((c.tc : Thread Cert.AdamConv.nD Cert.AdamConv.τ).loc Cert.AdamConv.main_arg2)
      ∧ r.2.mem ((c.tc : Thread Cert.AdamConv.nD Cert.AdamConv.τ).loc Cert.AdamConv.main_arg3) = m ((c.tc : Thread Cert.AdamConv.nD Cert.AdamConv.τ).loc Cert.AdamConv.main_arg3))
      ∧ r.2.sem = fun _ => 0)

def quiescent_AdamConvIdeal [hAdamConvIdeal : Cert.AdamConvIdeal.Facts] : Prop :=
  ∀ (m : (ℓ : Loc Cert.AdamConvIdeal.nD Cert.AdamConvIdeal.τ Cert.AdamConvIdeal.sig) → Buf (Elt Ideal) ℓ) (g : Dev Cert.AdamConvIdeal.nD → PrngReg), Pre_AdamConvIdeal m →
    θ_run (Cert.AdamConvIdeal.defs (F := Ideal)) (onTc (τ := Cert.AdamConvIdeal.τ) (Cert.AdamConvIdeal.main (F := Ideal))) ⟨m, fun _ => 0, g⟩ (fun r => (∀ c : Dev Cert.AdamConvIdeal.nD,
      r.2.mem ((c.tc : Thread Cert.AdamConvIdeal.nD Cert.AdamConvIdeal.τ).loc Cert.AdamConvIdeal.main_arg0) = m ((c.tc : Thread Cert.AdamConvIdeal.nD Cert.AdamConvIdeal.τ).loc Cert.AdamConvIdeal.main_arg0)
      ∧ r.2.mem ((c.tc : Thread Cert.AdamConvIdeal.nD Cert.AdamConvIdeal.τ).loc Cert.AdamConvIdeal.main_arg1) = m ((c.tc : Thread Cert.AdamConvIdeal.nD Cert.AdamConvIdeal.τ).loc Cert.AdamConvIdeal.main_arg1)
      ∧ r.2.mem ((c.tc : Thread Cert.AdamConvIdeal.nD Cert.AdamConvIdeal.τ).loc Cert.AdamConvIdeal.main_arg2) = m ((c.tc : Thread Cert.AdamConvIdeal.nD Cert.AdamConvIdeal.τ).loc Cert.AdamConvIdeal.main_arg2)
      ∧ r.2.mem ((c.tc : Thread Cert.AdamConvIdeal.nD Cert.AdamConvIdeal.τ).loc Cert.AdamConvIdeal.main_arg3) = m ((c.tc : Thread Cert.AdamConvIdeal.nD Cert.AdamConvIdeal.τ).loc Cert.AdamConvIdeal.main_arg3))
      ∧ r.2.sem = fun _ => 0)

def quiescent_AdamConvRefIdeal [hAdamConvRefIdeal : Cert.AdamConvRefIdeal.Facts] : Prop :=
  ∀ (m : (ℓ : Loc Cert.AdamConvRefIdeal.nD Cert.AdamConvRefIdeal.τ Cert.AdamConvRefIdeal.sig) → Buf (Elt Ideal) ℓ) (g : Dev Cert.AdamConvRefIdeal.nD → PrngReg), Pre_AdamConvRefIdeal m →
    θ_run (Cert.AdamConvRefIdeal.defs (F := Ideal)) (onTc (τ := Cert.AdamConvRefIdeal.τ) (Cert.AdamConvRefIdeal.main (F := Ideal))) ⟨m, fun _ => 0, g⟩ (fun r => (∀ c : Dev Cert.AdamConvRefIdeal.nD,
      r.2.mem ((c.tc : Thread Cert.AdamConvRefIdeal.nD Cert.AdamConvRefIdeal.τ).loc Cert.AdamConvRefIdeal.main_arg0) = m ((c.tc : Thread Cert.AdamConvRefIdeal.nD Cert.AdamConvRefIdeal.τ).loc Cert.AdamConvRefIdeal.main_arg0)
      ∧ r.2.mem ((c.tc : Thread Cert.AdamConvRefIdeal.nD Cert.AdamConvRefIdeal.τ).loc Cert.AdamConvRefIdeal.main_arg1) = m ((c.tc : Thread Cert.AdamConvRefIdeal.nD Cert.AdamConvRefIdeal.τ).loc Cert.AdamConvRefIdeal.main_arg1)
      ∧ r.2.mem ((c.tc : Thread Cert.AdamConvRefIdeal.nD Cert.AdamConvRefIdeal.τ).loc Cert.AdamConvRefIdeal.main_arg2) = m ((c.tc : Thread Cert.AdamConvRefIdeal.nD Cert.AdamConvRefIdeal.τ).loc Cert.AdamConvRefIdeal.main_arg2)
      ∧ r.2.mem ((c.tc : Thread Cert.AdamConvRefIdeal.nD Cert.AdamConvRefIdeal.τ).loc Cert.AdamConvRefIdeal.main_arg3) = m ((c.tc : Thread Cert.AdamConvRefIdeal.nD Cert.AdamConvRefIdeal.τ).loc Cert.AdamConvRefIdeal.main_arg3))
      ∧ r.2.sem = fun _ => 0)

def quiescent_AdamConvBias [hAdamConvBias : Cert.AdamConvBias.Facts] : Prop :=
  ∀ (m : (ℓ : Loc Cert.AdamConvBias.nD Cert.AdamConvBias.τ Cert.AdamConvBias.sig) → Buf (Elt Bits) ℓ) (g : Dev Cert.AdamConvBias.nD → PrngReg), Pre_AdamConvBias m →
    θ_run (Cert.AdamConvBias.defs (F := Bits)) (onTc (τ := Cert.AdamConvBias.τ) (Cert.AdamConvBias.main (F := Bits))) ⟨m, fun _ => 0, g⟩ (fun r => (∀ c : Dev Cert.AdamConvBias.nD,
      r.2.mem ((c.tc : Thread Cert.AdamConvBias.nD Cert.AdamConvBias.τ).loc Cert.AdamConvBias.main_arg0) = m ((c.tc : Thread Cert.AdamConvBias.nD Cert.AdamConvBias.τ).loc Cert.AdamConvBias.main_arg0)
      ∧ r.2.mem ((c.tc : Thread Cert.AdamConvBias.nD Cert.AdamConvBias.τ).loc Cert.AdamConvBias.main_arg1) = m ((c.tc : Thread Cert.AdamConvBias.nD Cert.AdamConvBias.τ).loc Cert.AdamConvBias.main_arg1)
      ∧ r.2.mem ((c.tc : Thread Cert.AdamConvBias.nD Cert.AdamConvBias.τ).loc Cert.AdamConvBias.main_arg2) = m ((c.tc : Thread Cert.AdamConvBias.nD Cert.AdamConvBias.τ).loc Cert.AdamConvBias.main_arg2)
      ∧ r.2.mem ((c.tc : Thread Cert.AdamConvBias.nD Cert.AdamConvBias.τ).loc Cert.AdamConvBias.main_arg3) = m ((c.tc : Thread Cert.AdamConvBias.nD Cert.AdamConvBias.τ).loc Cert.AdamConvBias.main_arg3))
      ∧ r.2.sem = fun _ => 0)

def quiescent_AdamConvBiasIdeal [hAdamConvBiasIdeal : Cert.AdamConvBiasIdeal.Facts] : Prop :=
  ∀ (m : (ℓ : Loc Cert.AdamConvBiasIdeal.nD Cert.AdamConvBiasIdeal.τ Cert.AdamConvBiasIdeal.sig) → Buf (Elt Ideal) ℓ) (g : Dev Cert.AdamConvBiasIdeal.nD → PrngReg), Pre_AdamConvBiasIdeal m →
    θ_run (Cert.AdamConvBiasIdeal.defs (F := Ideal)) (onTc (τ := Cert.AdamConvBiasIdeal.τ) (Cert.AdamConvBiasIdeal.main (F := Ideal))) ⟨m, fun _ => 0, g⟩ (fun r => (∀ c : Dev Cert.AdamConvBiasIdeal.nD,
      r.2.mem ((c.tc : Thread Cert.AdamConvBiasIdeal.nD Cert.AdamConvBiasIdeal.τ).loc Cert.AdamConvBiasIdeal.main_arg0) = m ((c.tc : Thread Cert.AdamConvBiasIdeal.nD Cert.AdamConvBiasIdeal.τ).loc Cert.AdamConvBiasIdeal.main_arg0)
      ∧ r.2.mem ((c.tc : Thread Cert.AdamConvBiasIdeal.nD Cert.AdamConvBiasIdeal.τ).loc Cert.AdamConvBiasIdeal.main_arg1) = m ((c.tc : Thread Cert.AdamConvBiasIdeal.nD Cert.AdamConvBiasIdeal.τ).loc Cert.AdamConvBiasIdeal.main_arg1)
      ∧ r.2.mem ((c.tc : Thread Cert.AdamConvBiasIdeal.nD Cert.AdamConvBiasIdeal.τ).loc Cert.AdamConvBiasIdeal.main_arg2) = m ((c.tc : Thread Cert.AdamConvBiasIdeal.nD Cert.AdamConvBiasIdeal.τ).loc Cert.AdamConvBiasIdeal.main_arg2)
      ∧ r.2.mem ((c.tc : Thread Cert.AdamConvBiasIdeal.nD Cert.AdamConvBiasIdeal.τ).loc Cert.AdamConvBiasIdeal.main_arg3) = m ((c.tc : Thread Cert.AdamConvBiasIdeal.nD Cert.AdamConvBiasIdeal.τ).loc Cert.AdamConvBiasIdeal.main_arg3))
      ∧ r.2.sem = fun _ => 0)

def quiescent_AdamConvBiasRefIdeal [hAdamConvBiasRefIdeal : Cert.AdamConvBiasRefIdeal.Facts] : Prop :=
  ∀ (m : (ℓ : Loc Cert.AdamConvBiasRefIdeal.nD Cert.AdamConvBiasRefIdeal.τ Cert.AdamConvBiasRefIdeal.sig) → Buf (Elt Ideal) ℓ) (g : Dev Cert.AdamConvBiasRefIdeal.nD → PrngReg), Pre_AdamConvBiasRefIdeal m →
    θ_run (Cert.AdamConvBiasRefIdeal.defs (F := Ideal)) (onTc (τ := Cert.AdamConvBiasRefIdeal.τ) (Cert.AdamConvBiasRefIdeal.main (F := Ideal))) ⟨m, fun _ => 0, g⟩ (fun r => (∀ c : Dev Cert.AdamConvBiasRefIdeal.nD,
      r.2.mem ((c.tc : Thread Cert.AdamConvBiasRefIdeal.nD Cert.AdamConvBiasRefIdeal.τ).loc Cert.AdamConvBiasRefIdeal.main_arg0) = m ((c.tc : Thread Cert.AdamConvBiasRefIdeal.nD Cert.AdamConvBiasRefIdeal.τ).loc Cert.AdamConvBiasRefIdeal.main_arg0)
      ∧ r.2.mem ((c.tc : Thread Cert.AdamConvBiasRefIdeal.nD Cert.AdamConvBiasRefIdeal.τ).loc Cert.AdamConvBiasRefIdeal.main_arg1) = m ((c.tc : Thread Cert.AdamConvBiasRefIdeal.nD Cert.AdamConvBiasRefIdeal.τ).loc Cert.AdamConvBiasRefIdeal.main_arg1)
      ∧ r.2.mem ((c.tc : Thread Cert.AdamConvBiasRefIdeal.nD Cert.AdamConvBiasRefIdeal.τ).loc Cert.AdamConvBiasRefIdeal.main_arg2) = m ((c.tc : Thread Cert.AdamConvBiasRefIdeal.nD Cert.AdamConvBiasRefIdeal.τ).loc Cert.AdamConvBiasRefIdeal.main_arg2)
      ∧ r.2.mem ((c.tc : Thread Cert.AdamConvBiasRefIdeal.nD Cert.AdamConvBiasRefIdeal.τ).loc Cert.AdamConvBiasRefIdeal.main_arg3) = m ((c.tc : Thread Cert.AdamConvBiasRefIdeal.nD Cert.AdamConvBiasRefIdeal.τ).loc Cert.AdamConvBiasRefIdeal.main_arg3))
      ∧ r.2.sem = fun _ => 0)

def quiescent_AdamDown [hAdamDown : Cert.AdamDown.Facts] : Prop :=
  ∀ (m : (ℓ : Loc Cert.AdamDown.nD Cert.AdamDown.τ Cert.AdamDown.sig) → Buf (Elt Bits) ℓ) (g : Dev Cert.AdamDown.nD → PrngReg), Pre_AdamDown m →
    θ_run (Cert.AdamDown.defs (F := Bits)) (onTc (τ := Cert.AdamDown.τ) (Cert.AdamDown.main (F := Bits))) ⟨m, fun _ => 0, g⟩ (fun r => (∀ c : Dev Cert.AdamDown.nD,
      r.2.mem ((c.tc : Thread Cert.AdamDown.nD Cert.AdamDown.τ).loc Cert.AdamDown.main_arg0) = m ((c.tc : Thread Cert.AdamDown.nD Cert.AdamDown.τ).loc Cert.AdamDown.main_arg0)
      ∧ r.2.mem ((c.tc : Thread Cert.AdamDown.nD Cert.AdamDown.τ).loc Cert.AdamDown.main_arg1) = m ((c.tc : Thread Cert.AdamDown.nD Cert.AdamDown.τ).loc Cert.AdamDown.main_arg1)
      ∧ r.2.mem ((c.tc : Thread Cert.AdamDown.nD Cert.AdamDown.τ).loc Cert.AdamDown.main_arg2) = m ((c.tc : Thread Cert.AdamDown.nD Cert.AdamDown.τ).loc Cert.AdamDown.main_arg2)
      ∧ r.2.mem ((c.tc : Thread Cert.AdamDown.nD Cert.AdamDown.τ).loc Cert.AdamDown.main_arg3) = m ((c.tc : Thread Cert.AdamDown.nD Cert.AdamDown.τ).loc Cert.AdamDown.main_arg3))
      ∧ r.2.sem = fun _ => 0)

def quiescent_AdamDownIdeal [hAdamDownIdeal : Cert.AdamDownIdeal.Facts] : Prop :=
  ∀ (m : (ℓ : Loc Cert.AdamDownIdeal.nD Cert.AdamDownIdeal.τ Cert.AdamDownIdeal.sig) → Buf (Elt Ideal) ℓ) (g : Dev Cert.AdamDownIdeal.nD → PrngReg), Pre_AdamDownIdeal m →
    θ_run (Cert.AdamDownIdeal.defs (F := Ideal)) (onTc (τ := Cert.AdamDownIdeal.τ) (Cert.AdamDownIdeal.main (F := Ideal))) ⟨m, fun _ => 0, g⟩ (fun r => (∀ c : Dev Cert.AdamDownIdeal.nD,
      r.2.mem ((c.tc : Thread Cert.AdamDownIdeal.nD Cert.AdamDownIdeal.τ).loc Cert.AdamDownIdeal.main_arg0) = m ((c.tc : Thread Cert.AdamDownIdeal.nD Cert.AdamDownIdeal.τ).loc Cert.AdamDownIdeal.main_arg0)
      ∧ r.2.mem ((c.tc : Thread Cert.AdamDownIdeal.nD Cert.AdamDownIdeal.τ).loc Cert.AdamDownIdeal.main_arg1) = m ((c.tc : Thread Cert.AdamDownIdeal.nD Cert.AdamDownIdeal.τ).loc Cert.AdamDownIdeal.main_arg1)
      ∧ r.2.mem ((c.tc : Thread Cert.AdamDownIdeal.nD Cert.AdamDownIdeal.τ).loc Cert.AdamDownIdeal.main_arg2) = m ((c.tc : Thread Cert.AdamDownIdeal.nD Cert.AdamDownIdeal.τ).loc Cert.AdamDownIdeal.main_arg2)
      ∧ r.2.mem ((c.tc : Thread Cert.AdamDownIdeal.nD Cert.AdamDownIdeal.τ).loc Cert.AdamDownIdeal.main_arg3) = m ((c.tc : Thread Cert.AdamDownIdeal.nD Cert.AdamDownIdeal.τ).loc Cert.AdamDownIdeal.main_arg3))
      ∧ r.2.sem = fun _ => 0)

def quiescent_AdamDownRefIdeal [hAdamDownRefIdeal : Cert.AdamDownRefIdeal.Facts] : Prop :=
  ∀ (m : (ℓ : Loc Cert.AdamDownRefIdeal.nD Cert.AdamDownRefIdeal.τ Cert.AdamDownRefIdeal.sig) → Buf (Elt Ideal) ℓ) (g : Dev Cert.AdamDownRefIdeal.nD → PrngReg), Pre_AdamDownRefIdeal m →
    θ_run (Cert.AdamDownRefIdeal.defs (F := Ideal)) (onTc (τ := Cert.AdamDownRefIdeal.τ) (Cert.AdamDownRefIdeal.main (F := Ideal))) ⟨m, fun _ => 0, g⟩ (fun r => (∀ c : Dev Cert.AdamDownRefIdeal.nD,
      r.2.mem ((c.tc : Thread Cert.AdamDownRefIdeal.nD Cert.AdamDownRefIdeal.τ).loc Cert.AdamDownRefIdeal.main_arg0) = m ((c.tc : Thread Cert.AdamDownRefIdeal.nD Cert.AdamDownRefIdeal.τ).loc Cert.AdamDownRefIdeal.main_arg0)
      ∧ r.2.mem ((c.tc : Thread Cert.AdamDownRefIdeal.nD Cert.AdamDownRefIdeal.τ).loc Cert.AdamDownRefIdeal.main_arg1) = m ((c.tc : Thread Cert.AdamDownRefIdeal.nD Cert.AdamDownRefIdeal.τ).loc Cert.AdamDownRefIdeal.main_arg1)
      ∧ r.2.mem ((c.tc : Thread Cert.AdamDownRefIdeal.nD Cert.AdamDownRefIdeal.τ).loc Cert.AdamDownRefIdeal.main_arg2) = m ((c.tc : Thread Cert.AdamDownRefIdeal.nD Cert.AdamDownRefIdeal.τ).loc Cert.AdamDownRefIdeal.main_arg2)
      ∧ r.2.mem ((c.tc : Thread Cert.AdamDownRefIdeal.nD Cert.AdamDownRefIdeal.τ).loc Cert.AdamDownRefIdeal.main_arg3) = m ((c.tc : Thread Cert.AdamDownRefIdeal.nD Cert.AdamDownRefIdeal.τ).loc Cert.AdamDownRefIdeal.main_arg3))
      ∧ r.2.sem = fun _ => 0)

def quiescent_ModDw [hModDw : Cert.ModDw.Facts] : Prop :=
  ∀ (m : (ℓ : Loc Cert.ModDw.nD Cert.ModDw.τ Cert.ModDw.sig) → Buf (Elt Bits) ℓ) (g : Dev Cert.ModDw.nD → PrngReg), Pre_ModDw m →
    θ_run (Cert.ModDw.defs (F := Bits)) (onTc (τ := Cert.ModDw.τ) (Cert.ModDw.main (F := Bits))) ⟨m, fun _ => 0, g⟩ (fun r => (∀ c : Dev Cert.ModDw.nD,
      r.2.mem ((c.tc : Thread Cert.ModDw.nD Cert.ModDw.τ).loc Cert.ModDw.main_arg0) = m ((c.tc : Thread Cert.ModDw.nD Cert.ModDw.τ).loc Cert.ModDw.main_arg0)
      ∧ r.2.mem ((c.tc : Thread Cert.ModDw.nD Cert.ModDw.τ).loc Cert.ModDw.main_arg1) = m ((c.tc : Thread Cert.ModDw.nD Cert.ModDw.τ).loc Cert.ModDw.main_arg1))
      ∧ r.2.sem = fun _ => 0)

def quiescent_ModDwIdeal [hModDwIdeal : Cert.ModDwIdeal.Facts] : Prop :=
  ∀ (m : (ℓ : Loc Cert.ModDwIdeal.nD Cert.ModDwIdeal.τ Cert.ModDwIdeal.sig) → Buf (Elt Ideal) ℓ) (g : Dev Cert.ModDwIdeal.nD → PrngReg), Pre_ModDwIdeal m →
    θ_run (Cert.ModDwIdeal.defs (F := Ideal)) (onTc (τ := Cert.ModDwIdeal.τ) (Cert.ModDwIdeal.main (F := Ideal))) ⟨m, fun _ => 0, g⟩ (fun r => (∀ c : Dev Cert.ModDwIdeal.nD,
      r.2.mem ((c.tc : Thread Cert.ModDwIdeal.nD Cert.ModDwIdeal.τ).loc Cert.ModDwIdeal.main_arg0) = m ((c.tc : Thread Cert.ModDwIdeal.nD Cert.ModDwIdeal.τ).loc Cert.ModDwIdeal.main_arg0)
      ∧ r.2.mem ((c.tc : Thread Cert.ModDwIdeal.nD Cert.ModDwIdeal.τ).loc Cert.ModDwIdeal.main_arg1) = m ((c.tc : Thread Cert.ModDwIdeal.nD Cert.ModDwIdeal.τ).loc Cert.ModDwIdeal.main_arg1))
      ∧ r.2.sem = fun _ => 0)

def quiescent_ModDwRefIdeal [hModDwRefIdeal : Cert.ModDwRefIdeal.Facts] : Prop :=
  ∀ (m : (ℓ : Loc Cert.ModDwRefIdeal.nD Cert.ModDwRefIdeal.τ Cert.ModDwRefIdeal.sig) → Buf (Elt Ideal) ℓ) (g : Dev Cert.ModDwRefIdeal.nD → PrngReg), Pre_ModDwRefIdeal m →
    θ_run (Cert.ModDwRefIdeal.defs (F := Ideal)) (onTc (τ := Cert.ModDwRefIdeal.τ) (Cert.ModDwRefIdeal.main (F := Ideal))) ⟨m, fun _ => 0, g⟩ (fun r => (∀ c : Dev Cert.ModDwRefIdeal.nD,
      r.2.mem ((c.tc : Thread Cert.ModDwRefIdeal.nD Cert.ModDwRefIdeal.τ).loc Cert.ModDwRefIdeal.main_arg0) = m ((c.tc : Thread Cert.ModDwRefIdeal.nD Cert.ModDwRefIdeal.τ).loc Cert.ModDwRefIdeal.main_arg0)
      ∧ r.2.mem ((c.tc : Thread Cert.ModDwRefIdeal.nD Cert.ModDwRefIdeal.τ).loc Cert.ModDwRefIdeal.main_arg1) = m ((c.tc : Thread Cert.ModDwRefIdeal.nD Cert.ModDwRefIdeal.τ).loc Cert.ModDwRefIdeal.main_arg1))
      ∧ r.2.sem = fun _ => 0)

def quiescent_SumQkv [hSumQkv : Cert.SumQkv.Facts] : Prop :=
  ∀ (m : (ℓ : Loc Cert.SumQkv.nD Cert.SumQkv.τ Cert.SumQkv.sig) → Buf (Elt Bits) ℓ) (g : Dev Cert.SumQkv.nD → PrngReg), Pre_SumQkv m →
    θ_run (Cert.SumQkv.defs (F := Bits)) (onTc (τ := Cert.SumQkv.τ) (Cert.SumQkv.main (F := Bits))) ⟨m, fun _ => 0, g⟩ (fun r => (∀ c : Dev Cert.SumQkv.nD,
      r.2.mem ((c.tc : Thread Cert.SumQkv.nD Cert.SumQkv.τ).loc Cert.SumQkv.main_arg0) = m ((c.tc : Thread Cert.SumQkv.nD Cert.SumQkv.τ).loc Cert.SumQkv.main_arg0))
      ∧ r.2.sem = fun _ => 0)

def quiescent_SumQkvIdeal [hSumQkvIdeal : Cert.SumQkvIdeal.Facts] : Prop :=
  ∀ (m : (ℓ : Loc Cert.SumQkvIdeal.nD Cert.SumQkvIdeal.τ Cert.SumQkvIdeal.sig) → Buf (Elt Ideal) ℓ) (g : Dev Cert.SumQkvIdeal.nD → PrngReg), Pre_SumQkvIdeal m →
    θ_run (Cert.SumQkvIdeal.defs (F := Ideal)) (onTc (τ := Cert.SumQkvIdeal.τ) (Cert.SumQkvIdeal.main (F := Ideal))) ⟨m, fun _ => 0, g⟩ (fun r => (∀ c : Dev Cert.SumQkvIdeal.nD,
      r.2.mem ((c.tc : Thread Cert.SumQkvIdeal.nD Cert.SumQkvIdeal.τ).loc Cert.SumQkvIdeal.main_arg0) = m ((c.tc : Thread Cert.SumQkvIdeal.nD Cert.SumQkvIdeal.τ).loc Cert.SumQkvIdeal.main_arg0))
      ∧ r.2.sem = fun _ => 0)

def quiescent_SumQkvRefIdeal [hSumQkvRefIdeal : Cert.SumQkvRefIdeal.Facts] : Prop :=
  ∀ (m : (ℓ : Loc Cert.SumQkvRefIdeal.nD Cert.SumQkvRefIdeal.τ Cert.SumQkvRefIdeal.sig) → Buf (Elt Ideal) ℓ) (g : Dev Cert.SumQkvRefIdeal.nD → PrngReg), Pre_SumQkvRefIdeal m →
    θ_run (Cert.SumQkvRefIdeal.defs (F := Ideal)) (onTc (τ := Cert.SumQkvRefIdeal.τ) (Cert.SumQkvRefIdeal.main (F := Ideal))) ⟨m, fun _ => 0, g⟩ (fun r => (∀ c : Dev Cert.SumQkvRefIdeal.nD,
      r.2.mem ((c.tc : Thread Cert.SumQkvRefIdeal.nD Cert.SumQkvRefIdeal.τ).loc Cert.SumQkvRefIdeal.main_arg0) = m ((c.tc : Thread Cert.SumQkvRefIdeal.nD Cert.SumQkvRefIdeal.τ).loc Cert.SumQkvRefIdeal.main_arg0))
      ∧ r.2.sem = fun _ => 0)

def quiescent_SumO [hSumO : Cert.SumO.Facts] : Prop :=
  ∀ (m : (ℓ : Loc Cert.SumO.nD Cert.SumO.τ Cert.SumO.sig) → Buf (Elt Bits) ℓ) (g : Dev Cert.SumO.nD → PrngReg), Pre_SumO m →
    θ_run (Cert.SumO.defs (F := Bits)) (onTc (τ := Cert.SumO.τ) (Cert.SumO.main (F := Bits))) ⟨m, fun _ => 0, g⟩ (fun r => (∀ c : Dev Cert.SumO.nD,
      r.2.mem ((c.tc : Thread Cert.SumO.nD Cert.SumO.τ).loc Cert.SumO.main_arg0) = m ((c.tc : Thread Cert.SumO.nD Cert.SumO.τ).loc Cert.SumO.main_arg0))
      ∧ r.2.sem = fun _ => 0)

def quiescent_SumOIdeal [hSumOIdeal : Cert.SumOIdeal.Facts] : Prop :=
  ∀ (m : (ℓ : Loc Cert.SumOIdeal.nD Cert.SumOIdeal.τ Cert.SumOIdeal.sig) → Buf (Elt Ideal) ℓ) (g : Dev Cert.SumOIdeal.nD → PrngReg), Pre_SumOIdeal m →
    θ_run (Cert.SumOIdeal.defs (F := Ideal)) (onTc (τ := Cert.SumOIdeal.τ) (Cert.SumOIdeal.main (F := Ideal))) ⟨m, fun _ => 0, g⟩ (fun r => (∀ c : Dev Cert.SumOIdeal.nD,
      r.2.mem ((c.tc : Thread Cert.SumOIdeal.nD Cert.SumOIdeal.τ).loc Cert.SumOIdeal.main_arg0) = m ((c.tc : Thread Cert.SumOIdeal.nD Cert.SumOIdeal.τ).loc Cert.SumOIdeal.main_arg0))
      ∧ r.2.sem = fun _ => 0)

def quiescent_SumORefIdeal [hSumORefIdeal : Cert.SumORefIdeal.Facts] : Prop :=
  ∀ (m : (ℓ : Loc Cert.SumORefIdeal.nD Cert.SumORefIdeal.τ Cert.SumORefIdeal.sig) → Buf (Elt Ideal) ℓ) (g : Dev Cert.SumORefIdeal.nD → PrngReg), Pre_SumORefIdeal m →
    θ_run (Cert.SumORefIdeal.defs (F := Ideal)) (onTc (τ := Cert.SumORefIdeal.τ) (Cert.SumORefIdeal.main (F := Ideal))) ⟨m, fun _ => 0, g⟩ (fun r => (∀ c : Dev Cert.SumORefIdeal.nD,
      r.2.mem ((c.tc : Thread Cert.SumORefIdeal.nD Cert.SumORefIdeal.τ).loc Cert.SumORefIdeal.main_arg0) = m ((c.tc : Thread Cert.SumORefIdeal.nD Cert.SumORefIdeal.τ).loc Cert.SumORefIdeal.main_arg0))
      ∧ r.2.sem = fun _ => 0)

def quiescent_SumUp [hSumUp : Cert.SumUp.Facts] : Prop :=
  ∀ (m : (ℓ : Loc Cert.SumUp.nD Cert.SumUp.τ Cert.SumUp.sig) → Buf (Elt Bits) ℓ) (g : Dev Cert.SumUp.nD → PrngReg), Pre_SumUp m →
    θ_run (Cert.SumUp.defs (F := Bits)) (onTc (τ := Cert.SumUp.τ) (Cert.SumUp.main (F := Bits))) ⟨m, fun _ => 0, g⟩ (fun r => (∀ c : Dev Cert.SumUp.nD,
      r.2.mem ((c.tc : Thread Cert.SumUp.nD Cert.SumUp.τ).loc Cert.SumUp.main_arg0) = m ((c.tc : Thread Cert.SumUp.nD Cert.SumUp.τ).loc Cert.SumUp.main_arg0))
      ∧ r.2.sem = fun _ => 0)

def quiescent_SumUpIdeal [hSumUpIdeal : Cert.SumUpIdeal.Facts] : Prop :=
  ∀ (m : (ℓ : Loc Cert.SumUpIdeal.nD Cert.SumUpIdeal.τ Cert.SumUpIdeal.sig) → Buf (Elt Ideal) ℓ) (g : Dev Cert.SumUpIdeal.nD → PrngReg), Pre_SumUpIdeal m →
    θ_run (Cert.SumUpIdeal.defs (F := Ideal)) (onTc (τ := Cert.SumUpIdeal.τ) (Cert.SumUpIdeal.main (F := Ideal))) ⟨m, fun _ => 0, g⟩ (fun r => (∀ c : Dev Cert.SumUpIdeal.nD,
      r.2.mem ((c.tc : Thread Cert.SumUpIdeal.nD Cert.SumUpIdeal.τ).loc Cert.SumUpIdeal.main_arg0) = m ((c.tc : Thread Cert.SumUpIdeal.nD Cert.SumUpIdeal.τ).loc Cert.SumUpIdeal.main_arg0))
      ∧ r.2.sem = fun _ => 0)

def quiescent_SumUpRefIdeal [hSumUpRefIdeal : Cert.SumUpRefIdeal.Facts] : Prop :=
  ∀ (m : (ℓ : Loc Cert.SumUpRefIdeal.nD Cert.SumUpRefIdeal.τ Cert.SumUpRefIdeal.sig) → Buf (Elt Ideal) ℓ) (g : Dev Cert.SumUpRefIdeal.nD → PrngReg), Pre_SumUpRefIdeal m →
    θ_run (Cert.SumUpRefIdeal.defs (F := Ideal)) (onTc (τ := Cert.SumUpRefIdeal.τ) (Cert.SumUpRefIdeal.main (F := Ideal))) ⟨m, fun _ => 0, g⟩ (fun r => (∀ c : Dev Cert.SumUpRefIdeal.nD,
      r.2.mem ((c.tc : Thread Cert.SumUpRefIdeal.nD Cert.SumUpRefIdeal.τ).loc Cert.SumUpRefIdeal.main_arg0) = m ((c.tc : Thread Cert.SumUpRefIdeal.nD Cert.SumUpRefIdeal.τ).loc Cert.SumUpRefIdeal.main_arg0))
      ∧ r.2.sem = fun _ => 0)

def quiescent_SumDown [hSumDown : Cert.SumDown.Facts] : Prop :=
  ∀ (m : (ℓ : Loc Cert.SumDown.nD Cert.SumDown.τ Cert.SumDown.sig) → Buf (Elt Bits) ℓ) (g : Dev Cert.SumDown.nD → PrngReg), Pre_SumDown m →
    θ_run (Cert.SumDown.defs (F := Bits)) (onTc (τ := Cert.SumDown.τ) (Cert.SumDown.main (F := Bits))) ⟨m, fun _ => 0, g⟩ (fun r => (∀ c : Dev Cert.SumDown.nD,
      r.2.mem ((c.tc : Thread Cert.SumDown.nD Cert.SumDown.τ).loc Cert.SumDown.main_arg0) = m ((c.tc : Thread Cert.SumDown.nD Cert.SumDown.τ).loc Cert.SumDown.main_arg0))
      ∧ r.2.sem = fun _ => 0)

def quiescent_SumDownIdeal [hSumDownIdeal : Cert.SumDownIdeal.Facts] : Prop :=
  ∀ (m : (ℓ : Loc Cert.SumDownIdeal.nD Cert.SumDownIdeal.τ Cert.SumDownIdeal.sig) → Buf (Elt Ideal) ℓ) (g : Dev Cert.SumDownIdeal.nD → PrngReg), Pre_SumDownIdeal m →
    θ_run (Cert.SumDownIdeal.defs (F := Ideal)) (onTc (τ := Cert.SumDownIdeal.τ) (Cert.SumDownIdeal.main (F := Ideal))) ⟨m, fun _ => 0, g⟩ (fun r => (∀ c : Dev Cert.SumDownIdeal.nD,
      r.2.mem ((c.tc : Thread Cert.SumDownIdeal.nD Cert.SumDownIdeal.τ).loc Cert.SumDownIdeal.main_arg0) = m ((c.tc : Thread Cert.SumDownIdeal.nD Cert.SumDownIdeal.τ).loc Cert.SumDownIdeal.main_arg0))
      ∧ r.2.sem = fun _ => 0)

def quiescent_SumDownRefIdeal [hSumDownRefIdeal : Cert.SumDownRefIdeal.Facts] : Prop :=
  ∀ (m : (ℓ : Loc Cert.SumDownRefIdeal.nD Cert.SumDownRefIdeal.τ Cert.SumDownRefIdeal.sig) → Buf (Elt Ideal) ℓ) (g : Dev Cert.SumDownRefIdeal.nD → PrngReg), Pre_SumDownRefIdeal m →
    θ_run (Cert.SumDownRefIdeal.defs (F := Ideal)) (onTc (τ := Cert.SumDownRefIdeal.τ) (Cert.SumDownRefIdeal.main (F := Ideal))) ⟨m, fun _ => 0, g⟩ (fun r => (∀ c : Dev Cert.SumDownRefIdeal.nD,
      r.2.mem ((c.tc : Thread Cert.SumDownRefIdeal.nD Cert.SumDownRefIdeal.τ).loc Cert.SumDownRefIdeal.main_arg0) = m ((c.tc : Thread Cert.SumDownRefIdeal.nD Cert.SumDownRefIdeal.τ).loc Cert.SumDownRefIdeal.main_arg0))
      ∧ r.2.sem = fun _ => 0)

def quiescent_SumSmall [hSumSmall : Cert.SumSmall.Facts] : Prop :=
  ∀ (m : (ℓ : Loc Cert.SumSmall.nD Cert.SumSmall.τ Cert.SumSmall.sig) → Buf (Elt Bits) ℓ) (g : Dev Cert.SumSmall.nD → PrngReg), Pre_SumSmall m →
    θ_run (Cert.SumSmall.defs (F := Bits)) (onTc (τ := Cert.SumSmall.τ) (Cert.SumSmall.main (F := Bits))) ⟨m, fun _ => 0, g⟩ (fun r => (∀ c : Dev Cert.SumSmall.nD,
      r.2.mem ((c.tc : Thread Cert.SumSmall.nD Cert.SumSmall.τ).loc Cert.SumSmall.main_arg0) = m ((c.tc : Thread Cert.SumSmall.nD Cert.SumSmall.τ).loc Cert.SumSmall.main_arg0))
      ∧ r.2.sem = fun _ => 0)

def quiescent_SumSmallIdeal [hSumSmallIdeal : Cert.SumSmallIdeal.Facts] : Prop :=
  ∀ (m : (ℓ : Loc Cert.SumSmallIdeal.nD Cert.SumSmallIdeal.τ Cert.SumSmallIdeal.sig) → Buf (Elt Ideal) ℓ) (g : Dev Cert.SumSmallIdeal.nD → PrngReg), Pre_SumSmallIdeal m →
    θ_run (Cert.SumSmallIdeal.defs (F := Ideal)) (onTc (τ := Cert.SumSmallIdeal.τ) (Cert.SumSmallIdeal.main (F := Ideal))) ⟨m, fun _ => 0, g⟩ (fun r => (∀ c : Dev Cert.SumSmallIdeal.nD,
      r.2.mem ((c.tc : Thread Cert.SumSmallIdeal.nD Cert.SumSmallIdeal.τ).loc Cert.SumSmallIdeal.main_arg0) = m ((c.tc : Thread Cert.SumSmallIdeal.nD Cert.SumSmallIdeal.τ).loc Cert.SumSmallIdeal.main_arg0))
      ∧ r.2.sem = fun _ => 0)

def quiescent_SumSmallRefIdeal [hSumSmallRefIdeal : Cert.SumSmallRefIdeal.Facts] : Prop :=
  ∀ (m : (ℓ : Loc Cert.SumSmallRefIdeal.nD Cert.SumSmallRefIdeal.τ Cert.SumSmallRefIdeal.sig) → Buf (Elt Ideal) ℓ) (g : Dev Cert.SumSmallRefIdeal.nD → PrngReg), Pre_SumSmallRefIdeal m →
    θ_run (Cert.SumSmallRefIdeal.defs (F := Ideal)) (onTc (τ := Cert.SumSmallRefIdeal.τ) (Cert.SumSmallRefIdeal.main (F := Ideal))) ⟨m, fun _ => 0, g⟩ (fun r => (∀ c : Dev Cert.SumSmallRefIdeal.nD,
      r.2.mem ((c.tc : Thread Cert.SumSmallRefIdeal.nD Cert.SumSmallRefIdeal.τ).loc Cert.SumSmallRefIdeal.main_arg0) = m ((c.tc : Thread Cert.SumSmallRefIdeal.nD Cert.SumSmallRefIdeal.τ).loc Cert.SumSmallRefIdeal.main_arg0))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v81_0)) (v1 : (c : Dev Cert.KernelIdeal.nD) → Buf (Elt Ideal) ((c.tc : Thread Cert.KernelIdeal.nD Cert.KernelIdeal.τ).loc Cert.KernelIdeal.main_v81_1)) (v2 : (c : Dev Cert.KernelIdeal.nD) → Buf (Elt Ideal) ((c.tc : Thread Cert.KernelIdeal.nD Cert.KernelIdeal.τ).loc Cert.KernelIdeal.main_v81_2)) (v3 : (c : Dev Cert.KernelIdeal.nD) → Buf (Elt Ideal) ((c.tc : Thread Cert.KernelIdeal.nD Cert.KernelIdeal.τ).loc Cert.KernelIdeal.main_v81_3)) (v4 : (c : Dev Cert.KernelIdeal.nD) → Buf (Elt Ideal) ((c.tc : Thread Cert.KernelIdeal.nD Cert.KernelIdeal.τ).loc Cert.KernelIdeal.main_v81_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v81_0) = v0 c
          ∧ r.2.mem ((c.tc : Thread Cert.KernelIdeal.nD Cert.KernelIdeal.τ).loc Cert.KernelIdeal.main_v81_1) = v1 c
          ∧ r.2.mem ((c.tc : Thread Cert.KernelIdeal.nD Cert.KernelIdeal.τ).loc Cert.KernelIdeal.main_v81_2) = v2 c
          ∧ r.2.mem ((c.tc : Thread Cert.KernelIdeal.nD Cert.KernelIdeal.τ).loc Cert.KernelIdeal.main_v81_3) = v3 c
          ∧ r.2.mem ((c.tc : Thread Cert.KernelIdeal.nD Cert.KernelIdeal.τ).loc Cert.KernelIdeal.main_v81_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v97) = v0 c
          ∧ r.2.mem ((c.tc : Thread Cert.ReferenceIdeal.nD Cert.ReferenceIdeal.τ).loc Cert.ReferenceIdeal.main_v98) = v1 c
          ∧ r.2.mem ((c.tc : Thread Cert.ReferenceIdeal.nD Cert.ReferenceIdeal.τ).loc Cert.ReferenceIdeal.main_v99) = v2 c
          ∧ r.2.mem ((c.tc : Thread Cert.ReferenceIdeal.nD Cert.ReferenceIdeal.τ).loc Cert.ReferenceIdeal.main_v102) = v3 c
          ∧ r.2.mem ((c.tc : Thread Cert.ReferenceIdeal.nD Cert.ReferenceIdeal.τ).loc Cert.ReferenceIdeal.main_v104) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_UpDx_UpDxIdeal : Prop :=
  True

def algebraic_UpDxIdeal_UpDxRefIdeal [hUpDxIdeal : Cert.UpDxIdeal.Facts] [hUpDxRefIdeal : Cert.UpDxRefIdeal.Facts] : Prop :=
  ∀ (m : (ℓ : Loc Cert.UpDxIdeal.nD Cert.UpDxIdeal.τ Cert.UpDxIdeal.sig) → Buf (Elt Ideal) ℓ) (g : Dev Cert.UpDxIdeal.nD → PrngReg)
    (m' : (ℓ : Loc Cert.UpDxRefIdeal.nD Cert.UpDxRefIdeal.τ Cert.UpDxRefIdeal.sig) → Buf (Elt Ideal) ℓ) (g' : Dev Cert.UpDxRefIdeal.nD → PrngReg), Pre_UpDxIdeal m →
    (∀ c : Dev Cert.UpDxIdeal.nD,
      m' ((c.tc : Thread Cert.UpDxRefIdeal.nD Cert.UpDxRefIdeal.τ).loc Cert.UpDxRefIdeal.main_arg0) = m ((c.tc : Thread Cert.UpDxIdeal.nD Cert.UpDxIdeal.τ).loc Cert.UpDxIdeal.main_arg0)
      ∧ m' ((c.tc : Thread Cert.UpDxRefIdeal.nD Cert.UpDxRefIdeal.τ).loc Cert.UpDxRefIdeal.main_arg1) = m ((c.tc : Thread Cert.UpDxIdeal.nD Cert.UpDxIdeal.τ).loc Cert.UpDxIdeal.main_arg1)) →
    ∃ (v0 : (c : Dev Cert.UpDxIdeal.nD) → Buf (Elt Ideal) ((c.tc : Thread Cert.UpDxIdeal.nD Cert.UpDxIdeal.τ).loc Cert.UpDxIdeal.main_v0)),
      θ_run (Cert.UpDxIdeal.defs (F := Ideal)) (onTc (τ := Cert.UpDxIdeal.τ) (Cert.UpDxIdeal.main (F := Ideal))) ⟨m, fun _ => 0, g⟩ (fun r => ∀ c : Dev Cert.UpDxIdeal.nD,
          r.2.mem ((c.tc : Thread Cert.UpDxIdeal.nD Cert.UpDxIdeal.τ).loc Cert.UpDxIdeal.main_v0) = v0 c
          ∧ r.2.mem ((c.tc : Thread Cert.UpDxIdeal.nD Cert.UpDxIdeal.τ).loc Cert.UpDxIdeal.main_arg0) = m ((c.tc : Thread Cert.UpDxIdeal.nD Cert.UpDxIdeal.τ).loc Cert.UpDxIdeal.main_arg0)
          ∧ r.2.mem ((c.tc : Thread Cert.UpDxIdeal.nD Cert.UpDxIdeal.τ).loc Cert.UpDxIdeal.main_arg1) = m ((c.tc : Thread Cert.UpDxIdeal.nD Cert.UpDxIdeal.τ).loc Cert.UpDxIdeal.main_arg1))
      ∧ θ_run (Cert.UpDxRefIdeal.defs (F := Ideal)) (onTc (τ := Cert.UpDxRefIdeal.τ) (Cert.UpDxRefIdeal.main (F := Ideal))) ⟨m', fun _ => 0, g'⟩ (fun r => ∀ c : Dev Cert.UpDxRefIdeal.nD,
          r.2.mem ((c.tc : Thread Cert.UpDxRefIdeal.nD Cert.UpDxRefIdeal.τ).loc Cert.UpDxRefIdeal.main_v4) = v0 c
          ∧ r.2.mem ((c.tc : Thread Cert.UpDxRefIdeal.nD Cert.UpDxRefIdeal.τ).loc Cert.UpDxRefIdeal.main_arg0) = m' ((c.tc : Thread Cert.UpDxRefIdeal.nD Cert.UpDxRefIdeal.τ).loc Cert.UpDxRefIdeal.main_arg0)
          ∧ r.2.mem ((c.tc : Thread Cert.UpDxRefIdeal.nD Cert.UpDxRefIdeal.τ).loc Cert.UpDxRefIdeal.main_arg1) = m' ((c.tc : Thread Cert.UpDxRefIdeal.nD Cert.UpDxRefIdeal.τ).loc Cert.UpDxRefIdeal.main_arg1))

def preserves_UpDw_UpDwIdeal : Prop :=
  True

def algebraic_UpDwIdeal_UpDwRefIdeal [hUpDwIdeal : Cert.UpDwIdeal.Facts] [hUpDwRefIdeal : Cert.UpDwRefIdeal.Facts] : Prop :=
  ∀ (m : (ℓ : Loc Cert.UpDwIdeal.nD Cert.UpDwIdeal.τ Cert.UpDwIdeal.sig) → Buf (Elt Ideal) ℓ) (g : Dev Cert.UpDwIdeal.nD → PrngReg)
    (m' : (ℓ : Loc Cert.UpDwRefIdeal.nD Cert.UpDwRefIdeal.τ Cert.UpDwRefIdeal.sig) → Buf (Elt Ideal) ℓ) (g' : Dev Cert.UpDwRefIdeal.nD → PrngReg), Pre_UpDwIdeal m →
    (∀ c : Dev Cert.UpDwIdeal.nD,
      m' ((c.tc : Thread Cert.UpDwRefIdeal.nD Cert.UpDwRefIdeal.τ).loc Cert.UpDwRefIdeal.main_arg0) = m ((c.tc : Thread Cert.UpDwIdeal.nD Cert.UpDwIdeal.τ).loc Cert.UpDwIdeal.main_arg0)
      ∧ m' ((c.tc : Thread Cert.UpDwRefIdeal.nD Cert.UpDwRefIdeal.τ).loc Cert.UpDwRefIdeal.main_arg1) = m ((c.tc : Thread Cert.UpDwIdeal.nD Cert.UpDwIdeal.τ).loc Cert.UpDwIdeal.main_arg1)) →
    ∃ (v0 : (c : Dev Cert.UpDwIdeal.nD) → Buf (Elt Ideal) ((c.tc : Thread Cert.UpDwIdeal.nD Cert.UpDwIdeal.τ).loc Cert.UpDwIdeal.main_v0)),
      θ_run (Cert.UpDwIdeal.defs (F := Ideal)) (onTc (τ := Cert.UpDwIdeal.τ) (Cert.UpDwIdeal.main (F := Ideal))) ⟨m, fun _ => 0, g⟩ (fun r => ∀ c : Dev Cert.UpDwIdeal.nD,
          r.2.mem ((c.tc : Thread Cert.UpDwIdeal.nD Cert.UpDwIdeal.τ).loc Cert.UpDwIdeal.main_v0) = v0 c
          ∧ r.2.mem ((c.tc : Thread Cert.UpDwIdeal.nD Cert.UpDwIdeal.τ).loc Cert.UpDwIdeal.main_arg0) = m ((c.tc : Thread Cert.UpDwIdeal.nD Cert.UpDwIdeal.τ).loc Cert.UpDwIdeal.main_arg0)
          ∧ r.2.mem ((c.tc : Thread Cert.UpDwIdeal.nD Cert.UpDwIdeal.τ).loc Cert.UpDwIdeal.main_arg1) = m ((c.tc : Thread Cert.UpDwIdeal.nD Cert.UpDwIdeal.τ).loc Cert.UpDwIdeal.main_arg1))
      ∧ θ_run (Cert.UpDwRefIdeal.defs (F := Ideal)) (onTc (τ := Cert.UpDwRefIdeal.τ) (Cert.UpDwRefIdeal.main (F := Ideal))) ⟨m', fun _ => 0, g'⟩ (fun r => ∀ c : Dev Cert.UpDwRefIdeal.nD,
          r.2.mem ((c.tc : Thread Cert.UpDwRefIdeal.nD Cert.UpDwRefIdeal.τ).loc Cert.UpDwRefIdeal.main_v5) = v0 c
          ∧ r.2.mem ((c.tc : Thread Cert.UpDwRefIdeal.nD Cert.UpDwRefIdeal.τ).loc Cert.UpDwRefIdeal.main_arg0) = m' ((c.tc : Thread Cert.UpDwRefIdeal.nD Cert.UpDwRefIdeal.τ).loc Cert.UpDwRefIdeal.main_arg0)
          ∧ r.2.mem ((c.tc : Thread Cert.UpDwRefIdeal.nD Cert.UpDwRefIdeal.τ).loc Cert.UpDwRefIdeal.main_arg1) = m' ((c.tc : Thread Cert.UpDwRefIdeal.nD Cert.UpDwRefIdeal.τ).loc Cert.UpDwRefIdeal.main_arg1))

def preserves_DownDx_DownDxIdeal : Prop :=
  True

def algebraic_DownDxIdeal_DownDxRefIdeal [hDownDxIdeal : Cert.DownDxIdeal.Facts] [hDownDxRefIdeal : Cert.DownDxRefIdeal.Facts] : Prop :=
  ∀ (m : (ℓ : Loc Cert.DownDxIdeal.nD Cert.DownDxIdeal.τ Cert.DownDxIdeal.sig) → Buf (Elt Ideal) ℓ) (g : Dev Cert.DownDxIdeal.nD → PrngReg)
    (m' : (ℓ : Loc Cert.DownDxRefIdeal.nD Cert.DownDxRefIdeal.τ Cert.DownDxRefIdeal.sig) → Buf (Elt Ideal) ℓ) (g' : Dev Cert.DownDxRefIdeal.nD → PrngReg), Pre_DownDxIdeal m →
    (∀ c : Dev Cert.DownDxIdeal.nD,
      m' ((c.tc : Thread Cert.DownDxRefIdeal.nD Cert.DownDxRefIdeal.τ).loc Cert.DownDxRefIdeal.main_arg0) = m ((c.tc : Thread Cert.DownDxIdeal.nD Cert.DownDxIdeal.τ).loc Cert.DownDxIdeal.main_arg0)
      ∧ m' ((c.tc : Thread Cert.DownDxRefIdeal.nD Cert.DownDxRefIdeal.τ).loc Cert.DownDxRefIdeal.main_arg1) = m ((c.tc : Thread Cert.DownDxIdeal.nD Cert.DownDxIdeal.τ).loc Cert.DownDxIdeal.main_arg1)) →
    ∃ (v0 : (c : Dev Cert.DownDxIdeal.nD) → Buf (Elt Ideal) ((c.tc : Thread Cert.DownDxIdeal.nD Cert.DownDxIdeal.τ).loc Cert.DownDxIdeal.main_v0)),
      θ_run (Cert.DownDxIdeal.defs (F := Ideal)) (onTc (τ := Cert.DownDxIdeal.τ) (Cert.DownDxIdeal.main (F := Ideal))) ⟨m, fun _ => 0, g⟩ (fun r => ∀ c : Dev Cert.DownDxIdeal.nD,
          r.2.mem ((c.tc : Thread Cert.DownDxIdeal.nD Cert.DownDxIdeal.τ).loc Cert.DownDxIdeal.main_v0) = v0 c
          ∧ r.2.mem ((c.tc : Thread Cert.DownDxIdeal.nD Cert.DownDxIdeal.τ).loc Cert.DownDxIdeal.main_arg0) = m ((c.tc : Thread Cert.DownDxIdeal.nD Cert.DownDxIdeal.τ).loc Cert.DownDxIdeal.main_arg0)
          ∧ r.2.mem ((c.tc : Thread Cert.DownDxIdeal.nD Cert.DownDxIdeal.τ).loc Cert.DownDxIdeal.main_arg1) = m ((c.tc : Thread Cert.DownDxIdeal.nD Cert.DownDxIdeal.τ).loc Cert.DownDxIdeal.main_arg1))
      ∧ θ_run (Cert.DownDxRefIdeal.defs (F := Ideal)) (onTc (τ := Cert.DownDxRefIdeal.τ) (Cert.DownDxRefIdeal.main (F := Ideal))) ⟨m', fun _ => 0, g'⟩ (fun r => ∀ c : Dev Cert.DownDxRefIdeal.nD,
          r.2.mem ((c.tc : Thread Cert.DownDxRefIdeal.nD Cert.DownDxRefIdeal.τ).loc Cert.DownDxRefIdeal.main_v4) = v0 c
          ∧ r.2.mem ((c.tc : Thread Cert.DownDxRefIdeal.nD Cert.DownDxRefIdeal.τ).loc Cert.DownDxRefIdeal.main_arg0) = m' ((c.tc : Thread Cert.DownDxRefIdeal.nD Cert.DownDxRefIdeal.τ).loc Cert.DownDxRefIdeal.main_arg0)
          ∧ r.2.mem ((c.tc : Thread Cert.DownDxRefIdeal.nD Cert.DownDxRefIdeal.τ).loc Cert.DownDxRefIdeal.main_arg1) = m' ((c.tc : Thread Cert.DownDxRefIdeal.nD Cert.DownDxRefIdeal.τ).loc Cert.DownDxRefIdeal.main_arg1))

def preserves_DownDw_DownDwIdeal : Prop :=
  True

def algebraic_DownDwIdeal_DownDwRefIdeal [hDownDwIdeal : Cert.DownDwIdeal.Facts] [hDownDwRefIdeal : Cert.DownDwRefIdeal.Facts] : Prop :=
  ∀ (m : (ℓ : Loc Cert.DownDwIdeal.nD Cert.DownDwIdeal.τ Cert.DownDwIdeal.sig) → Buf (Elt Ideal) ℓ) (g : Dev Cert.DownDwIdeal.nD → PrngReg)
    (m' : (ℓ : Loc Cert.DownDwRefIdeal.nD Cert.DownDwRefIdeal.τ Cert.DownDwRefIdeal.sig) → Buf (Elt Ideal) ℓ) (g' : Dev Cert.DownDwRefIdeal.nD → PrngReg), Pre_DownDwIdeal m →
    (∀ c : Dev Cert.DownDwIdeal.nD,
      m' ((c.tc : Thread Cert.DownDwRefIdeal.nD Cert.DownDwRefIdeal.τ).loc Cert.DownDwRefIdeal.main_arg0) = m ((c.tc : Thread Cert.DownDwIdeal.nD Cert.DownDwIdeal.τ).loc Cert.DownDwIdeal.main_arg0)
      ∧ m' ((c.tc : Thread Cert.DownDwRefIdeal.nD Cert.DownDwRefIdeal.τ).loc Cert.DownDwRefIdeal.main_arg1) = m ((c.tc : Thread Cert.DownDwIdeal.nD Cert.DownDwIdeal.τ).loc Cert.DownDwIdeal.main_arg1)) →
    ∃ (v0 : (c : Dev Cert.DownDwIdeal.nD) → Buf (Elt Ideal) ((c.tc : Thread Cert.DownDwIdeal.nD Cert.DownDwIdeal.τ).loc Cert.DownDwIdeal.main_v0)),
      θ_run (Cert.DownDwIdeal.defs (F := Ideal)) (onTc (τ := Cert.DownDwIdeal.τ) (Cert.DownDwIdeal.main (F := Ideal))) ⟨m, fun _ => 0, g⟩ (fun r => ∀ c : Dev Cert.DownDwIdeal.nD,
          r.2.mem ((c.tc : Thread Cert.DownDwIdeal.nD Cert.DownDwIdeal.τ).loc Cert.DownDwIdeal.main_v0) = v0 c
          ∧ r.2.mem ((c.tc : Thread Cert.DownDwIdeal.nD Cert.DownDwIdeal.τ).loc Cert.DownDwIdeal.main_arg0) = m ((c.tc : Thread Cert.DownDwIdeal.nD Cert.DownDwIdeal.τ).loc Cert.DownDwIdeal.main_arg0)
          ∧ r.2.mem ((c.tc : Thread Cert.DownDwIdeal.nD Cert.DownDwIdeal.τ).loc Cert.DownDwIdeal.main_arg1) = m ((c.tc : Thread Cert.DownDwIdeal.nD Cert.DownDwIdeal.τ).loc Cert.DownDwIdeal.main_arg1))
      ∧ θ_run (Cert.DownDwRefIdeal.defs (F := Ideal)) (onTc (τ := Cert.DownDwRefIdeal.τ) (Cert.DownDwRefIdeal.main (F := Ideal))) ⟨m', fun _ => 0, g'⟩ (fun r => ∀ c : Dev Cert.DownDwRefIdeal.nD,
          r.2.mem ((c.tc : Thread Cert.DownDwRefIdeal.nD Cert.DownDwRefIdeal.τ).loc Cert.DownDwRefIdeal.main_v5) = v0 c
          ∧ r.2.mem ((c.tc : Thread Cert.DownDwRefIdeal.nD Cert.DownDwRefIdeal.τ).loc Cert.DownDwRefIdeal.main_arg0) = m' ((c.tc : Thread Cert.DownDwRefIdeal.nD Cert.DownDwRefIdeal.τ).loc Cert.DownDwRefIdeal.main_arg0)
          ∧ r.2.mem ((c.tc : Thread Cert.DownDwRefIdeal.nD Cert.DownDwRefIdeal.τ).loc Cert.DownDwRefIdeal.main_arg1) = m' ((c.tc : Thread Cert.DownDwRefIdeal.nD Cert.DownDwRefIdeal.τ).loc Cert.DownDwRefIdeal.main_arg1))

def preserves_QkvDx_QkvDxIdeal : Prop :=
  True

def algebraic_QkvDxIdeal_QkvDxRefIdeal [hQkvDxIdeal : Cert.QkvDxIdeal.Facts] [hQkvDxRefIdeal : Cert.QkvDxRefIdeal.Facts] : Prop :=
  ∀ (m : (ℓ : Loc Cert.QkvDxIdeal.nD Cert.QkvDxIdeal.τ Cert.QkvDxIdeal.sig) → Buf (Elt Ideal) ℓ) (g : Dev Cert.QkvDxIdeal.nD → PrngReg)
    (m' : (ℓ : Loc Cert.QkvDxRefIdeal.nD Cert.QkvDxRefIdeal.τ Cert.QkvDxRefIdeal.sig) → Buf (Elt Ideal) ℓ) (g' : Dev Cert.QkvDxRefIdeal.nD → PrngReg), Pre_QkvDxIdeal m →
    (∀ c : Dev Cert.QkvDxIdeal.nD,
      m' ((c.tc : Thread Cert.QkvDxRefIdeal.nD Cert.QkvDxRefIdeal.τ).loc Cert.QkvDxRefIdeal.main_arg0) = m ((c.tc : Thread Cert.QkvDxIdeal.nD Cert.QkvDxIdeal.τ).loc Cert.QkvDxIdeal.main_arg0)
      ∧ m' ((c.tc : Thread Cert.QkvDxRefIdeal.nD Cert.QkvDxRefIdeal.τ).loc Cert.QkvDxRefIdeal.main_arg1) = m ((c.tc : Thread Cert.QkvDxIdeal.nD Cert.QkvDxIdeal.τ).loc Cert.QkvDxIdeal.main_arg1)) →
    ∃ (v0 : (c : Dev Cert.QkvDxIdeal.nD) → Buf (Elt Ideal) ((c.tc : Thread Cert.QkvDxIdeal.nD Cert.QkvDxIdeal.τ).loc Cert.QkvDxIdeal.main_v0)),
      θ_run (Cert.QkvDxIdeal.defs (F := Ideal)) (onTc (τ := Cert.QkvDxIdeal.τ) (Cert.QkvDxIdeal.main (F := Ideal))) ⟨m, fun _ => 0, g⟩ (fun r => ∀ c : Dev Cert.QkvDxIdeal.nD,
          r.2.mem ((c.tc : Thread Cert.QkvDxIdeal.nD Cert.QkvDxIdeal.τ).loc Cert.QkvDxIdeal.main_v0) = v0 c
          ∧ r.2.mem ((c.tc : Thread Cert.QkvDxIdeal.nD Cert.QkvDxIdeal.τ).loc Cert.QkvDxIdeal.main_arg0) = m ((c.tc : Thread Cert.QkvDxIdeal.nD Cert.QkvDxIdeal.τ).loc Cert.QkvDxIdeal.main_arg0)
          ∧ r.2.mem ((c.tc : Thread Cert.QkvDxIdeal.nD Cert.QkvDxIdeal.τ).loc Cert.QkvDxIdeal.main_arg1) = m ((c.tc : Thread Cert.QkvDxIdeal.nD Cert.QkvDxIdeal.τ).loc Cert.QkvDxIdeal.main_arg1))
      ∧ θ_run (Cert.QkvDxRefIdeal.defs (F := Ideal)) (onTc (τ := Cert.QkvDxRefIdeal.τ) (Cert.QkvDxRefIdeal.main (F := Ideal))) ⟨m', fun _ => 0, g'⟩ (fun r => ∀ c : Dev Cert.QkvDxRefIdeal.nD,
          r.2.mem ((c.tc : Thread Cert.QkvDxRefIdeal.nD Cert.QkvDxRefIdeal.τ).loc Cert.QkvDxRefIdeal.main_v4) = v0 c
          ∧ r.2.mem ((c.tc : Thread Cert.QkvDxRefIdeal.nD Cert.QkvDxRefIdeal.τ).loc Cert.QkvDxRefIdeal.main_arg0) = m' ((c.tc : Thread Cert.QkvDxRefIdeal.nD Cert.QkvDxRefIdeal.τ).loc Cert.QkvDxRefIdeal.main_arg0)
          ∧ r.2.mem ((c.tc : Thread Cert.QkvDxRefIdeal.nD Cert.QkvDxRefIdeal.τ).loc Cert.QkvDxRefIdeal.main_arg1) = m' ((c.tc : Thread Cert.QkvDxRefIdeal.nD Cert.QkvDxRefIdeal.τ).loc Cert.QkvDxRefIdeal.main_arg1))

def preserves_QkvDw_QkvDwIdeal : Prop :=
  True

def algebraic_QkvDwIdeal_QkvDwRefIdeal [hQkvDwIdeal : Cert.QkvDwIdeal.Facts] [hQkvDwRefIdeal : Cert.QkvDwRefIdeal.Facts] : Prop :=
  ∀ (m : (ℓ : Loc Cert.QkvDwIdeal.nD Cert.QkvDwIdeal.τ Cert.QkvDwIdeal.sig) → Buf (Elt Ideal) ℓ) (g : Dev Cert.QkvDwIdeal.nD → PrngReg)
    (m' : (ℓ : Loc Cert.QkvDwRefIdeal.nD Cert.QkvDwRefIdeal.τ Cert.QkvDwRefIdeal.sig) → Buf (Elt Ideal) ℓ) (g' : Dev Cert.QkvDwRefIdeal.nD → PrngReg), Pre_QkvDwIdeal m →
    (∀ c : Dev Cert.QkvDwIdeal.nD,
      m' ((c.tc : Thread Cert.QkvDwRefIdeal.nD Cert.QkvDwRefIdeal.τ).loc Cert.QkvDwRefIdeal.main_arg0) = m ((c.tc : Thread Cert.QkvDwIdeal.nD Cert.QkvDwIdeal.τ).loc Cert.QkvDwIdeal.main_arg0)
      ∧ m' ((c.tc : Thread Cert.QkvDwRefIdeal.nD Cert.QkvDwRefIdeal.τ).loc Cert.QkvDwRefIdeal.main_arg1) = m ((c.tc : Thread Cert.QkvDwIdeal.nD Cert.QkvDwIdeal.τ).loc Cert.QkvDwIdeal.main_arg1)) →
    ∃ (v0 : (c : Dev Cert.QkvDwIdeal.nD) → Buf (Elt Ideal) ((c.tc : Thread Cert.QkvDwIdeal.nD Cert.QkvDwIdeal.τ).loc Cert.QkvDwIdeal.main_v0)),
      θ_run (Cert.QkvDwIdeal.defs (F := Ideal)) (onTc (τ := Cert.QkvDwIdeal.τ) (Cert.QkvDwIdeal.main (F := Ideal))) ⟨m, fun _ => 0, g⟩ (fun r => ∀ c : Dev Cert.QkvDwIdeal.nD,
          r.2.mem ((c.tc : Thread Cert.QkvDwIdeal.nD Cert.QkvDwIdeal.τ).loc Cert.QkvDwIdeal.main_v0) = v0 c
          ∧ r.2.mem ((c.tc : Thread Cert.QkvDwIdeal.nD Cert.QkvDwIdeal.τ).loc Cert.QkvDwIdeal.main_arg0) = m ((c.tc : Thread Cert.QkvDwIdeal.nD Cert.QkvDwIdeal.τ).loc Cert.QkvDwIdeal.main_arg0)
          ∧ r.2.mem ((c.tc : Thread Cert.QkvDwIdeal.nD Cert.QkvDwIdeal.τ).loc Cert.QkvDwIdeal.main_arg1) = m ((c.tc : Thread Cert.QkvDwIdeal.nD Cert.QkvDwIdeal.τ).loc Cert.QkvDwIdeal.main_arg1))
      ∧ θ_run (Cert.QkvDwRefIdeal.defs (F := Ideal)) (onTc (τ := Cert.QkvDwRefIdeal.τ) (Cert.QkvDwRefIdeal.main (F := Ideal))) ⟨m', fun _ => 0, g'⟩ (fun r => ∀ c : Dev Cert.QkvDwRefIdeal.nD,
          r.2.mem ((c.tc : Thread Cert.QkvDwRefIdeal.nD Cert.QkvDwRefIdeal.τ).loc Cert.QkvDwRefIdeal.main_v5) = v0 c
          ∧ r.2.mem ((c.tc : Thread Cert.QkvDwRefIdeal.nD Cert.QkvDwRefIdeal.τ).loc Cert.QkvDwRefIdeal.main_arg0) = m' ((c.tc : Thread Cert.QkvDwRefIdeal.nD Cert.QkvDwRefIdeal.τ).loc Cert.QkvDwRefIdeal.main_arg0)
          ∧ r.2.mem ((c.tc : Thread Cert.QkvDwRefIdeal.nD Cert.QkvDwRefIdeal.τ).loc Cert.QkvDwRefIdeal.main_arg1) = m' ((c.tc : Thread Cert.QkvDwRefIdeal.nD Cert.QkvDwRefIdeal.τ).loc Cert.QkvDwRefIdeal.main_arg1))

def preserves_Up_UpIdeal : Prop :=
  True

def algebraic_UpIdeal_UpRefIdeal [hUpIdeal : Cert.UpIdeal.Facts] [hUpRefIdeal : Cert.UpRefIdeal.Facts] : Prop :=
  ∀ (m : (ℓ : Loc Cert.UpIdeal.nD Cert.UpIdeal.τ Cert.UpIdeal.sig) → Buf (Elt Ideal) ℓ) (g : Dev Cert.UpIdeal.nD → PrngReg)
    (m' : (ℓ : Loc Cert.UpRefIdeal.nD Cert.UpRefIdeal.τ Cert.UpRefIdeal.sig) → Buf (Elt Ideal) ℓ) (g' : Dev Cert.UpRefIdeal.nD → PrngReg), Pre_UpIdeal m →
    (∀ c : Dev Cert.UpIdeal.nD,
      m' ((c.tc : Thread Cert.UpRefIdeal.nD Cert.UpRefIdeal.τ).loc Cert.UpRefIdeal.main_arg0) = m ((c.tc : Thread Cert.UpIdeal.nD Cert.UpIdeal.τ).loc Cert.UpIdeal.main_arg0)
      ∧ m' ((c.tc : Thread Cert.UpRefIdeal.nD Cert.UpRefIdeal.τ).loc Cert.UpRefIdeal.main_arg1) = m ((c.tc : Thread Cert.UpIdeal.nD Cert.UpIdeal.τ).loc Cert.UpIdeal.main_arg1)) →
    ∃ (v0 : (c : Dev Cert.UpIdeal.nD) → Buf (Elt Ideal) ((c.tc : Thread Cert.UpIdeal.nD Cert.UpIdeal.τ).loc Cert.UpIdeal.main_v0)),
      θ_run (Cert.UpIdeal.defs (F := Ideal)) (onTc (τ := Cert.UpIdeal.τ) (Cert.UpIdeal.main (F := Ideal))) ⟨m, fun _ => 0, g⟩ (fun r => ∀ c : Dev Cert.UpIdeal.nD,
          r.2.mem ((c.tc : Thread Cert.UpIdeal.nD Cert.UpIdeal.τ).loc Cert.UpIdeal.main_v0) = v0 c
          ∧ r.2.mem ((c.tc : Thread Cert.UpIdeal.nD Cert.UpIdeal.τ).loc Cert.UpIdeal.main_arg0) = m ((c.tc : Thread Cert.UpIdeal.nD Cert.UpIdeal.τ).loc Cert.UpIdeal.main_arg0)
          ∧ r.2.mem ((c.tc : Thread Cert.UpIdeal.nD Cert.UpIdeal.τ).loc Cert.UpIdeal.main_arg1) = m ((c.tc : Thread Cert.UpIdeal.nD Cert.UpIdeal.τ).loc Cert.UpIdeal.main_arg1))
      ∧ θ_run (Cert.UpRefIdeal.defs (F := Ideal)) (onTc (τ := Cert.UpRefIdeal.τ) (Cert.UpRefIdeal.main (F := Ideal))) ⟨m', fun _ => 0, g'⟩ (fun r => ∀ c : Dev Cert.UpRefIdeal.nD,
          r.2.mem ((c.tc : Thread Cert.UpRefIdeal.nD Cert.UpRefIdeal.τ).loc Cert.UpRefIdeal.main_v2) = v0 c
          ∧ r.2.mem ((c.tc : Thread Cert.UpRefIdeal.nD Cert.UpRefIdeal.τ).loc Cert.UpRefIdeal.main_arg0) = m' ((c.tc : Thread Cert.UpRefIdeal.nD Cert.UpRefIdeal.τ).loc Cert.UpRefIdeal.main_arg0)
          ∧ r.2.mem ((c.tc : Thread Cert.UpRefIdeal.nD Cert.UpRefIdeal.τ).loc Cert.UpRefIdeal.main_arg1) = m' ((c.tc : Thread Cert.UpRefIdeal.nD Cert.UpRefIdeal.τ).loc Cert.UpRefIdeal.main_arg1))

def preserves_Down_DownIdeal : Prop :=
  True

def algebraic_DownIdeal_DownRefIdeal [hDownIdeal : Cert.DownIdeal.Facts] [hDownRefIdeal : Cert.DownRefIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)) →
    ∃ (v0 : (c : Dev Cert.DownIdeal.nD) → Buf (Elt Ideal) ((c.tc : Thread Cert.DownIdeal.nD Cert.DownIdeal.τ).loc Cert.DownIdeal.main_v0)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v0) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v2) = v0 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1))

def preserves_Qkv_QkvIdeal : Prop :=
  True

def algebraic_QkvIdeal_QkvRefIdeal [hQkvIdeal : Cert.QkvIdeal.Facts] [hQkvRefIdeal : Cert.QkvRefIdeal.Facts] : Prop :=
  ∀ (m : (ℓ : Loc Cert.QkvIdeal.nD Cert.QkvIdeal.τ Cert.QkvIdeal.sig) → Buf (Elt Ideal) ℓ) (g : Dev Cert.QkvIdeal.nD → PrngReg)
    (m' : (ℓ : Loc Cert.QkvRefIdeal.nD Cert.QkvRefIdeal.τ Cert.QkvRefIdeal.sig) → Buf (Elt Ideal) ℓ) (g' : Dev Cert.QkvRefIdeal.nD → PrngReg), Pre_QkvIdeal m →
    (∀ c : Dev Cert.QkvIdeal.nD,
      m' ((c.tc : Thread Cert.QkvRefIdeal.nD Cert.QkvRefIdeal.τ).loc Cert.QkvRefIdeal.main_arg0) = m ((c.tc : Thread Cert.QkvIdeal.nD Cert.QkvIdeal.τ).loc Cert.QkvIdeal.main_arg0)
      ∧ m' ((c.tc : Thread Cert.QkvRefIdeal.nD Cert.QkvRefIdeal.τ).loc Cert.QkvRefIdeal.main_arg1) = m ((c.tc : Thread Cert.QkvIdeal.nD Cert.QkvIdeal.τ).loc Cert.QkvIdeal.main_arg1)) →
    ∃ (v0 : (c : Dev Cert.QkvIdeal.nD) → Buf (Elt Ideal) ((c.tc : Thread Cert.QkvIdeal.nD Cert.QkvIdeal.τ).loc Cert.QkvIdeal.main_v0)),
      θ_run (Cert.QkvIdeal.defs (F := Ideal)) (onTc (τ := Cert.QkvIdeal.τ) (Cert.QkvIdeal.main (F := Ideal))) ⟨m, fun _ => 0, g⟩ (fun r => ∀ c : Dev Cert.QkvIdeal.nD,
          r.2.mem ((c.tc : Thread Cert.QkvIdeal.nD Cert.QkvIdeal.τ).loc Cert.QkvIdeal.main_v0) = v0 c
          ∧ r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
          ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1))
      ∧ θ_run (Cert.QkvRefIdeal.defs (F := Ideal)) (onTc (τ := Cert.QkvRefIdeal.τ) (Cert.QkvRefIdeal.main (F := Ideal))) ⟨m', fun _ => 0, g'⟩ (fun r => ∀ c : Dev Cert.QkvRefIdeal.nD,
          r.2.mem ((c.tc : Thread Cert.QkvRefIdeal.nD Cert.QkvRefIdeal.τ).loc Cert.QkvRefIdeal.main_v3) = v0 c
          ∧ r.2.mem ((c.tc : Thread Cert.QkvRefIdeal.nD Cert.QkvRefIdeal.τ).loc Cert.QkvRefIdeal.main_arg0) = m' ((c.tc : Thread Cert.QkvRefIdeal.nD Cert.QkvRefIdeal.τ).loc Cert.QkvRefIdeal.main_arg0)
          ∧ r.2.mem ((c.tc : Thread Cert.QkvRefIdeal.nD Cert.QkvRefIdeal.τ).loc Cert.QkvRefIdeal.main_arg1) = m' ((c.tc : Thread Cert.QkvRefIdeal.nD Cert.QkvRefIdeal.τ).loc Cert.QkvRefIdeal.main_arg1))

def preserves_OutProj_OutProjIdeal : Prop :=
  True

def algebraic_OutProjIdeal_OutProjRefIdeal [hOutProjIdeal : Cert.OutProjIdeal.Facts] [hOutProjRefIdeal : Cert.OutProjRefIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjRefIdeal.nD Cert.OutProjRefIdeal.τ Cert.OutProjRefIdeal.sig) → Buf (Elt Ideal) ℓ) (g' : Dev Cert.OutProjRefIdeal.nD → PrngReg), Pre_OutProjIdeal m →
    (∀ c : Dev Cert.OutProjIdeal.nD,
      m' ((c.tc : Thread Cert.OutProjRefIdeal.nD Cert.OutProjRefIdeal.τ).loc Cert.OutProjRefIdeal.main_arg0) = m ((c.tc : Thread Cert.OutProjIdeal.nD Cert.OutProjIdeal.τ).loc Cert.OutProjIdeal.main_arg0)
      ∧ m' ((c.tc : Thread Cert.OutProjRefIdeal.nD Cert.OutProjRefIdeal.τ).loc Cert.OutProjRefIdeal.main_arg1) = m ((c.tc : Thread Cert.OutProjIdeal.nD Cert.OutProjIdeal.τ).loc Cert.OutProjIdeal.main_arg1)) →
    ∃ (v0 : (c : Dev Cert.OutProjIdeal.nD) → Buf (Elt Ideal) ((c.tc : Thread Cert.OutProjIdeal.nD Cert.OutProjIdeal.τ).loc Cert.OutProjIdeal.main_v0)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v0) = v0 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1))
      ∧ θ_run (Cert.OutProjRefIdeal.defs (F := Ideal)) (onTc (τ := Cert.OutProjRefIdeal.τ) (Cert.OutProjRefIdeal.main (F := Ideal))) ⟨m', fun _ => 0, g'⟩ (fun r => ∀ c : Dev Cert.OutProjRefIdeal.nD,
          r.2.mem ((c.tc : Thread Cert.OutProjRefIdeal.nD Cert.OutProjRefIdeal.τ).loc Cert.OutProjRefIdeal.main_v1) = v0 c
          ∧ r.2.mem ((c.tc : Thread Cert.OutProjRefIdeal.nD Cert.OutProjRefIdeal.τ).loc Cert.OutProjRefIdeal.main_arg0) = m' ((c.tc : Thread Cert.OutProjRefIdeal.nD Cert.OutProjRefIdeal.τ).loc Cert.OutProjRefIdeal.main_arg0)
          ∧ r.2.mem ((c.tc : Thread Cert.OutProjRefIdeal.nD Cert.OutProjRefIdeal.τ).loc Cert.OutProjRefIdeal.main_arg1) = m' ((c.tc : Thread Cert.OutProjRefIdeal.nD Cert.OutProjRefIdeal.τ).loc Cert.OutProjRefIdeal.main_arg1))

def preserves_OutProjDx_OutProjDxIdeal : Prop :=
  True

def algebraic_OutProjDxIdeal_OutProjDxRefIdeal [hOutProjDxIdeal : Cert.OutProjDxIdeal.Facts] [hOutProjDxRefIdeal : Cert.OutProjDxRefIdeal.Facts] : Prop :=
  ∀ (m : (ℓ : Loc Cert.OutProjDxIdeal.nD Cert.OutProjDxIdeal.τ Cert.OutProjDxIdeal.sig) → Buf (Elt Ideal) ℓ) (g : Dev Cert.OutProjDxIdeal.nD → PrngReg)
    (m' : (ℓ : Loc Cert.OutProjDxRefIdeal.nD Cert.OutProjDxRefIdeal.τ Cert.OutProjDxRefIdeal.sig) → Buf (Elt Ideal) ℓ) (g' : Dev Cert.OutProjDxRefIdeal.nD → PrngReg), Pre_OutProjDxIdeal m →
    (∀ c : Dev Cert.OutProjDxIdeal.nD,
      m' ((c.tc : Thread Cert.OutProjDxRefIdeal.nD Cert.OutProjDxRefIdeal.τ).loc Cert.OutProjDxRefIdeal.main_arg0) = m ((c.tc : Thread Cert.OutProjDxIdeal.nD Cert.OutProjDxIdeal.τ).loc Cert.OutProjDxIdeal.main_arg0)
      ∧ m' ((c.tc : Thread Cert.OutProjDxRefIdeal.nD Cert.OutProjDxRefIdeal.τ).loc Cert.OutProjDxRefIdeal.main_arg1) = m ((c.tc : Thread Cert.OutProjDxIdeal.nD Cert.OutProjDxIdeal.τ).loc Cert.OutProjDxIdeal.main_arg1)) →
    ∃ (v0 : (c : Dev Cert.OutProjDxIdeal.nD) → Buf (Elt Ideal) ((c.tc : Thread Cert.OutProjDxIdeal.nD Cert.OutProjDxIdeal.τ).loc Cert.OutProjDxIdeal.main_v0)),
      θ_run (Cert.OutProjDxIdeal.defs (F := Ideal)) (onTc (τ := Cert.OutProjDxIdeal.τ) (Cert.OutProjDxIdeal.main (F := Ideal))) ⟨m, fun _ => 0, g⟩ (fun r => ∀ c : Dev Cert.OutProjDxIdeal.nD,
          r.2.mem ((c.tc : Thread Cert.OutProjDxIdeal.nD Cert.OutProjDxIdeal.τ).loc Cert.OutProjDxIdeal.main_v0) = v0 c
          ∧ r.2.mem ((c.tc : Thread Cert.OutProjDxIdeal.nD Cert.OutProjDxIdeal.τ).loc Cert.OutProjDxIdeal.main_arg0) = m ((c.tc : Thread Cert.OutProjDxIdeal.nD Cert.OutProjDxIdeal.τ).loc Cert.OutProjDxIdeal.main_arg0)
          ∧ r.2.mem ((c.tc : Thread Cert.OutProjDxIdeal.nD Cert.OutProjDxIdeal.τ).loc Cert.OutProjDxIdeal.main_arg1) = m ((c.tc : Thread Cert.OutProjDxIdeal.nD Cert.OutProjDxIdeal.τ).loc Cert.OutProjDxIdeal.main_arg1))
      ∧ θ_run (Cert.OutProjDxRefIdeal.defs (F := Ideal)) (onTc (τ := Cert.OutProjDxRefIdeal.τ) (Cert.OutProjDxRefIdeal.main (F := Ideal))) ⟨m', fun _ => 0, g'⟩ (fun r => ∀ c : Dev Cert.OutProjDxRefIdeal.nD,
          r.2.mem ((c.tc : Thread Cert.OutProjDxRefIdeal.nD Cert.OutProjDxRefIdeal.τ).loc Cert.OutProjDxRefIdeal.main_v4) = v0 c
          ∧ r.2.mem ((c.tc : Thread Cert.OutProjDxRefIdeal.nD Cert.OutProjDxRefIdeal.τ).loc Cert.OutProjDxRefIdeal.main_arg0) = m' ((c.tc : Thread Cert.OutProjDxRefIdeal.nD Cert.OutProjDxRefIdeal.τ).loc Cert.OutProjDxRefIdeal.main_arg0)
          ∧ r.2.mem ((c.tc : Thread Cert.OutProjDxRefIdeal.nD Cert.OutProjDxRefIdeal.τ).loc Cert.OutProjDxRefIdeal.main_arg1) = m' ((c.tc : Thread Cert.OutProjDxRefIdeal.nD Cert.OutProjDxRefIdeal.τ).loc Cert.OutProjDxRefIdeal.main_arg1))

def preserves_OutProjDw_OutProjDwIdeal : Prop :=
  True

def algebraic_OutProjDwIdeal_OutProjDwRefIdeal [hOutProjDwIdeal : Cert.OutProjDwIdeal.Facts] [hOutProjDwRefIdeal : Cert.OutProjDwRefIdeal.Facts] : Prop :=
  ∀ (m : (ℓ : Loc Cert.OutProjDwIdeal.nD Cert.OutProjDwIdeal.τ Cert.OutProjDwIdeal.sig) → Buf (Elt Ideal) ℓ) (g : Dev Cert.OutProjDwIdeal.nD → PrngReg)
    (m' : (ℓ : Loc Cert.OutProjDwRefIdeal.nD Cert.OutProjDwRefIdeal.τ Cert.OutProjDwRefIdeal.sig) → Buf (Elt Ideal) ℓ) (g' : Dev Cert.OutProjDwRefIdeal.nD → PrngReg), Pre_OutProjDwIdeal m →
    (∀ c : Dev Cert.OutProjDwIdeal.nD,
      m' ((c.tc : Thread Cert.OutProjDwRefIdeal.nD Cert.OutProjDwRefIdeal.τ).loc Cert.OutProjDwRefIdeal.main_arg0) = m ((c.tc : Thread Cert.OutProjDwIdeal.nD Cert.OutProjDwIdeal.τ).loc Cert.OutProjDwIdeal.main_arg0)
      ∧ m' ((c.tc : Thread Cert.OutProjDwRefIdeal.nD Cert.OutProjDwRefIdeal.τ).loc Cert.OutProjDwRefIdeal.main_arg1) = m ((c.tc : Thread Cert.OutProjDwIdeal.nD Cert.OutProjDwIdeal.τ).loc Cert.OutProjDwIdeal.main_arg1)) →
    ∃ (v0 : (c : Dev Cert.OutProjDwIdeal.nD) → Buf (Elt Ideal) ((c.tc : Thread Cert.OutProjDwIdeal.nD Cert.OutProjDwIdeal.τ).loc Cert.OutProjDwIdeal.main_v0)),
      θ_run (Cert.OutProjDwIdeal.defs (F := Ideal)) (onTc (τ := Cert.OutProjDwIdeal.τ) (Cert.OutProjDwIdeal.main (F := Ideal))) ⟨m, fun _ => 0, g⟩ (fun r => ∀ c : Dev Cert.OutProjDwIdeal.nD,
          r.2.mem ((c.tc : Thread Cert.OutProjDwIdeal.nD Cert.OutProjDwIdeal.τ).loc Cert.OutProjDwIdeal.main_v0) = v0 c
          ∧ r.2.mem ((c.tc : Thread Cert.OutProjDwIdeal.nD Cert.OutProjDwIdeal.τ).loc Cert.OutProjDwIdeal.main_arg0) = m ((c.tc : Thread Cert.OutProjDwIdeal.nD Cert.OutProjDwIdeal.τ).loc Cert.OutProjDwIdeal.main_arg0)
          ∧ r.2.mem ((c.tc : Thread Cert.OutProjDwIdeal.nD Cert.OutProjDwIdeal.τ).loc Cert.OutProjDwIdeal.main_arg1) = m ((c.tc : Thread Cert.OutProjDwIdeal.nD Cert.OutProjDwIdeal.τ).loc Cert.OutProjDwIdeal.main_arg1))
      ∧ θ_run (Cert.OutProjDwRefIdeal.defs (F := Ideal)) (onTc (τ := Cert.OutProjDwRefIdeal.τ) (Cert.OutProjDwRefIdeal.main (F := Ideal))) ⟨m', fun _ => 0, g'⟩ (fun r => ∀ c : Dev Cert.OutProjDwRefIdeal.nD,
          r.2.mem ((c.tc : Thread Cert.OutProjDwRefIdeal.nD Cert.OutProjDwRefIdeal.τ).loc Cert.OutProjDwRefIdeal.main_v4) = v0 c
          ∧ r.2.mem ((c.tc : Thread Cert.OutProjDwRefIdeal.nD Cert.OutProjDwRefIdeal.τ).loc Cert.OutProjDwRefIdeal.main_arg0) = m' ((c.tc : Thread Cert.OutProjDwRefIdeal.nD Cert.OutProjDwRefIdeal.τ).loc Cert.OutProjDwRefIdeal.main_arg0)
          ∧ r.2.mem ((c.tc : Thread Cert.OutProjDwRefIdeal.nD Cert.OutProjDwRefIdeal.τ).loc Cert.OutProjDwRefIdeal.main_arg1) = m' ((c.tc : Thread Cert.OutProjDwRefIdeal.nD Cert.OutProjDwRefIdeal.τ).loc Cert.OutProjDwRefIdeal.main_arg1))

def preserves_AdamMod_AdamModIdeal : Prop :=
  IdealRules.named_const.Statement Cert.AdamModIdeal.κ "c1" .f32 0x3FC48605#32 ((8388608 / 5463681 : ℝ) : EReal)
  ∧ IdealRules.named_const.Statement Cert.AdamModIdeal.κ "c2" .f32 0x42C8E6D3#32 ((268435456 / 2672307 : ℝ) : EReal)

def algebraic_AdamModIdeal_AdamModRefIdeal [hAdamModIdeal : Cert.AdamModIdeal.Facts] [hAdamModRefIdeal : Cert.AdamModRefIdeal.Facts] : Prop :=
  ∀ (m : (ℓ : Loc Cert.AdamModIdeal.nD Cert.AdamModIdeal.τ Cert.AdamModIdeal.sig) → Buf (Elt Ideal) ℓ) (g : Dev Cert.AdamModIdeal.nD → PrngReg)
    (m' : (ℓ : Loc Cert.AdamModRefIdeal.nD Cert.AdamModRefIdeal.τ Cert.AdamModRefIdeal.sig) → Buf (Elt Ideal) ℓ) (g' : Dev Cert.AdamModRefIdeal.nD → PrngReg), Pre_AdamModIdeal m →
    (∀ c : Dev Cert.AdamModIdeal.nD,
      m' ((c.tc : Thread Cert.AdamModRefIdeal.nD Cert.AdamModRefIdeal.τ).loc Cert.AdamModRefIdeal.main_arg0) = m ((c.tc : Thread Cert.AdamModIdeal.nD Cert.AdamModIdeal.τ).loc Cert.AdamModIdeal.main_arg0)
      ∧ m' ((c.tc : Thread Cert.AdamModRefIdeal.nD Cert.AdamModRefIdeal.τ).loc Cert.AdamModRefIdeal.main_arg1) = m ((c.tc : Thread Cert.AdamModIdeal.nD Cert.AdamModIdeal.τ).loc Cert.AdamModIdeal.main_arg1)
      ∧ m' ((c.tc : Thread Cert.AdamModRefIdeal.nD Cert.AdamModRefIdeal.τ).loc Cert.AdamModRefIdeal.main_arg2) = m ((c.tc : Thread Cert.AdamModIdeal.nD Cert.AdamModIdeal.τ).loc Cert.AdamModIdeal.main_arg2)
      ∧ m' ((c.tc : Thread Cert.AdamModRefIdeal.nD Cert.AdamModRefIdeal.τ).loc Cert.AdamModRefIdeal.main_arg3) = m ((c.tc : Thread Cert.AdamModIdeal.nD Cert.AdamModIdeal.τ).loc Cert.AdamModIdeal.main_arg3)) →
    ∃ (v0 : (c : Dev Cert.AdamModIdeal.nD) → Buf (Elt Ideal) ((c.tc : Thread Cert.AdamModIdeal.nD Cert.AdamModIdeal.τ).loc Cert.AdamModIdeal.main_v4_0)) (v1 : (c : Dev Cert.AdamModIdeal.nD) → Buf (Elt Ideal) ((c.tc : Thread Cert.AdamModIdeal.nD Cert.AdamModIdeal.τ).loc Cert.AdamModIdeal.main_v4_1)) (v2 : (c : Dev Cert.AdamModIdeal.nD) → Buf (Elt Ideal) ((c.tc : Thread Cert.AdamModIdeal.nD Cert.AdamModIdeal.τ).loc Cert.AdamModIdeal.main_v4_2)),
      θ_run (Cert.AdamModIdeal.defs (F := Ideal)) (onTc (τ := Cert.AdamModIdeal.τ) (Cert.AdamModIdeal.main (F := Ideal))) ⟨m, fun _ => 0, g⟩ (fun r => ∀ c : Dev Cert.AdamModIdeal.nD,
          r.2.mem ((c.tc : Thread Cert.AdamModIdeal.nD Cert.AdamModIdeal.τ).loc Cert.AdamModIdeal.main_v4_0) = v0 c
          ∧ r.2.mem ((c.tc : Thread Cert.AdamModIdeal.nD Cert.AdamModIdeal.τ).loc Cert.AdamModIdeal.main_v4_1) = v1 c
          ∧ r.2.mem ((c.tc : Thread Cert.AdamModIdeal.nD Cert.AdamModIdeal.τ).loc Cert.AdamModIdeal.main_v4_2) = v2 c
          ∧ r.2.mem ((c.tc : Thread Cert.AdamModIdeal.nD Cert.AdamModIdeal.τ).loc Cert.AdamModIdeal.main_arg0) = m ((c.tc : Thread Cert.AdamModIdeal.nD Cert.AdamModIdeal.τ).loc Cert.AdamModIdeal.main_arg0)
          ∧ r.2.mem ((c.tc : Thread Cert.AdamModIdeal.nD Cert.AdamModIdeal.τ).loc Cert.AdamModIdeal.main_arg1) = m ((c.tc : Thread Cert.AdamModIdeal.nD Cert.AdamModIdeal.τ).loc Cert.AdamModIdeal.main_arg1)
          ∧ r.2.mem ((c.tc : Thread Cert.AdamModIdeal.nD Cert.AdamModIdeal.τ).loc Cert.AdamModIdeal.main_arg2) = m ((c.tc : Thread Cert.AdamModIdeal.nD Cert.AdamModIdeal.τ).loc Cert.AdamModIdeal.main_arg2)
          ∧ r.2.mem ((c.tc : Thread Cert.AdamModIdeal.nD Cert.AdamModIdeal.τ).loc Cert.AdamModIdeal.main_arg3) = m ((c.tc : Thread Cert.AdamModIdeal.nD Cert.AdamModIdeal.τ).loc Cert.AdamModIdeal.main_arg3))
      ∧ θ_run (Cert.AdamModRefIdeal.defs (F := Ideal)) (onTc (τ := Cert.AdamModRefIdeal.τ) (Cert.AdamModRefIdeal.main (F := Ideal))) ⟨m', fun _ => 0, g'⟩ (fun r => ∀ c : Dev Cert.AdamModRefIdeal.nD,
          r.2.mem ((c.tc : Thread Cert.AdamModRefIdeal.nD Cert.AdamModRefIdeal.τ).loc Cert.AdamModRefIdeal.main_v24) = v0 c
          ∧ r.2.mem ((c.tc : Thread Cert.AdamModRefIdeal.nD Cert.AdamModRefIdeal.τ).loc Cert.AdamModRefIdeal.main_v25) = v1 c
          ∧ r.2.mem ((c.tc : Thread Cert.AdamModRefIdeal.nD Cert.AdamModRefIdeal.τ).loc Cert.AdamModRefIdeal.main_v26) = v2 c
          ∧ r.2.mem ((c.tc : Thread Cert.AdamModRefIdeal.nD Cert.AdamModRefIdeal.τ).loc Cert.AdamModRefIdeal.main_arg0) = m' ((c.tc : Thread Cert.AdamModRefIdeal.nD Cert.AdamModRefIdeal.τ).loc Cert.AdamModRefIdeal.main_arg0)
          ∧ r.2.mem ((c.tc : Thread Cert.AdamModRefIdeal.nD Cert.AdamModRefIdeal.τ).loc Cert.AdamModRefIdeal.main_arg1) = m' ((c.tc : Thread Cert.AdamModRefIdeal.nD Cert.AdamModRefIdeal.τ).loc Cert.AdamModRefIdeal.main_arg1)
          ∧ r.2.mem ((c.tc : Thread Cert.AdamModRefIdeal.nD Cert.AdamModRefIdeal.τ).loc Cert.AdamModRefIdeal.main_arg2) = m' ((c.tc : Thread Cert.AdamModRefIdeal.nD Cert.AdamModRefIdeal.τ).loc Cert.AdamModRefIdeal.main_arg2)
          ∧ r.2.mem ((c.tc : Thread Cert.AdamModRefIdeal.nD Cert.AdamModRefIdeal.τ).loc Cert.AdamModRefIdeal.main_arg3) = m' ((c.tc : Thread Cert.AdamModRefIdeal.nD Cert.AdamModRefIdeal.τ).loc Cert.AdamModRefIdeal.main_arg3))

def preserves_AdamModBias_AdamModBiasIdeal : Prop :=
  IdealRules.named_const.Statement Cert.AdamModBiasIdeal.κ "c1" .f32 0x3FC48605#32 ((8388608 / 5463681 : ℝ) : EReal)
  ∧ IdealRules.named_const.Statement Cert.AdamModBiasIdeal.κ "c2" .f32 0x42C8E6D3#32 ((268435456 / 2672307 : ℝ) : EReal)

def algebraic_AdamModBiasIdeal_AdamModBiasRefIdeal [hAdamModBiasIdeal : Cert.AdamModBiasIdeal.Facts] [hAdamModBiasRefIdeal : Cert.AdamModBiasRefIdeal.Facts] : Prop :=
  ∀ (m : (ℓ : Loc Cert.AdamModBiasIdeal.nD Cert.AdamModBiasIdeal.τ Cert.AdamModBiasIdeal.sig) → Buf (Elt Ideal) ℓ) (g : Dev Cert.AdamModBiasIdeal.nD → PrngReg)
    (m' : (ℓ : Loc Cert.AdamModBiasRefIdeal.nD Cert.AdamModBiasRefIdeal.τ Cert.AdamModBiasRefIdeal.sig) → Buf (Elt Ideal) ℓ) (g' : Dev Cert.AdamModBiasRefIdeal.nD → PrngReg), Pre_AdamModBiasIdeal m →
    (∀ c : Dev Cert.AdamModBiasIdeal.nD,
      m' ((c.tc : Thread Cert.AdamModBiasRefIdeal.nD Cert.AdamModBiasRefIdeal.τ).loc Cert.AdamModBiasRefIdeal.main_arg0) = m ((c.tc : Thread Cert.AdamModBiasIdeal.nD Cert.AdamModBiasIdeal.τ).loc Cert.AdamModBiasIdeal.main_arg0)
      ∧ m' ((c.tc : Thread Cert.AdamModBiasRefIdeal.nD Cert.AdamModBiasRefIdeal.τ).loc Cert.AdamModBiasRefIdeal.main_arg1) = m ((c.tc : Thread Cert.AdamModBiasIdeal.nD Cert.AdamModBiasIdeal.τ).loc Cert.AdamModBiasIdeal.main_arg1)
      ∧ m' ((c.tc : Thread Cert.AdamModBiasRefIdeal.nD Cert.AdamModBiasRefIdeal.τ).loc Cert.AdamModBiasRefIdeal.main_arg2) = m ((c.tc : Thread Cert.AdamModBiasIdeal.nD Cert.AdamModBiasIdeal.τ).loc Cert.AdamModBiasIdeal.main_arg2)
      ∧ m' ((c.tc : Thread Cert.AdamModBiasRefIdeal.nD Cert.AdamModBiasRefIdeal.τ).loc Cert.AdamModBiasRefIdeal.main_arg3) = m ((c.tc : Thread Cert.AdamModBiasIdeal.nD Cert.AdamModBiasIdeal.τ).loc Cert.AdamModBiasIdeal.main_arg3)) →
    ∃ (v0 : (c : Dev Cert.AdamModBiasIdeal.nD) → Buf (Elt Ideal) ((c.tc : Thread Cert.AdamModBiasIdeal.nD Cert.AdamModBiasIdeal.τ).loc Cert.AdamModBiasIdeal.main_v0_0)) (v1 : (c : Dev Cert.AdamModBiasIdeal.nD) → Buf (Elt Ideal) ((c.tc : Thread Cert.AdamModBiasIdeal.nD Cert.AdamModBiasIdeal.τ).loc Cert.AdamModBiasIdeal.main_v0_1)) (v2 : (c : Dev Cert.AdamModBiasIdeal.nD) → Buf (Elt Ideal) ((c.tc : Thread Cert.AdamModBiasIdeal.nD Cert.AdamModBiasIdeal.τ).loc Cert.AdamModBiasIdeal.main_v0_2)),
      θ_run (Cert.AdamModBiasIdeal.defs (F := Ideal)) (onTc (τ := Cert.AdamModBiasIdeal.τ) (Cert.AdamModBiasIdeal.main (F := Ideal))) ⟨m, fun _ => 0, g⟩ (fun r => ∀ c : Dev Cert.AdamModBiasIdeal.nD,
          r.2.mem ((c.tc : Thread Cert.AdamModBiasIdeal.nD Cert.AdamModBiasIdeal.τ).loc Cert.AdamModBiasIdeal.main_v0_0) = v0 c
          ∧ r.2.mem ((c.tc : Thread Cert.AdamModBiasIdeal.nD Cert.AdamModBiasIdeal.τ).loc Cert.AdamModBiasIdeal.main_v0_1) = v1 c
          ∧ r.2.mem ((c.tc : Thread Cert.AdamModBiasIdeal.nD Cert.AdamModBiasIdeal.τ).loc Cert.AdamModBiasIdeal.main_v0_2) = v2 c
          ∧ r.2.mem ((c.tc : Thread Cert.AdamModBiasIdeal.nD Cert.AdamModBiasIdeal.τ).loc Cert.AdamModBiasIdeal.main_arg0) = m ((c.tc : Thread Cert.AdamModBiasIdeal.nD Cert.AdamModBiasIdeal.τ).loc Cert.AdamModBiasIdeal.main_arg0)
          ∧ r.2.mem ((c.tc : Thread Cert.AdamModBiasIdeal.nD Cert.AdamModBiasIdeal.τ).loc Cert.AdamModBiasIdeal.main_arg1) = m ((c.tc : Thread Cert.AdamModBiasIdeal.nD Cert.AdamModBiasIdeal.τ).loc Cert.AdamModBiasIdeal.main_arg1)
          ∧ r.2.mem ((c.tc : Thread Cert.AdamModBiasIdeal.nD Cert.AdamModBiasIdeal.τ).loc Cert.AdamModBiasIdeal.main_arg2) = m ((c.tc : Thread Cert.AdamModBiasIdeal.nD Cert.AdamModBiasIdeal.τ).loc Cert.AdamModBiasIdeal.main_arg2)
          ∧ r.2.mem ((c.tc : Thread Cert.AdamModBiasIdeal.nD Cert.AdamModBiasIdeal.τ).loc Cert.AdamModBiasIdeal.main_arg3) = m ((c.tc : Thread Cert.AdamModBiasIdeal.nD Cert.AdamModBiasIdeal.τ).loc Cert.AdamModBiasIdeal.main_arg3))
      ∧ θ_run (Cert.AdamModBiasRefIdeal.defs (F := Ideal)) (onTc (τ := Cert.AdamModBiasRefIdeal.τ) (Cert.AdamModBiasRefIdeal.main (F := Ideal))) ⟨m', fun _ => 0, g'⟩ (fun r => ∀ c : Dev Cert.AdamModBiasRefIdeal.nD,
          r.2.mem ((c.tc : Thread Cert.AdamModBiasRefIdeal.nD Cert.AdamModBiasRefIdeal.τ).loc Cert.AdamModBiasRefIdeal.main_v23) = v0 c
          ∧ r.2.mem ((c.tc : Thread Cert.AdamModBiasRefIdeal.nD Cert.AdamModBiasRefIdeal.τ).loc Cert.AdamModBiasRefIdeal.main_v4) = v1 c
          ∧ r.2.mem ((c.tc : Thread Cert.AdamModBiasRefIdeal.nD Cert.AdamModBiasRefIdeal.τ).loc Cert.AdamModBiasRefIdeal.main_v10) = v2 c
          ∧ r.2.mem ((c.tc : Thread Cert.AdamModBiasRefIdeal.nD Cert.AdamModBiasRefIdeal.τ).loc Cert.AdamModBiasRefIdeal.main_arg0) = m' ((c.tc : Thread Cert.AdamModBiasRefIdeal.nD Cert.AdamModBiasRefIdeal.τ).loc Cert.AdamModBiasRefIdeal.main_arg0)
          ∧ r.2.mem ((c.tc : Thread Cert.AdamModBiasRefIdeal.nD Cert.AdamModBiasRefIdeal.τ).loc Cert.AdamModBiasRefIdeal.main_arg1) = m' ((c.tc : Thread Cert.AdamModBiasRefIdeal.nD Cert.AdamModBiasRefIdeal.τ).loc Cert.AdamModBiasRefIdeal.main_arg1)
          ∧ r.2.mem ((c.tc : Thread Cert.AdamModBiasRefIdeal.nD Cert.AdamModBiasRefIdeal.τ).loc Cert.AdamModBiasRefIdeal.main_arg2) = m' ((c.tc : Thread Cert.AdamModBiasRefIdeal.nD Cert.AdamModBiasRefIdeal.τ).loc Cert.AdamModBiasRefIdeal.main_arg2)
          ∧ r.2.mem ((c.tc : Thread Cert.AdamModBiasRefIdeal.nD Cert.AdamModBiasRefIdeal.τ).loc Cert.AdamModBiasRefIdeal.main_arg3) = m' ((c.tc : Thread Cert.AdamModBiasRefIdeal.nD Cert.AdamModBiasRefIdeal.τ).loc Cert.AdamModBiasRefIdeal.main_arg3))

def preserves_AdamNorm_AdamNormIdeal : Prop :=
  IdealRules.named_const.Statement Cert.AdamNormIdeal.κ "c1" .f32 0x3FC48605#32 ((8388608 / 5463681 : ℝ) : EReal)
  ∧ IdealRules.named_const.Statement Cert.AdamNormIdeal.κ "c2" .f32 0x42C8E6D3#32 ((268435456 / 2672307 : ℝ) : EReal)

def algebraic_AdamNormIdeal_AdamNormRefIdeal [hAdamNormIdeal : Cert.AdamNormIdeal.Facts] [hAdamNormRefIdeal : Cert.AdamNormRefIdeal.Facts] : Prop :=
  ∀ (m : (ℓ : Loc Cert.AdamNormIdeal.nD Cert.AdamNormIdeal.τ Cert.AdamNormIdeal.sig) → Buf (Elt Ideal) ℓ) (g : Dev Cert.AdamNormIdeal.nD → PrngReg)
    (m' : (ℓ : Loc Cert.AdamNormRefIdeal.nD Cert.AdamNormRefIdeal.τ Cert.AdamNormRefIdeal.sig) → Buf (Elt Ideal) ℓ) (g' : Dev Cert.AdamNormRefIdeal.nD → PrngReg), Pre_AdamNormIdeal m →
    (∀ c : Dev Cert.AdamNormIdeal.nD,
      m' ((c.tc : Thread Cert.AdamNormRefIdeal.nD Cert.AdamNormRefIdeal.τ).loc Cert.AdamNormRefIdeal.main_arg0) = m ((c.tc : Thread Cert.AdamNormIdeal.nD Cert.AdamNormIdeal.τ).loc Cert.AdamNormIdeal.main_arg0)
      ∧ m' ((c.tc : Thread Cert.AdamNormRefIdeal.nD Cert.AdamNormRefIdeal.τ).loc Cert.AdamNormRefIdeal.main_arg1) = m ((c.tc : Thread Cert.AdamNormIdeal.nD Cert.AdamNormIdeal.τ).loc Cert.AdamNormIdeal.main_arg1)
      ∧ m' ((c.tc : Thread Cert.AdamNormRefIdeal.nD Cert.AdamNormRefIdeal.τ).loc Cert.AdamNormRefIdeal.main_arg2) = m ((c.tc : Thread Cert.AdamNormIdeal.nD Cert.AdamNormIdeal.τ).loc Cert.AdamNormIdeal.main_arg2)
      ∧ m' ((c.tc : Thread Cert.AdamNormRefIdeal.nD Cert.AdamNormRefIdeal.τ).loc Cert.AdamNormRefIdeal.main_arg3) = m ((c.tc : Thread Cert.AdamNormIdeal.nD Cert.AdamNormIdeal.τ).loc Cert.AdamNormIdeal.main_arg3)) →
    ∃ (v0 : (c : Dev Cert.AdamNormIdeal.nD) → Buf (Elt Ideal) ((c.tc : Thread Cert.AdamNormIdeal.nD Cert.AdamNormIdeal.τ).loc Cert.AdamNormIdeal.main_v0_0)) (v1 : (c : Dev Cert.AdamNormIdeal.nD) → Buf (Elt Ideal) ((c.tc : Thread Cert.AdamNormIdeal.nD Cert.AdamNormIdeal.τ).loc Cert.AdamNormIdeal.main_v0_1)) (v2 : (c : Dev Cert.AdamNormIdeal.nD) → Buf (Elt Ideal) ((c.tc : Thread Cert.AdamNormIdeal.nD Cert.AdamNormIdeal.τ).loc Cert.AdamNormIdeal.main_v0_2)),
      θ_run (Cert.AdamNormIdeal.defs (F := Ideal)) (onTc (τ := Cert.AdamNormIdeal.τ) (Cert.AdamNormIdeal.main (F := Ideal))) ⟨m, fun _ => 0, g⟩ (fun r => ∀ c : Dev Cert.AdamNormIdeal.nD,
          r.2.mem ((c.tc : Thread Cert.AdamNormIdeal.nD Cert.AdamNormIdeal.τ).loc Cert.AdamNormIdeal.main_v0_0) = v0 c
          ∧ r.2.mem ((c.tc : Thread Cert.AdamNormIdeal.nD Cert.AdamNormIdeal.τ).loc Cert.AdamNormIdeal.main_v0_1) = v1 c
          ∧ r.2.mem ((c.tc : Thread Cert.AdamNormIdeal.nD Cert.AdamNormIdeal.τ).loc Cert.AdamNormIdeal.main_v0_2) = v2 c
          ∧ r.2.mem ((c.tc : Thread Cert.AdamNormIdeal.nD Cert.AdamNormIdeal.τ).loc Cert.AdamNormIdeal.main_arg0) = m ((c.tc : Thread Cert.AdamNormIdeal.nD Cert.AdamNormIdeal.τ).loc Cert.AdamNormIdeal.main_arg0)
          ∧ r.2.mem ((c.tc : Thread Cert.AdamNormIdeal.nD Cert.AdamNormIdeal.τ).loc Cert.AdamNormIdeal.main_arg1) = m ((c.tc : Thread Cert.AdamNormIdeal.nD Cert.AdamNormIdeal.τ).loc Cert.AdamNormIdeal.main_arg1)
          ∧ r.2.mem ((c.tc : Thread Cert.AdamNormIdeal.nD Cert.AdamNormIdeal.τ).loc Cert.AdamNormIdeal.main_arg2) = m ((c.tc : Thread Cert.AdamNormIdeal.nD Cert.AdamNormIdeal.τ).loc Cert.AdamNormIdeal.main_arg2)
          ∧ r.2.mem ((c.tc : Thread Cert.AdamNormIdeal.nD Cert.AdamNormIdeal.τ).loc Cert.AdamNormIdeal.main_arg3) = m ((c.tc : Thread Cert.AdamNormIdeal.nD Cert.AdamNormIdeal.τ).loc Cert.AdamNormIdeal.main_arg3))
      ∧ θ_run (Cert.AdamNormRefIdeal.defs (F := Ideal)) (onTc (τ := Cert.AdamNormRefIdeal.τ) (Cert.AdamNormRefIdeal.main (F := Ideal))) ⟨m', fun _ => 0, g'⟩ (fun r => ∀ c : Dev Cert.AdamNormRefIdeal.nD,
          r.2.mem ((c.tc : Thread Cert.AdamNormRefIdeal.nD Cert.AdamNormRefIdeal.τ).loc Cert.AdamNormRefIdeal.main_v23) = v0 c
          ∧ r.2.mem ((c.tc : Thread Cert.AdamNormRefIdeal.nD Cert.AdamNormRefIdeal.τ).loc Cert.AdamNormRefIdeal.main_v4) = v1 c
          ∧ r.2.mem ((c.tc : Thread Cert.AdamNormRefIdeal.nD Cert.AdamNormRefIdeal.τ).loc Cert.AdamNormRefIdeal.main_v10) = v2 c
          ∧ r.2.mem ((c.tc : Thread Cert.AdamNormRefIdeal.nD Cert.AdamNormRefIdeal.τ).loc Cert.AdamNormRefIdeal.main_arg0) = m' ((c.tc : Thread Cert.AdamNormRefIdeal.nD Cert.AdamNormRefIdeal.τ).loc Cert.AdamNormRefIdeal.main_arg0)
          ∧ r.2.mem ((c.tc : Thread Cert.AdamNormRefIdeal.nD Cert.AdamNormRefIdeal.τ).loc Cert.AdamNormRefIdeal.main_arg1) = m' ((c.tc : Thread Cert.AdamNormRefIdeal.nD Cert.AdamNormRefIdeal.τ).loc Cert.AdamNormRefIdeal.main_arg1)
          ∧ r.2.mem ((c.tc : Thread Cert.AdamNormRefIdeal.nD Cert.AdamNormRefIdeal.τ).loc Cert.AdamNormRefIdeal.main_arg2) = m' ((c.tc : Thread Cert.AdamNormRefIdeal.nD Cert.AdamNormRefIdeal.τ).loc Cert.AdamNormRefIdeal.main_arg2)
          ∧ r.2.mem ((c.tc : Thread Cert.AdamNormRefIdeal.nD Cert.AdamNormRefIdeal.τ).loc Cert.AdamNormRefIdeal.main_arg3) = m' ((c.tc : Thread Cert.AdamNormRefIdeal.nD Cert.AdamNormRefIdeal.τ).loc Cert.AdamNormRefIdeal.main_arg3))

def preserves_AdamQkv_AdamQkvIdeal : Prop :=
  IdealRules.named_const.Statement Cert.AdamQkvIdeal.κ "c1" .f32 0x3FC48605#32 ((8388608 / 5463681 : ℝ) : EReal)
  ∧ IdealRules.named_const.Statement Cert.AdamQkvIdeal.κ "c2" .f32 0x42C8E6D3#32 ((268435456 / 2672307 : ℝ) : EReal)

def algebraic_AdamQkvIdeal_AdamQkvRefIdeal [hAdamQkvIdeal : Cert.AdamQkvIdeal.Facts] [hAdamQkvRefIdeal : Cert.AdamQkvRefIdeal.Facts] : Prop :=
  ∀ (m : (ℓ : Loc Cert.AdamQkvIdeal.nD Cert.AdamQkvIdeal.τ Cert.AdamQkvIdeal.sig) → Buf (Elt Ideal) ℓ) (g : Dev Cert.AdamQkvIdeal.nD → PrngReg)
    (m' : (ℓ : Loc Cert.AdamQkvRefIdeal.nD Cert.AdamQkvRefIdeal.τ Cert.AdamQkvRefIdeal.sig) → Buf (Elt Ideal) ℓ) (g' : Dev Cert.AdamQkvRefIdeal.nD → PrngReg), Pre_AdamQkvIdeal m →
    (∀ c : Dev Cert.AdamQkvIdeal.nD,
      m' ((c.tc : Thread Cert.AdamQkvRefIdeal.nD Cert.AdamQkvRefIdeal.τ).loc Cert.AdamQkvRefIdeal.main_arg0) = m ((c.tc : Thread Cert.AdamQkvIdeal.nD Cert.AdamQkvIdeal.τ).loc Cert.AdamQkvIdeal.main_arg0)
      ∧ m' ((c.tc : Thread Cert.AdamQkvRefIdeal.nD Cert.AdamQkvRefIdeal.τ).loc Cert.AdamQkvRefIdeal.main_arg1) = m ((c.tc : Thread Cert.AdamQkvIdeal.nD Cert.AdamQkvIdeal.τ).loc Cert.AdamQkvIdeal.main_arg1)
      ∧ m' ((c.tc : Thread Cert.AdamQkvRefIdeal.nD Cert.AdamQkvRefIdeal.τ).loc Cert.AdamQkvRefIdeal.main_arg2) = m ((c.tc : Thread Cert.AdamQkvIdeal.nD Cert.AdamQkvIdeal.τ).loc Cert.AdamQkvIdeal.main_arg2)
      ∧ m' ((c.tc : Thread Cert.AdamQkvRefIdeal.nD Cert.AdamQkvRefIdeal.τ).loc Cert.AdamQkvRefIdeal.main_arg3) = m ((c.tc : Thread Cert.AdamQkvIdeal.nD Cert.AdamQkvIdeal.τ).loc Cert.AdamQkvIdeal.main_arg3)) →
    ∃ (v0 : (c : Dev Cert.AdamQkvIdeal.nD) → Buf (Elt Ideal) ((c.tc : Thread Cert.AdamQkvIdeal.nD Cert.AdamQkvIdeal.τ).loc Cert.AdamQkvIdeal.main_v4_0)) (v1 : (c : Dev Cert.AdamQkvIdeal.nD) → Buf (Elt Ideal) ((c.tc : Thread Cert.AdamQkvIdeal.nD Cert.AdamQkvIdeal.τ).loc Cert.AdamQkvIdeal.main_v4_1)) (v2 : (c : Dev Cert.AdamQkvIdeal.nD) → Buf (Elt Ideal) ((c.tc : Thread Cert.AdamQkvIdeal.nD Cert.AdamQkvIdeal.τ).loc Cert.AdamQkvIdeal.main_v4_2)),
      θ_run (Cert.AdamQkvIdeal.defs (F := Ideal)) (onTc (τ := Cert.AdamQkvIdeal.τ) (Cert.AdamQkvIdeal.main (F := Ideal))) ⟨m, fun _ => 0, g⟩ (fun r => ∀ c : Dev Cert.AdamQkvIdeal.nD,
          r.2.mem ((c.tc : Thread Cert.AdamQkvIdeal.nD Cert.AdamQkvIdeal.τ).loc Cert.AdamQkvIdeal.main_v4_0) = v0 c
          ∧ r.2.mem ((c.tc : Thread Cert.AdamQkvIdeal.nD Cert.AdamQkvIdeal.τ).loc Cert.AdamQkvIdeal.main_v4_1) = v1 c
          ∧ r.2.mem ((c.tc : Thread Cert.AdamQkvIdeal.nD Cert.AdamQkvIdeal.τ).loc Cert.AdamQkvIdeal.main_v4_2) = v2 c
          ∧ r.2.mem ((c.tc : Thread Cert.AdamQkvIdeal.nD Cert.AdamQkvIdeal.τ).loc Cert.AdamQkvIdeal.main_arg0) = m ((c.tc : Thread Cert.AdamQkvIdeal.nD Cert.AdamQkvIdeal.τ).loc Cert.AdamQkvIdeal.main_arg0)
          ∧ r.2.mem ((c.tc : Thread Cert.AdamQkvIdeal.nD Cert.AdamQkvIdeal.τ).loc Cert.AdamQkvIdeal.main_arg1) = m ((c.tc : Thread Cert.AdamQkvIdeal.nD Cert.AdamQkvIdeal.τ).loc Cert.AdamQkvIdeal.main_arg1)
          ∧ r.2.mem ((c.tc : Thread Cert.AdamQkvIdeal.nD Cert.AdamQkvIdeal.τ).loc Cert.AdamQkvIdeal.main_arg2) = m ((c.tc : Thread Cert.AdamQkvIdeal.nD Cert.AdamQkvIdeal.τ).loc Cert.AdamQkvIdeal.main_arg2)
          ∧ r.2.mem ((c.tc : Thread Cert.AdamQkvIdeal.nD Cert.AdamQkvIdeal.τ).loc Cert.AdamQkvIdeal.main_arg3) = m ((c.tc : Thread Cert.AdamQkvIdeal.nD Cert.AdamQkvIdeal.τ).loc Cert.AdamQkvIdeal.main_arg3))
      ∧ θ_run (Cert.AdamQkvRefIdeal.defs (F := Ideal)) (onTc (τ := Cert.AdamQkvRefIdeal.τ) (Cert.AdamQkvRefIdeal.main (F := Ideal))) ⟨m', fun _ => 0, g'⟩ (fun r => ∀ c : Dev Cert.AdamQkvRefIdeal.nD,
          r.2.mem ((c.tc : Thread Cert.AdamQkvRefIdeal.nD Cert.AdamQkvRefIdeal.τ).loc Cert.AdamQkvRefIdeal.main_v24) = v0 c
          ∧ r.2.mem ((c.tc : Thread Cert.AdamQkvRefIdeal.nD Cert.AdamQkvRefIdeal.τ).loc Cert.AdamQkvRefIdeal.main_v25) = v1 c
          ∧ r.2.mem ((c.tc : Thread Cert.AdamQkvRefIdeal.nD Cert.AdamQkvRefIdeal.τ).loc Cert.AdamQkvRefIdeal.main_v26) = v2 c
          ∧ r.2.mem ((c.tc : Thread Cert.AdamQkvRefIdeal.nD Cert.AdamQkvRefIdeal.τ).loc Cert.AdamQkvRefIdeal.main_arg0) = m' ((c.tc : Thread Cert.AdamQkvRefIdeal.nD Cert.AdamQkvRefIdeal.τ).loc Cert.AdamQkvRefIdeal.main_arg0)
          ∧ r.2.mem ((c.tc : Thread Cert.AdamQkvRefIdeal.nD Cert.AdamQkvRefIdeal.τ).loc Cert.AdamQkvRefIdeal.main_arg1) = m' ((c.tc : Thread Cert.AdamQkvRefIdeal.nD Cert.AdamQkvRefIdeal.τ).loc Cert.AdamQkvRefIdeal.main_arg1)
          ∧ r.2.mem ((c.tc : Thread Cert.AdamQkvRefIdeal.nD Cert.AdamQkvRefIdeal.τ).loc Cert.AdamQkvRefIdeal.main_arg2) = m' ((c.tc : Thread Cert.AdamQkvRefIdeal.nD Cert.AdamQkvRefIdeal.τ).loc Cert.AdamQkvRefIdeal.main_arg2)
          ∧ r.2.mem ((c.tc : Thread Cert.AdamQkvRefIdeal.nD Cert.AdamQkvRefIdeal.τ).loc Cert.AdamQkvRefIdeal.main_arg3) = m' ((c.tc : Thread Cert.AdamQkvRefIdeal.nD Cert.AdamQkvRefIdeal.τ).loc Cert.AdamQkvRefIdeal.main_arg3))

def preserves_AdamO_AdamOIdeal : Prop :=
  IdealRules.named_const.Statement Cert.AdamOIdeal.κ "c1" .f32 0x3FC48605#32 ((8388608 / 5463681 : ℝ) : EReal)
  ∧ IdealRules.named_const.Statement Cert.AdamOIdeal.κ "c2" .f32 0x42C8E6D3#32 ((268435456 / 2672307 : ℝ) : EReal)

def algebraic_AdamOIdeal_AdamORefIdeal [hAdamOIdeal : Cert.AdamOIdeal.Facts] [hAdamORefIdeal : Cert.AdamORefIdeal.Facts] : Prop :=
  ∀ (m : (ℓ : Loc Cert.AdamOIdeal.nD Cert.AdamOIdeal.τ Cert.AdamOIdeal.sig) → Buf (Elt Ideal) ℓ) (g : Dev Cert.AdamOIdeal.nD → PrngReg)
    (m' : (ℓ : Loc Cert.AdamORefIdeal.nD Cert.AdamORefIdeal.τ Cert.AdamORefIdeal.sig) → Buf (Elt Ideal) ℓ) (g' : Dev Cert.AdamORefIdeal.nD → PrngReg), Pre_AdamOIdeal m →
    (∀ c : Dev Cert.AdamOIdeal.nD,
      m' ((c.tc : Thread Cert.AdamORefIdeal.nD Cert.AdamORefIdeal.τ).loc Cert.AdamORefIdeal.main_arg0) = m ((c.tc : Thread Cert.AdamOIdeal.nD Cert.AdamOIdeal.τ).loc Cert.AdamOIdeal.main_arg0)
      ∧ m' ((c.tc : Thread Cert.AdamORefIdeal.nD Cert.AdamORefIdeal.τ).loc Cert.AdamORefIdeal.main_arg1) = m ((c.tc : Thread Cert.AdamOIdeal.nD Cert.AdamOIdeal.τ).loc Cert.AdamOIdeal.main_arg1)
      ∧ m' ((c.tc : Thread Cert.AdamORefIdeal.nD Cert.AdamORefIdeal.τ).loc Cert.AdamORefIdeal.main_arg2) = m ((c.tc : Thread Cert.AdamOIdeal.nD Cert.AdamOIdeal.τ).loc Cert.AdamOIdeal.main_arg2)
      ∧ m' ((c.tc : Thread Cert.AdamORefIdeal.nD Cert.AdamORefIdeal.τ).loc Cert.AdamORefIdeal.main_arg3) = m ((c.tc : Thread Cert.AdamOIdeal.nD Cert.AdamOIdeal.τ).loc Cert.AdamOIdeal.main_arg3)) →
    ∃ (v0 : (c : Dev Cert.AdamOIdeal.nD) → Buf (Elt Ideal) ((c.tc : Thread Cert.AdamOIdeal.nD Cert.AdamOIdeal.τ).loc Cert.AdamOIdeal.main_v4_0)) (v1 : (c : Dev Cert.AdamOIdeal.nD) → Buf (Elt Ideal) ((c.tc : Thread Cert.AdamOIdeal.nD Cert.AdamOIdeal.τ).loc Cert.AdamOIdeal.main_v4_1)) (v2 : (c : Dev Cert.AdamOIdeal.nD) → Buf (Elt Ideal) ((c.tc : Thread Cert.AdamOIdeal.nD Cert.AdamOIdeal.τ).loc Cert.AdamOIdeal.main_v4_2)),
      θ_run (Cert.AdamOIdeal.defs (F := Ideal)) (onTc (τ := Cert.AdamOIdeal.τ) (Cert.AdamOIdeal.main (F := Ideal))) ⟨m, fun _ => 0, g⟩ (fun r => ∀ c : Dev Cert.AdamOIdeal.nD,
          r.2.mem ((c.tc : Thread Cert.AdamOIdeal.nD Cert.AdamOIdeal.τ).loc Cert.AdamOIdeal.main_v4_0) = v0 c
          ∧ r.2.mem ((c.tc : Thread Cert.AdamOIdeal.nD Cert.AdamOIdeal.τ).loc Cert.AdamOIdeal.main_v4_1) = v1 c
          ∧ r.2.mem ((c.tc : Thread Cert.AdamOIdeal.nD Cert.AdamOIdeal.τ).loc Cert.AdamOIdeal.main_v4_2) = v2 c
          ∧ r.2.mem ((c.tc : Thread Cert.AdamOIdeal.nD Cert.AdamOIdeal.τ).loc Cert.AdamOIdeal.main_arg0) = m ((c.tc : Thread Cert.AdamOIdeal.nD Cert.AdamOIdeal.τ).loc Cert.AdamOIdeal.main_arg0)
          ∧ r.2.mem ((c.tc : Thread Cert.AdamOIdeal.nD Cert.AdamOIdeal.τ).loc Cert.AdamOIdeal.main_arg1) = m ((c.tc : Thread Cert.AdamOIdeal.nD Cert.AdamOIdeal.τ).loc Cert.AdamOIdeal.main_arg1)
          ∧ r.2.mem ((c.tc : Thread Cert.AdamOIdeal.nD Cert.AdamOIdeal.τ).loc Cert.AdamOIdeal.main_arg2) = m ((c.tc : Thread Cert.AdamOIdeal.nD Cert.AdamOIdeal.τ).loc Cert.AdamOIdeal.main_arg2)
          ∧ r.2.mem ((c.tc : Thread Cert.AdamOIdeal.nD Cert.AdamOIdeal.τ).loc Cert.AdamOIdeal.main_arg3) = m ((c.tc : Thread Cert.AdamOIdeal.nD Cert.AdamOIdeal.τ).loc Cert.AdamOIdeal.main_arg3))
      ∧ θ_run (Cert.AdamORefIdeal.defs (F := Ideal)) (onTc (τ := Cert.AdamORefIdeal.τ) (Cert.AdamORefIdeal.main (F := Ideal))) ⟨m', fun _ => 0, g'⟩ (fun r => ∀ c : Dev Cert.AdamORefIdeal.nD,
          r.2.mem ((c.tc : Thread Cert.AdamORefIdeal.nD Cert.AdamORefIdeal.τ).loc Cert.AdamORefIdeal.main_v24) = v0 c
          ∧ r.2.mem ((c.tc : Thread Cert.AdamORefIdeal.nD Cert.AdamORefIdeal.τ).loc Cert.AdamORefIdeal.main_v25) = v1 c
          ∧ r.2.mem ((c.tc : Thread Cert.AdamORefIdeal.nD Cert.AdamORefIdeal.τ).loc Cert.AdamORefIdeal.main_v26) = v2 c
          ∧ r.2.mem ((c.tc : Thread Cert.AdamORefIdeal.nD Cert.AdamORefIdeal.τ).loc Cert.AdamORefIdeal.main_arg0) = m' ((c.tc : Thread Cert.AdamORefIdeal.nD Cert.AdamORefIdeal.τ).loc Cert.AdamORefIdeal.main_arg0)
          ∧ r.2.mem ((c.tc : Thread Cert.AdamORefIdeal.nD Cert.AdamORefIdeal.τ).loc Cert.AdamORefIdeal.main_arg1) = m' ((c.tc : Thread Cert.AdamORefIdeal.nD Cert.AdamORefIdeal.τ).loc Cert.AdamORefIdeal.main_arg1)
          ∧ r.2.mem ((c.tc : Thread Cert.AdamORefIdeal.nD Cert.AdamORefIdeal.τ).loc Cert.AdamORefIdeal.main_arg2) = m' ((c.tc : Thread Cert.AdamORefIdeal.nD Cert.AdamORefIdeal.τ).loc Cert.AdamORefIdeal.main_arg2)
          ∧ r.2.mem ((c.tc : Thread Cert.AdamORefIdeal.nD Cert.AdamORefIdeal.τ).loc Cert.AdamORefIdeal.main_arg3) = m' ((c.tc : Thread Cert.AdamORefIdeal.nD Cert.AdamORefIdeal.τ).loc Cert.AdamORefIdeal.main_arg3))

def preserves_AdamForget_AdamForgetIdeal : Prop :=
  IdealRules.named_const.Statement Cert.AdamForgetIdeal.κ "c1" .f32 0x3FC48605#32 ((8388608 / 5463681 : ℝ) : EReal)
  ∧ IdealRules.named_const.Statement Cert.AdamForgetIdeal.κ "c2" .f32 0x42C8E6D3#32 ((268435456 / 2672307 : ℝ) : EReal)

def algebraic_AdamForgetIdeal_AdamForgetRefIdeal [hAdamForgetIdeal : Cert.AdamForgetIdeal.Facts] [hAdamForgetRefIdeal : Cert.AdamForgetRefIdeal.Facts] : Prop :=
  ∀ (m : (ℓ : Loc Cert.AdamForgetIdeal.nD Cert.AdamForgetIdeal.τ Cert.AdamForgetIdeal.sig) → Buf (Elt Ideal) ℓ) (g : Dev Cert.AdamForgetIdeal.nD → PrngReg)
    (m' : (ℓ : Loc Cert.AdamForgetRefIdeal.nD Cert.AdamForgetRefIdeal.τ Cert.AdamForgetRefIdeal.sig) → Buf (Elt Ideal) ℓ) (g' : Dev Cert.AdamForgetRefIdeal.nD → PrngReg), Pre_AdamForgetIdeal m →
    (∀ c : Dev Cert.AdamForgetIdeal.nD,
      m' ((c.tc : Thread Cert.AdamForgetRefIdeal.nD Cert.AdamForgetRefIdeal.τ).loc Cert.AdamForgetRefIdeal.main_arg0) = m ((c.tc : Thread Cert.AdamForgetIdeal.nD Cert.AdamForgetIdeal.τ).loc Cert.AdamForgetIdeal.main_arg0)
      ∧ m' ((c.tc : Thread Cert.AdamForgetRefIdeal.nD Cert.AdamForgetRefIdeal.τ).loc Cert.AdamForgetRefIdeal.main_arg1) = m ((c.tc : Thread Cert.AdamForgetIdeal.nD Cert.AdamForgetIdeal.τ).loc Cert.AdamForgetIdeal.main_arg1)
      ∧ m' ((c.tc : Thread Cert.AdamForgetRefIdeal.nD Cert.AdamForgetRefIdeal.τ).loc Cert.AdamForgetRefIdeal.main_arg2) = m ((c.tc : Thread Cert.AdamForgetIdeal.nD Cert.AdamForgetIdeal.τ).loc Cert.AdamForgetIdeal.main_arg2)
      ∧ m' ((c.tc : Thread Cert.AdamForgetRefIdeal.nD Cert.AdamForgetRefIdeal.τ).loc Cert.AdamForgetRefIdeal.main_arg3) = m ((c.tc : Thread Cert.AdamForgetIdeal.nD Cert.AdamForgetIdeal.τ).loc Cert.AdamForgetIdeal.main_arg3)) →
    ∃ (v0 : (c : Dev Cert.AdamForgetIdeal.nD) → Buf (Elt Ideal) ((c.tc : Thread Cert.AdamForgetIdeal.nD Cert.AdamForgetIdeal.τ).loc Cert.AdamForgetIdeal.main_v4_0)) (v1 : (c : Dev Cert.AdamForgetIdeal.nD) → Buf (Elt Ideal) ((c.tc : Thread Cert.AdamForgetIdeal.nD Cert.AdamForgetIdeal.τ).loc Cert.AdamForgetIdeal.main_v4_1)) (v2 : (c : Dev Cert.AdamForgetIdeal.nD) → Buf (Elt Ideal) ((c.tc : Thread Cert.AdamForgetIdeal.nD Cert.AdamForgetIdeal.τ).loc Cert.AdamForgetIdeal.main_v4_2)),
      θ_run (Cert.AdamForgetIdeal.defs (F := Ideal)) (onTc (τ := Cert.AdamForgetIdeal.τ) (Cert.AdamForgetIdeal.main (F := Ideal))) ⟨m, fun _ => 0, g⟩ (fun r => ∀ c : Dev Cert.AdamForgetIdeal.nD,
          r.2.mem ((c.tc : Thread Cert.AdamForgetIdeal.nD Cert.AdamForgetIdeal.τ).loc Cert.AdamForgetIdeal.main_v4_0) = v0 c
          ∧ r.2.mem ((c.tc : Thread Cert.AdamForgetIdeal.nD Cert.AdamForgetIdeal.τ).loc Cert.AdamForgetIdeal.main_v4_1) = v1 c
          ∧ r.2.mem ((c.tc : Thread Cert.AdamForgetIdeal.nD Cert.AdamForgetIdeal.τ).loc Cert.AdamForgetIdeal.main_v4_2) = v2 c
          ∧ r.2.mem ((c.tc : Thread Cert.AdamForgetIdeal.nD Cert.AdamForgetIdeal.τ).loc Cert.AdamForgetIdeal.main_arg0) = m ((c.tc : Thread Cert.AdamForgetIdeal.nD Cert.AdamForgetIdeal.τ).loc Cert.AdamForgetIdeal.main_arg0)
          ∧ r.2.mem ((c.tc : Thread Cert.AdamForgetIdeal.nD Cert.AdamForgetIdeal.τ).loc Cert.AdamForgetIdeal.main_arg1) = m ((c.tc : Thread Cert.AdamForgetIdeal.nD Cert.AdamForgetIdeal.τ).loc Cert.AdamForgetIdeal.main_arg1)
          ∧ r.2.mem ((c.tc : Thread Cert.AdamForgetIdeal.nD Cert.AdamForgetIdeal.τ).loc Cert.AdamForgetIdeal.main_arg2) = m ((c.tc : Thread Cert.AdamForgetIdeal.nD Cert.AdamForgetIdeal.τ).loc Cert.AdamForgetIdeal.main_arg2)
          ∧ r.2.mem ((c.tc : Thread Cert.AdamForgetIdeal.nD Cert.AdamForgetIdeal.τ).loc Cert.AdamForgetIdeal.main_arg3) = m ((c.tc : Thread Cert.AdamForgetIdeal.nD Cert.AdamForgetIdeal.τ).loc Cert.AdamForgetIdeal.main_arg3))
      ∧ θ_run (Cert.AdamForgetRefIdeal.defs (F := Ideal)) (onTc (τ := Cert.AdamForgetRefIdeal.τ) (Cert.AdamForgetRefIdeal.main (F := Ideal))) ⟨m', fun _ => 0, g'⟩ (fun r => ∀ c : Dev Cert.AdamForgetRefIdeal.nD,
          r.2.mem ((c.tc : Thread Cert.AdamForgetRefIdeal.nD Cert.AdamForgetRefIdeal.τ).loc Cert.AdamForgetRefIdeal.main_v24) = v0 c
          ∧ r.2.mem ((c.tc : Thread Cert.AdamForgetRefIdeal.nD Cert.AdamForgetRefIdeal.τ).loc Cert.AdamForgetRefIdeal.main_v25) = v1 c
          ∧ r.2.mem ((c.tc : Thread Cert.AdamForgetRefIdeal.nD Cert.AdamForgetRefIdeal.τ).loc Cert.AdamForgetRefIdeal.main_v26) = v2 c
          ∧ r.2.mem ((c.tc : Thread Cert.AdamForgetRefIdeal.nD Cert.AdamForgetRefIdeal.τ).loc Cert.AdamForgetRefIdeal.main_arg0) = m' ((c.tc : Thread Cert.AdamForgetRefIdeal.nD Cert.AdamForgetRefIdeal.τ).loc Cert.AdamForgetRefIdeal.main_arg0)
          ∧ r.2.mem ((c.tc : Thread Cert.AdamForgetRefIdeal.nD Cert.AdamForgetRefIdeal.τ).loc Cert.AdamForgetRefIdeal.main_arg1) = m' ((c.tc : Thread Cert.AdamForgetRefIdeal.nD Cert.AdamForgetRefIdeal.τ).loc Cert.AdamForgetRefIdeal.main_arg1)
          ∧ r.2.mem ((c.tc : Thread Cert.AdamForgetRefIdeal.nD Cert.AdamForgetRefIdeal.τ).loc Cert.AdamForgetRefIdeal.main_arg2) = m' ((c.tc : Thread Cert.AdamForgetRefIdeal.nD Cert.AdamForgetRefIdeal.τ).loc Cert.AdamForgetRefIdeal.main_arg2)
          ∧ r.2.mem ((c.tc : Thread Cert.AdamForgetRefIdeal.nD Cert.AdamForgetRefIdeal.τ).loc Cert.AdamForgetRefIdeal.main_arg3) = m' ((c.tc : Thread Cert.AdamForgetRefIdeal.nD Cert.AdamForgetRefIdeal.τ).loc Cert.AdamForgetRefIdeal.main_arg3))

def preserves_AdamForgetBias_AdamForgetBiasIdeal : Prop :=
  IdealRules.named_const.Statement Cert.AdamForgetBiasIdeal.κ "c1" .f32 0x3FC48605#32 ((8388608 / 5463681 : ℝ) : EReal)
  ∧ IdealRules.named_const.Statement Cert.AdamForgetBiasIdeal.κ "c2" .f32 0x42C8E6D3#32 ((268435456 / 2672307 : ℝ) : EReal)

def algebraic_AdamForgetBiasIdeal_AdamForgetBiasRefIdeal [hAdamForgetBiasIdeal : Cert.AdamForgetBiasIdeal.Facts] [hAdamForgetBiasRefIdeal : Cert.AdamForgetBiasRefIdeal.Facts] : Prop :=
  ∀ (m : (ℓ : Loc Cert.AdamForgetBiasIdeal.nD Cert.AdamForgetBiasIdeal.τ Cert.AdamForgetBiasIdeal.sig) → Buf (Elt Ideal) ℓ) (g : Dev Cert.AdamForgetBiasIdeal.nD → PrngReg)
    (m' : (ℓ : Loc Cert.AdamForgetBiasRefIdeal.nD Cert.AdamForgetBiasRefIdeal.τ Cert.AdamForgetBiasRefIdeal.sig) → Buf (Elt Ideal) ℓ) (g' : Dev Cert.AdamForgetBiasRefIdeal.nD → PrngReg), Pre_AdamForgetBiasIdeal m →
    (∀ c : Dev Cert.AdamForgetBiasIdeal.nD,
      m' ((c.tc : Thread Cert.AdamForgetBiasRefIdeal.nD Cert.AdamForgetBiasRefIdeal.τ).loc Cert.AdamForgetBiasRefIdeal.main_arg0) = m ((c.tc : Thread Cert.AdamForgetBiasIdeal.nD Cert.AdamForgetBiasIdeal.τ).loc Cert.AdamForgetBiasIdeal.main_arg0)
      ∧ m' ((c.tc : Thread Cert.AdamForgetBiasRefIdeal.nD Cert.AdamForgetBiasRefIdeal.τ).loc Cert.AdamForgetBiasRefIdeal.main_arg1) = m ((c.tc : Thread Cert.AdamForgetBiasIdeal.nD Cert.AdamForgetBiasIdeal.τ).loc Cert.AdamForgetBiasIdeal.main_arg1)
      ∧ m' ((c.tc : Thread Cert.AdamForgetBiasRefIdeal.nD Cert.AdamForgetBiasRefIdeal.τ).loc Cert.AdamForgetBiasRefIdeal.main_arg2) = m ((c.tc : Thread Cert.AdamForgetBiasIdeal.nD Cert.AdamForgetBiasIdeal.τ).loc Cert.AdamForgetBiasIdeal.main_arg2)
      ∧ m' ((c.tc : Thread Cert.AdamForgetBiasRefIdeal.nD Cert.AdamForgetBiasRefIdeal.τ).loc Cert.AdamForgetBiasRefIdeal.main_arg3) = m ((c.tc : Thread Cert.AdamForgetBiasIdeal.nD Cert.AdamForgetBiasIdeal.τ).loc Cert.AdamForgetBiasIdeal.main_arg3)) →
    ∃ (v0 : (c : Dev Cert.AdamForgetBiasIdeal.nD) → Buf (Elt Ideal) ((c.tc : Thread Cert.AdamForgetBiasIdeal.nD Cert.AdamForgetBiasIdeal.τ).loc Cert.AdamForgetBiasIdeal.main_v0_0)) (v1 : (c : Dev Cert.AdamForgetBiasIdeal.nD) → Buf (Elt Ideal) ((c.tc : Thread Cert.AdamForgetBiasIdeal.nD Cert.AdamForgetBiasIdeal.τ).loc Cert.AdamForgetBiasIdeal.main_v0_1)) (v2 : (c : Dev Cert.AdamForgetBiasIdeal.nD) → Buf (Elt Ideal) ((c.tc : Thread Cert.AdamForgetBiasIdeal.nD Cert.AdamForgetBiasIdeal.τ).loc Cert.AdamForgetBiasIdeal.main_v0_2)),
      θ_run (Cert.AdamForgetBiasIdeal.defs (F := Ideal)) (onTc (τ := Cert.AdamForgetBiasIdeal.τ) (Cert.AdamForgetBiasIdeal.main (F := Ideal))) ⟨m, fun _ => 0, g⟩ (fun r => ∀ c : Dev Cert.AdamForgetBiasIdeal.nD,
          r.2.mem ((c.tc : Thread Cert.AdamForgetBiasIdeal.nD Cert.AdamForgetBiasIdeal.τ).loc Cert.AdamForgetBiasIdeal.main_v0_0) = v0 c
          ∧ r.2.mem ((c.tc : Thread Cert.AdamForgetBiasIdeal.nD Cert.AdamForgetBiasIdeal.τ).loc Cert.AdamForgetBiasIdeal.main_v0_1) = v1 c
          ∧ r.2.mem ((c.tc : Thread Cert.AdamForgetBiasIdeal.nD Cert.AdamForgetBiasIdeal.τ).loc Cert.AdamForgetBiasIdeal.main_v0_2) = v2 c
          ∧ r.2.mem ((c.tc : Thread Cert.AdamForgetBiasIdeal.nD Cert.AdamForgetBiasIdeal.τ).loc Cert.AdamForgetBiasIdeal.main_arg0) = m ((c.tc : Thread Cert.AdamForgetBiasIdeal.nD Cert.AdamForgetBiasIdeal.τ).loc Cert.AdamForgetBiasIdeal.main_arg0)
          ∧ r.2.mem ((c.tc : Thread Cert.AdamForgetBiasIdeal.nD Cert.AdamForgetBiasIdeal.τ).loc Cert.AdamForgetBiasIdeal.main_arg1) = m ((c.tc : Thread Cert.AdamForgetBiasIdeal.nD Cert.AdamForgetBiasIdeal.τ).loc Cert.AdamForgetBiasIdeal.main_arg1)
          ∧ r.2.mem ((c.tc : Thread Cert.AdamForgetBiasIdeal.nD Cert.AdamForgetBiasIdeal.τ).loc Cert.AdamForgetBiasIdeal.main_arg2) = m ((c.tc : Thread Cert.AdamForgetBiasIdeal.nD Cert.AdamForgetBiasIdeal.τ).loc Cert.AdamForgetBiasIdeal.main_arg2)
          ∧ r.2.mem ((c.tc : Thread Cert.AdamForgetBiasIdeal.nD Cert.AdamForgetBiasIdeal.τ).loc Cert.AdamForgetBiasIdeal.main_arg3) = m ((c.tc : Thread Cert.AdamForgetBiasIdeal.nD Cert.AdamForgetBiasIdeal.τ).loc Cert.AdamForgetBiasIdeal.main_arg3))
      ∧ θ_run (Cert.AdamForgetBiasRefIdeal.defs (F := Ideal)) (onTc (τ := Cert.AdamForgetBiasRefIdeal.τ) (Cert.AdamForgetBiasRefIdeal.main (F := Ideal))) ⟨m', fun _ => 0, g'⟩ (fun r => ∀ c : Dev Cert.AdamForgetBiasRefIdeal.nD,
          r.2.mem ((c.tc : Thread Cert.AdamForgetBiasRefIdeal.nD Cert.AdamForgetBiasRefIdeal.τ).loc Cert.AdamForgetBiasRefIdeal.main_v23) = v0 c
          ∧ r.2.mem ((c.tc : Thread Cert.AdamForgetBiasRefIdeal.nD Cert.AdamForgetBiasRefIdeal.τ).loc Cert.AdamForgetBiasRefIdeal.main_v4) = v1 c
          ∧ r.2.mem ((c.tc : Thread Cert.AdamForgetBiasRefIdeal.nD Cert.AdamForgetBiasRefIdeal.τ).loc Cert.AdamForgetBiasRefIdeal.main_v10) = v2 c
          ∧ r.2.mem ((c.tc : Thread Cert.AdamForgetBiasRefIdeal.nD Cert.AdamForgetBiasRefIdeal.τ).loc Cert.AdamForgetBiasRefIdeal.main_arg0) = m' ((c.tc : Thread Cert.AdamForgetBiasRefIdeal.nD Cert.AdamForgetBiasRefIdeal.τ).loc Cert.AdamForgetBiasRefIdeal.main_arg0)
          ∧ r.2.mem ((c.tc : Thread Cert.AdamForgetBiasRefIdeal.nD Cert.AdamForgetBiasRefIdeal.τ).loc Cert.AdamForgetBiasRefIdeal.main_arg1) = m' ((c.tc : Thread Cert.AdamForgetBiasRefIdeal.nD Cert.AdamForgetBiasRefIdeal.τ).loc Cert.AdamForgetBiasRefIdeal.main_arg1)
          ∧ r.2.mem ((c.tc : Thread Cert.AdamForgetBiasRefIdeal.nD Cert.AdamForgetBiasRefIdeal.τ).loc Cert.AdamForgetBiasRefIdeal.main_arg2) = m' ((c.tc : Thread Cert.AdamForgetBiasRefIdeal.nD Cert.AdamForgetBiasRefIdeal.τ).loc Cert.AdamForgetBiasRefIdeal.main_arg2)
          ∧ r.2.mem ((c.tc : Thread Cert.AdamForgetBiasRefIdeal.nD Cert.AdamForgetBiasRefIdeal.τ).loc Cert.AdamForgetBiasRefIdeal.main_arg3) = m' ((c.tc : Thread Cert.AdamForgetBiasRefIdeal.nD Cert.AdamForgetBiasRefIdeal.τ).loc Cert.AdamForgetBiasRefIdeal.main_arg3))

def preserves_AdamUp_AdamUpIdeal : Prop :=
  IdealRules.named_const.Statement Cert.AdamUpIdeal.κ "c1" .f32 0x3FC48605#32 ((8388608 / 5463681 : ℝ) : EReal)
  ∧ IdealRules.named_const.Statement Cert.AdamUpIdeal.κ "c2" .f32 0x42C8E6D3#32 ((268435456 / 2672307 : ℝ) : EReal)

def algebraic_AdamUpIdeal_AdamUpRefIdeal [hAdamUpIdeal : Cert.AdamUpIdeal.Facts] [hAdamUpRefIdeal : Cert.AdamUpRefIdeal.Facts] : Prop :=
  ∀ (m : (ℓ : Loc Cert.AdamUpIdeal.nD Cert.AdamUpIdeal.τ Cert.AdamUpIdeal.sig) → Buf (Elt Ideal) ℓ) (g : Dev Cert.AdamUpIdeal.nD → PrngReg)
    (m' : (ℓ : Loc Cert.AdamUpRefIdeal.nD Cert.AdamUpRefIdeal.τ Cert.AdamUpRefIdeal.sig) → Buf (Elt Ideal) ℓ) (g' : Dev Cert.AdamUpRefIdeal.nD → PrngReg), Pre_AdamUpIdeal m →
    (∀ c : Dev Cert.AdamUpIdeal.nD,
      m' ((c.tc : Thread Cert.AdamUpRefIdeal.nD Cert.AdamUpRefIdeal.τ).loc Cert.AdamUpRefIdeal.main_arg0) = m ((c.tc : Thread Cert.AdamUpIdeal.nD Cert.AdamUpIdeal.τ).loc Cert.AdamUpIdeal.main_arg0)
      ∧ m' ((c.tc : Thread Cert.AdamUpRefIdeal.nD Cert.AdamUpRefIdeal.τ).loc Cert.AdamUpRefIdeal.main_arg1) = m ((c.tc : Thread Cert.AdamUpIdeal.nD Cert.AdamUpIdeal.τ).loc Cert.AdamUpIdeal.main_arg1)
      ∧ m' ((c.tc : Thread Cert.AdamUpRefIdeal.nD Cert.AdamUpRefIdeal.τ).loc Cert.AdamUpRefIdeal.main_arg2) = m ((c.tc : Thread Cert.AdamUpIdeal.nD Cert.AdamUpIdeal.τ).loc Cert.AdamUpIdeal.main_arg2)
      ∧ m' ((c.tc : Thread Cert.AdamUpRefIdeal.nD Cert.AdamUpRefIdeal.τ).loc Cert.AdamUpRefIdeal.main_arg3) = m ((c.tc : Thread Cert.AdamUpIdeal.nD Cert.AdamUpIdeal.τ).loc Cert.AdamUpIdeal.main_arg3)) →
    ∃ (v0 : (c : Dev Cert.AdamUpIdeal.nD) → Buf (Elt Ideal) ((c.tc : Thread Cert.AdamUpIdeal.nD Cert.AdamUpIdeal.τ).loc Cert.AdamUpIdeal.main_v4_0)) (v1 : (c : Dev Cert.AdamUpIdeal.nD) → Buf (Elt Ideal) ((c.tc : Thread Cert.AdamUpIdeal.nD Cert.AdamUpIdeal.τ).loc Cert.AdamUpIdeal.main_v4_1)) (v2 : (c : Dev Cert.AdamUpIdeal.nD) → Buf (Elt Ideal) ((c.tc : Thread Cert.AdamUpIdeal.nD Cert.AdamUpIdeal.τ).loc Cert.AdamUpIdeal.main_v4_2)),
      θ_run (Cert.AdamUpIdeal.defs (F := Ideal)) (onTc (τ := Cert.AdamUpIdeal.τ) (Cert.AdamUpIdeal.main (F := Ideal))) ⟨m, fun _ => 0, g⟩ (fun r => ∀ c : Dev Cert.AdamUpIdeal.nD,
          r.2.mem ((c.tc : Thread Cert.AdamUpIdeal.nD Cert.AdamUpIdeal.τ).loc Cert.AdamUpIdeal.main_v4_0) = v0 c
          ∧ r.2.mem ((c.tc : Thread Cert.AdamUpIdeal.nD Cert.AdamUpIdeal.τ).loc Cert.AdamUpIdeal.main_v4_1) = v1 c
          ∧ r.2.mem ((c.tc : Thread Cert.AdamUpIdeal.nD Cert.AdamUpIdeal.τ).loc Cert.AdamUpIdeal.main_v4_2) = v2 c
          ∧ r.2.mem ((c.tc : Thread Cert.AdamUpIdeal.nD Cert.AdamUpIdeal.τ).loc Cert.AdamUpIdeal.main_arg0) = m ((c.tc : Thread Cert.AdamUpIdeal.nD Cert.AdamUpIdeal.τ).loc Cert.AdamUpIdeal.main_arg0)
          ∧ r.2.mem ((c.tc : Thread Cert.AdamUpIdeal.nD Cert.AdamUpIdeal.τ).loc Cert.AdamUpIdeal.main_arg1) = m ((c.tc : Thread Cert.AdamUpIdeal.nD Cert.AdamUpIdeal.τ).loc Cert.AdamUpIdeal.main_arg1)
          ∧ r.2.mem ((c.tc : Thread Cert.AdamUpIdeal.nD Cert.AdamUpIdeal.τ).loc Cert.AdamUpIdeal.main_arg2) = m ((c.tc : Thread Cert.AdamUpIdeal.nD Cert.AdamUpIdeal.τ).loc Cert.AdamUpIdeal.main_arg2)
          ∧ r.2.mem ((c.tc : Thread Cert.AdamUpIdeal.nD Cert.AdamUpIdeal.τ).loc Cert.AdamUpIdeal.main_arg3) = m ((c.tc : Thread Cert.AdamUpIdeal.nD Cert.AdamUpIdeal.τ).loc Cert.AdamUpIdeal.main_arg3))
      ∧ θ_run (Cert.AdamUpRefIdeal.defs (F := Ideal)) (onTc (τ := Cert.AdamUpRefIdeal.τ) (Cert.AdamUpRefIdeal.main (F := Ideal))) ⟨m', fun _ => 0, g'⟩ (fun r => ∀ c : Dev Cert.AdamUpRefIdeal.nD,
          r.2.mem ((c.tc : Thread Cert.AdamUpRefIdeal.nD Cert.AdamUpRefIdeal.τ).loc Cert.AdamUpRefIdeal.main_v24) = v0 c
          ∧ r.2.mem ((c.tc : Thread Cert.AdamUpRefIdeal.nD Cert.AdamUpRefIdeal.τ).loc Cert.AdamUpRefIdeal.main_v25) = v1 c
          ∧ r.2.mem ((c.tc : Thread Cert.AdamUpRefIdeal.nD Cert.AdamUpRefIdeal.τ).loc Cert.AdamUpRefIdeal.main_v26) = v2 c
          ∧ r.2.mem ((c.tc : Thread Cert.AdamUpRefIdeal.nD Cert.AdamUpRefIdeal.τ).loc Cert.AdamUpRefIdeal.main_arg0) = m' ((c.tc : Thread Cert.AdamUpRefIdeal.nD Cert.AdamUpRefIdeal.τ).loc Cert.AdamUpRefIdeal.main_arg0)
          ∧ r.2.mem ((c.tc : Thread Cert.AdamUpRefIdeal.nD Cert.AdamUpRefIdeal.τ).loc Cert.AdamUpRefIdeal.main_arg1) = m' ((c.tc : Thread Cert.AdamUpRefIdeal.nD Cert.AdamUpRefIdeal.τ).loc Cert.AdamUpRefIdeal.main_arg1)
          ∧ r.2.mem ((c.tc : Thread Cert.AdamUpRefIdeal.nD Cert.AdamUpRefIdeal.τ).loc Cert.AdamUpRefIdeal.main_arg2) = m' ((c.tc : Thread Cert.AdamUpRefIdeal.nD Cert.AdamUpRefIdeal.τ).loc Cert.AdamUpRefIdeal.main_arg2)
          ∧ r.2.mem ((c.tc : Thread Cert.AdamUpRefIdeal.nD Cert.AdamUpRefIdeal.τ).loc Cert.AdamUpRefIdeal.main_arg3) = m' ((c.tc : Thread Cert.AdamUpRefIdeal.nD Cert.AdamUpRefIdeal.τ).loc Cert.AdamUpRefIdeal.main_arg3))

def preserves_AdamConv_AdamConvIdeal : Prop :=
  IdealRules.named_const.Statement Cert.AdamConvIdeal.κ "c1" .f32 0x3FC48605#32 ((8388608 / 5463681 : ℝ) : EReal)
  ∧ IdealRules.named_const.Statement Cert.AdamConvIdeal.κ "c2" .f32 0x42C8E6D3#32 ((268435456 / 2672307 : ℝ) : EReal)

def algebraic_AdamConvIdeal_AdamConvRefIdeal [hAdamConvIdeal : Cert.AdamConvIdeal.Facts] [hAdamConvRefIdeal : Cert.AdamConvRefIdeal.Facts] : Prop :=
  ∀ (m : (ℓ : Loc Cert.AdamConvIdeal.nD Cert.AdamConvIdeal.τ Cert.AdamConvIdeal.sig) → Buf (Elt Ideal) ℓ) (g : Dev Cert.AdamConvIdeal.nD → PrngReg)
    (m' : (ℓ : Loc Cert.AdamConvRefIdeal.nD Cert.AdamConvRefIdeal.τ Cert.AdamConvRefIdeal.sig) → Buf (Elt Ideal) ℓ) (g' : Dev Cert.AdamConvRefIdeal.nD → PrngReg), Pre_AdamConvIdeal m →
    (∀ c : Dev Cert.AdamConvIdeal.nD,
      m' ((c.tc : Thread Cert.AdamConvRefIdeal.nD Cert.AdamConvRefIdeal.τ).loc Cert.AdamConvRefIdeal.main_arg0) = m ((c.tc : Thread Cert.AdamConvIdeal.nD Cert.AdamConvIdeal.τ).loc Cert.AdamConvIdeal.main_arg0)
      ∧ m' ((c.tc : Thread Cert.AdamConvRefIdeal.nD Cert.AdamConvRefIdeal.τ).loc Cert.AdamConvRefIdeal.main_arg1) = m ((c.tc : Thread Cert.AdamConvIdeal.nD Cert.AdamConvIdeal.τ).loc Cert.AdamConvIdeal.main_arg1)
      ∧ m' ((c.tc : Thread Cert.AdamConvRefIdeal.nD Cert.AdamConvRefIdeal.τ).loc Cert.AdamConvRefIdeal.main_arg2) = m ((c.tc : Thread Cert.AdamConvIdeal.nD Cert.AdamConvIdeal.τ).loc Cert.AdamConvIdeal.main_arg2)
      ∧ m' ((c.tc : Thread Cert.AdamConvRefIdeal.nD Cert.AdamConvRefIdeal.τ).loc Cert.AdamConvRefIdeal.main_arg3) = m ((c.tc : Thread Cert.AdamConvIdeal.nD Cert.AdamConvIdeal.τ).loc Cert.AdamConvIdeal.main_arg3)) →
    ∃ (v0 : (c : Dev Cert.AdamConvIdeal.nD) → Buf (Elt Ideal) ((c.tc : Thread Cert.AdamConvIdeal.nD Cert.AdamConvIdeal.τ).loc Cert.AdamConvIdeal.main_v4_0)) (v1 : (c : Dev Cert.AdamConvIdeal.nD) → Buf (Elt Ideal) ((c.tc : Thread Cert.AdamConvIdeal.nD Cert.AdamConvIdeal.τ).loc Cert.AdamConvIdeal.main_v4_1)) (v2 : (c : Dev Cert.AdamConvIdeal.nD) → Buf (Elt Ideal) ((c.tc : Thread Cert.AdamConvIdeal.nD Cert.AdamConvIdeal.τ).loc Cert.AdamConvIdeal.main_v4_2)),
      θ_run (Cert.AdamConvIdeal.defs (F := Ideal)) (onTc (τ := Cert.AdamConvIdeal.τ) (Cert.AdamConvIdeal.main (F := Ideal))) ⟨m, fun _ => 0, g⟩ (fun r => ∀ c : Dev Cert.AdamConvIdeal.nD,
          r.2.mem ((c.tc : Thread Cert.AdamConvIdeal.nD Cert.AdamConvIdeal.τ).loc Cert.AdamConvIdeal.main_v4_0) = v0 c
          ∧ r.2.mem ((c.tc : Thread Cert.AdamConvIdeal.nD Cert.AdamConvIdeal.τ).loc Cert.AdamConvIdeal.main_v4_1) = v1 c
          ∧ r.2.mem ((c.tc : Thread Cert.AdamConvIdeal.nD Cert.AdamConvIdeal.τ).loc Cert.AdamConvIdeal.main_v4_2) = v2 c
          ∧ r.2.mem ((c.tc : Thread Cert.AdamConvIdeal.nD Cert.AdamConvIdeal.τ).loc Cert.AdamConvIdeal.main_arg0) = m ((c.tc : Thread Cert.AdamConvIdeal.nD Cert.AdamConvIdeal.τ).loc Cert.AdamConvIdeal.main_arg0)
          ∧ r.2.mem ((c.tc : Thread Cert.AdamConvIdeal.nD Cert.AdamConvIdeal.τ).loc Cert.AdamConvIdeal.main_arg1) = m ((c.tc : Thread Cert.AdamConvIdeal.nD Cert.AdamConvIdeal.τ).loc Cert.AdamConvIdeal.main_arg1)
          ∧ r.2.mem ((c.tc : Thread Cert.AdamConvIdeal.nD Cert.AdamConvIdeal.τ).loc Cert.AdamConvIdeal.main_arg2) = m ((c.tc : Thread Cert.AdamConvIdeal.nD Cert.AdamConvIdeal.τ).loc Cert.AdamConvIdeal.main_arg2)
          ∧ r.2.mem ((c.tc : Thread Cert.AdamConvIdeal.nD Cert.AdamConvIdeal.τ).loc Cert.AdamConvIdeal.main_arg3) = m ((c.tc : Thread Cert.AdamConvIdeal.nD Cert.AdamConvIdeal.τ).loc Cert.AdamConvIdeal.main_arg3))
      ∧ θ_run (Cert.AdamConvRefIdeal.defs (F := Ideal)) (onTc (τ := Cert.AdamConvRefIdeal.τ) (Cert.AdamConvRefIdeal.main (F := Ideal))) ⟨m', fun _ => 0, g'⟩ (fun r => ∀ c : Dev Cert.AdamConvRefIdeal.nD,
          r.2.mem ((c.tc : Thread Cert.AdamConvRefIdeal.nD Cert.AdamConvRefIdeal.τ).loc Cert.AdamConvRefIdeal.main_v24) = v0 c
          ∧ r.2.mem ((c.tc : Thread Cert.AdamConvRefIdeal.nD Cert.AdamConvRefIdeal.τ).loc Cert.AdamConvRefIdeal.main_v25) = v1 c
          ∧ r.2.mem ((c.tc : Thread Cert.AdamConvRefIdeal.nD Cert.AdamConvRefIdeal.τ).loc Cert.AdamConvRefIdeal.main_v26) = v2 c
          ∧ r.2.mem ((c.tc : Thread Cert.AdamConvRefIdeal.nD Cert.AdamConvRefIdeal.τ).loc Cert.AdamConvRefIdeal.main_arg0) = m' ((c.tc : Thread Cert.AdamConvRefIdeal.nD Cert.AdamConvRefIdeal.τ).loc Cert.AdamConvRefIdeal.main_arg0)
          ∧ r.2.mem ((c.tc : Thread Cert.AdamConvRefIdeal.nD Cert.AdamConvRefIdeal.τ).loc Cert.AdamConvRefIdeal.main_arg1) = m' ((c.tc : Thread Cert.AdamConvRefIdeal.nD Cert.AdamConvRefIdeal.τ).loc Cert.AdamConvRefIdeal.main_arg1)
          ∧ r.2.mem ((c.tc : Thread Cert.AdamConvRefIdeal.nD Cert.AdamConvRefIdeal.τ).loc Cert.AdamConvRefIdeal.main_arg2) = m' ((c.tc : Thread Cert.AdamConvRefIdeal.nD Cert.AdamConvRefIdeal.τ).loc Cert.AdamConvRefIdeal.main_arg2)
          ∧ r.2.mem ((c.tc : Thread Cert.AdamConvRefIdeal.nD Cert.AdamConvRefIdeal.τ).loc Cert.AdamConvRefIdeal.main_arg3) = m' ((c.tc : Thread Cert.AdamConvRefIdeal.nD Cert.AdamConvRefIdeal.τ).loc Cert.AdamConvRefIdeal.main_arg3))

def preserves_AdamConvBias_AdamConvBiasIdeal : Prop :=
  IdealRules.named_const.Statement Cert.AdamConvBiasIdeal.κ "c1" .f32 0x3FC48605#32 ((8388608 / 5463681 : ℝ) : EReal)
  ∧ IdealRules.named_const.Statement Cert.AdamConvBiasIdeal.κ "c2" .f32 0x42C8E6D3#32 ((268435456 / 2672307 : ℝ) : EReal)

def algebraic_AdamConvBiasIdeal_AdamConvBiasRefIdeal [hAdamConvBiasIdeal : Cert.AdamConvBiasIdeal.Facts] [hAdamConvBiasRefIdeal : Cert.AdamConvBiasRefIdeal.Facts] : Prop :=
  ∀ (m : (ℓ : Loc Cert.AdamConvBiasIdeal.nD Cert.AdamConvBiasIdeal.τ Cert.AdamConvBiasIdeal.sig) → Buf (Elt Ideal) ℓ) (g : Dev Cert.AdamConvBiasIdeal.nD → PrngReg)
    (m' : (ℓ : Loc Cert.AdamConvBiasRefIdeal.nD Cert.AdamConvBiasRefIdeal.τ Cert.AdamConvBiasRefIdeal.sig) → Buf (Elt Ideal) ℓ) (g' : Dev Cert.AdamConvBiasRefIdeal.nD → PrngReg), Pre_AdamConvBiasIdeal m →
    (∀ c : Dev Cert.AdamConvBiasIdeal.nD,
      m' ((c.tc : Thread Cert.AdamConvBiasRefIdeal.nD Cert.AdamConvBiasRefIdeal.τ).loc Cert.AdamConvBiasRefIdeal.main_arg0) = m ((c.tc : Thread Cert.AdamConvBiasIdeal.nD Cert.AdamConvBiasIdeal.τ).loc Cert.AdamConvBiasIdeal.main_arg0)
      ∧ m' ((c.tc : Thread Cert.AdamConvBiasRefIdeal.nD Cert.AdamConvBiasRefIdeal.τ).loc Cert.AdamConvBiasRefIdeal.main_arg1) = m ((c.tc : Thread Cert.AdamConvBiasIdeal.nD Cert.AdamConvBiasIdeal.τ).loc Cert.AdamConvBiasIdeal.main_arg1)
      ∧ m' ((c.tc : Thread Cert.AdamConvBiasRefIdeal.nD Cert.AdamConvBiasRefIdeal.τ).loc Cert.AdamConvBiasRefIdeal.main_arg2) = m ((c.tc : Thread Cert.AdamConvBiasIdeal.nD Cert.AdamConvBiasIdeal.τ).loc Cert.AdamConvBiasIdeal.main_arg2)
      ∧ m' ((c.tc : Thread Cert.AdamConvBiasRefIdeal.nD Cert.AdamConvBiasRefIdeal.τ).loc Cert.AdamConvBiasRefIdeal.main_arg3) = m ((c.tc : Thread Cert.AdamConvBiasIdeal.nD Cert.AdamConvBiasIdeal.τ).loc Cert.AdamConvBiasIdeal.main_arg3)) →
    ∃ (v0 : (c : Dev Cert.AdamConvBiasIdeal.nD) → Buf (Elt Ideal) ((c.tc : Thread Cert.AdamConvBiasIdeal.nD Cert.AdamConvBiasIdeal.τ).loc Cert.AdamConvBiasIdeal.main_v0_0)) (v1 : (c : Dev Cert.AdamConvBiasIdeal.nD) → Buf (Elt Ideal) ((c.tc : Thread Cert.AdamConvBiasIdeal.nD Cert.AdamConvBiasIdeal.τ).loc Cert.AdamConvBiasIdeal.main_v0_1)) (v2 : (c : Dev Cert.AdamConvBiasIdeal.nD) → Buf (Elt Ideal) ((c.tc : Thread Cert.AdamConvBiasIdeal.nD Cert.AdamConvBiasIdeal.τ).loc Cert.AdamConvBiasIdeal.main_v0_2)),
      θ_run (Cert.AdamConvBiasIdeal.defs (F := Ideal)) (onTc (τ := Cert.AdamConvBiasIdeal.τ) (Cert.AdamConvBiasIdeal.main (F := Ideal))) ⟨m, fun _ => 0, g⟩ (fun r => ∀ c : Dev Cert.AdamConvBiasIdeal.nD,
          r.2.mem ((c.tc : Thread Cert.AdamConvBiasIdeal.nD Cert.AdamConvBiasIdeal.τ).loc Cert.AdamConvBiasIdeal.main_v0_0) = v0 c
          ∧ r.2.mem ((c.tc : Thread Cert.AdamConvBiasIdeal.nD Cert.AdamConvBiasIdeal.τ).loc Cert.AdamConvBiasIdeal.main_v0_1) = v1 c
          ∧ r.2.mem ((c.tc : Thread Cert.AdamConvBiasIdeal.nD Cert.AdamConvBiasIdeal.τ).loc Cert.AdamConvBiasIdeal.main_v0_2) = v2 c
          ∧ r.2.mem ((c.tc : Thread Cert.AdamConvBiasIdeal.nD Cert.AdamConvBiasIdeal.τ).loc Cert.AdamConvBiasIdeal.main_arg0) = m ((c.tc : Thread Cert.AdamConvBiasIdeal.nD Cert.AdamConvBiasIdeal.τ).loc Cert.AdamConvBiasIdeal.main_arg0)
          ∧ r.2.mem ((c.tc : Thread Cert.AdamConvBiasIdeal.nD Cert.AdamConvBiasIdeal.τ).loc Cert.AdamConvBiasIdeal.main_arg1) = m ((c.tc : Thread Cert.AdamConvBiasIdeal.nD Cert.AdamConvBiasIdeal.τ).loc Cert.AdamConvBiasIdeal.main_arg1)
          ∧ r.2.mem ((c.tc : Thread Cert.AdamConvBiasIdeal.nD Cert.AdamConvBiasIdeal.τ).loc Cert.AdamConvBiasIdeal.main_arg2) = m ((c.tc : Thread Cert.AdamConvBiasIdeal.nD Cert.AdamConvBiasIdeal.τ).loc Cert.AdamConvBiasIdeal.main_arg2)
          ∧ r.2.mem ((c.tc : Thread Cert.AdamConvBiasIdeal.nD Cert.AdamConvBiasIdeal.τ).loc Cert.AdamConvBiasIdeal.main_arg3) = m ((c.tc : Thread Cert.AdamConvBiasIdeal.nD Cert.AdamConvBiasIdeal.τ).loc Cert.AdamConvBiasIdeal.main_arg3))
      ∧ θ_run (Cert.AdamConvBiasRefIdeal.defs (F := Ideal)) (onTc (τ := Cert.AdamConvBiasRefIdeal.τ) (Cert.AdamConvBiasRefIdeal.main (F := Ideal))) ⟨m', fun _ => 0, g'⟩ (fun r => ∀ c : Dev Cert.AdamConvBiasRefIdeal.nD,
          r.2.mem ((c.tc : Thread Cert.AdamConvBiasRefIdeal.nD Cert.AdamConvBiasRefIdeal.τ).loc Cert.AdamConvBiasRefIdeal.main_v23) = v0 c
          ∧ r.2.mem ((c.tc : Thread Cert.AdamConvBiasRefIdeal.nD Cert.AdamConvBiasRefIdeal.τ).loc Cert.AdamConvBiasRefIdeal.main_v4) = v1 c
          ∧ r.2.mem ((c.tc : Thread Cert.AdamConvBiasRefIdeal.nD Cert.AdamConvBiasRefIdeal.τ).loc Cert.AdamConvBiasRefIdeal.main_v10) = v2 c
          ∧ r.2.mem ((c.tc : Thread Cert.AdamConvBiasRefIdeal.nD Cert.AdamConvBiasRefIdeal.τ).loc Cert.AdamConvBiasRefIdeal.main_arg0) = m' ((c.tc : Thread Cert.AdamConvBiasRefIdeal.nD Cert.AdamConvBiasRefIdeal.τ).loc Cert.AdamConvBiasRefIdeal.main_arg0)
          ∧ r.2.mem ((c.tc : Thread Cert.AdamConvBiasRefIdeal.nD Cert.AdamConvBiasRefIdeal.τ).loc Cert.AdamConvBiasRefIdeal.main_arg1) = m' ((c.tc : Thread Cert.AdamConvBiasRefIdeal.nD Cert.AdamConvBiasRefIdeal.τ).loc Cert.AdamConvBiasRefIdeal.main_arg1)
          ∧ r.2.mem ((c.tc : Thread Cert.AdamConvBiasRefIdeal.nD Cert.AdamConvBiasRefIdeal.τ).loc Cert.AdamConvBiasRefIdeal.main_arg2) = m' ((c.tc : Thread Cert.AdamConvBiasRefIdeal.nD Cert.AdamConvBiasRefIdeal.τ).loc Cert.AdamConvBiasRefIdeal.main_arg2)
          ∧ r.2.mem ((c.tc : Thread Cert.AdamConvBiasRefIdeal.nD Cert.AdamConvBiasRefIdeal.τ).loc Cert.AdamConvBiasRefIdeal.main_arg3) = m' ((c.tc : Thread Cert.AdamConvBiasRefIdeal.nD Cert.AdamConvBiasRefIdeal.τ).loc Cert.AdamConvBiasRefIdeal.main_arg3))

def preserves_AdamDown_AdamDownIdeal : Prop :=
  IdealRules.named_const.Statement Cert.AdamDownIdeal.κ "c1" .f32 0x3FC48605#32 ((8388608 / 5463681 : ℝ) : EReal)
  ∧ IdealRules.named_const.Statement Cert.AdamDownIdeal.κ "c2" .f32 0x42C8E6D3#32 ((268435456 / 2672307 : ℝ) : EReal)

def algebraic_AdamDownIdeal_AdamDownRefIdeal [hAdamDownIdeal : Cert.AdamDownIdeal.Facts] [hAdamDownRefIdeal : Cert.AdamDownRefIdeal.Facts] : Prop :=
  ∀ (m : (ℓ : Loc Cert.AdamDownIdeal.nD Cert.AdamDownIdeal.τ Cert.AdamDownIdeal.sig) → Buf (Elt Ideal) ℓ) (g : Dev Cert.AdamDownIdeal.nD → PrngReg)
    (m' : (ℓ : Loc Cert.AdamDownRefIdeal.nD Cert.AdamDownRefIdeal.τ Cert.AdamDownRefIdeal.sig) → Buf (Elt Ideal) ℓ) (g' : Dev Cert.AdamDownRefIdeal.nD → PrngReg), Pre_AdamDownIdeal m →
    (∀ c : Dev Cert.AdamDownIdeal.nD,
      m' ((c.tc : Thread Cert.AdamDownRefIdeal.nD Cert.AdamDownRefIdeal.τ).loc Cert.AdamDownRefIdeal.main_arg0) = m ((c.tc : Thread Cert.AdamDownIdeal.nD Cert.AdamDownIdeal.τ).loc Cert.AdamDownIdeal.main_arg0)
      ∧ m' ((c.tc : Thread Cert.AdamDownRefIdeal.nD Cert.AdamDownRefIdeal.τ).loc Cert.AdamDownRefIdeal.main_arg1) = m ((c.tc : Thread Cert.AdamDownIdeal.nD Cert.AdamDownIdeal.τ).loc Cert.AdamDownIdeal.main_arg1)
      ∧ m' ((c.tc : Thread Cert.AdamDownRefIdeal.nD Cert.AdamDownRefIdeal.τ).loc Cert.AdamDownRefIdeal.main_arg2) = m ((c.tc : Thread Cert.AdamDownIdeal.nD Cert.AdamDownIdeal.τ).loc Cert.AdamDownIdeal.main_arg2)
      ∧ m' ((c.tc : Thread Cert.AdamDownRefIdeal.nD Cert.AdamDownRefIdeal.τ).loc Cert.AdamDownRefIdeal.main_arg3) = m ((c.tc : Thread Cert.AdamDownIdeal.nD Cert.AdamDownIdeal.τ).loc Cert.AdamDownIdeal.main_arg3)) →
    ∃ (v0 : (c : Dev Cert.AdamDownIdeal.nD) → Buf (Elt Ideal) ((c.tc : Thread Cert.AdamDownIdeal.nD Cert.AdamDownIdeal.τ).loc Cert.AdamDownIdeal.main_v4_0)) (v1 : (c : Dev Cert.AdamDownIdeal.nD) → Buf (Elt Ideal) ((c.tc : Thread Cert.AdamDownIdeal.nD Cert.AdamDownIdeal.τ).loc Cert.AdamDownIdeal.main_v4_1)) (v2 : (c : Dev Cert.AdamDownIdeal.nD) → Buf (Elt Ideal) ((c.tc : Thread Cert.AdamDownIdeal.nD Cert.AdamDownIdeal.τ).loc Cert.AdamDownIdeal.main_v4_2)),
      θ_run (Cert.AdamDownIdeal.defs (F := Ideal)) (onTc (τ := Cert.AdamDownIdeal.τ) (Cert.AdamDownIdeal.main (F := Ideal))) ⟨m, fun _ => 0, g⟩ (fun r => ∀ c : Dev Cert.AdamDownIdeal.nD,
          r.2.mem ((c.tc : Thread Cert.AdamDownIdeal.nD Cert.AdamDownIdeal.τ).loc Cert.AdamDownIdeal.main_v4_0) = v0 c
          ∧ r.2.mem ((c.tc : Thread Cert.AdamDownIdeal.nD Cert.AdamDownIdeal.τ).loc Cert.AdamDownIdeal.main_v4_1) = v1 c
          ∧ r.2.mem ((c.tc : Thread Cert.AdamDownIdeal.nD Cert.AdamDownIdeal.τ).loc Cert.AdamDownIdeal.main_v4_2) = v2 c
          ∧ r.2.mem ((c.tc : Thread Cert.AdamDownIdeal.nD Cert.AdamDownIdeal.τ).loc Cert.AdamDownIdeal.main_arg0) = m ((c.tc : Thread Cert.AdamDownIdeal.nD Cert.AdamDownIdeal.τ).loc Cert.AdamDownIdeal.main_arg0)
          ∧ r.2.mem ((c.tc : Thread Cert.AdamDownIdeal.nD Cert.AdamDownIdeal.τ).loc Cert.AdamDownIdeal.main_arg1) = m ((c.tc : Thread Cert.AdamDownIdeal.nD Cert.AdamDownIdeal.τ).loc Cert.AdamDownIdeal.main_arg1)
          ∧ r.2.mem ((c.tc : Thread Cert.AdamDownIdeal.nD Cert.AdamDownIdeal.τ).loc Cert.AdamDownIdeal.main_arg2) = m ((c.tc : Thread Cert.AdamDownIdeal.nD Cert.AdamDownIdeal.τ).loc Cert.AdamDownIdeal.main_arg2)
          ∧ r.2.mem ((c.tc : Thread Cert.AdamDownIdeal.nD Cert.AdamDownIdeal.τ).loc Cert.AdamDownIdeal.main_arg3) = m ((c.tc : Thread Cert.AdamDownIdeal.nD Cert.AdamDownIdeal.τ).loc Cert.AdamDownIdeal.main_arg3))
      ∧ θ_run (Cert.AdamDownRefIdeal.defs (F := Ideal)) (onTc (τ := Cert.AdamDownRefIdeal.τ) (Cert.AdamDownRefIdeal.main (F := Ideal))) ⟨m', fun _ => 0, g'⟩ (fun r => ∀ c : Dev Cert.AdamDownRefIdeal.nD,
          r.2.mem ((c.tc : Thread Cert.AdamDownRefIdeal.nD Cert.AdamDownRefIdeal.τ).loc Cert.AdamDownRefIdeal.main_v24) = v0 c
          ∧ r.2.mem ((c.tc : Thread Cert.AdamDownRefIdeal.nD Cert.AdamDownRefIdeal.τ).loc Cert.AdamDownRefIdeal.main_v25) = v1 c
          ∧ r.2.mem ((c.tc : Thread Cert.AdamDownRefIdeal.nD Cert.AdamDownRefIdeal.τ).loc Cert.AdamDownRefIdeal.main_v26) = v2 c
          ∧ r.2.mem ((c.tc : Thread Cert.AdamDownRefIdeal.nD Cert.AdamDownRefIdeal.τ).loc Cert.AdamDownRefIdeal.main_arg0) = m' ((c.tc : Thread Cert.AdamDownRefIdeal.nD Cert.AdamDownRefIdeal.τ).loc Cert.AdamDownRefIdeal.main_arg0)
          ∧ r.2.mem ((c.tc : Thread Cert.AdamDownRefIdeal.nD Cert.AdamDownRefIdeal.τ).loc Cert.AdamDownRefIdeal.main_arg1) = m' ((c.tc : Thread Cert.AdamDownRefIdeal.nD Cert.AdamDownRefIdeal.τ).loc Cert.AdamDownRefIdeal.main_arg1)
          ∧ r.2.mem ((c.tc : Thread Cert.AdamDownRefIdeal.nD Cert.AdamDownRefIdeal.τ).loc Cert.AdamDownRefIdeal.main_arg2) = m' ((c.tc : Thread Cert.AdamDownRefIdeal.nD Cert.AdamDownRefIdeal.τ).loc Cert.AdamDownRefIdeal.main_arg2)
          ∧ r.2.mem ((c.tc : Thread Cert.AdamDownRefIdeal.nD Cert.AdamDownRefIdeal.τ).loc Cert.AdamDownRefIdeal.main_arg3) = m' ((c.tc : Thread Cert.AdamDownRefIdeal.nD Cert.AdamDownRefIdeal.τ).loc Cert.AdamDownRefIdeal.main_arg3))

def preserves_ModDw_ModDwIdeal : Prop :=
  True

def algebraic_ModDwIdeal_ModDwRefIdeal [hModDwIdeal : Cert.ModDwIdeal.Facts] [hModDwRefIdeal : Cert.ModDwRefIdeal.Facts] : Prop :=
  ∀ (m : (ℓ : Loc Cert.ModDwIdeal.nD Cert.ModDwIdeal.τ Cert.ModDwIdeal.sig) → Buf (Elt Ideal) ℓ) (g : Dev Cert.ModDwIdeal.nD → PrngReg)
    (m' : (ℓ : Loc Cert.ModDwRefIdeal.nD Cert.ModDwRefIdeal.τ Cert.ModDwRefIdeal.sig) → Buf (Elt Ideal) ℓ) (g' : Dev Cert.ModDwRefIdeal.nD → PrngReg), Pre_ModDwIdeal m →
    (∀ c : Dev Cert.ModDwIdeal.nD,
      m' ((c.tc : Thread Cert.ModDwRefIdeal.nD Cert.ModDwRefIdeal.τ).loc Cert.ModDwRefIdeal.main_arg0) = m ((c.tc : Thread Cert.ModDwIdeal.nD Cert.ModDwIdeal.τ).loc Cert.ModDwIdeal.main_arg0)
      ∧ m' ((c.tc : Thread Cert.ModDwRefIdeal.nD Cert.ModDwRefIdeal.τ).loc Cert.ModDwRefIdeal.main_arg1) = m ((c.tc : Thread Cert.ModDwIdeal.nD Cert.ModDwIdeal.τ).loc Cert.ModDwIdeal.main_arg1)) →
    ∃ (v0 : (c : Dev Cert.ModDwIdeal.nD) → Buf (Elt Ideal) ((c.tc : Thread Cert.ModDwIdeal.nD Cert.ModDwIdeal.τ).loc Cert.ModDwIdeal.main_v2)),
      θ_run (Cert.ModDwIdeal.defs (F := Ideal)) (onTc (τ := Cert.ModDwIdeal.τ) (Cert.ModDwIdeal.main (F := Ideal))) ⟨m, fun _ => 0, g⟩ (fun r => ∀ c : Dev Cert.ModDwIdeal.nD,
          r.2.mem ((c.tc : Thread Cert.ModDwIdeal.nD Cert.ModDwIdeal.τ).loc Cert.ModDwIdeal.main_v2) = v0 c
          ∧ r.2.mem ((c.tc : Thread Cert.ModDwIdeal.nD Cert.ModDwIdeal.τ).loc Cert.ModDwIdeal.main_arg0) = m ((c.tc : Thread Cert.ModDwIdeal.nD Cert.ModDwIdeal.τ).loc Cert.ModDwIdeal.main_arg0)
          ∧ r.2.mem ((c.tc : Thread Cert.ModDwIdeal.nD Cert.ModDwIdeal.τ).loc Cert.ModDwIdeal.main_arg1) = m ((c.tc : Thread Cert.ModDwIdeal.nD Cert.ModDwIdeal.τ).loc Cert.ModDwIdeal.main_arg1))
      ∧ θ_run (Cert.ModDwRefIdeal.defs (F := Ideal)) (onTc (τ := Cert.ModDwRefIdeal.τ) (Cert.ModDwRefIdeal.main (F := Ideal))) ⟨m', fun _ => 0, g'⟩ (fun r => ∀ c : Dev Cert.ModDwRefIdeal.nD,
          r.2.mem ((c.tc : Thread Cert.ModDwRefIdeal.nD Cert.ModDwRefIdeal.τ).loc Cert.ModDwRefIdeal.main_v3) = v0 c
          ∧ r.2.mem ((c.tc : Thread Cert.ModDwRefIdeal.nD Cert.ModDwRefIdeal.τ).loc Cert.ModDwRefIdeal.main_arg0) = m' ((c.tc : Thread Cert.ModDwRefIdeal.nD Cert.ModDwRefIdeal.τ).loc Cert.ModDwRefIdeal.main_arg0)
          ∧ r.2.mem ((c.tc : Thread Cert.ModDwRefIdeal.nD Cert.ModDwRefIdeal.τ).loc Cert.ModDwRefIdeal.main_arg1) = m' ((c.tc : Thread Cert.ModDwRefIdeal.nD Cert.ModDwRefIdeal.τ).loc Cert.ModDwRefIdeal.main_arg1))

def preserves_SumQkv_SumQkvIdeal : Prop :=
  True

def algebraic_SumQkvIdeal_SumQkvRefIdeal [hSumQkvIdeal : Cert.SumQkvIdeal.Facts] [hSumQkvRefIdeal : Cert.SumQkvRefIdeal.Facts] : Prop :=
  ∀ (m : (ℓ : Loc Cert.SumQkvIdeal.nD Cert.SumQkvIdeal.τ Cert.SumQkvIdeal.sig) → Buf (Elt Ideal) ℓ) (g : Dev Cert.SumQkvIdeal.nD → PrngReg)
    (m' : (ℓ : Loc Cert.SumQkvRefIdeal.nD Cert.SumQkvRefIdeal.τ Cert.SumQkvRefIdeal.sig) → Buf (Elt Ideal) ℓ) (g' : Dev Cert.SumQkvRefIdeal.nD → PrngReg), Pre_SumQkvIdeal m →
    (∀ c : Dev Cert.SumQkvIdeal.nD,
      m' ((c.tc : Thread Cert.SumQkvRefIdeal.nD Cert.SumQkvRefIdeal.τ).loc Cert.SumQkvRefIdeal.main_arg0) = m ((c.tc : Thread Cert.SumQkvIdeal.nD Cert.SumQkvIdeal.τ).loc Cert.SumQkvIdeal.main_arg0)) →
    ∃ (v0 : (c : Dev Cert.SumQkvIdeal.nD) → Buf (Elt Ideal) ((c.tc : Thread Cert.SumQkvIdeal.nD Cert.SumQkvIdeal.τ).loc Cert.SumQkvIdeal.main_v0)),
      θ_run (Cert.SumQkvIdeal.defs (F := Ideal)) (onTc (τ := Cert.SumQkvIdeal.τ) (Cert.SumQkvIdeal.main (F := Ideal))) ⟨m, fun _ => 0, g⟩ (fun r => ∀ c : Dev Cert.SumQkvIdeal.nD,
          r.2.mem ((c.tc : Thread Cert.SumQkvIdeal.nD Cert.SumQkvIdeal.τ).loc Cert.SumQkvIdeal.main_v0) = v0 c
          ∧ r.2.mem ((c.tc : Thread Cert.SumQkvIdeal.nD Cert.SumQkvIdeal.τ).loc Cert.SumQkvIdeal.main_arg0) = m ((c.tc : Thread Cert.SumQkvIdeal.nD Cert.SumQkvIdeal.τ).loc Cert.SumQkvIdeal.main_arg0))
      ∧ θ_run (Cert.SumQkvRefIdeal.defs (F := Ideal)) (onTc (τ := Cert.SumQkvRefIdeal.τ) (Cert.SumQkvRefIdeal.main (F := Ideal))) ⟨m', fun _ => 0, g'⟩ (fun r => ∀ c : Dev Cert.SumQkvRefIdeal.nD,
          r.2.mem ((c.tc : Thread Cert.SumQkvRefIdeal.nD Cert.SumQkvRefIdeal.τ).loc Cert.SumQkvRefIdeal.main_v1) = v0 c
          ∧ r.2.mem ((c.tc : Thread Cert.SumQkvRefIdeal.nD Cert.SumQkvRefIdeal.τ).loc Cert.SumQkvRefIdeal.main_arg0) = m' ((c.tc : Thread Cert.SumQkvRefIdeal.nD Cert.SumQkvRefIdeal.τ).loc Cert.SumQkvRefIdeal.main_arg0))

def preserves_SumO_SumOIdeal : Prop :=
  True

def algebraic_SumOIdeal_SumORefIdeal [hSumOIdeal : Cert.SumOIdeal.Facts] [hSumORefIdeal : Cert.SumORefIdeal.Facts] : Prop :=
  ∀ (m : (ℓ : Loc Cert.SumOIdeal.nD Cert.SumOIdeal.τ Cert.SumOIdeal.sig) → Buf (Elt Ideal) ℓ) (g : Dev Cert.SumOIdeal.nD → PrngReg)
    (m' : (ℓ : Loc Cert.SumORefIdeal.nD Cert.SumORefIdeal.τ Cert.SumORefIdeal.sig) → Buf (Elt Ideal) ℓ) (g' : Dev Cert.SumORefIdeal.nD → PrngReg), Pre_SumOIdeal m →
    (∀ c : Dev Cert.SumOIdeal.nD,
      m' ((c.tc : Thread Cert.SumORefIdeal.nD Cert.SumORefIdeal.τ).loc Cert.SumORefIdeal.main_arg0) = m ((c.tc : Thread Cert.SumOIdeal.nD Cert.SumOIdeal.τ).loc Cert.SumOIdeal.main_arg0)) →
    ∃ (v0 : (c : Dev Cert.SumOIdeal.nD) → Buf (Elt Ideal) ((c.tc : Thread Cert.SumOIdeal.nD Cert.SumOIdeal.τ).loc Cert.SumOIdeal.main_v0)),
      θ_run (Cert.SumOIdeal.defs (F := Ideal)) (onTc (τ := Cert.SumOIdeal.τ) (Cert.SumOIdeal.main (F := Ideal))) ⟨m, fun _ => 0, g⟩ (fun r => ∀ c : Dev Cert.SumOIdeal.nD,
          r.2.mem ((c.tc : Thread Cert.SumOIdeal.nD Cert.SumOIdeal.τ).loc Cert.SumOIdeal.main_v0) = v0 c
          ∧ r.2.mem ((c.tc : Thread Cert.SumOIdeal.nD Cert.SumOIdeal.τ).loc Cert.SumOIdeal.main_arg0) = m ((c.tc : Thread Cert.SumOIdeal.nD Cert.SumOIdeal.τ).loc Cert.SumOIdeal.main_arg0))
      ∧ θ_run (Cert.SumORefIdeal.defs (F := Ideal)) (onTc (τ := Cert.SumORefIdeal.τ) (Cert.SumORefIdeal.main (F := Ideal))) ⟨m', fun _ => 0, g'⟩ (fun r => ∀ c : Dev Cert.SumORefIdeal.nD,
          r.2.mem ((c.tc : Thread Cert.SumORefIdeal.nD Cert.SumORefIdeal.τ).loc Cert.SumORefIdeal.main_v1) = v0 c
          ∧ r.2.mem ((c.tc : Thread Cert.SumORefIdeal.nD Cert.SumORefIdeal.τ).loc Cert.SumORefIdeal.main_arg0) = m' ((c.tc : Thread Cert.SumORefIdeal.nD Cert.SumORefIdeal.τ).loc Cert.SumORefIdeal.main_arg0))

def preserves_SumUp_SumUpIdeal : Prop :=
  True

def algebraic_SumUpIdeal_SumUpRefIdeal [hSumUpIdeal : Cert.SumUpIdeal.Facts] [hSumUpRefIdeal : Cert.SumUpRefIdeal.Facts] : Prop :=
  ∀ (m : (ℓ : Loc Cert.SumUpIdeal.nD Cert.SumUpIdeal.τ Cert.SumUpIdeal.sig) → Buf (Elt Ideal) ℓ) (g : Dev Cert.SumUpIdeal.nD → PrngReg)
    (m' : (ℓ : Loc Cert.SumUpRefIdeal.nD Cert.SumUpRefIdeal.τ Cert.SumUpRefIdeal.sig) → Buf (Elt Ideal) ℓ) (g' : Dev Cert.SumUpRefIdeal.nD → PrngReg), Pre_SumUpIdeal m →
    (∀ c : Dev Cert.SumUpIdeal.nD,
      m' ((c.tc : Thread Cert.SumUpRefIdeal.nD Cert.SumUpRefIdeal.τ).loc Cert.SumUpRefIdeal.main_arg0) = m ((c.tc : Thread Cert.SumUpIdeal.nD Cert.SumUpIdeal.τ).loc Cert.SumUpIdeal.main_arg0)) →
    ∃ (v0 : (c : Dev Cert.SumUpIdeal.nD) → Buf (Elt Ideal) ((c.tc : Thread Cert.SumUpIdeal.nD Cert.SumUpIdeal.τ).loc Cert.SumUpIdeal.main_v0)),
      θ_run (Cert.SumUpIdeal.defs (F := Ideal)) (onTc (τ := Cert.SumUpIdeal.τ) (Cert.SumUpIdeal.main (F := Ideal))) ⟨m, fun _ => 0, g⟩ (fun r => ∀ c : Dev Cert.SumUpIdeal.nD,
          r.2.mem ((c.tc : Thread Cert.SumUpIdeal.nD Cert.SumUpIdeal.τ).loc Cert.SumUpIdeal.main_v0) = v0 c
          ∧ r.2.mem ((c.tc : Thread Cert.SumUpIdeal.nD Cert.SumUpIdeal.τ).loc Cert.SumUpIdeal.main_arg0) = m ((c.tc : Thread Cert.SumUpIdeal.nD Cert.SumUpIdeal.τ).loc Cert.SumUpIdeal.main_arg0))
      ∧ θ_run (Cert.SumUpRefIdeal.defs (F := Ideal)) (onTc (τ := Cert.SumUpRefIdeal.τ) (Cert.SumUpRefIdeal.main (F := Ideal))) ⟨m', fun _ => 0, g'⟩ (fun r => ∀ c : Dev Cert.SumUpRefIdeal.nD,
          r.2.mem ((c.tc : Thread Cert.SumUpRefIdeal.nD Cert.SumUpRefIdeal.τ).loc Cert.SumUpRefIdeal.main_v1) = v0 c
          ∧ r.2.mem ((c.tc : Thread Cert.SumUpRefIdeal.nD Cert.SumUpRefIdeal.τ).loc Cert.SumUpRefIdeal.main_arg0) = m' ((c.tc : Thread Cert.SumUpRefIdeal.nD Cert.SumUpRefIdeal.τ).loc Cert.SumUpRefIdeal.main_arg0))

def preserves_SumDown_SumDownIdeal : Prop :=
  True

def algebraic_SumDownIdeal_SumDownRefIdeal [hSumDownIdeal : Cert.SumDownIdeal.Facts] [hSumDownRefIdeal : Cert.SumDownRefIdeal.Facts] : Prop :=
  ∀ (m : (ℓ : Loc Cert.SumDownIdeal.nD Cert.SumDownIdeal.τ Cert.SumDownIdeal.sig) → Buf (Elt Ideal) ℓ) (g : Dev Cert.SumDownIdeal.nD → PrngReg)
    (m' : (ℓ : Loc Cert.SumDownRefIdeal.nD Cert.SumDownRefIdeal.τ Cert.SumDownRefIdeal.sig) → Buf (Elt Ideal) ℓ) (g' : Dev Cert.SumDownRefIdeal.nD → PrngReg), Pre_SumDownIdeal m →
    (∀ c : Dev Cert.SumDownIdeal.nD,
      m' ((c.tc : Thread Cert.SumDownRefIdeal.nD Cert.SumDownRefIdeal.τ).loc Cert.SumDownRefIdeal.main_arg0) = m ((c.tc : Thread Cert.SumDownIdeal.nD Cert.SumDownIdeal.τ).loc Cert.SumDownIdeal.main_arg0)) →
    ∃ (v0 : (c : Dev Cert.SumDownIdeal.nD) → Buf (Elt Ideal) ((c.tc : Thread Cert.SumDownIdeal.nD Cert.SumDownIdeal.τ).loc Cert.SumDownIdeal.main_v0)),
      θ_run (Cert.SumDownIdeal.defs (F := Ideal)) (onTc (τ := Cert.SumDownIdeal.τ) (Cert.SumDownIdeal.main (F := Ideal))) ⟨m, fun _ => 0, g⟩ (fun r => ∀ c : Dev Cert.SumDownIdeal.nD,
          r.2.mem ((c.tc : Thread Cert.SumDownIdeal.nD Cert.SumDownIdeal.τ).loc Cert.SumDownIdeal.main_v0) = v0 c
          ∧ r.2.mem ((c.tc : Thread Cert.SumDownIdeal.nD Cert.SumDownIdeal.τ).loc Cert.SumDownIdeal.main_arg0) = m ((c.tc : Thread Cert.SumDownIdeal.nD Cert.SumDownIdeal.τ).loc Cert.SumDownIdeal.main_arg0))
      ∧ θ_run (Cert.SumDownRefIdeal.defs (F := Ideal)) (onTc (τ := Cert.SumDownRefIdeal.τ) (Cert.SumDownRefIdeal.main (F := Ideal))) ⟨m', fun _ => 0, g'⟩ (fun r => ∀ c : Dev Cert.SumDownRefIdeal.nD,
          r.2.mem ((c.tc : Thread Cert.SumDownRefIdeal.nD Cert.SumDownRefIdeal.τ).loc Cert.SumDownRefIdeal.main_v1) = v0 c
          ∧ r.2.mem ((c.tc : Thread Cert.SumDownRefIdeal.nD Cert.SumDownRefIdeal.τ).loc Cert.SumDownRefIdeal.main_arg0) = m' ((c.tc : Thread Cert.SumDownRefIdeal.nD Cert.SumDownRefIdeal.τ).loc Cert.SumDownRefIdeal.main_arg0))

def preserves_SumSmall_SumSmallIdeal : Prop :=
  True

def algebraic_SumSmallIdeal_SumSmallRefIdeal [hSumSmallIdeal : Cert.SumSmallIdeal.Facts] [hSumSmallRefIdeal : Cert.SumSmallRefIdeal.Facts] : Prop :=
  ∀ (m : (ℓ : Loc Cert.SumSmallIdeal.nD Cert.SumSmallIdeal.τ Cert.SumSmallIdeal.sig) → Buf (Elt Ideal) ℓ) (g : Dev Cert.SumSmallIdeal.nD → PrngReg)
    (m' : (ℓ : Loc Cert.SumSmallRefIdeal.nD Cert.SumSmallRefIdeal.τ Cert.SumSmallRefIdeal.sig) → Buf (Elt Ideal) ℓ) (g' : Dev Cert.SumSmallRefIdeal.nD → PrngReg), Pre_SumSmallIdeal m →
    (∀ c : Dev Cert.SumSmallIdeal.nD,
      m' ((c.tc : Thread Cert.SumSmallRefIdeal.nD Cert.SumSmallRefIdeal.τ).loc Cert.SumSmallRefIdeal.main_arg0) = m ((c.tc : Thread Cert.SumSmallIdeal.nD Cert.SumSmallIdeal.τ).loc Cert.SumSmallIdeal.main_arg0)) →
    ∃ (v0 : (c : Dev Cert.SumSmallIdeal.nD) → Buf (Elt Ideal) ((c.tc : Thread Cert.SumSmallIdeal.nD Cert.SumSmallIdeal.τ).loc Cert.SumSmallIdeal.main_v0)),
      θ_run (Cert.SumSmallIdeal.defs (F := Ideal)) (onTc (τ := Cert.SumSmallIdeal.τ) (Cert.SumSmallIdeal.main (F := Ideal))) ⟨m, fun _ => 0, g⟩ (fun r => ∀ c : Dev Cert.SumSmallIdeal.nD,
          r.2.mem ((c.tc : Thread Cert.SumSmallIdeal.nD Cert.SumSmallIdeal.τ).loc Cert.SumSmallIdeal.main_v0) = v0 c
          ∧ r.2.mem ((c.tc : Thread Cert.SumSmallIdeal.nD Cert.SumSmallIdeal.τ).loc Cert.SumSmallIdeal.main_arg0) = m ((c.tc : Thread Cert.SumSmallIdeal.nD Cert.SumSmallIdeal.τ).loc Cert.SumSmallIdeal.main_arg0))
      ∧ θ_run (Cert.SumSmallRefIdeal.defs (F := Ideal)) (onTc (τ := Cert.SumSmallRefIdeal.τ) (Cert.SumSmallRefIdeal.main (F := Ideal))) ⟨m', fun _ => 0, g'⟩ (fun r => ∀ c : Dev Cert.SumSmallRefIdeal.nD,
          r.2.mem ((c.tc : Thread Cert.SumSmallRefIdeal.nD Cert.SumSmallRefIdeal.τ).loc Cert.SumSmallRefIdeal.main_v0) = v0 c
          ∧ r.2.mem ((c.tc : Thread Cert.SumSmallRefIdeal.nD Cert.SumSmallRefIdeal.τ).loc Cert.SumSmallRefIdeal.main_arg0) = m' ((c.tc : Thread Cert.SumSmallRefIdeal.nD Cert.SumSmallRefIdeal.τ).loc Cert.SumSmallRefIdeal.main_arg0))

def Claim : Prop :=
  ∃ (hKernel : Cert.Kernel.Facts) (hKernelIdeal : Cert.KernelIdeal.Facts) (hReferenceIdeal : Cert.ReferenceIdeal.Facts) (hUpDx : Cert.UpDx.Facts) (hUpDxIdeal : Cert.UpDxIdeal.Facts) (hUpDxRefIdeal : Cert.UpDxRefIdeal.Facts) (hUpDw : Cert.UpDw.Facts) (hUpDwIdeal : Cert.UpDwIdeal.Facts) (hUpDwRefIdeal : Cert.UpDwRefIdeal.Facts) (hDownDx : Cert.DownDx.Facts) (hDownDxIdeal : Cert.DownDxIdeal.Facts) (hDownDxRefIdeal : Cert.DownDxRefIdeal.Facts) (hDownDw : Cert.DownDw.Facts) (hDownDwIdeal : Cert.DownDwIdeal.Facts) (hDownDwRefIdeal : Cert.DownDwRefIdeal.Facts) (hQkvDx : Cert.QkvDx.Facts) (hQkvDxIdeal : Cert.QkvDxIdeal.Facts) (hQkvDxRefIdeal : Cert.QkvDxRefIdeal.Facts) (hQkvDw : Cert.QkvDw.Facts) (hQkvDwIdeal : Cert.QkvDwIdeal.Facts) (hQkvDwRefIdeal : Cert.QkvDwRefIdeal.Facts) (hUp : Cert.Up.Facts) (hUpIdeal : Cert.UpIdeal.Facts) (hUpRefIdeal : Cert.UpRefIdeal.Facts) (hDown : Cert.Down.Facts) (hDownIdeal : Cert.DownIdeal.Facts) (hDownRefIdeal : Cert.DownRefIdeal.Facts) (hQkv : Cert.Qkv.Facts) (hQkvIdeal : Cert.QkvIdeal.Facts) (hQkvRefIdeal : Cert.QkvRefIdeal.Facts) (hOutProj : Cert.OutProj.Facts) (hOutProjIdeal : Cert.OutProjIdeal.Facts) (hOutProjRefIdeal : Cert.OutProjRefIdeal.Facts) (hOutProjDx : Cert.OutProjDx.Facts) (hOutProjDxIdeal : Cert.OutProjDxIdeal.Facts) (hOutProjDxRefIdeal : Cert.OutProjDxRefIdeal.Facts) (hOutProjDw : Cert.OutProjDw.Facts) (hOutProjDwIdeal : Cert.OutProjDwIdeal.Facts) (hOutProjDwRefIdeal : Cert.OutProjDwRefIdeal.Facts) (hAdamMod : Cert.AdamMod.Facts) (hAdamModIdeal : Cert.AdamModIdeal.Facts) (hAdamModRefIdeal : Cert.AdamModRefIdeal.Facts) (hAdamModBias : Cert.AdamModBias.Facts) (hAdamModBiasIdeal : Cert.AdamModBiasIdeal.Facts) (hAdamModBiasRefIdeal : Cert.AdamModBiasRefIdeal.Facts) (hAdamNorm : Cert.AdamNorm.Facts) (hAdamNormIdeal : Cert.AdamNormIdeal.Facts) (hAdamNormRefIdeal : Cert.AdamNormRefIdeal.Facts) (hAdamQkv : Cert.AdamQkv.Facts) (hAdamQkvIdeal : Cert.AdamQkvIdeal.Facts) (hAdamQkvRefIdeal : Cert.AdamQkvRefIdeal.Facts) (hAdamO : Cert.AdamO.Facts) (hAdamOIdeal : Cert.AdamOIdeal.Facts) (hAdamORefIdeal : Cert.AdamORefIdeal.Facts) (hAdamForget : Cert.AdamForget.Facts) (hAdamForgetIdeal : Cert.AdamForgetIdeal.Facts) (hAdamForgetRefIdeal : Cert.AdamForgetRefIdeal.Facts) (hAdamForgetBias : Cert.AdamForgetBias.Facts) (hAdamForgetBiasIdeal : Cert.AdamForgetBiasIdeal.Facts) (hAdamForgetBiasRefIdeal : Cert.AdamForgetBiasRefIdeal.Facts) (hAdamUp : Cert.AdamUp.Facts) (hAdamUpIdeal : Cert.AdamUpIdeal.Facts) (hAdamUpRefIdeal : Cert.AdamUpRefIdeal.Facts) (hAdamConv : Cert.AdamConv.Facts) (hAdamConvIdeal : Cert.AdamConvIdeal.Facts) (hAdamConvRefIdeal : Cert.AdamConvRefIdeal.Facts) (hAdamConvBias : Cert.AdamConvBias.Facts) (hAdamConvBiasIdeal : Cert.AdamConvBiasIdeal.Facts) (hAdamConvBiasRefIdeal : Cert.AdamConvBiasRefIdeal.Facts) (hAdamDown : Cert.AdamDown.Facts) (hAdamDownIdeal : Cert.AdamDownIdeal.Facts) (hAdamDownRefIdeal : Cert.AdamDownRefIdeal.Facts) (hModDw : Cert.ModDw.Facts) (hModDwIdeal : Cert.ModDwIdeal.Facts) (hModDwRefIdeal : Cert.ModDwRefIdeal.Facts) (hSumQkv : Cert.SumQkv.Facts) (hSumQkvIdeal : Cert.SumQkvIdeal.Facts) (hSumQkvRefIdeal : Cert.SumQkvRefIdeal.Facts) (hSumO : Cert.SumO.Facts) (hSumOIdeal : Cert.SumOIdeal.Facts) (hSumORefIdeal : Cert.SumORefIdeal.Facts) (hSumUp : Cert.SumUp.Facts) (hSumUpIdeal : Cert.SumUpIdeal.Facts) (hSumUpRefIdeal : Cert.SumUpRefIdeal.Facts) (hSumDown : Cert.SumDown.Facts) (hSumDownIdeal : Cert.SumDownIdeal.Facts) (hSumDownRefIdeal : Cert.SumDownRefIdeal.Facts) (hSumSmall : Cert.SumSmall.Facts) (hSumSmallIdeal : Cert.SumSmallIdeal.Facts) (hSumSmallRefIdeal : Cert.SumSmallRefIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_UpDx (hUpDx := hUpDx)
    ∧ quiescent_UpDxIdeal (hUpDxIdeal := hUpDxIdeal)
    ∧ quiescent_UpDxRefIdeal (hUpDxRefIdeal := hUpDxRefIdeal)
    ∧ quiescent_UpDw (hUpDw := hUpDw)
    ∧ quiescent_UpDwIdeal (hUpDwIdeal := hUpDwIdeal)
    ∧ quiescent_UpDwRefIdeal (hUpDwRefIdeal := hUpDwRefIdeal)
    ∧ quiescent_DownDx (hDownDx := hDownDx)
    ∧ quiescent_DownDxIdeal (hDownDxIdeal := hDownDxIdeal)
    ∧ quiescent_DownDxRefIdeal (hDownDxRefIdeal := hDownDxRefIdeal)
    ∧ quiescent_DownDw (hDownDw := hDownDw)
    ∧ quiescent_DownDwIdeal (hDownDwIdeal := hDownDwIdeal)
    ∧ quiescent_DownDwRefIdeal (hDownDwRefIdeal := hDownDwRefIdeal)
    ∧ quiescent_QkvDx (hQkvDx := hQkvDx)
    ∧ quiescent_QkvDxIdeal (hQkvDxIdeal := hQkvDxIdeal)
    ∧ quiescent_QkvDxRefIdeal (hQkvDxRefIdeal := hQkvDxRefIdeal)
    ∧ quiescent_QkvDw (hQkvDw := hQkvDw)
    ∧ quiescent_QkvDwIdeal (hQkvDwIdeal := hQkvDwIdeal)
    ∧ quiescent_QkvDwRefIdeal (hQkvDwRefIdeal := hQkvDwRefIdeal)
    ∧ quiescent_Up (hUp := hUp)
    ∧ quiescent_UpIdeal (hUpIdeal := hUpIdeal)
    ∧ quiescent_UpRefIdeal (hUpRefIdeal := hUpRefIdeal)
    ∧ quiescent_Down (hDown := hDown)
    ∧ quiescent_DownIdeal (hDownIdeal := hDownIdeal)
    ∧ quiescent_DownRefIdeal (hDownRefIdeal := hDownRefIdeal)
    ∧ quiescent_Qkv (hQkv := hQkv)
    ∧ quiescent_QkvIdeal (hQkvIdeal := hQkvIdeal)
    ∧ quiescent_QkvRefIdeal (hQkvRefIdeal := hQkvRefIdeal)
    ∧ quiescent_OutProj (hOutProj := hOutProj)
    ∧ quiescent_OutProjIdeal (hOutProjIdeal := hOutProjIdeal)
    ∧ quiescent_OutProjRefIdeal (hOutProjRefIdeal := hOutProjRefIdeal)
    ∧ quiescent_OutProjDx (hOutProjDx := hOutProjDx)
    ∧ quiescent_OutProjDxIdeal (hOutProjDxIdeal := hOutProjDxIdeal)
    ∧ quiescent_OutProjDxRefIdeal (hOutProjDxRefIdeal := hOutProjDxRefIdeal)
    ∧ quiescent_OutProjDw (hOutProjDw := hOutProjDw)
    ∧ quiescent_OutProjDwIdeal (hOutProjDwIdeal := hOutProjDwIdeal)
    ∧ quiescent_OutProjDwRefIdeal (hOutProjDwRefIdeal := hOutProjDwRefIdeal)
    ∧ quiescent_AdamMod (hAdamMod := hAdamMod)
    ∧ quiescent_AdamModIdeal (hAdamModIdeal := hAdamModIdeal)
    ∧ quiescent_AdamModRefIdeal (hAdamModRefIdeal := hAdamModRefIdeal)
    ∧ quiescent_AdamModBias (hAdamModBias := hAdamModBias)
    ∧ quiescent_AdamModBiasIdeal (hAdamModBiasIdeal := hAdamModBiasIdeal)
    ∧ quiescent_AdamModBiasRefIdeal (hAdamModBiasRefIdeal := hAdamModBiasRefIdeal)
    ∧ quiescent_AdamNorm (hAdamNorm := hAdamNorm)
    ∧ quiescent_AdamNormIdeal (hAdamNormIdeal := hAdamNormIdeal)
    ∧ quiescent_AdamNormRefIdeal (hAdamNormRefIdeal := hAdamNormRefIdeal)
    ∧ quiescent_AdamQkv (hAdamQkv := hAdamQkv)
    ∧ quiescent_AdamQkvIdeal (hAdamQkvIdeal := hAdamQkvIdeal)
    ∧ quiescent_AdamQkvRefIdeal (hAdamQkvRefIdeal := hAdamQkvRefIdeal)
    ∧ quiescent_AdamO (hAdamO := hAdamO)
    ∧ quiescent_AdamOIdeal (hAdamOIdeal := hAdamOIdeal)
    ∧ quiescent_AdamORefIdeal (hAdamORefIdeal := hAdamORefIdeal)
    ∧ quiescent_AdamForget (hAdamForget := hAdamForget)
    ∧ quiescent_AdamForgetIdeal (hAdamForgetIdeal := hAdamForgetIdeal)
    ∧ quiescent_AdamForgetRefIdeal (hAdamForgetRefIdeal := hAdamForgetRefIdeal)
    ∧ quiescent_AdamForgetBias (hAdamForgetBias := hAdamForgetBias)
    ∧ quiescent_AdamForgetBiasIdeal (hAdamForgetBiasIdeal := hAdamForgetBiasIdeal)
    ∧ quiescent_AdamForgetBiasRefIdeal (hAdamForgetBiasRefIdeal := hAdamForgetBiasRefIdeal)
    ∧ quiescent_AdamUp (hAdamUp := hAdamUp)
    ∧ quiescent_AdamUpIdeal (hAdamUpIdeal := hAdamUpIdeal)
    ∧ quiescent_AdamUpRefIdeal (hAdamUpRefIdeal := hAdamUpRefIdeal)
    ∧ quiescent_AdamConv (hAdamConv := hAdamConv)
    ∧ quiescent_AdamConvIdeal (hAdamConvIdeal := hAdamConvIdeal)
    ∧ quiescent_AdamConvRefIdeal (hAdamConvRefIdeal := hAdamConvRefIdeal)
    ∧ quiescent_AdamConvBias (hAdamConvBias := hAdamConvBias)
    ∧ quiescent_AdamConvBiasIdeal (hAdamConvBiasIdeal := hAdamConvBiasIdeal)
    ∧ quiescent_AdamConvBiasRefIdeal (hAdamConvBiasRefIdeal := hAdamConvBiasRefIdeal)
    ∧ quiescent_AdamDown (hAdamDown := hAdamDown)
    ∧ quiescent_AdamDownIdeal (hAdamDownIdeal := hAdamDownIdeal)
    ∧ quiescent_AdamDownRefIdeal (hAdamDownRefIdeal := hAdamDownRefIdeal)
    ∧ quiescent_ModDw (hModDw := hModDw)
    ∧ quiescent_ModDwIdeal (hModDwIdeal := hModDwIdeal)
    ∧ quiescent_ModDwRefIdeal (hModDwRefIdeal := hModDwRefIdeal)
    ∧ quiescent_SumQkv (hSumQkv := hSumQkv)
    ∧ quiescent_SumQkvIdeal (hSumQkvIdeal := hSumQkvIdeal)
    ∧ quiescent_SumQkvRefIdeal (hSumQkvRefIdeal := hSumQkvRefIdeal)
    ∧ quiescent_SumO (hSumO := hSumO)
    ∧ quiescent_SumOIdeal (hSumOIdeal := hSumOIdeal)
    ∧ quiescent_SumORefIdeal (hSumORefIdeal := hSumORefIdeal)
    ∧ quiescent_SumUp (hSumUp := hSumUp)
    ∧ quiescent_SumUpIdeal (hSumUpIdeal := hSumUpIdeal)
    ∧ quiescent_SumUpRefIdeal (hSumUpRefIdeal := hSumUpRefIdeal)
    ∧ quiescent_SumDown (hSumDown := hSumDown)
    ∧ quiescent_SumDownIdeal (hSumDownIdeal := hSumDownIdeal)
    ∧ quiescent_SumDownRefIdeal (hSumDownRefIdeal := hSumDownRefIdeal)
    ∧ quiescent_SumSmall (hSumSmall := hSumSmall)
    ∧ quiescent_SumSmallIdeal (hSumSmallIdeal := hSumSmallIdeal)
    ∧ quiescent_SumSmallRefIdeal (hSumSmallRefIdeal := hSumSmallRefIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_UpDx_UpDxIdeal
    ∧ algebraic_UpDxIdeal_UpDxRefIdeal (hUpDxIdeal := hUpDxIdeal) (hUpDxRefIdeal := hUpDxRefIdeal)
    ∧ preserves_UpDw_UpDwIdeal
    ∧ algebraic_UpDwIdeal_UpDwRefIdeal (hUpDwIdeal := hUpDwIdeal) (hUpDwRefIdeal := hUpDwRefIdeal)
    ∧ preserves_DownDx_DownDxIdeal
    ∧ algebraic_DownDxIdeal_DownDxRefIdeal (hDownDxIdeal := hDownDxIdeal) (hDownDxRefIdeal := hDownDxRefIdeal)
    ∧ preserves_DownDw_DownDwIdeal
    ∧ algebraic_DownDwIdeal_DownDwRefIdeal (hDownDwIdeal := hDownDwIdeal) (hDownDwRefIdeal := hDownDwRefIdeal)
    ∧ preserves_QkvDx_QkvDxIdeal
    ∧ algebraic_QkvDxIdeal_QkvDxRefIdeal (hQkvDxIdeal := hQkvDxIdeal) (hQkvDxRefIdeal := hQkvDxRefIdeal)
    ∧ preserves_QkvDw_QkvDwIdeal
    ∧ algebraic_QkvDwIdeal_QkvDwRefIdeal (hQkvDwIdeal := hQkvDwIdeal) (hQkvDwRefIdeal := hQkvDwRefIdeal)
    ∧ preserves_Up_UpIdeal
    ∧ algebraic_UpIdeal_UpRefIdeal (hUpIdeal := hUpIdeal) (hUpRefIdeal := hUpRefIdeal)
    ∧ preserves_Down_DownIdeal
    ∧ algebraic_DownIdeal_DownRefIdeal (hDownIdeal := hDownIdeal) (hDownRefIdeal := hDownRefIdeal)
    ∧ preserves_Qkv_QkvIdeal
    ∧ algebraic_QkvIdeal_QkvRefIdeal (hQkvIdeal := hQkvIdeal) (hQkvRefIdeal := hQkvRefIdeal)
    ∧ preserves_OutProj_OutProjIdeal
    ∧ algebraic_OutProjIdeal_OutProjRefIdeal (hOutProjIdeal := hOutProjIdeal) (hOutProjRefIdeal := hOutProjRefIdeal)
    ∧ preserves_OutProjDx_OutProjDxIdeal
    ∧ algebraic_OutProjDxIdeal_OutProjDxRefIdeal (hOutProjDxIdeal := hOutProjDxIdeal) (hOutProjDxRefIdeal := hOutProjDxRefIdeal)
    ∧ preserves_OutProjDw_OutProjDwIdeal
    ∧ algebraic_OutProjDwIdeal_OutProjDwRefIdeal (hOutProjDwIdeal := hOutProjDwIdeal) (hOutProjDwRefIdeal := hOutProjDwRefIdeal)
    ∧ preserves_AdamMod_AdamModIdeal
    ∧ algebraic_AdamModIdeal_AdamModRefIdeal (hAdamModIdeal := hAdamModIdeal) (hAdamModRefIdeal := hAdamModRefIdeal)
    ∧ preserves_AdamModBias_AdamModBiasIdeal
    ∧ algebraic_AdamModBiasIdeal_AdamModBiasRefIdeal (hAdamModBiasIdeal := hAdamModBiasIdeal) (hAdamModBiasRefIdeal := hAdamModBiasRefIdeal)
    ∧ preserves_AdamNorm_AdamNormIdeal
    ∧ algebraic_AdamNormIdeal_AdamNormRefIdeal (hAdamNormIdeal := hAdamNormIdeal) (hAdamNormRefIdeal := hAdamNormRefIdeal)
    ∧ preserves_AdamQkv_AdamQkvIdeal
    ∧ algebraic_AdamQkvIdeal_AdamQkvRefIdeal (hAdamQkvIdeal := hAdamQkvIdeal) (hAdamQkvRefIdeal := hAdamQkvRefIdeal)
    ∧ preserves_AdamO_AdamOIdeal
    ∧ algebraic_AdamOIdeal_AdamORefIdeal (hAdamOIdeal := hAdamOIdeal) (hAdamORefIdeal := hAdamORefIdeal)
    ∧ preserves_AdamForget_AdamForgetIdeal
    ∧ algebraic_AdamForgetIdeal_AdamForgetRefIdeal (hAdamForgetIdeal := hAdamForgetIdeal) (hAdamForgetRefIdeal := hAdamForgetRefIdeal)
    ∧ preserves_AdamForgetBias_AdamForgetBiasIdeal
    ∧ algebraic_AdamForgetBiasIdeal_AdamForgetBiasRefIdeal (hAdamForgetBiasIdeal := hAdamForgetBiasIdeal) (hAdamForgetBiasRefIdeal := hAdamForgetBiasRefIdeal)
    ∧ preserves_AdamUp_AdamUpIdeal
    ∧ algebraic_AdamUpIdeal_AdamUpRefIdeal (hAdamUpIdeal := hAdamUpIdeal) (hAdamUpRefIdeal := hAdamUpRefIdeal)
    ∧ preserves_AdamConv_AdamConvIdeal
    ∧ algebraic_AdamConvIdeal_AdamConvRefIdeal (hAdamConvIdeal := hAdamConvIdeal) (hAdamConvRefIdeal := hAdamConvRefIdeal)
    ∧ preserves_AdamConvBias_AdamConvBiasIdeal
    ∧ algebraic_AdamConvBiasIdeal_AdamConvBiasRefIdeal (hAdamConvBiasIdeal := hAdamConvBiasIdeal) (hAdamConvBiasRefIdeal := hAdamConvBiasRefIdeal)
    ∧ preserves_AdamDown_AdamDownIdeal
    ∧ algebraic_AdamDownIdeal_AdamDownRefIdeal (hAdamDownIdeal := hAdamDownIdeal) (hAdamDownRefIdeal := hAdamDownRefIdeal)
    ∧ preserves_ModDw_ModDwIdeal
    ∧ algebraic_ModDwIdeal_ModDwRefIdeal (hModDwIdeal := hModDwIdeal) (hModDwRefIdeal := hModDwRefIdeal)
    ∧ preserves_SumQkv_SumQkvIdeal
    ∧ algebraic_SumQkvIdeal_SumQkvRefIdeal (hSumQkvIdeal := hSumQkvIdeal) (hSumQkvRefIdeal := hSumQkvRefIdeal)
    ∧ preserves_SumO_SumOIdeal
    ∧ algebraic_SumOIdeal_SumORefIdeal (hSumOIdeal := hSumOIdeal) (hSumORefIdeal := hSumORefIdeal)
    ∧ preserves_SumUp_SumUpIdeal
    ∧ algebraic_SumUpIdeal_SumUpRefIdeal (hSumUpIdeal := hSumUpIdeal) (hSumUpRefIdeal := hSumUpRefIdeal)
    ∧ preserves_SumDown_SumDownIdeal
    ∧ algebraic_SumDownIdeal_SumDownRefIdeal (hSumDownIdeal := hSumDownIdeal) (hSumDownRefIdeal := hSumDownRefIdeal)
    ∧ preserves_SumSmall_SumSmallIdeal
    ∧ algebraic_SumSmallIdeal_SumSmallRefIdeal (hSumSmallIdeal := hSumSmallIdeal) (hSumSmallRefIdeal := hSumSmallRefIdeal)
-- ==== Pre_finite.lean ====
abbrev S4096x3072 : Shape := ⟨2, ![4096, 3072]⟩
abbrev S4096x16 : Shape := ⟨2, ![4096, 16]⟩
abbrev S4096x1024 : Shape := ⟨2, ![4096, 1024]⟩
abbrev S_ : Shape := ⟨0, ![]⟩

class Facts : Prop where
  bitsLt_bf16_f32 : FTy.bits .bf16 < FTy.bits .f32
  bcast_S_S4096x3072 : S_.BroadcastsInDim S4096x3072 (![] : Fin 0 → Fin S4096x3072.rank)
  bcast_S_S4096x16 : S_.BroadcastsInDim S4096x16 (![] : Fin 0 → Fin S4096x16.rank)
  bcast_S_S4096x1024 : S_.BroadcastsInDim S4096x1024 (![] : Fin 0 → Fin S4096x1024.rank)

variable [Facts]

def fn {F : FTy → Type} [FloatOps F] (main_arg0 : FVec F S4096x3072 .bf16) (main_arg1 : FVec F S4096x16 .f32) (main_arg2 : FVec F S4096x1024 .f32) : IVec S4096x3072 1 × IVec S4096x16 1 × IVec S4096x1024 1 :=
  let main_v0 : FVec F S4096x3072 .f32 := (extf .f32 · bitsLt_bf16_f32) main_arg0
  let main_v1 : FVec F S4096x3072 .f32 := Host.absf main_v0
  let main_cst : FVec F S_ .f32 := constant S_ .f32 0x7F800000#32
  let main_v2 : FVec F S4096x3072 .f32 := broadcastInDim S4096x3072 ![] bcast_S_S4096x3072 main_cst
  let main_v3 : IVec S4096x3072 1 := cmpf .olt main_v1 main_v2
  let main_v4 : FVec F S4096x16 .f32 := Host.absf main_arg1
  let main_cst_0 : FVec F S_ .f32 := constant S_ .f32 0x7F800000#32
  let main_v5 : FVec F S4096x16 .f32 := broadcastInDim S4096x16 ![] bcast_S_S4096x16 main_cst_0
  let main_v6 : IVec S4096x16 1 := cmpf .olt main_v4 main_v5
  let main_v7 : FVec F S4096x1024 .f32 := Host.absf main_arg2
  let main_cst_1 : FVec F S_ .f32 := constant S_ .f32 0x7F800000#32
  let main_v8 : FVec F S4096x1024 .f32 := broadcastInDim S4096x1024 ![] bcast_S_S4096x1024 main_cst_1
  let main_v9 : IVec S4096x1024 1 := cmpf .olt main_v7 main_v8
  (main_v3, main_v6, main_v9)
-- ==== Kernel.lean ====
abbrev S4096x3072 : Shape := ⟨2, ![4096, 3072]⟩
abbrev S4096x16 : Shape := ⟨2, ![4096, 16]⟩
abbrev S4096x1024 : Shape := ⟨2, ![4096, 1024]⟩
abbrev S4096x16x64 : Shape := ⟨3, ![4096, 16, 64]⟩
abbrev S16x4096x64 : Shape := ⟨3, ![16, 4096, 64]⟩
abbrev S16x4096x4096 : Shape := ⟨3, ![16, 4096, 4096]⟩
abbrev S_ : Shape := ⟨0, ![]⟩
abbrev S16x4096 : Shape := ⟨2, ![16, 4096]⟩
abbrev S16x4096x1 : Shape := ⟨3, ![16, 4096, 1]⟩
abbrev S16x1x4096 : Shape := ⟨3, ![16, 1, 4096]⟩
abbrev S4096 : Shape := ⟨1, ![4096]⟩
abbrev S4096x1 : Shape := ⟨2, ![4096, 1]⟩
abbrev S1x4096 : Shape := ⟨2, ![1, 4096]⟩
abbrev S4096x4096 : Shape := ⟨2, ![4096, 4096]⟩
abbrev S4096x16x128 : Shape := ⟨3, ![4096, 16, 128]⟩
abbrev S4096x2048 : Shape := ⟨2, ![4096, 2048]⟩
abbrev S16x8x4096 : Shape := ⟨3, ![16, 8, 4096]⟩
abbrev S128x4096 : Shape := ⟨2, ![128, 4096]⟩
abbrev S1024x128 : Shape := ⟨2, ![1024, 128]⟩
abbrev S4096x128 : Shape := ⟨2, ![4096, 128]⟩
abbrev S16x1024 : Shape := ⟨2, ![16, 1024]⟩
abbrev S4096x256 : Shape := ⟨2, ![4096, 256]⟩
abbrev S1024x64 : Shape := ⟨2, ![1024, 64]⟩
abbrev S128x1024 : Shape := ⟨2, ![128, 1024]⟩
abbrev S64x1024 : Shape := ⟨2, ![64, 1024]⟩
abbrev S1024 : Shape := ⟨1, ![1024]⟩
abbrev S1x1024 : Shape := ⟨2, ![1, 1024]⟩
abbrev S128x64 : Shape := ⟨2, ![128, 64]⟩
abbrev S128x128 : Shape := ⟨2, ![128, 128]⟩
abbrev S128 : Shape := ⟨1, ![128]⟩
abbrev S128x1 : Shape := ⟨2, ![128, 1]⟩
abbrev S128x896 : Shape := ⟨2, ![128, 896]⟩
abbrev S896x64 : Shape := ⟨2, ![896, 64]⟩
abbrev S1x896 : Shape := ⟨2, ![1, 896]⟩
abbrev S64x896 : Shape := ⟨2, ![64, 896]⟩
abbrev S64x128 : Shape := ⟨2, ![64, 128]⟩
abbrev S896 : Shape := ⟨1, ![896]⟩
abbrev S1x128 : Shape := ⟨2, ![1, 128]⟩
abbrev S128x768 : Shape := ⟨2, ![128, 768]⟩
abbrev S768x64 : Shape := ⟨2, ![768, 64]⟩
abbrev S1x768 : Shape := ⟨2, ![1, 768]⟩
abbrev S64x768 : Shape := ⟨2, ![64, 768]⟩
abbrev S64x256 : Shape := ⟨2, ![64, 256]⟩
abbrev S768 : Shape := ⟨1, ![768]⟩
abbrev S1x256 : Shape := ⟨2, ![1, 256]⟩
abbrev S128x640 : Shape := ⟨2, ![128, 640]⟩
abbrev S640x64 : Shape := ⟨2, ![640, 64]⟩
abbrev S1x640 : Shape := ⟨2, ![1, 640]⟩
abbrev S64x640 : Shape := ⟨2, ![64, 640]⟩
abbrev S64x384 : Shape := ⟨2, ![64, 384]⟩
abbrev S640 : Shape := ⟨1, ![640]⟩
abbrev S1x384 : Shape := ⟨2, ![1, 384]⟩
abbrev S128x512 : Shape := ⟨2, ![128, 512]⟩
abbrev S512x64 : Shape := ⟨2, ![512, 64]⟩
abbrev S1x512 : Shape := ⟨2, ![1, 512]⟩
abbrev S64x512 : Shape := ⟨2, ![64, 512]⟩
abbrev S512 : Shape := ⟨1, ![512]⟩
abbrev S128x384 : Shape := ⟨2, ![128, 384]⟩
abbrev S384x64 : Shape := ⟨2, ![384, 64]⟩
abbrev S384 : Shape := ⟨1, ![384]⟩
abbrev S128x256 : Shape := ⟨2, ![128, 256]⟩
abbrev S256x64 : Shape := ⟨2, ![256, 64]⟩
abbrev S256 : Shape := ⟨1, ![256]⟩
abbrev S8x1024 : Shape := ⟨2, ![8, 1024]⟩

abbrev nBuf : Space → Nat
  | .hbm => 104
  | .vmem => 28
  | .smem => 0
  | _ => 0

abbrev bufTy : (tb : Table) → Fin (tcTables nBuf tb) → BufTy
  | .hbm, ⟨0, _⟩ => ⟨S4096x3072, .bf16⟩
  | .hbm, ⟨1, _⟩ => ⟨S4096x16, .f32⟩
  | .hbm, ⟨2, _⟩ => ⟨S4096x1024, .f32⟩
  | .hbm, ⟨3, _⟩ => ⟨S4096x3072, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S4096x16x64, .f32⟩
  | .hbm, ⟨8, _⟩ => ⟨S16x4096x64, .f32⟩
  | .hbm, ⟨9, _⟩ => ⟨S4096x16x64, .f32⟩
  | .hbm, ⟨10, _⟩ => ⟨S16x4096x64, .f32⟩
  | .hbm, ⟨11, _⟩ => ⟨S16x4096x4096, .f32⟩
  | .hbm, ⟨12, _⟩ => ⟨S_, .f32⟩
  | .hbm, ⟨13, _⟩ => ⟨S16x4096x4096, .f32⟩
  | .hbm, ⟨14, _⟩ => ⟨S16x4096x4096, .f32⟩
  | .hbm, ⟨15, _⟩ => ⟨S16x4096, .f32⟩
  | .hbm, ⟨16, _⟩ => ⟨S16x4096x1, .f32⟩
  | .hbm, ⟨17, _⟩ => ⟨S16x4096, .f32⟩
  | .hbm, ⟨18, _⟩ => ⟨S16x1x4096, .f32⟩
  | .hbm, ⟨19, _⟩ => ⟨S16x4096x4096, .f32⟩
  | .hbm, ⟨20, _⟩ => ⟨S16x4096x4096, .f32⟩
  | .hbm, ⟨21, _⟩ => ⟨S16x4096x4096, .f32⟩
  | .hbm, ⟨22, _⟩ => ⟨S4096, .i32⟩
  | .hbm, ⟨23, _⟩ => ⟨S4096x1, .i32⟩
  | .hbm, ⟨24, _⟩ => ⟨S4096, .i32⟩
  | .hbm, ⟨25, _⟩ => ⟨S1x4096, .i32⟩
  | .hbm, ⟨26, _⟩ => ⟨S4096x4096, .i32⟩
  | .hbm, ⟨27, _⟩ => ⟨S4096x4096, .i32⟩
  | .hbm, ⟨28, _⟩ => ⟨S4096x4096, .i1⟩
  | .hbm, ⟨29, _⟩ => ⟨S16x4096x4096, .f32⟩
  | .hbm, ⟨30, _⟩ => ⟨S_, .f32⟩
  | .hbm, ⟨31, _⟩ => ⟨S_, .f32⟩
  | .hbm, ⟨32, _⟩ => ⟨S16x4096x4096, .i1⟩
  | .hbm, ⟨33, _⟩ => ⟨S16x4096x4096, .f32⟩
  | .hbm, ⟨34, _⟩ => ⟨S16x4096x4096, .f32⟩
  | .hbm, ⟨35, _⟩ => ⟨S_, .f32⟩
  | .hbm, ⟨36, _⟩ => ⟨S16x4096, .f32⟩
  | .hbm, ⟨37, _⟩ => ⟨S16x4096x1, .f32⟩
  | .hbm, ⟨38, _⟩ => ⟨S16x4096x4096, .f32⟩
  | .hbm, ⟨39, _⟩ => ⟨S16x4096x4096, .f32⟩
  | .hbm, ⟨40, _⟩ => ⟨S16x4096x4096, .f32⟩
  | .hbm, ⟨41, _⟩ => ⟨S_, .f32⟩
  | .hbm, ⟨42, _⟩ => ⟨S16x4096, .f32⟩
  | .hbm, ⟨43, _⟩ => ⟨S16x4096, .f32⟩
  | .hbm, ⟨44, _⟩ => ⟨S16x4096, .f32⟩
  | .hbm, ⟨45, _⟩ => ⟨S4096x16x64, .f32⟩
  | .hbm, ⟨46, _⟩ => ⟨S16x4096x64, .f32⟩
  | .hbm, ⟨47, _⟩ => ⟨S4096x16x64, .f32⟩
  | .hbm, ⟨48, _⟩ => ⟨S16x4096x64, .f32⟩
  | .hbm, ⟨49, _⟩ => ⟨S16x4096x4096, .f32⟩
  | .hbm, ⟨50, _⟩ => ⟨S_, .f32⟩
  | .hbm, ⟨51, _⟩ => ⟨S16x4096x4096, .f32⟩
  | .hbm, ⟨52, _⟩ => ⟨S16x4096x4096, .f32⟩
  | .hbm, ⟨53, _⟩ => ⟨S16x4096, .f32⟩
  | .hbm, ⟨54, _⟩ => ⟨S16x4096x1, .f32⟩
  | .hbm, ⟨55, _⟩ => ⟨S16x4096, .f32⟩
  | .hbm, ⟨56, _⟩ => ⟨S16x1x4096, .f32⟩
  | .hbm, ⟨57, _⟩ => ⟨S16x4096x4096, .f32⟩
  | .hbm, ⟨58, _⟩ => ⟨S16x4096x4096, .f32⟩
  | .hbm, ⟨59, _⟩ => ⟨S16x4096x4096, .f32⟩
  | .hbm, ⟨60, _⟩ => ⟨S4096, .i32⟩
  | .hbm, ⟨61, _⟩ => ⟨S4096x1, .i32⟩
  | .hbm, ⟨62, _⟩ => ⟨S4096, .i32⟩
  | .hbm, ⟨63, _⟩ => ⟨S1x4096, .i32⟩
  | .hbm, ⟨64, _⟩ => ⟨S4096x4096, .i32⟩
  | .hbm, ⟨65, _⟩ => ⟨S4096x4096, .i32⟩
  | .hbm, ⟨66, _⟩ => ⟨S4096x4096, .i1⟩
  | .hbm, ⟨67, _⟩ => ⟨S16x4096x4096, .f32⟩
  | .hbm, ⟨68, _⟩ => ⟨S_, .f32⟩
  | .hbm, ⟨69, _⟩ => ⟨S_, .f32⟩
  | .hbm, ⟨70, _⟩ => ⟨S16x4096x4096, .i1⟩
  | .hbm, ⟨71, _⟩ => ⟨S16x4096x4096, .f32⟩
  | .hbm, ⟨72, _⟩ => ⟨S16x4096x4096, .f32⟩
  | .hbm, ⟨73, _⟩ => ⟨S_, .f32⟩
  | .hbm, ⟨74, _⟩ => ⟨S16x4096, .f32⟩
  | .hbm, ⟨75, _⟩ => ⟨S_, .f32⟩
  | .hbm, ⟨76, _⟩ => ⟨S16x4096, .f32⟩
  | .hbm, ⟨77, _⟩ => ⟨S16x4096, .f32⟩
  | .hbm, ⟨78, _⟩ => ⟨S16x4096x1, .f32⟩
  | .hbm, ⟨79, _⟩ => ⟨S16x4096x4096, .f32⟩
  | .hbm, ⟨80, _⟩ => ⟨S16x4096x4096, .f32⟩
  | .hbm, ⟨81, _⟩ => ⟨S16x4096x4096, .f32⟩
  | .hbm, ⟨82, _⟩ => ⟨S_, .f32⟩
  | .hbm, ⟨83, _⟩ => ⟨S16x4096, .f32⟩
  | .hbm, ⟨84, _⟩ => ⟨S16x4096x1, .f32⟩
  | .hbm, ⟨85, _⟩ => ⟨S16x4096x4096, .f32⟩
  | .hbm, ⟨86, _⟩ => ⟨S16x4096x4096, .f32⟩
  | .hbm, ⟨87, _⟩ => ⟨S4096x16x64, .f32⟩
  | .hbm, ⟨88, _⟩ => ⟨S16x4096x64, .f32⟩
  | .hbm, ⟨89, _⟩ => ⟨S16x4096x64, .f32⟩
  | .hbm, ⟨90, _⟩ => ⟨S4096x16x64, .f32⟩
  | .hbm, ⟨91, _⟩ => ⟨S4096x1024, .f32⟩
  | .hbm, ⟨92, _⟩ => ⟨S4096x16x128, .f32⟩
  | .hbm, ⟨93, _⟩ => ⟨S4096x2048, .f32⟩
  | .hbm, ⟨94, _⟩ => ⟨S16x4096, .f32⟩
  | .hbm, ⟨95, _⟩ => ⟨S16x8x4096, .f32⟩
  | .hbm, ⟨96, _⟩ => ⟨S128x4096, .f32⟩
  | .hbm, ⟨97, _⟩ => ⟨S16x8x4096, .f32⟩
  | .hbm, ⟨98, _⟩ => ⟨S128x4096, .f32⟩
  | .hbm, ⟨99, _⟩ => ⟨S4096x1024, .bf16⟩
  | .hbm, ⟨100, _⟩ => ⟨S4096x1024, .bf16⟩
  | .hbm, ⟨101, _⟩ => ⟨S4096x1024, .bf16⟩
  | .hbm, ⟨102, _⟩ => ⟨S128x4096, .f32⟩
  | .hbm, ⟨103, _⟩ => ⟨S4096x2048, .f32⟩
  | .local _ .vmem, ⟨0, _⟩ => ⟨S1024x128, .bf16⟩
  | .local _ .vmem, ⟨1, _⟩ => ⟨S1024x128, .bf16⟩
  | .local _ .vmem, ⟨2, _⟩ => ⟨S4096x128, .bf16⟩
  | .local _ .vmem, ⟨3, _⟩ => ⟨S4096x128, .bf16⟩
  | .local _ .vmem, ⟨4, _⟩ => ⟨S4096x128, .bf16⟩
  | .local _ .vmem, ⟨5, _⟩ => ⟨S4096x128, .bf16⟩
  | .local _ .vmem, ⟨6, _⟩ => ⟨S1024x128, .f32⟩
  | .local _ .vmem, ⟨7, _⟩ => ⟨S1024x128, .f32⟩
  | .local _ .vmem, ⟨8, _⟩ => ⟨S1024x128, .f32⟩
  | .local _ .vmem, ⟨9, _⟩ => ⟨S1024x128, .f32⟩
  | .local _ .vmem, ⟨10, _⟩ => ⟨S16x1024, .f32⟩
  | .local _ .vmem, ⟨11, _⟩ => ⟨S16x1024, .f32⟩
  | .local _ .vmem, ⟨12, _⟩ => ⟨S16x1024, .f32⟩
  | .local _ .vmem, ⟨13, _⟩ => ⟨S16x1024, .f32⟩
  | .local _ .vmem, ⟨14, _⟩ => ⟨S4096x256, .f32⟩
  | .local _ .vmem, ⟨15, _⟩ => ⟨S4096x256, .f32⟩
  | .local _ .vmem, ⟨16, _⟩ => ⟨S1024x128, .bf16⟩
  | .local _ .vmem, ⟨17, _⟩ => ⟨S1024x128, .bf16⟩
  | .local _ .vmem, ⟨18, _⟩ => ⟨S4096x128, .bf16⟩
  | .local _ .vmem, ⟨19, _⟩ => ⟨S4096x128, .bf16⟩
  | .local _ .vmem, ⟨20, _⟩ => ⟨S4096x128, .bf16⟩
  | .local _ .vmem, ⟨21, _⟩ => ⟨S4096x128, .bf16⟩
  | .local _ .vmem, ⟨22, _⟩ => ⟨S16x1024, .f32⟩
  | .local _ .vmem, ⟨23, _⟩ => ⟨S16x1024, .f32⟩
  | .local _ .vmem, ⟨24, _⟩ => ⟨S4096x256, .f32⟩
  | .local _ .vmem, ⟨25, _⟩ => ⟨S4096x256, .f32⟩
  | .local _ .vmem, ⟨26, _⟩ => ⟨S4096x128, .f32⟩
  | .local _ .vmem, ⟨27, _⟩ => ⟨S4096x128, .f32⟩
  | _, _ => ⟨S4096x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_cst_0 : Ref sig .tc := ⟨.hbm, 30, rfl⟩
abbrev main_call0_v0 : Ref sig .tc := ⟨.hbm, 31, rfl⟩
abbrev main_call0_v1 : Ref sig .tc := ⟨.hbm, 32, rfl⟩
abbrev main_call0_v2 : Ref sig .tc := ⟨.hbm, 33, rfl⟩
abbrev main_v26 : Ref sig .tc := ⟨.hbm, 34, rfl⟩
abbrev main_cst_1 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_cst_2 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_cst_3 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_cst_4 : Ref sig .tc := ⟨.hbm, 68, rfl⟩
abbrev main_call1_v0 : Ref sig .tc := ⟨.hbm, 69, rfl⟩
abbrev main_call1_v1 : Ref sig .tc := ⟨.hbm, 70, rfl⟩
abbrev main_call1_v2 : Ref sig .tc := ⟨.hbm, 71, rfl⟩
abbrev main_v57 : Ref sig .tc := ⟨.hbm, 72, rfl⟩
abbrev main_cst_5 : Ref sig .tc := ⟨.hbm, 73, rfl⟩
abbrev main_v58 : Ref sig .tc := ⟨.hbm, 74, rfl⟩
abbrev main_cst_6 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_cst_7 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_v79 : Ref sig .tc := ⟨.hbm, 97, rfl⟩
abbrev main_v80 : Ref sig .tc := ⟨.hbm, 98, rfl⟩
abbrev main_v81_0 : Ref sig .tc := ⟨.hbm, 99, rfl⟩
abbrev main_v81_1 : Ref sig .tc := ⟨.hbm, 100, rfl⟩
abbrev main_v81_2 : Ref sig .tc := ⟨.hbm, 101, rfl⟩
abbrev main_v81_3 : Ref sig .tc := ⟨.hbm, 102, rfl⟩
abbrev main_v81_4 : Ref sig .tc := ⟨.hbm, 103, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_scratch0 : Ref sig .tc := ⟨.vmem, 26, rfl⟩
abbrev cc0_scratch1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25

abbrev nD : Nat := 1
abbrev τ : Topo := Topo.v7x

variable {F : FTy → Type} [FloatOps F]

abbrev grid0 : Pipeline.Grid := ⟨2, ![8, 4], ![false, false]⟩

@[reducible] def k0_t1_loop (i : grid0.Coords) : Scf.Loop 32 :=
  let c0_i32_23 : BitVec 32 := 0#32
  let arg1 : BitVec 32 := BitVec.ofNat 32 (i 1).val
  let c4_i32 : BitVec 32 := 4#32
  let v38 : BitVec 32 := Scalar.muli arg1 c4_i32
  let v39 : BitVec 32 := Scalar.subi v38 c0_i32_23
  let c1_i32 : BitVec 32 := 1#32
  let v41 : BitVec 32 := Scalar.divsi v39 c1_i32
  let v42 : BitVec 32 := Scalar.muli v41 c1_i32
  let v43 : BitVec 32 := Scalar.addi c0_i32_23 v42
  let c1_i32_24 : BitVec 32 := 1#32
  ⟨c0_i32_23, v43, c1_i32_24⟩
def k0_mult1 (i : grid0.Coords) (k0_t1 : Fin (k0_t1_loop i).trips) : BitVec 32 :=
  let c2_i32_348 : BitVec 32 := 2#32
  let c0_i32_23 : BitVec 32 := 0#32
  let c1_i32_24 : BitVec 32 := 1#32
  let arg17 : BitVec 32 := Scf.iv c0_i32_23 c1_i32_24 k0_t1
  let v1226 : BitVec 32 := Scalar.muli c2_i32_348 arg17
  let c128_i32_349 : BitVec 32 := 128#32
  let v1227 : BitVec 32 := Scalar.muli v1226 c128_i32_349
  v1227
def k0_off1 (i : grid0.Coords) (k0_t1 : Fin (k0_t1_loop i).trips) : Fin 2 → Nat :=
  let c2_i32_348 : BitVec 32 := 2#32
  let c0_i32_23 : BitVec 32 := 0#32
  let c1_i32_24 : BitVec 32 := 1#32
  let arg17 : BitVec 32 := Scf.iv c0_i32_23 c1_i32_24 k0_t1
  let v1226 : BitVec 32 := Scalar.muli c2_i32_348 arg17
  let c128_i32_349 : BitVec 32 := 128#32
  let v1227 : BitVec 32 := Scalar.muli v1226 c128_i32_349
  let v1228 : BitVec 32 := v1227
  let v1229 : Index := Scalar.indexCast v1228
  let c0_350 : Index := 0#32
  ![v1229.toNat, 0]
def k0_off2 (i : grid0.Coords) (k0_t1 : Fin (k0_t1_loop i).trips) : Fin 2 → Nat :=
  let c2_i32_348 : BitVec 32 := 2#32
  let c0_i32_23 : BitVec 32 := 0#32
  let c1_i32_24 : BitVec 32 := 1#32
  let arg17 : BitVec 32 := Scf.iv c0_i32_23 c1_i32_24 k0_t1
  let v1226 : BitVec 32 := Scalar.muli c2_i32_348 arg17
  let c128_i32_349 : BitVec 32 := 128#32
  let v1227 : BitVec 32 := Scalar.muli v1226 c128_i32_349
  let v1228 : BitVec 32 := v1227
  let v1233 : Index := Scalar.indexCast v1228
  let c0_352 : Index := 0#32
  ![v1233.toNat, 0]
def k0_off3 (i : grid0.Coords) (k0_t1 : Fin (k0_t1_loop i).trips) : Fin 2 → Nat :=
  let c2_i32_348 : BitVec 32 := 2#32
  let c0_i32_23 : BitVec 32 := 0#32
  let c1_i32_24 : BitVec 32 := 1#32
  let arg17 : BitVec 32 := Scf.iv c0_i32_23 c1_i32_24 k0_t1
  let v1226 : BitVec 32 := Scalar.muli c2_i32_348 arg17
  let c128_i32_349 : BitVec 32 := 128#32
  let v1227 : BitVec 32 := Scalar.muli v1226 c128_i32_349
  let v1228 : BitVec 32 := v1227
  let v1281 : Index := Scalar.indexCast v1228
  let c64_366 : Index := 64#32
  ![v1281.toNat, 64]
def k0_off4 (i : grid0.Coords) (k0_t1 : Fin (k0_t1_loop i).trips) : Fin 2 → Nat :=
  let c2_i32_348 : BitVec 32 := 2#32
  let c0_i32_23 : BitVec 32 := 0#32
  let c1_i32_24 : BitVec 32 := 1#32
  let arg17 : BitVec 32 := Scf.iv c0_i32_23 c1_i32_24 k0_t1
  let v1226 : BitVec 32 := Scalar.muli c2_i32_348 arg17
  let c128_i32_349 : BitVec 32 := 128#32
  let v1227 : BitVec 32 := Scalar.muli v1226 c128_i32_349
  let v1228 : BitVec 32 := v1227
  let v1285 : Index := Scalar.indexCast v1228
  let c128_368 : Index := 128#32
  ![v1285.toNat, 128]
def k0_mult2 (i : grid0.Coords) (k0_t1 : Fin (k0_t1_loop i).trips) : BitVec 32 :=
  let c2_i32_346 : BitVec 32 := 2#32
  let c0_i32_23 : BitVec 32 := 0#32
  let c1_i32_24 : BitVec 32 := 1#32
  let arg17 : BitVec 32 := Scf.iv c0_i32_23 c1_i32_24 k0_t1
  let v1224 : BitVec 32 := Scalar.muli c2_i32_346 arg17
  let c1_i32_347 : BitVec 32 := 1#32
  let v1225 : BitVec 32 := Scalar.addi v1224 c1_i32_347
  let c128_i32_382 : BitVec 32 := 128#32
  let v1333 : BitVec 32 := Scalar.muli v1225 c128_i32_382
  v1333
def k0_off5 (i : grid0.Coords) (k0_t1 : Fin (k0_t1_loop i).trips) : Fin 2 → Nat :=
  let c2_i32_346 : BitVec 32 := 2#32
  let c0_i32_23 : BitVec 32 := 0#32
  let c1_i32_24 : BitVec 32 := 1#32
  let arg17 : BitVec 32 := Scf.iv c0_i32_23 c1_i32_24 k0_t1
  let v1224 : BitVec 32 := Scalar.muli c2_i32_346 arg17
  let c1_i32_347 : BitVec 32 := 1#32
  let v1225 : BitVec 32 := Scalar.addi v1224 c1_i32_347
  let c128_i32_382 : BitVec 32 := 128#32
  let v1333 : BitVec 32 := Scalar.muli v1225 c128_i32_382
  let v1334 : BitVec 32 := v1333
  let v1335 : Index := Scalar.indexCast v1334
  let c0_383 : Index := 0#32
  ![v1335.toNat, 0]
def k0_off6 (i : grid0.Coords) (k0_t1 : Fin (k0_t1_loop i).trips) : Fin 2 → Nat :=
  let c2_i32_346 : BitVec 32 := 2#32
  let c0_i32_23 : BitVec 32 := 0#32
  let c1_i32_24 : BitVec 32 := 1#32
  let arg17 : BitVec 32 := Scf.iv c0_i32_23 c1_i32_24 k0_t1
  let v1224 : BitVec 32 := Scalar.muli c2_i32_346 arg17
  let c1_i32_347 : BitVec 32 := 1#32
  let v1225 : BitVec 32 := Scalar.addi v1224 c1_i32_347
  let c128_i32_382 : BitVec 32 := 128#32
  let v1333 : BitVec 32 := Scalar.muli v1225 c128_i32_382
  let v1334 : BitVec 32 := v1333
  let v1339 : Index := Scalar.indexCast v1334
  let c0_385 : Index := 0#32
  ![v1339.toNat, 0]
def k0_off7 (i : grid0.Coords) (k0_t1 : Fin (k0_t1_loop i).trips) : Fin 2 → Nat :=
  let c2_i32_346 : BitVec 32 := 2#32
  let c0_i32_23 : BitVec 32 := 0#32
  let c1_i32_24 : BitVec 32 := 1#32
  let arg17 : BitVec 32 := Scf.iv c0_i32_23 c1_i32_24 k0_t1
  let v1224 : BitVec 32 := Scalar.muli c2_i32_346 arg17
  let c1_i32_347 : BitVec 32 := 1#32
  let v1225 : BitVec 32 := Scalar.addi v1224 c1_i32_347
  let c128_i32_382 : BitVec 32 := 128#32
  let v1333 : BitVec 32 := Scalar.muli v1225 c128_i32_382
  let v1334 : BitVec 32 := v1333
  let v1387 : Index := Scalar.indexCast v1334
  let c64_399 : Index := 64#32
  ![v1387.toNat, 64]
def k0_off8 (i : grid0.Coords) (k0_t1 : Fin (k0_t1_loop i).trips) : Fin 2 → Nat :=
  let c2_i32_346 : BitVec 32 := 2#32
  let c0_i32_23 : BitVec 32 := 0#32
  let c1_i32_24 : BitVec 32 := 1#32
  let arg17 : BitVec 32 := Scf.iv c0_i32_23 c1_i32_24 k0_t1
  let v1224 : BitVec 32 := Scalar.muli c2_i32_346 arg17
  let c1_i32_347 : BitVec 32 := 1#32
  let v1225 : BitVec 32 := Scalar.addi v1224 c1_i32_347
  let c128_i32_382 : BitVec 32 := 128#32
  let v1333 : BitVec 32 := Scalar.muli v1225 c128_i32_382
  let v1334 : BitVec 32 := v1333
  let v1391 : Index := Scalar.indexCast v1334
  let c128_401 : Index := 128#32
  ![v1391.toNat, 128]
@[reducible] def k0_t2_loop (i : grid0.Coords) : Scf.Loop 32 :=
  let c0_i32_23 : BitVec 32 := 0#32
  let arg1 : BitVec 32 := BitVec.ofNat 32 (i 1).val
  let c4_i32 : BitVec 32 := 4#32
  let v38 : BitVec 32 := Scalar.muli arg1 c4_i32
  let v39 : BitVec 32 := Scalar.subi v38 c0_i32_23
  let c1_i32 : BitVec 32 := 1#32
  let v41 : BitVec 32 := Scalar.divsi v39 c1_i32
  let v42 : BitVec 32 := Scalar.muli v41 c1_i32
  let v43 : BitVec 32 := Scalar.addi c0_i32_23 v42
  let v40 : BitVec 32 := Scalar.addi c0_i32_23 v39
  let c1_i32_25 : BitVec 32 := 1#32
  ⟨v43, v40, c1_i32_25⟩
def k0_mult3 (i : grid0.Coords) (k0_t2 : Fin (k0_t2_loop i).trips) : BitVec 32 :=
  let c2_i32_348 : BitVec 32 := 2#32
  let c0_i32_23 : BitVec 32 := 0#32
  let arg1 : BitVec 32 := BitVec.ofNat 32 (i 1).val
  let c4_i32 : BitVec 32 := 4#32
  let v38 : BitVec 32 := Scalar.muli arg1 c4_i32
  let v39 : BitVec 32 := Scalar.subi v38 c0_i32_23
  let c1_i32 : BitVec 32 := 1#32
  let v41 : BitVec 32 := Scalar.divsi v39 c1_i32
  let v42 : BitVec 32 := Scalar.muli v41 c1_i32
  let v43 : BitVec 32 := Scalar.addi c0_i32_23 v42
  let c1_i32_25 : BitVec 32 := 1#32
  let arg17 : BitVec 32 := Scf.iv v43 c1_i32_25 k0_t2
  let v1226 : BitVec 32 := Scalar.muli c2_i32_348 arg17
  let c128_i32_349 : BitVec 32 := 128#32
  let v1227 : BitVec 32 := Scalar.muli v1226 c128_i32_349
  v1227
def k0_off9 (i : grid0.Coords) (k0_t2 : Fin (k0_t2_loop i).trips) : Fin 2 → Nat :=
  let c2_i32_348 : BitVec 32 := 2#32
  let c0_i32_23 : BitVec 32 := 0#32
  let arg1 : BitVec 32 := BitVec.ofNat 32 (i 1).val
  let c4_i32 : BitVec 32 := 4#32
  let v38 : BitVec 32 := Scalar.muli arg1 c4_i32
  let v39 : BitVec 32 := Scalar.subi v38 c0_i32_23
  let c1_i32 : BitVec 32 := 1#32
  let v41 : BitVec 32 := Scalar.divsi v39 c1_i32
  let v42 : BitVec 32 := Scalar.muli v41 c1_i32
  let v43 : BitVec 32 := Scalar.addi c0_i32_23 v42
  let c1_i32_25 : BitVec 32 := 1#32
  let arg17 : BitVec 32 := Scf.iv v43 c1_i32_25 k0_t2
  let v1226 : BitVec 32 := Scalar.muli c2_i32_348 arg17
  let c128_i32_349 : BitVec 32 := 128#32
  let v1227 : BitVec 32 := Scalar.muli v1226 c128_i32_349
  let v1228 : BitVec 32 := v1227
  let v1229 : Index := Scalar.indexCast v1228
  let c0_350 : Index := 0#32
  ![v1229.toNat, 0]
def k0_off10 (i : grid0.Coords) (k0_t2 : Fin (k0_t2_loop i).trips) : Fin 2 → Nat :=
  let c2_i32_348 : BitVec 32 := 2#32
  let c0_i32_23 : BitVec 32 := 0#32
  let arg1 : BitVec 32 := BitVec.ofNat 32 (i 1).val
  let c4_i32 : BitVec 32 := 4#32
  let v38 : BitVec 32 := Scalar.muli arg1 c4_i32
  let v39 : BitVec 32 := Scalar.subi v38 c0_i32_23
  let c1_i32 : BitVec 32 := 1#32
  let v41 : BitVec 32 := Scalar.divsi v39 c1_i32
  let v42 : BitVec 32 := Scalar.muli v41 c1_i32
  let v43 : BitVec 32 := Scalar.addi c0_i32_23 v42
  let c1_i32_25 : BitVec 32 := 1#32
  let arg17 : BitVec 32 := Scf.iv v43 c1_i32_25 k0_t2
  let v1226 : BitVec 32 := Scalar.muli c2_i32_348 arg17
  let c128_i32_349 : BitVec 32 := 128#32
  let v1227 : BitVec 32 := Scalar.muli v1226 c128_i32_349
  let v1228 : BitVec 32 := v1227
  let v1233 : Index := Scalar.indexCast v1228
  let c0_352 : Index := 0#32
  ![v1233.toNat, 0]
def k0_off11 (i : grid0.Coords) (k0_t2 : Fin (k0_t2_loop i).trips) : Fin 2 → Nat :=
  let c2_i32_348 : BitVec 32 := 2#32
  let c0_i32_23 : BitVec 32 := 0#32
  let arg1 : BitVec 32 := BitVec.ofNat 32 (i 1).val
  let c4_i32 : BitVec 32 := 4#32
  let v38 : BitVec 32 := Scalar.muli arg1 c4_i32
  let v39 : BitVec 32 := Scalar.subi v38 c0_i32_23
  let c1_i32 : BitVec 32 := 1#32
  let v41 : BitVec 32 := Scalar.divsi v39 c1_i32
  let v42 : BitVec 32 := Scalar.muli v41 c1_i32
  let v43 : BitVec 32 := Scalar.addi c0_i32_23 v42
  let c1_i32_25 : BitVec 32 := 1#32
  let arg17 : BitVec 32 := Scf.iv v43 c1_i32_25 k0_t2
  let v1226 : BitVec 32 := Scalar.muli c2_i32_348 arg17
  let c128_i32_349 : BitVec 32 := 128#32
  let v1227 : BitVec 32 := Scalar.muli v1226 c128_i32_349
  let v1228 : BitVec 32 := v1227
  let v1281 : Index := Scalar.indexCast v1228
  let c64_366 : Index := 64#32
  ![v1281.toNat, 64]
def k0_off12 (i : grid0.Coords) (k0_t2 : Fin (k0_t2_loop i).trips) : Fin 2 → Nat :=
  let c2_i32_348 : BitVec 32 := 2#32
  let c0_i32_23 : BitVec 32 := 0#32
  let arg1 : BitVec 32 := BitVec.ofNat 32 (i 1).val
  let c4_i32 : BitVec 32 := 4#32
  let v38 : BitVec 32 := Scalar.muli arg1 c4_i32
  let v39 : BitVec 32 := Scalar.subi v38 c0_i32_23
  let c1_i32 : BitVec 32 := 1#32
  let v41 : BitVec 32 := Scalar.divsi v39 c1_i32
  let v42 : BitVec 32 := Scalar.muli v41 c1_i32
  let v43 : BitVec 32 := Scalar.addi c0_i32_23 v42
  let c1_i32_25 : BitVec 32 := 1#32
  let arg17 : BitVec 32 := Scf.iv v43 c1_i32_25 k0_t2
  let v1226 : BitVec 32 := Scalar.muli c2_i32_348 arg17
  let c128_i32_349 : BitVec 32 := 128#32
  let v1227 : BitVec 32 := Scalar.muli v1226 c128_i32_349
  let v1228 : BitVec 32 := v1227
  let v1285 : Index := Scalar.indexCast v1228
  let c128_368 : Index := 128#32
  ![v1285.toNat, 128]
def k0_mult4 (i : grid0.Coords) (k0_t2 : Fin (k0_t2_loop i).trips) : BitVec 32 :=
  let c2_i32_346 : BitVec 32 := 2#32
  let c0_i32_23 : BitVec 32 := 0#32
  let arg1 : BitVec 32 := BitVec.ofNat 32 (i 1).val
  let c4_i32 : BitVec 32 := 4#32
  let v38 : BitVec 32 := Scalar.muli arg1 c4_i32
  let v39 : BitVec 32 := Scalar.subi v38 c0_i32_23
  let c1_i32 : BitVec 32 := 1#32
  let v41 : BitVec 32 := Scalar.divsi v39 c1_i32
  let v42 : BitVec 32 := Scalar.muli v41 c1_i32
  let v43 : BitVec 32 := Scalar.addi c0_i32_23 v42
  let c1_i32_25 : BitVec 32 := 1#32
  let arg17 : BitVec 32 := Scf.iv v43 c1_i32_25 k0_t2
  let v1224 : BitVec 32 := Scalar.muli c2_i32_346 arg17
  let c1_i32_347 : BitVec 32 := 1#32
  let v1225 : BitVec 32 := Scalar.addi v1224 c1_i32_347
  let c128_i32_382 : BitVec 32 := 128#32
  let v1333 : BitVec 32 := Scalar.muli v1225 c128_i32_382
  v1333
def k0_off13 (i : grid0.Coords) (k0_t2 : Fin (k0_t2_loop i).trips) : Fin 2 → Nat :=
  let c2_i32_346 : BitVec 32 := 2#32
  let c0_i32_23 : BitVec 32 := 0#32
  let arg1 : BitVec 32 := BitVec.ofNat 32 (i 1).val
  let c4_i32 : BitVec 32 := 4#32
  let v38 : BitVec 32 := Scalar.muli arg1 c4_i32
  let v39 : BitVec 32 := Scalar.subi v38 c0_i32_23
  let c1_i32 : BitVec 32 := 1#32
  let v41 : BitVec 32 := Scalar.divsi v39 c1_i32
  let v42 : BitVec 32 := Scalar.muli v41 c1_i32
  let v43 : BitVec 32 := Scalar.addi c0_i32_23 v42
  let c1_i32_25 : BitVec 32 := 1#32
  let arg17 : BitVec 32 := Scf.iv v43 c1_i32_25 k0_t2
  let v1224 : BitVec 32 := Scalar.muli c2_i32_346 arg17
  let c1_i32_347 : BitVec 32 := 1#32
  let v1225 : BitVec 32 := Scalar.addi v1224 c1_i32_347
  let c128_i32_382 : BitVec 32 := 128#32
  let v1333 : BitVec 32 := Scalar.muli v1225 c128_i32_382
  let v1334 : BitVec 32 := v1333
  let v1335 : Index := Scalar.indexCast v1334
  let c0_383 : Index := 0#32
  ![v1335.toNat, 0]
def k0_off14 (i : grid0.Coords) (k0_t2 : Fin (k0_t2_loop i).trips) : Fin 2 → Nat :=
  let c2_i32_346 : BitVec 32 := 2#32
  let c0_i32_23 : BitVec 32 := 0#32
  let arg1 : BitVec 32 := BitVec.ofNat 32 (i 1).val
  let c4_i32 : BitVec 32 := 4#32
  let v38 : BitVec 32 := Scalar.muli arg1 c4_i32
  let v39 : BitVec 32 := Scalar.subi v38 c0_i32_23
  let c1_i32 : BitVec 32 := 1#32
  let v41 : BitVec 32 := Scalar.divsi v39 c1_i32
  let v42 : BitVec 32 := Scalar.muli v41 c1_i32
  let v43 : BitVec 32 := Scalar.addi c0_i32_23 v42
  let c1_i32_25 : BitVec 32 := 1#32
  let arg17 : BitVec 32 := Scf.iv v43 c1_i32_25 k0_t2
  let v1224 : BitVec 32 := Scalar.muli c2_i32_346 arg17
  let c1_i32_347 : BitVec 32 := 1#32
  let v1225 : BitVec 32 := Scalar.addi v1224 c1_i32_347
  let c128_i32_382 : BitVec 32 := 128#32
  let v1333 : BitVec 32 := Scalar.muli v1225 c128_i32_382
  let v1334 : BitVec 32 := v1333
  let v1339 : Index := Scalar.indexCast v1334
  let c0_385 : Index := 0#32
  ![v1339.toNat, 0]
def k0_off15 (i : grid0.Coords) (k0_t2 : Fin (k0_t2_loop i).trips) : Fin 2 → Nat :=
  let c2_i32_346 : BitVec 32 := 2#32
  let c0_i32_23 : BitVec 32 := 0#32
  let arg1 : BitVec 32 := BitVec.ofNat 32 (i 1).val
  let c4_i32 : BitVec 32 := 4#32
  let v38 : BitVec 32 := Scalar.muli arg1 c4_i32
  let v39 : BitVec 32 := Scalar.subi v38 c0_i32_23
  let c1_i32 : BitVec 32 := 1#32
  let v41 : BitVec 32 := Scalar.divsi v39 c1_i32
  let v42 : BitVec 32 := Scalar.muli v41 c1_i32
  let v43 : BitVec 32 := Scalar.addi c0_i32_23 v42
  let c1_i32_25 : BitVec 32 := 1#32
  let arg17 : BitVec 32 := Scf.iv v43 c1_i32_25 k0_t2
  let v1224 : BitVec 32 := Scalar.muli c2_i32_346 arg17
  let c1_i32_347 : BitVec 32 := 1#32
  let v1225 : BitVec 32 := Scalar.addi v1224 c1_i32_347
  let c128_i32_382 : BitVec 32 := 128#32
  let v1333 : BitVec 32 := Scalar.muli v1225 c128_i32_382
  let v1334 : BitVec 32 := v1333
  let v1387 : Index := Scalar.indexCast v1334
  let c64_399 : Index := 64#32
  ![v1387.toNat, 64]
def k0_off16 (i : grid0.Coords) (k0_t2 : Fin (k0_t2_loop i).trips) : Fin 2 → Nat :=
  let c2_i32_346 : BitVec 32 := 2#32
  let c0_i32_23 : BitVec 32 := 0#32
  let arg1 : BitVec 32 := BitVec.ofNat 32 (i 1).val
  let c4_i32 : BitVec 32 := 4#32
  let v38 : BitVec 32 := Scalar.muli arg1 c4_i32
  let v39 : BitVec 32 := Scalar.subi v38 c0_i32_23
  let c1_i32 : BitVec 32 := 1#32
  let v41 : BitVec 32 := Scalar.divsi v39 c1_i32
  let v42 : BitVec 32 := Scalar.muli v41 c1_i32
  let v43 : BitVec 32 := Scalar.addi c0_i32_23 v42
  let c1_i32_25 : BitVec 32 := 1#32
  let arg17 : BitVec 32 := Scf.iv v43 c1_i32_25 k0_t2
  let v1224 : BitVec 32 := Scalar.muli c2_i32_346 arg17
  let c1_i32_347 : BitVec 32 := 1#32
  let v1225 : BitVec 32 := Scalar.addi v1224 c1_i32_347
  let c128_i32_382 : BitVec 32 := 128#32
  let v1333 : BitVec 32 := Scalar.muli v1225 c128_i32_382
  let v1334 : BitVec 32 := v1333
  let v1391 : Index := Scalar.indexCast v1334
  let c128_401 : Index := 128#32
  ![v1391.toNat, 128]
def k0_mult5 (i : grid0.Coords) : BitVec 32 :=
  let arg1 : BitVec 32 := BitVec.ofNat 32 (i 1).val
  let c8_i32 : BitVec 32 := 8#32
  let v46 : BitVec 32 := Scalar.muli arg1 c8_i32
  let c0_i32_26 : BitVec 32 := 0#32
  let v47 : BitVec 32 := Scalar.addi v46 c0_i32_26
  let c128_i32 : BitVec 32 := 128#32
  let v48 : BitVec 32 := Scalar.muli v47 c128_i32
  v48
def k0_off17 (i : grid0.Coords) (c0_i32_26 : BitVec 32) : Fin 2 → Nat :=
  let arg1 : BitVec 32 := BitVec.ofNat 32 (i 1).val
  let c8_i32 : BitVec 32 := 8#32
  let v46 : BitVec 32 := Scalar.muli arg1 c8_i32
  let v47 : BitVec 32 := Scalar.addi v46 c0_i32_26
  let c128_i32 : BitVec 32 := 128#32
  let v48 : BitVec 32 := Scalar.muli v47 c128_i32
  let v49 : BitVec 32 := v48
  let v60 : Index := Scalar.indexCast v49
  let c0_29 : Index := 0#32
  ![v60.toNat, 0]
def k0_off18 (i : grid0.Coords) (c0_i32_26 : BitVec 32) : Fin 2 → Nat :=
  let arg1 : BitVec 32 := BitVec.ofNat 32 (i 1).val
  let c8_i32 : BitVec 32 := 8#32
  let v46 : BitVec 32 := Scalar.muli arg1 c8_i32
  let v47 : BitVec 32 := Scalar.addi v46 c0_i32_26
  let c128_i32 : BitVec 32 := 128#32
  let v48 : BitVec 32 := Scalar.muli v47 c128_i32
  let v49 : BitVec 32 := v48
  let v64 : Index := Scalar.indexCast v49
  let c0_31 : Index := 0#32
  ![v64.toNat, 0]
def k0_off19 (i : grid0.Coords) (c0_i32_26 : BitVec 32) : Fin 2 → Nat :=
  let arg1 : BitVec 32 := BitVec.ofNat 32 (i 1).val
  let c8_i32 : BitVec 32 := 8#32
  let v46 : BitVec 32 := Scalar.muli arg1 c8_i32
  let v47 : BitVec 32 := Scalar.addi v46 c0_i32_26
  let c128_i32 : BitVec 32 := 128#32
  let v48 : BitVec 32 := Scalar.muli v47 c128_i32
  let v49 : BitVec 32 := v48
  let v114 : Index := Scalar.indexCast v49
  let c64_46 : Index := 64#32
  ![v114.toNat, 64]
def k0_off20 (i : grid0.Coords) (c0_i32_26 : BitVec 32) : Fin 2 → Nat :=
  let arg1 : BitVec 32 := BitVec.ofNat 32 (i 1).val
  let c8_i32 : BitVec 32 := 8#32
  let v46 : BitVec 32 := Scalar.muli arg1 c8_i32
  let v47 : BitVec 32 := Scalar.addi v46 c0_i32_26
  let c128_i32 : BitVec 32 := 128#32
  let v48 : BitVec 32 := Scalar.muli v47 c128_i32
  let v49 : BitVec 32 := v48
  let v118 : Index := Scalar.indexCast v49
  let c128 : Index := 128#32
  ![v118.toNat, 128]
def k0_mult6 (i : grid0.Coords) : BitVec 32 :=
  let arg1 : BitVec 32 := BitVec.ofNat 32 (i 1).val
  let c8_i32_62 : BitVec 32 := 8#32
  let v168 : BitVec 32 := Scalar.muli arg1 c8_i32_62
  let c1_i32_63 : BitVec 32 := 1#32
  let v169 : BitVec 32 := Scalar.addi v168 c1_i32_63
  let c128_i32_64 : BitVec 32 := 128#32
  let v170 : BitVec 32 := Scalar.muli v169 c128_i32_64
  v170
def k0_mult7 (i : grid0.Coords) : BitVec 32 :=
  let arg1 : BitVec 32 := BitVec.ofNat 32 (i 1).val
  let c8_i32_102 : BitVec 32 := 8#32
  let v317 : BitVec 32 := Scalar.muli arg1 c8_i32_102
  let c2_i32 : BitVec 32 := 2#32
  let v318 : BitVec 32 := Scalar.addi v317 c2_i32
  let c128_i32_103 : BitVec 32 := 128#32
  let v319 : BitVec 32 := Scalar.muli v318 c128_i32_103
  v319
def k0_mult8 (i : grid0.Coords) : BitVec 32 :=
  let arg1 : BitVec 32 := BitVec.ofNat 32 (i 1).val
  let c8_i32_141 : BitVec 32 := 8#32
  let v466 : BitVec 32 := Scalar.muli arg1 c8_i32_141
  let c3_i32 : BitVec 32 := 3#32
  let v467 : BitVec 32 := Scalar.addi v466 c3_i32
  let c128_i32_142 : BitVec 32 := 128#32
  let v468 : BitVec 32 := Scalar.muli v467 c128_i32_142
  v468
def k0_mult9 (i : grid0.Coords) : BitVec 32 :=
  let arg1 : BitVec 32 := BitVec.ofNat 32 (i 1).val
  let c8_i32_180 : BitVec 32 := 8#32
  let v615 : BitVec 32 := Scalar.muli arg1 c8_i32_180
  let c4_i32_181 : BitVec 32 := 4#32
  let v616 : BitVec 32 := Scalar.addi v615 c4_i32_181
  let c128_i32_182 : BitVec 32 := 128#32
  let v617 : BitVec 32 := Scalar.muli v616 c128_i32_182
  v617
def k0_mult10 (i : grid0.Coords) : BitVec 32 :=
  let arg1 : BitVec 32 := BitVec.ofNat 32 (i 1).val
  let c8_i32_220 : BitVec 32 := 8#32
  let v764 : BitVec 32 := Scalar.muli arg1 c8_i32_220
  let c5_i32 : BitVec 32 := 5#32
  let v765 : BitVec 32 := Scalar.addi v764 c5_i32
  let c128_i32_221 : BitVec 32 := 128#32
  let v766 : BitVec 32 := Scalar.muli v765 c128_i32_221
  v766
def k0_mult11 (i : grid0.Coords) : BitVec 32 :=
  let arg1 : BitVec 32 := BitVec.ofNat 32 (i 1).val
  let c8_i32_259 : BitVec 32 := 8#32
  let v913 : BitVec 32 := Scalar.muli arg1 c8_i32_259
  let c6_i32 : BitVec 32 := 6#32
  let v914 : BitVec 32 := Scalar.addi v913 c6_i32
  let c128_i32_260 : BitVec 32 := 128#32
  let v915 : BitVec 32 := Scalar.muli v914 c128_i32_260
  v915
def k0_mult12 (i : grid0.Coords) : BitVec 32 :=
  let arg1 : BitVec 32 := BitVec.ofNat 32 (i 1).val
  let c8_i32_298 : BitVec 32 := 8#32
  let v1062 : BitVec 32 := Scalar.muli arg1 c8_i32_298
  let c7_i32 : BitVec 32 := 7#32
  let v1063 : BitVec 32 := Scalar.addi v1062 c7_i32
  let c128_i32_299 : BitVec 32 := 128#32
  let v1064 : BitVec 32 := Scalar.muli v1063 c128_i32_299
  v1064
def k0_cond2 (i : grid0.Coords) : BitVec 1 :=
  let arg1 : BitVec 32 := BitVec.ofNat 32 (i 1).val
  let c3_i32_344 : BitVec 32 := 3#32
  let v1221 : BitVec 1 := Scalar.cmpi .eq arg1 c3_i32_344
  let v1222 : BitVec 32 := Scalar.extui v1221
  let c0_i32_345 : BitVec 32 := 0#32
  let v1223 : BitVec 1 := Scalar.cmpi .ne v1222 c0_i32_345
  v1223

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S16x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S16x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S4096x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1024x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S4096x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S4096x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S16x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S4096x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]
-- ==== ReferenceIdeal.lean ====
abbrev S4096x3072 : Shape := ⟨2, ![4096, 3072]⟩
abbrev S4096x16 : Shape := ⟨2, ![4096, 16]⟩
abbrev S4096x1024 : Shape := ⟨2, ![4096, 1024]⟩
abbrev S4096x16x64 : Shape := ⟨3, ![4096, 16, 64]⟩
abbrev S16x4096x64 : Shape := ⟨3, ![16, 4096, 64]⟩
abbrev S16x4096x4096 : Shape := ⟨3, ![16, 4096, 4096]⟩
abbrev S_ : Shape := ⟨0, ![]⟩
abbrev S16x4096 : Shape := ⟨2, ![16, 4096]⟩
abbrev S16x4096x1 : Shape := ⟨3, ![16, 4096, 1]⟩
abbrev S16x1x4096 : Shape := ⟨3, ![16, 1, 4096]⟩
abbrev S4096 : Shape := ⟨1, ![4096]⟩
abbrev S4096x1 : Shape := ⟨2, ![4096, 1]⟩
abbrev S1x4096 : Shape := ⟨2, ![1, 4096]⟩
abbrev S4096x4096 : Shape := ⟨2, ![4096, 4096]⟩
abbrev S16x64x4096 : Shape := ⟨3, ![16, 64, 4096]⟩
abbrev S16x8x4096 : Shape := ⟨3, ![16, 8, 4096]⟩
abbrev S128x4096 : Shape := ⟨2, ![128, 4096]⟩
abbrev S4096x16x128 : Shape := ⟨3, ![4096, 16, 128]⟩
abbrev S4096x2048 : Shape := ⟨2, ![4096, 2048]⟩

abbrev nBuf : Space → Nat
  | .hbm => 134
  | .vmem => 0
  | .smem => 0
  | _ => 0

abbrev hbmTy0_0 (i : Nat) : BufTy := match i % 128 with
  | 0 => ⟨S4096x3072, .bf16⟩
  | 1 => ⟨S4096x16, .f32⟩
  | 2 => ⟨S4096x1024, .f32⟩
  | 3 => ⟨S4096x3072, .f32⟩
  | 4 => ⟨S4096x1024, .f32⟩
  | 5 => ⟨S4096x1024, .f32⟩
  | 6 => ⟨S4096x1024, .f32⟩
  | 7 => ⟨S4096x16x64, .f32⟩
  | 8 => ⟨S16x4096x64, .f32⟩
  | 9 => ⟨S4096x16x64, .f32⟩
  | 10 => ⟨S16x4096x64, .f32⟩
  | 11 => ⟨S16x4096x4096, .f32⟩
  | 12 => ⟨S_, .f32⟩
  | 13 => ⟨S16x4096x4096, .f32⟩
  | 14 => ⟨S16x4096x4096, .f32⟩
  | 15 => ⟨S16x4096, .f32⟩
  | 16 => ⟨S16x4096x1, .f32⟩
  | 17 => ⟨S16x4096, .f32⟩
  | 18 => ⟨S16x1x4096, .f32⟩
  | 19 => ⟨S16x4096x4096, .f32⟩
  | 20 => ⟨S16x4096x4096, .f32⟩
  | 21 => ⟨S16x4096x4096, .f32⟩
  | 22 => ⟨S4096, .i32⟩
  | 23 => ⟨S4096x1, .i32⟩
  | 24 => ⟨S4096, .i32⟩
  | 25 => ⟨S1x4096, .i32⟩
  | 26 => ⟨S4096x4096, .i32⟩
  | 27 => ⟨S4096x4096, .i32⟩
  | 28 => ⟨S4096x4096, .i1⟩
  | 29 => ⟨S16x4096x4096, .f32⟩
  | 30 => ⟨S_, .f32⟩
  | 31 => ⟨S_, .f32⟩
  | 32 => ⟨S16x4096x4096, .i1⟩
  | 33 => ⟨S16x4096x4096, .f32⟩
  | 34 => ⟨S16x4096x4096, .f32⟩
  | 35 => ⟨S_, .f32⟩
  | 36 => ⟨S16x4096x4096, .f32⟩
  | 37 => ⟨S_, .f32⟩
  | 38 => ⟨S16x4096, .f32⟩
  | 39 => ⟨S16x4096x1, .f32⟩
  | 40 => ⟨S16x4096x4096, .f32⟩
  | 41 => ⟨S16x4096x4096, .i1⟩
  | 42 => ⟨S16x4096x4096, .f32⟩
  | 43 => ⟨S_, .f32⟩
  | 44 => ⟨S16x4096, .f32⟩
  | 45 => ⟨S_, .f32⟩
  | 46 => ⟨S16x4096, .f32⟩
  | 47 => ⟨S16x4096, .f32⟩
  | 48 => ⟨S_, .f32⟩
  | 49 => ⟨S16x4096, .f32⟩
  | 50 => ⟨S16x4096, .i1⟩
  | 51 => ⟨S_, .f32⟩
  | 52 => ⟨S16x4096, .f32⟩
  | 53 => ⟨S16x4096, .i1⟩
  | 54 => ⟨S_, .f32⟩
  | 55 => ⟨S16x4096, .f32⟩
  | 56 => ⟨S_, .f32⟩
  | 57 => ⟨S16x4096, .f32⟩
  | 58 => ⟨S_, .f32⟩
  | 59 => ⟨S16x4096, .f32⟩
  | 60 => ⟨S16x4096, .f32⟩
  | 61 => ⟨S16x4096, .f32⟩
  | 62 => ⟨S16x4096x1, .f32⟩
  | 63 => ⟨S16x4096x4096, .f32⟩
  | 64 => ⟨S16x4096x4096, .f32⟩
  | 65 => ⟨S16x4096x4096, .f32⟩
  | 66 => ⟨S_, .f32⟩
  | 67 => ⟨S16x4096, .f32⟩
  | 68 => ⟨S16x4096x1, .f32⟩
  | 69 => ⟨S16x4096x4096, .f32⟩
  | 70 => ⟨S16x4096x4096, .f32⟩
  | 71 => ⟨S16x4096x1, .f32⟩
  | 72 => ⟨S_, .f32⟩
  | 73 => ⟨S16x4096x1, .f32⟩
  | 74 => ⟨S16x4096x1, .f32⟩
  | 75 => ⟨S4096x16x64, .f32⟩
  | 76 => ⟨S16x4096x64, .f32⟩
  | 77 => ⟨S16x4096x64, .f32⟩
  | 78 => ⟨S4096x16x64, .f32⟩
  | 79 => ⟨S4096x1024, .f32⟩
  | 80 => ⟨S4096x16x64, .f32⟩
  | 81 => ⟨S16x4096x64, .f32⟩
  | 82 => ⟨S16x64x4096, .f32⟩
  | 83 => ⟨S16x4096x64, .f32⟩
  | 84 => ⟨S16x4096x4096, .f32⟩
  | 85 => ⟨S4096x16x64, .f32⟩
  | 86 => ⟨S4096x1024, .f32⟩
  | 87 => ⟨S16x4096x4096, .f32⟩
  | 88 => ⟨S16x4096x4096, .f32⟩
  | 89 => ⟨S16x4096x4096, .f32⟩
  | 90 => ⟨S_, .f32⟩
  | 91 => ⟨S16x4096, .f32⟩
  | 92 => ⟨S16x4096x1, .f32⟩
  | 93 => ⟨S16x4096x1, .f32⟩
  | 94 => ⟨S16x4096x4096, .f32⟩
  | 95 => ⟨S16x4096x4096, .f32⟩
  | 96 => ⟨S_, .f32⟩
  | 97 => ⟨S16x4096, .f32⟩
  | 98 => ⟨S16x4096x4096, .f32⟩
  | 99 => ⟨S16x4096x4096, .f32⟩
  | 100 => ⟨S16x4096x4096, .f32⟩
  | 101 => ⟨S_, .f32⟩
  | 102 => ⟨S16x4096x4096, .f32⟩
  | 103 => ⟨S16x4096x4096, .f32⟩
  | 104 => ⟨S_, .f32⟩
  | 105 => ⟨S16x4096, .f32⟩
  | 106 => ⟨S16x4096x1, .f32⟩
  | 107 => ⟨S16x4096x4096, .f32⟩
  | 108 => ⟨S_, .f32⟩
  | 109 => ⟨S16x4096, .f32⟩
  | 110 => ⟨S16x1x4096, .f32⟩
  | 111 => ⟨S_, .f32⟩
  | 112 => ⟨S16x4096, .f32⟩
  | 113 => ⟨S4096x16, .f32⟩
  | 114 => ⟨S_, .f32⟩
  | 115 => ⟨S16x4096, .f32⟩
  | 116 => ⟨S4096x16, .f32⟩
  | 117 => ⟨S_, .f32⟩
  | 118 => ⟨S16x4096x4096, .f32⟩
  | 119 => ⟨S16x4096x4096, .f32⟩
  | 120 => ⟨S16x4096x64, .f32⟩
  | 121 => ⟨S16x4096x64, .f32⟩
  | 122 => ⟨S4096x16x64, .f32⟩
  | 123 => ⟨S4096x1024, .f32⟩
  | 124 => ⟨S4096x16x64, .f32⟩
  | 125 => ⟨S4096x1024, .f32⟩
  | 126 => ⟨S4096x1024, .bf16⟩
  | 127 => ⟨S4096x1024, .bf16⟩
  | _ => ⟨S4096x3072, .bf16⟩

abbrev hbmTy0_1 (i : Nat) : BufTy := match i % 128 with
  | 0 => ⟨S4096x1024, .bf16⟩
  | 1 => ⟨S16x4096, .f32⟩
  | 2 => ⟨S16x8x4096, .f32⟩
  | 3 => ⟨S128x4096, .f32⟩
  | 4 => ⟨S4096x16x128, .f32⟩
  | 5 => ⟨S4096x2048, .f32⟩
  | _ => ⟨S4096x3072, .bf16⟩

abbrev hbmTy (i : Nat) : BufTy := match i / 128 with
  | 0 => hbmTy0_0 i
  | 1 => hbmTy0_1 i
  | _ => ⟨S4096x3072, .bf16⟩

abbrev bufTy : (tb : Table) → Fin (tcTables nBuf tb) → BufTy
  | .hbm, ⟨i, _⟩ => hbmTy i
  | _, _ => ⟨S4096x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_cst_0 : Ref sig .tc := ⟨.hbm, 30, rfl⟩
abbrev main_call0_v0 : Ref sig .tc := ⟨.hbm, 31, rfl⟩
abbrev main_v26_1 : Ref sig .tc := ⟨.hbm, 32, rfl⟩
abbrev main_call0_v2 : Ref sig .tc := ⟨.hbm, 33, rfl⟩
abbrev main_v26_0 : Ref sig .tc := ⟨.hbm, 34, rfl⟩
abbrev main_call0_cst : Ref sig .tc := ⟨.hbm, 35, rfl⟩
abbrev main_v26_2 : Ref sig .tc := ⟨.hbm, 36, rfl⟩
abbrev main_cst_1 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_cst_2 : Ref sig .tc := ⟨.hbm, 43, rfl⟩
abbrev main_v32 : Ref sig .tc := ⟨.hbm, 44, rfl⟩
abbrev main_cst_3 : Ref sig .tc := ⟨.hbm, 45, rfl⟩
abbrev main_v33 : Ref sig .tc := ⟨.hbm, 46, rfl⟩
abbrev main_v34 : Ref sig .tc := ⟨.hbm, 47, rfl⟩
abbrev main_cst_4 : Ref sig .tc := ⟨.hbm, 48, rfl⟩
abbrev main_v35 : Ref sig .tc := ⟨.hbm, 49, rfl⟩
abbrev main_v36 : Ref sig .tc := ⟨.hbm, 50, rfl⟩
abbrev main_cst_5 : Ref sig .tc := ⟨.hbm, 51, rfl⟩
abbrev main_v37 : Ref sig .tc := ⟨.hbm, 52, rfl⟩
abbrev main_v38 : Ref sig .tc := ⟨.hbm, 53, rfl⟩
abbrev main_cst_6 : Ref sig .tc := ⟨.hbm, 54, rfl⟩
abbrev main_v39 : Ref sig .tc := ⟨.hbm, 55, rfl⟩
abbrev main_cst_7 : Ref sig .tc := ⟨.hbm, 56, rfl⟩
abbrev main_v40 : Ref sig .tc := ⟨.hbm, 57, rfl⟩
abbrev main_cst_8 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_cst_9 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_cst_10 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_cst_11 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_cst_12 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_call1_cst : Ref sig .tc := ⟨.hbm, 101, rfl⟩
abbrev main_call1_v0 : Ref sig .tc := ⟨.hbm, 102, rfl⟩
abbrev main_v79 : Ref sig .tc := ⟨.hbm, 103, rfl⟩
abbrev main_cst_13 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_cst_14 : Ref sig .tc := ⟨.hbm, 108, rfl⟩
abbrev main_v83 : Ref sig .tc := ⟨.hbm, 109, rfl⟩
abbrev main_v84 : Ref sig .tc := ⟨.hbm, 110, rfl⟩
abbrev main_cst_15 : Ref sig .tc := ⟨.hbm, 111, rfl⟩
abbrev main_v85 : Ref sig .tc := ⟨.hbm, 112, rfl⟩
abbrev main_v86 : Ref sig .tc := ⟨.hbm, 113, rfl⟩
abbrev main_cst_16 : Ref sig .tc := ⟨.hbm, 114, rfl⟩
abbrev main_v87 : Ref sig .tc := ⟨.hbm, 115, rfl⟩
abbrev main_v88 : Ref sig .tc := ⟨.hbm, 116, rfl⟩
abbrev main_cst_17 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev main_v97 : Ref sig .tc := ⟨.hbm, 126, rfl⟩
abbrev main_v98 : Ref sig .tc := ⟨.hbm, 127, rfl⟩
abbrev main_v99 : Ref sig .tc := ⟨.hbm, 128, rfl⟩
abbrev main_v100 : Ref sig .tc := ⟨.hbm, 129, rfl⟩
abbrev main_v101 : Ref sig .tc := ⟨.hbm, 130, rfl⟩
abbrev main_v102 : Ref sig .tc := ⟨.hbm, 131, rfl⟩
abbrev main_v103 : Ref sig .tc := ⟨.hbm, 132, rfl⟩
abbrev main_v104 : Ref sig .tc := ⟨.hbm, 133, rfl⟩

abbrev nD : Nat := 1
abbrev τ : Topo := Topo.v7x

variable {F : FTy → Type} [FloatOps F]
-- ==== UpDx.lean ====
abbrev S4096x2816 : Shape := ⟨2, ![4096, 2816]⟩
abbrev S1024x2816 : Shape := ⟨2, ![1024, 2816]⟩
abbrev S4096x1024 : Shape := ⟨2, ![4096, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x2816, .bf16⟩
  | .hbm, ⟨1, _⟩ => ⟨S1024x2816, .bf16⟩
  | .hbm, ⟨2, _⟩ => ⟨S4096x1024, .f32⟩
  | .local _ .vmem, ⟨0, _⟩ => ⟨S1024x2816, .bf16⟩
  | .local _ .vmem, ⟨1, _⟩ => ⟨S1024x2816, .bf16⟩
  | .local _ .vmem, ⟨2, _⟩ => ⟨S1024x2816, .bf16⟩
  | .local _ .vmem, ⟨3, _⟩ => ⟨S1024x1024, .f32⟩
  | .local _ .vmem, ⟨4, _⟩ => ⟨S1024x1024, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S1024x2816 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpDxRefIdeal.lean ====
abbrev S4096x2816 : Shape := ⟨2, ![4096, 2816]⟩
abbrev S1024x2816 : Shape := ⟨2, ![1024, 2816]⟩
abbrev S_ : Shape := ⟨0, ![]⟩
abbrev S4096x1024 : Shape := ⟨2, ![4096, 1024]⟩

abbrev nBuf : Space → Nat
  | .hbm => 8
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S1024x2816, .bf16⟩
  | .hbm, ⟨2, _⟩ => ⟨S_, .f32⟩
  | .hbm, ⟨3, _⟩ => ⟨S4096x1024, .f32⟩
  | .hbm, ⟨4, _⟩ => ⟨S1024x2816, .f32⟩
  | .hbm, ⟨5, _⟩ => ⟨S4096x2816, .f32⟩
  | .hbm, ⟨6, _⟩ => ⟨S4096x2816, .f32⟩
  | .hbm, ⟨7, _⟩ => ⟨S4096x1024, .f32⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== UpDw.lean ====
abbrev S4096x1024 : Shape := ⟨2, ![4096, 1024]⟩
abbrev S4096x2816 : Shape := ⟨2, ![4096, 2816]⟩
abbrev S1024x2816 : Shape := ⟨2, ![1024, 2816]⟩
abbrev S1024x1024 : Shape := ⟨2, ![1024, 1024]⟩
abbrev S1024x1408 : Shape := ⟨2, ![1024, 1408]⟩

abbrev nBuf : Space → Nat
  | .hbm => 3
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S4096x2816, .bf16⟩
  | .hbm, ⟨2, _⟩ => ⟨S1024x2816, .f32⟩
  | .local _ .vmem, ⟨0, _⟩ => ⟨S1024x1024, .bf16⟩
  | .local _ .vmem, ⟨1, _⟩ => ⟨S1024x1024, .bf16⟩
  | .local _ .vmem, ⟨2, _⟩ => ⟨S1024x1408, .bf16⟩
  | .local _ .vmem, ⟨3, _⟩ => ⟨S1024x1408, .bf16⟩
  | .local _ .vmem, ⟨4, _⟩ => ⟨S1024x1408, .f32⟩
  | .local _ .vmem, ⟨5, _⟩ => ⟨S1024x1408, .f32⟩
  | .local _ .vmem, ⟨6, _⟩ => ⟨S1024x1408, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpDwRefIdeal.lean ====
abbrev S4096x1024 : Shape := ⟨2, ![4096, 1024]⟩
abbrev S4096x2816 : Shape := ⟨2, ![4096, 2816]⟩
abbrev S_ : Shape := ⟨0, ![]⟩
abbrev S1024x2816 : Shape := ⟨2, ![1024, 2816]⟩
abbrev S2816x1024 : Shape := ⟨2, ![2816, 1024]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x2816, .bf16⟩
  | .hbm, ⟨2, _⟩ => ⟨S_, .f32⟩
  | .hbm, ⟨3, _⟩ => ⟨S1024x2816, .f32⟩
  | .hbm, ⟨4, _⟩ => ⟨S4096x1024, .f32⟩
  | .hbm, ⟨5, _⟩ => ⟨S4096x2816, .f32⟩
  | .hbm, ⟨6, _⟩ => ⟨S4096x2816, .f32⟩
  | .hbm, ⟨7, _⟩ => ⟨S2816x1024, .f32⟩
  | .hbm, ⟨8, _⟩ => ⟨S1024x2816, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== DownDx.lean ====
abbrev S4096x1024 : Shape := ⟨2, ![4096, 1024]⟩
abbrev S2816x1024 : Shape := ⟨2, ![2816, 1024]⟩
abbrev S4096x2816 : Shape := ⟨2, ![4096, 2816]⟩
abbrev S1024x1024 : Shape := ⟨2, ![1024, 1024]⟩
abbrev S1408x1024 : Shape := ⟨2, ![1408, 1024]⟩
abbrev S1024x1408 : Shape := ⟨2, ![1024, 1408]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S2816x1024, .bf16⟩
  | .hbm, ⟨2, _⟩ => ⟨S4096x2816, .f32⟩
  | .local _ .vmem, ⟨0, _⟩ => ⟨S1024x1024, .bf16⟩
  | .local _ .vmem, ⟨1, _⟩ => ⟨S1024x1024, .bf16⟩
  | .local _ .vmem, ⟨2, _⟩ => ⟨S1408x1024, .bf16⟩
  | .local _ .vmem, ⟨3, _⟩ => ⟨S1408x1024, .bf16⟩
  | .local _ .vmem, ⟨4, _⟩ => ⟨S1024x1408, .f32⟩
  | .local _ .vmem, ⟨5, _⟩ => ⟨S1024x1408, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownDxRefIdeal.lean ====
abbrev S4096x1024 : Shape := ⟨2, ![4096, 1024]⟩
abbrev S2816x1024 : Shape := ⟨2, ![2816, 1024]⟩
abbrev S_ : Shape := ⟨0, ![]⟩
abbrev S4096x2816 : Shape := ⟨2, ![4096, 2816]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S2816x1024, .bf16⟩
  | .hbm, ⟨2, _⟩ => ⟨S_, .f32⟩
  | .hbm, ⟨3, _⟩ => ⟨S4096x2816, .f32⟩
  | .hbm, ⟨4, _⟩ => ⟨S2816x1024, .f32⟩
  | .hbm, ⟨5, _⟩ => ⟨S4096x1024, .f32⟩
  | .hbm, ⟨6, _⟩ => ⟨S4096x1024, .f32⟩
  | .hbm, ⟨7, _⟩ => ⟨S4096x2816, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== DownDw.lean ====
abbrev S4096x2816 : Shape := ⟨2, ![4096, 2816]⟩
abbrev S4096x1024 : Shape := ⟨2, ![4096, 1024]⟩
abbrev S2816x1024 : Shape := ⟨2, ![2816, 1024]⟩
abbrev S1024x1408 : Shape := ⟨2, ![1024, 1408]⟩
abbrev S1024x1024 : Shape := ⟨2, ![1024, 1024]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .bf16⟩
  | .hbm, ⟨2, _⟩ => ⟨S2816x1024, .f32⟩
  | .local _ .vmem, ⟨0, _⟩ => ⟨S1024x1408, .bf16⟩
  | .local _ .vmem, ⟨1, _⟩ => ⟨S1024x1408, .bf16⟩
  | .local _ .vmem, ⟨2, _⟩ => ⟨S1024x1024, .bf16⟩
  | .local _ .vmem, ⟨3, _⟩ => ⟨S1024x1024, .bf16⟩
  | .local _ .vmem, ⟨4, _⟩ => ⟨S1408x1024, .f32⟩
  | .local _ .vmem, ⟨5, _⟩ => ⟨S1408x1024, .f32⟩
  | .local _ .vmem, ⟨6, _⟩ => ⟨S1408x1024, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownDwRefIdeal.lean ====
abbrev S4096x2816 : Shape := ⟨2, ![4096, 2816]⟩
abbrev S4096x1024 : Shape := ⟨2, ![4096, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 9
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .bf16⟩
  | .hbm, ⟨2, _⟩ => ⟨S_, .f32⟩
  | .hbm, ⟨3, _⟩ => ⟨S2816x1024, .f32⟩
  | .hbm, ⟨4, _⟩ => ⟨S4096x2816, .f32⟩
  | .hbm, ⟨5, _⟩ => ⟨S4096x1024, .f32⟩
  | .hbm, ⟨6, _⟩ => ⟨S4096x1024, .f32⟩
  | .hbm, ⟨7, _⟩ => ⟨S1024x2816, .f32⟩
  | .hbm, ⟨8, _⟩ => ⟨S2816x1024, .f32⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== QkvDx.lean ====
abbrev S4096x3072 : Shape := ⟨2, ![4096, 3072]⟩
abbrev S1024x3072 : Shape := ⟨2, ![1024, 3072]⟩
abbrev S4096x1024 : Shape := ⟨2, ![4096, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x3072, .bf16⟩
  | .hbm, ⟨1, _⟩ => ⟨S1024x3072, .bf16⟩
  | .hbm, ⟨2, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 3], ![false, false, false]⟩

def k0_cond3 (i : grid0.Coords) : BitVec 1 :=
  let arg2 : BitVec 32 := BitVec.ofNat 32 (i 2).val
  let c2_i32 : BitVec 32 := 2#32
  let v9 : BitVec 1 := Scalar.cmpi .eq arg2 c2_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== QkvDxRefIdeal.lean ====
abbrev S4096x3072 : Shape := ⟨2, ![4096, 3072]⟩
abbrev S1024x3072 : Shape := ⟨2, ![1024, 3072]⟩
abbrev S_ : Shape := ⟨0, ![]⟩
abbrev S4096x1024 : Shape := ⟨2, ![4096, 1024]⟩

abbrev nBuf : Space → Nat
  | .hbm => 8
  | .vmem => 0
  | .smem => 0
  | _ => 0

abbrev bufTy : (tb : Table) → Fin (tcTables nBuf tb) → BufTy
  | .hbm, ⟨0, _⟩ => ⟨S4096x3072, .bf16⟩
  | .hbm, ⟨1, _⟩ => ⟨S1024x3072, .bf16⟩
  | .hbm, ⟨2, _⟩ => ⟨S_, .f32⟩
  | .hbm, ⟨3, _⟩ => ⟨S4096x1024, .f32⟩
  | .hbm, ⟨4, _⟩ => ⟨S1024x3072, .f32⟩
  | .hbm, ⟨5, _⟩ => ⟨S4096x3072, .f32⟩
  | .hbm, ⟨6, _⟩ => ⟨S4096x3072, .f32⟩
  | .hbm, ⟨7, _⟩ => ⟨S4096x1024, .f32⟩
  | _, _ => ⟨S4096x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== QkvDw.lean ====
abbrev S4096x1024 : Shape := ⟨2, ![4096, 1024]⟩
abbrev S4096x3072 : Shape := ⟨2, ![4096, 3072]⟩
abbrev S1024x3072 : Shape := ⟨2, ![1024, 3072]⟩
abbrev S1024x1024 : Shape := ⟨2, ![1024, 1024]⟩
abbrev S1024x1536 : Shape := ⟨2, ![1024, 1536]⟩

abbrev nBuf : Space → Nat
  | .hbm => 3
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S4096x3072, .bf16⟩
  | .hbm, ⟨2, _⟩ => ⟨S1024x3072, .f32⟩
  | .local _ .vmem, ⟨0, _⟩ => ⟨S1024x1024, .bf16⟩
  | .local _ .vmem, ⟨1, _⟩ => ⟨S1024x1024, .bf16⟩
  | .local _ .vmem, ⟨2, _⟩ => ⟨S1024x1536, .bf16⟩
  | .local _ .vmem, ⟨3, _⟩ => ⟨S1024x1536, .bf16⟩
  | .local _ .vmem, ⟨4, _⟩ => ⟨S1024x1536, .f32⟩
  | .local _ .vmem, ⟨5, _⟩ => ⟨S1024x1536, .f32⟩
  | .local _ .vmem, ⟨6, _⟩ => ⟨S1024x1536, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1024x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== QkvDwRefIdeal.lean ====
abbrev S4096x1024 : Shape := ⟨2, ![4096, 1024]⟩
abbrev S4096x3072 : Shape := ⟨2, ![4096, 3072]⟩
abbrev S_ : Shape := ⟨0, ![]⟩
abbrev S1024x3072 : Shape := ⟨2, ![1024, 3072]⟩
abbrev S3072x1024 : Shape := ⟨2, ![3072, 1024]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x3072, .bf16⟩
  | .hbm, ⟨2, _⟩ => ⟨S_, .f32⟩
  | .hbm, ⟨3, _⟩ => ⟨S1024x3072, .f32⟩
  | .hbm, ⟨4, _⟩ => ⟨S4096x1024, .f32⟩
  | .hbm, ⟨5, _⟩ => ⟨S4096x3072, .f32⟩
  | .hbm, ⟨6, _⟩ => ⟨S4096x3072, .f32⟩
  | .hbm, ⟨7, _⟩ => ⟨S3072x1024, .f32⟩
  | .hbm, ⟨8, _⟩ => ⟨S1024x3072, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Up.lean ====
abbrev S4096x1024 : Shape := ⟨2, ![4096, 1024]⟩
abbrev S1024x2816 : Shape := ⟨2, ![1024, 2816]⟩
abbrev S4096x2816 : Shape := ⟨2, ![4096, 2816]⟩
abbrev S1024x1024 : Shape := ⟨2, ![1024, 1024]⟩
abbrev S1024x1408 : Shape := ⟨2, ![1024, 1408]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S1024x2816, .bf16⟩
  | .hbm, ⟨2, _⟩ => ⟨S4096x2816, .f32⟩
  | .local _ .vmem, ⟨0, _⟩ => ⟨S1024x1024, .bf16⟩
  | .local _ .vmem, ⟨1, _⟩ => ⟨S1024x1024, .bf16⟩
  | .local _ .vmem, ⟨2, _⟩ => ⟨S1024x1408, .bf16⟩
  | .local _ .vmem, ⟨3, _⟩ => ⟨S1024x1408, .bf16⟩
  | .local _ .vmem, ⟨4, _⟩ => ⟨S1024x1408, .f32⟩
  | .local _ .vmem, ⟨5, _⟩ => ⟨S1024x1408, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpRefIdeal.lean ====
abbrev S4096x1024 : Shape := ⟨2, ![4096, 1024]⟩
abbrev S1024x2816 : Shape := ⟨2, ![1024, 2816]⟩
abbrev S4096x2816 : Shape := ⟨2, ![4096, 2816]⟩

abbrev nBuf : Space → Nat
  | .hbm => 5
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x2816, .bf16⟩
  | .hbm, ⟨2, _⟩ => ⟨S4096x1024, .f32⟩
  | .hbm, ⟨3, _⟩ => ⟨S1024x2816, .f32⟩
  | .hbm, ⟨4, _⟩ => ⟨S4096x2816, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Down.lean ====
abbrev S4096x2816 : Shape := ⟨2, ![4096, 2816]⟩
abbrev S2816x1024 : Shape := ⟨2, ![2816, 1024]⟩
abbrev S4096x1024 : Shape := ⟨2, ![4096, 1024]⟩
abbrev S1024x2816 : Shape := ⟨2, ![1024, 2816]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .bf16⟩
  | .hbm, ⟨2, _⟩ => ⟨S4096x1024, .f32⟩
  | .local _ .vmem, ⟨0, _⟩ => ⟨S1024x2816, .bf16⟩
  | .local _ .vmem, ⟨1, _⟩ => ⟨S1024x2816, .bf16⟩
  | .local _ .vmem, ⟨2, _⟩ => ⟨S2816x1024, .bf16⟩
  | .local _ .vmem, ⟨3, _⟩ => ⟨S1024x1024, .f32⟩
  | .local _ .vmem, ⟨4, _⟩ => ⟨S1024x1024, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownRefIdeal.lean ====
abbrev S4096x2816 : Shape := ⟨2, ![4096, 2816]⟩
abbrev S2816x1024 : Shape := ⟨2, ![2816, 1024]⟩
abbrev S4096x1024 : Shape := ⟨2, ![4096, 1024]⟩

abbrev nBuf : Space → Nat
  | .hbm => 5
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .bf16⟩
  | .hbm, ⟨2, _⟩ => ⟨S4096x2816, .f32⟩
  | .hbm, ⟨3, _⟩ => ⟨S2816x1024, .f32⟩
  | .hbm, ⟨4, _⟩ => ⟨S4096x1024, .f32⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Qkv.lean ====
abbrev S4096x1024 : Shape := ⟨2, ![4096, 1024]⟩
abbrev S1024x3072 : Shape := ⟨2, ![1024, 3072]⟩
abbrev S4096x3072 : Shape := ⟨2, ![4096, 3072]⟩
abbrev S1024x1024 : Shape := ⟨2, ![1024, 1024]⟩
abbrev S1024x1536 : Shape := ⟨2, ![1024, 1536]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S1024x3072, .bf16⟩
  | .hbm, ⟨2, _⟩ => ⟨S4096x3072, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1536, .bf16⟩
  | .local _ .vmem, ⟨3, _⟩ => ⟨S1024x1536, .bf16⟩
  | .local _ .vmem, ⟨4, _⟩ => ⟨S1024x1536, .bf16⟩
  | .local _ .vmem, ⟨5, _⟩ => ⟨S1024x1536, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1024x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x1536 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== QkvRefIdeal.lean ====
abbrev S4096x1024 : Shape := ⟨2, ![4096, 1024]⟩
abbrev S1024x3072 : Shape := ⟨2, ![1024, 3072]⟩
abbrev S4096x3072 : Shape := ⟨2, ![4096, 3072]⟩

abbrev nBuf : Space → Nat
  | .hbm => 6
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x3072, .bf16⟩
  | .hbm, ⟨2, _⟩ => ⟨S4096x1024, .f32⟩
  | .hbm, ⟨3, _⟩ => ⟨S1024x3072, .f32⟩
  | .hbm, ⟨4, _⟩ => ⟨S4096x3072, .f32⟩
  | .hbm, ⟨5, _⟩ => ⟨S4096x3072, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== OutProj.lean ====
abbrev S4096x1024 : Shape := ⟨2, ![4096, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1024x1024, .bf16⟩
  | .hbm, ⟨2, _⟩ => ⟨S4096x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutProjRefIdeal.lean ====
abbrev S4096x1024 : Shape := ⟨2, ![4096, 1024]⟩
abbrev S1024x1024 : Shape := ⟨2, ![1024, 1024]⟩

abbrev nBuf : Space → Nat
  | .hbm => 4
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x1024, .bf16⟩
  | .hbm, ⟨2, _⟩ => ⟨S1024x1024, .f32⟩
  | .hbm, ⟨3, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== OutProjDx.lean ====
abbrev S4096x1024 : Shape := ⟨2, ![4096, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutProjDxRefIdeal.lean ====
abbrev S4096x1024 : Shape := ⟨2, ![4096, 1024]⟩
abbrev S1024x1024 : Shape := ⟨2, ![1024, 1024]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S_, .f32⟩
  | .hbm, ⟨3, _⟩ => ⟨S4096x1024, .f32⟩
  | .hbm, ⟨4, _⟩ => ⟨S1024x1024, .f32⟩
  | .hbm, ⟨5, _⟩ => ⟨S4096x1024, .f32⟩
  | .hbm, ⟨6, _⟩ => ⟨S4096x1024, .f32⟩
  | .hbm, ⟨7, _⟩ => ⟨S4096x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== OutProjDw.lean ====
abbrev S4096x1024 : Shape := ⟨2, ![4096, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S4096x1024, .bf16⟩
  | .hbm, ⟨2, _⟩ => ⟨S1024x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32 : BitVec 32 := 3#32
  let v10 : BitVec 1 := Scalar.cmpi .eq arg2 c3_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== OutProjDwRefIdeal.lean ====
abbrev S4096x1024 : Shape := ⟨2, ![4096, 1024]⟩
abbrev S_ : Shape := ⟨0, ![]⟩
abbrev S1024x1024 : Shape := ⟨2, ![1024, 1024]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .bf16⟩
  | .hbm, ⟨2, _⟩ => ⟨S_, .f32⟩
  | .hbm, ⟨3, _⟩ => ⟨S1024x1024, .f32⟩
  | .hbm, ⟨4, _⟩ => ⟨S4096x1024, .f32⟩
  | .hbm, ⟨5, _⟩ => ⟨S4096x1024, .f32⟩
  | .hbm, ⟨6, _⟩ => ⟨S1024x1024, .f32⟩
  | .hbm, ⟨7, _⟩ => ⟨S1024x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== AdamMod.lean ====
abbrev S4x1024x1536 : Shape := ⟨3, ![4, 1024, 1536]⟩
abbrev S4096x1536 : Shape := ⟨2, ![4096, 1536]⟩
abbrev S128x1536 : Shape := ⟨2, ![128, 1536]⟩

abbrev nBuf : Space → Nat
  | .hbm => 11
  | .vmem => 14
  | .smem => 0
  | _ => 0

abbrev bufTy : (tb : Table) → Fin (tcTables nBuf tb) → BufTy
  | .hbm, ⟨0, _⟩ => ⟨S4x1024x1536, .f32⟩
  | .hbm, ⟨1, _⟩ => ⟨S4x1024x1536, .f32⟩
  | .hbm, ⟨2, _⟩ => ⟨S4x1024x1536, .f32⟩
  | .hbm, ⟨3, _⟩ => ⟨S4x1024x1536, .f32⟩
  | .hbm, ⟨4, _⟩ => ⟨S4096x1536, .f32⟩
  | .hbm, ⟨5, _⟩ => ⟨S4096x1536, .f32⟩
  | .hbm, ⟨6, _⟩ => ⟨S4096x1536, .f32⟩
  | .hbm, ⟨7, _⟩ => ⟨S4096x1536, .f32⟩
  | .hbm, ⟨8, _⟩ => ⟨S4096x1536, .f32⟩
  | .hbm, ⟨9, _⟩ => ⟨S4096x1536, .f32⟩
  | .hbm, ⟨10, _⟩ => ⟨S4096x1536, .f32⟩
  | .local _ .vmem, ⟨0, _⟩ => ⟨S128x1536, .f32⟩
  | .local _ .vmem, ⟨1, _⟩ => ⟨S128x1536, .f32⟩
  | .local _ .vmem, ⟨2, _⟩ => ⟨S128x1536, .f32⟩
  | .local _ .vmem, ⟨3, _⟩ => ⟨S128x1536, .f32⟩
  | .local _ .vmem, ⟨4, _⟩ => ⟨S128x1536, .f32⟩
  | .local _ .vmem, ⟨5, _⟩ => ⟨S128x1536, .f32⟩
  | .local _ .vmem, ⟨6, _⟩ => ⟨S128x1536, .f32⟩
  | .local _ .vmem, ⟨7, _⟩ => ⟨S128x1536, .f32⟩
  | .local _ .vmem, ⟨8, _⟩ => ⟨S128x1536, .f32⟩
  | .local _ .vmem, ⟨9, _⟩ => ⟨S128x1536, .f32⟩
  | .local _ .vmem, ⟨10, _⟩ => ⟨S128x1536, .f32⟩
  | .local _ .vmem, ⟨11, _⟩ => ⟨S128x1536, .f32⟩
  | .local _ .vmem, ⟨12, _⟩ => ⟨S128x1536, .f32⟩
  | .local _ .vmem, ⟨13, _⟩ => ⟨S128x1536, .f32⟩
  | _, _ => ⟨S4x1024x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1536 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1536 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1536 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamModIdeal.lean ====
abbrev S4x1024x1536 : Shape := ⟨3, ![4, 1024, 1536]⟩
abbrev S4096x1536 : Shape := ⟨2, ![4096, 1536]⟩
abbrev S128x1536 : Shape := ⟨2, ![128, 1536]⟩

abbrev nBuf : Space → Nat
  | .hbm => 11
  | .vmem => 14
  | .smem => 0
  | _ => 0

abbrev bufTy : (tb : Table) → Fin (tcTables nBuf tb) → BufTy
  | .hbm, ⟨0, _⟩ => ⟨S4x1024x1536, .f32⟩
  | .hbm, ⟨1, _⟩ => ⟨S4x1024x1536, .f32⟩
  | .hbm, ⟨2, _⟩ => ⟨S4x1024x1536, .f32⟩
  | .hbm, ⟨3, _⟩ => ⟨S4x1024x1536, .f32⟩
  | .hbm, ⟨4, _⟩ => ⟨S4096x1536, .f32⟩
  | .hbm, ⟨5, _⟩ => ⟨S4096x1536, .f32⟩
  | .hbm, ⟨6, _⟩ => ⟨S4096x1536, .f32⟩
  | .hbm, ⟨7, _⟩ => ⟨S4096x1536, .f32⟩
  | .hbm, ⟨8, _⟩ => ⟨S4096x1536, .f32⟩
  | .hbm, ⟨9, _⟩ => ⟨S4096x1536, .f32⟩
  | .hbm, ⟨10, _⟩ => ⟨S4096x1536, .f32⟩
  | .local _ .vmem, ⟨0, _⟩ => ⟨S128x1536, .f32⟩
  | .local _ .vmem, ⟨1, _⟩ => ⟨S128x1536, .f32⟩
  | .local _ .vmem, ⟨2, _⟩ => ⟨S128x1536, .f32⟩
  | .local _ .vmem, ⟨3, _⟩ => ⟨S128x1536, .f32⟩
  | .local _ .vmem, ⟨4, _⟩ => ⟨S128x1536, .f32⟩
  | .local _ .vmem, ⟨5, _⟩ => ⟨S128x1536, .f32⟩
  | .local _ .vmem, ⟨6, _⟩ => ⟨S128x1536, .f32⟩
  | .local _ .vmem, ⟨7, _⟩ => ⟨S128x1536, .f32⟩
  | .local _ .vmem, ⟨8, _⟩ => ⟨S128x1536, .f32⟩
  | .local _ .vmem, ⟨9, _⟩ => ⟨S128x1536, .f32⟩
  | .local _ .vmem, ⟨10, _⟩ => ⟨S128x1536, .f32⟩
  | .local _ .vmem, ⟨11, _⟩ => ⟨S128x1536, .f32⟩
  | .local _ .vmem, ⟨12, _⟩ => ⟨S128x1536, .f32⟩
  | .local _ .vmem, ⟨13, _⟩ => ⟨S128x1536, .f32⟩
  | _, _ => ⟨S4x1024x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F] [Named F]

def κ : String → Option EReal := fun
  | "c1" => some ((8388608 / 5463681 : ℝ) : EReal)
  | "c2" => some ((268435456 / 2672307 : ℝ) : EReal)
  | _ => none

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1536 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1536 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1536 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamModRefIdeal.lean ====
abbrev S4x1024x1536 : Shape := ⟨3, ![4, 1024, 1536]⟩
abbrev S_ : Shape := ⟨0, ![]⟩
abbrev S4096x1536 : Shape := ⟨2, ![4096, 1536]⟩

abbrev nBuf : Space → Nat
  | .hbm => 40
  | .vmem => 0
  | .smem => 0
  | _ => 0

abbrev bufTy : (tb : Table) → Fin (tcTables nBuf tb) → BufTy
  | .hbm, ⟨0, _⟩ => ⟨S4x1024x1536, .f32⟩
  | .hbm, ⟨1, _⟩ => ⟨S4x1024x1536, .f32⟩
  | .hbm, ⟨2, _⟩ => ⟨S4x1024x1536, .f32⟩
  | .hbm, ⟨3, _⟩ => ⟨S4x1024x1536, .f32⟩
  | .hbm, ⟨4, _⟩ => ⟨S_, .f32⟩
  | .hbm, ⟨5, _⟩ => ⟨S4x1024x1536, .f32⟩
  | .hbm, ⟨6, _⟩ => ⟨S4x1024x1536, .f32⟩
  | .hbm, ⟨7, _⟩ => ⟨S_, .f32⟩
  | .hbm, ⟨8, _⟩ => ⟨S4x1024x1536, .f32⟩
  | .hbm, ⟨9, _⟩ => ⟨S4x1024x1536, .f32⟩
  | .hbm, ⟨10, _⟩ => ⟨S4x1024x1536, .f32⟩
  | .hbm, ⟨11, _⟩ => ⟨S_, .f32⟩
  | .hbm, ⟨12, _⟩ => ⟨S4x1024x1536, .f32⟩
  | .hbm, ⟨13, _⟩ => ⟨S4x1024x1536, .f32⟩
  | .hbm, ⟨14, _⟩ => ⟨S4x1024x1536, .f32⟩
  | .hbm, ⟨15, _⟩ => ⟨S_, .f32⟩
  | .hbm, ⟨16, _⟩ => ⟨S4x1024x1536, .f32⟩
  | .hbm, ⟨17, _⟩ => ⟨S4x1024x1536, .f32⟩
  | .hbm, ⟨18, _⟩ => ⟨S4x1024x1536, .f32⟩
  | .hbm, ⟨19, _⟩ => ⟨S_, .f32⟩
  | .hbm, ⟨20, _⟩ => ⟨S4x1024x1536, .f32⟩
  | .hbm, ⟨21, _⟩ => ⟨S4x1024x1536, .f32⟩
  | .hbm, ⟨22, _⟩ => ⟨S_, .f32⟩
  | .hbm, ⟨23, _⟩ => ⟨S4x1024x1536, .f32⟩
  | .hbm, ⟨24, _⟩ => ⟨S4x1024x1536, .f32⟩
  | .hbm, ⟨25, _⟩ => ⟨S4x1024x1536, .f32⟩
  | .hbm, ⟨26, _⟩ => ⟨S_, .f32⟩
  | .hbm, ⟨27, _⟩ => ⟨S4x1024x1536, .f32⟩
  | .hbm, ⟨28, _⟩ => ⟨S4x1024x1536, .f32⟩
  | .hbm, ⟨29, _⟩ => ⟨S4x1024x1536, .f32⟩
  | .hbm, ⟨30, _⟩ => ⟨S_, .f32⟩
  | .hbm, ⟨31, _⟩ => ⟨S4x1024x1536, .f32⟩
  | .hbm, ⟨32, _⟩ => ⟨S4x1024x1536, .f32⟩
  | .hbm, ⟨33, _⟩ => ⟨S4x1024x1536, .f32⟩
  | .hbm, ⟨34, _⟩ => ⟨S_, .f32⟩
  | .hbm, ⟨35, _⟩ => ⟨S4x1024x1536, .f32⟩
  | .hbm, ⟨36, _⟩ => ⟨S4x1024x1536, .f32⟩
  | .hbm, ⟨37, _⟩ => ⟨S4096x1536, .f32⟩
  | .hbm, ⟨38, _⟩ => ⟨S4096x1536, .f32⟩
  | .hbm, ⟨39, _⟩ => ⟨S4096x1536, .f32⟩
  | _, _ => ⟨S4x1024x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== AdamModBias.lean ====
abbrev S4x6144 : Shape := ⟨2, ![4, 6144]⟩

abbrev nBuf : Space → Nat
  | .hbm => 7
  | .vmem => 7
  | .smem => 0
  | _ => 0

abbrev bufTy : (tb : Table) → Fin (tcTables nBuf tb) → BufTy
  | .hbm, ⟨0, _⟩ => ⟨S4x6144, .f32⟩
  | .hbm, ⟨1, _⟩ => ⟨S4x6144, .f32⟩
  | .hbm, ⟨2, _⟩ => ⟨S4x6144, .f32⟩
  | .hbm, ⟨3, _⟩ => ⟨S4x6144, .f32⟩
  | .hbm, ⟨4, _⟩ => ⟨S4x6144, .f32⟩
  | .hbm, ⟨5, _⟩ => ⟨S4x6144, .f32⟩
  | .hbm, ⟨6, _⟩ => ⟨S4x6144, .f32⟩
  | .local _ .vmem, ⟨0, _⟩ => ⟨S4x6144, .f32⟩
  | .local _ .vmem, ⟨1, _⟩ => ⟨S4x6144, .f32⟩
  | .local _ .vmem, ⟨2, _⟩ => ⟨S4x6144, .f32⟩
  | .local _ .vmem, ⟨3, _⟩ => ⟨S4x6144, .f32⟩
  | .local _ .vmem, ⟨4, _⟩ => ⟨S4x6144, .f32⟩
  | .local _ .vmem, ⟨5, _⟩ => ⟨S4x6144, .f32⟩
  | .local _ .vmem, ⟨6, _⟩ => ⟨S4x6144, .f32⟩
  | _, _ => ⟨S4x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x6144 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x6144 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S4x6144 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S4x6144 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S4x6144 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S4x6144 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S4x6144 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamModBiasIdeal.lean ====
abbrev S4x6144 : Shape := ⟨2, ![4, 6144]⟩

abbrev nBuf : Space → Nat
  | .hbm => 7
  | .vmem => 7
  | .smem => 0
  | _ => 0

abbrev bufTy : (tb : Table) → Fin (tcTables nBuf tb) → BufTy
  | .hbm, ⟨0, _⟩ => ⟨S4x6144, .f32⟩
  | .hbm, ⟨1, _⟩ => ⟨S4x6144, .f32⟩
  | .hbm, ⟨2, _⟩ => ⟨S4x6144, .f32⟩
  | .hbm, ⟨3, _⟩ => ⟨S4x6144, .f32⟩
  | .hbm, ⟨4, _⟩ => ⟨S4x6144, .f32⟩
  | .hbm, ⟨5, _⟩ => ⟨S4x6144, .f32⟩
  | .hbm, ⟨6, _⟩ => ⟨S4x6144, .f32⟩
  | .local _ .vmem, ⟨0, _⟩ => ⟨S4x6144, .f32⟩
  | .local _ .vmem, ⟨1, _⟩ => ⟨S4x6144, .f32⟩
  | .local _ .vmem, ⟨2, _⟩ => ⟨S4x6144, .f32⟩
  | .local _ .vmem, ⟨3, _⟩ => ⟨S4x6144, .f32⟩
  | .local _ .vmem, ⟨4, _⟩ => ⟨S4x6144, .f32⟩
  | .local _ .vmem, ⟨5, _⟩ => ⟨S4x6144, .f32⟩
  | .local _ .vmem, ⟨6, _⟩ => ⟨S4x6144, .f32⟩
  | _, _ => ⟨S4x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F] [Named F]

def κ : String → Option EReal := fun
  | "c1" => some ((8388608 / 5463681 : ℝ) : EReal)
  | "c2" => some ((268435456 / 2672307 : ℝ) : EReal)
  | _ => none

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x6144 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x6144 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S4x6144 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S4x6144 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S4x6144 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S4x6144 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S4x6144 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamModBiasRefIdeal.lean ====
abbrev S4x6144 : Shape := ⟨2, ![4, 6144]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4x6144, .f32⟩
  | .hbm, ⟨1, _⟩ => ⟨S4x6144, .f32⟩
  | .hbm, ⟨2, _⟩ => ⟨S4x6144, .f32⟩
  | .hbm, ⟨3, _⟩ => ⟨S4x6144, .f32⟩
  | .hbm, ⟨4, _⟩ => ⟨S_, .f32⟩
  | .hbm, ⟨5, _⟩ => ⟨S4x6144, .f32⟩
  | .hbm, ⟨6, _⟩ => ⟨S4x6144, .f32⟩
  | .hbm, ⟨7, _⟩ => ⟨S_, .f32⟩
  | .hbm, ⟨8, _⟩ => ⟨S4x6144, .f32⟩
  | .hbm, ⟨9, _⟩ => ⟨S4x6144, .f32⟩
  | .hbm, ⟨10, _⟩ => ⟨S4x6144, .f32⟩
  | .hbm, ⟨11, _⟩ => ⟨S_, .f32⟩
  | .hbm, ⟨12, _⟩ => ⟨S4x6144, .f32⟩
  | .hbm, ⟨13, _⟩ => ⟨S4x6144, .f32⟩
  | .hbm, ⟨14, _⟩ => ⟨S4x6144, .f32⟩
  | .hbm, ⟨15, _⟩ => ⟨S_, .f32⟩
  | .hbm, ⟨16, _⟩ => ⟨S4x6144, .f32⟩
  | .hbm, ⟨17, _⟩ => ⟨S4x6144, .f32⟩
  | .hbm, ⟨18, _⟩ => ⟨S4x6144, .f32⟩
  | .hbm, ⟨19, _⟩ => ⟨S_, .f32⟩
  | .hbm, ⟨20, _⟩ => ⟨S4x6144, .f32⟩
  | .hbm, ⟨21, _⟩ => ⟨S4x6144, .f32⟩
  | .hbm, ⟨22, _⟩ => ⟨S_, .f32⟩
  | .hbm, ⟨23, _⟩ => ⟨S4x6144, .f32⟩
  | .hbm, ⟨24, _⟩ => ⟨S4x6144, .f32⟩
  | .hbm, ⟨25, _⟩ => ⟨S4x6144, .f32⟩
  | .hbm, ⟨26, _⟩ => ⟨S_, .f32⟩
  | .hbm, ⟨27, _⟩ => ⟨S4x6144, .f32⟩
  | .hbm, ⟨28, _⟩ => ⟨S4x6144, .f32⟩
  | .hbm, ⟨29, _⟩ => ⟨S4x6144, .f32⟩
  | .hbm, ⟨30, _⟩ => ⟨S_, .f32⟩
  | .hbm, ⟨31, _⟩ => ⟨S4x6144, .f32⟩
  | .hbm, ⟨32, _⟩ => ⟨S4x6144, .f32⟩
  | .hbm, ⟨33, _⟩ => ⟨S4x6144, .f32⟩
  | .hbm, ⟨34, _⟩ => ⟨S_, .f32⟩
  | .hbm, ⟨35, _⟩ => ⟨S4x6144, .f32⟩
  | .hbm, ⟨36, _⟩ => ⟨S4x6144, .f32⟩
  | _, _ => ⟨S4x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamNorm.lean ====
abbrev S4x1024 : Shape := ⟨2, ![4, 1024]⟩

abbrev nBuf : Space → Nat
  | .hbm => 7
  | .vmem => 7
  | .smem => 0
  | _ => 0

abbrev bufTy : (tb : Table) → Fin (tcTables nBuf tb) → BufTy
  | .hbm, ⟨0, _⟩ => ⟨S4x1024, .f32⟩
  | .hbm, ⟨1, _⟩ => ⟨S4x1024, .f32⟩
  | .hbm, ⟨2, _⟩ => ⟨S4x1024, .f32⟩
  | .hbm, ⟨3, _⟩ => ⟨S4x1024, .f32⟩
  | .hbm, ⟨4, _⟩ => ⟨S4x1024, .f32⟩
  | .hbm, ⟨5, _⟩ => ⟨S4x1024, .f32⟩
  | .hbm, ⟨6, _⟩ => ⟨S4x1024, .f32⟩
  | .local _ .vmem, ⟨0, _⟩ => ⟨S4x1024, .f32⟩
  | .local _ .vmem, ⟨1, _⟩ => ⟨S4x1024, .f32⟩
  | .local _ .vmem, ⟨2, _⟩ => ⟨S4x1024, .f32⟩
  | .local _ .vmem, ⟨3, _⟩ => ⟨S4x1024, .f32⟩
  | .local _ .vmem, ⟨4, _⟩ => ⟨S4x1024, .f32⟩
  | .local _ .vmem, ⟨5, _⟩ => ⟨S4x1024, .f32⟩
  | .local _ .vmem, ⟨6, _⟩ => ⟨S4x1024, .f32⟩
  | _, _ => ⟨S4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S4x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S4x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S4x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S4x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S4x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamNormIdeal.lean ====
abbrev S4x1024 : Shape := ⟨2, ![4, 1024]⟩

abbrev nBuf : Space → Nat
  | .hbm => 7
  | .vmem => 7
  | .smem => 0
  | _ => 0

abbrev bufTy : (tb : Table) → Fin (tcTables nBuf tb) → BufTy
  | .hbm, ⟨0, _⟩ => ⟨S4x1024, .f32⟩
  | .hbm, ⟨1, _⟩ => ⟨S4x1024, .f32⟩
  | .hbm, ⟨2, _⟩ => ⟨S4x1024, .f32⟩
  | .hbm, ⟨3, _⟩ => ⟨S4x1024, .f32⟩
  | .hbm, ⟨4, _⟩ => ⟨S4x1024, .f32⟩
  | .hbm, ⟨5, _⟩ => ⟨S4x1024, .f32⟩
  | .hbm, ⟨6, _⟩ => ⟨S4x1024, .f32⟩
  | .local _ .vmem, ⟨0, _⟩ => ⟨S4x1024, .f32⟩
  | .local _ .vmem, ⟨1, _⟩ => ⟨S4x1024, .f32⟩
  | .local _ .vmem, ⟨2, _⟩ => ⟨S4x1024, .f32⟩
  | .local _ .vmem, ⟨3, _⟩ => ⟨S4x1024, .f32⟩
  | .local _ .vmem, ⟨4, _⟩ => ⟨S4x1024, .f32⟩
  | .local _ .vmem, ⟨5, _⟩ => ⟨S4x1024, .f32⟩
  | .local _ .vmem, ⟨6, _⟩ => ⟨S4x1024, .f32⟩
  | _, _ => ⟨S4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F] [Named F]

def κ : String → Option EReal := fun
  | "c1" => some ((8388608 / 5463681 : ℝ) : EReal)
  | "c2" => some ((268435456 / 2672307 : ℝ) : EReal)
  | _ => none

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S4x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S4x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S4x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S4x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S4x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamNormRefIdeal.lean ====
abbrev S4x1024 : Shape := ⟨2, ![4, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4x1024, .f32⟩
  | .hbm, ⟨1, _⟩ => ⟨S4x1024, .f32⟩
  | .hbm, ⟨2, _⟩ => ⟨S4x1024, .f32⟩
  | .hbm, ⟨3, _⟩ => ⟨S4x1024, .f32⟩
  | .hbm, ⟨4, _⟩ => ⟨S_, .f32⟩
  | .hbm, ⟨5, _⟩ => ⟨S4x1024, .f32⟩
  | .hbm, ⟨6, _⟩ => ⟨S4x1024, .f32⟩
  | .hbm, ⟨7, _⟩ => ⟨S_, .f32⟩
  | .hbm, ⟨8, _⟩ => ⟨S4x1024, .f32⟩
  | .hbm, ⟨9, _⟩ => ⟨S4x1024, .f32⟩
  | .hbm, ⟨10, _⟩ => ⟨S4x1024, .f32⟩
  | .hbm, ⟨11, _⟩ => ⟨S_, .f32⟩
  | .hbm, ⟨12, _⟩ => ⟨S4x1024, .f32⟩
  | .hbm, ⟨13, _⟩ => ⟨S4x1024, .f32⟩
  | .hbm, ⟨14, _⟩ => ⟨S4x1024, .f32⟩
  | .hbm, ⟨15, _⟩ => ⟨S_, .f32⟩
  | .hbm, ⟨16, _⟩ => ⟨S4x1024, .f32⟩
  | .hbm, ⟨17, _⟩ => ⟨S4x1024, .f32⟩
  | .hbm, ⟨18, _⟩ => ⟨S4x1024, .f32⟩
  | .hbm, ⟨19, _⟩ => ⟨S_, .f32⟩
  | .hbm, ⟨20, _⟩ => ⟨S4x1024, .f32⟩
  | .hbm, ⟨21, _⟩ => ⟨S4x1024, .f32⟩
  | .hbm, ⟨22, _⟩ => ⟨S_, .f32⟩
  | .hbm, ⟨23, _⟩ => ⟨S4x1024, .f32⟩
  | .hbm, ⟨24, _⟩ => ⟨S4x1024, .f32⟩
  | .hbm, ⟨25, _⟩ => ⟨S4x1024, .f32⟩
  | .hbm, ⟨26, _⟩ => ⟨S_, .f32⟩
  | .hbm, ⟨27, _⟩ => ⟨S4x1024, .f32⟩
  | .hbm, ⟨28, _⟩ => ⟨S4x1024, .f32⟩
  | .hbm, ⟨29, _⟩ => ⟨S4x1024, .f32⟩
  | .hbm, ⟨30, _⟩ => ⟨S_, .f32⟩
  | .hbm, ⟨31, _⟩ => ⟨S4x1024, .f32⟩
  | .hbm, ⟨32, _⟩ => ⟨S4x1024, .f32⟩
  | .hbm, ⟨33, _⟩ => ⟨S4x1024, .f32⟩
  | .hbm, ⟨34, _⟩ => ⟨S_, .f32⟩
  | .hbm, ⟨35, _⟩ => ⟨S4x1024, .f32⟩
  | .hbm, ⟨36, _⟩ => ⟨S4x1024, .f32⟩
  | _, _ => ⟨S4x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamQkv.lean ====
abbrev S4x1024x768 : Shape := ⟨3, ![4, 1024, 768]⟩
abbrev S4096x768 : Shape := ⟨2, ![4096, 768]⟩
abbrev S256x768 : Shape := ⟨2, ![256, 768]⟩

abbrev nBuf : Space → Nat
  | .hbm => 11
  | .vmem => 14
  | .smem => 0
  | _ => 0

abbrev bufTy : (tb : Table) → Fin (tcTables nBuf tb) → BufTy
  | .hbm, ⟨0, _⟩ => ⟨S4x1024x768, .f32⟩
  | .hbm, ⟨1, _⟩ => ⟨S4x1024x768, .f32⟩
  | .hbm, ⟨2, _⟩ => ⟨S4x1024x768, .f32⟩
  | .hbm, ⟨3, _⟩ => ⟨S4x1024x768, .f32⟩
  | .hbm, ⟨4, _⟩ => ⟨S4096x768, .f32⟩
  | .hbm, ⟨5, _⟩ => ⟨S4096x768, .f32⟩
  | .hbm, ⟨6, _⟩ => ⟨S4096x768, .f32⟩
  | .hbm, ⟨7, _⟩ => ⟨S4096x768, .f32⟩
  | .hbm, ⟨8, _⟩ => ⟨S4096x768, .f32⟩
  | .hbm, ⟨9, _⟩ => ⟨S4096x768, .f32⟩
  | .hbm, ⟨10, _⟩ => ⟨S4096x768, .f32⟩
  | .local _ .vmem, ⟨0, _⟩ => ⟨S256x768, .f32⟩
  | .local _ .vmem, ⟨1, _⟩ => ⟨S256x768, .f32⟩
  | .local _ .vmem, ⟨2, _⟩ => ⟨S256x768, .f32⟩
  | .local _ .vmem, ⟨3, _⟩ => ⟨S256x768, .f32⟩
  | .local _ .vmem, ⟨4, _⟩ => ⟨S256x768, .f32⟩
  | .local _ .vmem, ⟨5, _⟩ => ⟨S256x768, .f32⟩
  | .local _ .vmem, ⟨6, _⟩ => ⟨S256x768, .f32⟩
  | .local _ .vmem, ⟨7, _⟩ => ⟨S256x768, .f32⟩
  | .local _ .vmem, ⟨8, _⟩ => ⟨S256x768, .f32⟩
  | .local _ .vmem, ⟨9, _⟩ => ⟨S256x768, .f32⟩
  | .local _ .vmem, ⟨10, _⟩ => ⟨S256x768, .f32⟩
  | .local _ .vmem, ⟨11, _⟩ => ⟨S256x768, .f32⟩
  | .local _ .vmem, ⟨12, _⟩ => ⟨S256x768, .f32⟩
  | .local _ .vmem, ⟨13, _⟩ => ⟨S256x768, .f32⟩
  | _, _ => ⟨S4x1024x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamQkvIdeal.lean ====
abbrev S4x1024x768 : Shape := ⟨3, ![4, 1024, 768]⟩
abbrev S4096x768 : Shape := ⟨2, ![4096, 768]⟩
abbrev S256x768 : Shape := ⟨2, ![256, 768]⟩

abbrev nBuf : Space → Nat
  | .hbm => 11
  | .vmem => 14
  | .smem => 0
  | _ => 0

abbrev bufTy : (tb : Table) → Fin (tcTables nBuf tb) → BufTy
  | .hbm, ⟨0, _⟩ => ⟨S4x1024x768, .f32⟩
  | .hbm, ⟨1, _⟩ => ⟨S4x1024x768, .f32⟩
  | .hbm, ⟨2, _⟩ => ⟨S4x1024x768, .f32⟩
  | .hbm, ⟨3, _⟩ => ⟨S4x1024x768, .f32⟩
  | .hbm, ⟨4, _⟩ => ⟨S4096x768, .f32⟩
  | .hbm, ⟨5, _⟩ => ⟨S4096x768, .f32⟩
  | .hbm, ⟨6, _⟩ => ⟨S4096x768, .f32⟩
  | .hbm, ⟨7, _⟩ => ⟨S4096x768, .f32⟩
  | .hbm, ⟨8, _⟩ => ⟨S4096x768, .f32⟩
  | .hbm, ⟨9, _⟩ => ⟨S4096x768, .f32⟩
  | .hbm, ⟨10, _⟩ => ⟨S4096x768, .f32⟩
  | .local _ .vmem, ⟨0, _⟩ => ⟨S256x768, .f32⟩
  | .local _ .vmem, ⟨1, _⟩ => ⟨S256x768, .f32⟩
  | .local _ .vmem, ⟨2, _⟩ => ⟨S256x768, .f32⟩
  | .local _ .vmem, ⟨3, _⟩ => ⟨S256x768, .f32⟩
  | .local _ .vmem, ⟨4, _⟩ => ⟨S256x768, .f32⟩
  | .local _ .vmem, ⟨5, _⟩ => ⟨S256x768, .f32⟩
  | .local _ .vmem, ⟨6, _⟩ => ⟨S256x768, .f32⟩
  | .local _ .vmem, ⟨7, _⟩ => ⟨S256x768, .f32⟩
  | .local _ .vmem, ⟨8, _⟩ => ⟨S256x768, .f32⟩
  | .local _ .vmem, ⟨9, _⟩ => ⟨S256x768, .f32⟩
  | .local _ .vmem, ⟨10, _⟩ => ⟨S256x768, .f32⟩
  | .local _ .vmem, ⟨11, _⟩ => ⟨S256x768, .f32⟩
  | .local _ .vmem, ⟨12, _⟩ => ⟨S256x768, .f32⟩
  | .local _ .vmem, ⟨13, _⟩ => ⟨S256x768, .f32⟩
  | _, _ => ⟨S4x1024x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F] [Named F]

def κ : String → Option EReal := fun
  | "c1" => some ((8388608 / 5463681 : ℝ) : EReal)
  | "c2" => some ((268435456 / 2672307 : ℝ) : EReal)
  | _ => none

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamQkvRefIdeal.lean ====
abbrev S4x1024x768 : Shape := ⟨3, ![4, 1024, 768]⟩
abbrev S_ : Shape := ⟨0, ![]⟩
abbrev S4096x768 : Shape := ⟨2, ![4096, 768]⟩

abbrev nBuf : Space → Nat
  | .hbm => 40
  | .vmem => 0
  | .smem => 0
  | _ => 0

abbrev bufTy : (tb : Table) → Fin (tcTables nBuf tb) → BufTy
  | .hbm, ⟨0, _⟩ => ⟨S4x1024x768, .f32⟩
  | .hbm, ⟨1, _⟩ => ⟨S4x1024x768, .f32⟩
  | .hbm, ⟨2, _⟩ => ⟨S4x1024x768, .f32⟩
  | .hbm, ⟨3, _⟩ => ⟨S4x1024x768, .f32⟩
  | .hbm, ⟨4, _⟩ => ⟨S_, .f32⟩
  | .hbm, ⟨5, _⟩ => ⟨S4x1024x768, .f32⟩
  | .hbm, ⟨6, _⟩ => ⟨S4x1024x768, .f32⟩
  | .hbm, ⟨7, _⟩ => ⟨S_, .f32⟩
  | .hbm, ⟨8, _⟩ => ⟨S4x1024x768, .f32⟩
  | .hbm, ⟨9, _⟩ => ⟨S4x1024x768, .f32⟩
  | .hbm, ⟨10, _⟩ => ⟨S4x1024x768, .f32⟩
  | .hbm, ⟨11, _⟩ => ⟨S_, .f32⟩
  | .hbm, ⟨12, _⟩ => ⟨S4x1024x768, .f32⟩
  | .hbm, ⟨13, _⟩ => ⟨S4x1024x768, .f32⟩
  | .hbm, ⟨14, _⟩ => ⟨S4x1024x768, .f32⟩
  | .hbm, ⟨15, _⟩ => ⟨S_, .f32⟩
  | .hbm, ⟨16, _⟩ => ⟨S4x1024x768, .f32⟩
  | .hbm, ⟨17, _⟩ => ⟨S4x1024x768, .f32⟩
  | .hbm, ⟨18, _⟩ => ⟨S4x1024x768, .f32⟩
  | .hbm, ⟨19, _⟩ => ⟨S_, .f32⟩
  | .hbm, ⟨20, _⟩ => ⟨S4x1024x768, .f32⟩
  | .hbm, ⟨21, _⟩ => ⟨S4x1024x768, .f32⟩
  | .hbm, ⟨22, _⟩ => ⟨S_, .f32⟩
  | .hbm, ⟨23, _⟩ => ⟨S4x1024x768, .f32⟩
  | .hbm, ⟨24, _⟩ => ⟨S4x1024x768, .f32⟩
  | .hbm, ⟨25, _⟩ => ⟨S4x1024x768, .f32⟩
  | .hbm, ⟨26, _⟩ => ⟨S_, .f32⟩
  | .hbm, ⟨27, _⟩ => ⟨S4x1024x768, .f32⟩
  | .hbm, ⟨28, _⟩ => ⟨S4x1024x768, .f32⟩
  | .hbm, ⟨29, _⟩ => ⟨S4x1024x768, .f32⟩
  | .hbm, ⟨30, _⟩ => ⟨S_, .f32⟩
  | .hbm, ⟨31, _⟩ => ⟨S4x1024x768, .f32⟩
  | .hbm, ⟨32, _⟩ => ⟨S4x1024x768, .f32⟩
  | .hbm, ⟨33, _⟩ => ⟨S4x1024x768, .f32⟩
  | .hbm, ⟨34, _⟩ => ⟨S_, .f32⟩
  | .hbm, ⟨35, _⟩ => ⟨S4x1024x768, .f32⟩
  | .hbm, ⟨36, _⟩ => ⟨S4x1024x768, .f32⟩
  | .hbm, ⟨37, _⟩ => ⟨S4096x768, .f32⟩
  | .hbm, ⟨38, _⟩ => ⟨S4096x768, .f32⟩
  | .hbm, ⟨39, _⟩ => ⟨S4096x768, .f32⟩
  | _, _ => ⟨S4x1024x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== AdamO.lean ====
abbrev S4x256x1024 : Shape := ⟨3, ![4, 256, 1024]⟩
abbrev S1024x1024 : Shape := ⟨2, ![1024, 1024]⟩
abbrev S256x1024 : Shape := ⟨2, ![256, 1024]⟩

abbrev nBuf : Space → Nat
  | .hbm => 11
  | .vmem => 14
  | .smem => 0
  | _ => 0

abbrev bufTy : (tb : Table) → Fin (tcTables nBuf tb) → BufTy
  | .hbm, ⟨0, _⟩ => ⟨S4x256x1024, .f32⟩
  | .hbm, ⟨1, _⟩ => ⟨S4x256x1024, .f32⟩
  | .hbm, ⟨2, _⟩ => ⟨S4x256x1024, .f32⟩
  | .hbm, ⟨3, _⟩ => ⟨S4x256x1024, .f32⟩
  | .hbm, ⟨4, _⟩ => ⟨S1024x1024, .f32⟩
  | .hbm, ⟨5, _⟩ => ⟨S1024x1024, .f32⟩
  | .hbm, ⟨6, _⟩ => ⟨S1024x1024, .f32⟩
  | .hbm, ⟨7, _⟩ => ⟨S1024x1024, .f32⟩
  | .hbm, ⟨8, _⟩ => ⟨S1024x1024, .f32⟩
  | .hbm, ⟨9, _⟩ => ⟨S1024x1024, .f32⟩
  | .hbm, ⟨10, _⟩ => ⟨S1024x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | _, _ => ⟨S4x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamOIdeal.lean ====
abbrev S4x256x1024 : Shape := ⟨3, ![4, 256, 1024]⟩
abbrev S1024x1024 : Shape := ⟨2, ![1024, 1024]⟩
abbrev S256x1024 : Shape := ⟨2, ![256, 1024]⟩

abbrev nBuf : Space → Nat
  | .hbm => 11
  | .vmem => 14
  | .smem => 0
  | _ => 0

abbrev bufTy : (tb : Table) → Fin (tcTables nBuf tb) → BufTy
  | .hbm, ⟨0, _⟩ => ⟨S4x256x1024, .f32⟩
  | .hbm, ⟨1, _⟩ => ⟨S4x256x1024, .f32⟩
  | .hbm, ⟨2, _⟩ => ⟨S4x256x1024, .f32⟩
  | .hbm, ⟨3, _⟩ => ⟨S4x256x1024, .f32⟩
  | .hbm, ⟨4, _⟩ => ⟨S1024x1024, .f32⟩
  | .hbm, ⟨5, _⟩ => ⟨S1024x1024, .f32⟩
  | .hbm, ⟨6, _⟩ => ⟨S1024x1024, .f32⟩
  | .hbm, ⟨7, _⟩ => ⟨S1024x1024, .f32⟩
  | .hbm, ⟨8, _⟩ => ⟨S1024x1024, .f32⟩
  | .hbm, ⟨9, _⟩ => ⟨S1024x1024, .f32⟩
  | .hbm, ⟨10, _⟩ => ⟨S1024x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | _, _ => ⟨S4x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F] [Named F]

def κ : String → Option EReal := fun
  | "c1" => some ((8388608 / 5463681 : ℝ) : EReal)
  | "c2" => some ((268435456 / 2672307 : ℝ) : EReal)
  | _ => none

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamORefIdeal.lean ====
abbrev S4x256x1024 : Shape := ⟨3, ![4, 256, 1024]⟩
abbrev S_ : Shape := ⟨0, ![]⟩
abbrev S1024x1024 : Shape := ⟨2, ![1024, 1024]⟩

abbrev nBuf : Space → Nat
  | .hbm => 40
  | .vmem => 0
  | .smem => 0
  | _ => 0

abbrev bufTy : (tb : Table) → Fin (tcTables nBuf tb) → BufTy
  | .hbm, ⟨0, _⟩ => ⟨S4x256x1024, .f32⟩
  | .hbm, ⟨1, _⟩ => ⟨S4x256x1024, .f32⟩
  | .hbm, ⟨2, _⟩ => ⟨S4x256x1024, .f32⟩
  | .hbm, ⟨3, _⟩ => ⟨S4x256x1024, .f32⟩
  | .hbm, ⟨4, _⟩ => ⟨S_, .f32⟩
  | .hbm, ⟨5, _⟩ => ⟨S4x256x1024, .f32⟩
  | .hbm, ⟨6, _⟩ => ⟨S4x256x1024, .f32⟩
  | .hbm, ⟨7, _⟩ => ⟨S_, .f32⟩
  | .hbm, ⟨8, _⟩ => ⟨S4x256x1024, .f32⟩
  | .hbm, ⟨9, _⟩ => ⟨S4x256x1024, .f32⟩
  | .hbm, ⟨10, _⟩ => ⟨S4x256x1024, .f32⟩
  | .hbm, ⟨11, _⟩ => ⟨S_, .f32⟩
  | .hbm, ⟨12, _⟩ => ⟨S4x256x1024, .f32⟩
  | .hbm, ⟨13, _⟩ => ⟨S4x256x1024, .f32⟩
  | .hbm, ⟨14, _⟩ => ⟨S4x256x1024, .f32⟩
  | .hbm, ⟨15, _⟩ => ⟨S_, .f32⟩
  | .hbm, ⟨16, _⟩ => ⟨S4x256x1024, .f32⟩
  | .hbm, ⟨17, _⟩ => ⟨S4x256x1024, .f32⟩
  | .hbm, ⟨18, _⟩ => ⟨S4x256x1024, .f32⟩
  | .hbm, ⟨19, _⟩ => ⟨S_, .f32⟩
  | .hbm, ⟨20, _⟩ => ⟨S4x256x1024, .f32⟩
  | .hbm, ⟨21, _⟩ => ⟨S4x256x1024, .f32⟩
  | .hbm, ⟨22, _⟩ => ⟨S_, .f32⟩
  | .hbm, ⟨23, _⟩ => ⟨S4x256x1024, .f32⟩
  | .hbm, ⟨24, _⟩ => ⟨S4x256x1024, .f32⟩
  | .hbm, ⟨25, _⟩ => ⟨S4x256x1024, .f32⟩
  | .hbm, ⟨26, _⟩ => ⟨S_, .f32⟩
  | .hbm, ⟨27, _⟩ => ⟨S4x256x1024, .f32⟩
  | .hbm, ⟨28, _⟩ => ⟨S4x256x1024, .f32⟩
  | .hbm, ⟨29, _⟩ => ⟨S4x256x1024, .f32⟩
  | .hbm, ⟨30, _⟩ => ⟨S_, .f32⟩
  | .hbm, ⟨31, _⟩ => ⟨S4x256x1024, .f32⟩
  | .hbm, ⟨32, _⟩ => ⟨S4x256x1024, .f32⟩
  | .hbm, ⟨33, _⟩ => ⟨S4x256x1024, .f32⟩
  | .hbm, ⟨34, _⟩ => ⟨S_, .f32⟩
  | .hbm, ⟨35, _⟩ => ⟨S4x256x1024, .f32⟩
  | .hbm, ⟨36, _⟩ => ⟨S4x256x1024, .f32⟩
  | .hbm, ⟨37, _⟩ => ⟨S1024x1024, .f32⟩
  | .hbm, ⟨38, _⟩ => ⟨S1024x1024, .f32⟩
  | .hbm, ⟨39, _⟩ => ⟨S1024x1024, .f32⟩
  | _, _ => ⟨S4x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== AdamForget.lean ====
abbrev S2x256x16 : Shape := ⟨3, ![2, 256, 16]⟩
abbrev S512x16 : Shape := ⟨2, ![512, 16]⟩

abbrev nBuf : Space → Nat
  | .hbm => 11
  | .vmem => 7
  | .smem => 0
  | _ => 0

abbrev bufTy : (tb : Table) → Fin (tcTables nBuf tb) → BufTy
  | .hbm, ⟨0, _⟩ => ⟨S2x256x16, .f32⟩
  | .hbm, ⟨1, _⟩ => ⟨S2x256x16, .f32⟩
  | .hbm, ⟨2, _⟩ => ⟨S2x256x16, .f32⟩
  | .hbm, ⟨3, _⟩ => ⟨S2x256x16, .f32⟩
  | .hbm, ⟨4, _⟩ => ⟨S512x16, .f32⟩
  | .hbm, ⟨5, _⟩ => ⟨S512x16, .f32⟩
  | .hbm, ⟨6, _⟩ => ⟨S512x16, .f32⟩
  | .hbm, ⟨7, _⟩ => ⟨S512x16, .f32⟩
  | .hbm, ⟨8, _⟩ => ⟨S512x16, .f32⟩
  | .hbm, ⟨9, _⟩ => ⟨S512x16, .f32⟩
  | .hbm, ⟨10, _⟩ => ⟨S512x16, .f32⟩
  | .local _ .vmem, ⟨0, _⟩ => ⟨S512x16, .f32⟩
  | .local _ .vmem, ⟨1, _⟩ => ⟨S512x16, .f32⟩
  | .local _ .vmem, ⟨2, _⟩ => ⟨S512x16, .f32⟩
  | .local _ .vmem, ⟨3, _⟩ => ⟨S512x16, .f32⟩
  | .local _ .vmem, ⟨4, _⟩ => ⟨S512x16, .f32⟩
  | .local _ .vmem, ⟨5, _⟩ => ⟨S512x16, .f32⟩
  | .local _ .vmem, ⟨6, _⟩ => ⟨S512x16, .f32⟩
  | _, _ => ⟨S2x256x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S512x16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S512x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S512x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S512x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S512x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S512x16 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S512x16 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamForgetIdeal.lean ====
abbrev S2x256x16 : Shape := ⟨3, ![2, 256, 16]⟩
abbrev S512x16 : Shape := ⟨2, ![512, 16]⟩

abbrev nBuf : Space → Nat
  | .hbm => 11
  | .vmem => 7
  | .smem => 0
  | _ => 0

abbrev bufTy : (tb : Table) → Fin (tcTables nBuf tb) → BufTy
  | .hbm, ⟨0, _⟩ => ⟨S2x256x16, .f32⟩
  | .hbm, ⟨1, _⟩ => ⟨S2x256x16, .f32⟩
  | .hbm, ⟨2, _⟩ => ⟨S2x256x16, .f32⟩
  | .hbm, ⟨3, _⟩ => ⟨S2x256x16, .f32⟩
  | .hbm, ⟨4, _⟩ => ⟨S512x16, .f32⟩
  | .hbm, ⟨5, _⟩ => ⟨S512x16, .f32⟩
  | .hbm, ⟨6, _⟩ => ⟨S512x16, .f32⟩
  | .hbm, ⟨7, _⟩ => ⟨S512x16, .f32⟩
  | .hbm, ⟨8, _⟩ => ⟨S512x16, .f32⟩
  | .hbm, ⟨9, _⟩ => ⟨S512x16, .f32⟩
  | .hbm, ⟨10, _⟩ => ⟨S512x16, .f32⟩
  | .local _ .vmem, ⟨0, _⟩ => ⟨S512x16, .f32⟩
  | .local _ .vmem, ⟨1, _⟩ => ⟨S512x16, .f32⟩
  | .local _ .vmem, ⟨2, _⟩ => ⟨S512x16, .f32⟩
  | .local _ .vmem, ⟨3, _⟩ => ⟨S512x16, .f32⟩
  | .local _ .vmem, ⟨4, _⟩ => ⟨S512x16, .f32⟩
  | .local _ .vmem, ⟨5, _⟩ => ⟨S512x16, .f32⟩
  | .local _ .vmem, ⟨6, _⟩ => ⟨S512x16, .f32⟩
  | _, _ => ⟨S2x256x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F] [Named F]

def κ : String → Option EReal := fun
  | "c1" => some ((8388608 / 5463681 : ℝ) : EReal)
  | "c2" => some ((268435456 / 2672307 : ℝ) : EReal)
  | _ => none

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S512x16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S512x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S512x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S512x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S512x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S512x16 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S512x16 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamForgetRefIdeal.lean ====
abbrev S2x256x16 : Shape := ⟨3, ![2, 256, 16]⟩
abbrev S_ : Shape := ⟨0, ![]⟩
abbrev S512x16 : Shape := ⟨2, ![512, 16]⟩

abbrev nBuf : Space → Nat
  | .hbm => 40
  | .vmem => 0
  | .smem => 0
  | _ => 0

abbrev bufTy : (tb : Table) → Fin (tcTables nBuf tb) → BufTy
  | .hbm, ⟨0, _⟩ => ⟨S2x256x16, .f32⟩
  | .hbm, ⟨1, _⟩ => ⟨S2x256x16, .f32⟩
  | .hbm, ⟨2, _⟩ => ⟨S2x256x16, .f32⟩
  | .hbm, ⟨3, _⟩ => ⟨S2x256x16, .f32⟩
  | .hbm, ⟨4, _⟩ => ⟨S_, .f32⟩
  | .hbm, ⟨5, _⟩ => ⟨S2x256x16, .f32⟩
  | .hbm, ⟨6, _⟩ => ⟨S2x256x16, .f32⟩
  | .hbm, ⟨7, _⟩ => ⟨S_, .f32⟩
  | .hbm, ⟨8, _⟩ => ⟨S2x256x16, .f32⟩
  | .hbm, ⟨9, _⟩ => ⟨S2x256x16, .f32⟩
  | .hbm, ⟨10, _⟩ => ⟨S2x256x16, .f32⟩
  | .hbm, ⟨11, _⟩ => ⟨S_, .f32⟩
  | .hbm, ⟨12, _⟩ => ⟨S2x256x16, .f32⟩
  | .hbm, ⟨13, _⟩ => ⟨S2x256x16, .f32⟩
  | .hbm, ⟨14, _⟩ => ⟨S2x256x16, .f32⟩
  | .hbm, ⟨15, _⟩ => ⟨S_, .f32⟩
  | .hbm, ⟨16, _⟩ => ⟨S2x256x16, .f32⟩
  | .hbm, ⟨17, _⟩ => ⟨S2x256x16, .f32⟩
  | .hbm, ⟨18, _⟩ => ⟨S2x256x16, .f32⟩
  | .hbm, ⟨19, _⟩ => ⟨S_, .f32⟩
  | .hbm, ⟨20, _⟩ => ⟨S2x256x16, .f32⟩
  | .hbm, ⟨21, _⟩ => ⟨S2x256x16, .f32⟩
  | .hbm, ⟨22, _⟩ => ⟨S_, .f32⟩
  | .hbm, ⟨23, _⟩ => ⟨S2x256x16, .f32⟩
  | .hbm, ⟨24, _⟩ => ⟨S2x256x16, .f32⟩
  | .hbm, ⟨25, _⟩ => ⟨S2x256x16, .f32⟩
  | .hbm, ⟨26, _⟩ => ⟨S_, .f32⟩
  | .hbm, ⟨27, _⟩ => ⟨S2x256x16, .f32⟩
  | .hbm, ⟨28, _⟩ => ⟨S2x256x16, .f32⟩
  | .hbm, ⟨29, _⟩ => ⟨S2x256x16, .f32⟩
  | .hbm, ⟨30, _⟩ => ⟨S_, .f32⟩
  | .hbm, ⟨31, _⟩ => ⟨S2x256x16, .f32⟩
  | .hbm, ⟨32, _⟩ => ⟨S2x256x16, .f32⟩
  | .hbm, ⟨33, _⟩ => ⟨S2x256x16, .f32⟩
  | .hbm, ⟨34, _⟩ => ⟨S_, .f32⟩
  | .hbm, ⟨35, _⟩ => ⟨S2x256x16, .f32⟩
  | .hbm, ⟨36, _⟩ => ⟨S2x256x16, .f32⟩
  | .hbm, ⟨37, _⟩ => ⟨S512x16, .f32⟩
  | .hbm, ⟨38, _⟩ => ⟨S512x16, .f32⟩
  | .hbm, ⟨39, _⟩ => ⟨S512x16, .f32⟩
  | _, _ => ⟨S2x256x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== AdamForgetBias.lean ====
abbrev S2x16 : Shape := ⟨2, ![2, 16]⟩

abbrev nBuf : Space → Nat
  | .hbm => 7
  | .vmem => 7
  | .smem => 0
  | _ => 0

abbrev bufTy : (tb : Table) → Fin (tcTables nBuf tb) → BufTy
  | .hbm, ⟨0, _⟩ => ⟨S2x16, .f32⟩
  | .hbm, ⟨1, _⟩ => ⟨S2x16, .f32⟩
  | .hbm, ⟨2, _⟩ => ⟨S2x16, .f32⟩
  | .hbm, ⟨3, _⟩ => ⟨S2x16, .f32⟩
  | .hbm, ⟨4, _⟩ => ⟨S2x16, .f32⟩
  | .hbm, ⟨5, _⟩ => ⟨S2x16, .f32⟩
  | .hbm, ⟨6, _⟩ => ⟨S2x16, .f32⟩
  | .local _ .vmem, ⟨0, _⟩ => ⟨S2x16, .f32⟩
  | .local _ .vmem, ⟨1, _⟩ => ⟨S2x16, .f32⟩
  | .local _ .vmem, ⟨2, _⟩ => ⟨S2x16, .f32⟩
  | .local _ .vmem, ⟨3, _⟩ => ⟨S2x16, .f32⟩
  | .local _ .vmem, ⟨4, _⟩ => ⟨S2x16, .f32⟩
  | .local _ .vmem, ⟨5, _⟩ => ⟨S2x16, .f32⟩
  | .local _ .vmem, ⟨6, _⟩ => ⟨S2x16, .f32⟩
  | _, _ => ⟨S2x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S2x16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S2x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S2x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S2x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S2x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S2x16 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S2x16 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamForgetBiasIdeal.lean ====
abbrev S2x16 : Shape := ⟨2, ![2, 16]⟩

abbrev nBuf : Space → Nat
  | .hbm => 7
  | .vmem => 7
  | .smem => 0
  | _ => 0

abbrev bufTy : (tb : Table) → Fin (tcTables nBuf tb) → BufTy
  | .hbm, ⟨0, _⟩ => ⟨S2x16, .f32⟩
  | .hbm, ⟨1, _⟩ => ⟨S2x16, .f32⟩
  | .hbm, ⟨2, _⟩ => ⟨S2x16, .f32⟩
  | .hbm, ⟨3, _⟩ => ⟨S2x16, .f32⟩
  | .hbm, ⟨4, _⟩ => ⟨S2x16, .f32⟩
  | .hbm, ⟨5, _⟩ => ⟨S2x16, .f32⟩
  | .hbm, ⟨6, _⟩ => ⟨S2x16, .f32⟩
  | .local _ .vmem, ⟨0, _⟩ => ⟨S2x16, .f32⟩
  | .local _ .vmem, ⟨1, _⟩ => ⟨S2x16, .f32⟩
  | .local _ .vmem, ⟨2, _⟩ => ⟨S2x16, .f32⟩
  | .local _ .vmem, ⟨3, _⟩ => ⟨S2x16, .f32⟩
  | .local _ .vmem, ⟨4, _⟩ => ⟨S2x16, .f32⟩
  | .local _ .vmem, ⟨5, _⟩ => ⟨S2x16, .f32⟩
  | .local _ .vmem, ⟨6, _⟩ => ⟨S2x16, .f32⟩
  | _, _ => ⟨S2x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F] [Named F]

def κ : String → Option EReal := fun
  | "c1" => some ((8388608 / 5463681 : ℝ) : EReal)
  | "c2" => some ((268435456 / 2672307 : ℝ) : EReal)
  | _ => none

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S2x16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S2x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S2x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S2x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S2x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S2x16 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S2x16 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamForgetBiasRefIdeal.lean ====
abbrev S2x16 : Shape := ⟨2, ![2, 16]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x16, .f32⟩
  | .hbm, ⟨1, _⟩ => ⟨S2x16, .f32⟩
  | .hbm, ⟨2, _⟩ => ⟨S2x16, .f32⟩
  | .hbm, ⟨3, _⟩ => ⟨S2x16, .f32⟩
  | .hbm, ⟨4, _⟩ => ⟨S_, .f32⟩
  | .hbm, ⟨5, _⟩ => ⟨S2x16, .f32⟩
  | .hbm, ⟨6, _⟩ => ⟨S2x16, .f32⟩
  | .hbm, ⟨7, _⟩ => ⟨S_, .f32⟩
  | .hbm, ⟨8, _⟩ => ⟨S2x16, .f32⟩
  | .hbm, ⟨9, _⟩ => ⟨S2x16, .f32⟩
  | .hbm, ⟨10, _⟩ => ⟨S2x16, .f32⟩
  | .hbm, ⟨11, _⟩ => ⟨S_, .f32⟩
  | .hbm, ⟨12, _⟩ => ⟨S2x16, .f32⟩
  | .hbm, ⟨13, _⟩ => ⟨S2x16, .f32⟩
  | .hbm, ⟨14, _⟩ => ⟨S2x16, .f32⟩
  | .hbm, ⟨15, _⟩ => ⟨S_, .f32⟩
  | .hbm, ⟨16, _⟩ => ⟨S2x16, .f32⟩
  | .hbm, ⟨17, _⟩ => ⟨S2x16, .f32⟩
  | .hbm, ⟨18, _⟩ => ⟨S2x16, .f32⟩
  | .hbm, ⟨19, _⟩ => ⟨S_, .f32⟩
  | .hbm, ⟨20, _⟩ => ⟨S2x16, .f32⟩
  | .hbm, ⟨21, _⟩ => ⟨S2x16, .f32⟩
  | .hbm, ⟨22, _⟩ => ⟨S_, .f32⟩
  | .hbm, ⟨23, _⟩ => ⟨S2x16, .f32⟩
  | .hbm, ⟨24, _⟩ => ⟨S2x16, .f32⟩
  | .hbm, ⟨25, _⟩ => ⟨S2x16, .f32⟩
  | .hbm, ⟨26, _⟩ => ⟨S_, .f32⟩
  | .hbm, ⟨27, _⟩ => ⟨S2x16, .f32⟩
  | .hbm, ⟨28, _⟩ => ⟨S2x16, .f32⟩
  | .hbm, ⟨29, _⟩ => ⟨S2x16, .f32⟩
  | .hbm, ⟨30, _⟩ => ⟨S_, .f32⟩
  | .hbm, ⟨31, _⟩ => ⟨S2x16, .f32⟩
  | .hbm, ⟨32, _⟩ => ⟨S2x16, .f32⟩
  | .hbm, ⟨33, _⟩ => ⟨S2x16, .f32⟩
  | .hbm, ⟨34, _⟩ => ⟨S_, .f32⟩
  | .hbm, ⟨35, _⟩ => ⟨S2x16, .f32⟩
  | .hbm, ⟨36, _⟩ => ⟨S2x16, .f32⟩
  | _, _ => ⟨S2x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamUp.lean ====
abbrev S4x1024x704 : Shape := ⟨3, ![4, 1024, 704]⟩
abbrev S4096x704 : Shape := ⟨2, ![4096, 704]⟩
abbrev S256x704 : Shape := ⟨2, ![256, 704]⟩

abbrev nBuf : Space → Nat
  | .hbm => 11
  | .vmem => 14
  | .smem => 0
  | _ => 0

abbrev bufTy : (tb : Table) → Fin (tcTables nBuf tb) → BufTy
  | .hbm, ⟨0, _⟩ => ⟨S4x1024x704, .f32⟩
  | .hbm, ⟨1, _⟩ => ⟨S4x1024x704, .f32⟩
  | .hbm, ⟨2, _⟩ => ⟨S4x1024x704, .f32⟩
  | .hbm, ⟨3, _⟩ => ⟨S4x1024x704, .f32⟩
  | .hbm, ⟨4, _⟩ => ⟨S4096x704, .f32⟩
  | .hbm, ⟨5, _⟩ => ⟨S4096x704, .f32⟩
  | .hbm, ⟨6, _⟩ => ⟨S4096x704, .f32⟩
  | .hbm, ⟨7, _⟩ => ⟨S4096x704, .f32⟩
  | .hbm, ⟨8, _⟩ => ⟨S4096x704, .f32⟩
  | .hbm, ⟨9, _⟩ => ⟨S4096x704, .f32⟩
  | .hbm, ⟨10, _⟩ => ⟨S4096x704, .f32⟩
  | .local _ .vmem, ⟨0, _⟩ => ⟨S256x704, .f32⟩
  | .local _ .vmem, ⟨1, _⟩ => ⟨S256x704, .f32⟩
  | .local _ .vmem, ⟨2, _⟩ => ⟨S256x704, .f32⟩
  | .local _ .vmem, ⟨3, _⟩ => ⟨S256x704, .f32⟩
  | .local _ .vmem, ⟨4, _⟩ => ⟨S256x704, .f32⟩
  | .local _ .vmem, ⟨5, _⟩ => ⟨S256x704, .f32⟩
  | .local _ .vmem, ⟨6, _⟩ => ⟨S256x704, .f32⟩
  | .local _ .vmem, ⟨7, _⟩ => ⟨S256x704, .f32⟩
  | .local _ .vmem, ⟨8, _⟩ => ⟨S256x704, .f32⟩
  | .local _ .vmem, ⟨9, _⟩ => ⟨S256x704, .f32⟩
  | .local _ .vmem, ⟨10, _⟩ => ⟨S256x704, .f32⟩
  | .local _ .vmem, ⟨11, _⟩ => ⟨S256x704, .f32⟩
  | .local _ .vmem, ⟨12, _⟩ => ⟨S256x704, .f32⟩
  | .local _ .vmem, ⟨13, _⟩ => ⟨S256x704, .f32⟩
  | _, _ => ⟨S4x1024x704, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x704 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x704 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x704 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x704 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x704 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x704 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x704 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamUpIdeal.lean ====
abbrev S4x1024x704 : Shape := ⟨3, ![4, 1024, 704]⟩
abbrev S4096x704 : Shape := ⟨2, ![4096, 704]⟩
abbrev S256x704 : Shape := ⟨2, ![256, 704]⟩

abbrev nBuf : Space → Nat
  | .hbm => 11
  | .vmem => 14
  | .smem => 0
  | _ => 0

abbrev bufTy : (tb : Table) → Fin (tcTables nBuf tb) → BufTy
  | .hbm, ⟨0, _⟩ => ⟨S4x1024x704, .f32⟩
  | .hbm, ⟨1, _⟩ => ⟨S4x1024x704, .f32⟩
  | .hbm, ⟨2, _⟩ => ⟨S4x1024x704, .f32⟩
  | .hbm, ⟨3, _⟩ => ⟨S4x1024x704, .f32⟩
  | .hbm, ⟨4, _⟩ => ⟨S4096x704, .f32⟩
  | .hbm, ⟨5, _⟩ => ⟨S4096x704, .f32⟩
  | .hbm, ⟨6, _⟩ => ⟨S4096x704, .f32⟩
  | .hbm, ⟨7, _⟩ => ⟨S4096x704, .f32⟩
  | .hbm, ⟨8, _⟩ => ⟨S4096x704, .f32⟩
  | .hbm, ⟨9, _⟩ => ⟨S4096x704, .f32⟩
  | .hbm, ⟨10, _⟩ => ⟨S4096x704, .f32⟩
  | .local _ .vmem, ⟨0, _⟩ => ⟨S256x704, .f32⟩
  | .local _ .vmem, ⟨1, _⟩ => ⟨S256x704, .f32⟩
  | .local _ .vmem, ⟨2, _⟩ => ⟨S256x704, .f32⟩
  | .local _ .vmem, ⟨3, _⟩ => ⟨S256x704, .f32⟩
  | .local _ .vmem, ⟨4, _⟩ => ⟨S256x704, .f32⟩
  | .local _ .vmem, ⟨5, _⟩ => ⟨S256x704, .f32⟩
  | .local _ .vmem, ⟨6, _⟩ => ⟨S256x704, .f32⟩
  | .local _ .vmem, ⟨7, _⟩ => ⟨S256x704, .f32⟩
  | .local _ .vmem, ⟨8, _⟩ => ⟨S256x704, .f32⟩
  | .local _ .vmem, ⟨9, _⟩ => ⟨S256x704, .f32⟩
  | .local _ .vmem, ⟨10, _⟩ => ⟨S256x704, .f32⟩
  | .local _ .vmem, ⟨11, _⟩ => ⟨S256x704, .f32⟩
  | .local _ .vmem, ⟨12, _⟩ => ⟨S256x704, .f32⟩
  | .local _ .vmem, ⟨13, _⟩ => ⟨S256x704, .f32⟩
  | _, _ => ⟨S4x1024x704, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F] [Named F]

def κ : String → Option EReal := fun
  | "c1" => some ((8388608 / 5463681 : ℝ) : EReal)
  | "c2" => some ((268435456 / 2672307 : ℝ) : EReal)
  | _ => none

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x704 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x704 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x704 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x704 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x704 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x704 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x704 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamUpRefIdeal.lean ====
abbrev S4x1024x704 : Shape := ⟨3, ![4, 1024, 704]⟩
abbrev S_ : Shape := ⟨0, ![]⟩
abbrev S4096x704 : Shape := ⟨2, ![4096, 704]⟩

abbrev nBuf : Space → Nat
  | .hbm => 40
  | .vmem => 0
  | .smem => 0
  | _ => 0

abbrev bufTy : (tb : Table) → Fin (tcTables nBuf tb) → BufTy
  | .hbm, ⟨0, _⟩ => ⟨S4x1024x704, .f32⟩
  | .hbm, ⟨1, _⟩ => ⟨S4x1024x704, .f32⟩
  | .hbm, ⟨2, _⟩ => ⟨S4x1024x704, .f32⟩
  | .hbm, ⟨3, _⟩ => ⟨S4x1024x704, .f32⟩
  | .hbm, ⟨4, _⟩ => ⟨S_, .f32⟩
  | .hbm, ⟨5, _⟩ => ⟨S4x1024x704, .f32⟩
  | .hbm, ⟨6, _⟩ => ⟨S4x1024x704, .f32⟩
  | .hbm, ⟨7, _⟩ => ⟨S_, .f32⟩
  | .hbm, ⟨8, _⟩ => ⟨S4x1024x704, .f32⟩
  | .hbm, ⟨9, _⟩ => ⟨S4x1024x704, .f32⟩
  | .hbm, ⟨10, _⟩ => ⟨S4x1024x704, .f32⟩
  | .hbm, ⟨11, _⟩ => ⟨S_, .f32⟩
  | .hbm, ⟨12, _⟩ => ⟨S4x1024x704, .f32⟩
  | .hbm, ⟨13, _⟩ => ⟨S4x1024x704, .f32⟩
  | .hbm, ⟨14, _⟩ => ⟨S4x1024x704, .f32⟩
  | .hbm, ⟨15, _⟩ => ⟨S_, .f32⟩
  | .hbm, ⟨16, _⟩ => ⟨S4x1024x704, .f32⟩
  | .hbm, ⟨17, _⟩ => ⟨S4x1024x704, .f32⟩
  | .hbm, ⟨18, _⟩ => ⟨S4x1024x704, .f32⟩
  | .hbm, ⟨19, _⟩ => ⟨S_, .f32⟩
  | .hbm, ⟨20, _⟩ => ⟨S4x1024x704, .f32⟩
  | .hbm, ⟨21, _⟩ => ⟨S4x1024x704, .f32⟩
  | .hbm, ⟨22, _⟩ => ⟨S_, .f32⟩
  | .hbm, ⟨23, _⟩ => ⟨S4x1024x704, .f32⟩
  | .hbm, ⟨24, _⟩ => ⟨S4x1024x704, .f32⟩
  | .hbm, ⟨25, _⟩ => ⟨S4x1024x704, .f32⟩
  | .hbm, ⟨26, _⟩ => ⟨S_, .f32⟩
  | .hbm, ⟨27, _⟩ => ⟨S4x1024x704, .f32⟩
  | .hbm, ⟨28, _⟩ => ⟨S4x1024x704, .f32⟩
  | .hbm, ⟨29, _⟩ => ⟨S4x1024x704, .f32⟩
  | .hbm, ⟨30, _⟩ => ⟨S_, .f32⟩
  | .hbm, ⟨31, _⟩ => ⟨S4x1024x704, .f32⟩
  | .hbm, ⟨32, _⟩ => ⟨S4x1024x704, .f32⟩
  | .hbm, ⟨33, _⟩ => ⟨S4x1024x704, .f32⟩
  | .hbm, ⟨34, _⟩ => ⟨S_, .f32⟩
  | .hbm, ⟨35, _⟩ => ⟨S4x1024x704, .f32⟩
  | .hbm, ⟨36, _⟩ => ⟨S4x1024x704, .f32⟩
  | .hbm, ⟨37, _⟩ => ⟨S4096x704, .f32⟩
  | .hbm, ⟨38, _⟩ => ⟨S4096x704, .f32⟩
  | .hbm, ⟨39, _⟩ => ⟨S4096x704, .f32⟩
  | _, _ => ⟨S4x1024x704, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== AdamConv.lean ====
abbrev S4x3x704 : Shape := ⟨3, ![4, 3, 704]⟩
abbrev S12x704 : Shape := ⟨2, ![12, 704]⟩

abbrev nBuf : Space → Nat
  | .hbm => 11
  | .vmem => 7
  | .smem => 0
  | _ => 0

abbrev bufTy : (tb : Table) → Fin (tcTables nBuf tb) → BufTy
  | .hbm, ⟨0, _⟩ => ⟨S4x3x704, .f32⟩
  | .hbm, ⟨1, _⟩ => ⟨S4x3x704, .f32⟩
  | .hbm, ⟨2, _⟩ => ⟨S4x3x704, .f32⟩
  | .hbm, ⟨3, _⟩ => ⟨S4x3x704, .f32⟩
  | .hbm, ⟨4, _⟩ => ⟨S12x704, .f32⟩
  | .hbm, ⟨5, _⟩ => ⟨S12x704, .f32⟩
  | .hbm, ⟨6, _⟩ => ⟨S12x704, .f32⟩
  | .hbm, ⟨7, _⟩ => ⟨S12x704, .f32⟩
  | .hbm, ⟨8, _⟩ => ⟨S12x704, .f32⟩
  | .hbm, ⟨9, _⟩ => ⟨S12x704, .f32⟩
  | .hbm, ⟨10, _⟩ => ⟨S12x704, .f32⟩
  | .local _ .vmem, ⟨0, _⟩ => ⟨S12x704, .f32⟩
  | .local _ .vmem, ⟨1, _⟩ => ⟨S12x704, .f32⟩
  | .local _ .vmem, ⟨2, _⟩ => ⟨S12x704, .f32⟩
  | .local _ .vmem, ⟨3, _⟩ => ⟨S12x704, .f32⟩
  | .local _ .vmem, ⟨4, _⟩ => ⟨S12x704, .f32⟩
  | .local _ .vmem, ⟨5, _⟩ => ⟨S12x704, .f32⟩
  | .local _ .vmem, ⟨6, _⟩ => ⟨S12x704, .f32⟩
  | _, _ => ⟨S4x3x704, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S12x704 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S12x704 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S12x704 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S12x704 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S12x704 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S12x704 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S12x704 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamConvIdeal.lean ====
abbrev S4x3x704 : Shape := ⟨3, ![4, 3, 704]⟩
abbrev S12x704 : Shape := ⟨2, ![12, 704]⟩

abbrev nBuf : Space → Nat
  | .hbm => 11
  | .vmem => 7
  | .smem => 0
  | _ => 0

abbrev bufTy : (tb : Table) → Fin (tcTables nBuf tb) → BufTy
  | .hbm, ⟨0, _⟩ => ⟨S4x3x704, .f32⟩
  | .hbm, ⟨1, _⟩ => ⟨S4x3x704, .f32⟩
  | .hbm, ⟨2, _⟩ => ⟨S4x3x704, .f32⟩
  | .hbm, ⟨3, _⟩ => ⟨S4x3x704, .f32⟩
  | .hbm, ⟨4, _⟩ => ⟨S12x704, .f32⟩
  | .hbm, ⟨5, _⟩ => ⟨S12x704, .f32⟩
  | .hbm, ⟨6, _⟩ => ⟨S12x704, .f32⟩
  | .hbm, ⟨7, _⟩ => ⟨S12x704, .f32⟩
  | .hbm, ⟨8, _⟩ => ⟨S12x704, .f32⟩
  | .hbm, ⟨9, _⟩ => ⟨S12x704, .f32⟩
  | .hbm, ⟨10, _⟩ => ⟨S12x704, .f32⟩
  | .local _ .vmem, ⟨0, _⟩ => ⟨S12x704, .f32⟩
  | .local _ .vmem, ⟨1, _⟩ => ⟨S12x704, .f32⟩
  | .local _ .vmem, ⟨2, _⟩ => ⟨S12x704, .f32⟩
  | .local _ .vmem, ⟨3, _⟩ => ⟨S12x704, .f32⟩
  | .local _ .vmem, ⟨4, _⟩ => ⟨S12x704, .f32⟩
  | .local _ .vmem, ⟨5, _⟩ => ⟨S12x704, .f32⟩
  | .local _ .vmem, ⟨6, _⟩ => ⟨S12x704, .f32⟩
  | _, _ => ⟨S4x3x704, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F] [Named F]

def κ : String → Option EReal := fun
  | "c1" => some ((8388608 / 5463681 : ℝ) : EReal)
  | "c2" => some ((268435456 / 2672307 : ℝ) : EReal)
  | _ => none

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S12x704 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S12x704 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S12x704 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S12x704 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S12x704 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S12x704 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S12x704 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamConvRefIdeal.lean ====
abbrev S4x3x704 : Shape := ⟨3, ![4, 3, 704]⟩
abbrev S_ : Shape := ⟨0, ![]⟩
abbrev S12x704 : Shape := ⟨2, ![12, 704]⟩

abbrev nBuf : Space → Nat
  | .hbm => 40
  | .vmem => 0
  | .smem => 0
  | _ => 0

abbrev bufTy : (tb : Table) → Fin (tcTables nBuf tb) → BufTy
  | .hbm, ⟨0, _⟩ => ⟨S4x3x704, .f32⟩
  | .hbm, ⟨1, _⟩ => ⟨S4x3x704, .f32⟩
  | .hbm, ⟨2, _⟩ => ⟨S4x3x704, .f32⟩
  | .hbm, ⟨3, _⟩ => ⟨S4x3x704, .f32⟩
  | .hbm, ⟨4, _⟩ => ⟨S_, .f32⟩
  | .hbm, ⟨5, _⟩ => ⟨S4x3x704, .f32⟩
  | .hbm, ⟨6, _⟩ => ⟨S4x3x704, .f32⟩
  | .hbm, ⟨7, _⟩ => ⟨S_, .f32⟩
  | .hbm, ⟨8, _⟩ => ⟨S4x3x704, .f32⟩
  | .hbm, ⟨9, _⟩ => ⟨S4x3x704, .f32⟩
  | .hbm, ⟨10, _⟩ => ⟨S4x3x704, .f32⟩
  | .hbm, ⟨11, _⟩ => ⟨S_, .f32⟩
  | .hbm, ⟨12, _⟩ => ⟨S4x3x704, .f32⟩
  | .hbm, ⟨13, _⟩ => ⟨S4x3x704, .f32⟩
  | .hbm, ⟨14, _⟩ => ⟨S4x3x704, .f32⟩
  | .hbm, ⟨15, _⟩ => ⟨S_, .f32⟩
  | .hbm, ⟨16, _⟩ => ⟨S4x3x704, .f32⟩
  | .hbm, ⟨17, _⟩ => ⟨S4x3x704, .f32⟩
  | .hbm, ⟨18, _⟩ => ⟨S4x3x704, .f32⟩
  | .hbm, ⟨19, _⟩ => ⟨S_, .f32⟩
  | .hbm, ⟨20, _⟩ => ⟨S4x3x704, .f32⟩
  | .hbm, ⟨21, _⟩ => ⟨S4x3x704, .f32⟩
  | .hbm, ⟨22, _⟩ => ⟨S_, .f32⟩
  | .hbm, ⟨23, _⟩ => ⟨S4x3x704, .f32⟩
  | .hbm, ⟨24, _⟩ => ⟨S4x3x704, .f32⟩
  | .hbm, ⟨25, _⟩ => ⟨S4x3x704, .f32⟩
  | .hbm, ⟨26, _⟩ => ⟨S_, .f32⟩
  | .hbm, ⟨27, _⟩ => ⟨S4x3x704, .f32⟩
  | .hbm, ⟨28, _⟩ => ⟨S4x3x704, .f32⟩
  | .hbm, ⟨29, _⟩ => ⟨S4x3x704, .f32⟩
  | .hbm, ⟨30, _⟩ => ⟨S_, .f32⟩
  | .hbm, ⟨31, _⟩ => ⟨S4x3x704, .f32⟩
  | .hbm, ⟨32, _⟩ => ⟨S4x3x704, .f32⟩
  | .hbm, ⟨33, _⟩ => ⟨S4x3x704, .f32⟩
  | .hbm, ⟨34, _⟩ => ⟨S_, .f32⟩
  | .hbm, ⟨35, _⟩ => ⟨S4x3x704, .f32⟩
  | .hbm, ⟨36, _⟩ => ⟨S4x3x704, .f32⟩
  | .hbm, ⟨37, _⟩ => ⟨S12x704, .f32⟩
  | .hbm, ⟨38, _⟩ => ⟨S12x704, .f32⟩
  | .hbm, ⟨39, _⟩ => ⟨S12x704, .f32⟩
  | _, _ => ⟨S4x3x704, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== AdamConvBias.lean ====
abbrev S4x2816 : Shape := ⟨2, ![4, 2816]⟩

abbrev nBuf : Space → Nat
  | .hbm => 7
  | .vmem => 7
  | .smem => 0
  | _ => 0

abbrev bufTy : (tb : Table) → Fin (tcTables nBuf tb) → BufTy
  | .hbm, ⟨0, _⟩ => ⟨S4x2816, .f32⟩
  | .hbm, ⟨1, _⟩ => ⟨S4x2816, .f32⟩
  | .hbm, ⟨2, _⟩ => ⟨S4x2816, .f32⟩
  | .hbm, ⟨3, _⟩ => ⟨S4x2816, .f32⟩
  | .hbm, ⟨4, _⟩ => ⟨S4x2816, .f32⟩
  | .hbm, ⟨5, _⟩ => ⟨S4x2816, .f32⟩
  | .hbm, ⟨6, _⟩ => ⟨S4x2816, .f32⟩
  | .local _ .vmem, ⟨0, _⟩ => ⟨S4x2816, .f32⟩
  | .local _ .vmem, ⟨1, _⟩ => ⟨S4x2816, .f32⟩
  | .local _ .vmem, ⟨2, _⟩ => ⟨S4x2816, .f32⟩
  | .local _ .vmem, ⟨3, _⟩ => ⟨S4x2816, .f32⟩
  | .local _ .vmem, ⟨4, _⟩ => ⟨S4x2816, .f32⟩
  | .local _ .vmem, ⟨5, _⟩ => ⟨S4x2816, .f32⟩
  | .local _ .vmem, ⟨6, _⟩ => ⟨S4x2816, .f32⟩
  | _, _ => ⟨S4x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x2816 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x2816 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S4x2816 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S4x2816 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S4x2816 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S4x2816 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S4x2816 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamConvBiasIdeal.lean ====
abbrev S4x2816 : Shape := ⟨2, ![4, 2816]⟩

abbrev nBuf : Space → Nat
  | .hbm => 7
  | .vmem => 7
  | .smem => 0
  | _ => 0

abbrev bufTy : (tb : Table) → Fin (tcTables nBuf tb) → BufTy
  | .hbm, ⟨0, _⟩ => ⟨S4x2816, .f32⟩
  | .hbm, ⟨1, _⟩ => ⟨S4x2816, .f32⟩
  | .hbm, ⟨2, _⟩ => ⟨S4x2816, .f32⟩
  | .hbm, ⟨3, _⟩ => ⟨S4x2816, .f32⟩
  | .hbm, ⟨4, _⟩ => ⟨S4x2816, .f32⟩
  | .hbm, ⟨5, _⟩ => ⟨S4x2816, .f32⟩
  | .hbm, ⟨6, _⟩ => ⟨S4x2816, .f32⟩
  | .local _ .vmem, ⟨0, _⟩ => ⟨S4x2816, .f32⟩
  | .local _ .vmem, ⟨1, _⟩ => ⟨S4x2816, .f32⟩
  | .local _ .vmem, ⟨2, _⟩ => ⟨S4x2816, .f32⟩
  | .local _ .vmem, ⟨3, _⟩ => ⟨S4x2816, .f32⟩
  | .local _ .vmem, ⟨4, _⟩ => ⟨S4x2816, .f32⟩
  | .local _ .vmem, ⟨5, _⟩ => ⟨S4x2816, .f32⟩
  | .local _ .vmem, ⟨6, _⟩ => ⟨S4x2816, .f32⟩
  | _, _ => ⟨S4x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F] [Named F]

def κ : String → Option EReal := fun
  | "c1" => some ((8388608 / 5463681 : ℝ) : EReal)
  | "c2" => some ((268435456 / 2672307 : ℝ) : EReal)
  | _ => none

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x2816 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x2816 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S4x2816 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S4x2816 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S4x2816 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S4x2816 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S4x2816 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamConvBiasRefIdeal.lean ====
abbrev S4x2816 : Shape := ⟨2, ![4, 2816]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4x2816, .f32⟩
  | .hbm, ⟨1, _⟩ => ⟨S4x2816, .f32⟩
  | .hbm, ⟨2, _⟩ => ⟨S4x2816, .f32⟩
  | .hbm, ⟨3, _⟩ => ⟨S4x2816, .f32⟩
  | .hbm, ⟨4, _⟩ => ⟨S_, .f32⟩
  | .hbm, ⟨5, _⟩ => ⟨S4x2816, .f32⟩
  | .hbm, ⟨6, _⟩ => ⟨S4x2816, .f32⟩
  | .hbm, ⟨7, _⟩ => ⟨S_, .f32⟩
  | .hbm, ⟨8, _⟩ => ⟨S4x2816, .f32⟩
  | .hbm, ⟨9, _⟩ => ⟨S4x2816, .f32⟩
  | .hbm, ⟨10, _⟩ => ⟨S4x2816, .f32⟩
  | .hbm, ⟨11, _⟩ => ⟨S_, .f32⟩
  | .hbm, ⟨12, _⟩ => ⟨S4x2816, .f32⟩
  | .hbm, ⟨13, _⟩ => ⟨S4x2816, .f32⟩
  | .hbm, ⟨14, _⟩ => ⟨S4x2816, .f32⟩
  | .hbm, ⟨15, _⟩ => ⟨S_, .f32⟩
  | .hbm, ⟨16, _⟩ => ⟨S4x2816, .f32⟩
  | .hbm, ⟨17, _⟩ => ⟨S4x2816, .f32⟩
  | .hbm, ⟨18, _⟩ => ⟨S4x2816, .f32⟩
  | .hbm, ⟨19, _⟩ => ⟨S_, .f32⟩
  | .hbm, ⟨20, _⟩ => ⟨S4x2816, .f32⟩
  | .hbm, ⟨21, _⟩ => ⟨S4x2816, .f32⟩
  | .hbm, ⟨22, _⟩ => ⟨S_, .f32⟩
  | .hbm, ⟨23, _⟩ => ⟨S4x2816, .f32⟩
  | .hbm, ⟨24, _⟩ => ⟨S4x2816, .f32⟩
  | .hbm, ⟨25, _⟩ => ⟨S4x2816, .f32⟩
  | .hbm, ⟨26, _⟩ => ⟨S_, .f32⟩
  | .hbm, ⟨27, _⟩ => ⟨S4x2816, .f32⟩
  | .hbm, ⟨28, _⟩ => ⟨S4x2816, .f32⟩
  | .hbm, ⟨29, _⟩ => ⟨S4x2816, .f32⟩
  | .hbm, ⟨30, _⟩ => ⟨S_, .f32⟩
  | .hbm, ⟨31, _⟩ => ⟨S4x2816, .f32⟩
  | .hbm, ⟨32, _⟩ => ⟨S4x2816, .f32⟩
  | .hbm, ⟨33, _⟩ => ⟨S4x2816, .f32⟩
  | .hbm, ⟨34, _⟩ => ⟨S_, .f32⟩
  | .hbm, ⟨35, _⟩ => ⟨S4x2816, .f32⟩
  | .hbm, ⟨36, _⟩ => ⟨S4x2816, .f32⟩
  | _, _ => ⟨S4x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamDown.lean ====
abbrev S4x704x1024 : Shape := ⟨3, ![4, 704, 1024]⟩
abbrev S2816x1024 : Shape := ⟨2, ![2816, 1024]⟩
abbrev S256x1024 : Shape := ⟨2, ![256, 1024]⟩

abbrev nBuf : Space → Nat
  | .hbm => 11
  | .vmem => 14
  | .smem => 0
  | _ => 0

abbrev bufTy : (tb : Table) → Fin (tcTables nBuf tb) → BufTy
  | .hbm, ⟨0, _⟩ => ⟨S4x704x1024, .f32⟩
  | .hbm, ⟨1, _⟩ => ⟨S4x704x1024, .f32⟩
  | .hbm, ⟨2, _⟩ => ⟨S4x704x1024, .f32⟩
  | .hbm, ⟨3, _⟩ => ⟨S4x704x1024, .f32⟩
  | .hbm, ⟨4, _⟩ => ⟨S2816x1024, .f32⟩
  | .hbm, ⟨5, _⟩ => ⟨S2816x1024, .f32⟩
  | .hbm, ⟨6, _⟩ => ⟨S2816x1024, .f32⟩
  | .hbm, ⟨7, _⟩ => ⟨S2816x1024, .f32⟩
  | .hbm, ⟨8, _⟩ => ⟨S2816x1024, .f32⟩
  | .hbm, ⟨9, _⟩ => ⟨S2816x1024, .f32⟩
  | .hbm, ⟨10, _⟩ => ⟨S2816x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | _, _ => ⟨S4x704x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamDownIdeal.lean ====
variable {F : FTy → Type} [FloatOps F] [Named F]
def κ : String → Option EReal := fun
  | "c1" => some ((8388608 / 5463681 : ℝ) : EReal)
  | "c2" => some ((268435456 / 2672307 : ℝ) : EReal)
  | _ => none
-- ==== AdamDownRefIdeal.lean ====
abbrev S4x704x1024 : Shape := ⟨3, ![4, 704, 1024]⟩
abbrev S_ : Shape := ⟨0, ![]⟩
abbrev S2816x1024 : Shape := ⟨2, ![2816, 1024]⟩

abbrev nBuf : Space → Nat
  | .hbm => 40
  | .vmem => 0
  | .smem => 0
  | _ => 0

abbrev bufTy : (tb : Table) → Fin (tcTables nBuf tb) → BufTy
  | .hbm, ⟨0, _⟩ => ⟨S4x704x1024, .f32⟩
  | .hbm, ⟨1, _⟩ => ⟨S4x704x1024, .f32⟩
  | .hbm, ⟨2, _⟩ => ⟨S4x704x1024, .f32⟩
  | .hbm, ⟨3, _⟩ => ⟨S4x704x1024, .f32⟩
  | .hbm, ⟨4, _⟩ => ⟨S_, .f32⟩
  | .hbm, ⟨5, _⟩ => ⟨S4x704x1024, .f32⟩
  | .hbm, ⟨6, _⟩ => ⟨S4x704x1024, .f32⟩
  | .hbm, ⟨7, _⟩ => ⟨S_, .f32⟩
  | .hbm, ⟨8, _⟩ => ⟨S4x704x1024, .f32⟩
  | .hbm, ⟨9, _⟩ => ⟨S4x704x1024, .f32⟩
  | .hbm, ⟨10, _⟩ => ⟨S4x704x1024, .f32⟩
  | .hbm, ⟨11, _⟩ => ⟨S_, .f32⟩
  | .hbm, ⟨12, _⟩ => ⟨S4x704x1024, .f32⟩
  | .hbm, ⟨13, _⟩ => ⟨S4x704x1024, .f32⟩
  | .hbm, ⟨14, _⟩ => ⟨S4x704x1024, .f32⟩
  | .hbm, ⟨15, _⟩ => ⟨S_, .f32⟩
  | .hbm, ⟨16, _⟩ => ⟨S4x704x1024, .f32⟩
  | .hbm, ⟨17, _⟩ => ⟨S4x704x1024, .f32⟩
  | .hbm, ⟨18, _⟩ => ⟨S4x704x1024, .f32⟩
  | .hbm, ⟨19, _⟩ => ⟨S_, .f32⟩
  | .hbm, ⟨20, _⟩ => ⟨S4x704x1024, .f32⟩
  | .hbm, ⟨21, _⟩ => ⟨S4x704x1024, .f32⟩
  | .hbm, ⟨22, _⟩ => ⟨S_, .f32⟩
  | .hbm, ⟨23, _⟩ => ⟨S4x704x1024, .f32⟩
  | .hbm, ⟨24, _⟩ => ⟨S4x704x1024, .f32⟩
  | .hbm, ⟨25, _⟩ => ⟨S4x704x1024, .f32⟩
  | .hbm, ⟨26, _⟩ => ⟨S_, .f32⟩
  | .hbm, ⟨27, _⟩ => ⟨S4x704x1024, .f32⟩
  | .hbm, ⟨28, _⟩ => ⟨S4x704x1024, .f32⟩
  | .hbm, ⟨29, _⟩ => ⟨S4x704x1024, .f32⟩
  | .hbm, ⟨30, _⟩ => ⟨S_, .f32⟩
  | .hbm, ⟨31, _⟩ => ⟨S4x704x1024, .f32⟩
  | .hbm, ⟨32, _⟩ => ⟨S4x704x1024, .f32⟩
  | .hbm, ⟨33, _⟩ => ⟨S4x704x1024, .f32⟩
  | .hbm, ⟨34, _⟩ => ⟨S_, .f32⟩
  | .hbm, ⟨35, _⟩ => ⟨S4x704x1024, .f32⟩
  | .hbm, ⟨36, _⟩ => ⟨S4x704x1024, .f32⟩
  | .hbm, ⟨37, _⟩ => ⟨S2816x1024, .f32⟩
  | .hbm, ⟨38, _⟩ => ⟨S2816x1024, .f32⟩
  | .hbm, ⟨39, _⟩ => ⟨S2816x1024, .f32⟩
  | _, _ => ⟨S4x704x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== ModDw.lean ====
abbrev S8x1024 : Shape := ⟨2, ![8, 1024]⟩
abbrev S8x6144 : Shape := ⟨2, ![8, 6144]⟩
abbrev S_ : Shape := ⟨0, ![]⟩
abbrev S128x1024 : Shape := ⟨2, ![128, 1024]⟩
abbrev S128x6144 : Shape := ⟨2, ![128, 6144]⟩
abbrev S1024x6144 : Shape := ⟨2, ![1024, 6144]⟩
abbrev S128x1536 : Shape := ⟨2, ![128, 1536]⟩
abbrev S1024x1536 : Shape := ⟨2, ![1024, 1536]⟩

abbrev nBuf : Space → Nat
  | .hbm => 9
  | .vmem => 5
  | .smem => 0
  | _ => 0

abbrev bufTy : (tb : Table) → Fin (tcTables nBuf tb) → BufTy
  | .hbm, ⟨0, _⟩ => ⟨S8x1024, .f32⟩
  | .hbm, ⟨1, _⟩ => ⟨S8x6144, .f32⟩
  | .hbm, ⟨2, _⟩ => ⟨S_, .i32⟩
  | .hbm, ⟨3, _⟩ => ⟨S_, .f32⟩
  | .hbm, ⟨4, _⟩ => ⟨S128x1024, .f32⟩
  | .hbm, ⟨5, _⟩ => ⟨S_, .i32⟩
  | .hbm, ⟨6, _⟩ => ⟨S_, .f32⟩
  | .hbm, ⟨7, _⟩ => ⟨S128x6144, .f32⟩
  | .hbm, ⟨8, _⟩ => ⟨S1024x6144, .f32⟩
  | .local _ .vmem, ⟨0, _⟩ => ⟨S128x1024, .f32⟩
  | .local _ .vmem, ⟨1, _⟩ => ⟨S128x1536, .f32⟩
  | .local _ .vmem, ⟨2, _⟩ => ⟨S128x1536, .f32⟩
  | .local _ .vmem, ⟨3, _⟩ => ⟨S1024x1536, .f32⟩
  | .local _ .vmem, ⟨4, _⟩ => ⟨S1024x1536, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_c_0 : Ref sig .tc := ⟨.hbm, 5, rfl⟩
abbrev main_call1_v0 : Ref sig .tc := ⟨.hbm, 6, rfl⟩
abbrev main_v1 : Ref sig .tc := ⟨.hbm, 7, rfl⟩
abbrev main_v2 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true, true]

abbrev stage0_1 : Fin 2 → Memref sig .tc .vmem S128x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ModDwRefIdeal.lean ====
abbrev S8x1024 : Shape := ⟨2, ![8, 1024]⟩
abbrev S8x6144 : Shape := ⟨2, ![8, 6144]⟩
abbrev S_ : Shape := ⟨0, ![]⟩
abbrev S1024x6144 : Shape := ⟨2, ![1024, 6144]⟩
abbrev S6144x1024 : Shape := ⟨2, ![6144, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S8x6144, .f32⟩
  | .hbm, ⟨2, _⟩ => ⟨S_, .f32⟩
  | .hbm, ⟨3, _⟩ => ⟨S1024x6144, .f32⟩
  | .hbm, ⟨4, _⟩ => ⟨S8x6144, .f32⟩
  | .hbm, ⟨5, _⟩ => ⟨S6144x1024, .f32⟩
  | .hbm, ⟨6, _⟩ => ⟨S1024x6144, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== SumQkv.lean ====
abbrev S8x1024x768 : Shape := ⟨3, ![8, 1024, 768]⟩
abbrev S1024x768 : Shape := ⟨2, ![1024, 768]⟩
abbrev S8x256x768 : Shape := ⟨3, ![8, 256, 768]⟩
abbrev S256x768 : Shape := ⟨2, ![256, 768]⟩
abbrev S1x256x768 : Shape := ⟨3, ![1, 256, 768]⟩

abbrev nBuf : Space → Nat
  | .hbm => 2
  | .vmem => 4
  | .smem => 0
  | _ => 0

abbrev bufTy : (tb : Table) → Fin (tcTables nBuf tb) → BufTy
  | .hbm, ⟨0, _⟩ => ⟨S8x1024x768, .bf16⟩
  | .hbm, ⟨1, _⟩ => ⟨S1024x768, .f32⟩
  | .local _ .vmem, ⟨0, _⟩ => ⟨S8x256x768, .bf16⟩
  | .local _ .vmem, ⟨1, _⟩ => ⟨S8x256x768, .bf16⟩
  | .local _ .vmem, ⟨2, _⟩ => ⟨S256x768, .f32⟩
  | .local _ .vmem, ⟨3, _⟩ => ⟨S256x768, .f32⟩
  | _, _ => ⟨S8x1024x768, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x256x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== SumQkvIdeal.lean ====
abbrev S8x1024x768 : Shape := ⟨3, ![8, 1024, 768]⟩
abbrev S1024x768 : Shape := ⟨2, ![1024, 768]⟩
abbrev S8x256x768 : Shape := ⟨3, ![8, 256, 768]⟩
abbrev S256x768 : Shape := ⟨2, ![256, 768]⟩
abbrev S1x256x768 : Shape := ⟨3, ![1, 256, 768]⟩

abbrev nBuf : Space → Nat
  | .hbm => 2
  | .vmem => 4
  | .smem => 0
  | _ => 0

abbrev bufTy : (tb : Table) → Fin (tcTables nBuf tb) → BufTy
  | .hbm, ⟨0, _⟩ => ⟨S8x1024x768, .bf16⟩
  | .hbm, ⟨1, _⟩ => ⟨S1024x768, .f32⟩
  | .local _ .vmem, ⟨0, _⟩ => ⟨S8x256x768, .bf16⟩
  | .local _ .vmem, ⟨1, _⟩ => ⟨S8x256x768, .bf16⟩
  | .local _ .vmem, ⟨2, _⟩ => ⟨S256x768, .f32⟩
  | .local _ .vmem, ⟨3, _⟩ => ⟨S256x768, .f32⟩
  | _, _ => ⟨S8x1024x768, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x256x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== SumQkvRefIdeal.lean ====
abbrev S8x1024x768 : Shape := ⟨3, ![8, 1024, 768]⟩
abbrev S_ : Shape := ⟨0, ![]⟩
abbrev S1024x768 : Shape := ⟨2, ![1024, 768]⟩

abbrev nBuf : Space → Nat
  | .hbm => 4
  | .vmem => 0
  | .smem => 0
  | _ => 0

abbrev bufTy : (tb : Table) → Fin (tcTables nBuf tb) → BufTy
  | .hbm, ⟨0, _⟩ => ⟨S8x1024x768, .bf16⟩
  | .hbm, ⟨1, _⟩ => ⟨S8x1024x768, .f32⟩
  | .hbm, ⟨2, _⟩ => ⟨S_, .f32⟩
  | .hbm, ⟨3, _⟩ => ⟨S1024x768, .f32⟩
  | _, _ => ⟨S8x1024x768, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== SumO.lean ====
abbrev S8x256x1024 : Shape := ⟨3, ![8, 256, 1024]⟩
abbrev S256x1024 : Shape := ⟨2, ![256, 1024]⟩
abbrev S1x256x1024 : Shape := ⟨3, ![1, 256, 1024]⟩

abbrev nBuf : Space → Nat
  | .hbm => 2
  | .vmem => 2
  | .smem => 0
  | _ => 0

abbrev bufTy : (tb : Table) → Fin (tcTables nBuf tb) → BufTy
  | .hbm, ⟨0, _⟩ => ⟨S8x256x1024, .bf16⟩
  | .hbm, ⟨1, _⟩ => ⟨S256x1024, .f32⟩
  | .local _ .vmem, ⟨0, _⟩ => ⟨S8x256x1024, .bf16⟩
  | .local _ .vmem, ⟨1, _⟩ => ⟨S256x1024, .f32⟩
  | _, _ => ⟨S8x256x1024, .bf16⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x256x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]
-- ==== SumOIdeal.lean ====
abbrev S8x256x1024 : Shape := ⟨3, ![8, 256, 1024]⟩
abbrev S256x1024 : Shape := ⟨2, ![256, 1024]⟩
abbrev S1x256x1024 : Shape := ⟨3, ![1, 256, 1024]⟩

abbrev nBuf : Space → Nat
  | .hbm => 2
  | .vmem => 2
  | .smem => 0
  | _ => 0

abbrev bufTy : (tb : Table) → Fin (tcTables nBuf tb) → BufTy
  | .hbm, ⟨0, _⟩ => ⟨S8x256x1024, .bf16⟩
  | .hbm, ⟨1, _⟩ => ⟨S256x1024, .f32⟩
  | .local _ .vmem, ⟨0, _⟩ => ⟨S8x256x1024, .bf16⟩
  | .local _ .vmem, ⟨1, _⟩ => ⟨S256x1024, .f32⟩
  | _, _ => ⟨S8x256x1024, .bf16⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x256x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]
-- ==== SumORefIdeal.lean ====
abbrev S8x256x1024 : Shape := ⟨3, ![8, 256, 1024]⟩
abbrev S_ : Shape := ⟨0, ![]⟩
abbrev S256x1024 : Shape := ⟨2, ![256, 1024]⟩

abbrev nBuf : Space → Nat
  | .hbm => 4
  | .vmem => 0
  | .smem => 0
  | _ => 0

abbrev bufTy : (tb : Table) → Fin (tcTables nBuf tb) → BufTy
  | .hbm, ⟨0, _⟩ => ⟨S8x256x1024, .bf16⟩
  | .hbm, ⟨1, _⟩ => ⟨S8x256x1024, .f32⟩
  | .hbm, ⟨2, _⟩ => ⟨S_, .f32⟩
  | .hbm, ⟨3, _⟩ => ⟨S256x1024, .f32⟩
  | _, _ => ⟨S8x256x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== SumUp.lean ====
abbrev S8x1024x704 : Shape := ⟨3, ![8, 1024, 704]⟩
abbrev S1024x704 : Shape := ⟨2, ![1024, 704]⟩
abbrev S8x256x704 : Shape := ⟨3, ![8, 256, 704]⟩
abbrev S256x704 : Shape := ⟨2, ![256, 704]⟩
abbrev S1x256x704 : Shape := ⟨3, ![1, 256, 704]⟩

abbrev nBuf : Space → Nat
  | .hbm => 2
  | .vmem => 4
  | .smem => 0
  | _ => 0

abbrev bufTy : (tb : Table) → Fin (tcTables nBuf tb) → BufTy
  | .hbm, ⟨0, _⟩ => ⟨S8x1024x704, .bf16⟩
  | .hbm, ⟨1, _⟩ => ⟨S1024x704, .f32⟩
  | .local _ .vmem, ⟨0, _⟩ => ⟨S8x256x704, .bf16⟩
  | .local _ .vmem, ⟨1, _⟩ => ⟨S8x256x704, .bf16⟩
  | .local _ .vmem, ⟨2, _⟩ => ⟨S256x704, .f32⟩
  | .local _ .vmem, ⟨3, _⟩ => ⟨S256x704, .f32⟩
  | _, _ => ⟨S8x1024x704, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x256x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x704 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== SumUpIdeal.lean ====
abbrev S8x1024x704 : Shape := ⟨3, ![8, 1024, 704]⟩
abbrev S1024x704 : Shape := ⟨2, ![1024, 704]⟩
abbrev S8x256x704 : Shape := ⟨3, ![8, 256, 704]⟩
abbrev S256x704 : Shape := ⟨2, ![256, 704]⟩
abbrev S1x256x704 : Shape := ⟨3, ![1, 256, 704]⟩

abbrev nBuf : Space → Nat
  | .hbm => 2
  | .vmem => 4
  | .smem => 0
  | _ => 0

abbrev bufTy : (tb : Table) → Fin (tcTables nBuf tb) → BufTy
  | .hbm, ⟨0, _⟩ => ⟨S8x1024x704, .bf16⟩
  | .hbm, ⟨1, _⟩ => ⟨S1024x704, .f32⟩
  | .local _ .vmem, ⟨0, _⟩ => ⟨S8x256x704, .bf16⟩
  | .local _ .vmem, ⟨1, _⟩ => ⟨S8x256x704, .bf16⟩
  | .local _ .vmem, ⟨2, _⟩ => ⟨S256x704, .f32⟩
  | .local _ .vmem, ⟨3, _⟩ => ⟨S256x704, .f32⟩
  | _, _ => ⟨S8x1024x704, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x256x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x704 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== SumUpRefIdeal.lean ====
abbrev S8x1024x704 : Shape := ⟨3, ![8, 1024, 704]⟩
abbrev S_ : Shape := ⟨0, ![]⟩
abbrev S1024x704 : Shape := ⟨2, ![1024, 704]⟩

abbrev nBuf : Space → Nat
  | .hbm => 4
  | .vmem => 0
  | .smem => 0
  | _ => 0

abbrev bufTy : (tb : Table) → Fin (tcTables nBuf tb) → BufTy
  | .hbm, ⟨0, _⟩ => ⟨S8x1024x704, .bf16⟩
  | .hbm, ⟨1, _⟩ => ⟨S8x1024x704, .f32⟩
  | .hbm, ⟨2, _⟩ => ⟨S_, .f32⟩
  | .hbm, ⟨3, _⟩ => ⟨S1024x704, .f32⟩
  | _, _ => ⟨S8x1024x704, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== SumDown.lean ====
abbrev S8x704x1024 : Shape := ⟨3, ![8, 704, 1024]⟩
abbrev S704x1024 : Shape := ⟨2, ![704, 1024]⟩
abbrev S8x64x1024 : Shape := ⟨3, ![8, 64, 1024]⟩
abbrev S64x1024 : Shape := ⟨2, ![64, 1024]⟩
abbrev S1x64x1024 : Shape := ⟨3, ![1, 64, 1024]⟩

abbrev nBuf : Space → Nat
  | .hbm => 2
  | .vmem => 4
  | .smem => 0
  | _ => 0

abbrev bufTy : (tb : Table) → Fin (tcTables nBuf tb) → BufTy
  | .hbm, ⟨0, _⟩ => ⟨S8x704x1024, .bf16⟩
  | .hbm, ⟨1, _⟩ => ⟨S704x1024, .f32⟩
  | .local _ .vmem, ⟨0, _⟩ => ⟨S8x64x1024, .bf16⟩
  | .local _ .vmem, ⟨1, _⟩ => ⟨S8x64x1024, .bf16⟩
  | .local _ .vmem, ⟨2, _⟩ => ⟨S64x1024, .f32⟩
  | .local _ .vmem, ⟨3, _⟩ => ⟨S64x1024, .f32⟩
  | _, _ => ⟨S8x704x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![11], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x64x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== SumDownIdeal.lean ====
abbrev S8x704x1024 : Shape := ⟨3, ![8, 704, 1024]⟩
abbrev S704x1024 : Shape := ⟨2, ![704, 1024]⟩
abbrev S8x64x1024 : Shape := ⟨3, ![8, 64, 1024]⟩
abbrev S64x1024 : Shape := ⟨2, ![64, 1024]⟩
abbrev S1x64x1024 : Shape := ⟨3, ![1, 64, 1024]⟩

abbrev nBuf : Space → Nat
  | .hbm => 2
  | .vmem => 4
  | .smem => 0
  | _ => 0

abbrev bufTy : (tb : Table) → Fin (tcTables nBuf tb) → BufTy
  | .hbm, ⟨0, _⟩ => ⟨S8x704x1024, .bf16⟩
  | .hbm, ⟨1, _⟩ => ⟨S704x1024, .f32⟩
  | .local _ .vmem, ⟨0, _⟩ => ⟨S8x64x1024, .bf16⟩
  | .local _ .vmem, ⟨1, _⟩ => ⟨S8x64x1024, .bf16⟩
  | .local _ .vmem, ⟨2, _⟩ => ⟨S64x1024, .f32⟩
  | .local _ .vmem, ⟨3, _⟩ => ⟨S64x1024, .f32⟩
  | _, _ => ⟨S8x704x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![11], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x64x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== SumDownRefIdeal.lean ====
abbrev S8x704x1024 : Shape := ⟨3, ![8, 704, 1024]⟩
abbrev S_ : Shape := ⟨0, ![]⟩
abbrev S704x1024 : Shape := ⟨2, ![704, 1024]⟩

abbrev nBuf : Space → Nat
  | .hbm => 4
  | .vmem => 0
  | .smem => 0
  | _ => 0

abbrev bufTy : (tb : Table) → Fin (tcTables nBuf tb) → BufTy
  | .hbm, ⟨0, _⟩ => ⟨S8x704x1024, .bf16⟩
  | .hbm, ⟨1, _⟩ => ⟨S8x704x1024, .f32⟩
  | .hbm, ⟨2, _⟩ => ⟨S_, .f32⟩
  | .hbm, ⟨3, _⟩ => ⟨S704x1024, .f32⟩
  | _, _ => ⟨S8x704x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== SumSmall.lean ====
abbrev S8x936x128 : Shape := ⟨3, ![8, 936, 128]⟩
abbrev S936x128 : Shape := ⟨2, ![936, 128]⟩
abbrev S8x8x128 : Shape := ⟨3, ![8, 8, 128]⟩
abbrev S8x128 : Shape := ⟨2, ![8, 128]⟩
abbrev S1x8x128 : Shape := ⟨3, ![1, 8, 128]⟩

abbrev nBuf : Space → Nat
  | .hbm => 2
  | .vmem => 4
  | .smem => 0
  | _ => 0

abbrev bufTy : (tb : Table) → Fin (tcTables nBuf tb) → BufTy
  | .hbm, ⟨0, _⟩ => ⟨S8x936x128, .f32⟩
  | .hbm, ⟨1, _⟩ => ⟨S936x128, .f32⟩
  | .local _ .vmem, ⟨0, _⟩ => ⟨S8x8x128, .f32⟩
  | .local _ .vmem, ⟨1, _⟩ => ⟨S8x8x128, .f32⟩
  | .local _ .vmem, ⟨2, _⟩ => ⟨S8x128, .f32⟩
  | .local _ .vmem, ⟨3, _⟩ => ⟨S8x128, .f32⟩
  | _, _ => ⟨S8x936x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![117], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x8x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== SumSmallRefIdeal.lean ====
abbrev S8x936x128 : Shape := ⟨3, ![8, 936, 128]⟩
abbrev S_ : Shape := ⟨0, ![]⟩
abbrev S936x128 : Shape := ⟨2, ![936, 128]⟩

abbrev nBuf : Space → Nat
  | .hbm => 3
  | .vmem => 0
  | .smem => 0
  | _ => 0

abbrev bufTy : (tb : Table) → Fin (tcTables nBuf tb) → BufTy
  | .hbm, ⟨0, _⟩ => ⟨S8x936x128, .f32⟩
  | .hbm, ⟨1, _⟩ => ⟨S_, .f32⟩
  | .hbm, ⟨2, _⟩ => ⟨S936x128, .f32⟩
  | _, _ => ⟨S8x936x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Proof.Frames.lean ====
/- The three frames. Kernel and its ideal reading are the same program text, so one run — that of the ideal
   reading, which holds at any reading of the floats — serves both. The reference is host operations only: it uses no
   semaphore, so its counters are zero because there are none. -/
module

public import proofs.«01_k».proof.Defs
public import proofs.«01_k».proof.Proof.Gen.Kernel
public import proofs.«01_k».proof.Proof.Gen.KernelIdeal
public import proofs.«01_k».proof.Proof.Gen.KernelIdeal.Frame
public import proofs.«01_k».proof.Proof.Gen.ReferenceIdeal
public import proofs.«01_k».proof.Proof.Gen.ReferenceIdeal.Run

@[expose] public section

noncomputable section

namespace Cert.Proof

open Idealize.ShloMosaic Idealize.SL.Sem

set_option maxHeartbeats 4000000 in
/-- The kernel bodies of the two programs are one text. -/
theorem bodies_eq [Cert.Kernel.Facts] [Cert.KernelIdeal.Facts] : Cert.Kernel.defs₀ (F := Bits) = Cert.KernelIdeal.defs₀ (F := Bits) := by
  funext pr l a
  cases pr with
  | tc =>
    obtain ⟨n, hn⟩ := l
    obtain rfl : n = 0 := by have := hn; change n < 1 at this; omega
    obtain ⟨t, s⟩ := a
    have h : @Cert.Kernel.cc0_fox_bwd Bits _ _ = @Cert.KernelIdeal.cc0_fox_bwd Bits _ _ := rfl
    show Cert.Kernel.cc0_fox_bwd (F := Bits) _ _ _ _ _ _ _ _ _ _ _ _ _ _ _ _ _ _ _ _ _ _ _ _ _ _ _ _ _ _ _ = _
    rw [h]
    rfl
  | scScalar _ => rfl
  | scVector _ _ => rfl

set_option maxHeartbeats 4000000 in
/-- The body tables of the two programs — the kernel's body, and the launch around it — are one table. -/
theorem tables_eq [Cert.Kernel.Facts] [Cert.KernelIdeal.Facts] : Cert.Kernel.defs (F := Bits) = Cert.KernelIdeal.defs (F := Bits) := by
  funext pr l a
  cases pr with
  | tc =>
    cases l with
    | inl l =>
      show Pipeline.liftProg (Cert.Kernel.defs₀ (F := Bits) .tc l a) = Pipeline.liftProg (Cert.KernelIdeal.defs₀ (F := Bits) .tc l a)
      congr 1
      exact congrFun (congrFun (congrFun bodies_eq .tc) l) a
    | inr l => cases l <;> rfl
  | scScalar _ => rcases l with _ | (_ | _) <;> rfl
  | scVector _ _ => rcases l with _ | (_ | _) <;> rfl

set_option maxHeartbeats 4000000 in
/-- The runs of the two programs are one. -/
theorem runs_eq [Cert.Kernel.Facts] [Cert.KernelIdeal.Facts] (m : (ℓ : Loc Cert.Kernel.nD Cert.Kernel.τ Cert.Kernel.sig) → Buf (Elt Bits) ℓ) (ρ : Dev Cert.Kernel.nD → PrngReg) :
    θ_run (Cert.Kernel.defs (F := Bits)) (onTc (τ := Cert.Kernel.τ) (Cert.Kernel.main (F := Bits))) ⟨m, fun _ => 0, ρ⟩
      = θ_run (Cert.KernelIdeal.defs (F := Bits)) (onTc (τ := Cert.KernelIdeal.τ) (Cert.KernelIdeal.main (F := Bits))) ⟨m, fun _ => 0, ρ⟩ := by
  congr 1
  exact tables_eq

/-- The kernel at machine floats: the run of the ideal reading's text, read at machine floats. -/
theorem frame_kernel : Cert.quiescent_Kernel := fun m ρ _ => by
  rw [runs_eq]
  exact Cert.KernelIdeal.Gen.frame (F := Bits) m ρ

/-- The kernel at extended reals. -/
theorem frame_kernel_ideal : Cert.quiescent_KernelIdeal := fun m ρ _ => Cert.KernelIdeal.Gen.frame m ρ

/-- The reference at extended reals: its run leaves the arguments alone, and it has no counter to leave non-zero. -/
theorem frame_reference_ideal : Cert.quiescent_ReferenceIdeal := fun m ρ _ =>
  (θ_run Cert.ReferenceIdeal.defs _ _).mono (fun r h => ⟨fun c => (h c).2.2.2.2.2, sem_eq_zero_of_no_sems (by decide) r.2⟩)
    (Cert.ReferenceIdeal.Value.run (F := Ideal) m ρ)

end Cert.Proof

end
-- ==== Proof.Softmax.lean ====
/-
  The mathematics of one head of the forgetting attention on real-valued data, and how the
  extended reals' operations meet it: the logits, their maximum, the weights, the gradient of
  the logits, and the two ways in which a weight is spelt (the quotient of an exponential by
  the sum of exponentials, and one exponential of the logit less the log of that sum).
-/
module

public import Idealize.ShloMosaic.Lib.Pointwise

@[expose] public section

noncomputable section

namespace FoxBwd

open Idealize.ShloMosaic

/-- A sum of embedded reals is the embedded sum. -/
theorem coe_sum {ι : Type*} (S : Finset ι) (f : ι → ℝ) : (∑ i ∈ S, (f i : EReal)) = ((∑ i ∈ S, f i : ℝ) : EReal) := by
  classical
  induction S using Finset.induction_on with
  | empty => simp
  | insert a S ha ih => rw [Finset.sum_insert ha, Finset.sum_insert ha, ih, EReal.coe_add]

/-- The exponential of an embedded real. -/
theorem exp_coe (r : ℝ) : Ideal.exp (r : EReal) = ((Real.exp r : ℝ) : EReal) := rfl

/-- The exponential of minus infinity. -/
theorem exp_bot : Ideal.exp ⊥ = 0 := rfl

/-- The logarithm of an embedded positive real. -/
theorem log_coe {r : ℝ} (h : 0 < r) : Ideal.log (r : EReal) = ((Real.log r : ℝ) : EReal) :=
  if_neg (not_le.mpr h)

/-- The quotient of embedded reals, the divisor not zero. -/
theorem div_coe {x y : ℝ} (h : y ≠ 0) : Ideal.div (x : EReal) (y : EReal) = ((x / y : ℝ) : EReal) := by
  unfold Ideal.div
  rw [if_neg (by exact_mod_cast h), ← EReal.coe_inv, ← EReal.coe_mul, div_eq_mul_inv]

/-- The pattern of one eighth. -/
theorem ofBits_eighth : Ideal.ofBits .f32 0x3E000000#32 = (((1 : ℝ) / 8 : ℝ) : EReal) := by
  simp [Ideal.ofBits, Ideal.ieee, -EReal.coe_mul]; norm_num

/-- The pattern of minus infinity. -/
theorem ofBits_neg_inf : Ideal.ofBits .f32 0xFF800000#32 = (⊥ : EReal) := by
  simp [Ideal.ofBits, Ideal.ieee]

/-- The pattern of plus infinity. -/
theorem ofBits_inf : Ideal.ofBits .f32 0x7F800000#32 = (⊤ : EReal) := by
  simp [Ideal.ofBits, Ideal.ieee]

section Head

variable {n d : ℕ} (q k v g : Fin n → Fin d → ℝ) (c : Fin n → ℝ)

/-- The logit of query `t` and key `s`, before the mask. -/
def z (t s : Fin n) : ℝ := (∑ j, q t j * k s j) * (1 / 8) + (c t - c s)

/-- The masked logit. -/
def lg (t s : Fin n) : EReal := if s ≤ t then ((z q k c t s : ℝ) : EReal) else ⊥

/-- The largest logit of query `t`. -/
def mx (t : Fin n) : ℝ := (Finset.univ.filter (· ≤ t)).sup' ⟨t, by simp⟩ (z q k c t)

/-- The exponential of a logit less the largest, zero where masked. -/
def ex (t s : Fin n) : ℝ := if s ≤ t then Real.exp (z q k c t s - mx q k c t) else 0

/-- The sum of a query's exponentials. -/
def den (t : Fin n) : ℝ := ∑ s, ex q k c t s

/-- The attention weight of query `t` on key `s`. -/
def wt (t s : Fin n) : ℝ := ex q k c t s / den q k c t

/-- The gradient of a weight: the cotangent of the query's output against the key's value. -/
def dw (t s : Fin n) : ℝ := ∑ j, g t j * v s j

/-- The weighted mean of a query's weight gradients. -/
def mean (t : Fin n) : ℝ := ∑ s, wt q k c t s * dw v g t s

/-- The gradient of a logit. -/
def dlg (t s : Fin n) : ℝ := wt q k c t s * (dw v g t s - mean q k v g c t)

theorem ex_nonneg (t s : Fin n) : 0 ≤ ex q k c t s := by
  unfold ex; split
  · exact (Real.exp_pos _).le
  · exact le_rfl

theorem den_pos (t : Fin n) : 0 < den q k c t :=
  Finset.sum_pos' (fun s _ => ex_nonneg q k c t s) ⟨t, Finset.mem_univ _, by simp [ex, Real.exp_pos]⟩

theorem wt_of_lt {t s : Fin n} (h : t < s) : wt q k c t s = 0 := by
  unfold wt ex; rw [if_neg (not_le.mpr h), zero_div]

theorem dlg_of_lt {t s : Fin n} (h : t < s) : dlg q k v g c t s = 0 := by
  unfold dlg; rw [wt_of_lt q k c h, zero_mul]

/-- The maximum over all keys of the masked logits, started from minus infinity. -/
theorem fold_lg (t : Fin n) : (Finset.univ : Finset (Fin n)).fold max ⊥ (lg q k c t) = ((mx q k c t : ℝ) : EReal) := by
  apply le_antisymm
  · rw [Finset.fold_max_le]
    refine ⟨bot_le, fun s _ => ?_⟩
    unfold lg; split
    · rename_i h
      exact EReal.coe_le_coe_iff.mpr (Finset.le_sup' (z q k c t) (by simpa using h))
    · exact bot_le
  · rw [Finset.le_fold_max]
    right
    obtain ⟨s, hs, e⟩ := Finset.exists_mem_eq_sup' (s := Finset.univ.filter (· ≤ t)) ⟨t, by simp⟩ (z q k c t)
    refine ⟨s, Finset.mem_univ _, ?_⟩
    unfold lg
    rw [if_pos (by simpa using hs)]
    exact EReal.coe_le_coe_iff.mpr (by unfold mx; rw [e])

/-- The exponential of a masked logit less the largest. -/
theorem exp_lg (t s : Fin n) : Ideal.exp (lg q k c t s - ((mx q k c t : ℝ) : EReal)) = ((ex q k c t s : ℝ) : EReal) := by
  unfold lg ex; split
  · rw [← EReal.coe_sub, exp_coe]
  · rw [EReal.bot_sub, exp_bot, EReal.coe_zero]

/-- A weight spelt as one exponential: the logit less the largest less the log of the sum. -/
theorem exp_lse {t s : Fin n} (h : s ≤ t) :
    Real.exp (z q k c t s - (mx q k c t + Real.log (den q k c t))) = wt q k c t s := by
  unfold wt ex
  rw [if_pos h, ← sub_sub, Real.exp_sub, Real.exp_log (den_pos q k c t)]

/-- The mean taken through the output: the cotangent of a query's output against the output. -/
theorem mean_eq (t : Fin n) : ∑ j, g t j * (∑ s, wt q k c t s * v s j) = mean q k v g c t := by
  unfold mean dw
  simp only [Finset.mul_sum]
  rw [Finset.sum_comm]
  refine Finset.sum_congr rfl fun s _ => Finset.sum_congr rfl fun j _ => by ring

/-- The gradient of a logit as differentiating the quotient gives it. -/
theorem dlg_quot (t s : Fin n) :
    (dw v g t s / den q k c t + -(∑ s', dw v g t s' * (1 / (den q k c t * den q k c t)) * ex q k c t s')) * ex q k c t s
      = dlg q k v g c t s := by
  have hd := (den_pos q k c t).ne'
  have : ∑ s', dw v g t s' * (1 / (den q k c t * den q k c t)) * ex q k c t s' = mean q k v g c t / den q k c t := by
    unfold mean wt
    rw [Finset.sum_div]
    refine Finset.sum_congr rfl fun s' _ => by field_simp
  rw [this]
  unfold dlg wt
  field_simp
  ring

end Head

end FoxBwd
-- ==== Proof.Tile.lean ====
/-
  One key tile of the backward pass, as the kernel computes it, over a query range of `w` columns: 128 key rows
  against `w` queries. Every tile of the kernel is an instance of these definitions.
-/
module

public import Idealize.ShloMosaic.Lib.Pointwise
public import Idealize.ShloMosaic.Lib.MatmulPlain

@[expose] public section

namespace FoxBwd

open Idealize.ShloMosaic

/-- The shape `a × b`. -/
abbrev Sh (a b : ℕ) : Shape := ⟨2, ![a, b]⟩

/-- `K×M` by `K×N`, both contracted on their first axis. -/
def dotTL (M K N : ℕ) : DotDims (Sh K M) (Sh K N) (Sh M N) where
  lhsContracting := [0]
  rhsContracting := [0]
  lhsNonContracting := [1]
  rhsNonContracting := [1]
  lhsBatch := []
  rhsBatch := []
  wf := ⟨rfl, by simp, rfl, by simp, by simp, by simp, by simpa [List.finRange] using List.Perm.swap 0 1 [],
    by simpa [List.finRange] using List.Perm.swap 0 1 [], rfl, Nat.two_pos, fun b => by fin_cases b <;> rfl⟩

variable {w : ℕ}

/-- The exponent of a tile: scores plus the decay difference, less the saved row statistic. -/
noncomputable def tS (hb : (Sh 1 w).Broadcasts (Sh 128 w)) (q : FVec Ideal (Sh w 64) .bf16)
    (cq ls : FVec Ideal (Sh 1 w) .f32) (ck : FVec Ideal (Sh 128 w) .f32) (k : FVec Ideal (Sh 128 64) .bf16) :
    FVec Ideal (Sh 128 w) .f32 :=
  subf (addf (matmul (DotDims.transposedRhs 128 64 w) none k q (constant _ .f32 0x00000000#32))
    (subf (broadcastTo _ cq hb) ck)) (broadcastTo _ ls hb)

/-- The weights of a tile with hidden entries. -/
noncomputable def tPm (m : IVec (Sh 128 w) 1) (s : FVec Ideal (Sh 128 w) .f32) : FVec Ideal (Sh 128 w) .f32 :=
  select m (broadcast _ (Scalar.ofBits .f32 0x00000000#32)) (exp s)

/-- The gradient of a tile's logits. -/
noncomputable def tDs (hb : (Sh 1 w).Broadcasts (Sh 128 w)) (p : FVec Ideal (Sh 128 w) .f32)
    (g : FVec Ideal (Sh w 64) .bf16) (dl : FVec Ideal (Sh 1 w) .f32) (v : FVec Ideal (Sh 128 64) .bf16) :
    FVec Ideal (Sh 128 w) .f32 :=
  mulf p (subf (matmul (DotDims.transposedRhs 128 64 w) none v g (constant _ .f32 0x00000000#32)) (broadcastTo _ dl hb))

/-- A tile's addition to the key rows' 64-column accumulators (`dk` from `ds` and `q`, `dv` from `p` and `do`). -/
noncomputable def tDk (hs : (Sh 128 64).ShapeCasts (Sh 128 64)) (ht : FTy.bf16.bits < FTy.f32.bits)
    (ds : FVec Ideal (Sh 128 w) .f32) (q : FVec Ideal (Sh w 64) .bf16)
    (old : FVec Ideal (Sh 128 64) .f32) : FVec Ideal (Sh 128 64) .f32 :=
  shapeCast _ (addf old (matmul (DotDims.plain 128 w 64) none (truncf .bf16 ds ht) q (constant _ .f32 0x00000000#32))) hs

/-- A tile's subtraction from the key rows' forget-gate accumulator: the row sums, in every one of its 128 columns. -/
noncomputable def tDck (h2 : (Sh 128 128).ShapeCasts (Sh 128 128)) (hr : (Sh 128 w).Reduces [1] ⟨1, ![128]⟩)
    (h1 : (⟨1, ![128]⟩ : Shape).ShapeCasts (Sh 128 1)) (h3 : (Sh 128 1).ShapeCasts (Sh 128 1))
    (hb : (Sh 128 1).Broadcasts (Sh 128 128))
    (ds : FVec Ideal (Sh 128 w) .f32) (old : FVec Ideal (Sh 128 128) .f32) : FVec Ideal (Sh 128 128) .f32 :=
  subf (shapeCast _ old h2) (broadcastTo _ (shapeCast _ (shapeCast _
    (multiReduction .add [1] ⟨1, ![128]⟩ ds 0x00000000#32 hr (.inl rfl) rfl) h1) h3) hb)

/-- A tile's addition to the queries' gradient (transposed). -/
noncomputable def tDq (ht : FTy.bf16.bits < FTy.f32.bits) (k : FVec Ideal (Sh 128 64) .bf16)
    (ds : FVec Ideal (Sh 128 w) .f32) : FVec Ideal (Sh 64 w) .f32 :=
  matmul (dotTL 64 128 w) none k (truncf .bf16 ds ht) (constant _ .f32 0x00000000#32)

/-- A tile's addition to the queries' forget-gate gradient: the column sums. -/
noncomputable def tDcq (hr : (Sh 128 w).Reduces [0] ⟨1, ![w]⟩) (h1 : (⟨1, ![w]⟩ : Shape).ShapeCasts (Sh 1 w))
    (ds : FVec Ideal (Sh 128 w) .f32) : FVec Ideal (Sh 1 w) .f32 :=
  shapeCast _ (multiReduction .add [0] ⟨1, ![w]⟩ ds 0x00000000#32 hr (.inl rfl) rfl) h1

/-- A row broadcast down the rows, read at an index. -/
theorem bcRow {α : Type} (hb : (Sh 1 w).Broadcasts (Sh 128 w)) (x : (Sh 1 w).Idx → α) (r : Fin 128) (t : Fin w) :
    broadcastTo (Sh 128 w) x hb (ix2 r t) = x (ix2 0 t) := by
  unfold broadcastTo
  refine congrArg x ?_
  funext a
  match a with
  | ⟨0, _⟩ => rfl
  | ⟨1, _⟩ =>
    by_cases h : w = 1
    · subst h; exact Subsingleton.elim (α := Fin 1) _ _
    · exact (dif_neg (show ¬ (![1, w] : Fin 2 → ℕ) 1 = 1 from h)).trans rfl

/-- `[M,K]` by `[N,K]` from zero, at an index. -/
theorem mmNT {M K N : ℕ} (x : FVec Ideal (Sh M K) .bf16) (y : FVec Ideal (Sh N K) .bf16) (r : Fin M) (t : Fin N) :
    matmul (DotDims.transposedRhs M K N) none x y (constant (F := Ideal) (Sh M N) .f32 0x00000000#32) (ix2 r t)
      = ∑ d : Fin K, x (ix2 r d) * y (ix2 t d) := by
  have e : matmul (DotDims.transposedRhs M K N) none x y (constant (F := Ideal) (Sh M N) .f32 0x00000000#32) (ix2 r t)
      = Ideal.ofBits .f32 0x00000000#32 + ∑ d : Fin K, x (ix2 r d) * y (ix2 t d) :=
    Ideal.matmul_transposedRhs_apply none x y (constant (F := Ideal) (Sh M N) .f32 0x00000000#32) r t
  rw [e, Ideal.ofBits_zero_f32, zero_add]

/-- `[M,K]` by `[K,N]` from zero, at an index. -/
theorem mmNN {M K N : ℕ} (x : FVec Ideal (Sh M K) .bf16) (y : FVec Ideal (Sh K N) .bf16) (r : Fin M) (t : Fin N) :
    matmul (DotDims.plain M K N) none x y (constant (F := Ideal) (Sh M N) .f32 0x00000000#32) (ix2 r t)
      = ∑ d : Fin K, x (ix2 r d) * y (ix2 d t) := by
  have e : matmul (DotDims.plain M K N) none x y (constant (F := Ideal) (Sh M N) .f32 0x00000000#32) (ix2 r t)
      = Ideal.ofBits .f32 0x00000000#32 + ∑ d : Fin K, x (ix2 r d) * y (ix2 d t) :=
    Ideal.matmul_plain_apply none x y (constant (F := Ideal) (Sh M N) .f32 0x00000000#32) r t
  rw [e, Ideal.ofBits_zero_f32, zero_add]

theorem tS_apply (hb : (Sh 1 w).Broadcasts (Sh 128 w)) (q : FVec Ideal (Sh w 64) .bf16)
    (cq ls : FVec Ideal (Sh 1 w) .f32) (ck : FVec Ideal (Sh 128 w) .f32) (k : FVec Ideal (Sh 128 64) .bf16)
    (r : Fin 128) (t : Fin w) :
    tS hb q cq ls ck k (ix2 r t)
      = (∑ d : Fin 64, k (ix2 r d) * q (ix2 t d)) + (cq (ix2 0 t) - ck (ix2 r t)) - ls (ix2 0 t) := by
  show matmul _ none k q _ (ix2 r t) + (broadcastTo _ cq hb (ix2 r t) - ck (ix2 r t)) - broadcastTo _ ls hb (ix2 r t) = _
  rw [mmNT, bcRow, bcRow]

theorem tDs_apply (hb : (Sh 1 w).Broadcasts (Sh 128 w)) (p : FVec Ideal (Sh 128 w) .f32)
    (g : FVec Ideal (Sh w 64) .bf16) (dl : FVec Ideal (Sh 1 w) .f32) (v : FVec Ideal (Sh 128 64) .bf16)
    (r : Fin 128) (t : Fin w) :
    tDs hb p g dl v (ix2 r t)
      = p (ix2 r t) * ((∑ d : Fin 64, v (ix2 r d) * g (ix2 t d)) - dl (ix2 0 t)) := by
  show p (ix2 r t) * (matmul _ none v g _ (ix2 r t) - broadcastTo _ dl hb (ix2 r t)) = _
  rw [mmNT, bcRow]

theorem tPm_apply (m : IVec (Sh 128 w) 1) (s : FVec Ideal (Sh 128 w) .f32) (r : Fin 128) (t : Fin w) :
    tPm m s (ix2 r t) = if m (ix2 r t) = 1 then 0 else Ideal.exp (s (ix2 r t)) := by
  pointwise [tPm]
  rfl

theorem tDk_apply (hs : (Sh 128 64).ShapeCasts (Sh 128 64)) (ht : FTy.bf16.bits < FTy.f32.bits)
    (ds : FVec Ideal (Sh 128 w) .f32) (q : FVec Ideal (Sh w 64) .bf16)
    (old : FVec Ideal (Sh 128 64) .f32) (r : Fin 128) (d : Fin 64) :
    tDk hs ht ds q old (ix2 r d) = old (ix2 r d) + ∑ t : Fin w, ds (ix2 r t) * q (ix2 t d) := by
  have e := mmNN (truncf .bf16 ds ht) q r d
  unfold tDk
  rw [shapeCast_self]
  exact congrArg (old (ix2 r d) + ·) e

theorem tDck_apply (h2 : (Sh 128 128).ShapeCasts (Sh 128 128)) (hr : (Sh 128 w).Reduces [1] ⟨1, ![128]⟩)
    (h1 : (⟨1, ![128]⟩ : Shape).ShapeCasts (Sh 128 1)) (h3 : (Sh 128 1).ShapeCasts (Sh 128 1))
    (hb : (Sh 128 1).Broadcasts (Sh 128 128))
    (ds : FVec Ideal (Sh 128 w) .f32) (old : FVec Ideal (Sh 128 128) .f32) (r c : Fin 128) :
    tDck h2 hr h1 h3 hb ds old (ix2 r c) = old (ix2 r c) - ∑ t : Fin w, ds (ix2 r t) := by
  pointwise [tDck]

theorem tDq_apply (ht : FTy.bf16.bits < FTy.f32.bits) (k : FVec Ideal (Sh 128 64) .bf16)
    (ds : FVec Ideal (Sh 128 w) .f32) (d : Fin 64) (t : Fin w) :
    tDq ht k ds (ix2 d t) = ∑ r : Fin 128, k (ix2 r d) * ds (ix2 r t) := by
  pointwise [tDq]
  refine Finset.sum_congr rfl fun r _ => congrArg (k (ix2 r d) * ds ·) ?_
  funext a
  match a with
  | ⟨0, _⟩ => rfl
  | ⟨1, _⟩ => rfl

theorem tDcq_apply (hr : (Sh 128 w).Reduces [0] ⟨1, ![w]⟩) (h1 : (⟨1, ![w]⟩ : Shape).ShapeCasts (Sh 1 w))
    (ds : FVec Ideal (Sh 128 w) .f32) (t : Fin w) :
    tDcq hr h1 ds (ix2 0 t) = ∑ r : Fin 128, ds (ix2 r t) := by
  have e : tDcq hr h1 ds (ix2 0 t)
      = multiReduction .add [0] ⟨1, ![w]⟩ ds 0x00000000#32 hr (.inl rfl) rfl (ix1 t) :=
    (shapeCast_addUnit_apply ![w] _ h1 (ix2 (0 : Fin 1) t)).trans
      (congrArg _ (funext fun a => by fin_cases a; rfl))
  rw [e]
  pointwise

end FoxBwd
-- ==== Proof.Host.lean ====
/-
  The host's arrays of the attention and of its gradient, at an index: where the arguments are real they are the real
  functions of `Softmax`, a head at a time.
-/
module

public import proofs.«01_k».proof.Proof.Gen.ReferenceIdeal.Run
public import proofs.«01_k».proof.Proof.Softmax
public import proofs.«01_k».proof.Proof.Tile
public import Idealize.ShloMosaic.Lib.Pointwise
public import Idealize.ShloMosaic.Lib.IdealHost
public import Idealize.ShloMosaic.Lib.WordCmp

@[expose] public section

set_option maxRecDepth 16384

namespace FoxBwd

open Idealize.ShloMosaic Cert.ReferenceIdeal Cert.ReferenceIdeal.Gen Idealize.ShloMosaic.TcCoe

/-- An array of all heads' rows, and one of all heads' weights. -/
abbrev T3 := FVec Ideal S16x4096x64 .f32
abbrev W3 := FVec Ideal S16x4096x4096 .f32
abbrev R2 := FVec Ideal S16x4096 .f32
abbrev R3 := FVec Ideal S16x4096x1 .f32

/-- The columns of a matrix, as heads. -/
noncomputable def heads (x : FVec Ideal S4096x1024 .f32) : T3 :=
  transpose S16x4096x64 [1, 0, 2] (shapeCast S4096x16x64 x shapeCasts_S4096x1024_S4096x16x64) transposes_S4096x16x64_S16x4096x64_1_0_2

theorem heads_apply (x : FVec Ideal S4096x1024 .f32) (h : Fin 16) (t : Fin 4096) (d : Fin 64) :
    heads x (ix3 h t d) = x (ix2 t ⟨h * 64 + d, by omega⟩) := by
  unfold heads
  pointwise

/-- The heads, as the columns of a matrix. -/
noncomputable def unheads (x : T3) : FVec Ideal S4096x1024 .f32 :=
  shapeCast S4096x1024 (transpose S4096x16x64 [1, 0, 2] x transposes_S16x4096x64_S4096x16x64_1_0_2) shapeCasts_S4096x16x64_S4096x1024

theorem unheads_apply (x : T3) (t : Fin 4096) (l : Fin 1024) :
    unheads x (ix2 t l) = x (ix3 ⟨l / 64, by omega⟩ t ⟨l % 64, by omega⟩) := by
  unfold unheads
  pointwise

noncomputable def hq (A0 : FVec Ideal S4096x3072 .bf16) : T3 :=
  heads (extractStridedSlice S4096x1024 ![0, 0] (extf .f32 A0 bitsLt_bf16_f32) slices_S4096x3072_S4096x1024_0_0)
noncomputable def hk (A0 : FVec Ideal S4096x3072 .bf16) : T3 :=
  heads (extractStridedSlice S4096x1024 ![0, 1024] (extf .f32 A0 bitsLt_bf16_f32) slices_S4096x3072_S4096x1024_0_1024)
noncomputable def hv (A0 : FVec Ideal S4096x3072 .bf16) : T3 :=
  heads (extractStridedSlice S4096x1024 ![0, 2048] (extf .f32 A0 bitsLt_bf16_f32) slices_S4096x3072_S4096x1024_0_2048)

/-- Where the key does not come after the query. -/
noncomputable def mask : IVec S16x4096x4096 1 :=
  broadcastInDim S16x4096x4096 ![1, 2] bcast_S4096x4096_S16x4096x4096_1_2
    (cmpi .sle (broadcastInDim S4096x4096 ![0, 1] bcast_S1x4096_S4096x4096_0_1 (broadcastInDim S1x4096 ![1] bcast_S4096_S1x4096_1 (iotaInDim S4096 32 0)))
      (broadcastInDim S4096x4096 ![0, 1] bcast_S4096x1_S4096x4096_0_1 (broadcastInDim S4096x1 ![0] bcast_S4096_S4096x1_0 (iotaInDim S4096 32 0))))

theorem mask_apply (h : Fin 16) (t s : Fin 4096) : mask (ix3 h t s) = if s ≤ t then 1#1 else 0#1 := by
  unfold mask
  pointwise
  have ht := t.isLt
  have hs := s.isLt
  by_cases e : s ≤ t
  · rw [if_pos e]
    have e' : s.val ≤ t.val := e
    word_cmp
  · rw [if_neg e]
    have e' : ¬ s.val ≤ t.val := e
    word_cmp

/-- The masked logits. -/
noncomputable def hlg (A0 : FVec Ideal S4096x3072 .bf16) (A1 : FVec Ideal S4096x16 .f32) : W3 :=
  select mask
    (addf (mulf (Host.dotGeneral dot_S16x4096x64_S16x4096x64_S16x4096x4096_2_2_1_1_0_0 none (hq A0) (hk A0))
        (broadcastInDim S16x4096x4096 ![] bcast_S_S16x4096x4096 (constant S_ .f32 0x3E000000#32)))
      (subf (broadcastInDim S16x4096x4096 ![0, 1, 2] bcast_S16x4096x1_S16x4096x4096_0_1_2
          (broadcastInDim S16x4096x1 ![0, 1] bcast_S16x4096_S16x4096x1_0_1 (transpose S16x4096 [1, 0] A1 transposes_S4096x16_S16x4096_1_0)))
        (broadcastInDim S16x4096x4096 ![0, 1, 2] bcast_S16x1x4096_S16x4096x4096_0_1_2
          (broadcastInDim S16x1x4096 ![0, 2] bcast_S16x4096_S16x1x4096_0_2 (transpose S16x4096 [1, 0] A1 transposes_S4096x16_S16x4096_1_0)))))
    (broadcastInDim S16x4096x4096 ![] bcast_S_S16x4096x4096 (constant S_ .f32 0xFF800000#32))

/-- The largest of each row. -/
noncomputable def hmx (x : W3) : R2 :=
  Host.reduce FloatOps.maximumf x (constant S_ .f32 0xFF800000#32 : FVec Ideal S_ .f32) reducesTo_S16x4096x4096_S16x4096_d2 h_S_

/-- The same, against minus infinity. -/
noncomputable def hmx2 (x : W3) : R2 :=
  maximumf (broadcastInDim S16x4096 ![] bcast_S_S16x4096 (constant S_ .f32 0xFF800000#32 : FVec Ideal S_ .f32)) (hmx x)

/-- A row's number as a column of one, and on the whole row. -/
noncomputable def col (x : R2) : R3 := broadcastInDim S16x4096x1 ![0, 1] bcast_S16x4096_S16x4096x1_0_1 x
noncomputable def wide (x : R3) : W3 := broadcastInDim S16x4096x4096 ![0, 1, 2] bcast_S16x4096x1_S16x4096x4096_0_1_2 x

theorem col_apply (x : R2) (h : Fin 16) (t : Fin 4096) (o : Fin 1) : col x (ix3 h t o) = x (ix2 h t) := by
  unfold col
  pointwise

theorem wide_apply (x : R3) (h : Fin 16) (t s : Fin 4096) : wide x (ix3 h t s) = x (ix3 h t 0) := by
  unfold wide
  pointwise

/-- The exponentials less the rows' numbers `M`. -/
noncomputable def hex (x : W3) (M : R2) : W3 := Host.exp (subf x (wide (col M)))

/-- The sums of rows. -/
noncomputable def hsum (x : W3) : R2 :=
  Host.reduceAdd x (constant S_ .f32 0x00000000#32 : FVec Ideal S_ .f32) reducesTo_S16x4096x4096_S16x4096_d2 h_S_

theorem hsum_apply (x : W3) (h : Fin 16) (t : Fin 4096) : hsum x (ix2 h t) = ∑ s : Fin 4096, x (ix3 h t s) := by
  unfold hsum
  pointwise

/-- The weights. -/
noncomputable def hwt (e : W3) : W3 := Host.divf e (wide (col (hsum e)))

attribute [local irreducible] mask hmx hsum col wide hq hk hv

theorem max_bot_left {b a : EReal} (h : b = ⊥) : max b a = a := by
  rw [h]
  exact max_eq_right bot_le

/-- A number on every entry. -/
theorem bc_apply (b : BitVec 32) {T : Shape} (h : S_.BroadcastsInDim T ![]) (j : T.Idx) :
    broadcastInDim T ![] h (constant S_ .f32 b : FVec Ideal S_ .f32) j = Ideal.ofBits .f32 b :=
  ValueIdx.broadcastInDim_scalar_apply _ _ _

theorem select_one {α : Type} (a b : α) : Scalar.select 1#1 a b = a := rfl
theorem select_zero {α : Type} (a b : α) : Scalar.select 0#1 a b = b := rfl

theorem max_at (x y : R2) (i : S16x4096.Idx) : maximumf x y i = max (x i) (y i) := rfl

theorem hmx2_apply (x : W3) (h : Fin 16) (t : Fin 4096) : hmx2 x (ix2 h t) = hmx x (ix2 h t) := by
  unfold hmx2
  rw [max_at]
  exact max_bot_left ((bc_apply _ _ _).trans ofBits_neg_inf)

theorem hex_at (x : W3) (M : R2) (h : Fin 16) (t s : Fin 4096) :
    hex x M (ix3 h t s) = Ideal.exp (x (ix3 h t s) - M (ix2 h t)) := by
  show Ideal.exp (x (ix3 h t s) - wide (col M) (ix3 h t s)) = _
  rw [wide_apply, col_apply]

theorem hwt_at (e : W3) (h : Fin 16) (t s : Fin 4096) :
    hwt e (ix3 h t s) = Ideal.div (e (ix3 h t s)) (hsum e (ix2 h t)) := by
  show Ideal.div (e (ix3 h t s)) (wide (col (hsum e)) (ix3 h t s)) = _
  rw [wide_apply, col_apply]

theorem hmx_at (x : W3) (h : Fin 16) (t : Fin 4096) :
    hmx x (ix2 h t) = (Finset.univ : Finset (Fin 4096)).fold max ⊥ fun s => x (ix3 h t s) := by
  unfold hmx
  pointwise
  rw [ofBits_neg_inf]

section real
variable {A0 : FVec Ideal S4096x3072 .bf16} {A1 : FVec Ideal S4096x16 .f32} {A2 : FVec Ideal S4096x1024 .f32}
  {X : Fin 4096 → Fin 3072 → ℝ} {U : Fin 4096 → Fin 16 → ℝ} {G : Fin 4096 → Fin 1024 → ℝ}

/-- A head's queries, keys, values, gates and output gradient. -/
def qR (X : Fin 4096 → Fin 3072 → ℝ) (h : Fin 16) (t : Fin 4096) (d : Fin 64) : ℝ := X t ⟨h * 64 + d, by omega⟩
def kR (X : Fin 4096 → Fin 3072 → ℝ) (h : Fin 16) (t : Fin 4096) (d : Fin 64) : ℝ := X t ⟨1024 + (h * 64 + d), by omega⟩
def vR (X : Fin 4096 → Fin 3072 → ℝ) (h : Fin 16) (t : Fin 4096) (d : Fin 64) : ℝ := X t ⟨2048 + (h * 64 + d), by omega⟩
def gR (G : Fin 4096 → Fin 1024 → ℝ) (h : Fin 16) (t : Fin 4096) (d : Fin 64) : ℝ := G t ⟨h * 64 + d, by omega⟩
def cR (U : Fin 4096 → Fin 16 → ℝ) (h : Fin 16) (t : Fin 4096) : ℝ := U t h

theorem hq_apply (hX : ∀ r c, A0 (ix2 r c) = (X r c : EReal)) (h : Fin 16) (t : Fin 4096) (d : Fin 64) :
    hq A0 (ix3 h t d) = (qR X h t d : EReal) := by
  unfold hq
  rw [heads_apply]
  pointwise
  exact hX _ _

theorem hk_apply (hX : ∀ r c, A0 (ix2 r c) = (X r c : EReal)) (h : Fin 16) (t : Fin 4096) (d : Fin 64) :
    hk A0 (ix3 h t d) = (kR X h t d : EReal) := by
  unfold hk
  rw [heads_apply]
  pointwise
  exact hX _ _

theorem hv_apply (hX : ∀ r c, A0 (ix2 r c) = (X r c : EReal)) (h : Fin 16) (t : Fin 4096) (d : Fin 64) :
    hv A0 (ix3 h t d) = (vR X h t d : EReal) := by
  unfold hv
  rw [heads_apply]
  pointwise
  exact hX _ _

theorem hg_apply (hG : ∀ r c, A2 (ix2 r c) = (G r c : EReal)) (h : Fin 16) (t : Fin 4096) (d : Fin 64) :
    heads A2 (ix3 h t d) = (gR G h t d : EReal) := by
  rw [heads_apply]
  exact hG _ _

theorem hlg_apply (hX : ∀ r c, A0 (ix2 r c) = (X r c : EReal)) (hU : ∀ r c, A1 (ix2 r c) = (U r c : EReal))
    (h : Fin 16) (t s : Fin 4096) : hlg A0 A1 (ix3 h t s) = lg (qR X h) (kR X h) (cR U h) t s := by
  unfold hlg
  pointwise
  rw [mask_apply]
  unfold lg
  by_cases e : s ≤ t
  · rw [if_pos e, if_pos e]
    simp only [hq_apply hX, hk_apply hX, hU, ofBits_eighth]
    refine (select_one _ _).trans ?_
    simp only [← EReal.coe_mul, ← EReal.coe_sub, coe_sum, ← EReal.coe_add]
    rfl
  · rw [if_neg e, if_neg e]
    exact (select_zero _ _).trans ofBits_neg_inf

theorem hmx_apply {q k : Fin 4096 → Fin 64 → ℝ} {c : Fin 4096 → ℝ} {x : W3} {h : Fin 16} {t : Fin 4096}
    (hx : ∀ s, x (ix3 h t s) = lg q k c t s) : hmx x (ix2 h t) = (mx q k c t : EReal) := by
  rw [hmx_at, ← fold_lg]
  exact Finset.fold_congr fun s _ => hx s

theorem hex_apply {q k : Fin 4096 → Fin 64 → ℝ} {c : Fin 4096 → ℝ} {x : W3} {M : R2} {h : Fin 16} {t : Fin 4096}
    (hx : ∀ s, x (ix3 h t s) = lg q k c t s) (hM : M (ix2 h t) = (mx q k c t : EReal)) (s : Fin 4096) :
    hex x M (ix3 h t s) = (ex q k c t s : EReal) := by
  rw [hex_at, hx, hM, exp_lg]

theorem hden_apply {q k : Fin 4096 → Fin 64 → ℝ} {c : Fin 4096 → ℝ} {e : W3} {h : Fin 16} {t : Fin 4096}
    (he : ∀ s, e (ix3 h t s) = (ex q k c t s : EReal)) : hsum e (ix2 h t) = (den q k c t : EReal) := by
  rw [hsum_apply, Finset.sum_congr rfl fun s _ => he s]
  exact coe_sum _ _

theorem hwt_apply {q k : Fin 4096 → Fin 64 → ℝ} {c : Fin 4096 → ℝ} {e : W3} {h : Fin 16} {t : Fin 4096}
    (he : ∀ s, e (ix3 h t s) = (ex q k c t s : EReal)) (s : Fin 4096) :
    hwt e (ix3 h t s) = (wt q k c t s : EReal) := by
  rw [hwt_at, he, hden_apply he, div_coe (den_pos q k c t).ne']
  rfl

end real

end FoxBwd
-- ==== Proof.HostBwd.lean ====
/-
  The host's gradient of the attention, at an index: the five arrays are the real gradients of `Softmax`, a head at a
  time.
-/
module

public import proofs.«01_k».proof.Proof.Host

@[expose] public section

set_option maxRecDepth 16384

namespace FoxBwd

open Idealize.ShloMosaic Cert.ReferenceIdeal Cert.ReferenceIdeal.Gen Idealize.ShloMosaic.TcCoe

theorem mul_at (x y : W3) (h : Fin 16) (t s : Fin 4096) : mulf x y (ix3 h t s) = x (ix3 h t s) * y (ix3 h t s) := rfl
theorem add_at (x y : W3) (h : Fin 16) (t s : Fin 4096) : addf x y (ix3 h t s) = x (ix3 h t s) + y (ix3 h t s) := rfl
theorem div_at (x y : W3) (h : Fin 16) (t s : Fin 4096) : Host.divf x y (ix3 h t s) = Ideal.div (x (ix3 h t s)) (y (ix3 h t s)) := rfl

/-- A row's numbers as a column of one, by a reshape. -/
noncomputable def colR (x : R2) : R3 := shapeCast S16x4096x1 x shapeCasts_S16x4096_S16x4096x1

theorem colR_apply (x : R2) (h : Fin 16) (t : Fin 4096) (o : Fin 1) : colR x (ix3 h t o) = x (ix2 h t) := by
  unfold colR
  pointwise

/-- The sum over a column of one. -/
noncomputable def sum1 (x : R3) : R2 :=
  Host.reduceAdd x (constant S_ .f32 0x00000000#32 : FVec Ideal S_ .f32) reducesTo_S16x4096x1_S16x4096_d2 h_S_

theorem sum1_apply (x : R3) (h : Fin 16) (t : Fin 4096) : sum1 x (ix2 h t) = x (ix3 h t 0) := by
  unfold sum1
  pointwise
  exact Fin.sum_univ_one _

/-- The sums down the queries. -/
noncomputable def dsum (x : W3) : R2 :=
  Host.reduceAdd x (constant S_ .f32 0x00000000#32 : FVec Ideal S_ .f32) reducesTo_S16x4096x4096_S16x4096_d1 h_S_

theorem dsum_apply (x : W3) (h : Fin 16) (s : Fin 4096) : dsum x (ix2 h s) = ∑ t : Fin 4096, x (ix3 h t s) := by
  unfold dsum
  pointwise

/-- The gradients of the weights. -/
noncomputable def hdw (g v : T3) : W3 := Host.dotGeneral dot_S16x4096x64_S16x4096x64_S16x4096x4096_2_2_1_1_0_0 none g v

theorem hdw_apply (g v : T3) (h : Fin 16) (t s : Fin 4096) :
    hdw g v (ix3 h t s) = ∑ d : Fin 64, g (ix3 h t d) * v (ix3 h s d) := by
  unfold hdw
  pointwise

/-- One over the square of a row's sum. -/
noncomputable def hinv (n : R3) : R3 :=
  Host.divf (broadcastInDim S16x4096x1 ![] bcast_S_S16x4096x1 (constant S_ .f32 0x3F800000#32 : FVec Ideal S_ .f32)) (mulf n n)

theorem hinv_apply (n : R3) (h : Fin 16) (t : Fin 4096) (o : Fin 1) :
    hinv n (ix3 h t o) = Ideal.div (Ideal.ofBits .f32 0x3F800000#32) (n (ix3 h t o) * n (ix3 h t o)) :=
  congrArg (Ideal.div · (n (ix3 h t o) * n (ix3 h t o))) (bc_apply _ _ _)

/-- The sums of the rows as a column, with the sign turned. -/
noncomputable def hneg (x : W3) : R2 := sum1 (Host.negf (colR (hsum x)))

theorem negR_at (x : R3) (i : S16x4096x1.Idx) : Host.negf x i = -x i := rfl
theorem negW_at (x : W3) (i : S16x4096x4096.Idx) : Host.negf x i = -x i := rfl

theorem hneg_apply (x : W3) (h : Fin 16) (t : Fin 4096) : hneg x (ix2 h t) = -∑ s : Fin 4096, x (ix3 h t s) := by
  unfold hneg
  rw [sum1_apply, negR_at, colR_apply, hsum_apply]

/-- A row's numbers on the whole row. -/
noncomputable def rowW (x : R2) : W3 := broadcastInDim S16x4096x4096 ![0, 1] bcast_S16x4096_S16x4096x4096_0_1 x

theorem rowW_apply (x : R2) (h : Fin 16) (t s : Fin 4096) : rowW x (ix3 h t s) = x (ix2 h t) := by
  unfold rowW
  pointwise

/-- The gradients of the logits: of the exponentials `e` and the gradients `w` of the weights. -/
noncomputable def hdlg (e w : W3) : W3 :=
  select mask
    (mulf (addf (Host.divf w (wide (col (hsum e)))) (rowW (hneg (mulf (mulf w (wide (hinv (col (hsum e))))) e)))) e)
    (broadcastInDim S16x4096x4096 ![] bcast_S_S16x4096x4096 (constant S_ .f32 0x00000000#32))

attribute [local irreducible] mask hsum col wide colR sum1 hinv hneg rowW

theorem sel_at (a b c : W3) (h : Fin 16) (t s : Fin 4096) (hs : c = broadcastInDim S16x4096x4096 ![] bcast_S_S16x4096x4096 (constant S_ .f32 0x00000000#32)) :
    select mask a c (ix3 h t s) = if s ≤ t then a (ix3 h t s) else 0 := by
  have e0 : c (ix3 h t s) = 0 := by rw [hs]; exact (bc_apply _ _ _).trans Ideal.ofBits_zero_f32
  have e1 : select mask a c (ix3 h t s) = Scalar.select (mask (ix3 h t s)) (a (ix3 h t s)) (c (ix3 h t s)) := rfl
  rw [e1, mask_apply, e0]
  split <;> rfl

theorem hdlg_at (e w : W3) (h : Fin 16) (t s : Fin 4096) :
    hdlg e w (ix3 h t s) = if s ≤ t then
      (Ideal.div (w (ix3 h t s)) (hsum e (ix2 h t))
        + -∑ s' : Fin 4096, w (ix3 h t s') * Ideal.div (Ideal.ofBits .f32 0x3F800000#32) (hsum e (ix2 h t) * hsum e (ix2 h t)) * e (ix3 h t s'))
        * e (ix3 h t s) else 0 := by
  unfold hdlg
  rw [sel_at _ (hsum e |> fun _ => e) _ h t s rfl, mul_at, add_at, div_at, wide_apply, col_apply, rowW_apply, hneg_apply]
  simp only [mul_at, wide_apply, hinv_apply, col_apply]

theorem hdlg_apply {q k v g : Fin 4096 → Fin 64 → ℝ} {c : Fin 4096 → ℝ} {e w : W3} {h : Fin 16} {t : Fin 4096}
    (he : ∀ s, e (ix3 h t s) = (ex q k c t s : EReal)) (hw : ∀ s, w (ix3 h t s) = (dw v g t s : EReal)) (s : Fin 4096) :
    hdlg e w (ix3 h t s) = (dlg q k v g c t s : EReal) := by
  have hd := (den_pos q k c t).ne'
  rw [hdlg_at, hden_apply he]
  split
  · simp only [he, hw, Ideal.ofBits_one_f32]
    rw [← EReal.coe_one, ← EReal.coe_mul, div_coe hd, div_coe (mul_ne_zero hd hd)]
    simp only [← EReal.coe_mul, coe_sum, ← EReal.coe_neg, ← EReal.coe_add]
    rw [dlg_quot]
  · rename_i e
    rw [dlg_of_lt _ _ _ _ _ (not_le.mp e), EReal.coe_zero]

/-- The eighth of the gradients. -/
noncomputable def hsc (x : W3) : W3 :=
  mulf x (broadcastInDim S16x4096x4096 ![] bcast_S_S16x4096x4096 (constant S_ .f32 0x3E000000#32))

theorem hsc_apply (x : W3) (h : Fin 16) (t s : Fin 4096) : hsc x (ix3 h t s) = x (ix3 h t s) * (((1 : ℝ) / 8 : ℝ) : EReal) :=
  congrArg (x (ix3 h t s) * ·) ((bc_apply _ _ _).trans ofBits_eighth)

/-- The three contractions with the gradients or the weights. -/
noncomputable def overKeys (x : W3) (y : T3) : T3 := Host.dotGeneral dot_S16x4096x4096_S16x4096x64_S16x4096x64_2_1_1_2_0_0 none x y
noncomputable def overQueries (x : W3) (y : T3) : T3 := Host.dotGeneral dot_S16x4096x4096_S16x4096x64_S16x4096x64_1_1_2_2_0_0 none x y
noncomputable def overQueriesT (y : T3) (x : W3) : T3 :=
  transpose S16x4096x64 [0, 2, 1] (Host.dotGeneral dot_S16x4096x64_S16x4096x4096_S16x64x4096_1_1_2_2_0_0 none y x) transposes_S16x64x4096_S16x4096x64_0_2_1

theorem overKeys_apply (x : W3) (y : T3) (h : Fin 16) (t : Fin 4096) (d : Fin 64) :
    overKeys x y (ix3 h t d) = ∑ s : Fin 4096, x (ix3 h t s) * y (ix3 h s d) := by
  unfold overKeys
  pointwise

theorem overQueries_apply (x : W3) (y : T3) (h : Fin 16) (s : Fin 4096) (d : Fin 64) :
    overQueries x y (ix3 h s d) = ∑ t : Fin 4096, x (ix3 h t s) * y (ix3 h t d) := by
  unfold overQueries
  pointwise

theorem overQueriesT_apply (x : W3) (y : T3) (h : Fin 16) (s : Fin 4096) (d : Fin 64) :
    overQueriesT y x (ix3 h s d) = ∑ t : Fin 4096, y (ix3 h t d) * x (ix3 h t s) := by
  unfold overQueriesT
  pointwise

/-- A row's numbers on eight rows. -/
noncomputable def rows8 (x : R2) : FVec Ideal S128x4096 .f32 :=
  shapeCast S128x4096 (broadcastInDim S16x8x4096 ![0, 2] bcast_S16x4096_S16x8x4096_0_2 x) shapeCasts_S16x8x4096_S128x4096

theorem rows8_apply (x : R2) (r : Fin 128) (t : Fin 4096) : rows8 x (ix2 r t) = x (ix2 ⟨r / 8, by omega⟩ t) := by
  unfold rows8
  pointwise

/-- A column's numbers on 128 columns. -/
noncomputable def cols128 (x : FVec Ideal S4096x16 .f32) : FVec Ideal S4096x2048 .f32 :=
  shapeCast S4096x2048 (broadcastInDim S4096x16x128 ![0, 1] bcast_S4096x16_S4096x16x128_0_1 x) shapeCasts_S4096x16x128_S4096x2048

theorem cols128_apply (x : FVec Ideal S4096x16 .f32) (s : Fin 4096) (l : Fin 2048) :
    cols128 x (ix2 s l) = x (ix2 s ⟨l / 128, by omega⟩) := by
  unfold cols128
  pointwise

/-- The gradient of a query's gate, and of a key's. -/
noncomputable def gateQ (x : W3) : R2 :=
  transpose S16x4096 [1, 0] (transpose S4096x16 [1, 0] (sum1 (colR (hsum x))) transposes_S16x4096_S4096x16_1_0) transposes_S4096x16_S16x4096_1_0
noncomputable def gateK (x : W3) : FVec Ideal S4096x16 .f32 :=
  transpose S4096x16 [1, 0]
    (Host.reduceAdd (shapeCast S16x1x4096 (dsum (Host.negf x)) shapeCasts_S16x4096_S16x1x4096)
      (constant S_ .f32 0x00000000#32 : FVec Ideal S_ .f32) reducesTo_S16x1x4096_S16x4096_d1 h_S_) transposes_S16x4096_S4096x16_1_0

theorem gateQ_apply (x : W3) (h : Fin 16) (t : Fin 4096) : gateQ x (ix2 h t) = ∑ s : Fin 4096, x (ix3 h t s) := by
  unfold gateQ
  pointwise
  rw [sum1_apply, colR_apply, hsum_apply]

theorem gateK_apply (x : W3) (s : Fin 4096) (h : Fin 16) : gateK x (ix2 s h) = ∑ t : Fin 4096, -x (ix3 h t s) := by
  unfold gateK
  generalize hy : Host.negf x = y
  have e : dsum y (ix2 h s) = ∑ t : Fin 4096, -x (ix3 h t s) := by
    rw [dsum_apply, ← hy]
    rfl
  rw [← e]
  generalize dsum y = y'
  pointwise
  exact Fin.sum_univ_one _

end FoxBwd
-- ==== Proof.RefIs.lean ====
/-
  The reference's five results are the gradients' arrays of `HostBwd`.
-/
module

public import proofs.«01_k».proof.Proof.HostBwd

@[expose] public section

set_option maxRecDepth 16384

namespace FoxBwd

open Idealize.ShloMosaic Cert.ReferenceIdeal Cert.ReferenceIdeal.Gen Idealize.ShloMosaic.TcCoe

/-- The exponentials of the logits less the rows' maxima, and the gradients of the logits, of the three arguments. -/
noncomputable def eR (A0 : FVec Ideal S4096x3072 .bf16) (A1 : FVec Ideal S4096x16 .f32) : W3 :=
  hex (hlg A0 A1) (hmx2 (hlg A0 A1))
noncomputable def dR (A0 : FVec Ideal S4096x3072 .bf16) (A1 : FVec Ideal S4096x16 .f32) (A2 : FVec Ideal S4096x1024 .f32) : W3 :=
  hdlg (eR A0 A1) (hdw (heads A2) (hv A0))

section
variable (A0 : FVec Ideal S4096x3072 .bf16) (A1 : FVec Ideal S4096x16 .f32) (A2 : FVec Ideal S4096x1024 .f32)
/-- The five results. -/
noncomputable def resQ : FVec Ideal S4096x1024 .bf16 := truncf .bf16 (unheads (overKeys (hsc (dR A0 A1 A2)) (hk A0))) bitsLt_bf16_f32
noncomputable def resK : FVec Ideal S4096x1024 .bf16 := truncf .bf16 (unheads (overQueries (hsc (dR A0 A1 A2)) (hq A0))) bitsLt_bf16_f32
noncomputable def resV : FVec Ideal S4096x1024 .bf16 := truncf .bf16 (unheads (overQueriesT (heads A2) (hwt (eR A0 A1)))) bitsLt_bf16_f32
noncomputable def resCq : FVec Ideal S128x4096 .f32 := rows8 (gateQ (dR A0 A1 A2))
noncomputable def resCk : FVec Ideal S4096x2048 .f32 := cols128 (gateK (dR A0 A1 A2))
end

variable (m : (ℓ : Loc nD τ sig) → Buf (Elt Ideal) ℓ) (c : Dev nD)

theorem res99_is : Value.res_main_v99 m c = resV (m (c.tc.loc main_arg0)) (m (c.tc.loc main_arg1)) (m (c.tc.loc main_arg2)) := by
  unfold Value.res_main_v99
  rfl

theorem res97_is : Value.res_main_v97 m c = resQ (m (c.tc.loc main_arg0)) (m (c.tc.loc main_arg1)) (m (c.tc.loc main_arg2)) := by
  unfold Value.res_main_v97
  rfl

theorem res98_is : Value.res_main_v98 m c = resK (m (c.tc.loc main_arg0)) (m (c.tc.loc main_arg1)) (m (c.tc.loc main_arg2)) := by
  unfold Value.res_main_v98
  rfl

theorem res102_is : Value.res_main_v102 m c = resCq (m (c.tc.loc main_arg0)) (m (c.tc.loc main_arg1)) (m (c.tc.loc main_arg2)) := by
  unfold Value.res_main_v102
  rfl

theorem res104_is : Value.res_main_v104 m c = resCk (m (c.tc.loc main_arg0)) (m (c.tc.loc main_arg1)) (m (c.tc.loc main_arg2)) := by
  unfold Value.res_main_v104
  rfl

end FoxBwd
-- ==== Proof.RefVal.lean ====
/-
  The reference's five results of real arguments, as real sums.
-/
module

public import proofs.«01_k».proof.Proof.RefIs

@[expose] public section

set_option maxRecDepth 16384

namespace FoxBwd

open Idealize.ShloMosaic Cert.ReferenceIdeal Cert.ReferenceIdeal.Gen Idealize.ShloMosaic.TcCoe

/-- A head's attention weights, and its gradients of the logits. -/
noncomputable def wR (X : Fin 4096 → Fin 3072 → ℝ) (U : Fin 4096 → Fin 16 → ℝ) (h : Fin 16) (t s : Fin 4096) : ℝ :=
  wt (qR X h) (kR X h) (cR U h) t s
noncomputable def lR (X : Fin 4096 → Fin 3072 → ℝ) (U : Fin 4096 → Fin 16 → ℝ) (G : Fin 4096 → Fin 1024 → ℝ) (h : Fin 16) (t s : Fin 4096) : ℝ :=
  dlg (qR X h) (kR X h) (vR X h) (gR G h) (cR U h) t s

variable {A0 : FVec Ideal S4096x3072 .bf16} {A1 : FVec Ideal S4096x16 .f32} {A2 : FVec Ideal S4096x1024 .f32}
  {X : Fin 4096 → Fin 3072 → ℝ} {U : Fin 4096 → Fin 16 → ℝ} {G : Fin 4096 → Fin 1024 → ℝ}

theorem eR_apply (hX : ∀ r c, A0 (ix2 r c) = (X r c : EReal)) (hU : ∀ r c, A1 (ix2 r c) = (U r c : EReal))
    (h : Fin 16) (t s : Fin 4096) : eR A0 A1 (ix3 h t s) = (ex (qR X h) (kR X h) (cR U h) t s : EReal) := by
  unfold eR
  exact hex_apply (hlg_apply hX hU h t) ((hmx2_apply _ _ _).trans (hmx_apply (hlg_apply hX hU h t))) s

theorem wR_apply (hX : ∀ r c, A0 (ix2 r c) = (X r c : EReal)) (hU : ∀ r c, A1 (ix2 r c) = (U r c : EReal))
    (h : Fin 16) (t s : Fin 4096) : hwt (eR A0 A1) (ix3 h t s) = (wR X U h t s : EReal) :=
  hwt_apply (eR_apply hX hU h t) s

theorem dR_apply (hX : ∀ r c, A0 (ix2 r c) = (X r c : EReal)) (hU : ∀ r c, A1 (ix2 r c) = (U r c : EReal))
    (hG : ∀ r c, A2 (ix2 r c) = (G r c : EReal)) (h : Fin 16) (t s : Fin 4096) :
    dR A0 A1 A2 (ix3 h t s) = (lR X U G h t s : EReal) := by
  unfold dR
  refine hdlg_apply (eR_apply hX hU h t) (fun s => ?_) s
  rw [hdw_apply]
  simp only [hg_apply hG, hv_apply hX, ← EReal.coe_mul, coe_sum]
  rfl

theorem trunc_at (x : FVec Ideal S4096x1024 .f32) (i : S4096x1024.Idx) : truncf .bf16 x bitsLt_bf16_f32 i = x i := rfl

theorem resQ_apply (hX : ∀ r c, A0 (ix2 r c) = (X r c : EReal)) (hU : ∀ r c, A1 (ix2 r c) = (U r c : EReal))
    (hG : ∀ r c, A2 (ix2 r c) = (G r c : EReal)) (r : Fin 4096) (l : Fin 1024) :
    resQ A0 A1 A2 (ix2 r l) = ((∑ s : Fin 4096, lR X U G ⟨l / 64, by omega⟩ r s * (1 / 8) * kR X ⟨l / 64, by omega⟩ s ⟨l % 64, by omega⟩ : ℝ) : EReal) := by
  unfold resQ
  rw [trunc_at, unheads_apply, overKeys_apply]
  simp only [hsc_apply, dR_apply hX hU hG, hk_apply hX, ← EReal.coe_mul, coe_sum]

theorem resK_apply (hX : ∀ r c, A0 (ix2 r c) = (X r c : EReal)) (hU : ∀ r c, A1 (ix2 r c) = (U r c : EReal))
    (hG : ∀ r c, A2 (ix2 r c) = (G r c : EReal)) (r : Fin 4096) (l : Fin 1024) :
    resK A0 A1 A2 (ix2 r l) = ((∑ t : Fin 4096, lR X U G ⟨l / 64, by omega⟩ t r * (1 / 8) * qR X ⟨l / 64, by omega⟩ t ⟨l % 64, by omega⟩ : ℝ) : EReal) := by
  unfold resK
  rw [trunc_at, unheads_apply, overQueries_apply]
  simp only [hsc_apply, dR_apply hX hU hG, hq_apply hX, ← EReal.coe_mul, coe_sum]

theorem resV_apply (hX : ∀ r c, A0 (ix2 r c) = (X r c : EReal)) (hU : ∀ r c, A1 (ix2 r c) = (U r c : EReal))
    (hG : ∀ r c, A2 (ix2 r c) = (G r c : EReal)) (r : Fin 4096) (l : Fin 1024) :
    resV A0 A1 A2 (ix2 r l) = ((∑ t : Fin 4096, gR G ⟨l / 64, by omega⟩ t ⟨l % 64, by omega⟩ * wR X U ⟨l / 64, by omega⟩ t r : ℝ) : EReal) := by
  unfold resV
  rw [trunc_at, unheads_apply, overQueriesT_apply]
  simp only [wR_apply hX hU, hg_apply hG, ← EReal.coe_mul, coe_sum]

theorem resCq_apply (hX : ∀ r c, A0 (ix2 r c) = (X r c : EReal)) (hU : ∀ r c, A1 (ix2 r c) = (U r c : EReal))
    (hG : ∀ r c, A2 (ix2 r c) = (G r c : EReal)) (r : Fin 128) (t : Fin 4096) :
    resCq A0 A1 A2 (ix2 r t) = ((∑ s : Fin 4096, lR X U G ⟨r / 8, by omega⟩ t s : ℝ) : EReal) := by
  unfold resCq
  rw [rows8_apply, gateQ_apply]
  simp only [dR_apply hX hU hG, coe_sum]

theorem resCk_apply (hX : ∀ r c, A0 (ix2 r c) = (X r c : EReal)) (hU : ∀ r c, A1 (ix2 r c) = (U r c : EReal))
    (hG : ∀ r c, A2 (ix2 r c) = (G r c : EReal)) (s : Fin 4096) (l : Fin 2048) :
    resCk A0 A1 A2 (ix2 s l) = ((∑ t : Fin 4096, -lR X U G ⟨l / 128, by omega⟩ t s : ℝ) : EReal) := by
  unfold resCk
  rw [cols128_apply, gateK_apply]
  simp only [dR_apply hX hU hG, ← EReal.coe_neg, coe_sum]

/-- The output, and the logarithm of the sum of a row's exponentials. -/
noncomputable def outR (A0 : FVec Ideal S4096x3072 .bf16) (A1 : FVec Ideal S4096x16 .f32) : FVec Ideal S4096x1024 .f32 :=
  unheads (overKeys (hwt (eR A0 A1)) (hv A0))

theorem outR_apply (hX : ∀ r c, A0 (ix2 r c) = (X r c : EReal)) (hU : ∀ r c, A1 (ix2 r c) = (U r c : EReal))
    (r : Fin 4096) (l : Fin 1024) :
    outR A0 A1 (ix2 r l) = ((∑ s : Fin 4096, wR X U ⟨l / 64, by omega⟩ r s * vR X ⟨l / 64, by omega⟩ s ⟨l % 64, by omega⟩ : ℝ) : EReal) := by
  unfold outR
  rw [unheads_apply, overKeys_apply]
  simp only [wR_apply hX hU, hv_apply hX, ← EReal.coe_mul, coe_sum]

end FoxBwd
-- ==== Proof.Cut.lean ====
/-
  The tiles on the diagonal work on the queries from column `128·jj` on. Here: cutting the queries' operands to that
  range, repeating a 128-column operand across it, and adding a tile's result back to a full-width accumulator.
-/
module

public import Idealize.ShloMosaic.Lib.Pointwise
public import proofs.«01_k».proof.Proof.Tile

@[expose] public section

namespace FoxBwd

open Idealize.ShloMosaic

variable {α : Type}

theorem rowsFit (n : ℕ) (h : n < 8) : (Sh 1024 64).Slices ![128 * n, 0] (Sh (1024 - 128 * n) 64) :=
  ⟨rfl, Fin.forall_fin_two.mpr ⟨show 128 * n + (1024 - 128 * n) ≤ 1024 by omega, show 0 + 64 ≤ 64 by omega⟩⟩

theorem colsFit (a n : ℕ) (h : n < 8) : (Sh a 1024).Slices ![0, 128 * n] (Sh a (1024 - 128 * n)) :=
  ⟨rfl, Fin.forall_fin_two.mpr ⟨show 0 + a ≤ a by omega, show 128 * n + (1024 - 128 * n) ≤ 1024 by omega⟩⟩

theorem headFit (a n : ℕ) (h : n < 8) : (Sh a 1024).Slices ![0, 0] (Sh a (128 * n)) :=
  ⟨rfl, Fin.forall_fin_two.mpr ⟨show 0 + a ≤ a by omega, show 0 + 128 * n ≤ 1024 by omega⟩⟩

theorem joinFit (a n : ℕ) (h : n < 8) :
    Shape.Concatenates [Sh a (128 * n), Sh a (1024 - 128 * n)] (Sh a 1024) 1 := by
  refine ⟨by simp, ?_, ?_⟩
  · intro s hs
    rcases List.mem_cons.mp hs with rfl | hs
    · exact ⟨rfl, fun b hb => by match b with | ⟨0, _⟩ => rfl | ⟨1, _⟩ => exact absurd rfl hb⟩
    · rcases List.mem_singleton.mp hs with rfl
      exact ⟨rfl, fun b hb => by match b with | ⟨0, _⟩ => rfl | ⟨1, _⟩ => exact absurd rfl hb⟩
  · show 128 * n + (1024 - 128 * n + 0) = 1024
    omega

theorem spreadFit (n : ℕ) (h : n < 7) (x : (Sh 128 128).Idx → α) :
    Shape.Concatenates ((List.replicate (8 - n) (⟨Sh 128 128, x⟩ : (s : Shape) × (s.Idx → α))).map (·.1))
      (Sh 128 (1024 - 128 * n)) 1 := by
  rw [List.map_replicate]
  refine ⟨by rw [List.length_replicate]; omega, ?_, ?_⟩
  · intro s hs
    obtain rfl := List.eq_of_mem_replicate hs
    exact ⟨rfl, fun b hb => by match b with | ⟨0, _⟩ => rfl | ⟨1, _⟩ => exact absurd rfl hb⟩
  · rw [List.map_replicate, List.sum_replicate]
    show (8 - n) * 128 = 1024 - 128 * n
    omega

/-- The rows from `128·jj` on. -/
def cutRows : (jj : ℕ) → jj < 8 → ((Sh 1024 64).Idx → α) → (Sh (1024 - 128 * jj) 64).Idx → α
  | 0, _, v => v
  | n + 1, h, v => extractStridedSlice (Sh (1024 - 128 * (n + 1)) 64) ![128 * (n + 1), 0] v (rowsFit _ h)

/-- The columns from `128·jj` on. -/
def cutCols {a : ℕ} : (jj : ℕ) → jj < 8 → ((Sh a 1024).Idx → α) → (Sh a (1024 - 128 * jj)).Idx → α
  | 0, _, v => v
  | n + 1, h, v => extractStridedSlice (Sh a (1024 - 128 * (n + 1))) ![0, 128 * (n + 1)] v (colsFit a _ h)

/-- 128 columns, repeated. -/
def spread (jj : ℕ) (h : jj < 8) (v : (Sh 128 128).Idx → α) : (Sh 128 (1024 - 128 * jj)).Idx → α :=
  if h7 : jj = 7 then (by subst h7; exact v)
  else concatenate (Sh 128 (1024 - 128 * jj)) 1 (List.replicate (8 - jj) ⟨Sh 128 128, v⟩) (spreadFit jj (by omega) v)

/-- An accumulator of 1024 columns with `δ` added from column `128·jj` on. -/
noncomputable def addCols {a : ℕ} : (jj : ℕ) → jj < 8 → FVec Ideal (Sh a 1024) .f32 →
    FVec Ideal (Sh a (1024 - 128 * jj)) .f32 → FVec Ideal (Sh a 1024) .f32
  | 0, _, v, d => addf v d
  | n + 1, h, v, d => concatenate (Sh a 1024) 1
      [⟨Sh a (128 * (n + 1)), extractStridedSlice (Sh a (128 * (n + 1))) ![0, 0] v (headFit a _ h)⟩,
       ⟨Sh a (1024 - 128 * (n + 1)), addf (cutCols (n + 1) h v) d⟩] (joinFit a _ h)

theorem cutRows_apply (jj : ℕ) (h : jj < 8) (v : (Sh 1024 64).Idx → α) (t : Fin (1024 - 128 * jj)) (d : Fin 64) :
    cutRows jj h v (ix2 t d) = v (ix2 ⟨128 * jj + t, by omega⟩ d) := by
  match jj, h, t with
  | 0, h, t => exact congrArg v (congrArg (ix2 · d) (Fin.ext (by simp)))
  | n + 1, h, t =>
    unfold cutRows extractStridedSlice
    refine congrArg v (funext fun a => Fin.ext ?_)
    match a with
    | ⟨0, _⟩ => rfl
    | ⟨1, _⟩ => exact Nat.zero_add _

theorem cutCols_apply {a : ℕ} (jj : ℕ) (h : jj < 8) (v : (Sh a 1024).Idx → α) (d : Fin a) (t : Fin (1024 - 128 * jj)) :
    cutCols jj h v (ix2 d t) = v (ix2 d ⟨128 * jj + t, by omega⟩) := by
  match jj, h, t with
  | 0, h, t => exact congrArg v (congrArg (ix2 d) (Fin.ext (by simp)))
  | n + 1, h, t =>
    unfold cutCols extractStridedSlice
    refine congrArg v (funext fun a => Fin.ext ?_)
    match a with
    | ⟨0, _⟩ => exact Nat.zero_add _
    | ⟨1, _⟩ => rfl

theorem spread_apply (jj : ℕ) (h : jj < 8) (v : (Sh 128 128).Idx → α) (r : Fin 128) (t : Fin (1024 - 128 * jj)) :
    spread jj h v (ix2 r t) = v (ix2 r ⟨t % 128, Nat.mod_lt _ (by norm_num)⟩) := by
  unfold spread
  by_cases h7 : jj = 7
  · subst h7
    refine congrArg v (congrArg (β := (Sh 128 128).Idx) (fun u : Fin 128 => ix2 r u) (Fin.ext (Nat.mod_eq_of_lt (show t.val < 128 by omega)).symm))
  · rw [dif_neg h7]
    refine concatenate_replicate_apply (t := Sh 128 (1024 - 128 * jj)) (1 : Fin 2) (8 - jj) v (spreadFit jj (by omega) v)
      rfl (ix2 r t) (ix2 r ⟨t % 128, Nat.mod_lt _ (by norm_num)⟩) rfl ?_
    intro b hb
    match b with
    | ⟨0, _⟩ => rfl
    | ⟨1, _⟩ => exact absurd rfl hb

theorem addCols_apply {a : ℕ} (jj : ℕ) (h : jj < 8) (v : FVec Ideal (Sh a 1024) .f32)
    (δ : FVec Ideal (Sh a (1024 - 128 * jj)) .f32) (d : Fin a) (t : Fin 1024) :
    addCols jj h v δ (ix2 d t)
      = v (ix2 d t) + if ht : 128 * jj ≤ t then δ (ix2 d ⟨t - 128 * jj, by omega⟩) else 0 := by
  match jj, h, δ with
  | 0, h, δ =>
    rw [dif_pos (by omega)]
    exact congrArg (v (ix2 d t) + δ ·) (congrArg (ix2 d) (Fin.ext (by simp)))
  | n + 1, h, δ =>
    show concatenate (Sh a 1024) 1
      [⟨Sh a (128 * (n + 1)), extractStridedSlice (Sh a (128 * (n + 1))) ![0, 0] v (headFit a _ h)⟩,
       ⟨Sh a (1024 - 128 * (n + 1)), addf (cutCols (n + 1) h v) δ⟩] (joinFit a _ h) (ix2 d t) = _
    rw [concatenate_pair_apply]
    by_cases ht : 128 * (n + 1) ≤ t
    · rw [dif_pos ht]
      refine (dif_neg (show ¬ (ix2 d t 1).val < 128 * (n + 1) from by show ¬ t.val < _; omega)).trans ?_
      have e := cutCols_apply (n + 1) h v d ⟨t - 128 * (n + 1), by omega⟩
      have e2 : (⟨128 * (n + 1) + (t.val - 128 * (n + 1)), by omega⟩ : Fin 1024) = t := Fin.ext (by simp; omega)
      rw [e2] at e
      rw [← e]
      refine congrArg (addf (cutCols (n + 1) h v) δ) (funext fun b => Fin.ext ?_)
      match b with
      | ⟨0, _⟩ => rfl
      | ⟨1, _⟩ => rfl
    · rw [dif_neg ht, add_zero]
      refine (dif_pos (show (ix2 d t 1).val < 128 * (n + 1) from by show t.val < _; omega)).trans ?_
      unfold extractStridedSlice
      refine congrArg v (funext fun a => Fin.ext ?_)
      match a with
      | ⟨0, _⟩ => exact Nat.zero_add _
      | ⟨1, _⟩ => exact Nat.zero_add _

end FoxBwd
-- ==== Proof.Model.lean ====
/-
  What one grid point computes, in numbers: the entries of its blocks are read at natural-number coordinates, and the
  weights and logit gradients of a (key, query) pair, and their sums, are stated with them.
-/
module

public import proofs.«01_k».proof.Proof.Cut

@[expose] public section

namespace FoxBwd

open Idealize.ShloMosaic

/-- An entry of an array, zero outside. -/
noncomputable def rd {a b : ℕ} (x : (Sh a b).Idx → EReal) (r c : ℕ) : EReal :=
  if h : r < a ∧ c < b then x (ix2 ⟨r, h.1⟩ ⟨c, h.2⟩) else 0

theorem rd_of {a b : ℕ} (x : (Sh a b).Idx → EReal) {r c : ℕ} (hr : r < a) (hc : c < b) :
    rd x r c = x (ix2 ⟨r, hr⟩ ⟨c, hc⟩) := dif_pos ⟨hr, hc⟩

/-- The blocks that a grid point reads: the queries' tile (`q`, `g` the output's gradient, `o`, `ls`, `cq`) and the whole
    sequence of keys (`k`, `v`, `ck`), and the number of the queries' tile. -/
structure Blk where
  q : (Sh 1024 128).Idx → EReal
  k : (Sh 4096 128).Idx → EReal
  v : (Sh 4096 128).Idx → EReal
  g : (Sh 1024 128).Idx → EReal
  o : (Sh 1024 128).Idx → EReal
  ls : (Sh 16 1024).Idx → EReal
  cq : (Sh 16 1024).Idx → EReal
  ck : (Sh 4096 256).Idx → EReal
  qi : ℕ

/-- The scale of the scores, 1/8. -/
noncomputable def c8 : EReal := Ideal.ofBits .f32 0x3E000000#32

variable (B : Blk) (hh : ℕ)

/-- The scaled query. -/
noncomputable def qsM (t d : ℕ) : EReal := rd B.q t (64 * hh + d) * c8

/-- The exponent for key `s` and query `t`. -/
noncomputable def scM (s t : ℕ) : EReal :=
  (∑ d : Fin 64, rd B.k s (64 * hh + d) * qsM B hh t d) + (rd B.cq (8 * hh) t - rd B.ck s (128 * hh + t % 128))
    - rd B.ls (8 * hh) t

/-- The inner product of the output's gradient and the output. -/
noncomputable def dlM (t : ℕ) : EReal := ∑ d : Fin 64, rd B.g t (64 * hh + d) * rd B.o t (64 * hh + d)

/-- The attention weight, zero where the key comes after the query. -/
noncomputable def pmM (s t : ℕ) : EReal := if 1024 * B.qi + t < s then 0 else Ideal.exp (scM B hh s t)

/-- The gradient of the logit. -/
noncomputable def dsM (s t : ℕ) : EReal :=
  pmM B hh s t * ((∑ d : Fin 64, rd B.v s (64 * hh + d) * rd B.g t (64 * hh + d)) - dlM B hh t)

/-- The contribution of this queries' tile to the keys' gradient (before its scale, which is in `qsM`). -/
noncomputable def dkM (s d : ℕ) : EReal := ∑ t ∈ Finset.range 1024, dsM B hh s t * qsM B hh t d

/-- The contribution of this queries' tile to the values' gradient. -/
noncomputable def dvM (s d : ℕ) : EReal := ∑ t ∈ Finset.range 1024, pmM B hh s t * rd B.g t (64 * hh + d)

/-- The contribution of this queries' tile to the keys' forget-gate gradient, with its sign turned. -/
noncomputable def dcM (s : ℕ) : EReal := ∑ t ∈ Finset.range 1024, dsM B hh s t

/-- The queries' gradient from the keys of the first `n` tiles, before the scale. -/
noncomputable def dqM (n d t : ℕ) : EReal := ∑ s ∈ Finset.range (128 * n), rd B.k s (64 * hh + d) * dsM B hh s t

/-- The queries' forget-gate gradient from the keys of the first `n` tiles. -/
noncomputable def dcqM (n t : ℕ) : EReal := ∑ s ∈ Finset.range (128 * n), dsM B hh s t

theorem dsM_of_lt {s t : ℕ} (h : 1024 * B.qi + t < s) : dsM B hh s t = 0 := by
  unfold dsM pmM
  rw [if_pos h, zero_mul]

/-- The operands that a head's tiles share are those of the block. -/
structure HeadOk (Q G : (Sh 1024 64).Idx → EReal) (DL CQ LS : (Sh 1 1024).Idx → EReal) : Prop where
  q : ∀ (t : Fin 1024) (d : Fin 64), Q (ix2 t d) = qsM B hh t d
  g : ∀ (t : Fin 1024) (d : Fin 64), G (ix2 t d) = rd B.g t (64 * hh + d)
  dl : ∀ t : Fin 1024, DL (ix2 0 t) = dlM B hh t
  cq : ∀ t : Fin 1024, CQ (ix2 0 t) = rd B.cq (8 * hh) t
  ls : ∀ t : Fin 1024, LS (ix2 0 t) = rd B.ls (8 * hh) t

/-- The operands of key tile `j` are those of the block. -/
structure TileOk (j : ℕ) (K V : (Sh 128 64).Idx → EReal) (C : (Sh 128 128).Idx → EReal) : Prop where
  k : ∀ (r : Fin 128) (d : Fin 64), K (ix2 r d) = rd B.k (128 * j + r) (64 * hh + d)
  v : ∀ (r : Fin 128) (d : Fin 64), V (ix2 r d) = rd B.v (128 * j + r) (64 * hh + d)
  c : ∀ (r c : Fin 128), C (ix2 r c) = rd B.ck (128 * j + r) (128 * hh + c)

/-- A tile of `128 × (1024 - 128·jj)` holds the values of `f` at its keys and queries. -/
def Holds (jj j : ℕ) (f : ℕ → ℕ → EReal) (p : (Sh 128 (1024 - 128 * jj)).Idx → EReal) : Prop :=
  ∀ (r : Fin 128) (t : Fin (1024 - 128 * jj)), p (ix2 r t) = f (128 * j + r) (128 * jj + t)

variable {B hh}

/-- A sum over the queries from `128·jj` on is the sum over all of them, where the earlier ones contribute nothing. -/
theorem sum_tail {jj : ℕ} (h : jj < 8) (f : ℕ → EReal) (h0 : ∀ t, t < 128 * jj → f t = 0) :
    ∑ t : Fin (1024 - 128 * jj), f (128 * jj + t) = ∑ t ∈ Finset.range 1024, f t := by
  have e : 1024 = 128 * jj + (1024 - 128 * jj) := by omega
  rw [Fin.sum_univ_eq_sum_range (fun t => f (128 * jj + t))]
  conv_rhs => rw [e, Finset.sum_range_add]
  rw [Finset.sum_eq_zero (fun t ht => h0 t (Finset.mem_range.mp ht)), zero_add]

section tiles
variable {jj j : ℕ} {hj : jj < 8} {Q G : FVec Ideal (Sh 1024 64) .bf16} {DL CQ LS : FVec Ideal (Sh 1 1024) .f32}
  {K V : FVec Ideal (Sh 128 64) .bf16} {C : FVec Ideal (Sh 128 128) .f32}

theorem holds_sc (H : HeadOk B hh Q G DL CQ LS) (T : TileOk B hh j K V C)
    (hb : (Sh 1 (1024 - 128 * jj)).Broadcasts (Sh 128 (1024 - 128 * jj))) (hs : (Sh 128 128).ShapeCasts (Sh 128 128)) :
    Holds jj j (scM B hh) (tS hb (cutRows jj hj Q) (cutCols jj hj CQ) (cutCols jj hj LS)
      (spread jj hj (shapeCast _ C hs)) K) := by
  intro r t
  rw [tS_apply, cutCols_apply, cutCols_apply, spread_apply, shapeCast_self, H.cq, H.ls, T.c]
  unfold scM
  congr 2
  · exact Finset.sum_congr rfl fun d _ => by rw [cutRows_apply, H.q, T.k]
  · show _ - rd B.ck _ (128 * hh + t.val % 128) = _
    rw [show (128 * jj + t.val) % 128 = t.val % 128 by omega]

theorem holds_exp (hle : 128 * j + 127 ≤ 1024 * B.qi) {s : FVec Ideal (Sh 128 (1024 - 128 * jj)) .f32}
    (h : Holds jj j (scM B hh) s) : Holds jj j (pmM B hh) (exp s) := by
  intro r t
  show Ideal.exp (s (ix2 r t)) = _
  rw [h r t]
  exact (if_neg (by have := r.isLt; omega)).symm

theorem holds_pm {m : IVec (Sh 128 1024) 1}
    (hm : ∀ (r : Fin 128) (t : Fin 1024), m (ix2 r t) = 1 ↔ 1024 * B.qi + t < 128 * j + r)
    {s : FVec Ideal (Sh 128 (1024 - 128 * jj)) .f32} (h : Holds jj j (scM B hh) s) :
    Holds jj j (pmM B hh) (tPm (cutCols jj hj m) s) := by
  intro r t
  rw [tPm_apply, h r t, cutCols_apply]
  exact if_congr (hm r _) rfl rfl

theorem holds_ds (H : HeadOk B hh Q G DL CQ LS) (T : TileOk B hh j K V C)
    (hb : (Sh 1 (1024 - 128 * jj)).Broadcasts (Sh 128 (1024 - 128 * jj)))
    {p : FVec Ideal (Sh 128 (1024 - 128 * jj)) .f32} (h : Holds jj j (pmM B hh) p) :
    Holds jj j (dsM B hh) (tDs hb p (cutRows jj hj G) (cutCols jj hj DL) V) := by
  intro r t
  rw [tDs_apply, h r t, cutCols_apply, H.dl]
  unfold dsM
  congr 2
  exact Finset.sum_congr rfl fun d _ => by rw [cutRows_apply, H.g, T.v]

variable (hv : jj = 0 ∨ 128 * j = 1024 * B.qi + 128 * jj)
include hv

theorem before {t : ℕ} (r : ℕ) (ht : t < 128 * jj) : 1024 * B.qi + t < 128 * j + r := by omega

theorem dk_step (hq : ∀ (t : Fin 1024) (d : Fin 64), Q (ix2 t d) = qsM B hh t d) (hs : (Sh 128 64).ShapeCasts (Sh 128 64))
    (ht : FTy.bf16.bits < FTy.f32.bits)
    {p : FVec Ideal (Sh 128 (1024 - 128 * jj)) .f32} (h : Holds jj j (dsM B hh) p) (old : FVec Ideal (Sh 128 64) .f32)
    (r : Fin 128) (d : Fin 64) :
    tDk hs ht p (cutRows jj hj Q) old (ix2 r d) = old (ix2 r d) + dkM B hh (128 * j + r) d := by
  rw [tDk_apply]
  unfold dkM
  rw [← sum_tail hj _ (fun t h' => by rw [dsM_of_lt B hh (before hv r h'), zero_mul])]
  congr 1
  exact Finset.sum_congr rfl fun t _ => by rw [h r t, cutRows_apply, hq]

theorem dv_step (hg : ∀ (t : Fin 1024) (d : Fin 64), G (ix2 t d) = rd B.g t (64 * hh + d)) (hs : (Sh 128 64).ShapeCasts (Sh 128 64))
    (ht : FTy.bf16.bits < FTy.f32.bits)
    {p : FVec Ideal (Sh 128 (1024 - 128 * jj)) .f32} (h : Holds jj j (pmM B hh) p) (old : FVec Ideal (Sh 128 64) .f32)
    (r : Fin 128) (d : Fin 64) :
    tDk hs ht p (cutRows jj hj G) old (ix2 r d) = old (ix2 r d) + dvM B hh (128 * j + r) d := by
  rw [tDk_apply]
  unfold dvM
  rw [← sum_tail hj _ (fun t h' => by rw [show pmM B hh (128 * j + r) t = 0 from if_pos (before hv r h'), zero_mul])]
  congr 1
  exact Finset.sum_congr rfl fun t _ => by rw [h r t, cutRows_apply, hg]

theorem dc_step (h2 : (Sh 128 128).ShapeCasts (Sh 128 128)) (hr : (Sh 128 (1024 - 128 * jj)).Reduces [1] ⟨1, ![128]⟩)
    (h1 : (⟨1, ![128]⟩ : Shape).ShapeCasts (Sh 128 1)) (h3 : (Sh 128 1).ShapeCasts (Sh 128 1))
    (hb : (Sh 128 1).Broadcasts (Sh 128 128)) (hj : jj < 8)
    {p : FVec Ideal (Sh 128 (1024 - 128 * jj)) .f32} (h : Holds jj j (dsM B hh) p) (old : FVec Ideal (Sh 128 128) .f32)
    (r c : Fin 128) :
    tDck h2 hr h1 h3 hb p old (ix2 r c) = old (ix2 r c) + -dcM B hh (128 * j + r) := by
  rw [tDck_apply, sub_eq_add_neg]
  unfold dcM
  rw [← sum_tail hj _ (fun t h' => dsM_of_lt B hh (before hv r h'))]
  congr 2
  exact Finset.sum_congr rfl fun t _ => h r t

theorem dq_step (hk : ∀ (r : Fin 128) (d : Fin 64), K (ix2 r d) = rd B.k (128 * j + r) (64 * hh + d)) (ht : FTy.bf16.bits < FTy.f32.bits)
    {p : FVec Ideal (Sh 128 (1024 - 128 * jj)) .f32} (h : Holds jj j (dsM B hh) p) {dq : FVec Ideal (Sh 64 1024) .f32}
    (hd : ∀ (d : Fin 64) (t : Fin 1024), dq (ix2 d t) = dqM B hh j d t) (d : Fin 64) (t : Fin 1024) :
    addCols jj hj dq (tDq ht K p) (ix2 d t) = dqM B hh (j + 1) d t := by
  rw [addCols_apply, hd]
  unfold dqM
  rw [show 128 * (j + 1) = 128 * j + 128 by ring, Finset.sum_range_add]
  congr 1
  by_cases h' : 128 * jj ≤ t
  · rw [dif_pos h', tDq_apply, ← Fin.sum_univ_eq_sum_range (fun s => rd B.k (128 * j + s) (64 * hh + d) * dsM B hh (128 * j + s) t)]
    refine Finset.sum_congr rfl fun r _ => ?_
    rw [hk, h r _]
    show _ * dsM B hh _ (128 * jj + (t.val - 128 * jj)) = _
    rw [Nat.add_sub_cancel' h']
  · rw [dif_neg h']
    exact (Finset.sum_eq_zero fun s _ => by
      rw [dsM_of_lt B hh (before hv s (Nat.lt_of_not_le h')), mul_zero]).symm

theorem dcq_step (hr : (Sh 128 (1024 - 128 * jj)).Reduces [0] ⟨1, ![1024 - 128 * jj]⟩)
    (h1 : (⟨1, ![1024 - 128 * jj]⟩ : Shape).ShapeCasts (Sh 1 (1024 - 128 * jj)))
    {p : FVec Ideal (Sh 128 (1024 - 128 * jj)) .f32} (h : Holds jj j (dsM B hh) p) {dq : FVec Ideal (Sh 1 1024) .f32}
    (hd : ∀ t : Fin 1024, dq (ix2 0 t) = dcqM B hh j t) (t : Fin 1024) :
    addCols jj hj dq (tDcq hr h1 p) (ix2 0 t) = dcqM B hh (j + 1) t := by
  rw [addCols_apply, hd]
  unfold dcqM
  rw [show 128 * (j + 1) = 128 * j + 128 by ring, Finset.sum_range_add]
  congr 1
  by_cases h' : 128 * jj ≤ t
  · rw [dif_pos h', tDcq_apply, ← Fin.sum_univ_eq_sum_range (fun s => dsM B hh (128 * j + s) t)]
    refine Finset.sum_congr rfl fun r _ => ?_
    rw [h r _]
    show dsM B hh _ (128 * jj + (t.val - 128 * jj)) = _
    rw [Nat.add_sub_cancel' h']
  · rw [dif_neg h']
    exact (Finset.sum_eq_zero fun s _ => dsM_of_lt B hh (before hv s (Nat.lt_of_not_le h'))).symm

end tiles

end FoxBwd
-- ==== Proof.Pieces.lean ====
/-
  Buffers of two axes that are read and written by rectangles: a load from known contents, and one more write over known
  contents, in natural-number coordinates.
-/
module

public import Idealize.ShloMosaic.Lib.WritesUnit
public import Idealize.ShloMosaic.Lib.WholeRead
public import proofs.«01_k».proof.Proof.Model

@[expose] public section

namespace FoxBwd

open Idealize.ShloMosaic

variable {sig : RefSig} {κ : Kind} {sp : Space} {A W a b : ℕ} {e : EltTy}

/-- The contents of a buffer, through its view, are `C`. -/
def Cont (m : Memref sig κ sp (Sh A W) .f32) (f : m.view.ty.Contents (Elt Ideal)) (C : ℕ → ℕ → EReal) : Prop :=
  ∀ (s : Fin A) (l : Fin W), m.view.read (Elt Ideal) f (ix2 s l) = C s l

variable {m : Memref sig κ sp (Sh A W) .f32}

theorem load_cont {f : m.view.ty.Contents (Elt Ideal)} {C : ℕ → ℕ → EReal} (hC : Cont m f C)
    {off : Fin 2 → ℕ} {s0 l0 : ℕ} (ho : off = ![s0, l0]) (inb : ∀ x, off x + (Sh a b).size x ≤ (Sh A W).size x)
    (r : Fin a) (d : Fin b) :
    View.readAt (Elt Ideal) m.view (Rect.unit (s := Sh A W) off (Sh a b).size inb).toLoadRect f (ix2 r d)
      = C (s0 + r) (l0 + d) := by
  subst ho
  have h0 : s0 + a ≤ A := inb 0
  have h1 : l0 + b ≤ W := inb 1
  refine Eq.trans ?_ (hC ⟨s0 + r, by omega⟩ ⟨l0 + d, by omega⟩)
  rw [View.readAt_apply]
  refine congrArg (m.view.read (Elt Ideal) f) (funext fun x => Fin.ext ?_)
  match x with
  | ⟨0, _⟩ => exact congrArg (s0 + ·) (Nat.one_mul _)
  | ⟨1, _⟩ => exact congrArg (l0 + ·) (Nat.one_mul _)

theorem write_cont {f : m.view.ty.Contents (Elt Ideal)} {L : List (View.Piece (Elt Ideal) (Sh A W) .f32)}
    {C δ : ℕ → ℕ → EReal} (hC : Cont m (m.view.writes (Elt Ideal) f L) C)
    {off : Fin 2 → ℕ} {s0 l0 : ℕ} (ho : off = ![s0, l0]) (inb : ∀ x, off x + (Sh a b).size x ≤ (Sh A W).size x)
    {p : (Sh a b).Idx → EReal} (hp : ∀ (r : Fin a) (d : Fin b), p (ix2 r d) = δ (s0 + r) (l0 + d)) :
    Cont m (m.view.writes (Elt Ideal) f (⟨Rect.unit (s := Sh A W) off (Sh a b).size inb, p⟩ :: L))
      (fun s l => if (s0 ≤ s ∧ s < s0 + a) ∧ (l0 ≤ l ∧ l < l0 + b) then δ s l else C s l) := by
  intro s l
  rw [View.read_writes_cons_unit m.view f inb p L (ix2 s l) ho]
  beta_reduce
  by_cases h : (s0 ≤ s.val ∧ s.val < s0 + a) ∧ (l0 ≤ l.val ∧ l.val < l0 + b)
  · rw [if_pos h, dif_pos (Fin.forall_fin_two.mpr ⟨h.1, h.2⟩)]
    have e := hp ⟨s - s0, by omega⟩ ⟨l - l0, by omega⟩
    rw [show s0 + (s.val - s0) = s by omega, show l0 + (l.val - l0) = l by omega] at e
    rw [← e]
    refine congrArg p (funext fun x => Fin.ext ?_)
    match x with
    | ⟨0, _⟩ => rfl
    | ⟨1, _⟩ => rfl
  · rw [if_neg h, dif_neg (fun h' => h (Fin.forall_fin_two.mp h'))]
    exact hC s l

/-- A load from a whole buffer that holds `x`. -/
theorem load_whole {m : Memref sig κ sp (Sh A W) e} (h : m.IsWhole) (x : (Sh A W).Idx → Elt Ideal e)
    {off : Fin 2 → ℕ} {s0 l0 : ℕ} (ho : off = ![s0, l0]) (inb : ∀ x, off x + (Sh a b).size x ≤ (Sh A W).size x)
    (r : Fin a) (d : Fin b) (h0 : s0 + r < A) (h1 : l0 + d < W) :
    View.readAt (Elt Ideal) m.view (Rect.unit (s := Sh A W) off (Sh a b).size inb).toLoadRect
      (h.unread (Val := Elt Ideal) x) (ix2 r d) = x (ix2 ⟨s0 + r, h0⟩ ⟨l0 + d, h1⟩) := by
  subst ho
  rw [h.readAt_unread]
  refine congrArg x (funext fun y => Fin.ext ?_)
  match y with
  | ⟨0, _⟩ => exact congrArg (s0 + ·) (Nat.one_mul _)
  | ⟨1, _⟩ => exact congrArg (l0 + ·) (Nat.one_mul _)

theorem load_f32 {m : Memref sig κ sp (Sh A W) .f32} (h : m.IsWhole) (x : FVec Ideal (Sh A W) .f32)
    {off : Fin 2 → ℕ} {s0 l0 : ℕ} (ho : off = ![s0, l0]) (inb : ∀ x, off x + (Sh a b).size x ≤ (Sh A W).size x)
    (r : Fin a) (d : Fin b) :
    View.readAt (Elt Ideal) m.view (Rect.unit (s := Sh A W) off (Sh a b).size inb).toLoadRect
      (h.unread (Val := Elt Ideal) x) (ix2 r d) = rd x (s0 + r) (l0 + d) := by
  have h0 : off 0 + a ≤ A := inb 0
  have h1 : off 1 + b ≤ W := inb 1
  rw [ho] at h0 h1
  have h0' : s0 + r.val < A := lt_of_lt_of_le (Nat.add_lt_add_left r.isLt s0) h0
  have h1' : l0 + d.val < W := lt_of_lt_of_le (Nat.add_lt_add_left d.isLt l0) h1
  rw [rd_of x h0' h1']
  exact load_whole h x ho inb r d h0' h1'

theorem load_bf16 {m : Memref sig κ sp (Sh A W) .bf16} (h : m.IsWhole) (x : FVec Ideal (Sh A W) .bf16)
    {off : Fin 2 → ℕ} {s0 l0 : ℕ} (ho : off = ![s0, l0]) (inb : ∀ x, off x + (Sh a b).size x ≤ (Sh A W).size x)
    (r : Fin a) (d : Fin b) :
    View.readAt (Elt Ideal) m.view (Rect.unit (s := Sh A W) off (Sh a b).size inb).toLoadRect
      (h.unread (Val := Elt Ideal) x) (ix2 r d) = rd x (s0 + r) (l0 + d) := by
  have h0 : off 0 + a ≤ A := inb 0
  have h1 : off 1 + b ≤ W := inb 1
  rw [ho] at h0 h1
  have h0' : s0 + r.val < A := lt_of_lt_of_le (Nat.add_lt_add_left r.isLt s0) h0
  have h1' : l0 + d.val < W := lt_of_lt_of_le (Nat.add_lt_add_left d.isLt l0) h1
  rw [rd_of x h0' h1']
  exact load_whole h x ho inb r d h0' h1'

end FoxBwd
-- ==== Proof.Mask.lean ====
/-
  The causal mask of the tiles on the diagonal, and the shape facts that a tile of any width needs.
-/
module

public import proofs.«01_k».proof.Proof.Model

@[expose] public section

namespace FoxBwd

open Idealize.ShloMosaic

theorem bcFit (w : ℕ) : (Sh 1 w).Broadcasts (Sh 128 w) :=
  ⟨le_rfl, Fin.forall_fin_two.mpr ⟨.inl rfl, .inr fun _ => rfl⟩⟩

theorem rowSumFit (w : ℕ) : (Sh 128 w).Reduces [1] ⟨1, ![128]⟩ :=
  ⟨rfl, Nat.one_pos, fun b => by match b with | ⟨0, _⟩ => rfl⟩

theorem colSumFit (w : ℕ) : (Sh 128 w).Reduces [0] ⟨1, ![w]⟩ :=
  ⟨rfl, Nat.one_pos, fun b => by match b with | ⟨0, _⟩ => rfl⟩

theorem unitFit (w : ℕ) : (⟨1, ![w]⟩ : Shape).ShapeCasts (Sh 1 w) := by
  simp [Shape.ShapeCasts, Shape.numel]

/-- The mask of key tile `8·arg1 + jj` against query tile `arg1`: whether the key comes after the query. -/
def maskV (h0 : (Sh 128 1024).Iotas .tc 32 [0]) (h1 : (Sh 128 1024).Iotas .tc 32 [1]) (arg1 jj : BitVec 32) : IVec (Sh 128 1024) 1 :=
  cmpi .sgt (addi (subi (iota .tc (Sh 128 1024) 32 [0] h0) (iota .tc (Sh 128 1024) 32 [1] h1))
    (broadcast (Sh 128 1024) (Scalar.subi (Scalar.muli (Scalar.addi (Scalar.muli arg1 8#32) jj) 128#32)
      (Scalar.muli arg1 1024#32)))) (broadcast (Sh 128 1024) 0#32)

theorem maskV_apply (h0 h1) (qi jj : ℕ) (hq : qi < 4) (hj : jj < 8) (r : Fin 128) (t : Fin 1024) :
    maskV h0 h1 (BitVec.ofNat 32 qi) (BitVec.ofNat 32 jj) (ix2 r t) = 1
      ↔ 1024 * qi + t.val < 128 * (8 * qi + jj) + r.val := by
  pointwise [maskV]
  have e : Scalar.subi (Scalar.muli (Scalar.addi (Scalar.muli (BitVec.ofNat 32 qi) 8#32) (BitVec.ofNat 32 jj)) 128#32)
      (Scalar.muli (BitVec.ofNat 32 qi) 1024#32) = BitVec.ofNat 32 (128 * jj) := by
    show (BitVec.ofNat 32 qi * 8#32 + BitVec.ofNat 32 jj) * 128#32 - BitVec.ofNat 32 qi * 1024#32 = _
    apply BitVec.eq_of_toNat_eq
    simp only [BitVec.toNat_sub, BitVec.toNat_mul, BitVec.toNat_add, BitVec.toNat_ofNat]
    omega
  rw [e]
  have hr := r.isLt
  have ht := t.isLt
  have e2 : (IntOp.addi (IntOp.subi (BitVec.ofNat 32 r.val) (BitVec.ofNat 32 t.val)) (BitVec.ofNat 32 (128 * jj))).toInt
      = (r.val : ℤ) - t.val + 128 * jj := by
    show (BitVec.ofNat 32 r.val - BitVec.ofNat 32 t.val + BitVec.ofNat 32 (128 * jj)).toInt = _
    rw [BitVec.toInt_eq_toNat_cond]
    simp only [BitVec.toNat_sub, BitVec.toNat_add, BitVec.toNat_ofNat]
    split <;> omega
  show BitVec.ofBool (decide ((0#32 : BitVec 32).toInt < BitVec.toInt _)) = 1#1 ↔ _
  rw [e2, show (0#32 : BitVec 32).toInt = 0 from rfl]
  by_cases h : (0 : ℤ) < (r.val : ℤ) - t.val + 128 * jj
  · rw [decide_eq_true h]
    exact ⟨fun _ => by omega, fun _ => rfl⟩
  · rw [decide_eq_false h]
    exact ⟨fun h' => absurd h' (by decide), fun h' => by omega⟩

end FoxBwd
-- ==== Proof.Steps.lean ====
/-
  A key tile's two writes (one per head) into a buffer of all the keys' rows: from "the rows of the first `n` tiles have
  their contribution added" to the same for `n + 1`.
-/
module

public import proofs.«01_k».proof.Proof.Pieces
public import proofs.«01_k».proof.Proof.Mask

@[expose] public section

namespace FoxBwd

open Idealize.ShloMosaic

theorem colFit : (Sh 128 1).Broadcasts (Sh 128 128) :=
  ⟨le_rfl, Fin.forall_fin_two.mpr ⟨.inr fun _ => rfl, .inl rfl⟩⟩

theorem narrow : FTy.bf16.bits < FTy.f32.bits := by decide

/-- `C` with `δ` added to the rows of the first `n` tiles. -/
noncomputable def addTo (C δ : ℕ → ℕ → EReal) (n : ℕ) (s l : ℕ) : EReal := C s l + if s < 128 * n then δ s l else 0

theorem addTo_fresh (C δ : ℕ → ℕ → EReal) {n s : ℕ} (h : 128 * n ≤ s) (l : ℕ) : addTo C δ n s l = C s l := by
  unfold addTo
  rw [if_neg (by omega), add_zero]

variable {sig : RefSig} {κ : Kind} {sp : Space} {A b : ℕ} {m : Memref sig κ sp (Sh A (2 * b)) .f32}
  {f : m.view.ty.Contents (Elt Ideal)} {L : List (View.Piece (Elt Ideal) (Sh A (2 * b)) .f32)} {C δ : ℕ → ℕ → EReal}
  {n : ℕ} {off0 off1 : Fin 2 → ℕ}

theorem load_fresh {g : m.view.ty.Contents (Elt Ideal)} {k l0 : ℕ} (hC : Cont m g (addTo C δ k)) (hk : k ≤ n)
    (ho : off0 = ![128 * n, l0])
    (inb : ∀ x, off0 x + (Sh 128 b).size x ≤ (Sh A (2 * b)).size x) (r : Fin 128) (d : Fin b) :
    View.readAt (Elt Ideal) m.view (Rect.unit (s := Sh A (2 * b)) off0 (Sh 128 b).size inb).toLoadRect g (ix2 r d)
      = C (128 * n + r) (l0 + d) :=
  (load_cont hC ho inb r d).trans (addTo_fresh C δ (by omega) _)

theorem load_mid (hC : Cont m (m.view.writes (Elt Ideal) f L) (addTo C δ n)) (ho0 : off0 = ![128 * n, 0])
    (inb0 : ∀ x, off0 x + (Sh 128 b).size x ≤ (Sh A (2 * b)).size x) (ho1 : off1 = ![128 * n, b])
    (inb1 : ∀ x, off1 x + (Sh 128 b).size x ≤ (Sh A (2 * b)).size x) (p : (Sh 128 b).Idx → EReal)
    (r : Fin 128) (d : Fin b) :
    View.readAt (Elt Ideal) m.view (Rect.unit (s := Sh A (2 * b)) off1 (Sh 128 b).size inb1).toLoadRect
      (m.view.writes (Elt Ideal) f (⟨Rect.unit (s := Sh A (2 * b)) off0 (Sh 128 b).size inb0, p⟩ :: L)) (ix2 r d)
      = C (128 * n + r) (b + d) := by
  have hp : ∀ (r : Fin 128) (d : Fin b), p (ix2 r d) = rd p ((128 * n + r) - 128 * n) ((0 + d.val) - 0) := fun r d => by
    rw [rd_of p (r := (128 * n + r) - 128 * n) (c := (0 + d.val) - 0) (by omega) (by omega)]
    refine congrArg p (funext fun x => Fin.ext ?_)
    match x with
    | ⟨0, _⟩ => exact (Nat.add_sub_cancel_left (128 * n) r.val).symm
    | ⟨1, _⟩ => exact (show d.val = 0 + d.val - 0 by omega)
  have h := write_cont (δ := fun s l => rd p (s - 128 * n) (l - 0)) hC ho0 inb0 hp
  refine (load_cont h ho1 inb1 r d).trans ?_
  rw [if_neg (by omega)]
  exact addTo_fresh C δ (by omega) _

theorem two_pieces (hC : Cont m (m.view.writes (Elt Ideal) f L) (addTo C δ n)) (ho0 : off0 = ![128 * n, 0])
    (inb0 : ∀ x, off0 x + (Sh 128 b).size x ≤ (Sh A (2 * b)).size x) (ho1 : off1 = ![128 * n, b])
    (inb1 : ∀ x, off1 x + (Sh 128 b).size x ≤ (Sh A (2 * b)).size x) {p0 p1 : (Sh 128 b).Idx → EReal}
    (h0 : ∀ (r : Fin 128) (d : Fin b), p0 (ix2 r d) = C (128 * n + r) (0 + d) + δ (128 * n + r) (0 + d))
    (h1 : ∀ (r : Fin 128) (d : Fin b), p1 (ix2 r d) = C (128 * n + r) (b + d) + δ (128 * n + r) (b + d)) :
    Cont m (m.view.writes (Elt Ideal) f (⟨Rect.unit (s := Sh A (2 * b)) off1 (Sh 128 b).size inb1, p1⟩ ::
      ⟨Rect.unit (s := Sh A (2 * b)) off0 (Sh 128 b).size inb0, p0⟩ :: L)) (addTo C δ (n + 1)) := by
  have a0 := write_cont (δ := fun s l => C s l + δ s l) hC ho0 inb0 h0
  have a1 := write_cont (δ := fun s l => C s l + δ s l) a0 ho1 inb1 h1
  intro s l
  rw [a1 s l]
  have hl := l.isLt
  unfold addTo
  beta_reduce
  by_cases hs : s.val < 128 * n
  · rw [if_neg (by omega), if_neg (by omega), if_pos hs, if_pos (by omega)]
  · by_cases hs' : s.val < 128 * (n + 1)
    · rw [if_pos hs']
      by_cases hb : b ≤ l.val
      · rw [if_pos (by omega)]
      · rw [if_neg (by omega), if_pos (by omega)]
    · rw [if_neg (by omega), if_neg (by omega), if_neg hs, if_neg hs']

/-- What the queries' tile contributes to the buffer of the keys' gradients. -/
noncomputable def dkF (B : Blk) (s l : ℕ) : EReal := dkM B (l / 64) s (l % 64)

/-- What the queries' tile contributes to the buffer of the values' gradients. -/
noncomputable def dvF (B : Blk) (s l : ℕ) : EReal := dvM B (l / 64) s (l % 64)

/-- What the queries' tile contributes to the buffer of the keys' forget-gate gradients. -/
noncomputable def dcF (B : Blk) (s l : ℕ) : EReal := -dcM B (l / 128) s

section heads
variable {B : Blk} {jj : ℕ} {hj : jj < 8} {Q0 G0 Q1 G1 : FVec Ideal (Sh 1024 64) .bf16}
  {p0 p1 : FVec Ideal (Sh 128 (1024 - 128 * jj)) .f32}

theorem dk_pair {m : Memref sig κ sp (Sh 4096 128) .f32} {f : m.view.ty.Contents (Elt Ideal)}
    {L : List (View.Piece (Elt Ideal) (Sh 4096 128) .f32)} {hs : (Sh 128 64).ShapeCasts (Sh 128 64)}
    {ht : FTy.bf16.bits < FTy.f32.bits} (hv : jj = 0 ∨ 128 * n = 1024 * B.qi + 128 * jj)
    (H0 : ∀ (t : Fin 1024) (d : Fin 64), Q0 (ix2 t d) = qsM B 0 t d)
    (H1 : ∀ (t : Fin 1024) (d : Fin 64), Q1 (ix2 t d) = qsM B 1 t d)
    (D0 : Holds jj n (dsM B 0) p0) (D1 : Holds jj n (dsM B 1) p1)
    (hC : Cont m (m.view.writes (Elt Ideal) f L) (addTo C (dkF B) n)) (ho0 : off0 = ![128 * n, 0])
    (inb0 : ∀ x, off0 x + (Sh 128 64).size x ≤ (Sh 4096 128).size x) (ho1 : off1 = ![128 * n, 64])
    (inb1 : ∀ x, off1 x + (Sh 128 64).size x ≤ (Sh 4096 128).size x) {old0 old1 : FVec Ideal (Sh 128 64) .f32}
    (h0 : ∀ (r : Fin 128) (d : Fin 64), old0 (ix2 r d) = C (128 * n + r) (0 + d))
    (h1 : ∀ (r : Fin 128) (d : Fin 64), old1 (ix2 r d) = C (128 * n + r) (64 + d))
    {w0 w1 : FVec Ideal (Sh 128 64) .f32}
    (e0 : w0 = tDk hs ht p0 (cutRows jj hj Q0) old0) (e1 : w1 = tDk hs ht p1 (cutRows jj hj Q1) old1) :
    Cont m (m.view.writes (Elt Ideal) f (⟨Rect.unit (s := Sh 4096 128) off1 (Sh 128 64).size inb1, w1⟩ ::
      ⟨Rect.unit (s := Sh 4096 128) off0 (Sh 128 64).size inb0, w0⟩ :: L)) (addTo C (dkF B) (n + 1)) := by
  refine two_pieces (b := 64) hC ho0 inb0 ho1 inb1 (fun r d => ?_) (fun r d => ?_)
  · rw [e0, dk_step hv H0 hs ht D0, h0]
    unfold dkF
    rw [show (0 + d.val) / 64 = 0 by omega, show (0 + d.val) % 64 = d.val by omega]
  · rw [e1, dk_step hv H1 hs ht D1, h1]
    unfold dkF
    rw [show (64 + d.val) / 64 = 1 by omega, show (64 + d.val) % 64 = d.val by omega]

theorem dv_pair {m : Memref sig κ sp (Sh 4096 128) .f32} {f : m.view.ty.Contents (Elt Ideal)}
    {L : List (View.Piece (Elt Ideal) (Sh 4096 128) .f32)} {hs : (Sh 128 64).ShapeCasts (Sh 128 64)}
    {ht : FTy.bf16.bits < FTy.f32.bits} (hv : jj = 0 ∨ 128 * n = 1024 * B.qi + 128 * jj)
    (H0 : ∀ (t : Fin 1024) (d : Fin 64), G0 (ix2 t d) = rd B.g t (64 * 0 + d))
    (H1 : ∀ (t : Fin 1024) (d : Fin 64), G1 (ix2 t d) = rd B.g t (64 * 1 + d))
    (D0 : Holds jj n (pmM B 0) p0) (D1 : Holds jj n (pmM B 1) p1)
    (hC : Cont m (m.view.writes (Elt Ideal) f L) (addTo C (dvF B) n)) (ho0 : off0 = ![128 * n, 0])
    (inb0 : ∀ x, off0 x + (Sh 128 64).size x ≤ (Sh 4096 128).size x) (ho1 : off1 = ![128 * n, 64])
    (inb1 : ∀ x, off1 x + (Sh 128 64).size x ≤ (Sh 4096 128).size x) {old0 old1 : FVec Ideal (Sh 128 64) .f32}
    (h0 : ∀ (r : Fin 128) (d : Fin 64), old0 (ix2 r d) = C (128 * n + r) (0 + d))
    (h1 : ∀ (r : Fin 128) (d : Fin 64), old1 (ix2 r d) = C (128 * n + r) (64 + d))
    {w0 w1 : FVec Ideal (Sh 128 64) .f32}
    (e0 : w0 = tDk hs ht p0 (cutRows jj hj G0) old0) (e1 : w1 = tDk hs ht p1 (cutRows jj hj G1) old1) :
    Cont m (m.view.writes (Elt Ideal) f (⟨Rect.unit (s := Sh 4096 128) off1 (Sh 128 64).size inb1, w1⟩ ::
      ⟨Rect.unit (s := Sh 4096 128) off0 (Sh 128 64).size inb0, w0⟩ :: L)) (addTo C (dvF B) (n + 1)) := by
  refine two_pieces (b := 64) hC ho0 inb0 ho1 inb1 (fun r d => ?_) (fun r d => ?_)
  · rw [e0, dv_step hv H0 hs ht D0, h0]
    unfold dvF
    rw [show (0 + d.val) / 64 = 0 by omega, show (0 + d.val) % 64 = d.val by omega]
  · rw [e1, dv_step hv H1 hs ht D1, h1]
    unfold dvF
    rw [show (64 + d.val) / 64 = 1 by omega, show (64 + d.val) % 64 = d.val by omega]

theorem dc_pair {m : Memref sig κ sp (Sh 4096 256) .f32} {f : m.view.ty.Contents (Elt Ideal)}
    {L : List (View.Piece (Elt Ideal) (Sh 4096 256) .f32)}
    {h2 : (Sh 128 128).ShapeCasts (Sh 128 128)} {h3 : (⟨1, ![128]⟩ : Shape).ShapeCasts (Sh 128 1)}
    {h4 : (Sh 128 1).ShapeCasts (Sh 128 1)} {hb : (Sh 128 1).Broadcasts (Sh 128 128)} (hj : jj < 8)
    (hv : jj = 0 ∨ 128 * n = 1024 * B.qi + 128 * jj)
    (D0 : Holds jj n (dsM B 0) p0) (D1 : Holds jj n (dsM B 1) p1)
    (hC : Cont m (m.view.writes (Elt Ideal) f L) (addTo C (dcF B) n)) (ho0 : off0 = ![128 * n, 0])
    (inb0 : ∀ x, off0 x + (Sh 128 128).size x ≤ (Sh 4096 256).size x) (ho1 : off1 = ![128 * n, 128])
    (inb1 : ∀ x, off1 x + (Sh 128 128).size x ≤ (Sh 4096 256).size x) {old0 old1 : FVec Ideal (Sh 128 128) .f32}
    (h0 : ∀ (r : Fin 128) (d : Fin 128), old0 (ix2 r d) = C (128 * n + r) (0 + d))
    (h1 : ∀ (r : Fin 128) (d : Fin 128), old1 (ix2 r d) = C (128 * n + r) (128 + d))
    {w0 w1 : FVec Ideal (Sh 128 128) .f32}
    (e0 : w0 = tDck h2 (rowSumFit _) h3 h4 hb p0 old0) (e1 : w1 = tDck h2 (rowSumFit _) h3 h4 hb p1 old1) :
    Cont m (m.view.writes (Elt Ideal) f (⟨Rect.unit (s := Sh 4096 256) off1 (Sh 128 128).size inb1, w1⟩ ::
      ⟨Rect.unit (s := Sh 4096 256) off0 (Sh 128 128).size inb0, w0⟩ :: L)) (addTo C (dcF B) (n + 1)) := by
  refine two_pieces (b := 128) hC ho0 inb0 ho1 inb1 (fun r d => ?_) (fun r d => ?_)
  · rw [e0, dc_step hv h2 (rowSumFit _) h3 h4 hb hj D0, h0]
    unfold dcF
    rw [show (0 + d.val) / 128 = 0 by omega]
  · rw [e1, dc_step hv h2 (rowSumFit _) h3 h4 hb hj D1, h1]
    unfold dcF
    rw [show (128 + d.val) / 128 = 1 by omega]

end heads

end FoxBwd
-- ==== Proof.State.lean ====
/-
  The state of a grid point between key tiles: the three buffers of all the keys and the four sums carried for the
  queries hold the contributions of the first `n` tiles. One key tile (two heads) takes it from `n` to `n + 1`.
-/
module

public import proofs.«01_k».proof.Proof.Steps

@[expose] public section

namespace FoxBwd

open Idealize.ShloMosaic

/-- The four carried sums: the queries' gradient and forget-gate gradient, of each of the two heads. -/
abbrev Acc : Type :=
  FVec Ideal (Sh 64 1024) .f32 × FVec Ideal (Sh 1 1024) .f32 × FVec Ideal (Sh 64 1024) .f32 × FVec Ideal (Sh 1 1024) .f32

/-- The carried sums hold the contributions of the first `n` key tiles. -/
structure AccOk (B : Blk) (n : ℕ) (a : Acc) : Prop where
  dq0 : ∀ (d : Fin 64) (t : Fin 1024), a.1 (ix2 d t) = dqM B 0 n d t
  dcq0 : ∀ t : Fin 1024, a.2.1 (ix2 0 t) = dcqM B 0 n t
  dq1 : ∀ (d : Fin 64) (t : Fin 1024), a.2.2.1 (ix2 d t) = dqM B 1 n d t
  dcq1 : ∀ t : Fin 1024, a.2.2.2 (ix2 0 t) = dcqM B 1 n t

variable {sig : RefSig} {κ : Kind} {sp : Space}

/-- The buffers hold `C14`, `C15`, `C16` with the contributions of the first `n` key tiles added, and the carried sums
    hold theirs. -/
structure Good (B : Blk) (m14 : Memref sig κ sp (Sh 4096 256) .f32) (m15 m16 : Memref sig κ sp (Sh 4096 128) .f32)
    (C14 C15 C16 : ℕ → ℕ → EReal) (n : ℕ) (f14 : m14.view.ty.Contents (Elt Ideal))
    (f15 : m15.view.ty.Contents (Elt Ideal)) (f16 : m16.view.ty.Contents (Elt Ideal)) (a : Acc) : Prop where
  c14 : Cont m14 f14 (addTo C14 (dcF B) n)
  c15 : Cont m15 f15 (addTo C15 (dkF B) n)
  c16 : Cont m16 f16 (addTo C16 (dvF B) n)
  acc : AccOk B n a

/-- One head's operands in a tile, and what the tile computes of them: the weights `P` and the logits' gradient `D`. -/
structure HeadTile (B : Blk) (hh jj n : ℕ) (Q G : FVec Ideal (Sh 1024 64) .bf16) (K : FVec Ideal (Sh 128 64) .bf16)
    (P D : FVec Ideal (Sh 128 (1024 - 128 * jj)) .f32) : Prop where
  q : ∀ (t : Fin 1024) (d : Fin 64), Q (ix2 t d) = qsM B hh t d
  g : ∀ (t : Fin 1024) (d : Fin 64), G (ix2 t d) = rd B.g t (64 * hh + d)
  k : ∀ (r : Fin 128) (d : Fin 64), K (ix2 r d) = rd B.k (128 * n + r) (64 * hh + d)
  p : Holds jj n (pmM B hh) P
  d : Holds jj n (dsM B hh) D

section tile
variable {B : Blk} {hh jj n : ℕ} {Q G : FVec Ideal (Sh 1024 64) .bf16} {DL CQ LS : FVec Ideal (Sh 1 1024) .f32}
  {K V : FVec Ideal (Sh 128 64) .bf16} {C : FVec Ideal (Sh 128 128) .f32}

/-- A tile's exponents. -/
noncomputable def tileS (jj : ℕ) (hj : jj < 8) (Q : FVec Ideal (Sh 1024 64) .bf16) (CQ LS : FVec Ideal (Sh 1 1024) .f32)
    (K : FVec Ideal (Sh 128 64) .bf16) (C : FVec Ideal (Sh 128 128) .f32) : FVec Ideal (Sh 128 (1024 - 128 * jj)) .f32 :=
  tS (bcFit _) (cutRows jj hj Q) (cutCols jj hj CQ) (cutCols jj hj LS) (spread jj hj (shapeCast (Sh 128 128) C rfl)) K

/-- A tile's logit gradients, from its weights. -/
noncomputable def tileD (jj : ℕ) (hj : jj < 8) (P : FVec Ideal (Sh 128 (1024 - 128 * jj)) .f32)
    (G : FVec Ideal (Sh 1024 64) .bf16) (DL : FVec Ideal (Sh 1 1024) .f32) (V : FVec Ideal (Sh 128 64) .bf16) :
    FVec Ideal (Sh 128 (1024 - 128 * jj)) .f32 :=
  tDs (bcFit _) P (cutRows jj hj G) (cutCols jj hj DL) V

theorem headTile_plain (H : HeadOk B hh Q G DL CQ LS) (T : TileOk B hh n K V C) (hle : 128 * n + 127 ≤ 1024 * B.qi) :
    HeadTile B hh 0 n Q G K (exp (tileS 0 (by omega) Q CQ LS K C)) (tileD 0 (by omega) (exp (tileS 0 (by omega) Q CQ LS K C)) G DL V) :=
  have p := holds_exp hle (holds_sc (hj := by omega) H T (bcFit _) rfl)
  ⟨H.q, H.g, T.k, p, holds_ds H T (bcFit _) p⟩

theorem headTile_masked (hj : jj < 8) (H : HeadOk B hh Q G DL CQ LS) (T : TileOk B hh n K V C) {m : IVec (Sh 128 1024) 1}
    (hm : ∀ (r : Fin 128) (t : Fin 1024), m (ix2 r t) = 1 ↔ 1024 * B.qi + t < 128 * n + r) :
    HeadTile B hh jj n Q G K (tPm (cutCols jj hj m) (tileS jj hj Q CQ LS K C))
      (tileD jj hj (tPm (cutCols jj hj m) (tileS jj hj Q CQ LS K C)) G DL V) :=
  have p := holds_pm (hj := hj) hm (holds_sc (hj := hj) H T (bcFit _) rfl)
  ⟨H.q, H.g, T.k, p, holds_ds H T (bcFit _) p⟩

end tile

section step
variable {B : Blk} {jj n : ℕ} {hj : jj < 8} {Q0 G0 Q1 G1 : FVec Ideal (Sh 1024 64) .bf16}
  {K0 K1 : FVec Ideal (Sh 128 64) .bf16} {P0 D0 P1 D1 : FVec Ideal (Sh 128 (1024 - 128 * jj)) .f32}
  {m14 : Memref sig κ sp (Sh 4096 256) .f32} {m15 m16 : Memref sig κ sp (Sh 4096 128) .f32}
  {C14 C15 C16 : ℕ → ℕ → EReal} {f14 : m14.view.ty.Contents (Elt Ideal)}
  {f15 : m15.view.ty.Contents (Elt Ideal)} {f16 : m16.view.ty.Contents (Elt Ideal)}
  {L14 : List (View.Piece (Elt Ideal) (Sh 4096 256) .f32)} {L15 L16 : List (View.Piece (Elt Ideal) (Sh 4096 128) .f32)}
  {o14 o14' o15 o15' : Fin 2 → ℕ} {a : Acc}

/-- One key tile. -/
theorem Good.step (hv : jj = 0 ∨ 128 * n = 1024 * B.qi + 128 * jj)
    (T0 : HeadTile B 0 jj n Q0 G0 K0 P0 D0) (T1 : HeadTile B 1 jj n Q1 G1 K1 P1 D1)
    (G : Good B m14 m15 m16 C14 C15 C16 n (m14.view.writes (Elt Ideal) f14 L14) (m15.view.writes (Elt Ideal) f15 L15)
      (m16.view.writes (Elt Ideal) f16 L16) a)
    (ho14 : o14 = ![128 * n, 0]) (ho14' : o14' = ![128 * n, 128])
    (ho15 : o15 = ![128 * n, 0]) (ho15' : o15' = ![128 * n, 64])
    {i14 : ∀ x, o14 x + (Sh 128 128).size x ≤ (Sh 4096 256).size x}
    {i14' : ∀ x, o14' x + (Sh 128 128).size x ≤ (Sh 4096 256).size x}
    {i15 : ∀ x, o15 x + (Sh 128 64).size x ≤ (Sh 4096 128).size x}
    {i15' : ∀ x, o15' x + (Sh 128 64).size x ≤ (Sh 4096 128).size x}
    {i16 : ∀ x, o15 x + (Sh 128 64).size x ≤ (Sh 4096 128).size x}
    {i16' : ∀ x, o15' x + (Sh 128 64).size x ≤ (Sh 4096 128).size x}
    {w14 w14' u14 u14' : FVec Ideal (Sh 128 128) .f32} {w15 w15' w16 w16' u15 u15' u16 u16' : FVec Ideal (Sh 128 64) .f32}
    (h14 : ∀ (r d : Fin 128), u14 (ix2 r d) = C14 (128 * n + r) (0 + d))
    (h14' : ∀ (r d : Fin 128), u14' (ix2 r d) = C14 (128 * n + r) (128 + d))
    (h15 : ∀ (r : Fin 128) (d : Fin 64), u15 (ix2 r d) = C15 (128 * n + r) (0 + d))
    (h15' : ∀ (r : Fin 128) (d : Fin 64), u15' (ix2 r d) = C15 (128 * n + r) (64 + d))
    (h16 : ∀ (r : Fin 128) (d : Fin 64), u16 (ix2 r d) = C16 (128 * n + r) (0 + d))
    (h16' : ∀ (r : Fin 128) (d : Fin 64), u16' (ix2 r d) = C16 (128 * n + r) (64 + d))
    (e14 : w14 = tDck rfl (rowSumFit _) rfl rfl colFit D0 u14)
    (e14' : w14' = tDck rfl (rowSumFit _) rfl rfl colFit D1 u14')
    (e15 : w15 = tDk rfl narrow D0 (cutRows jj hj Q0) u15) (e15' : w15' = tDk rfl narrow D1 (cutRows jj hj Q1) u15')
    (e16 : w16 = tDk rfl narrow P0 (cutRows jj hj G0) u16) (e16' : w16' = tDk rfl narrow P1 (cutRows jj hj G1) u16')
    {a' : Acc} (ea0 : a'.1 = addCols jj hj a.1 (tDq narrow K0 D0)) (eb0 : a'.2.1 = addCols jj hj a.2.1 (tDcq (colSumFit _) (unitFit _) D0))
    (ea1 : a'.2.2.1 = addCols jj hj a.2.2.1 (tDq narrow K1 D1))
    (eb1 : a'.2.2.2 = addCols jj hj a.2.2.2 (tDcq (colSumFit _) (unitFit _) D1)) :
    Good B m14 m15 m16 C14 C15 C16 (n + 1)
      (m14.view.writes (Elt Ideal) f14 (⟨Rect.unit (s := Sh 4096 256) o14' (Sh 128 128).size i14', w14'⟩ ::
        ⟨Rect.unit (s := Sh 4096 256) o14 (Sh 128 128).size i14, w14⟩ :: L14))
      (m15.view.writes (Elt Ideal) f15 (⟨Rect.unit (s := Sh 4096 128) o15' (Sh 128 64).size i15', w15'⟩ ::
        ⟨Rect.unit (s := Sh 4096 128) o15 (Sh 128 64).size i15, w15⟩ :: L15))
      (m16.view.writes (Elt Ideal) f16 (⟨Rect.unit (s := Sh 4096 128) o15' (Sh 128 64).size i16', w16'⟩ ::
        ⟨Rect.unit (s := Sh 4096 128) o15 (Sh 128 64).size i16, w16⟩ :: L16)) a' :=
  ⟨dc_pair (h2 := rfl) (h3 := rfl) (h4 := rfl) (hb := colFit) hj hv T0.d T1.d G.c14 ho14 i14 ho14' i14' h14 h14' e14 e14',
    dk_pair (hs := rfl) (ht := narrow) hv T0.q T1.q T0.d T1.d G.c15 ho15 i15 ho15' i15' h15 h15' e15 e15',
    dv_pair (hs := rfl) (ht := narrow) hv T0.g T1.g T0.p T1.p G.c16 ho15 i16 ho15' i16' h16 h16' e16 e16',
    fun d t => by rw [ea0]; exact dq_step hv T0.k narrow T0.d G.acc.dq0 d t,
    fun t => by rw [eb0]; exact dcq_step hv (colSumFit _) (unitFit _) T0.d G.acc.dcq0 t,
    fun d t => by rw [ea1]; exact dq_step hv T1.k narrow T1.d G.acc.dq1 d t,
    fun t => by rw [eb1]; exact dcq_step hv (colSumFit _) (unitFit _) T1.d G.acc.dcq1 t⟩

end step

end FoxBwd
-- ==== Proof.Trip.lean ====
/-
  One trip of the loop over the key tiles before the diagonal: two key tiles, each for two heads.
-/
module

public import proofs.«01_k».proof.Proof.State
public import proofs.«01_k».proof.Proof.Gen.KernelIdeal.Loops

@[expose] public section

set_option maxRecDepth 16384

namespace FoxBwd

open Idealize.ShloMosaic Cert.KernelIdeal Cert.KernelIdeal.Gen Idealize.ShloMosaic.TcCoe

theorem off_cast {a b : ℕ} (c : ℕ) (h : a = b) {o : Fin 2 → ℕ} (ho : o = ![a, c]) : o = ![b, c] := h ▸ ho

section loads
variable {B : Blk} {hh j : ℕ} {sig : RefSig} {κ : Kind} {sp : Space}
  {m3 m4 : Memref sig κ sp (Sh 4096 128) .bf16} {m9 : Memref sig κ sp (Sh 4096 256) .f32} {o o9 : Fin 2 → ℕ}

/-- What a tile loads of the keys' operands. -/
theorem tileOk (h3 : m3.IsWhole) (h4 : m4.IsWhole) (h9 : m9.IsWhole) (ho : o = ![128 * j, 64 * hh])
    (ho9 : o9 = ![128 * j, 128 * hh])
    (i3 : ∀ x, o x + (Sh 128 64).size x ≤ (Sh 4096 128).size x)
    (i9 : ∀ x, o9 x + (Sh 128 128).size x ≤ (Sh 4096 256).size x) :
    TileOk B hh j
      (View.readAt (Elt Ideal) m3.view (Rect.unit (s := Sh 4096 128) o (Sh 128 64).size i3).toLoadRect (h3.unread (Val := Elt Ideal) B.k))
      (View.readAt (Elt Ideal) m4.view (Rect.unit (s := Sh 4096 128) o (Sh 128 64).size i3).toLoadRect (h4.unread (Val := Elt Ideal) B.v))
      (View.readAt (Elt Ideal) m9.view (Rect.unit (s := Sh 4096 256) o9 (Sh 128 128).size i9).toLoadRect (h9.unread (Val := Elt Ideal) B.ck)) :=
  ⟨fun r d => load_bf16 h3 B.k ho i3 r d, fun r d => load_bf16 h4 B.v ho i3 r d, fun r d => load_f32 h9 B.ck ho9 i9 r d⟩

end loads

theorem trips_eq (i : grid0.Coords) : (k0_t1_loop i).trips = 4 * (i 1).val := by
  have h : ∀ q : Fin 4, (Scf.Loop.trips ⟨0#32, Scalar.addi 0#32 (Scalar.muli (Scalar.divsi (Scalar.subi
      (Scalar.muli (BitVec.ofNat 32 q.val) 4#32) 0#32) 1#32) 1#32), 1#32⟩) = 4 * q.val := by decide
  exact h (i 1)

section
variable (𝒱 : Variants) (c : Dev nD) (bd : Option 𝒱.V) (i : grid0.Coords)
  (arg2 : Memref sig .tc .vmem S1024x128 .bf16) (harg2 : arg2.IsWhole)
  (arg3 : Memref sig .tc .vmem S4096x128 .bf16) (harg3 : arg3.IsWhole)
  (arg4 : Memref sig .tc .vmem S4096x128 .bf16) (harg4 : arg4.IsWhole)
  (arg5 : Memref sig .tc .vmem S1024x128 .f32) (harg5 : arg5.IsWhole)
  (arg6 : Memref sig .tc .vmem S1024x128 .f32) (harg6 : arg6.IsWhole)
  (arg7 : Memref sig .tc .vmem S16x1024 .f32) (harg7 : arg7.IsWhole)
  (arg8 : Memref sig .tc .vmem S16x1024 .f32) (harg8 : arg8.IsWhole)
  (arg9 : Memref sig .tc .vmem S4096x256 .f32) (harg9 : arg9.IsWhole)
  (arg10 : Memref sig .tc .vmem S1024x128 .bf16) (harg10 : arg10.IsWhole)
  (arg11 : Memref sig .tc .vmem S4096x128 .bf16) (harg11 : arg11.IsWhole)
  (arg12 : Memref sig .tc .vmem S4096x128 .bf16) (harg12 : arg12.IsWhole)
  (arg13 : Memref sig .tc .vmem S16x1024 .f32) (harg13 : arg13.IsWhole)
  (arg14 : Memref sig .tc .vmem S4096x256 .f32) (harg14 : arg14.IsWhole)
  (arg15 : Memref sig .tc .vmem S4096x128 .f32) (harg15 : arg15.IsWhole)
  (arg16 : Memref sig .tc .vmem S4096x128 .f32) (harg16 : arg16.IsWhole)

theorem trip_good (B : Blk) (hq : B.qi = (i 1).val) {arg1 : BitVec 32} {v7 v12 v14 v16 : FVec Ideal S1024x64 .bf16}
    {v24 v27 v29 v31 v32 v34 : FVec Ideal S1x1024 .f32} (H0 : HeadOk B 0 v7 v14 v24 v29 (k0_pay87 (F := Ideal) v32))
    (H1 : HeadOk B 1 v12 v16 v27 v31 (k0_pay88 (F := Ideal) v34)) (k : Fin (k0_t1_loop i).trips) {C14 C15 C16 : ℕ → ℕ → EReal}
    {f14 : BufTy.Contents (Elt Ideal) arg14.view.ty} {f15 : BufTy.Contents (Elt Ideal) arg15.view.ty}
    {f16 : BufTy.Contents (Elt Ideal) arg16.view.ty} {a : Acc} (G : Good B arg14 arg15 arg16 C14 C15 C16 (2 * k.val) f14 f15 f16 a) :
    Good B arg14 arg15 arg16 C14 C15 C16 (2 * (k.val + 1))
      (arg14.view.writes (Elt Ideal) f14 ((trip_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 v7 v12 v14 v16 v24 v27 v29 v31 v32 v34
        (harg3.unread (Val := Elt Ideal) B.k) (harg4.unread (Val := Elt Ideal) B.v) (harg9.unread (Val := Elt Ideal) B.ck) k).2.1 a f14 f15 f16))
      (arg15.view.writes (Elt Ideal) f15 ((trip_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 v7 v12 v14 v16 v24 v27 v29 v31 v32 v34
        (harg3.unread (Val := Elt Ideal) B.k) (harg4.unread (Val := Elt Ideal) B.v) (harg9.unread (Val := Elt Ideal) B.ck) k).2.2.1 a f14 f15 f16))
      (arg16.view.writes (Elt Ideal) f16 ((trip_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 v7 v12 v14 v16 v24 v27 v29 v31 v32 v34
        (harg3.unread (Val := Elt Ideal) B.k) (harg4.unread (Val := Elt Ideal) B.v) (harg9.unread (Val := Elt Ideal) B.ck) k).2.2.2.1 a f14 f15 f16))
      ((trip_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 v7 v12 v14 v16 v24 v27 v29 v31 v32 v34
        (harg3.unread (Val := Elt Ideal) B.k) (harg4.unread (Val := Elt Ideal) B.v) (harg9.unread (Val := Elt Ideal) B.ck) k).1 a f14 f15 f16) := by
  have hk : k.val < 4 * B.qi := by rw [hq, ← trips_eq i]; exact k.isLt
  have n1 : 256 * k.val = 128 * (2 * k.val) := by ring
  have n2 : 256 * k.val + 128 = 128 * (2 * k.val + 1) := by ring
  have o1 := off_cast 0 n1 (k0_off1_eq i k)
  have o2 := off_cast 0 n1 (k0_off2_eq i k)
  have o3 := off_cast 64 n1 (k0_off3_eq i k)
  have o4 := off_cast 128 n1 (k0_off4_eq i k)
  have o5 := off_cast 0 n2 (k0_off5_eq i k)
  have o6 := off_cast 0 n2 (k0_off6_eq i k)
  have o7 := off_cast 64 n2 (k0_off7_eq i k)
  have o8 := off_cast 128 n2 (k0_off8_eq i k)
  have T0 := headTile_plain H0 (tileOk (B := B) (hh := 0) harg3 harg4 harg9 o1 o2 (k0_off1_inb i k) (k0_off2_inb i k)) (by omega)
  have T1 := headTile_plain H1 (tileOk (B := B) (hh := 1) harg3 harg4 harg9 o3 o4 (k0_off3_inb i k) (k0_off4_inb i k)) (by omega)
  have T2 := headTile_plain H0 (tileOk (B := B) (hh := 0) harg3 harg4 harg9 o5 o6 (k0_off5_inb i k) (k0_off6_inb i k)) (by omega)
  have T3 := headTile_plain H1 (tileOk (B := B) (hh := 1) harg3 harg4 harg9 o7 o8 (k0_off7_inb i k) (k0_off8_inb i k)) (by omega)
  unfold trip_k0_t1
  refine Good.step (hj := by omega) (.inl rfl) T2 T3 (Good.step (hj := by omega) (L14 := []) (L15 := []) (L16 := []) (.inl rfl) T0 T1 G o2 o4 o1 o3
    (load_fresh G.c14 le_rfl o2 (k0_off2_inb i k)) (load_fresh G.c14 le_rfl o4 (k0_off4_inb i k))
    (load_fresh G.c15 le_rfl o1 (k0_off1_inb i k)) (load_fresh G.c15 le_rfl o3 (k0_off3_inb i k))
    (load_fresh G.c16 le_rfl o1 (k0_off1_inb i k)) (load_fresh G.c16 le_rfl o3 (k0_off3_inb i k))
    rfl rfl rfl rfl rfl rfl (a' := (trip_k0_t1.sl.r_3 (F := Ideal) i arg3 arg4 arg9 v7 v14 v24 v29 v32
        (harg3.unread (Val := Elt Ideal) B.k) (harg4.unread (Val := Elt Ideal) B.v) (harg9.unread (Val := Elt Ideal) B.ck) k a,
      trip_k0_t1.sl.r_4 (F := Ideal) i arg3 arg4 arg9 v7 v14 v24 v29 v32
        (harg3.unread (Val := Elt Ideal) B.k) (harg4.unread (Val := Elt Ideal) B.v) (harg9.unread (Val := Elt Ideal) B.ck) k a,
      trip_k0_t1.sl.r_9 (F := Ideal) i arg3 arg4 arg9 v12 v16 v27 v31 v34
        (harg3.unread (Val := Elt Ideal) B.k) (harg4.unread (Val := Elt Ideal) B.v) (harg9.unread (Val := Elt Ideal) B.ck) k a,
      trip_k0_t1.sl.r_10 (F := Ideal) i arg3 arg4 arg9 v12 v16 v27 v31 v34
        (harg3.unread (Val := Elt Ideal) B.k) (harg4.unread (Val := Elt Ideal) B.v) (harg9.unread (Val := Elt Ideal) B.ck) k a)) rfl rfl rfl rfl) o6 o8 o5 o7
    (load_fresh G.c14 (Nat.le_succ _) o6 (k0_off6_inb i k)) (load_fresh G.c14 (Nat.le_succ _) o8 (k0_off8_inb i k))
    (load_fresh G.c15 (Nat.le_succ _) o5 (k0_off5_inb i k)) (load_fresh G.c15 (Nat.le_succ _) o7 (k0_off7_inb i k))
    (load_fresh G.c16 (Nat.le_succ _) o5 (k0_off5_inb i k)) (load_fresh G.c16 (Nat.le_succ _) o7 (k0_off7_inb i k))
    rfl rfl rfl rfl rfl rfl rfl rfl rfl rfl

/-- The loop's first `k` trips. -/
theorem loop_good (B : Blk) (hq : B.qi = (i 1).val) {arg1 : BitVec 32} {v7 v12 v14 v16 : FVec Ideal S1024x64 .bf16}
    {v24 v27 v29 v31 v32 v34 : FVec Ideal S1x1024 .f32} (H0 : HeadOk B 0 v7 v14 v24 v29 (k0_pay87 (F := Ideal) v32))
    (H1 : HeadOk B 1 v12 v16 v27 v31 (k0_pay88 (F := Ideal) v34)) {C14 C15 C16 : ℕ → ℕ → EReal}
    {f14 : BufTy.Contents (Elt Ideal) arg14.view.ty} {f15 : BufTy.Contents (Elt Ideal) arg15.view.ty}
    {f16 : BufTy.Contents (Elt Ideal) arg16.view.ty} {a : Acc} (G : Good B arg14 arg15 arg16 C14 C15 C16 0 f14 f15 f16 a)
    (k : ℕ) (hk : k ≤ (k0_t1_loop i).trips) :
    Good B arg14 arg15 arg16 C14 C15 C16 (2 * k)
      (arg14.view.writes (Elt Ideal) f14 (st_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 v7 v12 v14 v16 v24 v27 v29 v31 v32 v34
        (harg3.unread (Val := Elt Ideal) B.k) (harg4.unread (Val := Elt Ideal) B.v) (harg9.unread (Val := Elt Ideal) B.ck) f14 f15 f16 a k).2.1)
      (arg15.view.writes (Elt Ideal) f15 (st_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 v7 v12 v14 v16 v24 v27 v29 v31 v32 v34
        (harg3.unread (Val := Elt Ideal) B.k) (harg4.unread (Val := Elt Ideal) B.v) (harg9.unread (Val := Elt Ideal) B.ck) f14 f15 f16 a k).2.2.1)
      (arg16.view.writes (Elt Ideal) f16 (st_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 v7 v12 v14 v16 v24 v27 v29 v31 v32 v34
        (harg3.unread (Val := Elt Ideal) B.k) (harg4.unread (Val := Elt Ideal) B.v) (harg9.unread (Val := Elt Ideal) B.ck) f14 f15 f16 a k).2.2.2)
      (st_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 v7 v12 v14 v16 v24 v27 v29 v31 v32 v34
        (harg3.unread (Val := Elt Ideal) B.k) (harg4.unread (Val := Elt Ideal) B.v) (harg9.unread (Val := Elt Ideal) B.ck) f14 f15 f16 a k).1 := by
  induction k with
  | zero => exact G
  | succ k ih =>
    have g := trip_good 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16
      B hq H0 H1 (arg1 := arg1) ⟨k, hk⟩ (ih (Nat.le_of_succ_le hk))
    rw [← View.writes_append, ← View.writes_append, ← View.writes_append] at g
    rw [st_k0_t1_succ 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 v7 v12 v14 v16 v24 v27 v29 v31 v32 v34
      (harg3.unread (Val := Elt Ideal) B.k) (harg4.unread (Val := Elt Ideal) B.v) (harg9.unread (Val := Elt Ideal) B.ck) f14 f15 f16 a ⟨k, hk⟩]
    exact g

end

end FoxBwd
-- ==== Proof.Diag.lean ====
/-
  The eight key tiles on the diagonal, which are masked and take only the queries from the tile's own on. Written once
  for the tile's number `jj`, with the buffers as the lists of pieces written so far.
-/
module

public import proofs.«01_k».proof.Proof.Trip

@[expose] public section

set_option maxRecDepth 16384

namespace FoxBwd

open Idealize.ShloMosaic Cert.KernelIdeal Cert.KernelIdeal.Gen Idealize.ShloMosaic.TcCoe

/-- The operands that all tiles of one head share. -/
structure HeadV where
  Q : FVec Ideal (Sh 1024 64) .bf16
  G : FVec Ideal (Sh 1024 64) .bf16
  DL : FVec Ideal (Sh 1 1024) .f32
  CQ : FVec Ideal (Sh 1 1024) .f32
  LS : FVec Ideal (Sh 1 1024) .f32

/-- The pieces written so far to the three buffers, and the carried sums. -/
structure St where
  L14 : List (View.Piece (Elt Ideal) (Sh 4096 256) .f32)
  L15 : List (View.Piece (Elt Ideal) (Sh 4096 128) .f32)
  L16 : List (View.Piece (Elt Ideal) (Sh 4096 128) .f32)
  a : Acc

section
variable (i : grid0.Coords) {arg3 arg4 : Memref sig .tc .vmem S4096x128 .bf16} {arg9 arg14 : Memref sig .tc .vmem S4096x256 .f32}
  {arg15 arg16 : Memref sig .tc .vmem S4096x128 .f32} (x3 : arg3.view.ty.Contents (Elt Ideal))
  (x4 : arg4.view.ty.Contents (Elt Ideal)) (x9 : arg9.view.ty.Contents (Elt Ideal))
  (f14 : arg14.view.ty.Contents (Elt Ideal)) (f15 : arg15.view.ty.Contents (Elt Ideal))
  (f16 : arg16.view.ty.Contents (Elt Ideal)) (h0 h1 : HeadV) (jj : Fin 8)

/-- The rectangle of head 0's (head 1's) rows of tile `jj` in a buffer of 128 columns. -/
abbrev rA : Rect S4096x128 := Rect.unit (s := S4096x128) (k0_off17 i (BitVec.ofNat 32 jj.val)) S128x64.size (k0_off17_inb i jj)
abbrev rA' : Rect S4096x128 := Rect.unit (s := S4096x128) (k0_off19 i (BitVec.ofNat 32 jj.val)) S128x64.size (k0_off19_inb i jj)

/-- The same in a buffer of 256 columns. -/
abbrev rB : Rect S4096x256 := Rect.unit (s := S4096x256) (k0_off18 i (BitVec.ofNat 32 jj.val)) S128x128.size (k0_off18_inb i jj)
abbrev rB' : Rect S4096x256 := Rect.unit (s := S4096x256) (k0_off20 i (BitVec.ofNat 32 jj.val)) S128x128.size (k0_off20_inb i jj)

noncomputable def dK0 : FVec Ideal (Sh 128 64) .bf16 := View.readAt (Elt Ideal) arg3.view (rA i jj).toLoadRect x3
noncomputable def dK1 : FVec Ideal (Sh 128 64) .bf16 := View.readAt (Elt Ideal) arg3.view (rA' i jj).toLoadRect x3

/-- The mask of tile `jj`. -/
def dMask : IVec (Sh 128 1024) 1 :=
  maskV iota_S128x1024_d0_w32 iota_S128x1024_d1_w32 (BitVec.ofNat 32 (i 1).val) (BitVec.ofNat 32 jj.val)

/-- The weights of tile `jj`. -/
noncomputable def dP0 : FVec Ideal (Sh 128 (1024 - 128 * jj.val)) .f32 :=
  tPm (cutCols jj.val jj.isLt (dMask i jj)) (tileS jj.val jj.isLt h0.Q h0.CQ h0.LS (dK0 i x3 jj)
    (View.readAt (Elt Ideal) arg9.view (rB i jj).toLoadRect x9))
noncomputable def dP1 : FVec Ideal (Sh 128 (1024 - 128 * jj.val)) .f32 :=
  tPm (cutCols jj.val jj.isLt (dMask i jj)) (tileS jj.val jj.isLt h1.Q h1.CQ h1.LS (dK1 i x3 jj)
    (View.readAt (Elt Ideal) arg9.view (rB' i jj).toLoadRect x9))

/-- The logit gradients of tile `jj`. -/
noncomputable def dD0 : FVec Ideal (Sh 128 (1024 - 128 * jj.val)) .f32 :=
  tileD jj.val jj.isLt (dP0 i x3 x9 h0 jj) h0.G h0.DL (View.readAt (Elt Ideal) arg4.view (rA i jj).toLoadRect x4)
noncomputable def dD1 : FVec Ideal (Sh 128 (1024 - 128 * jj.val)) .f32 :=
  tileD jj.val jj.isLt (dP1 i x3 x9 h1 jj) h1.G h1.DL (View.readAt (Elt Ideal) arg4.view (rA' i jj).toLoadRect x4)

/-- One write of a tile to a 128-column buffer: the addition to what the rectangle holds by then. -/
noncomputable def put64 {m : Memref sig .tc .vmem S4096x128 .f32} (f : m.view.ty.Contents (Elt Ideal))
    (D : FVec Ideal (Sh 128 (1024 - 128 * jj.val)) .f32) (Q : FVec Ideal (Sh 1024 64) .bf16)
    (o : Fin 2 → ℕ) (inb : ∀ x, o x + S128x64.size x ≤ S4096x128.size x)
    (L : List (View.Piece (Elt Ideal) S4096x128 .f32)) : List (View.Piece (Elt Ideal) S4096x128 .f32) :=
  ⟨Rect.unit (s := S4096x128) o S128x64.size inb, tDk rfl narrow D (cutRows jj.val jj.isLt Q)
    (View.readAt (Elt Ideal) m.view (Rect.unit (s := S4096x128) o S128x64.size inb).toLoadRect (m.view.writes (Elt Ideal) f L))⟩ :: L

/-- One write of a tile to the 256-column buffer. -/
noncomputable def put128 {m : Memref sig .tc .vmem S4096x256 .f32} (f : m.view.ty.Contents (Elt Ideal))
    (D : FVec Ideal (Sh 128 (1024 - 128 * jj.val)) .f32)
    (o : Fin 2 → ℕ) (inb : ∀ x, o x + S128x128.size x ≤ S4096x256.size x)
    (L : List (View.Piece (Elt Ideal) S4096x256 .f32)) : List (View.Piece (Elt Ideal) S4096x256 .f32) :=
  ⟨Rect.unit (s := S4096x256) o S128x128.size inb, tDck rfl (rowSumFit _) rfl rfl colFit D
    (View.readAt (Elt Ideal) m.view (Rect.unit (s := S4096x256) o S128x128.size inb).toLoadRect (m.view.writes (Elt Ideal) f L))⟩ :: L

/-- One tile of the diagonal. -/
noncomputable def dStep (s : St) : St :=
  ⟨put128 jj f14 (dD1 i x3 x4 x9 h1 jj) _ (k0_off20_inb i jj) (put128 jj f14 (dD0 i x3 x4 x9 h0 jj) _ (k0_off18_inb i jj) s.L14),
    put64 jj f15 (dD1 i x3 x4 x9 h1 jj) h1.Q _ (k0_off19_inb i jj) (put64 jj f15 (dD0 i x3 x4 x9 h0 jj) h0.Q _ (k0_off17_inb i jj) s.L15),
    put64 jj f16 (dP1 i x3 x9 h1 jj) h1.G _ (k0_off19_inb i jj) (put64 jj f16 (dP0 i x3 x9 h0 jj) h0.G _ (k0_off17_inb i jj) s.L16),
    (addCols jj.val jj.isLt s.a.1 (tDq narrow (dK0 i x3 jj) (dD0 i x3 x4 x9 h0 jj)),
      addCols jj.val jj.isLt s.a.2.1 (tDcq (colSumFit _) (unitFit _) (dD0 i x3 x4 x9 h0 jj)),
      addCols jj.val jj.isLt s.a.2.2.1 (tDq narrow (dK1 i x3 jj) (dD1 i x3 x4 x9 h1 jj)),
      addCols jj.val jj.isLt s.a.2.2.2 (tDcq (colSumFit _) (unitFit _) (dD1 i x3 x4 x9 h1 jj)))⟩

/-- The last tile's addition to the queries' gradient. -/
noncomputable def dqTop (a : FVec Ideal (Sh 64 1024) .f32) (k : FVec Ideal (Sh 128 64) .bf16)
    (d : FVec Ideal (Sh 128 128) .bf16) : FVec Ideal (Sh 64 1024) .f32 :=
  addCols 7 (by omega) a (matmul (dotTL 64 128 128) none k d (constant _ .f32 0x00000000#32))

/-- A state that is the step's, part by part. -/
theorem dStep_eq {s : St} {L14 : List (View.Piece (Elt Ideal) (Sh 4096 256) .f32)}
    {L15 L16 : List (View.Piece (Elt Ideal) (Sh 4096 128) .f32)} {dq0 dq1 : FVec Ideal (Sh 64 1024) .f32}
    {dc0 dc1 : FVec Ideal (Sh 1 1024) .f32} {P0 P1 D0 D1 : FVec Ideal (Sh 128 (1024 - 128 * jj.val)) .f32}
    (h16 : L16 = put64 jj f16 P1 h1.G _ (k0_off19_inb i jj) (put64 jj f16 P0 h0.G _ (k0_off17_inb i jj) s.L16))
    (e1 : dc0 = addCols jj.val jj.isLt s.a.2.1 (tDcq (colSumFit _) (unitFit _) D0))
    (e3 : dc1 = addCols jj.val jj.isLt s.a.2.2.2 (tDcq (colSumFit _) (unitFit _) D1))
    (hP0 : P0 = dP0 i x3 x9 h0 jj) (hP1 : P1 = dP1 i x3 x9 h1 jj)
    (hD0 : D0 = tileD jj.val jj.isLt P0 h0.G h0.DL (View.readAt (Elt Ideal) arg4.view (rA i jj).toLoadRect x4))
    (hD1 : D1 = tileD jj.val jj.isLt P1 h1.G h1.DL (View.readAt (Elt Ideal) arg4.view (rA' i jj).toLoadRect x4))
    (h14 : L14 = put128 jj f14 D1 _ (k0_off20_inb i jj) (put128 jj f14 D0 _ (k0_off18_inb i jj) s.L14))
    (h15 : L15 = put64 jj f15 D1 h1.Q _ (k0_off19_inb i jj) (put64 jj f15 D0 h0.Q _ (k0_off17_inb i jj) s.L15))
    (e0 : dq0 = addCols jj.val jj.isLt s.a.1 (tDq narrow (dK0 i x3 jj) D0))
    (e2 : dq1 = addCols jj.val jj.isLt s.a.2.2.1 (tDq narrow (dK1 i x3 jj) D1)) :
    (⟨L14, L15, L16, dq0, dc0, dq1, dc1⟩ : St) = dStep i x3 x4 x9 f14 f15 f16 h0 h1 jj s := by
  subst hD0 hD1 hP0 hP1 h14 h15 h16 e0 e1 e2 e3
  rfl

end

section
variable {i : grid0.Coords} {arg3 arg4 : Memref sig .tc .vmem S4096x128 .bf16} {arg9 arg14 : Memref sig .tc .vmem S4096x256 .f32}
  {arg15 arg16 : Memref sig .tc .vmem S4096x128 .f32} {h3 : arg3.IsWhole} {h4 : arg4.IsWhole} {h9 : arg9.IsWhole}
  {f14 : arg14.view.ty.Contents (Elt Ideal)} {f15 : arg15.view.ty.Contents (Elt Ideal)}
  {f16 : arg16.view.ty.Contents (Elt Ideal)} {h0 h1 : HeadV} {B : Blk}

theorem dStep_good (hq : B.qi = (i 1).val) (H0 : HeadOk B 0 h0.Q h0.G h0.DL h0.CQ h0.LS)
    (H1 : HeadOk B 1 h1.Q h1.G h1.DL h1.CQ h1.LS) (jj : Fin 8) {C14 C15 C16 : ℕ → ℕ → EReal} {s : St}
    (G : Good B arg14 arg15 arg16 C14 C15 C16 (8 * B.qi + jj.val) (arg14.view.writes (Elt Ideal) f14 s.L14)
      (arg15.view.writes (Elt Ideal) f15 s.L15) (arg16.view.writes (Elt Ideal) f16 s.L16) s.a) {s' : St}
    (e : s' = dStep i (h3.unread (Val := Elt Ideal) B.k) (h4.unread (Val := Elt Ideal) B.v) (h9.unread (Val := Elt Ideal) B.ck)
      f14 f15 f16 h0 h1 jj s) :
    Good B arg14 arg15 arg16 C14 C15 C16 (8 * B.qi + (jj.val + 1)) (arg14.view.writes (Elt Ideal) f14 s'.L14)
      (arg15.view.writes (Elt Ideal) f15 s'.L15) (arg16.view.writes (Elt Ideal) f16 s'.L16) s'.a := by
  subst e
  have n : 1024 * (i 1).val + 128 * jj.val = 128 * (8 * B.qi + jj.val) := by omega
  have o17 := off_cast 0 n (k0_off17_eq i jj)
  have o18 := off_cast 0 n (k0_off18_eq i jj)
  have o19 := off_cast 64 n (k0_off19_eq i jj)
  have o20 := off_cast 128 n (k0_off20_eq i jj)
  have hm : ∀ (r : Fin 128) (t : Fin 1024), dMask i jj (ix2 r t) = 1 ↔ 1024 * B.qi + t < 128 * (8 * B.qi + jj.val) + r :=
    fun r t => by rw [hq]; exact maskV_apply _ _ (i 1).val jj.val (i 1).isLt jj.isLt r t
  have T0 := headTile_masked jj.isLt H0 (tileOk (B := B) (hh := 0) h3 h4 h9 o17 o18 (k0_off17_inb i jj) (k0_off18_inb i jj)) hm
  have T1 := headTile_masked jj.isLt H1 (tileOk (B := B) (hh := 1) h3 h4 h9 o19 o20 (k0_off19_inb i jj) (k0_off20_inb i jj)) hm
  exact Good.step (.inr (by ring)) T0 T1 G o18 o20 o17 o19
    (load_fresh G.c14 le_rfl o18 (k0_off18_inb i jj)) (load_mid (b := 128) G.c14 o18 (k0_off18_inb i jj) o20 (k0_off20_inb i jj) _)
    (load_fresh G.c15 le_rfl o17 (k0_off17_inb i jj)) (load_mid (b := 64) G.c15 o17 (k0_off17_inb i jj) o19 (k0_off19_inb i jj) _)
    (load_fresh G.c16 le_rfl o17 (k0_off17_inb i jj)) (load_mid (b := 64) G.c16 o17 (k0_off17_inb i jj) o19 (k0_off19_inb i jj) _)
    rfl rfl rfl rfl rfl rfl rfl rfl rfl rfl

end

end FoxBwd
-- ==== Proof.Heads.lean ====
/-
  What a grid point prepares before its tiles: the two heads' scaled queries, output gradients and row statistics.
-/
module

public import proofs.«01_k».proof.Proof.Diag

@[expose] public section

set_option maxRecDepth 16384

namespace FoxBwd

open Idealize.ShloMosaic Cert.KernelIdeal Cert.KernelIdeal.Gen Idealize.ShloMosaic.TcCoe

/-- The sums over 64 rows, from the row `o` on, of a transposed 1024 × 128 product. -/
theorem headSum {o : ℕ} (g x : FVec Ideal (Sh 1024 128) .f32) (hs : (Sh 1024 128).ShapeCasts (Sh 1024 128))
    (htr : (Sh 1024 128).Transposes [1, 0] (Sh 128 1024)) (hsl : (Sh 128 1024).Slices ![o, 0] (Sh 64 1024))
    (hr : (Sh 64 1024).Reduces [0] ⟨1, ![1024]⟩) (h1 : (⟨1, ![1024]⟩ : Shape).ShapeCasts (Sh 1 1024)) (ho : o + 64 ≤ 128)
    (t : Fin 1024) :
    shapeCast (Sh 1 1024) (multiReduction .add [0] ⟨1, ![1024]⟩ (extractStridedSlice (Sh 64 1024) ![o, 0]
      (transpose (Sh 128 1024) [1, 0] (mulf g (shapeCast _ x hs)) htr) hsl) 0x00000000#32 hr (.inl rfl) rfl) h1 (ix2 0 t)
      = ∑ d : Fin 64, g (ix2 t ⟨o + d.val, by omega⟩) * x (ix2 t ⟨o + d.val, by omega⟩) := by
  refine ((shapeCast_addUnit_apply ![1024] _ h1 (ix2 (0 : Fin 1) t)).trans
    (congrArg _ (show _ = ix1 t from funext fun a => by fin_cases a; rfl))).trans ?_
  rw [shapeCast_self]
  pointwise

section
variable (c : Dev nD)
  (arg2 : Memref sig .tc .vmem S1024x128 .bf16) (harg2 : arg2.IsWhole)
  (arg5 : Memref sig .tc .vmem S1024x128 .f32) (harg5 : arg5.IsWhole)
  (arg6 : Memref sig .tc .vmem S1024x128 .f32) (harg6 : arg6.IsWhole)
  (arg7 : Memref sig .tc .vmem S16x1024 .f32) (harg7 : arg7.IsWhole)
  (arg8 : Memref sig .tc .vmem S16x1024 .f32) (harg8 : arg8.IsWhole) (B : Blk)

/-- The operands of head 0's tiles, and of head 1's. -/
noncomputable def hv0 : HeadV where
  Q := k0_pay78 (F := Ideal) (View.readAt (Elt Ideal) arg2.view (Rect.unit (s := S1024x128) ![0, 0] S1024x64.size inb_S1024x128_S1024x64_0_0).toLoadRect (harg2.unread (Val := Elt Ideal) B.q))
  G := k0_pay80 (F := Ideal) (View.readAt (Elt Ideal) arg5.view (Rect.unit (s := S1024x128) ![0, 0] S1024x64.size inb_S1024x128_S1024x64_0_0).toLoadRect (harg5.unread (Val := Elt Ideal) B.g))
  DL := k0_pay83 (F := Ideal) (View.readAt (Elt Ideal) arg5.view (Rect.unit (s := S1024x128) ![0, 0] S1024x128.size inb_S1024x128_S1024x128_0_0).toLoadRect (harg5.unread (Val := Elt Ideal) B.g))
    (View.readAt (Elt Ideal) arg6.view (Rect.unit (s := S1024x128) ![0, 0] S1024x128.size inb_S1024x128_S1024x128_0_0).toLoadRect (harg6.unread (Val := Elt Ideal) B.o))
  CQ := k0_pay85 (F := Ideal) (View.readAt (Elt Ideal) arg8.view (Rect.unit (s := S16x1024) ![0, 0] S1x1024.size inb_S16x1024_S1x1024_0_0).toLoadRect (harg8.unread (Val := Elt Ideal) B.cq))
  LS := k0_pay87 (F := Ideal) (View.readAt (Elt Ideal) arg7.view (Rect.unit (s := S16x1024) ![0, 0] S1x1024.size inb_S16x1024_S1x1024_0_0).toLoadRect (harg7.unread (Val := Elt Ideal) B.ls))
noncomputable def hv1 : HeadV where
  Q := k0_pay79 (F := Ideal) (View.readAt (Elt Ideal) arg2.view (Rect.unit (s := S1024x128) ![0, 64] S1024x64.size inb_S1024x128_S1024x64_0_64).toLoadRect (harg2.unread (Val := Elt Ideal) B.q))
  G := k0_pay81 (F := Ideal) (View.readAt (Elt Ideal) arg5.view (Rect.unit (s := S1024x128) ![0, 64] S1024x64.size inb_S1024x128_S1024x64_0_64).toLoadRect (harg5.unread (Val := Elt Ideal) B.g))
  DL := k0_pay84 (F := Ideal) (View.readAt (Elt Ideal) arg5.view (Rect.unit (s := S1024x128) ![0, 0] S1024x128.size inb_S1024x128_S1024x128_0_0).toLoadRect (harg5.unread (Val := Elt Ideal) B.g))
    (View.readAt (Elt Ideal) arg6.view (Rect.unit (s := S1024x128) ![0, 0] S1024x128.size inb_S1024x128_S1024x128_0_0).toLoadRect (harg6.unread (Val := Elt Ideal) B.o))
  CQ := k0_pay86 (F := Ideal) (View.readAt (Elt Ideal) arg8.view (Rect.unit (s := S16x1024) ![8, 0] S1x1024.size inb_S16x1024_S1x1024_8_0).toLoadRect (harg8.unread (Val := Elt Ideal) B.cq))
  LS := k0_pay88 (F := Ideal) (View.readAt (Elt Ideal) arg7.view (Rect.unit (s := S16x1024) ![8, 0] S1x1024.size inb_S16x1024_S1x1024_8_0).toLoadRect (harg7.unread (Val := Elt Ideal) B.ls))

/-- What `HeadOk` asks of a head, from its loads. -/
theorem headOk (hh : Fin 2) {h : HeadV} {q : FVec Ideal (Sh 1024 64) .bf16} {g : FVec Ideal (Sh 1024 64) .f32}
    {cq ls : FVec Ideal (Sh 1 1024) .f32} {gw ow : FVec Ideal (Sh 1024 128) .f32}
    (hq : ∀ (t : Fin 1024) (d : Fin 64), q (ix2 t d) = rd B.q (0 + t) (64 * hh.val + d))
    (hg : ∀ (t : Fin 1024) (d : Fin 64), g (ix2 t d) = rd B.g (0 + t) (64 * hh.val + d))
    (hcq : ∀ (r : Fin 1) (t : Fin 1024), cq (ix2 r t) = rd B.cq (8 * hh.val + r) (0 + t))
    (hls : ∀ (r : Fin 1) (t : Fin 1024), ls (ix2 r t) = rd B.ls (8 * hh.val + r) (0 + t))
    (hgw : ∀ (t : Fin 1024) (d : Fin 128), gw (ix2 t d) = rd B.g (0 + t) (0 + d))
    (how : ∀ (t : Fin 1024) (d : Fin 128), ow (ix2 t d) = rd B.o (0 + t) (0 + d))
    (eq : ∀ (t : Fin 1024) (d : Fin 64), h.Q (ix2 t d) = q (ix2 t d) * c8) (eg : h.G = g)
    (edl : ∀ t : Fin 1024, h.DL (ix2 0 t) = ∑ d : Fin 64, gw (ix2 t ⟨64 * hh.val + d.val, by omega⟩) * ow (ix2 t ⟨64 * hh.val + d.val, by omega⟩))
    (ecq : h.CQ = shapeCast (Sh 1 1024) cq rfl) (els : h.LS = shapeCast (Sh 1 1024) ls rfl) :
    HeadOk B hh.val h.Q h.G h.DL h.CQ h.LS where
  q t d := by rw [eq, hq, Nat.zero_add]; rfl
  g t d := by rw [eg, hg, Nat.zero_add]
  dl t := by
    rw [edl]
    exact Finset.sum_congr rfl fun d _ => by rw [hgw, how, Nat.zero_add, Nat.zero_add]
  cq t := by rw [ecq, shapeCast_self, hcq, Nat.zero_add]; rfl
  ls t := by rw [els, shapeCast_self, hls, Nat.zero_add]; rfl

theorem hv0_ok : HeadOk B 0 (hv0 arg2 harg2 arg5 harg5 arg6 harg6 arg7 harg7 arg8 harg8 B).Q (hv0 arg2 harg2 arg5 harg5 arg6 harg6 arg7 harg7 arg8 harg8 B).G
    (hv0 arg2 harg2 arg5 harg5 arg6 harg6 arg7 harg7 arg8 harg8 B).DL (hv0 arg2 harg2 arg5 harg5 arg6 harg6 arg7 harg7 arg8 harg8 B).CQ
    (hv0 arg2 harg2 arg5 harg5 arg6 harg6 arg7 harg7 arg8 harg8 B).LS :=
  headOk B 0 (load_bf16 harg2 B.q rfl _) (load_f32 harg5 B.g rfl _) (load_f32 harg8 B.cq rfl _) (load_f32 harg7 B.ls rfl _)
    (load_f32 harg5 B.g rfl _) (load_f32 harg6 B.o rfl _) (fun _ _ => rfl) rfl
    (fun t => headSum (o := 0) _ _ _ _ _ _ _ (by decide) t) rfl rfl

theorem hv1_ok : HeadOk B 1 (hv1 arg2 harg2 arg5 harg5 arg6 harg6 arg7 harg7 arg8 harg8 B).Q (hv1 arg2 harg2 arg5 harg5 arg6 harg6 arg7 harg7 arg8 harg8 B).G
    (hv1 arg2 harg2 arg5 harg5 arg6 harg6 arg7 harg7 arg8 harg8 B).DL (hv1 arg2 harg2 arg5 harg5 arg6 harg6 arg7 harg7 arg8 harg8 B).CQ
    (hv1 arg2 harg2 arg5 harg5 arg6 harg6 arg7 harg7 arg8 harg8 B).LS :=
  headOk B 1 (load_bf16 harg2 B.q rfl _) (load_f32 harg5 B.g rfl _) (load_f32 harg8 B.cq rfl _) (load_f32 harg7 B.ls rfl _)
    (load_f32 harg5 B.g rfl _) (load_f32 harg6 B.o rfl _) (fun _ _ => rfl) rfl
    (fun t => headSum (o := 64) _ _ _ _ _ _ _ (by decide) t) rfl rfl

end

end FoxBwd
-- ==== Proof.Point.lean ====
/-
  A grid point's run, put together: the loop over the key tiles before the diagonal (and a second loop, which never
  runs), then the eight key tiles on the diagonal.
-/
module

public import proofs.«01_k».proof.Proof.Diag
public import proofs.«01_k».proof.Proof.Heads
public import proofs.«01_k».proof.Proof.Trip

@[expose] public section

set_option maxRecDepth 16384

namespace FoxBwd

open Idealize.ShloMosaic Cert.KernelIdeal Cert.KernelIdeal.Gen Idealize.ShloMosaic.TcCoe

/-- The second loop makes no trip. -/
theorem trips2_eq (i : grid0.Coords) : (k0_t2_loop i).trips = 0 := Nat.le_zero.mp (k0_t2_abs i).2.1

/-- A grid point's operands. -/
def blk (i : grid0.Coords) (x0 : Vec Ideal S1024x128 .bf16) (x1 x2 : Vec Ideal S4096x128 .bf16) (x3 x4 : Vec Ideal S1024x128 .f32)
    (x5 x6 : Vec Ideal S16x1024 .f32) (x7 : Vec Ideal S4096x256 .f32) : Blk := ⟨x0, x1, x2, x3, x4, x5, x6, x7, (i 1).val⟩

/-- No tile yet: the carried sums are zero. -/
theorem acc_zero (B : Blk) : AccOk B 0 (k0_pay89 (F := Ideal), k0_pay90 (F := Ideal), k0_pay89 (F := Ideal), k0_pay90 (F := Ideal)) where
  dq0 d t := by
    refine Eq.trans ?_ (show dqM B 0 0 d t = 0 by simp [dqM]).symm
    unfold k0_pay89
    pointwise
  dcq0 t := by
    refine Eq.trans ?_ (show dcqM B 0 0 t = 0 by simp [dcqM]).symm
    unfold k0_pay90
    pointwise
  dq1 d t := by
    refine Eq.trans ?_ (show dqM B 1 0 d t = 0 by simp [dqM]).symm
    unfold k0_pay89
    pointwise
  dcq1 t := by
    refine Eq.trans ?_ (show dcqM B 1 0 t = 0 by simp [dcqM]).symm
    unfold k0_pay90
    pointwise

/-- With no tile added, contents are what they were. -/
theorem addTo_zero (C δ : ℕ → ℕ → EReal) : addTo C δ 0 = C := by
  funext s l
  simp [addTo]

section
variable (c : Dev nD) (i : grid0.Coords)
  (arg2 : Memref sig .tc .vmem S1024x128 .bf16) (harg2 : arg2.IsWhole)
  (arg3 : Memref sig .tc .vmem S4096x128 .bf16) (harg3 : arg3.IsWhole)
  (arg4 : Memref sig .tc .vmem S4096x128 .bf16) (harg4 : arg4.IsWhole)
  (arg5 : Memref sig .tc .vmem S1024x128 .f32) (harg5 : arg5.IsWhole)
  (arg6 : Memref sig .tc .vmem S1024x128 .f32) (harg6 : arg6.IsWhole)
  (arg7 : Memref sig .tc .vmem S16x1024 .f32) (harg7 : arg7.IsWhole)
  (arg8 : Memref sig .tc .vmem S16x1024 .f32) (harg8 : arg8.IsWhole)
  (arg9 : Memref sig .tc .vmem S4096x256 .f32) (harg9 : arg9.IsWhole)
  (arg10 : Memref sig .tc .vmem S1024x128 .bf16) (harg10 : arg10.IsWhole)
  (arg11 : Memref sig .tc .vmem S4096x128 .bf16) (harg11 : arg11.IsWhole)
  (arg12 : Memref sig .tc .vmem S4096x128 .bf16) (harg12 : arg12.IsWhole)
  (arg13 : Memref sig .tc .vmem S16x1024 .f32) (harg13 : arg13.IsWhole)
  (arg14 : Memref sig .tc .vmem S4096x256 .f32) (harg14 : arg14.IsWhole)
  (arg15 : Memref sig .tc .vmem S4096x128 .f32) (harg15 : arg15.IsWhole)
  (arg16 : Memref sig .tc .vmem S4096x128 .f32) (harg16 : arg16.IsWhole)
  (B : Blk)

/-- One head's row of log-sum-exponents, as loaded. -/
noncomputable def lseRow (o : Fin 2 → ℕ) (inb : ∀ a, o a + S1x1024.size a ≤ S16x1024.size a) : Vec Ideal S1x1024 .f32 :=
  View.readAt (Elt Ideal) arg7.view (Rect.unit (s := S16x1024) o S1x1024.size inb).toLoadRect (harg7.unread (Val := Elt Ideal) B.ls)

/-- The loop over the tiles before the diagonal. -/
noncomputable def one (f14 : BufTy.Contents (Elt Ideal) arg14.view.ty) (f15 : BufTy.Contents (Elt Ideal) arg15.view.ty)
    (f16 : BufTy.Contents (Elt Ideal) arg16.view.ty) :=
  st_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 1).val) (hv0 arg2 harg2 arg5 harg5 arg6 harg6 arg7 harg7 arg8 harg8 B).Q (hv1 arg2 harg2 arg5 harg5 arg6 harg6 arg7 harg7 arg8 harg8 B).Q (hv0 arg2 harg2 arg5 harg5 arg6 harg6 arg7 harg7 arg8 harg8 B).G (hv1 arg2 harg2 arg5 harg5 arg6 harg6 arg7 harg7 arg8 harg8 B).G
    (hv0 arg2 harg2 arg5 harg5 arg6 harg6 arg7 harg7 arg8 harg8 B).DL (hv1 arg2 harg2 arg5 harg5 arg6 harg6 arg7 harg7 arg8 harg8 B).DL (hv0 arg2 harg2 arg5 harg5 arg6 harg6 arg7 harg7 arg8 harg8 B).CQ (hv1 arg2 harg2 arg5 harg5 arg6 harg6 arg7 harg7 arg8 harg8 B).CQ (lseRow arg7 harg7 B ![0, 0] inb_S16x1024_S1x1024_0_0) (lseRow arg7 harg7 B ![8, 0] inb_S16x1024_S1x1024_8_0)
    (harg3.unread (Val := Elt Ideal) B.k) (harg4.unread (Val := Elt Ideal) B.v) (harg9.unread (Val := Elt Ideal) B.ck) f14 f15 f16 (k0_pay89 (F := Ideal), k0_pay90 (F := Ideal), k0_pay89 (F := Ideal), k0_pay90 (F := Ideal)) (k0_t1_loop i).trips

/-- The second loop, from the carried sums `a`. -/
noncomputable def two (f14 : BufTy.Contents (Elt Ideal) arg14.view.ty) (f15 : BufTy.Contents (Elt Ideal) arg15.view.ty)
    (f16 : BufTy.Contents (Elt Ideal) arg16.view.ty) (a : Acc) :=
  st_k0_t2 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 1).val) (hv0 arg2 harg2 arg5 harg5 arg6 harg6 arg7 harg7 arg8 harg8 B).Q (hv1 arg2 harg2 arg5 harg5 arg6 harg6 arg7 harg7 arg8 harg8 B).Q (hv0 arg2 harg2 arg5 harg5 arg6 harg6 arg7 harg7 arg8 harg8 B).G (hv1 arg2 harg2 arg5 harg5 arg6 harg6 arg7 harg7 arg8 harg8 B).G
    (hv0 arg2 harg2 arg5 harg5 arg6 harg6 arg7 harg7 arg8 harg8 B).DL (hv1 arg2 harg2 arg5 harg5 arg6 harg6 arg7 harg7 arg8 harg8 B).DL (hv0 arg2 harg2 arg5 harg5 arg6 harg6 arg7 harg7 arg8 harg8 B).CQ (hv1 arg2 harg2 arg5 harg5 arg6 harg6 arg7 harg7 arg8 harg8 B).CQ (lseRow arg7 harg7 B ![0, 0] inb_S16x1024_S1x1024_0_0) (lseRow arg7 harg7 B ![8, 0] inb_S16x1024_S1x1024_8_0) (k0_t2_loop i).lb
    (harg3.unread (Val := Elt Ideal) B.k) (harg4.unread (Val := Elt Ideal) B.v) (harg9.unread (Val := Elt Ideal) B.ck) f14 f15 f16 a (k0_t2_loop i).trips

theorem two_eq (f14 : BufTy.Contents (Elt Ideal) arg14.view.ty) (f15 : BufTy.Contents (Elt Ideal) arg15.view.ty)
    (f16 : BufTy.Contents (Elt Ideal) arg16.view.ty) (a : Acc) :
    two c i arg2 harg2 arg3 harg3 arg4 harg4 arg5 harg5 arg6 harg6 arg7 harg7 arg8 harg8 arg9 harg9 arg10 harg10 arg11 harg11 arg12 harg12 arg13 harg13 arg14 harg14 arg15 harg15 arg16 harg16 B f14 f15 f16 a = (a, [], [], []) := by
  unfold two
  rw [trips2_eq]
  rfl

/-- The state before the diagonal: `u14`, `u15`, `u16` are the buffers' first contents, `l14`, `l15`, `l16` what the
    first loop has left written over them, `a` its carried sums. -/
noncomputable def base (u14 : BufTy.Contents (Elt Ideal) arg14.view.ty) (u15 : BufTy.Contents (Elt Ideal) arg15.view.ty)
    (u16 : BufTy.Contents (Elt Ideal) arg16.view.ty) (s : St) : St :=
  ⟨(two c i arg2 harg2 arg3 harg3 arg4 harg4 arg5 harg5 arg6 harg6 arg7 harg7 arg8 harg8 arg9 harg9 arg10 harg10 arg11 harg11 arg12 harg12 arg13 harg13 arg14 harg14 arg15 harg15 arg16 harg16 B (arg14.view.writes (Elt Ideal) u14 s.L14) (arg15.view.writes (Elt Ideal) u15 s.L15) (arg16.view.writes (Elt Ideal) u16 s.L16) (s.a.1, s.a.2.1, s.a.2.2.1, s.a.2.2.2)).2.1 ++ s.L14,
    (two c i arg2 harg2 arg3 harg3 arg4 harg4 arg5 harg5 arg6 harg6 arg7 harg7 arg8 harg8 arg9 harg9 arg10 harg10 arg11 harg11 arg12 harg12 arg13 harg13 arg14 harg14 arg15 harg15 arg16 harg16 B (arg14.view.writes (Elt Ideal) u14 s.L14) (arg15.view.writes (Elt Ideal) u15 s.L15) (arg16.view.writes (Elt Ideal) u16 s.L16) (s.a.1, s.a.2.1, s.a.2.2.1, s.a.2.2.2)).2.2.1 ++ s.L15,
    (two c i arg2 harg2 arg3 harg3 arg4 harg4 arg5 harg5 arg6 harg6 arg7 harg7 arg8 harg8 arg9 harg9 arg10 harg10 arg11 harg11 arg12 harg12 arg13 harg13 arg14 harg14 arg15 harg15 arg16 harg16 B (arg14.view.writes (Elt Ideal) u14 s.L14) (arg15.view.writes (Elt Ideal) u15 s.L15) (arg16.view.writes (Elt Ideal) u16 s.L16) (s.a.1, s.a.2.1, s.a.2.2.1, s.a.2.2.2)).2.2.2 ++ s.L16,
    (two c i arg2 harg2 arg3 harg3 arg4 harg4 arg5 harg5 arg6 harg6 arg7 harg7 arg8 harg8 arg9 harg9 arg10 harg10 arg11 harg11 arg12 harg12 arg13 harg13 arg14 harg14 arg15 harg15 arg16 harg16 B (arg14.view.writes (Elt Ideal) u14 s.L14) (arg15.view.writes (Elt Ideal) u15 s.L15) (arg16.view.writes (Elt Ideal) u16 s.L16) (s.a.1, s.a.2.1, s.a.2.2.1, s.a.2.2.2)).1⟩

theorem base_eq (u14 : BufTy.Contents (Elt Ideal) arg14.view.ty) (u15 : BufTy.Contents (Elt Ideal) arg15.view.ty)
    (u16 : BufTy.Contents (Elt Ideal) arg16.view.ty) (s : St) : base c i arg2 harg2 arg3 harg3 arg4 harg4 arg5 harg5 arg6 harg6 arg7 harg7 arg8 harg8 arg9 harg9 arg10 harg10 arg11 harg11 arg12 harg12 arg13 harg13 arg14 harg14 arg15 harg15 arg16 harg16 B u14 u15 u16 s = s := by
  unfold base
  rw [two_eq]
  rfl

/-- The tiles on the diagonal, up to the one numbered `n`. -/
noncomputable def diag (u14 : BufTy.Contents (Elt Ideal) arg14.view.ty) (u15 : BufTy.Contents (Elt Ideal) arg15.view.ty)
    (u16 : BufTy.Contents (Elt Ideal) arg16.view.ty) (s : St) : (n : ℕ) → n ≤ 8 → St
  | 0, _ => s
  | n + 1, h => dStep i (harg3.unread (Val := Elt Ideal) B.k) (harg4.unread (Val := Elt Ideal) B.v) (harg9.unread (Val := Elt Ideal) B.ck)
      u14 u15 u16 (hv0 arg2 harg2 arg5 harg5 arg6 harg6 arg7 harg7 arg8 harg8 B) (hv1 arg2 harg2 arg5 harg5 arg6 harg6 arg7 harg7 arg8 harg8 B) ⟨n, h⟩ (diag u14 u15 u16 s n (Nat.le_of_succ_le h))

/-- One tile more. -/
theorem diag_succ {u14 : BufTy.Contents (Elt Ideal) arg14.view.ty} {u15 : BufTy.Contents (Elt Ideal) arg15.view.ty}
    {u16 : BufTy.Contents (Elt Ideal) arg16.view.ty} {s₀ s s' : St} {n : ℕ} {hn : n + 1 ≤ 8}
    (e : s = diag i arg2 harg2 arg3 harg3 arg4 harg4 arg5 harg5 arg6 harg6 arg7 harg7 arg8 harg8 arg9 harg9 arg14 arg15 arg16 B u14 u15 u16 s₀ n (Nat.le_of_succ_le hn))
    (e' : s' = dStep i (harg3.unread (Val := Elt Ideal) B.k) (harg4.unread (Val := Elt Ideal) B.v)
      (harg9.unread (Val := Elt Ideal) B.ck) u14 u15 u16 (hv0 arg2 harg2 arg5 harg5 arg6 harg6 arg7 harg7 arg8 harg8 B) (hv1 arg2 harg2 arg5 harg5 arg6 harg6 arg7 harg7 arg8 harg8 B) ⟨n, hn⟩ s) :
    s' = diag i arg2 harg2 arg3 harg3 arg4 harg4 arg5 harg5 arg6 harg6 arg7 harg7 arg8 harg8 arg9 harg9 arg14 arg15 arg16 B u14 u15 u16 s₀ (n + 1) hn := by
  subst e e'
  rfl

/-- All of it, from the state the first loop has left. -/
noncomputable def whole (u14 : BufTy.Contents (Elt Ideal) arg14.view.ty) (u15 : BufTy.Contents (Elt Ideal) arg15.view.ty)
    (u16 : BufTy.Contents (Elt Ideal) arg16.view.ty) (s : St) : St :=
  diag i arg2 harg2 arg3 harg3 arg4 harg4 arg5 harg5 arg6 harg6 arg7 harg7 arg8 harg8 arg9 harg9 arg14 arg15 arg16 B u14 u15 u16 (base c i arg2 harg2 arg3 harg3 arg4 harg4 arg5 harg5 arg6 harg6 arg7 harg7 arg8 harg8 arg9 harg9 arg10 harg10 arg11 harg11 arg12 harg12 arg13 harg13 arg14 harg14 arg15 harg15 arg16 harg16 B u14 u15 u16 s) 8 le_rfl

theorem diag_good (hq : B.qi = (i 1).val) {u14 : BufTy.Contents (Elt Ideal) arg14.view.ty} {u15 : BufTy.Contents (Elt Ideal) arg15.view.ty}
    {u16 : BufTy.Contents (Elt Ideal) arg16.view.ty} {C14 C15 C16 : ℕ → ℕ → EReal} {s : St}
    (G : Good B arg14 arg15 arg16 C14 C15 C16 (8 * B.qi) (arg14.view.writes (Elt Ideal) u14 s.L14)
      (arg15.view.writes (Elt Ideal) u15 s.L15) (arg16.view.writes (Elt Ideal) u16 s.L16) s.a) (n : ℕ) (hn : n ≤ 8) {s' : St}
    (e : s' = diag i arg2 harg2 arg3 harg3 arg4 harg4 arg5 harg5 arg6 harg6 arg7 harg7 arg8 harg8 arg9 harg9 arg14 arg15 arg16 B u14 u15 u16 s n hn) :
    Good B arg14 arg15 arg16 C14 C15 C16 (8 * B.qi + n) (arg14.view.writes (Elt Ideal) u14 s'.L14)
      (arg15.view.writes (Elt Ideal) u15 s'.L15) (arg16.view.writes (Elt Ideal) u16 s'.L16) s'.a := by
  induction n generalizing s' with
  | zero => subst e; exact G
  | succ n ih =>
    exact dStep_good hq (hv0_ok arg2 harg2 arg5 harg5 arg6 harg6 arg7 harg7 arg8 harg8 B) (hv1_ok arg2 harg2 arg5 harg5 arg6 harg6 arg7 harg7 arg8 harg8 B) ⟨n, hn⟩ (ih (Nat.le_of_succ_le hn) rfl) e

/-- The run of a grid point, `g14`, `g15`, `g16` being the buffers' contents the first loop starts from: all the
    contributions of the tiles up to the diagonal are added. -/
theorem whole_good (hq : B.qi = (i 1).val) {u14 g14 : BufTy.Contents (Elt Ideal) arg14.view.ty} {u15 g15 : BufTy.Contents (Elt Ideal) arg15.view.ty}
    {u16 g16 : BufTy.Contents (Elt Ideal) arg16.view.ty} {C14 C15 C16 : ℕ → ℕ → EReal}
    (c14 : Cont arg14 g14 C14) (c15 : Cont arg15 g15 C15) (c16 : Cont arg16 g16 C16) {s s' : St}
    (w14 : arg14.view.writes (Elt Ideal) u14 s.L14 = arg14.view.writes (Elt Ideal) g14 (one c i arg2 harg2 arg3 harg3 arg4 harg4 arg5 harg5 arg6 harg6 arg7 harg7 arg8 harg8 arg9 harg9 arg10 harg10 arg11 harg11 arg12 harg12 arg13 harg13 arg14 harg14 arg15 harg15 arg16 harg16 B g14 g15 g16).2.1)
    (w15 : arg15.view.writes (Elt Ideal) u15 s.L15 = arg15.view.writes (Elt Ideal) g15 (one c i arg2 harg2 arg3 harg3 arg4 harg4 arg5 harg5 arg6 harg6 arg7 harg7 arg8 harg8 arg9 harg9 arg10 harg10 arg11 harg11 arg12 harg12 arg13 harg13 arg14 harg14 arg15 harg15 arg16 harg16 B g14 g15 g16).2.2.1)
    (w16 : arg16.view.writes (Elt Ideal) u16 s.L16 = arg16.view.writes (Elt Ideal) g16 (one c i arg2 harg2 arg3 harg3 arg4 harg4 arg5 harg5 arg6 harg6 arg7 harg7 arg8 harg8 arg9 harg9 arg10 harg10 arg11 harg11 arg12 harg12 arg13 harg13 arg14 harg14 arg15 harg15 arg16 harg16 B g14 g15 g16).2.2.2)
    (wa : s.a = (one c i arg2 harg2 arg3 harg3 arg4 harg4 arg5 harg5 arg6 harg6 arg7 harg7 arg8 harg8 arg9 harg9 arg10 harg10 arg11 harg11 arg12 harg12 arg13 harg13 arg14 harg14 arg15 harg15 arg16 harg16 B g14 g15 g16).1)
    (e : s' = whole c i arg2 harg2 arg3 harg3 arg4 harg4 arg5 harg5 arg6 harg6 arg7 harg7 arg8 harg8 arg9 harg9 arg10 harg10 arg11 harg11 arg12 harg12 arg13 harg13 arg14 harg14 arg15 harg15 arg16 harg16 B u14 u15 u16 s) :
    Good B arg14 arg15 arg16 C14 C15 C16 (8 * B.qi + 8) (arg14.view.writes (Elt Ideal) u14 s'.L14)
      (arg15.view.writes (Elt Ideal) u15 s'.L15) (arg16.view.writes (Elt Ideal) u16 s'.L16) s'.a := by
  refine diag_good i arg2 harg2 arg3 harg3 arg4 harg4 arg5 harg5 arg6 harg6 arg7 harg7 arg8 harg8 arg9 harg9 arg14 arg15 arg16 B hq ?_ 8 le_rfl (e.trans (by unfold whole; rw [base_eq]))
  have h := loop_good Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 B hq (arg1 := BitVec.ofNat 32 (i 1).val)
    (v32 := lseRow arg7 harg7 B ![0, 0] inb_S16x1024_S1x1024_0_0) (v34 := lseRow arg7 harg7 B ![8, 0] inb_S16x1024_S1x1024_8_0)
    (hv0_ok arg2 harg2 arg5 harg5 arg6 harg6 arg7 harg7 arg8 harg8 B) (hv1_ok arg2 harg2 arg5 harg5 arg6 harg6 arg7 harg7 arg8 harg8 B)
    (G := (⟨by rw [addTo_zero]; exact c14, by rw [addTo_zero]; exact c15, by rw [addTo_zero]; exact c16, acc_zero B⟩ :
      Good B arg14 arg15 arg16 C14 C15 C16 0 g14 g15 g16 _)) (k0_t1_loop i).trips le_rfl
  rw [w14, w15, w16, wa]
  have n : 2 * (k0_t1_loop i).trips = 8 * B.qi := by rw [trips_eq, hq]; ring
  rw [n] at h
  exact h

end

end FoxBwd
-- ==== Proof.IsA.lean ====
/-
  The generated run of a grid point (case A) is the run as put together in `Point`: its states between the tiles on
  the diagonal, named.
-/
module

public import proofs.«01_k».proof.Proof.Diag
public import proofs.«01_k».proof.Proof.Point
public import proofs.«01_k».proof.Proof.Gen.KernelIdeal.Frame.RunA

@[expose] public section

set_option maxRecDepth 16384

namespace FoxBwd

open Idealize.ShloMosaic Cert.KernelIdeal Cert.KernelIdeal.Gen Idealize.ShloMosaic.TcCoe

attribute [local irreducible] st_k0_t1 st_k0_t2

/-- The zeros a column of keys starts from. -/
noncomputable def zero14 : List (View.Piece (Elt Ideal) S4096x256 .f32) := [⟨Rect.unit (s := S4096x256) ![0, 0] S4096x256.size inb_S4096x256_S4096x256_0_0, k0_pay77 (F := Ideal)⟩]
noncomputable def zero15 : List (View.Piece (Elt Ideal) S4096x128 .f32) := [⟨Rect.unit (s := S4096x128) ![0, 0] S4096x128.size inb_S4096x128_S4096x128_0_0, k0_pay75 (F := Ideal)⟩]
noncomputable def zero16 : List (View.Piece (Elt Ideal) S4096x128 .f32) := [⟨Rect.unit (s := S4096x128) ![0, 0] S4096x128.size inb_S4096x128_S4096x128_0_0, k0_pay76 (F := Ideal)⟩]
section
variable (c : Dev nD) (i : grid0.Coords)
  (arg2 : Memref sig .tc .vmem S1024x128 .bf16) (harg2 : arg2.IsWhole)
  (arg3 : Memref sig .tc .vmem S4096x128 .bf16) (harg3 : arg3.IsWhole)
  (arg4 : Memref sig .tc .vmem S4096x128 .bf16) (harg4 : arg4.IsWhole)
  (arg5 : Memref sig .tc .vmem S1024x128 .f32) (harg5 : arg5.IsWhole)
  (arg6 : Memref sig .tc .vmem S1024x128 .f32) (harg6 : arg6.IsWhole)
  (arg7 : Memref sig .tc .vmem S16x1024 .f32) (harg7 : arg7.IsWhole)
  (arg8 : Memref sig .tc .vmem S16x1024 .f32) (harg8 : arg8.IsWhole)
  (arg9 : Memref sig .tc .vmem S4096x256 .f32) (harg9 : arg9.IsWhole)
  (arg10 : Memref sig .tc .vmem S1024x128 .bf16) (harg10 : arg10.IsWhole)
  (arg11 : Memref sig .tc .vmem S4096x128 .bf16) (harg11 : arg11.IsWhole)
  (arg12 : Memref sig .tc .vmem S4096x128 .bf16) (harg12 : arg12.IsWhole)
  (arg13 : Memref sig .tc .vmem S16x1024 .f32) (harg13 : arg13.IsWhole)
  (arg14 : Memref sig .tc .vmem S4096x256 .f32) (harg14 : arg14.IsWhole)
  (arg15 : Memref sig .tc .vmem S4096x128 .f32) (harg15 : arg15.IsWhole)
  (arg16 : Memref sig .tc .vmem S4096x128 .f32) (harg16 : arg16.IsWhole)
  (hc0 : cond0_0 i) (hc1 : ¬cond0_1 i)
  (x0 : Vec Ideal S1024x128 .bf16) (x1 x2 : Vec Ideal S4096x128 .bf16) (x3 x4 : Vec Ideal S1024x128 .f32)
  (x5 x6 : Vec Ideal S16x1024 .f32) (x7 : Vec Ideal S4096x256 .f32)

/-- The states the run goes through on the diagonal, after each tile. -/
noncomputable def stA1 : St :=
  ⟨(kernelRun0_A.sl.H12_2 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7),
    (kernelRun0_A.sl.HS0_2 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7),
    (kernelRun0_A.sl.HS1_2 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7),
    (kernelRun0_A.sl.r_19 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7),
    (kernelRun0_A.sl.r_20 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7),
    (kernelRun0_A.sl.r_25 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7),
    (kernelRun0_A.sl.r_26 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7)⟩

noncomputable def stA2 : St :=
  ⟨(kernelRun0_A.sl.H12_4 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7),
    (kernelRun0_A.sl.HS0_4 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7),
    (kernelRun0_A.sl.HS1_4 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7),
    (kernelRun0_A.sl.r_32 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7),
    (kernelRun0_A.sl.r_33 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7),
    (kernelRun0_A.sl.r_38 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7),
    (kernelRun0_A.sl.r_39 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7)⟩

noncomputable def stA3 : St :=
  ⟨(kernelRun0_A.sl.H12_6 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7),
    (kernelRun0_A.sl.HS0_6 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7),
    (kernelRun0_A.sl.HS1_6 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7),
    (kernelRun0_A.sl.r_47 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7),
    (kernelRun0_A.sl.r_48 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7),
    (kernelRun0_A.sl.r_53 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7),
    (kernelRun0_A.sl.r_54 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7)⟩

noncomputable def stA4 : St :=
  ⟨(kernelRun0_A.sl.H12_8 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7),
    (kernelRun0_A.sl.HS0_8 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7),
    (kernelRun0_A.sl.HS1_8 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7),
    (kernelRun0_A.sl.r_61 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7),
    (kernelRun0_A.sl.r_62 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7),
    (kernelRun0_A.sl.r_66 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7),
    (kernelRun0_A.sl.r_67 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7)⟩

noncomputable def stA5 : St :=
  ⟨(kernelRun0_A.sl.H12_10 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7),
    (kernelRun0_A.sl.HS0_10 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7),
    (kernelRun0_A.sl.HS1_10 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7),
    (kernelRun0_A.sl.r_74 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7),
    (kernelRun0_A.sl.r_75 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7),
    (kernelRun0_A.sl.r_83 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7),
    (kernelRun0_A.sl.r_84 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7)⟩

noncomputable def stA6 : St :=
  ⟨(kernelRun0_A.sl.H12_12 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7),
    (kernelRun0_A.sl.HS0_12 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7),
    (kernelRun0_A.sl.HS1_12 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7),
    (kernelRun0_A.sl.r_90 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7),
    (kernelRun0_A.sl.r_91 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7),
    (kernelRun0_A.sl.r_96 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7),
    (kernelRun0_A.sl.r_97 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7)⟩

noncomputable def stA7 : St :=
  ⟨(kernelRun0_A.sl.H12_14 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7),
    (kernelRun0_A.sl.HS0_14 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7),
    (kernelRun0_A.sl.HS1_14 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7),
    (kernelRun0_A.sl.r_105 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7),
    (kernelRun0_A.sl.r_106 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7),
    (kernelRun0_A.sl.r_111 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7),
    (kernelRun0_A.sl.r_112 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7)⟩

noncomputable def stA8 : St :=
  ⟨(kernelRun0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7).2.2.2.2.1,
    (kernelRun0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7).2.2.2.2.2.1,
    (kernelRun0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7).2.2.2.2.2.2.1,
    (kernelRun0_A.sl.r_118 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7),
    (kernelRun0_A.sl.r_119 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7),
    dqTop (kernelRun0_A.sl.r_111 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7)
      (kernelRun0_A.sl.r_120 (F := Ideal) i arg3 harg3 x1)
      (kernelRun0_A.sl.r_123 (F := Ideal) c i arg2 harg2 arg3 harg3 arg4 harg4 arg5 harg5 arg6 harg6 arg7 harg7 arg8 harg8 arg9 harg9 x0 x1 x2 x3 x4 x5 x6 x7),
    (kernelRun0_A.sl.r_124 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7)⟩

/-- The two loops, as the run has them. -/
noncomputable def oneA := st_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 1).val) (kernelRun0_A.sl.r (F := Ideal) c arg2 harg2 x0) (kernelRun0_A.sl.r_1 (F := Ideal) c arg2 harg2 x0) (kernelRun0_A.sl.r_2 (F := Ideal) c arg5 harg5 x3) (kernelRun0_A.sl.r_3 (F := Ideal) c arg5 harg5 x3) (kernelRun0_A.sl.r_4 (F := Ideal) c arg5 harg5 arg6 harg6 x3 x4) (kernelRun0_A.sl.r_5 (F := Ideal) c arg5 harg5 arg6 harg6 x3 x4) (kernelRun0_A.sl.r_6 (F := Ideal) c arg8 harg8 x6) (kernelRun0_A.sl.r_7 (F := Ideal) c arg8 harg8 x6) (kernelRun0_A.sl.r_8 (F := Ideal) c arg7 harg7 x5) (View.readAt (Elt Ideal) arg7.view (Rect.unit (s := S16x1024) ![8, 0] S1x1024.size inb_S16x1024_S1x1024_8_0).toLoadRect (harg7.unread (Val := Elt Ideal) x5))
    (harg3.unread (Val := Elt Ideal) x1) (harg4.unread (Val := Elt Ideal) x2) (harg9.unread (Val := Elt Ideal) x7)
    (arg14.view.writes (Elt Ideal) arg14.view.junk zero14) (arg15.view.writes (Elt Ideal) arg15.view.junk zero15) (arg16.view.writes (Elt Ideal) arg16.view.junk zero16)
    (k0_pay89 (F := Ideal), k0_pay90 (F := Ideal), k0_pay89 (F := Ideal), k0_pay90 (F := Ideal)) (Scf.trips (k0_t1_loop i).lb (k0_t1_loop i).ub (k0_t1_loop i).st)

noncomputable def twoA := st_k0_t2 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 1).val) (kernelRun0_A.sl.r (F := Ideal) c arg2 harg2 x0) (kernelRun0_A.sl.r_1 (F := Ideal) c arg2 harg2 x0) (kernelRun0_A.sl.r_2 (F := Ideal) c arg5 harg5 x3) (kernelRun0_A.sl.r_3 (F := Ideal) c arg5 harg5 x3) (kernelRun0_A.sl.r_4 (F := Ideal) c arg5 harg5 arg6 harg6 x3 x4) (kernelRun0_A.sl.r_5 (F := Ideal) c arg5 harg5 arg6 harg6 x3 x4) (kernelRun0_A.sl.r_6 (F := Ideal) c arg8 harg8 x6) (kernelRun0_A.sl.r_7 (F := Ideal) c arg8 harg8 x6) (kernelRun0_A.sl.r_8 (F := Ideal) c arg7 harg7 x5) (View.readAt (Elt Ideal) arg7.view (Rect.unit (s := S16x1024) ![8, 0] S1x1024.size inb_S16x1024_S1x1024_8_0).toLoadRect (harg7.unread (Val := Elt Ideal) x5))
    (kernelRun0_A.sl.v43 i) (harg3.unread (Val := Elt Ideal) x1) (harg4.unread (Val := Elt Ideal) x2) (harg9.unread (Val := Elt Ideal) x7)
    (arg14.view.writes (Elt Ideal) arg14.view.junk ((oneA c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7).2.1 ++ zero14))
    (arg15.view.writes (Elt Ideal) arg15.view.junk ((oneA c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7).2.2.1 ++ zero15))
    (arg16.view.writes (Elt Ideal) arg16.view.junk ((oneA c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7).2.2.2 ++ zero16))
    ((oneA c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7).1.1, (oneA c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7).1.2.1, (oneA c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7).1.2.2.1, (oneA c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7).1.2.2.2) (Scf.trips (k0_t2_loop i).lb (k0_t2_loop i).ub (k0_t2_loop i).st)

theorem oneA_eq : oneA c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 = one c i arg2 harg2 arg3 harg3 arg4 harg4 arg5 harg5 arg6 harg6 arg7 harg7 arg8 harg8 arg9 harg9 arg10 harg10 arg11 harg11 arg12 harg12 arg13 harg13 arg14 harg14 arg15 harg15 arg16 harg16 (blk i x0 x1 x2 x3 x4 x5 x6 x7) (arg14.view.writes (Elt Ideal) arg14.view.junk zero14) (arg15.view.writes (Elt Ideal) arg15.view.junk zero15) (arg16.view.writes (Elt Ideal) arg16.view.junk zero16) := (rfl)

theorem twoA_eq : twoA c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 = two c i arg2 harg2 arg3 harg3 arg4 harg4 arg5 harg5 arg6 harg6 arg7 harg7 arg8 harg8 arg9 harg9 arg10 harg10 arg11 harg11 arg12 harg12 arg13 harg13 arg14 harg14 arg15 harg15 arg16 harg16 (blk i x0 x1 x2 x3 x4 x5 x6 x7) (arg14.view.writes (Elt Ideal) arg14.view.junk ((one c i arg2 harg2 arg3 harg3 arg4 harg4 arg5 harg5 arg6 harg6 arg7 harg7 arg8 harg8 arg9 harg9 arg10 harg10 arg11 harg11 arg12 harg12 arg13 harg13 arg14 harg14 arg15 harg15 arg16 harg16 (blk i x0 x1 x2 x3 x4 x5 x6 x7) (arg14.view.writes (Elt Ideal) arg14.view.junk zero14) (arg15.view.writes (Elt Ideal) arg15.view.junk zero15) (arg16.view.writes (Elt Ideal) arg16.view.junk zero16)).2.1 ++ zero14))
    (arg15.view.writes (Elt Ideal) arg15.view.junk ((one c i arg2 harg2 arg3 harg3 arg4 harg4 arg5 harg5 arg6 harg6 arg7 harg7 arg8 harg8 arg9 harg9 arg10 harg10 arg11 harg11 arg12 harg12 arg13 harg13 arg14 harg14 arg15 harg15 arg16 harg16 (blk i x0 x1 x2 x3 x4 x5 x6 x7) (arg14.view.writes (Elt Ideal) arg14.view.junk zero14) (arg15.view.writes (Elt Ideal) arg15.view.junk zero15) (arg16.view.writes (Elt Ideal) arg16.view.junk zero16)).2.2.1 ++ zero15))
    (arg16.view.writes (Elt Ideal) arg16.view.junk ((one c i arg2 harg2 arg3 harg3 arg4 harg4 arg5 harg5 arg6 harg6 arg7 harg7 arg8 harg8 arg9 harg9 arg10 harg10 arg11 harg11 arg12 harg12 arg13 harg13 arg14 harg14 arg15 harg15 arg16 harg16 (blk i x0 x1 x2 x3 x4 x5 x6 x7) (arg14.view.writes (Elt Ideal) arg14.view.junk zero14) (arg15.view.writes (Elt Ideal) arg15.view.junk zero15) (arg16.view.writes (Elt Ideal) arg16.view.junk zero16)).2.2.2 ++ zero16))
    ((one c i arg2 harg2 arg3 harg3 arg4 harg4 arg5 harg5 arg6 harg6 arg7 harg7 arg8 harg8 arg9 harg9 arg10 harg10 arg11 harg11 arg12 harg12 arg13 harg13 arg14 harg14 arg15 harg15 arg16 harg16 (blk i x0 x1 x2 x3 x4 x5 x6 x7) (arg14.view.writes (Elt Ideal) arg14.view.junk zero14) (arg15.view.writes (Elt Ideal) arg15.view.junk zero15) (arg16.view.writes (Elt Ideal) arg16.view.junk zero16)).1.1, (one c i arg2 harg2 arg3 harg3 arg4 harg4 arg5 harg5 arg6 harg6 arg7 harg7 arg8 harg8 arg9 harg9 arg10 harg10 arg11 harg11 arg12 harg12 arg13 harg13 arg14 harg14 arg15 harg15 arg16 harg16 (blk i x0 x1 x2 x3 x4 x5 x6 x7) (arg14.view.writes (Elt Ideal) arg14.view.junk zero14) (arg15.view.writes (Elt Ideal) arg15.view.junk zero15) (arg16.view.writes (Elt Ideal) arg16.view.junk zero16)).1.2.1, (one c i arg2 harg2 arg3 harg3 arg4 harg4 arg5 harg5 arg6 harg6 arg7 harg7 arg8 harg8 arg9 harg9 arg10 harg10 arg11 harg11 arg12 harg12 arg13 harg13 arg14 harg14 arg15 harg15 arg16 harg16 (blk i x0 x1 x2 x3 x4 x5 x6 x7) (arg14.view.writes (Elt Ideal) arg14.view.junk zero14) (arg15.view.writes (Elt Ideal) arg15.view.junk zero15) (arg16.view.writes (Elt Ideal) arg16.view.junk zero16)).1.2.2.1, (one c i arg2 harg2 arg3 harg3 arg4 harg4 arg5 harg5 arg6 harg6 arg7 harg7 arg8 harg8 arg9 harg9 arg10 harg10 arg11 harg11 arg12 harg12 arg13 harg13 arg14 harg14 arg15 harg15 arg16 harg16 (blk i x0 x1 x2 x3 x4 x5 x6 x7) (arg14.view.writes (Elt Ideal) arg14.view.junk zero14) (arg15.view.writes (Elt Ideal) arg15.view.junk zero15) (arg16.view.writes (Elt Ideal) arg16.view.junk zero16)).1.2.2.2) := by
  unfold twoA
  rw [oneA_eq]
  exact (rfl)

/-- The state before the diagonal. -/
noncomputable def stA0 : St :=
  ⟨(twoA c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7).2.1 ++ ((oneA c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7).2.1 ++ zero14),
    (twoA c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7).2.2.1 ++ ((oneA c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7).2.2.1 ++ zero15),
    (twoA c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7).2.2.2 ++ ((oneA c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7).2.2.2 ++ zero16),
    (kernelRun0_A.sl.r_11 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7), (kernelRun0_A.sl.r_12 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7), (kernelRun0_A.sl.r_13 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7), (kernelRun0_A.sl.r_14 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7)⟩

theorem isA0 : stA0 c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 = base c i arg2 harg2 arg3 harg3 arg4 harg4 arg5 harg5 arg6 harg6 arg7 harg7 arg8 harg8 arg9 harg9 arg10 harg10 arg11 harg11 arg12 harg12 arg13 harg13 arg14 harg14 arg15 harg15 arg16 harg16 (blk i x0 x1 x2 x3 x4 x5 x6 x7) arg14.view.junk arg15.view.junk arg16.view.junk
    (St.mk ((one c i arg2 harg2 arg3 harg3 arg4 harg4 arg5 harg5 arg6 harg6 arg7 harg7 arg8 harg8 arg9 harg9 arg10 harg10 arg11 harg11 arg12 harg12 arg13 harg13 arg14 harg14 arg15 harg15 arg16 harg16 (blk i x0 x1 x2 x3 x4 x5 x6 x7) (arg14.view.writes (Elt Ideal) arg14.view.junk zero14) (arg15.view.writes (Elt Ideal) arg15.view.junk zero15) (arg16.view.writes (Elt Ideal) arg16.view.junk zero16)).2.1 ++ zero14)
      ((one c i arg2 harg2 arg3 harg3 arg4 harg4 arg5 harg5 arg6 harg6 arg7 harg7 arg8 harg8 arg9 harg9 arg10 harg10 arg11 harg11 arg12 harg12 arg13 harg13 arg14 harg14 arg15 harg15 arg16 harg16 (blk i x0 x1 x2 x3 x4 x5 x6 x7) (arg14.view.writes (Elt Ideal) arg14.view.junk zero14) (arg15.view.writes (Elt Ideal) arg15.view.junk zero15) (arg16.view.writes (Elt Ideal) arg16.view.junk zero16)).2.2.1 ++ zero15)
      ((one c i arg2 harg2 arg3 harg3 arg4 harg4 arg5 harg5 arg6 harg6 arg7 harg7 arg8 harg8 arg9 harg9 arg10 harg10 arg11 harg11 arg12 harg12 arg13 harg13 arg14 harg14 arg15 harg15 arg16 harg16 (blk i x0 x1 x2 x3 x4 x5 x6 x7) (arg14.view.writes (Elt Ideal) arg14.view.junk zero14) (arg15.view.writes (Elt Ideal) arg15.view.junk zero15) (arg16.view.writes (Elt Ideal) arg16.view.junk zero16)).2.2.2 ++ zero16)
      (one c i arg2 harg2 arg3 harg3 arg4 harg4 arg5 harg5 arg6 harg6 arg7 harg7 arg8 harg8 arg9 harg9 arg10 harg10 arg11 harg11 arg12 harg12 arg13 harg13 arg14 harg14 arg15 harg15 arg16 harg16 (blk i x0 x1 x2 x3 x4 x5 x6 x7) (arg14.view.writes (Elt Ideal) arg14.view.junk zero14) (arg15.view.writes (Elt Ideal) arg15.view.junk zero15) (arg16.view.writes (Elt Ideal) arg16.view.junk zero16)).1) := by
  have e : stA0 c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 =
    ⟨(twoA c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7).2.1 ++ ((oneA c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7).2.1 ++ zero14), (twoA c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7).2.2.1 ++ ((oneA c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7).2.2.1 ++ zero15), (twoA c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7).2.2.2 ++ ((oneA c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7).2.2.2 ++ zero16), (twoA c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7).1⟩ := (rfl)
  rw [e, twoA_eq, oneA_eq]
  rfl

theorem isA1 : stA1 c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7
    = dStep i (harg3.unread (Val := Elt Ideal) x1) (harg4.unread (Val := Elt Ideal) x2) (harg9.unread (Val := Elt Ideal) x7) arg14.view.junk arg15.view.junk arg16.view.junk
      (hv0 arg2 harg2 arg5 harg5 arg6 harg6 arg7 harg7 arg8 harg8 (blk i x0 x1 x2 x3 x4 x5 x6 x7)) (hv1 arg2 harg2 arg5 harg5 arg6 harg6 arg7 harg7 arg8 harg8 (blk i x0 x1 x2 x3 x4 x5 x6 x7)) ⟨0, by omega⟩ (stA0 c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7) :=
  dStep_eq _ _ _ _ _ _ _ _ _ _ rfl rfl rfl rfl rfl rfl rfl rfl rfl rfl rfl

theorem isA2 : stA2 c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7
    = dStep i (harg3.unread (Val := Elt Ideal) x1) (harg4.unread (Val := Elt Ideal) x2) (harg9.unread (Val := Elt Ideal) x7) arg14.view.junk arg15.view.junk arg16.view.junk
      (hv0 arg2 harg2 arg5 harg5 arg6 harg6 arg7 harg7 arg8 harg8 (blk i x0 x1 x2 x3 x4 x5 x6 x7)) (hv1 arg2 harg2 arg5 harg5 arg6 harg6 arg7 harg7 arg8 harg8 (blk i x0 x1 x2 x3 x4 x5 x6 x7)) ⟨1, by omega⟩ (stA1 c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7) :=
  dStep_eq _ _ _ _ _ _ _ _ _ _ rfl rfl rfl rfl rfl rfl rfl rfl rfl rfl rfl

theorem isA3 : stA3 c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7
    = dStep i (harg3.unread (Val := Elt Ideal) x1) (harg4.unread (Val := Elt Ideal) x2) (harg9.unread (Val := Elt Ideal) x7) arg14.view.junk arg15.view.junk arg16.view.junk
      (hv0 arg2 harg2 arg5 harg5 arg6 harg6 arg7 harg7 arg8 harg8 (blk i x0 x1 x2 x3 x4 x5 x6 x7)) (hv1 arg2 harg2 arg5 harg5 arg6 harg6 arg7 harg7 arg8 harg8 (blk i x0 x1 x2 x3 x4 x5 x6 x7)) ⟨2, by omega⟩ (stA2 c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7) :=
  dStep_eq _ _ _ _ _ _ _ _ _ _ rfl rfl rfl rfl rfl rfl rfl rfl rfl rfl rfl

theorem isA4 : stA4 c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7
    = dStep i (harg3.unread (Val := Elt Ideal) x1) (harg4.unread (Val := Elt Ideal) x2) (harg9.unread (Val := Elt Ideal) x7) arg14.view.junk arg15.view.junk arg16.view.junk
      (hv0 arg2 harg2 arg5 harg5 arg6 harg6 arg7 harg7 arg8 harg8 (blk i x0 x1 x2 x3 x4 x5 x6 x7)) (hv1 arg2 harg2 arg5 harg5 arg6 harg6 arg7 harg7 arg8 harg8 (blk i x0 x1 x2 x3 x4 x5 x6 x7)) ⟨3, by omega⟩ (stA3 c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7) :=
  dStep_eq _ _ _ _ _ _ _ _ _ _ rfl rfl rfl rfl rfl rfl rfl rfl rfl rfl rfl

theorem isA5 : stA5 c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7
    = dStep i (harg3.unread (Val := Elt Ideal) x1) (harg4.unread (Val := Elt Ideal) x2) (harg9.unread (Val := Elt Ideal) x7) arg14.view.junk arg15.view.junk arg16.view.junk
      (hv0 arg2 harg2 arg5 harg5 arg6 harg6 arg7 harg7 arg8 harg8 (blk i x0 x1 x2 x3 x4 x5 x6 x7)) (hv1 arg2 harg2 arg5 harg5 arg6 harg6 arg7 harg7 arg8 harg8 (blk i x0 x1 x2 x3 x4 x5 x6 x7)) ⟨4, by omega⟩ (stA4 c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7) :=
  dStep_eq _ _ _ _ _ _ _ _ _ _ rfl rfl rfl rfl rfl rfl rfl rfl rfl rfl rfl

theorem isA6 : stA6 c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7
    = dStep i (harg3.unread (Val := Elt Ideal) x1) (harg4.unread (Val := Elt Ideal) x2) (harg9.unread (Val := Elt Ideal) x7) arg14.view.junk arg15.view.junk arg16.view.junk
      (hv0 arg2 harg2 arg5 harg5 arg6 harg6 arg7 harg7 arg8 harg8 (blk i x0 x1 x2 x3 x4 x5 x6 x7)) (hv1 arg2 harg2 arg5 harg5 arg6 harg6 arg7 harg7 arg8 harg8 (blk i x0 x1 x2 x3 x4 x5 x6 x7)) ⟨5, by omega⟩ (stA5 c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7) :=
  dStep_eq _ _ _ _ _ _ _ _ _ _ rfl rfl rfl rfl rfl rfl rfl rfl rfl rfl rfl

theorem isA7 : stA7 c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7
    = dStep i (harg3.unread (Val := Elt Ideal) x1) (harg4.unread (Val := Elt Ideal) x2) (harg9.unread (Val := Elt Ideal) x7) arg14.view.junk arg15.view.junk arg16.view.junk
      (hv0 arg2 harg2 arg5 harg5 arg6 harg6 arg7 harg7 arg8 harg8 (blk i x0 x1 x2 x3 x4 x5 x6 x7)) (hv1 arg2 harg2 arg5 harg5 arg6 harg6 arg7 harg7 arg8 harg8 (blk i x0 x1 x2 x3 x4 x5 x6 x7)) ⟨6, by omega⟩ (stA6 c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7) :=
  dStep_eq _ _ _ _ _ _ _ _ _ _ rfl rfl rfl rfl rfl rfl rfl rfl rfl rfl rfl

theorem isA8 : stA8 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7
    = dStep i (harg3.unread (Val := Elt Ideal) x1) (harg4.unread (Val := Elt Ideal) x2) (harg9.unread (Val := Elt Ideal) x7) arg14.view.junk arg15.view.junk arg16.view.junk
      (hv0 arg2 harg2 arg5 harg5 arg6 harg6 arg7 harg7 arg8 harg8 (blk i x0 x1 x2 x3 x4 x5 x6 x7)) (hv1 arg2 harg2 arg5 harg5 arg6 harg6 arg7 harg7 arg8 harg8 (blk i x0 x1 x2 x3 x4 x5 x6 x7)) ⟨7, by omega⟩ (stA7 c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7) :=
  dStep_eq _ _ _ _ _ _ _ _ _ _ rfl rfl rfl rfl rfl rfl rfl rfl rfl rfl rfl

/-- The whole of the run. -/
theorem stA8_eq : stA8 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 = whole c i arg2 harg2 arg3 harg3 arg4 harg4 arg5 harg5 arg6 harg6 arg7 harg7 arg8 harg8 arg9 harg9 arg10 harg10 arg11 harg11 arg12 harg12 arg13 harg13 arg14 harg14 arg15 harg15 arg16 harg16 (blk i x0 x1 x2 x3 x4 x5 x6 x7) arg14.view.junk arg15.view.junk arg16.view.junk
    (St.mk ((one c i arg2 harg2 arg3 harg3 arg4 harg4 arg5 harg5 arg6 harg6 arg7 harg7 arg8 harg8 arg9 harg9 arg10 harg10 arg11 harg11 arg12 harg12 arg13 harg13 arg14 harg14 arg15 harg15 arg16 harg16 (blk i x0 x1 x2 x3 x4 x5 x6 x7) (arg14.view.writes (Elt Ideal) arg14.view.junk zero14) (arg15.view.writes (Elt Ideal) arg15.view.junk zero15) (arg16.view.writes (Elt Ideal) arg16.view.junk zero16)).2.1 ++ zero14)
      ((one c i arg2 harg2 arg3 harg3 arg4 harg4 arg5 harg5 arg6 harg6 arg7 harg7 arg8 harg8 arg9 harg9 arg10 harg10 arg11 harg11 arg12 harg12 arg13 harg13 arg14 harg14 arg15 harg15 arg16 harg16 (blk i x0 x1 x2 x3 x4 x5 x6 x7) (arg14.view.writes (Elt Ideal) arg14.view.junk zero14) (arg15.view.writes (Elt Ideal) arg15.view.junk zero15) (arg16.view.writes (Elt Ideal) arg16.view.junk zero16)).2.2.1 ++ zero15)
      ((one c i arg2 harg2 arg3 harg3 arg4 harg4 arg5 harg5 arg6 harg6 arg7 harg7 arg8 harg8 arg9 harg9 arg10 harg10 arg11 harg11 arg12 harg12 arg13 harg13 arg14 harg14 arg15 harg15 arg16 harg16 (blk i x0 x1 x2 x3 x4 x5 x6 x7) (arg14.view.writes (Elt Ideal) arg14.view.junk zero14) (arg15.view.writes (Elt Ideal) arg15.view.junk zero15) (arg16.view.writes (Elt Ideal) arg16.view.junk zero16)).2.2.2 ++ zero16)
      (one c i arg2 harg2 arg3 harg3 arg4 harg4 arg5 harg5 arg6 harg6 arg7 harg7 arg8 harg8 arg9 harg9 arg10 harg10 arg11 harg11 arg12 harg12 arg13 harg13 arg14 harg14 arg15 harg15 arg16 harg16 (blk i x0 x1 x2 x3 x4 x5 x6 x7) (arg14.view.writes (Elt Ideal) arg14.view.junk zero14) (arg15.view.writes (Elt Ideal) arg15.view.junk zero15) (arg16.view.writes (Elt Ideal) arg16.view.junk zero16)).1) :=
  have e1 := diag_succ i arg2 harg2 arg3 harg3 arg4 harg4 arg5 harg5 arg6 harg6 arg7 harg7 arg8 harg8 arg9 harg9 arg14 arg15 arg16 (blk i x0 x1 x2 x3 x4 x5 x6 x7) (s₀ := stA0 c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7) (s' := stA1 c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7) (hn := (by omega : 0 + 1 ≤ 8)) rfl
    (isA1 c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7)
  have e2 := diag_succ i arg2 harg2 arg3 harg3 arg4 harg4 arg5 harg5 arg6 harg6 arg7 harg7 arg8 harg8 arg9 harg9 arg14 arg15 arg16 (blk i x0 x1 x2 x3 x4 x5 x6 x7) (s₀ := stA0 c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7) (s' := stA2 c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7) (hn := (by omega : 1 + 1 ≤ 8)) e1
    (isA2 c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7)
  have e3 := diag_succ i arg2 harg2 arg3 harg3 arg4 harg4 arg5 harg5 arg6 harg6 arg7 harg7 arg8 harg8 arg9 harg9 arg14 arg15 arg16 (blk i x0 x1 x2 x3 x4 x5 x6 x7) (s₀ := stA0 c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7) (s' := stA3 c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7) (hn := (by omega : 2 + 1 ≤ 8)) e2
    (isA3 c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7)
  have e4 := diag_succ i arg2 harg2 arg3 harg3 arg4 harg4 arg5 harg5 arg6 harg6 arg7 harg7 arg8 harg8 arg9 harg9 arg14 arg15 arg16 (blk i x0 x1 x2 x3 x4 x5 x6 x7) (s₀ := stA0 c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7) (s' := stA4 c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7) (hn := (by omega : 3 + 1 ≤ 8)) e3
    (isA4 c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7)
  have e5 := diag_succ i arg2 harg2 arg3 harg3 arg4 harg4 arg5 harg5 arg6 harg6 arg7 harg7 arg8 harg8 arg9 harg9 arg14 arg15 arg16 (blk i x0 x1 x2 x3 x4 x5 x6 x7) (s₀ := stA0 c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7) (s' := stA5 c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7) (hn := (by omega : 4 + 1 ≤ 8)) e4
    (isA5 c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7)
  have e6 := diag_succ i arg2 harg2 arg3 harg3 arg4 harg4 arg5 harg5 arg6 harg6 arg7 harg7 arg8 harg8 arg9 harg9 arg14 arg15 arg16 (blk i x0 x1 x2 x3 x4 x5 x6 x7) (s₀ := stA0 c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7) (s' := stA6 c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7) (hn := (by omega : 5 + 1 ≤ 8)) e5
    (isA6 c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7)
  have e7 := diag_succ i arg2 harg2 arg3 harg3 arg4 harg4 arg5 harg5 arg6 harg6 arg7 harg7 arg8 harg8 arg9 harg9 arg14 arg15 arg16 (blk i x0 x1 x2 x3 x4 x5 x6 x7) (s₀ := stA0 c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7) (s' := stA7 c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7) (hn := (by omega : 6 + 1 ≤ 8)) e6
    (isA7 c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7)
  have e8 := diag_succ i arg2 harg2 arg3 harg3 arg4 harg4 arg5 harg5 arg6 harg6 arg7 harg7 arg8 harg8 arg9 harg9 arg14 arg15 arg16 (blk i x0 x1 x2 x3 x4 x5 x6 x7) (s₀ := stA0 c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7) (s' := stA8 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7) (hn := (by omega : 7 + 1 ≤ 8)) e7
    (isA8 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7)
  e8.trans (by unfold whole; rw [isA0])

end

end FoxBwd
-- ==== Proof.Out.lean ====
/-
  What a grid point leaves, in natural-number coordinates: the block of the queries' gradient, the rows of their forget-gate
  gradient, and the three buffers of all the keys with this point's contributions added.
-/
module

public import proofs.«01_k».proof.Proof.State
public import Idealize.ShloMosaic.Lib.Pipeline.FrameBody
public import Idealize.ShloMosaic.Lib.VecWindow

@[expose] public section

set_option maxRecDepth 16384

namespace FoxBwd

open Idealize.ShloMosaic

theorem pmM_of_lt {B : Blk} {hh s t : ℕ} (h : 1024 * B.qi + t < s) : pmM B hh s t = 0 := if_pos h

theorem dkM_late {B : Blk} {hh s d : ℕ} (h : 128 * (8 * B.qi + 8) ≤ s) : dkM B hh s d = 0 :=
  Finset.sum_eq_zero fun t ht => by
    rw [dsM_of_lt B hh (by have := Finset.mem_range.mp ht; omega), zero_mul]

theorem dvM_late {B : Blk} {hh s d : ℕ} (h : 128 * (8 * B.qi + 8) ≤ s) : dvM B hh s d = 0 :=
  Finset.sum_eq_zero fun t ht => by
    rw [pmM_of_lt (by have := Finset.mem_range.mp ht; omega), zero_mul]

theorem dcM_late {B : Blk} {hh s : ℕ} (h : 128 * (8 * B.qi + 8) ≤ s) : dcM B hh s = 0 :=
  Finset.sum_eq_zero fun t ht => dsM_of_lt B hh (by have := Finset.mem_range.mp ht; omega)

/-- After a point's last tile every key has its contribution. -/
theorem addTo_full {C δ : ℕ → ℕ → EReal} {n s l : ℕ} (h : 128 * n ≤ s → δ s l = 0) : addTo C δ n s l = C s l + δ s l := by
  unfold addTo
  by_cases hs : s < 128 * n
  · rw [if_pos hs]
  · rw [if_neg hs, h (by omega)]

/-- What a point leaves, from the contents `C14`, `C15`, `C16` before it. -/
structure PointOk (B : Blk) (C14 C15 C16 : ℕ → ℕ → EReal) (o8 : (Sh 1024 128).Idx → EReal)
    (o11 : (Sh 16 1024).Idx → EReal) (o12 : (Sh 4096 256).Idx → EReal) (s0 s1 : (Sh 4096 128).Idx → EReal) : Prop where
  dq : ∀ (t : Fin 1024) (l : Fin 128), o8 (ix2 t l) = dqM B (l / 64) (8 * B.qi + 8) (l % 64) t * c8
  dcq : ∀ (r : Fin 16) (t : Fin 1024), o11 (ix2 r t) = dcqM B (r / 8) (8 * B.qi + 8) t
  dc : ∀ (s : Fin 4096) (l : Fin 256), o12 (ix2 s l) = C14 s l + dcF B s l
  dk : ∀ (s : Fin 4096) (l : Fin 128), s0 (ix2 s l) = C15 s l + dkF B s l
  dv : ∀ (s : Fin 4096) (l : Fin 128), s1 (ix2 s l) = C16 s l + dvF B s l

/-- The block of the queries' gradient: both heads' sums, turned to rows of queries, with the scale. -/
noncomputable def dqOut (hc : Shape.Concatenates [Sh 64 1024, Sh 64 1024] (Sh 128 1024) 0)
    (ht : (Sh 128 1024).Transposes [1, 0] (Sh 1024 128)) (lo hi : FVec Ideal (Sh 64 1024) .f32) :
    FVec Ideal (Sh 1024 128) .bf16 :=
  truncf .bf16 (mulf (transpose (Sh 1024 128) [1, 0]
    (concatenate (Sh 128 1024) 0 [⟨Sh 64 1024, lo⟩, ⟨Sh 64 1024, hi⟩] hc) ht)
    (broadcast (Sh 1024 128) (Scalar.ofBits (F := Ideal) .f32 0x3E000000#32)))

theorem dqOut_apply (hc : Shape.Concatenates [Sh 64 1024, Sh 64 1024] (Sh 128 1024) 0)
    (ht : (Sh 128 1024).Transposes [1, 0] (Sh 1024 128)) (lo hi : FVec Ideal (Sh 64 1024) .f32)
    (f : ℕ → ℕ → ℕ → EReal) (hl : ∀ (d : Fin 64) (t : Fin 1024), lo (ix2 d t) = f 0 d t)
    (hh : ∀ (d : Fin 64) (t : Fin 1024), hi (ix2 d t) = f 1 d t) (t : Fin 1024) (l : Fin 128) :
    dqOut hc ht lo hi (ix2 t l) = f (l / 64) (l % 64) t * c8 := by
  show transpose (Sh 1024 128) [1, 0] _ ht (ix2 t l) * c8 = _
  congr 1
  rw [transpose_apply [1, 0] _ ht (ix2 t l) (ix2 l t) (by intro b; match b with | ⟨0, _⟩ => rfl | ⟨1, _⟩ => rfl),
    concatenate_pair_apply]
  by_cases h : l.val < 64
  · refine (dif_pos (show (ix2 l t 0).val < 64 from h)).trans ?_
    have e := hl ⟨l, h⟩ t
    rw [show l.val / 64 = 0 by omega, show l.val % 64 = l.val by omega]
    refine Eq.trans ?_ e
    refine congrArg lo (funext fun x => Fin.ext ?_)
    match x with
    | ⟨0, _⟩ => rfl
    | ⟨1, _⟩ => rfl
  · refine (dif_neg (show ¬ (ix2 l t 0).val < 64 from h)).trans ?_
    have e := hh ⟨l - 64, by omega⟩ t
    rw [show l.val / 64 = 1 by omega, show l.val % 64 = l.val - 64 by omega]
    refine Eq.trans ?_ e
    refine congrArg hi (funext fun x => Fin.ext ?_)
    match x with
    | ⟨0, _⟩ => rfl
    | ⟨1, _⟩ => rfl

/-- Two rows, each laid on eight rows. -/
theorem rows_apply {sig : RefSig} {κ : Kind} {sp : Space} (v : View sig κ sp (Sh 16 1024) .f32)
    (u : v.ty.Contents (Elt Ideal)) (i0 : ∀ a, (![0, 0] : Fin 2 → ℕ) a + (Sh 8 1024).size a ≤ (Sh 16 1024).size a)
    (i1 : ∀ a, (![8, 0] : Fin 2 → ℕ) a + (Sh 8 1024).size a ≤ (Sh 16 1024).size a)
    (a b : (Sh 8 1024).Idx → EReal) (f : ℕ → ℕ → EReal)
    (ha : ∀ (r : Fin 8) (t : Fin 1024), a (ix2 r t) = f 0 t) (hb : ∀ (r : Fin 8) (t : Fin 1024), b (ix2 r t) = f 1 t)
    (r : Fin 16) (t : Fin 1024) :
    v.read (Elt Ideal) (v.writes (Elt Ideal) u [⟨Rect.unit (s := Sh 16 1024) ![8, 0] (Sh 8 1024).size i1, b⟩,
      ⟨Rect.unit (s := Sh 16 1024) ![0, 0] (Sh 8 1024).size i0, a⟩]) (ix2 r t) = f (r / 8) t := by
  rw [View.read_writes_cons_rows v u i1 b _ (ix2 r t) rfl rfl rfl]
  beta_reduce
  by_cases h : 8 ≤ r.val
  · refine (dif_pos (show 8 ≤ (ix2 r t 0).val ∧ (ix2 r t 0).val < 8 + 8 from ⟨h, by show r.val < _; omega⟩)).trans ?_
    rw [show r.val / 8 = 1 by omega, ← hb ⟨r - 8, by omega⟩ t]
    refine congrArg b (funext fun x => Fin.ext ?_)
    match x with
    | ⟨0, _⟩ => rfl
    | ⟨1, _⟩ => rfl
  · refine (dif_neg (show ¬ (8 ≤ (ix2 r t 0).val ∧ (ix2 r t 0).val < 8 + 8) from fun h' => h h'.1)).trans ?_
    rw [View.read_writes_cons_rows v u i0 a _ (ix2 r t) rfl rfl rfl]
    beta_reduce
    refine (dif_pos (show 0 ≤ (ix2 r t 0).val ∧ (ix2 r t 0).val < 0 + 8 from
      ⟨Nat.zero_le _, by show r.val < _; omega⟩)).trans ?_
    rw [show r.val / 8 = 0 by omega, ← ha ⟨r, by omega⟩ t]
    refine congrArg a (funext fun x => Fin.ext ?_)
    match x with
    | ⟨0, _⟩ => rfl
    | ⟨1, _⟩ => rfl

/-- A row laid on eight rows. -/
noncomputable def row8 (hs : (Sh 1 1024).ShapeCasts (Sh 1 1024)) (hb : (Sh 1 1024).Broadcasts (Sh 8 1024))
    (x : FVec Ideal (Sh 1 1024) .f32) : FVec Ideal (Sh 8 1024) .f32 :=
  broadcastTo (Sh 8 1024) (shapeCast (Sh 1 1024) x hs) hb

theorem row8_apply (hs : (Sh 1 1024).ShapeCasts (Sh 1 1024)) (hb : (Sh 1 1024).Broadcasts (Sh 8 1024))
    (x : FVec Ideal (Sh 1 1024) .f32) (r : Fin 8) (t : Fin 1024) : row8 hs hb x (ix2 r t) = x (ix2 0 t) := by
  unfold row8
  rw [shapeCast_self]
  refine congrArg x (funext fun b => Fin.ext ?_)
  match b with
  | ⟨0, _⟩ => rfl
  | ⟨1, _⟩ => rfl

variable {sig : RefSig} {κ : Kind} {sp : Space} {m14 : Memref sig κ sp (Sh 4096 256) .f32}
  {m15 m16 : Memref sig κ sp (Sh 4096 128) .f32}

/-- A point whose state is good after its last tile leaves what it should. -/
theorem pointOk {B : Blk} {C14 C15 C16 : ℕ → ℕ → EReal} {f14 : m14.view.ty.Contents (Elt Ideal)}
    {f15 : m15.view.ty.Contents (Elt Ideal)} {f16 : m16.view.ty.Contents (Elt Ideal)} {a : Acc}
    (G : Good B m14 m15 m16 C14 C15 C16 (8 * B.qi + 8) f14 f15 f16 a)
    {hc : Shape.Concatenates [Sh 64 1024, Sh 64 1024] (Sh 128 1024) 0}
    {ht : (Sh 128 1024).Transposes [1, 0] (Sh 1024 128)} {hs : (Sh 1 1024).ShapeCasts (Sh 1 1024)}
    {hb : (Sh 1 1024).Broadcasts (Sh 8 1024)} {sig' sig'' : RefSig} {κ' κ'' : Kind} {sp' sp'' : Space}
    {v8 : View sig'' κ'' sp'' (Sh 1024 128) .bf16} {u8 : v8.ty.Contents (Elt Ideal)}
    {i8 : ∀ x, (![0, 0] : Fin 2 → ℕ) x + (Sh 1024 128).size x ≤ (Sh 1024 128).size x}
    {v11 : View sig' κ' sp' (Sh 16 1024) .f32} {u11 : v11.ty.Contents (Elt Ideal)}
    {i0 : ∀ a, (![0, 0] : Fin 2 → ℕ) a + (Sh 8 1024).size a ≤ (Sh 16 1024).size a}
    {i1 : ∀ a, (![8, 0] : Fin 2 → ℕ) a + (Sh 8 1024).size a ≤ (Sh 16 1024).size a}
    {o8 : (Sh 1024 128).Idx → EReal} {o11 : (Sh 16 1024).Idx → EReal} {o12 : (Sh 4096 256).Idx → EReal}
    {s0 s1 : (Sh 4096 128).Idx → EReal}
    (e8 : o8 = v8.read (Elt Ideal) (v8.writes (Elt Ideal) u8
      [⟨Rect.unit (s := Sh 1024 128) ![0, 0] (Sh 1024 128).size i8, dqOut hc ht a.1 a.2.2.1⟩]))
    (e11 : o11 = v11.read (Elt Ideal) (v11.writes (Elt Ideal) u11
      [⟨Rect.unit (s := Sh 16 1024) ![8, 0] (Sh 8 1024).size i1, row8 hs hb a.2.2.2⟩,
      ⟨Rect.unit (s := Sh 16 1024) ![0, 0] (Sh 8 1024).size i0, row8 hs hb a.2.1⟩]))
    (e12 : o12 = m14.view.read (Elt Ideal) f14) (e15 : s0 = m15.view.read (Elt Ideal) f15)
    (e16 : s1 = m16.view.read (Elt Ideal) f16) : PointOk B C14 C15 C16 o8 o11 o12 s0 s1 where
  dq t l := by
    rw [e8, View.read_writes_full v8 u8 i8]
    exact dqOut_apply hc ht _ _ (fun h d t => dqM B h (8 * B.qi + 8) d t) G.acc.dq0 G.acc.dq1 t l
  dcq r t := by
    rw [e11]
    exact rows_apply v11 u11 i0 i1 _ _ (fun h t => dcqM B h (8 * B.qi + 8) t)
      (fun r t => (row8_apply hs hb _ r t).trans (G.acc.dcq0 t))
      (fun r t => (row8_apply hs hb _ r t).trans (G.acc.dcq1 t)) r t
  dc s l := by
    rw [e12, G.c14 s l]
    exact addTo_full fun h => by unfold dcF; rw [dcM_late h, neg_zero]
  dk s l := by
    rw [e15, G.c15 s l]
    exact addTo_full fun h => dkM_late h
  dv s l := by
    rw [e16, G.c16 s l]
    exact addTo_full fun h => dvM_late h

end FoxBwd
-- ==== Proof.PtA.lean ====
/-
  What a grid point of case A leaves, for the blocks it reads.
-/
module

public import proofs.«01_k».proof.Proof.IsA
public import proofs.«01_k».proof.Proof.Out
public import proofs.«01_k».proof.Proof.Gen.KernelIdeal.Frame

@[expose] public section

set_option maxRecDepth 16384

namespace FoxBwd

open Idealize.ShloMosaic Cert.KernelIdeal Cert.KernelIdeal.Gen Idealize.ShloMosaic.TcCoe

attribute [local irreducible] st_k0_t1 st_k0_t2

section
variable (c : Dev nD) (i : grid0.Coords)
  (arg2 : Memref sig .tc .vmem S1024x128 .bf16) (harg2 : arg2.IsWhole)
  (arg3 : Memref sig .tc .vmem S4096x128 .bf16) (harg3 : arg3.IsWhole)
  (arg4 : Memref sig .tc .vmem S4096x128 .bf16) (harg4 : arg4.IsWhole)
  (arg5 : Memref sig .tc .vmem S1024x128 .f32) (harg5 : arg5.IsWhole)
  (arg6 : Memref sig .tc .vmem S1024x128 .f32) (harg6 : arg6.IsWhole)
  (arg7 : Memref sig .tc .vmem S16x1024 .f32) (harg7 : arg7.IsWhole)
  (arg8 : Memref sig .tc .vmem S16x1024 .f32) (harg8 : arg8.IsWhole)
  (arg9 : Memref sig .tc .vmem S4096x256 .f32) (harg9 : arg9.IsWhole)
  (arg10 : Memref sig .tc .vmem S1024x128 .bf16) (harg10 : arg10.IsWhole)
  (arg11 : Memref sig .tc .vmem S4096x128 .bf16) (harg11 : arg11.IsWhole)
  (arg12 : Memref sig .tc .vmem S4096x128 .bf16) (harg12 : arg12.IsWhole)
  (arg13 : Memref sig .tc .vmem S16x1024 .f32) (harg13 : arg13.IsWhole)
  (arg14 : Memref sig .tc .vmem S4096x256 .f32) (harg14 : arg14.IsWhole)
  (arg15 : Memref sig .tc .vmem S4096x128 .f32) (harg15 : arg15.IsWhole)
  (arg16 : Memref sig .tc .vmem S4096x128 .f32) (harg16 : arg16.IsWhole)
  (hc0 : cond0_0 i) (hc1 : ¬cond0_1 i)
  (x0 : Vec Ideal S1024x128 .bf16) (x1 x2 : Vec Ideal S4096x128 .bf16) (x3 x4 : Vec Ideal S1024x128 .f32)
  (x5 x6 : Vec Ideal S16x1024 .f32) (x7 : Vec Ideal S4096x256 .f32)

theorem zero_cont {sg : RefSig} {κ : Kind} {sp : Space} {W : ℕ} {m : Memref sg κ sp (Sh 4096 W) .f32}
    (f : m.view.ty.Contents (Elt Ideal)) (inb : ∀ a, (![0, 0] : Fin 2 → ℕ) a + (Sh 4096 W).size a ≤ (Sh 4096 W).size a)
    (p : (Sh 4096 W).Idx → EReal) (hp : ∀ j, p j = 0) :
    Cont m (m.view.writes (Elt Ideal) f [⟨Rect.unit (s := Sh 4096 W) ![0, 0] (Sh 4096 W).size inb, p⟩]) (fun _ _ => 0) := by
  intro s l
  rw [View.read_writes_full]
  exact hp _

theorem pay75_zero (j : S4096x128.Idx) : k0_pay75 (F := Ideal) j = 0 := by
  show Ideal.ofBits .f32 0x00000000#32 = 0
  exact Ideal.ofBits_zero_f32

theorem pay76_zero (j : S4096x128.Idx) : k0_pay76 (F := Ideal) j = 0 := pay75_zero j

theorem pay77_zero (j : S4096x256.Idx) : k0_pay77 (F := Ideal) j = 0 := by
  show Ideal.ofBits .f32 0x00000000#32 = 0
  exact Ideal.ofBits_zero_f32

/-- Contents written over nothing read the same through any view. -/
theorem read_any {s : Shape} {e : EltTy} {sg sg' : RefSig} {κ κ' : Kind} {sp sp' : Space} (v : View sg κ sp s e)
    (v' : View sg' κ' sp' s e) (L : List (View.Piece (Elt Ideal) s e)) :
    v.read (Elt Ideal) (v.writes (Elt Ideal) v.junk L) = v'.read (Elt Ideal) (v'.writes (Elt Ideal) v'.junk L) :=
  (View.read_writes_junk_eq_canon v L).trans (View.read_writes_junk_eq_canon v' L).symm

theorem pointA :
    PointOk (blk i x0 x1 x2 x3 x4 x5 x6 x7) (fun _ _ => 0) (fun _ _ => 0) (fun _ _ => 0) (out0_A_8 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7) (out0_A_11 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7) (out0_A_12 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7) (sout0_A_0 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7) (sout0_A_1 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7) := by
  have G := whole_good c i arg2 harg2 arg3 harg3 arg4 harg4 arg5 harg5 arg6 harg6 arg7 harg7 arg8 harg8 arg9 harg9 arg10 harg10 arg11 harg11 arg12 harg12 arg13 harg13 arg14 harg14 arg15 harg15 arg16 harg16 (blk i x0 x1 x2 x3 x4 x5 x6 x7) rfl (C14 := fun _ _ => 0) (C15 := fun _ _ => 0) (C16 := fun _ _ => 0)
    (g14 := (arg14.view.writes (Elt Ideal) arg14.view.junk zero14)) (g15 := (arg15.view.writes (Elt Ideal) arg15.view.junk zero15)) (g16 := (arg16.view.writes (Elt Ideal) arg16.view.junk zero16))
    (zero_cont _ inb_S4096x256_S4096x256_0_0 _ pay77_zero)
    (zero_cont _ inb_S4096x128_S4096x128_0_0 _ pay75_zero)
    (zero_cont _ inb_S4096x128_S4096x128_0_0 _ pay76_zero)
    (View.writes_append _ _ _ _) (View.writes_append _ _ _ _) (View.writes_append _ _ _ _) rfl
    (stA8_eq c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7)
  exact pointOk G
    (v8 := VO0_8) (u8 := VO0_8.junk) (v11 := VO0_11) (u11 := VO0_11.junk) (i8 := inb_S1024x128_S1024x128_0_0)
    (i0 := inb_S16x1024_S8x1024_0_0) (i1 := inb_S16x1024_S8x1024_8_0)
    (hc := concatenates_S64x1024_S64x1024_S128x1024_d0) (ht := transposes_S128x1024_p1_0_S1024x128)
    (hs := shapeCasts_S1x1024_S1x1024) (hb := broadcasts_S1x1024_S8x1024)
    rfl rfl (read_any VO0_12 arg14.view _) (read_any VS0_0 arg15.view _) (read_any VS0_1 arg16.view _)

end

end FoxBwd
-- ==== Proof.IsB.lean ====
/-
  The generated run of a grid point (case B) is the run as put together in `Point`: its states between the tiles on
  the diagonal, named.
-/
module

public import proofs.«01_k».proof.Proof.Diag
public import proofs.«01_k».proof.Proof.Point
public import proofs.«01_k».proof.Proof.Gen.KernelIdeal.Frame.RunB

@[expose] public section

set_option maxRecDepth 16384

namespace FoxBwd

open Idealize.ShloMosaic Cert.KernelIdeal Cert.KernelIdeal.Gen Idealize.ShloMosaic.TcCoe

attribute [local irreducible] st_k0_t1 st_k0_t2

section
variable (c : Dev nD) (i : grid0.Coords)
  (arg2 : Memref sig .tc .vmem S1024x128 .bf16) (harg2 : arg2.IsWhole)
  (arg3 : Memref sig .tc .vmem S4096x128 .bf16) (harg3 : arg3.IsWhole)
  (arg4 : Memref sig .tc .vmem S4096x128 .bf16) (harg4 : arg4.IsWhole)
  (arg5 : Memref sig .tc .vmem S1024x128 .f32) (harg5 : arg5.IsWhole)
  (arg6 : Memref sig .tc .vmem S1024x128 .f32) (harg6 : arg6.IsWhole)
  (arg7 : Memref sig .tc .vmem S16x1024 .f32) (harg7 : arg7.IsWhole)
  (arg8 : Memref sig .tc .vmem S16x1024 .f32) (harg8 : arg8.IsWhole)
  (arg9 : Memref sig .tc .vmem S4096x256 .f32) (harg9 : arg9.IsWhole)
  (arg10 : Memref sig .tc .vmem S1024x128 .bf16) (harg10 : arg10.IsWhole)
  (arg11 : Memref sig .tc .vmem S4096x128 .bf16) (harg11 : arg11.IsWhole)
  (arg12 : Memref sig .tc .vmem S4096x128 .bf16) (harg12 : arg12.IsWhole)
  (arg13 : Memref sig .tc .vmem S16x1024 .f32) (harg13 : arg13.IsWhole)
  (arg14 : Memref sig .tc .vmem S4096x256 .f32) (harg14 : arg14.IsWhole)
  (arg15 : Memref sig .tc .vmem S4096x128 .f32) (harg15 : arg15.IsWhole)
  (arg16 : Memref sig .tc .vmem S4096x128 .f32) (harg16 : arg16.IsWhole)
  (hc0 : ¬cond0_0 i) (hc1 : ¬cond0_1 i)
  (x0 : Vec Ideal S1024x128 .bf16) (x1 x2 : Vec Ideal S4096x128 .bf16) (x3 x4 : Vec Ideal S1024x128 .f32)
  (x5 x6 : Vec Ideal S16x1024 .f32) (x7 : Vec Ideal S4096x256 .f32) (xo12 : Vec Ideal S4096x256 .f32) (xs0 xs1 : Vec Ideal S4096x128 .f32)

/-- The states the run goes through on the diagonal, after each tile. -/
noncomputable def stB1 : St :=
  ⟨(kernelRun0_B.sl.H12_2 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 xo12 xs0 xs1),
    (kernelRun0_B.sl.HS0_2 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 xo12 xs0 xs1),
    (kernelRun0_B.sl.HS1_2 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 xo12 xs0 xs1),
    (kernelRun0_B.sl.r_19 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 xo12 xs0 xs1),
    (kernelRun0_B.sl.r_20 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 xo12 xs0 xs1),
    (kernelRun0_B.sl.r_25 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 xo12 xs0 xs1),
    (kernelRun0_B.sl.r_26 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 xo12 xs0 xs1)⟩

noncomputable def stB2 : St :=
  ⟨(kernelRun0_B.sl.H12_4 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 xo12 xs0 xs1),
    (kernelRun0_B.sl.HS0_4 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 xo12 xs0 xs1),
    (kernelRun0_B.sl.HS1_4 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 xo12 xs0 xs1),
    (kernelRun0_B.sl.r_32 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 xo12 xs0 xs1),
    (kernelRun0_B.sl.r_33 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 xo12 xs0 xs1),
    (kernelRun0_B.sl.r_38 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 xo12 xs0 xs1),
    (kernelRun0_B.sl.r_39 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 xo12 xs0 xs1)⟩

noncomputable def stB3 : St :=
  ⟨(kernelRun0_B.sl.H12_6 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 xo12 xs0 xs1),
    (kernelRun0_B.sl.HS0_6 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 xo12 xs0 xs1),
    (kernelRun0_B.sl.HS1_6 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 xo12 xs0 xs1),
    (kernelRun0_B.sl.r_47 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 xo12 xs0 xs1),
    (kernelRun0_B.sl.r_48 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 xo12 xs0 xs1),
    (kernelRun0_B.sl.r_53 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 xo12 xs0 xs1),
    (kernelRun0_B.sl.r_54 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 xo12 xs0 xs1)⟩

noncomputable def stB4 : St :=
  ⟨(kernelRun0_B.sl.H12_8 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 xo12 xs0 xs1),
    (kernelRun0_B.sl.HS0_8 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 xo12 xs0 xs1),
    (kernelRun0_B.sl.HS1_8 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 xo12 xs0 xs1),
    (kernelRun0_B.sl.r_61 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 xo12 xs0 xs1),
    (kernelRun0_B.sl.r_62 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 xo12 xs0 xs1),
    (kernelRun0_B.sl.r_66 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 xo12 xs0 xs1),
    (kernelRun0_B.sl.r_67 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 xo12 xs0 xs1)⟩

noncomputable def stB5 : St :=
  ⟨(kernelRun0_B.sl.H12_10 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 xo12 xs0 xs1),
    (kernelRun0_B.sl.HS0_10 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 xo12 xs0 xs1),
    (kernelRun0_B.sl.HS1_10 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 xo12 xs0 xs1),
    (kernelRun0_B.sl.r_74 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 xo12 xs0 xs1),
    (kernelRun0_B.sl.r_75 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 xo12 xs0 xs1),
    (kernelRun0_B.sl.r_83 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 xo12 xs0 xs1),
    (kernelRun0_B.sl.r_84 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 xo12 xs0 xs1)⟩

noncomputable def stB6 : St :=
  ⟨(kernelRun0_B.sl.H12_12 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 xo12 xs0 xs1),
    (kernelRun0_B.sl.HS0_12 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 xo12 xs0 xs1),
    (kernelRun0_B.sl.HS1_12 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 xo12 xs0 xs1),
    (kernelRun0_B.sl.r_90 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 xo12 xs0 xs1),
    (kernelRun0_B.sl.r_91 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 xo12 xs0 xs1),
    (kernelRun0_B.sl.r_96 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 xo12 xs0 xs1),
    (kernelRun0_B.sl.r_97 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 xo12 xs0 xs1)⟩

noncomputable def stB7 : St :=
  ⟨(kernelRun0_B.sl.H12_14 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 xo12 xs0 xs1),
    (kernelRun0_B.sl.HS0_14 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 xo12 xs0 xs1),
    (kernelRun0_B.sl.HS1_14 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 xo12 xs0 xs1),
    (kernelRun0_B.sl.r_105 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 xo12 xs0 xs1),
    (kernelRun0_B.sl.r_106 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 xo12 xs0 xs1),
    (kernelRun0_B.sl.r_111 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 xo12 xs0 xs1),
    (kernelRun0_B.sl.r_112 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 xo12 xs0 xs1)⟩

noncomputable def stB8 : St :=
  ⟨(kernelRun0_B (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 xo12 xs0 xs1).2.2.2.2.1,
    (kernelRun0_B (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 xo12 xs0 xs1).2.2.2.2.2.1,
    (kernelRun0_B (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 xo12 xs0 xs1).2.2.2.2.2.2.1,
    (kernelRun0_B.sl.r_118 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 xo12 xs0 xs1),
    (kernelRun0_B.sl.r_119 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 xo12 xs0 xs1),
    dqTop (kernelRun0_B.sl.r_111 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 xo12 xs0 xs1)
      (kernelRun0_B.sl.r_120 (F := Ideal) i arg3 harg3 x1)
      (kernelRun0_B.sl.r_123 (F := Ideal) c i arg2 harg2 arg3 harg3 arg4 harg4 arg5 harg5 arg6 harg6 arg7 harg7 arg8 harg8 arg9 harg9 x0 x1 x2 x3 x4 x5 x6 x7),
    (kernelRun0_B.sl.r_124 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 xo12 xs0 xs1)⟩

/-- The two loops, as the run has them. -/
noncomputable def oneB := st_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 1).val) (kernelRun0_B.sl.r (F := Ideal) c arg2 harg2 x0) (kernelRun0_B.sl.r_1 (F := Ideal) c arg2 harg2 x0) (kernelRun0_B.sl.r_2 (F := Ideal) c arg5 harg5 x3) (kernelRun0_B.sl.r_3 (F := Ideal) c arg5 harg5 x3) (kernelRun0_B.sl.r_4 (F := Ideal) c arg5 harg5 arg6 harg6 x3 x4) (kernelRun0_B.sl.r_5 (F := Ideal) c arg5 harg5 arg6 harg6 x3 x4) (kernelRun0_B.sl.r_6 (F := Ideal) c arg8 harg8 x6) (kernelRun0_B.sl.r_7 (F := Ideal) c arg8 harg8 x6) (kernelRun0_B.sl.r_8 (F := Ideal) c arg7 harg7 x5) (View.readAt (Elt Ideal) arg7.view (Rect.unit (s := S16x1024) ![8, 0] S1x1024.size inb_S16x1024_S1x1024_8_0).toLoadRect (harg7.unread (Val := Elt Ideal) x5))
    (harg3.unread (Val := Elt Ideal) x1) (harg4.unread (Val := Elt Ideal) x2) (harg9.unread (Val := Elt Ideal) x7)
    (harg14.unread (Val := Elt Ideal) xo12) (harg15.unread (Val := Elt Ideal) xs0) (harg16.unread (Val := Elt Ideal) xs1)
    (k0_pay89 (F := Ideal), k0_pay90 (F := Ideal), k0_pay89 (F := Ideal), k0_pay90 (F := Ideal)) (Scf.trips (k0_t1_loop i).lb (k0_t1_loop i).ub (k0_t1_loop i).st)

noncomputable def twoB := st_k0_t2 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 1).val) (kernelRun0_B.sl.r (F := Ideal) c arg2 harg2 x0) (kernelRun0_B.sl.r_1 (F := Ideal) c arg2 harg2 x0) (kernelRun0_B.sl.r_2 (F := Ideal) c arg5 harg5 x3) (kernelRun0_B.sl.r_3 (F := Ideal) c arg5 harg5 x3) (kernelRun0_B.sl.r_4 (F := Ideal) c arg5 harg5 arg6 harg6 x3 x4) (kernelRun0_B.sl.r_5 (F := Ideal) c arg5 harg5 arg6 harg6 x3 x4) (kernelRun0_B.sl.r_6 (F := Ideal) c arg8 harg8 x6) (kernelRun0_B.sl.r_7 (F := Ideal) c arg8 harg8 x6) (kernelRun0_B.sl.r_8 (F := Ideal) c arg7 harg7 x5) (View.readAt (Elt Ideal) arg7.view (Rect.unit (s := S16x1024) ![8, 0] S1x1024.size inb_S16x1024_S1x1024_8_0).toLoadRect (harg7.unread (Val := Elt Ideal) x5))
    (kernelRun0_B.sl.v43 i) (harg3.unread (Val := Elt Ideal) x1) (harg4.unread (Val := Elt Ideal) x2) (harg9.unread (Val := Elt Ideal) x7)
    (arg14.view.writes (Elt Ideal) (harg14.unread (Val := Elt Ideal) xo12) ((oneB c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 xo12 xs0 xs1).2.1))
    (arg15.view.writes (Elt Ideal) (harg15.unread (Val := Elt Ideal) xs0) ((oneB c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 xo12 xs0 xs1).2.2.1))
    (arg16.view.writes (Elt Ideal) (harg16.unread (Val := Elt Ideal) xs1) ((oneB c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 xo12 xs0 xs1).2.2.2))
    ((oneB c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 xo12 xs0 xs1).1.1, (oneB c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 xo12 xs0 xs1).1.2.1, (oneB c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 xo12 xs0 xs1).1.2.2.1, (oneB c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 xo12 xs0 xs1).1.2.2.2) (Scf.trips (k0_t2_loop i).lb (k0_t2_loop i).ub (k0_t2_loop i).st)

theorem oneB_eq : oneB c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 xo12 xs0 xs1 = one c i arg2 harg2 arg3 harg3 arg4 harg4 arg5 harg5 arg6 harg6 arg7 harg7 arg8 harg8 arg9 harg9 arg10 harg10 arg11 harg11 arg12 harg12 arg13 harg13 arg14 harg14 arg15 harg15 arg16 harg16 (blk i x0 x1 x2 x3 x4 x5 x6 x7) (harg14.unread (Val := Elt Ideal) xo12) (harg15.unread (Val := Elt Ideal) xs0) (harg16.unread (Val := Elt Ideal) xs1) := (rfl)

theorem twoB_eq : twoB c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 xo12 xs0 xs1 = two c i arg2 harg2 arg3 harg3 arg4 harg4 arg5 harg5 arg6 harg6 arg7 harg7 arg8 harg8 arg9 harg9 arg10 harg10 arg11 harg11 arg12 harg12 arg13 harg13 arg14 harg14 arg15 harg15 arg16 harg16 (blk i x0 x1 x2 x3 x4 x5 x6 x7) (arg14.view.writes (Elt Ideal) (harg14.unread (Val := Elt Ideal) xo12) ((one c i arg2 harg2 arg3 harg3 arg4 harg4 arg5 harg5 arg6 harg6 arg7 harg7 arg8 harg8 arg9 harg9 arg10 harg10 arg11 harg11 arg12 harg12 arg13 harg13 arg14 harg14 arg15 harg15 arg16 harg16 (blk i x0 x1 x2 x3 x4 x5 x6 x7) (harg14.unread (Val := Elt Ideal) xo12) (harg15.unread (Val := Elt Ideal) xs0) (harg16.unread (Val := Elt Ideal) xs1)).2.1))
    (arg15.view.writes (Elt Ideal) (harg15.unread (Val := Elt Ideal) xs0) ((one c i arg2 harg2 arg3 harg3 arg4 harg4 arg5 harg5 arg6 harg6 arg7 harg7 arg8 harg8 arg9 harg9 arg10 harg10 arg11 harg11 arg12 harg12 arg13 harg13 arg14 harg14 arg15 harg15 arg16 harg16 (blk i x0 x1 x2 x3 x4 x5 x6 x7) (harg14.unread (Val := Elt Ideal) xo12) (harg15.unread (Val := Elt Ideal) xs0) (harg16.unread (Val := Elt Ideal) xs1)).2.2.1))
    (arg16.view.writes (Elt Ideal) (harg16.unread (Val := Elt Ideal) xs1) ((one c i arg2 harg2 arg3 harg3 arg4 harg4 arg5 harg5 arg6 harg6 arg7 harg7 arg8 harg8 arg9 harg9 arg10 harg10 arg11 harg11 arg12 harg12 arg13 harg13 arg14 harg14 arg15 harg15 arg16 harg16 (blk i x0 x1 x2 x3 x4 x5 x6 x7) (harg14.unread (Val := Elt Ideal) xo12) (harg15.unread (Val := Elt Ideal) xs0) (harg16.unread (Val := Elt Ideal) xs1)).2.2.2))
    ((one c i arg2 harg2 arg3 harg3 arg4 harg4 arg5 harg5 arg6 harg6 arg7 harg7 arg8 harg8 arg9 harg9 arg10 harg10 arg11 harg11 arg12 harg12 arg13 harg13 arg14 harg14 arg15 harg15 arg16 harg16 (blk i x0 x1 x2 x3 x4 x5 x6 x7) (harg14.unread (Val := Elt Ideal) xo12) (harg15.unread (Val := Elt Ideal) xs0) (harg16.unread (Val := Elt Ideal) xs1)).1.1, (one c i arg2 harg2 arg3 harg3 arg4 harg4 arg5 harg5 arg6 harg6 arg7 harg7 arg8 harg8 arg9 harg9 arg10 harg10 arg11 harg11 arg12 harg12 arg13 harg13 arg14 harg14 arg15 harg15 arg16 harg16 (blk i x0 x1 x2 x3 x4 x5 x6 x7) (harg14.unread (Val := Elt Ideal) xo12) (harg15.unread (Val := Elt Ideal) xs0) (harg16.unread (Val := Elt Ideal) xs1)).1.2.1, (one c i arg2 harg2 arg3 harg3 arg4 harg4 arg5 harg5 arg6 harg6 arg7 harg7 arg8 harg8 arg9 harg9 arg10 harg10 arg11 harg11 arg12 harg12 arg13 harg13 arg14 harg14 arg15 harg15 arg16 harg16 (blk i x0 x1 x2 x3 x4 x5 x6 x7) (harg14.unread (Val := Elt Ideal) xo12) (harg15.unread (Val := Elt Ideal) xs0) (harg16.unread (Val := Elt Ideal) xs1)).1.2.2.1, (one c i arg2 harg2 arg3 harg3 arg4 harg4 arg5 harg5 arg6 harg6 arg7 harg7 arg8 harg8 arg9 harg9 arg10 harg10 arg11 harg11 arg12 harg12 arg13 harg13 arg14 harg14 arg15 harg15 arg16 harg16 (blk i x0 x1 x2 x3 x4 x5 x6 x7) (harg14.unread (Val := Elt Ideal) xo12) (harg15.unread (Val := Elt Ideal) xs0) (harg16.unread (Val := Elt Ideal) xs1)).1.2.2.2) := by
  unfold twoB
  rw [oneB_eq]
  exact (rfl)

/-- The state before the diagonal. -/
noncomputable def stB0 : St :=
  ⟨(twoB c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 xo12 xs0 xs1).2.1 ++ ((oneB c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 xo12 xs0 xs1).2.1),
    (twoB c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 xo12 xs0 xs1).2.2.1 ++ ((oneB c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 xo12 xs0 xs1).2.2.1),
    (twoB c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 xo12 xs0 xs1).2.2.2 ++ ((oneB c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 xo12 xs0 xs1).2.2.2),
    (kernelRun0_B.sl.r_11 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 xo12 xs0 xs1), (kernelRun0_B.sl.r_12 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 xo12 xs0 xs1), (kernelRun0_B.sl.r_13 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 xo12 xs0 xs1), (kernelRun0_B.sl.r_14 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 xo12 xs0 xs1)⟩

theorem isB0 : stB0 c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 xo12 xs0 xs1 = base c i arg2 harg2 arg3 harg3 arg4 harg4 arg5 harg5 arg6 harg6 arg7 harg7 arg8 harg8 arg9 harg9 arg10 harg10 arg11 harg11 arg12 harg12 arg13 harg13 arg14 harg14 arg15 harg15 arg16 harg16 (blk i x0 x1 x2 x3 x4 x5 x6 x7) (harg14.unread (Val := Elt Ideal) xo12) (harg15.unread (Val := Elt Ideal) xs0) (harg16.unread (Val := Elt Ideal) xs1)
    (St.mk ((one c i arg2 harg2 arg3 harg3 arg4 harg4 arg5 harg5 arg6 harg6 arg7 harg7 arg8 harg8 arg9 harg9 arg10 harg10 arg11 harg11 arg12 harg12 arg13 harg13 arg14 harg14 arg15 harg15 arg16 harg16 (blk i x0 x1 x2 x3 x4 x5 x6 x7) (harg14.unread (Val := Elt Ideal) xo12) (harg15.unread (Val := Elt Ideal) xs0) (harg16.unread (Val := Elt Ideal) xs1)).2.1)
      ((one c i arg2 harg2 arg3 harg3 arg4 harg4 arg5 harg5 arg6 harg6 arg7 harg7 arg8 harg8 arg9 harg9 arg10 harg10 arg11 harg11 arg12 harg12 arg13 harg13 arg14 harg14 arg15 harg15 arg16 harg16 (blk i x0 x1 x2 x3 x4 x5 x6 x7) (harg14.unread (Val := Elt Ideal) xo12) (harg15.unread (Val := Elt Ideal) xs0) (harg16.unread (Val := Elt Ideal) xs1)).2.2.1)
      ((one c i arg2 harg2 arg3 harg3 arg4 harg4 arg5 harg5 arg6 harg6 arg7 harg7 arg8 harg8 arg9 harg9 arg10 harg10 arg11 harg11 arg12 harg12 arg13 harg13 arg14 harg14 arg15 harg15 arg16 harg16 (blk i x0 x1 x2 x3 x4 x5 x6 x7) (harg14.unread (Val := Elt Ideal) xo12) (harg15.unread (Val := Elt Ideal) xs0) (harg16.unread (Val := Elt Ideal) xs1)).2.2.2)
      (one c i arg2 harg2 arg3 harg3 arg4 harg4 arg5 harg5 arg6 harg6 arg7 harg7 arg8 harg8 arg9 harg9 arg10 harg10 arg11 harg11 arg12 harg12 arg13 harg13 arg14 harg14 arg15 harg15 arg16 harg16 (blk i x0 x1 x2 x3 x4 x5 x6 x7) (harg14.unread (Val := Elt Ideal) xo12) (harg15.unread (Val := Elt Ideal) xs0) (harg16.unread (Val := Elt Ideal) xs1)).1) := by
  have e : stB0 c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 xo12 xs0 xs1 =
    ⟨(twoB c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 xo12 xs0 xs1).2.1 ++ ((oneB c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 xo12 xs0 xs1).2.1), (twoB c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 xo12 xs0 xs1).2.2.1 ++ ((oneB c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 xo12 xs0 xs1).2.2.1), (twoB c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 xo12 xs0 xs1).2.2.2 ++ ((oneB c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 xo12 xs0 xs1).2.2.2), (twoB c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 xo12 xs0 xs1).1⟩ := (rfl)
  rw [e, twoB_eq, oneB_eq]
  rfl

theorem isB1 : stB1 c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 xo12 xs0 xs1
    = dStep i (harg3.unread (Val := Elt Ideal) x1) (harg4.unread (Val := Elt Ideal) x2) (harg9.unread (Val := Elt Ideal) x7) (harg14.unread (Val := Elt Ideal) xo12) (harg15.unread (Val := Elt Ideal) xs0) (harg16.unread (Val := Elt Ideal) xs1)
      (hv0 arg2 harg2 arg5 harg5 arg6 harg6 arg7 harg7 arg8 harg8 (blk i x0 x1 x2 x3 x4 x5 x6 x7)) (hv1 arg2 harg2 arg5 harg5 arg6 harg6 arg7 harg7 arg8 harg8 (blk i x0 x1 x2 x3 x4 x5 x6 x7)) ⟨0, by omega⟩ (stB0 c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 xo12 xs0 xs1) :=
  dStep_eq _ _ _ _ _ _ _ _ _ _ rfl rfl rfl rfl rfl rfl rfl rfl rfl rfl rfl

theorem isB2 : stB2 c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 xo12 xs0 xs1
    = dStep i (harg3.unread (Val := Elt Ideal) x1) (harg4.unread (Val := Elt Ideal) x2) (harg9.unread (Val := Elt Ideal) x7) (harg14.unread (Val := Elt Ideal) xo12) (harg15.unread (Val := Elt Ideal) xs0) (harg16.unread (Val := Elt Ideal) xs1)
      (hv0 arg2 harg2 arg5 harg5 arg6 harg6 arg7 harg7 arg8 harg8 (blk i x0 x1 x2 x3 x4 x5 x6 x7)) (hv1 arg2 harg2 arg5 harg5 arg6 harg6 arg7 harg7 arg8 harg8 (blk i x0 x1 x2 x3 x4 x5 x6 x7)) ⟨1, by omega⟩ (stB1 c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 xo12 xs0 xs1) :=
  dStep_eq _ _ _ _ _ _ _ _ _ _ rfl rfl rfl rfl rfl rfl rfl rfl rfl rfl rfl

theorem isB3 : stB3 c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 xo12 xs0 xs1
    = dStep i (harg3.unread (Val := Elt Ideal) x1) (harg4.unread (Val := Elt Ideal) x2) (harg9.unread (Val := Elt Ideal) x7) (harg14.unread (Val := Elt Ideal) xo12) (harg15.unread (Val := Elt Ideal) xs0) (harg16.unread (Val := Elt Ideal) xs1)
      (hv0 arg2 harg2 arg5 harg5 arg6 harg6 arg7 harg7 arg8 harg8 (blk i x0 x1 x2 x3 x4 x5 x6 x7)) (hv1 arg2 harg2 arg5 harg5 arg6 harg6 arg7 harg7 arg8 harg8 (blk i x0 x1 x2 x3 x4 x5 x6 x7)) ⟨2, by omega⟩ (stB2 c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 xo12 xs0 xs1) :=
  dStep_eq _ _ _ _ _ _ _ _ _ _ rfl rfl rfl rfl rfl rfl rfl rfl rfl rfl rfl

theorem isB4 : stB4 c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 xo12 xs0 xs1
    = dStep i (harg3.unread (Val := Elt Ideal) x1) (harg4.unread (Val := Elt Ideal) x2) (harg9.unread (Val := Elt Ideal) x7) (harg14.unread (Val := Elt Ideal) xo12) (harg15.unread (Val := Elt Ideal) xs0) (harg16.unread (Val := Elt Ideal) xs1)
      (hv0 arg2 harg2 arg5 harg5 arg6 harg6 arg7 harg7 arg8 harg8 (blk i x0 x1 x2 x3 x4 x5 x6 x7)) (hv1 arg2 harg2 arg5 harg5 arg6 harg6 arg7 harg7 arg8 harg8 (blk i x0 x1 x2 x3 x4 x5 x6 x7)) ⟨3, by omega⟩ (stB3 c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 xo12 xs0 xs1) :=
  dStep_eq _ _ _ _ _ _ _ _ _ _ rfl rfl rfl rfl rfl rfl rfl rfl rfl rfl rfl

theorem isB5 : stB5 c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 xo12 xs0 xs1
    = dStep i (harg3.unread (Val := Elt Ideal) x1) (harg4.unread (Val := Elt Ideal) x2) (harg9.unread (Val := Elt Ideal) x7) (harg14.unread (Val := Elt Ideal) xo12) (harg15.unread (Val := Elt Ideal) xs0) (harg16.unread (Val := Elt Ideal) xs1)
      (hv0 arg2 harg2 arg5 harg5 arg6 harg6 arg7 harg7 arg8 harg8 (blk i x0 x1 x2 x3 x4 x5 x6 x7)) (hv1 arg2 harg2 arg5 harg5 arg6 harg6 arg7 harg7 arg8 harg8 (blk i x0 x1 x2 x3 x4 x5 x6 x7)) ⟨4, by omega⟩ (stB4 c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 xo12 xs0 xs1) :=
  dStep_eq _ _ _ _ _ _ _ _ _ _ rfl rfl rfl rfl rfl rfl rfl rfl rfl rfl rfl

theorem isB6 : stB6 c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 xo12 xs0 xs1
    = dStep i (harg3.unread (Val := Elt Ideal) x1) (harg4.unread (Val := Elt Ideal) x2) (harg9.unread (Val := Elt Ideal) x7) (harg14.unread (Val := Elt Ideal) xo12) (harg15.unread (Val := Elt Ideal) xs0) (harg16.unread (Val := Elt Ideal) xs1)
      (hv0 arg2 harg2 arg5 harg5 arg6 harg6 arg7 harg7 arg8 harg8 (blk i x0 x1 x2 x3 x4 x5 x6 x7)) (hv1 arg2 harg2 arg5 harg5 arg6 harg6 arg7 harg7 arg8 harg8 (blk i x0 x1 x2 x3 x4 x5 x6 x7)) ⟨5, by omega⟩ (stB5 c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 xo12 xs0 xs1) :=
  dStep_eq _ _ _ _ _ _ _ _ _ _ rfl rfl rfl rfl rfl rfl rfl rfl rfl rfl rfl

theorem isB7 : stB7 c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 xo12 xs0 xs1
    = dStep i (harg3.unread (Val := Elt Ideal) x1) (harg4.unread (Val := Elt Ideal) x2) (harg9.unread (Val := Elt Ideal) x7) (harg14.unread (Val := Elt Ideal) xo12) (harg15.unread (Val := Elt Ideal) xs0) (harg16.unread (Val := Elt Ideal) xs1)
      (hv0 arg2 harg2 arg5 harg5 arg6 harg6 arg7 harg7 arg8 harg8 (blk i x0 x1 x2 x3 x4 x5 x6 x7)) (hv1 arg2 harg2 arg5 harg5 arg6 harg6 arg7 harg7 arg8 harg8 (blk i x0 x1 x2 x3 x4 x5 x6 x7)) ⟨6, by omega⟩ (stB6 c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 xo12 xs0 xs1) :=
  dStep_eq _ _ _ _ _ _ _ _ _ _ rfl rfl rfl rfl rfl rfl rfl rfl rfl rfl rfl

theorem isB8 : stB8 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 xo12 xs0 xs1
    = dStep i (harg3.unread (Val := Elt Ideal) x1) (harg4.unread (Val := Elt Ideal) x2) (harg9.unread (Val := Elt Ideal) x7) (harg14.unread (Val := Elt Ideal) xo12) (harg15.unread (Val := Elt Ideal) xs0) (harg16.unread (Val := Elt Ideal) xs1)
      (hv0 arg2 harg2 arg5 harg5 arg6 harg6 arg7 harg7 arg8 harg8 (blk i x0 x1 x2 x3 x4 x5 x6 x7)) (hv1 arg2 harg2 arg5 harg5 arg6 harg6 arg7 harg7 arg8 harg8 (blk i x0 x1 x2 x3 x4 x5 x6 x7)) ⟨7, by omega⟩ (stB7 c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 xo12 xs0 xs1) :=
  dStep_eq _ _ _ _ _ _ _ _ _ _ rfl rfl rfl rfl rfl rfl rfl rfl rfl rfl rfl

/-- The whole of the run. -/
theorem stB8_eq : stB8 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 xo12 xs0 xs1 = whole c i arg2 harg2 arg3 harg3 arg4 harg4 arg5 harg5 arg6 harg6 arg7 harg7 arg8 harg8 arg9 harg9 arg10 harg10 arg11 harg11 arg12 harg12 arg13 harg13 arg14 harg14 arg15 harg15 arg16 harg16 (blk i x0 x1 x2 x3 x4 x5 x6 x7) (harg14.unread (Val := Elt Ideal) xo12) (harg15.unread (Val := Elt Ideal) xs0) (harg16.unread (Val := Elt Ideal) xs1)
    (St.mk ((one c i arg2 harg2 arg3 harg3 arg4 harg4 arg5 harg5 arg6 harg6 arg7 harg7 arg8 harg8 arg9 harg9 arg10 harg10 arg11 harg11 arg12 harg12 arg13 harg13 arg14 harg14 arg15 harg15 arg16 harg16 (blk i x0 x1 x2 x3 x4 x5 x6 x7) (harg14.unread (Val := Elt Ideal) xo12) (harg15.unread (Val := Elt Ideal) xs0) (harg16.unread (Val := Elt Ideal) xs1)).2.1)
      ((one c i arg2 harg2 arg3 harg3 arg4 harg4 arg5 harg5 arg6 harg6 arg7 harg7 arg8 harg8 arg9 harg9 arg10 harg10 arg11 harg11 arg12 harg12 arg13 harg13 arg14 harg14 arg15 harg15 arg16 harg16 (blk i x0 x1 x2 x3 x4 x5 x6 x7) (harg14.unread (Val := Elt Ideal) xo12) (harg15.unread (Val := Elt Ideal) xs0) (harg16.unread (Val := Elt Ideal) xs1)).2.2.1)
      ((one c i arg2 harg2 arg3 harg3 arg4 harg4 arg5 harg5 arg6 harg6 arg7 harg7 arg8 harg8 arg9 harg9 arg10 harg10 arg11 harg11 arg12 harg12 arg13 harg13 arg14 harg14 arg15 harg15 arg16 harg16 (blk i x0 x1 x2 x3 x4 x5 x6 x7) (harg14.unread (Val := Elt Ideal) xo12) (harg15.unread (Val := Elt Ideal) xs0) (harg16.unread (Val := Elt Ideal) xs1)).2.2.2)
      (one c i arg2 harg2 arg3 harg3 arg4 harg4 arg5 harg5 arg6 harg6 arg7 harg7 arg8 harg8 arg9 harg9 arg10 harg10 arg11 harg11 arg12 harg12 arg13 harg13 arg14 harg14 arg15 harg15 arg16 harg16 (blk i x0 x1 x2 x3 x4 x5 x6 x7) (harg14.unread (Val := Elt Ideal) xo12) (harg15.unread (Val := Elt Ideal) xs0) (harg16.unread (Val := Elt Ideal) xs1)).1) :=
  have e1 := diag_succ i arg2 harg2 arg3 harg3 arg4 harg4 arg5 harg5 arg6 harg6 arg7 harg7 arg8 harg8 arg9 harg9 arg14 arg15 arg16 (blk i x0 x1 x2 x3 x4 x5 x6 x7) (s₀ := stB0 c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 xo12 xs0 xs1) (s' := stB1 c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 xo12 xs0 xs1) (hn := (by omega : 0 + 1 ≤ 8)) rfl
    (isB1 c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 xo12 xs0 xs1)
  have e2 := diag_succ i arg2 harg2 arg3 harg3 arg4 harg4 arg5 harg5 arg6 harg6 arg7 harg7 arg8 harg8 arg9 harg9 arg14 arg15 arg16 (blk i x0 x1 x2 x3 x4 x5 x6 x7) (s₀ := stB0 c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 xo12 xs0 xs1) (s' := stB2 c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 xo12 xs0 xs1) (hn := (by omega : 1 + 1 ≤ 8)) e1
    (isB2 c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 xo12 xs0 xs1)
  have e3 := diag_succ i arg2 harg2 arg3 harg3 arg4 harg4 arg5 harg5 arg6 harg6 arg7 harg7 arg8 harg8 arg9 harg9 arg14 arg15 arg16 (blk i x0 x1 x2 x3 x4 x5 x6 x7) (s₀ := stB0 c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 xo12 xs0 xs1) (s' := stB3 c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 xo12 xs0 xs1) (hn := (by omega : 2 + 1 ≤ 8)) e2
    (isB3 c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 xo12 xs0 xs1)
  have e4 := diag_succ i arg2 harg2 arg3 harg3 arg4 harg4 arg5 harg5 arg6 harg6 arg7 harg7 arg8 harg8 arg9 harg9 arg14 arg15 arg16 (blk i x0 x1 x2 x3 x4 x5 x6 x7) (s₀ := stB0 c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 xo12 xs0 xs1) (s' := stB4 c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 xo12 xs0 xs1) (hn := (by omega : 3 + 1 ≤ 8)) e3
    (isB4 c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 xo12 xs0 xs1)
  have e5 := diag_succ i arg2 harg2 arg3 harg3 arg4 harg4 arg5 harg5 arg6 harg6 arg7 harg7 arg8 harg8 arg9 harg9 arg14 arg15 arg16 (blk i x0 x1 x2 x3 x4 x5 x6 x7) (s₀ := stB0 c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 xo12 xs0 xs1) (s' := stB5 c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 xo12 xs0 xs1) (hn := (by omega : 4 + 1 ≤ 8)) e4
    (isB5 c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 xo12 xs0 xs1)
  have e6 := diag_succ i arg2 harg2 arg3 harg3 arg4 harg4 arg5 harg5 arg6 harg6 arg7 harg7 arg8 harg8 arg9 harg9 arg14 arg15 arg16 (blk i x0 x1 x2 x3 x4 x5 x6 x7) (s₀ := stB0 c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 xo12 xs0 xs1) (s' := stB6 c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 xo12 xs0 xs1) (hn := (by omega : 5 + 1 ≤ 8)) e5
    (isB6 c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 xo12 xs0 xs1)
  have e7 := diag_succ i arg2 harg2 arg3 harg3 arg4 harg4 arg5 harg5 arg6 harg6 arg7 harg7 arg8 harg8 arg9 harg9 arg14 arg15 arg16 (blk i x0 x1 x2 x3 x4 x5 x6 x7) (s₀ := stB0 c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 xo12 xs0 xs1) (s' := stB7 c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 xo12 xs0 xs1) (hn := (by omega : 6 + 1 ≤ 8)) e6
    (isB7 c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 xo12 xs0 xs1)
  have e8 := diag_succ i arg2 harg2 arg3 harg3 arg4 harg4 arg5 harg5 arg6 harg6 arg7 harg7 arg8 harg8 arg9 harg9 arg14 arg15 arg16 (blk i x0 x1 x2 x3 x4 x5 x6 x7) (s₀ := stB0 c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 xo12 xs0 xs1) (s' := stB8 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 xo12 xs0 xs1) (hn := (by omega : 7 + 1 ≤ 8)) e7
    (isB8 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 xo12 xs0 xs1)
  e8.trans (by unfold whole; rw [isB0])

end

end FoxBwd
-- ==== Proof.PtB.lean ====
/-
  What a grid point of case B leaves, for the blocks it reads.
-/
module

public import proofs.«01_k».proof.Proof.IsB
public import proofs.«01_k».proof.Proof.Out
public import proofs.«01_k».proof.Proof.Gen.KernelIdeal.Frame

@[expose] public section

set_option maxRecDepth 16384

namespace FoxBwd

open Idealize.ShloMosaic Cert.KernelIdeal Cert.KernelIdeal.Gen Idealize.ShloMosaic.TcCoe

attribute [local irreducible] st_k0_t1 st_k0_t2

section
variable (c : Dev nD) (i : grid0.Coords)
  (arg2 : Memref sig .tc .vmem S1024x128 .bf16) (harg2 : arg2.IsWhole)
  (arg3 : Memref sig .tc .vmem S4096x128 .bf16) (harg3 : arg3.IsWhole)
  (arg4 : Memref sig .tc .vmem S4096x128 .bf16) (harg4 : arg4.IsWhole)
  (arg5 : Memref sig .tc .vmem S1024x128 .f32) (harg5 : arg5.IsWhole)
  (arg6 : Memref sig .tc .vmem S1024x128 .f32) (harg6 : arg6.IsWhole)
  (arg7 : Memref sig .tc .vmem S16x1024 .f32) (harg7 : arg7.IsWhole)
  (arg8 : Memref sig .tc .vmem S16x1024 .f32) (harg8 : arg8.IsWhole)
  (arg9 : Memref sig .tc .vmem S4096x256 .f32) (harg9 : arg9.IsWhole)
  (arg10 : Memref sig .tc .vmem S1024x128 .bf16) (harg10 : arg10.IsWhole)
  (arg11 : Memref sig .tc .vmem S4096x128 .bf16) (harg11 : arg11.IsWhole)
  (arg12 : Memref sig .tc .vmem S4096x128 .bf16) (harg12 : arg12.IsWhole)
  (arg13 : Memref sig .tc .vmem S16x1024 .f32) (harg13 : arg13.IsWhole)
  (arg14 : Memref sig .tc .vmem S4096x256 .f32) (harg14 : arg14.IsWhole)
  (arg15 : Memref sig .tc .vmem S4096x128 .f32) (harg15 : arg15.IsWhole)
  (arg16 : Memref sig .tc .vmem S4096x128 .f32) (harg16 : arg16.IsWhole)
  (hc0 : ¬cond0_0 i) (hc1 : ¬cond0_1 i)
  (x0 : Vec Ideal S1024x128 .bf16) (x1 x2 : Vec Ideal S4096x128 .bf16) (x3 x4 : Vec Ideal S1024x128 .f32)
  (x5 x6 : Vec Ideal S16x1024 .f32) (x7 : Vec Ideal S4096x256 .f32)
  (xo12 : Vec Ideal S4096x256 .f32) (xs0 xs1 : Vec Ideal S4096x128 .f32)

theorem pointB {C14 C15 C16 : ℕ → ℕ → EReal} (c14 : ∀ (s : Fin 4096) (l : Fin 256), xo12 (ix2 s l) = C14 s l)
    (c15 : ∀ (s : Fin 4096) (l : Fin 128), xs0 (ix2 s l) = C15 s l)
    (c16 : ∀ (s : Fin 4096) (l : Fin 128), xs1 (ix2 s l) = C16 s l) :
    PointOk (blk i x0 x1 x2 x3 x4 x5 x6 x7) C14 C15 C16 (out0_B_8 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 xo12 xs0 xs1) (out0_B_11 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 xo12 xs0 xs1) (out0_B_12 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 xo12 xs0 xs1) (sout0_B_0 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 xo12 xs0 xs1) (sout0_B_1 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 xo12 xs0 xs1) := by
  have G := whole_good c i arg2 harg2 arg3 harg3 arg4 harg4 arg5 harg5 arg6 harg6 arg7 harg7 arg8 harg8 arg9 harg9 arg10 harg10 arg11 harg11 arg12 harg12 arg13 harg13 arg14 harg14 arg15 harg15 arg16 harg16 (blk i x0 x1 x2 x3 x4 x5 x6 x7) rfl (C14 := C14) (C15 := C15) (C16 := C16)
    (g14 := harg14.unread (Val := Elt Ideal) xo12) (g15 := harg15.unread (Val := Elt Ideal) xs0) (g16 := harg16.unread (Val := Elt Ideal) xs1)
    (fun s l => (congrFun (harg14.read_unread xo12) _).trans (c14 s l))
    (fun s l => (congrFun (harg15.read_unread xs0) _).trans (c15 s l))
    (fun s l => (congrFun (harg16.read_unread xs1) _).trans (c16 s l))
    rfl rfl rfl rfl (stB8_eq c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 xo12 xs0 xs1)
  exact pointOk G
    (v8 := VO0_8) (u8 := VO0_8.junk) (v11 := VO0_11) (u11 := VO0_11.junk) (i8 := inb_S1024x128_S1024x128_0_0)
    (i0 := inb_S16x1024_S8x1024_0_0) (i1 := inb_S16x1024_S8x1024_8_0)
    (hc := concatenates_S64x1024_S64x1024_S128x1024_d0) (ht := transposes_S128x1024_p1_0_S1024x128)
    (hs := shapeCasts_S1x1024_S1x1024) (hb := broadcasts_S1x1024_S8x1024)
    rfl rfl rfl rfl rfl

end

end FoxBwd
-- ==== Proof.IsC.lean ====
/-
  The generated run of a grid point (case C) is the run as put together in `Point`: its states between the tiles on
  the diagonal, named.
-/
module

public import proofs.«01_k».proof.Proof.Diag
public import proofs.«01_k».proof.Proof.Point
public import proofs.«01_k».proof.Proof.Gen.KernelIdeal.Frame.RunC

@[expose] public section

set_option maxRecDepth 16384

namespace FoxBwd

open Idealize.ShloMosaic Cert.KernelIdeal Cert.KernelIdeal.Gen Idealize.ShloMosaic.TcCoe

attribute [local irreducible] st_k0_t1 st_k0_t2

section
variable (c : Dev nD) (i : grid0.Coords)
  (arg2 : Memref sig .tc .vmem S1024x128 .bf16) (harg2 : arg2.IsWhole)
  (arg3 : Memref sig .tc .vmem S4096x128 .bf16) (harg3 : arg3.IsWhole)
  (arg4 : Memref sig .tc .vmem S4096x128 .bf16) (harg4 : arg4.IsWhole)
  (arg5 : Memref sig .tc .vmem S1024x128 .f32) (harg5 : arg5.IsWhole)
  (arg6 : Memref sig .tc .vmem S1024x128 .f32) (harg6 : arg6.IsWhole)
  (arg7 : Memref sig .tc .vmem S16x1024 .f32) (harg7 : arg7.IsWhole)
  (arg8 : Memref sig .tc .vmem S16x1024 .f32) (harg8 : arg8.IsWhole)
  (arg9 : Memref sig .tc .vmem S4096x256 .f32) (harg9 : arg9.IsWhole)
  (arg10 : Memref sig .tc .vmem S1024x128 .bf16) (harg10 : arg10.IsWhole)
  (arg11 : Memref sig .tc .vmem S4096x128 .bf16) (harg11 : arg11.IsWhole)
  (arg12 : Memref sig .tc .vmem S4096x128 .bf16) (harg12 : arg12.IsWhole)
  (arg13 : Memref sig .tc .vmem S16x1024 .f32) (harg13 : arg13.IsWhole)
  (arg14 : Memref sig .tc .vmem S4096x256 .f32) (harg14 : arg14.IsWhole)
  (arg15 : Memref sig .tc .vmem S4096x128 .f32) (harg15 : arg15.IsWhole)
  (arg16 : Memref sig .tc .vmem S4096x128 .f32) (harg16 : arg16.IsWhole)
  (hc0 : ¬cond0_0 i) (hc1 : cond0_1 i)
  (x0 : Vec Ideal S1024x128 .bf16) (x1 x2 : Vec Ideal S4096x128 .bf16) (x3 x4 : Vec Ideal S1024x128 .f32)
  (x5 x6 : Vec Ideal S16x1024 .f32) (x7 : Vec Ideal S4096x256 .f32) (xo12 : Vec Ideal S4096x256 .f32) (xs0 xs1 : Vec Ideal S4096x128 .f32)

/-- The states the run goes through on the diagonal, after each tile. -/
noncomputable def stC1 : St :=
  ⟨(kernelRun0_C.sl.H12_2 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 xo12 xs0 xs1),
    (kernelRun0_C.sl.HS0_2 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 xo12 xs0 xs1),
    (kernelRun0_C.sl.HS1_2 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 xo12 xs0 xs1),
    (kernelRun0_C.sl.r_19 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 xo12 xs0 xs1),
    (kernelRun0_C.sl.r_20 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 xo12 xs0 xs1),
    (kernelRun0_C.sl.r_25 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 xo12 xs0 xs1),
    (kernelRun0_C.sl.r_26 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 xo12 xs0 xs1)⟩

noncomputable def stC2 : St :=
  ⟨(kernelRun0_C.sl.H12_4 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 xo12 xs0 xs1),
    (kernelRun0_C.sl.HS0_4 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 xo12 xs0 xs1),
    (kernelRun0_C.sl.HS1_4 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 xo12 xs0 xs1),
    (kernelRun0_C.sl.r_32 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 xo12 xs0 xs1),
    (kernelRun0_C.sl.r_33 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 xo12 xs0 xs1),
    (kernelRun0_C.sl.r_38 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 xo12 xs0 xs1),
    (kernelRun0_C.sl.r_39 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 xo12 xs0 xs1)⟩

noncomputable def stC3 : St :=
  ⟨(kernelRun0_C.sl.H12_6 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 xo12 xs0 xs1),
    (kernelRun0_C.sl.HS0_6 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 xo12 xs0 xs1),
    (kernelRun0_C.sl.HS1_6 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 xo12 xs0 xs1),
    (kernelRun0_C.sl.r_47 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 xo12 xs0 xs1),
    (kernelRun0_C.sl.r_48 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 xo12 xs0 xs1),
    (kernelRun0_C.sl.r_53 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 xo12 xs0 xs1),
    (kernelRun0_C.sl.r_54 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 xo12 xs0 xs1)⟩

noncomputable def stC4 : St :=
  ⟨(kernelRun0_C.sl.H12_8 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 xo12 xs0 xs1),
    (kernelRun0_C.sl.HS0_8 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 xo12 xs0 xs1),
    (kernelRun0_C.sl.HS1_8 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 xo12 xs0 xs1),
    (kernelRun0_C.sl.r_61 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 xo12 xs0 xs1),
    (kernelRun0_C.sl.r_62 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 xo12 xs0 xs1),
    (kernelRun0_C.sl.r_66 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 xo12 xs0 xs1),
    (kernelRun0_C.sl.r_67 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 xo12 xs0 xs1)⟩

noncomputable def stC5 : St :=
  ⟨(kernelRun0_C.sl.H12_10 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 xo12 xs0 xs1),
    (kernelRun0_C.sl.HS0_10 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 xo12 xs0 xs1),
    (kernelRun0_C.sl.HS1_10 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 xo12 xs0 xs1),
    (kernelRun0_C.sl.r_74 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 xo12 xs0 xs1),
    (kernelRun0_C.sl.r_75 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 xo12 xs0 xs1),
    (kernelRun0_C.sl.r_83 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 xo12 xs0 xs1),
    (kernelRun0_C.sl.r_84 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 xo12 xs0 xs1)⟩

noncomputable def stC6 : St :=
  ⟨(kernelRun0_C.sl.H12_12 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 xo12 xs0 xs1),
    (kernelRun0_C.sl.HS0_12 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 xo12 xs0 xs1),
    (kernelRun0_C.sl.HS1_12 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 xo12 xs0 xs1),
    (kernelRun0_C.sl.r_90 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 xo12 xs0 xs1),
    (kernelRun0_C.sl.r_91 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 xo12 xs0 xs1),
    (kernelRun0_C.sl.r_96 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 xo12 xs0 xs1),
    (kernelRun0_C.sl.r_97 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 xo12 xs0 xs1)⟩

noncomputable def stC7 : St :=
  ⟨(kernelRun0_C.sl.H12_14 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 xo12 xs0 xs1),
    (kernelRun0_C.sl.HS0_14 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 xo12 xs0 xs1),
    (kernelRun0_C.sl.HS1_14 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 xo12 xs0 xs1),
    (kernelRun0_C.sl.r_105 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 xo12 xs0 xs1),
    (kernelRun0_C.sl.r_106 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 xo12 xs0 xs1),
    (kernelRun0_C.sl.r_111 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 xo12 xs0 xs1),
    (kernelRun0_C.sl.r_112 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 xo12 xs0 xs1)⟩

noncomputable def stC8 : St :=
  ⟨(kernelRun0_C (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 xo12 xs0 xs1).2.2.2.2.1,
    (kernelRun0_C (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 xo12 xs0 xs1).2.2.2.2.2.1,
    (kernelRun0_C (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 xo12 xs0 xs1).2.2.2.2.2.2.1,
    (kernelRun0_C.sl.r_118 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 xo12 xs0 xs1),
    (kernelRun0_C.sl.r_119 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 xo12 xs0 xs1),
    dqTop (kernelRun0_C.sl.r_111 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 xo12 xs0 xs1)
      (kernelRun0_C.sl.r_120 (F := Ideal) i arg3 harg3 x1)
      (kernelRun0_C.sl.r_123 (F := Ideal) c i arg2 harg2 arg3 harg3 arg4 harg4 arg5 harg5 arg6 harg6 arg7 harg7 arg8 harg8 arg9 harg9 x0 x1 x2 x3 x4 x5 x6 x7),
    (kernelRun0_C.sl.r_124 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 xo12 xs0 xs1)⟩

/-- The two loops, as the run has them. -/
noncomputable def oneC := st_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 1).val) (kernelRun0_C.sl.r (F := Ideal) c arg2 harg2 x0) (kernelRun0_C.sl.r_1 (F := Ideal) c arg2 harg2 x0) (kernelRun0_C.sl.r_2 (F := Ideal) c arg5 harg5 x3) (kernelRun0_C.sl.r_3 (F := Ideal) c arg5 harg5 x3) (kernelRun0_C.sl.r_4 (F := Ideal) c arg5 harg5 arg6 harg6 x3 x4) (kernelRun0_C.sl.r_5 (F := Ideal) c arg5 harg5 arg6 harg6 x3 x4) (kernelRun0_C.sl.r_6 (F := Ideal) c arg8 harg8 x6) (kernelRun0_C.sl.r_7 (F := Ideal) c arg8 harg8 x6) (kernelRun0_C.sl.r_8 (F := Ideal) c arg7 harg7 x5) (View.readAt (Elt Ideal) arg7.view (Rect.unit (s := S16x1024) ![8, 0] S1x1024.size inb_S16x1024_S1x1024_8_0).toLoadRect (harg7.unread (Val := Elt Ideal) x5))
    (harg3.unread (Val := Elt Ideal) x1) (harg4.unread (Val := Elt Ideal) x2) (harg9.unread (Val := Elt Ideal) x7)
    (harg14.unread (Val := Elt Ideal) xo12) (harg15.unread (Val := Elt Ideal) xs0) (harg16.unread (Val := Elt Ideal) xs1)
    (k0_pay89 (F := Ideal), k0_pay90 (F := Ideal), k0_pay89 (F := Ideal), k0_pay90 (F := Ideal)) (Scf.trips (k0_t1_loop i).lb (k0_t1_loop i).ub (k0_t1_loop i).st)

noncomputable def twoC := st_k0_t2 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 1).val) (kernelRun0_C.sl.r (F := Ideal) c arg2 harg2 x0) (kernelRun0_C.sl.r_1 (F := Ideal) c arg2 harg2 x0) (kernelRun0_C.sl.r_2 (F := Ideal) c arg5 harg5 x3) (kernelRun0_C.sl.r_3 (F := Ideal) c arg5 harg5 x3) (kernelRun0_C.sl.r_4 (F := Ideal) c arg5 harg5 arg6 harg6 x3 x4) (kernelRun0_C.sl.r_5 (F := Ideal) c arg5 harg5 arg6 harg6 x3 x4) (kernelRun0_C.sl.r_6 (F := Ideal) c arg8 harg8 x6) (kernelRun0_C.sl.r_7 (F := Ideal) c arg8 harg8 x6) (kernelRun0_C.sl.r_8 (F := Ideal) c arg7 harg7 x5) (View.readAt (Elt Ideal) arg7.view (Rect.unit (s := S16x1024) ![8, 0] S1x1024.size inb_S16x1024_S1x1024_8_0).toLoadRect (harg7.unread (Val := Elt Ideal) x5))
    (kernelRun0_C.sl.v43 i) (harg3.unread (Val := Elt Ideal) x1) (harg4.unread (Val := Elt Ideal) x2) (harg9.unread (Val := Elt Ideal) x7)
    (arg14.view.writes (Elt Ideal) (harg14.unread (Val := Elt Ideal) xo12) ((oneC c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 xo12 xs0 xs1).2.1))
    (arg15.view.writes (Elt Ideal) (harg15.unread (Val := Elt Ideal) xs0) ((oneC c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 xo12 xs0 xs1).2.2.1))
    (arg16.view.writes (Elt Ideal) (harg16.unread (Val := Elt Ideal) xs1) ((oneC c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 xo12 xs0 xs1).2.2.2))
    ((oneC c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 xo12 xs0 xs1).1.1, (oneC c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 xo12 xs0 xs1).1.2.1, (oneC c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 xo12 xs0 xs1).1.2.2.1, (oneC c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 xo12 xs0 xs1).1.2.2.2) (Scf.trips (k0_t2_loop i).lb (k0_t2_loop i).ub (k0_t2_loop i).st)

theorem oneC_eq : oneC c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 xo12 xs0 xs1 = one c i arg2 harg2 arg3 harg3 arg4 harg4 arg5 harg5 arg6 harg6 arg7 harg7 arg8 harg8 arg9 harg9 arg10 harg10 arg11 harg11 arg12 harg12 arg13 harg13 arg14 harg14 arg15 harg15 arg16 harg16 (blk i x0 x1 x2 x3 x4 x5 x6 x7) (harg14.unread (Val := Elt Ideal) xo12) (harg15.unread (Val := Elt Ideal) xs0) (harg16.unread (Val := Elt Ideal) xs1) := (rfl)

theorem twoC_eq : twoC c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 xo12 xs0 xs1 = two c i arg2 harg2 arg3 harg3 arg4 harg4 arg5 harg5 arg6 harg6 arg7 harg7 arg8 harg8 arg9 harg9 arg10 harg10 arg11 harg11 arg12 harg12 arg13 harg13 arg14 harg14 arg15 harg15 arg16 harg16 (blk i x0 x1 x2 x3 x4 x5 x6 x7) (arg14.view.writes (Elt Ideal) (harg14.unread (Val := Elt Ideal) xo12) ((one c i arg2 harg2 arg3 harg3 arg4 harg4 arg5 harg5 arg6 harg6 arg7 harg7 arg8 harg8 arg9 harg9 arg10 harg10 arg11 harg11 arg12 harg12 arg13 harg13 arg14 harg14 arg15 harg15 arg16 harg16 (blk i x0 x1 x2 x3 x4 x5 x6 x7) (harg14.unread (Val := Elt Ideal) xo12) (harg15.unread (Val := Elt Ideal) xs0) (harg16.unread (Val := Elt Ideal) xs1)).2.1))
    (arg15.view.writes (Elt Ideal) (harg15.unread (Val := Elt Ideal) xs0) ((one c i arg2 harg2 arg3 harg3 arg4 harg4 arg5 harg5 arg6 harg6 arg7 harg7 arg8 harg8 arg9 harg9 arg10 harg10 arg11 harg11 arg12 harg12 arg13 harg13 arg14 harg14 arg15 harg15 arg16 harg16 (blk i x0 x1 x2 x3 x4 x5 x6 x7) (harg14.unread (Val := Elt Ideal) xo12) (harg15.unread (Val := Elt Ideal) xs0) (harg16.unread (Val := Elt Ideal) xs1)).2.2.1))
    (arg16.view.writes (Elt Ideal) (harg16.unread (Val := Elt Ideal) xs1) ((one c i arg2 harg2 arg3 harg3 arg4 harg4 arg5 harg5 arg6 harg6 arg7 harg7 arg8 harg8 arg9 harg9 arg10 harg10 arg11 harg11 arg12 harg12 arg13 harg13 arg14 harg14 arg15 harg15 arg16 harg16 (blk i x0 x1 x2 x3 x4 x5 x6 x7) (harg14.unread (Val := Elt Ideal) xo12) (harg15.unread (Val := Elt Ideal) xs0) (harg16.unread (Val := Elt Ideal) xs1)).2.2.2))
    ((one c i arg2 harg2 arg3 harg3 arg4 harg4 arg5 harg5 arg6 harg6 arg7 harg7 arg8 harg8 arg9 harg9 arg10 harg10 arg11 harg11 arg12 harg12 arg13 harg13 arg14 harg14 arg15 harg15 arg16 harg16 (blk i x0 x1 x2 x3 x4 x5 x6 x7) (harg14.unread (Val := Elt Ideal) xo12) (harg15.unread (Val := Elt Ideal) xs0) (harg16.unread (Val := Elt Ideal) xs1)).1.1, (one c i arg2 harg2 arg3 harg3 arg4 harg4 arg5 harg5 arg6 harg6 arg7 harg7 arg8 harg8 arg9 harg9 arg10 harg10 arg11 harg11 arg12 harg12 arg13 harg13 arg14 harg14 arg15 harg15 arg16 harg16 (blk i x0 x1 x2 x3 x4 x5 x6 x7) (harg14.unread (Val := Elt Ideal) xo12) (harg15.unread (Val := Elt Ideal) xs0) (harg16.unread (Val := Elt Ideal) xs1)).1.2.1, (one c i arg2 harg2 arg3 harg3 arg4 harg4 arg5 harg5 arg6 harg6 arg7 harg7 arg8 harg8 arg9 harg9 arg10 harg10 arg11 harg11 arg12 harg12 arg13 harg13 arg14 harg14 arg15 harg15 arg16 harg16 (blk i x0 x1 x2 x3 x4 x5 x6 x7) (harg14.unread (Val := Elt Ideal) xo12) (harg15.unread (Val := Elt Ideal) xs0) (harg16.unread (Val := Elt Ideal) xs1)).1.2.2.1, (one c i arg2 harg2 arg3 harg3 arg4 harg4 arg5 harg5 arg6 harg6 arg7 harg7 arg8 harg8 arg9 harg9 arg10 harg10 arg11 harg11 arg12 harg12 arg13 harg13 arg14 harg14 arg15 harg15 arg16 harg16 (blk i x0 x1 x2 x3 x4 x5 x6 x7) (harg14.unread (Val := Elt Ideal) xo12) (harg15.unread (Val := Elt Ideal) xs0) (harg16.unread (Val := Elt Ideal) xs1)).1.2.2.2) := by
  unfold twoC
  rw [oneC_eq]
  exact (rfl)

/-- The state before the diagonal. -/
noncomputable def stC0 : St :=
  ⟨(twoC c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 xo12 xs0 xs1).2.1 ++ ((oneC c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 xo12 xs0 xs1).2.1),
    (twoC c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 xo12 xs0 xs1).2.2.1 ++ ((oneC c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 xo12 xs0 xs1).2.2.1),
    (twoC c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 xo12 xs0 xs1).2.2.2 ++ ((oneC c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 xo12 xs0 xs1).2.2.2),
    (kernelRun0_C.sl.r_11 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 xo12 xs0 xs1), (kernelRun0_C.sl.r_12 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 xo12 xs0 xs1), (kernelRun0_C.sl.r_13 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 xo12 xs0 xs1), (kernelRun0_C.sl.r_14 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 xo12 xs0 xs1)⟩

theorem isC0 : stC0 c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 xo12 xs0 xs1 = base c i arg2 harg2 arg3 harg3 arg4 harg4 arg5 harg5 arg6 harg6 arg7 harg7 arg8 harg8 arg9 harg9 arg10 harg10 arg11 harg11 arg12 harg12 arg13 harg13 arg14 harg14 arg15 harg15 arg16 harg16 (blk i x0 x1 x2 x3 x4 x5 x6 x7) (harg14.unread (Val := Elt Ideal) xo12) (harg15.unread (Val := Elt Ideal) xs0) (harg16.unread (Val := Elt Ideal) xs1)
    (St.mk ((one c i arg2 harg2 arg3 harg3 arg4 harg4 arg5 harg5 arg6 harg6 arg7 harg7 arg8 harg8 arg9 harg9 arg10 harg10 arg11 harg11 arg12 harg12 arg13 harg13 arg14 harg14 arg15 harg15 arg16 harg16 (blk i x0 x1 x2 x3 x4 x5 x6 x7) (harg14.unread (Val := Elt Ideal) xo12) (harg15.unread (Val := Elt Ideal) xs0) (harg16.unread (Val := Elt Ideal) xs1)).2.1)
      ((one c i arg2 harg2 arg3 harg3 arg4 harg4 arg5 harg5 arg6 harg6 arg7 harg7 arg8 harg8 arg9 harg9 arg10 harg10 arg11 harg11 arg12 harg12 arg13 harg13 arg14 harg14 arg15 harg15 arg16 harg16 (blk i x0 x1 x2 x3 x4 x5 x6 x7) (harg14.unread (Val := Elt Ideal) xo12) (harg15.unread (Val := Elt Ideal) xs0) (harg16.unread (Val := Elt Ideal) xs1)).2.2.1)
      ((one c i arg2 harg2 arg3 harg3 arg4 harg4 arg5 harg5 arg6 harg6 arg7 harg7 arg8 harg8 arg9 harg9 arg10 harg10 arg11 harg11 arg12 harg12 arg13 harg13 arg14 harg14 arg15 harg15 arg16 harg16 (blk i x0 x1 x2 x3 x4 x5 x6 x7) (harg14.unread (Val := Elt Ideal) xo12) (harg15.unread (Val := Elt Ideal) xs0) (harg16.unread (Val := Elt Ideal) xs1)).2.2.2)
      (one c i arg2 harg2 arg3 harg3 arg4 harg4 arg5 harg5 arg6 harg6 arg7 harg7 arg8 harg8 arg9 harg9 arg10 harg10 arg11 harg11 arg12 harg12 arg13 harg13 arg14 harg14 arg15 harg15 arg16 harg16 (blk i x0 x1 x2 x3 x4 x5 x6 x7) (harg14.unread (Val := Elt Ideal) xo12) (harg15.unread (Val := Elt Ideal) xs0) (harg16.unread (Val := Elt Ideal) xs1)).1) := by
  have e : stC0 c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 xo12 xs0 xs1 =
    ⟨(twoC c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 xo12 xs0 xs1).2.1 ++ ((oneC c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 xo12 xs0 xs1).2.1), (twoC c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 xo12 xs0 xs1).2.2.1 ++ ((oneC c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 xo12 xs0 xs1).2.2.1), (twoC c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 xo12 xs0 xs1).2.2.2 ++ ((oneC c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 xo12 xs0 xs1).2.2.2), (twoC c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 xo12 xs0 xs1).1⟩ := (rfl)
  rw [e, twoC_eq, oneC_eq]
  rfl

theorem isC1 : stC1 c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 xo12 xs0 xs1
    = dStep i (harg3.unread (Val := Elt Ideal) x1) (harg4.unread (Val := Elt Ideal) x2) (harg9.unread (Val := Elt Ideal) x7) (harg14.unread (Val := Elt Ideal) xo12) (harg15.unread (Val := Elt Ideal) xs0) (harg16.unread (Val := Elt Ideal) xs1)
      (hv0 arg2 harg2 arg5 harg5 arg6 harg6 arg7 harg7 arg8 harg8 (blk i x0 x1 x2 x3 x4 x5 x6 x7)) (hv1 arg2 harg2 arg5 harg5 arg6 harg6 arg7 harg7 arg8 harg8 (blk i x0 x1 x2 x3 x4 x5 x6 x7)) ⟨0, by omega⟩ (stC0 c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 xo12 xs0 xs1) :=
  dStep_eq _ _ _ _ _ _ _ _ _ _ rfl rfl rfl rfl rfl rfl rfl rfl rfl rfl rfl

theorem isC2 : stC2 c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 xo12 xs0 xs1
    = dStep i (harg3.unread (Val := Elt Ideal) x1) (harg4.unread (Val := Elt Ideal) x2) (harg9.unread (Val := Elt Ideal) x7) (harg14.unread (Val := Elt Ideal) xo12) (harg15.unread (Val := Elt Ideal) xs0) (harg16.unread (Val := Elt Ideal) xs1)
      (hv0 arg2 harg2 arg5 harg5 arg6 harg6 arg7 harg7 arg8 harg8 (blk i x0 x1 x2 x3 x4 x5 x6 x7)) (hv1 arg2 harg2 arg5 harg5 arg6 harg6 arg7 harg7 arg8 harg8 (blk i x0 x1 x2 x3 x4 x5 x6 x7)) ⟨1, by omega⟩ (stC1 c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 xo12 xs0 xs1) :=
  dStep_eq _ _ _ _ _ _ _ _ _ _ rfl rfl rfl rfl rfl rfl rfl rfl rfl rfl rfl

theorem isC3 : stC3 c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 xo12 xs0 xs1
    = dStep i (harg3.unread (Val := Elt Ideal) x1) (harg4.unread (Val := Elt Ideal) x2) (harg9.unread (Val := Elt Ideal) x7) (harg14.unread (Val := Elt Ideal) xo12) (harg15.unread (Val := Elt Ideal) xs0) (harg16.unread (Val := Elt Ideal) xs1)
      (hv0 arg2 harg2 arg5 harg5 arg6 harg6 arg7 harg7 arg8 harg8 (blk i x0 x1 x2 x3 x4 x5 x6 x7)) (hv1 arg2 harg2 arg5 harg5 arg6 harg6 arg7 harg7 arg8 harg8 (blk i x0 x1 x2 x3 x4 x5 x6 x7)) ⟨2, by omega⟩ (stC2 c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 xo12 xs0 xs1) :=
  dStep_eq _ _ _ _ _ _ _ _ _ _ rfl rfl rfl rfl rfl rfl rfl rfl rfl rfl rfl

theorem isC4 : stC4 c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 xo12 xs0 xs1
    = dStep i (harg3.unread (Val := Elt Ideal) x1) (harg4.unread (Val := Elt Ideal) x2) (harg9.unread (Val := Elt Ideal) x7) (harg14.unread (Val := Elt Ideal) xo12) (harg15.unread (Val := Elt Ideal) xs0) (harg16.unread (Val := Elt Ideal) xs1)
      (hv0 arg2 harg2 arg5 harg5 arg6 harg6 arg7 harg7 arg8 harg8 (blk i x0 x1 x2 x3 x4 x5 x6 x7)) (hv1 arg2 harg2 arg5 harg5 arg6 harg6 arg7 harg7 arg8 harg8 (blk i x0 x1 x2 x3 x4 x5 x6 x7)) ⟨3, by omega⟩ (stC3 c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 xo12 xs0 xs1) :=
  dStep_eq _ _ _ _ _ _ _ _ _ _ rfl rfl rfl rfl rfl rfl rfl rfl rfl rfl rfl

theorem isC5 : stC5 c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 xo12 xs0 xs1
    = dStep i (harg3.unread (Val := Elt Ideal) x1) (harg4.unread (Val := Elt Ideal) x2) (harg9.unread (Val := Elt Ideal) x7) (harg14.unread (Val := Elt Ideal) xo12) (harg15.unread (Val := Elt Ideal) xs0) (harg16.unread (Val := Elt Ideal) xs1)
      (hv0 arg2 harg2 arg5 harg5 arg6 harg6 arg7 harg7 arg8 harg8 (blk i x0 x1 x2 x3 x4 x5 x6 x7)) (hv1 arg2 harg2 arg5 harg5 arg6 harg6 arg7 harg7 arg8 harg8 (blk i x0 x1 x2 x3 x4 x5 x6 x7)) ⟨4, by omega⟩ (stC4 c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 xo12 xs0 xs1) :=
  dStep_eq _ _ _ _ _ _ _ _ _ _ rfl rfl rfl rfl rfl rfl rfl rfl rfl rfl rfl

theorem isC6 : stC6 c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 xo12 xs0 xs1
    = dStep i (harg3.unread (Val := Elt Ideal) x1) (harg4.unread (Val := Elt Ideal) x2) (harg9.unread (Val := Elt Ideal) x7) (harg14.unread (Val := Elt Ideal) xo12) (harg15.unread (Val := Elt Ideal) xs0) (harg16.unread (Val := Elt Ideal) xs1)
      (hv0 arg2 harg2 arg5 harg5 arg6 harg6 arg7 harg7 arg8 harg8 (blk i x0 x1 x2 x3 x4 x5 x6 x7)) (hv1 arg2 harg2 arg5 harg5 arg6 harg6 arg7 harg7 arg8 harg8 (blk i x0 x1 x2 x3 x4 x5 x6 x7)) ⟨5, by omega⟩ (stC5 c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 xo12 xs0 xs1) :=
  dStep_eq _ _ _ _ _ _ _ _ _ _ rfl rfl rfl rfl rfl rfl rfl rfl rfl rfl rfl

theorem isC7 : stC7 c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 xo12 xs0 xs1
    = dStep i (harg3.unread (Val := Elt Ideal) x1) (harg4.unread (Val := Elt Ideal) x2) (harg9.unread (Val := Elt Ideal) x7) (harg14.unread (Val := Elt Ideal) xo12) (harg15.unread (Val := Elt Ideal) xs0) (harg16.unread (Val := Elt Ideal) xs1)
      (hv0 arg2 harg2 arg5 harg5 arg6 harg6 arg7 harg7 arg8 harg8 (blk i x0 x1 x2 x3 x4 x5 x6 x7)) (hv1 arg2 harg2 arg5 harg5 arg6 harg6 arg7 harg7 arg8 harg8 (blk i x0 x1 x2 x3 x4 x5 x6 x7)) ⟨6, by omega⟩ (stC6 c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 xo12 xs0 xs1) :=
  dStep_eq _ _ _ _ _ _ _ _ _ _ rfl rfl rfl rfl rfl rfl rfl rfl rfl rfl rfl

theorem isC8 : stC8 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 xo12 xs0 xs1
    = dStep i (harg3.unread (Val := Elt Ideal) x1) (harg4.unread (Val := Elt Ideal) x2) (harg9.unread (Val := Elt Ideal) x7) (harg14.unread (Val := Elt Ideal) xo12) (harg15.unread (Val := Elt Ideal) xs0) (harg16.unread (Val := Elt Ideal) xs1)
      (hv0 arg2 harg2 arg5 harg5 arg6 harg6 arg7 harg7 arg8 harg8 (blk i x0 x1 x2 x3 x4 x5 x6 x7)) (hv1 arg2 harg2 arg5 harg5 arg6 harg6 arg7 harg7 arg8 harg8 (blk i x0 x1 x2 x3 x4 x5 x6 x7)) ⟨7, by omega⟩ (stC7 c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 xo12 xs0 xs1) :=
  dStep_eq _ _ _ _ _ _ _ _ _ _ rfl rfl rfl rfl rfl rfl rfl rfl rfl rfl rfl

/-- The whole of the run. -/
theorem stC8_eq : stC8 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 xo12 xs0 xs1 = whole c i arg2 harg2 arg3 harg3 arg4 harg4 arg5 harg5 arg6 harg6 arg7 harg7 arg8 harg8 arg9 harg9 arg10 harg10 arg11 harg11 arg12 harg12 arg13 harg13 arg14 harg14 arg15 harg15 arg16 harg16 (blk i x0 x1 x2 x3 x4 x5 x6 x7) (harg14.unread (Val := Elt Ideal) xo12) (harg15.unread (Val := Elt Ideal) xs0) (harg16.unread (Val := Elt Ideal) xs1)
    (St.mk ((one c i arg2 harg2 arg3 harg3 arg4 harg4 arg5 harg5 arg6 harg6 arg7 harg7 arg8 harg8 arg9 harg9 arg10 harg10 arg11 harg11 arg12 harg12 arg13 harg13 arg14 harg14 arg15 harg15 arg16 harg16 (blk i x0 x1 x2 x3 x4 x5 x6 x7) (harg14.unread (Val := Elt Ideal) xo12) (harg15.unread (Val := Elt Ideal) xs0) (harg16.unread (Val := Elt Ideal) xs1)).2.1)
      ((one c i arg2 harg2 arg3 harg3 arg4 harg4 arg5 harg5 arg6 harg6 arg7 harg7 arg8 harg8 arg9 harg9 arg10 harg10 arg11 harg11 arg12 harg12 arg13 harg13 arg14 harg14 arg15 harg15 arg16 harg16 (blk i x0 x1 x2 x3 x4 x5 x6 x7) (harg14.unread (Val := Elt Ideal) xo12) (harg15.unread (Val := Elt Ideal) xs0) (harg16.unread (Val := Elt Ideal) xs1)).2.2.1)
      ((one c i arg2 harg2 arg3 harg3 arg4 harg4 arg5 harg5 arg6 harg6 arg7 harg7 arg8 harg8 arg9 harg9 arg10 harg10 arg11 harg11 arg12 harg12 arg13 harg13 arg14 harg14 arg15 harg15 arg16 harg16 (blk i x0 x1 x2 x3 x4 x5 x6 x7) (harg14.unread (Val := Elt Ideal) xo12) (harg15.unread (Val := Elt Ideal) xs0) (harg16.unread (Val := Elt Ideal) xs1)).2.2.2)
      (one c i arg2 harg2 arg3 harg3 arg4 harg4 arg5 harg5 arg6 harg6 arg7 harg7 arg8 harg8 arg9 harg9 arg10 harg10 arg11 harg11 arg12 harg12 arg13 harg13 arg14 harg14 arg15 harg15 arg16 harg16 (blk i x0 x1 x2 x3 x4 x5 x6 x7) (harg14.unread (Val := Elt Ideal) xo12) (harg15.unread (Val := Elt Ideal) xs0) (harg16.unread (Val := Elt Ideal) xs1)).1) :=
  have e1 := diag_succ i arg2 harg2 arg3 harg3 arg4 harg4 arg5 harg5 arg6 harg6 arg7 harg7 arg8 harg8 arg9 harg9 arg14 arg15 arg16 (blk i x0 x1 x2 x3 x4 x5 x6 x7) (s₀ := stC0 c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 xo12 xs0 xs1) (s' := stC1 c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 xo12 xs0 xs1) (hn := (by omega : 0 + 1 ≤ 8)) rfl
    (isC1 c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 xo12 xs0 xs1)
  have e2 := diag_succ i arg2 harg2 arg3 harg3 arg4 harg4 arg5 harg5 arg6 harg6 arg7 harg7 arg8 harg8 arg9 harg9 arg14 arg15 arg16 (blk i x0 x1 x2 x3 x4 x5 x6 x7) (s₀ := stC0 c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 xo12 xs0 xs1) (s' := stC2 c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 xo12 xs0 xs1) (hn := (by omega : 1 + 1 ≤ 8)) e1
    (isC2 c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 xo12 xs0 xs1)
  have e3 := diag_succ i arg2 harg2 arg3 harg3 arg4 harg4 arg5 harg5 arg6 harg6 arg7 harg7 arg8 harg8 arg9 harg9 arg14 arg15 arg16 (blk i x0 x1 x2 x3 x4 x5 x6 x7) (s₀ := stC0 c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 xo12 xs0 xs1) (s' := stC3 c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 xo12 xs0 xs1) (hn := (by omega : 2 + 1 ≤ 8)) e2
    (isC3 c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 xo12 xs0 xs1)
  have e4 := diag_succ i arg2 harg2 arg3 harg3 arg4 harg4 arg5 harg5 arg6 harg6 arg7 harg7 arg8 harg8 arg9 harg9 arg14 arg15 arg16 (blk i x0 x1 x2 x3 x4 x5 x6 x7) (s₀ := stC0 c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 xo12 xs0 xs1) (s' := stC4 c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 xo12 xs0 xs1) (hn := (by omega : 3 + 1 ≤ 8)) e3
    (isC4 c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 xo12 xs0 xs1)
  have e5 := diag_succ i arg2 harg2 arg3 harg3 arg4 harg4 arg5 harg5 arg6 harg6 arg7 harg7 arg8 harg8 arg9 harg9 arg14 arg15 arg16 (blk i x0 x1 x2 x3 x4 x5 x6 x7) (s₀ := stC0 c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 xo12 xs0 xs1) (s' := stC5 c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 xo12 xs0 xs1) (hn := (by omega : 4 + 1 ≤ 8)) e4
    (isC5 c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 xo12 xs0 xs1)
  have e6 := diag_succ i arg2 harg2 arg3 harg3 arg4 harg4 arg5 harg5 arg6 harg6 arg7 harg7 arg8 harg8 arg9 harg9 arg14 arg15 arg16 (blk i x0 x1 x2 x3 x4 x5 x6 x7) (s₀ := stC0 c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 xo12 xs0 xs1) (s' := stC6 c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 xo12 xs0 xs1) (hn := (by omega : 5 + 1 ≤ 8)) e5
    (isC6 c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 xo12 xs0 xs1)
  have e7 := diag_succ i arg2 harg2 arg3 harg3 arg4 harg4 arg5 harg5 arg6 harg6 arg7 harg7 arg8 harg8 arg9 harg9 arg14 arg15 arg16 (blk i x0 x1 x2 x3 x4 x5 x6 x7) (s₀ := stC0 c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 xo12 xs0 xs1) (s' := stC7 c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 xo12 xs0 xs1) (hn := (by omega : 6 + 1 ≤ 8)) e6
    (isC7 c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 xo12 xs0 xs1)
  have e8 := diag_succ i arg2 harg2 arg3 harg3 arg4 harg4 arg5 harg5 arg6 harg6 arg7 harg7 arg8 harg8 arg9 harg9 arg14 arg15 arg16 (blk i x0 x1 x2 x3 x4 x5 x6 x7) (s₀ := stC0 c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 xo12 xs0 xs1) (s' := stC8 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 xo12 xs0 xs1) (hn := (by omega : 7 + 1 ≤ 8)) e7
    (isC8 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 xo12 xs0 xs1)
  e8.trans (by unfold whole; rw [isC0])

end

end FoxBwd
-- ==== Proof.PtC.lean ====
/-
  What a grid point of case C leaves, for the blocks it reads.
-/
module

public import proofs.«01_k».proof.Proof.IsC
public import proofs.«01_k».proof.Proof.Out
public import proofs.«01_k».proof.Proof.Gen.KernelIdeal.Frame

@[expose] public section

set_option maxRecDepth 16384

namespace FoxBwd

open Idealize.ShloMosaic Cert.KernelIdeal Cert.KernelIdeal.Gen Idealize.ShloMosaic.TcCoe

attribute [local irreducible] st_k0_t1 st_k0_t2

section
variable (c : Dev nD) (i : grid0.Coords)
  (arg2 : Memref sig .tc .vmem S1024x128 .bf16) (harg2 : arg2.IsWhole)
  (arg3 : Memref sig .tc .vmem S4096x128 .bf16) (harg3 : arg3.IsWhole)
  (arg4 : Memref sig .tc .vmem S4096x128 .bf16) (harg4 : arg4.IsWhole)
  (arg5 : Memref sig .tc .vmem S1024x128 .f32) (harg5 : arg5.IsWhole)
  (arg6 : Memref sig .tc .vmem S1024x128 .f32) (harg6 : arg6.IsWhole)
  (arg7 : Memref sig .tc .vmem S16x1024 .f32) (harg7 : arg7.IsWhole)
  (arg8 : Memref sig .tc .vmem S16x1024 .f32) (harg8 : arg8.IsWhole)
  (arg9 : Memref sig .tc .vmem S4096x256 .f32) (harg9 : arg9.IsWhole)
  (arg10 : Memref sig .tc .vmem S1024x128 .bf16) (harg10 : arg10.IsWhole)
  (arg11 : Memref sig .tc .vmem S4096x128 .bf16) (harg11 : arg11.IsWhole)
  (arg12 : Memref sig .tc .vmem S4096x128 .bf16) (harg12 : arg12.IsWhole)
  (arg13 : Memref sig .tc .vmem S16x1024 .f32) (harg13 : arg13.IsWhole)
  (arg14 : Memref sig .tc .vmem S4096x256 .f32) (harg14 : arg14.IsWhole)
  (arg15 : Memref sig .tc .vmem S4096x128 .f32) (harg15 : arg15.IsWhole)
  (arg16 : Memref sig .tc .vmem S4096x128 .f32) (harg16 : arg16.IsWhole)
  (hc0 : ¬cond0_0 i) (hc1 : cond0_1 i)
  (x0 : Vec Ideal S1024x128 .bf16) (x1 x2 : Vec Ideal S4096x128 .bf16) (x3 x4 : Vec Ideal S1024x128 .f32)
  (x5 x6 : Vec Ideal S16x1024 .f32) (x7 : Vec Ideal S4096x256 .f32)
  (xo12 : Vec Ideal S4096x256 .f32) (xs0 xs1 : Vec Ideal S4096x128 .f32)

theorem pointC {C14 C15 C16 : ℕ → ℕ → EReal} (c14 : ∀ (s : Fin 4096) (l : Fin 256), xo12 (ix2 s l) = C14 s l)
    (c15 : ∀ (s : Fin 4096) (l : Fin 128), xs0 (ix2 s l) = C15 s l)
    (c16 : ∀ (s : Fin 4096) (l : Fin 128), xs1 (ix2 s l) = C16 s l) :
    PointOk (blk i x0 x1 x2 x3 x4 x5 x6 x7) C14 C15 C16 (out0_C_8 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 xo12 xs0 xs1) (out0_C_11 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 xo12 xs0 xs1) (out0_C_12 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 xo12 xs0 xs1) (sout0_C_0 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 xo12 xs0 xs1) (sout0_C_1 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 xo12 xs0 xs1) := by
  have G := whole_good c i arg2 harg2 arg3 harg3 arg4 harg4 arg5 harg5 arg6 harg6 arg7 harg7 arg8 harg8 arg9 harg9 arg10 harg10 arg11 harg11 arg12 harg12 arg13 harg13 arg14 harg14 arg15 harg15 arg16 harg16 (blk i x0 x1 x2 x3 x4 x5 x6 x7) rfl (C14 := C14) (C15 := C15) (C16 := C16)
    (g14 := harg14.unread (Val := Elt Ideal) xo12) (g15 := harg15.unread (Val := Elt Ideal) xs0) (g16 := harg16.unread (Val := Elt Ideal) xs1)
    (fun s l => (congrFun (harg14.read_unread xo12) _).trans (c14 s l))
    (fun s l => (congrFun (harg15.read_unread xs0) _).trans (c15 s l))
    (fun s l => (congrFun (harg16.read_unread xs1) _).trans (c16 s l))
    rfl rfl rfl rfl (stC8_eq c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 xo12 xs0 xs1)
  exact pointOk G
    (v8 := VO0_8) (u8 := VO0_8.junk) (v11 := VO0_11) (u11 := VO0_11.junk) (i8 := inb_S1024x128_S1024x128_0_0)
    (i0 := inb_S16x1024_S8x1024_0_0) (i1 := inb_S16x1024_S8x1024_8_0)
    (hc := concatenates_S64x1024_S64x1024_S128x1024_d0) (ht := transposes_S128x1024_p1_0_S1024x128)
    (hs := shapeCasts_S1x1024_S1x1024) (hb := broadcasts_S1x1024_S8x1024)
    rfl rfl rfl rfl rfl

theorem read_whole {sg : RefSig} {κ : Kind} {sp : Space} (v : View sg κ sp (Sh 4096 128) .bf16) (u : v.ty.Contents (Elt Ideal))
    {L : List (View.Piece (Elt Ideal) (Sh 4096 128) .bf16)}
    (inb : ∀ a, (![0, 0] : Fin 2 → ℕ) a + (Sh 4096 128).size a ≤ (Sh 4096 128).size a) (p : FVec Ideal (Sh 4096 128) .bf16)
    (h : L = [⟨Rect.unit (s := Sh 4096 128) ![0, 0] (Sh 4096 128).size inb, p⟩]) :
    v.read (Elt Ideal) (v.writes (Elt Ideal) u L) = p := by
  subst h
  exact View.read_writes_full v u inb p []

theorem load_all {sg : RefSig} {κ : Kind} {sp : Space} (m : Memref sg κ sp (Sh 4096 128) .f32)
    (inb : ∀ a, (![0, 0] : Fin 2 → ℕ) a + (Sh 4096 128).size a ≤ (Sh 4096 128).size a) (f : m.view.ty.Contents (Elt Ideal)) :
    View.readAt (Elt Ideal) m.view (Rect.unit (s := Sh 4096 128) ![0, 0] (Sh 4096 128).size inb).toLoadRect f
      = m.view.read (Elt Ideal) f :=
  View.readAt_full m.view f inb

/-- The finished gradients of the keys and the values are the two scratch buffers. -/
theorem pointC_dk : out0_C_9 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 xo12 xs0 xs1 = sout0_C_0 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 xo12 xs0 xs1 := by
  unfold out0_C_9 sout0_C_0
  have h : (kernelRun0_C (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 xo12 xs0 xs1).2.1 = [⟨Rect.unit (s := S4096x128) ![0, 0] S4096x128.size inb_S4096x128_S4096x128_0_0,
      k0_pay3 (F := Ideal) (kernelRun0_C.sl.v1224 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 xo12 xs0 xs1)⟩] := (rfl)
  refine (read_whole VO0_9 VO0_9.junk _ _ h).trans ?_
  show kernelRun0_C.sl.v1224 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 xo12 xs0 xs1 = _
  unfold kernelRun0_C.sl.v1224
  refine (load_all arg15 inb_S4096x128_S4096x128_0_0 _).trans ?_
  have h' : (kernelRun0_C (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 xo12 xs0 xs1).2.2.2.2.2.1 = kernelRun0_C.sl.HS0_16 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 xo12 xs0 xs1 := (rfl)
  rw [h']

theorem pointC_dv : out0_C_10 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 xo12 xs0 xs1 = sout0_C_1 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 xo12 xs0 xs1 := by
  unfold out0_C_10 sout0_C_1
  have h : (kernelRun0_C (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 xo12 xs0 xs1).2.2.1 = [⟨Rect.unit (s := S4096x128) ![0, 0] S4096x128.size inb_S4096x128_S4096x128_0_0,
      k0_pay4 (F := Ideal) (kernelRun0_C.sl.v1227 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 xo12 xs0 xs1)⟩] := (rfl)
  refine (read_whole VO0_10 VO0_10.junk _ _ h).trans ?_
  show kernelRun0_C.sl.v1227 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 xo12 xs0 xs1 = _
  unfold kernelRun0_C.sl.v1227
  refine (load_all arg16 inb_S4096x128_S4096x128_0_0 _).trans ?_
  have h' : (kernelRun0_C (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 xo12 xs0 xs1).2.2.2.2.2.2.1 = kernelRun0_C.sl.HS1_16 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 xo12 xs0 xs1 := (rfl)
  rw [h']

end

end FoxBwd
-- ==== Proof.Grid.lean ====
/-
  The grid: what each point leaves, from the first point of its column of points to the last, and the five arrays at the
  end, in natural-number coordinates.
-/
module

public import proofs.«01_k».proof.Proof.PtA
public import proofs.«01_k».proof.Proof.PtB
public import proofs.«01_k».proof.Proof.PtC
public import proofs.«01_k».proof.Proof.Gen.KernelIdeal.Value

@[expose] public section

set_option maxRecDepth 16384

namespace FoxBwd

open Idealize.ShloMosaic Cert.KernelIdeal Cert.KernelIdeal.Gen Cert.KernelIdeal.Value Idealize.ShloMosaic.TcCoe

attribute [local irreducible] st_k0_t1 st_k0_t2

variable (m : (ℓ : Loc nD τ sig) → Buf (Elt Ideal) ℓ) (c : Dev nD)

/-- The blocks that point `t` reads. -/
noncomputable def bk (t : Fin cfg0.N) : Blk :=
  blk (grid0.coords t) (iblk m c 0 t) (iblk m c 1 t) (iblk m c 2 t) (iblk m c 3 t) (iblk m c 4 t) (iblk m c 5 t) (iblk m c 6 t) (iblk m c 7 t)

/-- The same, for any number. -/
noncomputable def bkN (n : ℕ) : Blk := if h : n < cfg0.N then bk m c ⟨n, h⟩ else bk m c ⟨0, by decide⟩

theorem bkN_of {n : ℕ} (h : n < cfg0.N) : bkN m c n = bk m c ⟨n, h⟩ := dif_pos h

theorem bk_qi (t : Fin cfg0.N) : (bk m c t).qi = t.val % 4 := by
  have e : (grid0.coords t 1).val = t.val / 1 % 4 := Pipeline.Grid.coords_val t 1 (by decide) rfl
  rw [Nat.div_one] at e
  exact e

/-- What the points write and carry. -/
abbrev Car : Type := Vec Ideal S1024x128 .bf16 × Vec Ideal S4096x128 .bf16 × Vec Ideal S4096x128 .bf16 ×
  Vec Ideal S16x1024 .f32 × Vec Ideal S4096x256 .f32 × Vec Ideal S4096x128 .f32 × Vec Ideal S4096x128 .f32

/-- A point's results are right over the contents `C14`, `C15`, `C16`. -/
def CarOk (B : Blk) (C14 C15 C16 : ℕ → ℕ → EReal) (a : Car) : Prop :=
  PointOk B C14 C15 C16 a.1 a.2.2.2.1 a.2.2.2.2.1 a.2.2.2.2.2.1 a.2.2.2.2.2.2

theorem CarOk.of {B : Blk} {C14 C15 C16 : ℕ → ℕ → EReal} {a : Car} {o8 : Vec Ideal S1024x128 .bf16}
    {o9 o10 : Vec Ideal S4096x128 .bf16} {o11 : Vec Ideal S16x1024 .f32} {o12 : Vec Ideal S4096x256 .f32} {s0 s1 : Vec Ideal S4096x128 .f32}
    (e : a = (o8, o9, o10, o11, o12, s0, s1)) (h : PointOk B C14 C15 C16 o8 o11 o12 s0 s1) : CarOk B C14 C15 C16 a := by
  subst e
  exact h

theorem car_dk {a : Car} {o8 : Vec Ideal S1024x128 .bf16}
    {o9 o10 : Vec Ideal S4096x128 .bf16} {o11 : Vec Ideal S16x1024 .f32} {o12 : Vec Ideal S4096x256 .f32} {s0 s1 : Vec Ideal S4096x128 .f32}
    (e : a = (o8, o9, o10, o11, o12, s0, s1)) (h : o9 = s0) : a.2.1 = a.2.2.2.2.2.1 := by
  subst e
  exact h

theorem car_dv {a : Car} {o8 : Vec Ideal S1024x128 .bf16}
    {o9 o10 : Vec Ideal S4096x128 .bf16} {o11 : Vec Ideal S16x1024 .f32} {o12 : Vec Ideal S4096x256 .f32} {s0 s1 : Vec Ideal S4096x128 .f32}
    (e : a = (o8, o9, o10, o11, o12, s0, s1)) (h : o10 = s1) : a.2.2.1 = a.2.2.2.2.2.2 := by
  subst e
  exact h

theorem stepA (t : Fin cfg0.N) (acc : Car) (h0 : t.val % 4 = 0) :
    CarOk (bk m c t) (fun _ _ => 0) (fun _ _ => 0) (fun _ _ => 0) (stAt0 m c t.val t.isLt acc) := by
  have h1 : ¬t.val % 4 = 3 := by omega
  exact CarOk.of (stAt0_A m c t acc h0 h1) (pointA c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t))

theorem stepB (t : Fin cfg0.N) (acc : Car) (h0 : ¬t.val % 4 = 0) (h1 : ¬t.val % 4 = 3) {C14 C15 C16 : ℕ → ℕ → EReal}
    (c14 : ∀ (s : Fin 4096) (l : Fin 256), acc.2.2.2.2.1 (ix2 s l) = C14 s l)
    (c15 : ∀ (s : Fin 4096) (l : Fin 128), acc.2.2.2.2.2.1 (ix2 s l) = C15 s l)
    (c16 : ∀ (s : Fin 4096) (l : Fin 128), acc.2.2.2.2.2.2 (ix2 s l) = C16 s l) :
    CarOk (bk m c t) C14 C15 C16 (stAt0 m c t.val t.isLt acc) :=
  CarOk.of (stAt0_B m c t acc h0 h1) (pointB c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) acc.2.2.2.2.1 acc.2.2.2.2.2.1 acc.2.2.2.2.2.2 c14 c15 c16)

theorem stepC (t : Fin cfg0.N) (acc : Car) (h0 : ¬t.val % 4 = 0) (h1 : t.val % 4 = 3) {C14 C15 C16 : ℕ → ℕ → EReal}
    (c14 : ∀ (s : Fin 4096) (l : Fin 256), acc.2.2.2.2.1 (ix2 s l) = C14 s l)
    (c15 : ∀ (s : Fin 4096) (l : Fin 128), acc.2.2.2.2.2.1 (ix2 s l) = C15 s l)
    (c16 : ∀ (s : Fin 4096) (l : Fin 128), acc.2.2.2.2.2.2 (ix2 s l) = C16 s l) :
    CarOk (bk m c t) C14 C15 C16 (stAt0 m c t.val t.isLt acc) :=
  CarOk.of (stAt0_C m c t acc h0 h1) (pointC c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) acc.2.2.2.2.1 acc.2.2.2.2.2.1 acc.2.2.2.2.2.2 c14 c15 c16)

theorem stepC_dk (t : Fin cfg0.N) (acc : Car) (h0 : ¬t.val % 4 = 0) (h1 : t.val % 4 = 3) :
    (stAt0 m c t.val t.isLt acc).2.1 = (stAt0 m c t.val t.isLt acc).2.2.2.2.2.1 :=
  car_dk (stAt0_C m c t acc h0 h1) (pointC_dk c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) acc.2.2.2.2.1 acc.2.2.2.2.2.1 acc.2.2.2.2.2.2)

theorem stepC_dv (t : Fin cfg0.N) (acc : Car) (h0 : ¬t.val % 4 = 0) (h1 : t.val % 4 = 3) :
    (stAt0 m c t.val t.isLt acc).2.2.1 = (stAt0 m c t.val t.isLt acc).2.2.2.2.2.2 :=
  car_dv (stAt0_C m c t acc h0 h1) (pointC_dv c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) acc.2.2.2.2.1 acc.2.2.2.2.2.1 acc.2.2.2.2.2.2)

/-- The contributions of the points of a column before point `n`. -/
noncomputable def pre (f : Blk → ℕ → ℕ → EReal) (n s l : ℕ) : EReal :=
  ∑ x ∈ Finset.range (n % 4), f (bkN m c (4 * (n / 4) + x)) s l

theorem pre_zero (f : Blk → ℕ → ℕ → EReal) {n : ℕ} (h : n % 4 = 0) : pre m c f n = fun _ _ => 0 := by
  funext s l
  unfold pre
  rw [h]
  rfl

theorem pre_succ (f : Blk → ℕ → ℕ → EReal) {n : ℕ} (h : (n + 1) % 4 ≠ 0) (s l : ℕ) :
    pre m c f n s l + f (bkN m c n) s l = pre m c f (n + 1) s l := by
  unfold pre
  rw [show (n + 1) % 4 = n % 4 + 1 by omega, show (n + 1) / 4 = n / 4 by omega, Finset.sum_range_succ,
    show 4 * (n / 4) + n % 4 = n by omega]

/-- What point `n` leaves, over all the points before it. -/
theorem outs_ok : ∀ (n : ℕ) (hn : n < cfg0.N),
    CarOk (bkN m c n) (pre m c dcF n) (pre m c dkF n) (pre m c dvF n) (outsAt0 m c n hn)
  | 0, hn => by
    rw [outsAt0_zero, pre_zero m c _ rfl, pre_zero m c _ rfl, pre_zero m c _ rfl, bkN_of m c hn]
    exact stepA m c ⟨0, hn⟩ _ rfl
  | n + 1, hn => by
    rw [outsAt0_succ]
    have ih := outs_ok n (Nat.lt_of_succ_lt hn)
    by_cases h0 : (n + 1) % 4 = 0
    · rw [pre_zero m c _ h0, pre_zero m c _ h0, pre_zero m c _ h0, bkN_of m c hn]
      exact stepA m c ⟨n + 1, hn⟩ _ h0
    · have c14 := fun (s : Fin 4096) (l : Fin 256) => (ih.dc s l).trans (pre_succ m c dcF h0 s l)
      have c15 := fun (s : Fin 4096) (l : Fin 128) => (ih.dk s l).trans (pre_succ m c dkF h0 s l)
      have c16 := fun (s : Fin 4096) (l : Fin 128) => (ih.dv s l).trans (pre_succ m c dvF h0 s l)
      rw [bkN_of m c hn]
      by_cases h1 : (n + 1) % 4 = 3
      · exact stepC m c ⟨n + 1, hn⟩ _ h0 h1 c14 c15 c16
      · exact stepB m c ⟨n + 1, hn⟩ _ h0 h1 c14 c15 c16

theorem bkN_qi {n : ℕ} (h : n < 32) : (bkN m c n).qi = n % 4 := by
  rw [bkN_of m c (show n < cfg0.N from h), bk_qi]

/-- The queries' gradient. -/
theorem G8_apply (R : Fin 4096) (L : Fin 1024) :
    G8 m c (ix2 R L) = dqM (bkN m c (4 * (L / 128) + R / 1024)) (L % 128 / 64) (8 * (R / 1024) + 8) (L % 128 % 64) (R % 1024) * c8 := by
  have hp : pt8Of (ix2 R L) = 4 * (L.val / 128) + R.val / 1024 := by
    show 1 * (R.val / 1024 - 0) + 4 * (L.val / 128 - 0) = _
    omega
  have hn : 4 * (L.val / 128) + R.val / 1024 < 32 := by omega
  unfold G8
  rw [dif_pos (show pt8Of (ix2 R L) < cfg0.N by rw [hp]; exact hn), ← outsAt0_sweep m c _ (by rw [hp]; exact hn)]
  have e := (outs_ok m c (pt8Of (ix2 R L)) (by rw [hp]; exact hn)).dq ⟨R % 1024, by omega⟩ ⟨L % 128, by omega⟩
  refine Eq.trans (congrArg _ (funext fun a => ?_)) (e.trans ?_)
  · match a with
    | ⟨0, _⟩ => rfl
    | ⟨1, _⟩ => rfl
  · rw [hp, bkN_qi m c hn, show (4 * (L.val / 128) + R.val / 1024) % 4 = R.val / 1024 by omega]

/-- The queries' forget-gate gradient, on its sixteen rows a pair of heads. -/
theorem G11_apply (r : Fin 128) (T : Fin 4096) :
    G11 m c (ix2 r T) = dcqM (bkN m c (4 * (r / 16) + T / 1024)) (r % 16 / 8) (8 * (T / 1024) + 8) (T % 1024) := by
  have hp : pt11Of (ix2 r T) = 4 * (r.val / 16) + T.val / 1024 := by
    show 4 * (r.val / 16 - 0) + 1 * (T.val / 1024 - 0) = _
    omega
  have hn : 4 * (r.val / 16) + T.val / 1024 < 32 := by omega
  unfold G11
  rw [dif_pos (show pt11Of (ix2 r T) < cfg0.N by rw [hp]; exact hn), ← outsAt0_sweep m c _ (by rw [hp]; exact hn)]
  have e := (outs_ok m c (pt11Of (ix2 r T)) (by rw [hp]; exact hn)).dcq ⟨r % 16, by omega⟩ ⟨T % 1024, by omega⟩
  refine Eq.trans (congrArg _ (funext fun a => ?_)) (e.trans ?_)
  · match a with
    | ⟨0, _⟩ => rfl
    | ⟨1, _⟩ => rfl
  · rw [hp, bkN_qi m c hn, show (4 * (r.val / 16) + T.val / 1024) % 4 = T.val / 1024 by omega]

theorem sum_four (f : ℕ → EReal) (n : ℕ) (h : n % 4 = 3) :
    (∑ x ∈ Finset.range (n % 4), f (4 * (n / 4) + x)) + f n = ∑ x ∈ Finset.range 4, f (4 * (n / 4) + x) := by
  rw [h, Finset.sum_range_succ _ 3, show 4 * (n / 4) + 3 = n by omega]

/-- At the last point of a column the finished gradients are the carried sums. -/
theorem outs_last (n : ℕ) (hn : n < cfg0.N) (h : n % 4 = 3) :
    (outsAt0 m c n hn).2.1 = (outsAt0 m c n hn).2.2.2.2.2.1 ∧
      (outsAt0 m c n hn).2.2.1 = (outsAt0 m c n hn).2.2.2.2.2.2 := by
  match n, hn, h with
  | n + 1, hn, h =>
    rw [outsAt0_succ]
    exact ⟨stepC_dk m c ⟨n + 1, hn⟩ _ (by show ¬(n + 1) % 4 = 0; omega) h,
      stepC_dv m c ⟨n + 1, hn⟩ _ (by show ¬(n + 1) % 4 = 0; omega) h⟩

/-- The keys' gradient. -/
theorem G9_apply (S : Fin 4096) (L : Fin 1024) :
    G9 m c (ix2 S L) = ∑ x ∈ Finset.range 4, dkF (bkN m c (4 * (L / 128) + x)) S (L % 128) := by
  have hp : pt9Of (ix2 S L) = 4 * (L.val / 128) + 3 := by
    show 4 * (8 * (S.val / 4096 - 0) + 1 * (L.val / 128 - 0)) + 3 = _
    omega
  have hn : 4 * (L.val / 128) + 3 < 32 := by omega
  unfold G9
  rw [dif_pos (show pt9Of (ix2 S L) < cfg0.N by rw [hp]; exact hn), ← outsAt0_sweep m c _ (by rw [hp]; exact hn)]
  have e := (outs_ok m c (pt9Of (ix2 S L)) (by rw [hp]; exact hn)).dk S ⟨L % 128, by omega⟩
  have e' := e.trans (sum_four (fun n => dkF (bkN m c n) S (L % 128)) (pt9Of (ix2 S L)) (by rw [hp]; omega))
  rw [show 4 * (pt9Of (ix2 S L) / 4) = 4 * (L.val / 128) by rw [hp]; omega] at e'
  refine Eq.trans ?_ e'
  have k := outs_last m c (pt9Of (ix2 S L)) (by rw [hp]; exact hn) (by rw [hp]; omega)
  rw [k.1]
  refine congrArg _ (funext fun a => ?_)
  match a with
  | ⟨0, _⟩ => exact Fin.ext (Nat.mod_eq_of_lt S.isLt)
  | ⟨1, _⟩ => rfl

/-- The values' gradient. -/
theorem G10_apply (S : Fin 4096) (L : Fin 1024) :
    G10 m c (ix2 S L) = ∑ x ∈ Finset.range 4, dvF (bkN m c (4 * (L / 128) + x)) S (L % 128) := by
  have hp : pt10Of (ix2 S L) = 4 * (L.val / 128) + 3 := by
    show 4 * (8 * (S.val / 4096 - 0) + 1 * (L.val / 128 - 0)) + 3 = _
    omega
  have hn : 4 * (L.val / 128) + 3 < 32 := by omega
  unfold G10
  rw [dif_pos (show pt10Of (ix2 S L) < cfg0.N by rw [hp]; exact hn), ← outsAt0_sweep m c _ (by rw [hp]; exact hn)]
  have e := (outs_ok m c (pt10Of (ix2 S L)) (by rw [hp]; exact hn)).dv S ⟨L % 128, by omega⟩
  have e' := e.trans (sum_four (fun n => dvF (bkN m c n) S (L % 128)) (pt10Of (ix2 S L)) (by rw [hp]; omega))
  rw [show 4 * (pt10Of (ix2 S L) / 4) = 4 * (L.val / 128) by rw [hp]; omega] at e'
  refine Eq.trans ?_ e'
  have k := outs_last m c (pt10Of (ix2 S L)) (by rw [hp]; exact hn) (by rw [hp]; omega)
  rw [k.2]
  refine congrArg _ (funext fun a => ?_)
  match a with
  | ⟨0, _⟩ => exact Fin.ext (Nat.mod_eq_of_lt S.isLt)
  | ⟨1, _⟩ => rfl

/-- The keys' forget-gate gradient, on its lanes. -/
theorem G12_apply (S : Fin 4096) (L : Fin 2048) :
    G12 m c (ix2 S L) = ∑ x ∈ Finset.range 4, dcF (bkN m c (4 * (L / 256) + x)) S (L % 256) := by
  have hp : pt12Of (ix2 S L) = 4 * (L.val / 256) + 3 := by
    show 4 * (8 * (S.val / 4096 - 0) + 1 * (L.val / 256 - 0)) + 3 = _
    omega
  have hn : 4 * (L.val / 256) + 3 < 32 := by omega
  unfold G12
  rw [dif_pos (show pt12Of (ix2 S L) < cfg0.N by rw [hp]; exact hn), ← outsAt0_sweep m c _ (by rw [hp]; exact hn)]
  have e := (outs_ok m c (pt12Of (ix2 S L)) (by rw [hp]; exact hn)).dc S ⟨L % 256, by omega⟩
  have e' := e.trans (sum_four (fun n => dcF (bkN m c n) S (L % 256)) (pt12Of (ix2 S L)) (by rw [hp]; omega))
  rw [show 4 * (pt12Of (ix2 S L) / 4) = 4 * (L.val / 256) by rw [hp]; omega] at e'
  refine Eq.trans ?_ e'
  refine congrArg _ (funext fun a => ?_)
  match a with
  | ⟨0, _⟩ => exact Fin.ext (Nat.mod_eq_of_lt S.isLt)
  | ⟨1, _⟩ => rfl

end FoxBwd
-- ==== Proof.Prologue.lean ====
/-
  What the host computes before the kernel: the output, the gates and the logarithms, as `HostBwd`'s arrays.
-/
module

public import proofs.«01_k».proof.Proof.RefVal
public import proofs.«01_k».proof.Proof.Grid

@[expose] public section

set_option maxRecDepth 16384

namespace FoxBwd

open Idealize.ShloMosaic Cert.KernelIdeal Cert.KernelIdeal.Gen Idealize.ShloMosaic.TcCoe

/-- The logarithm of the sum of a row's exponentials. -/
noncomputable def lseR (A0 : FVec Ideal Cert.ReferenceIdeal.S4096x3072 .bf16) (A1 : FVec Ideal Cert.ReferenceIdeal.S4096x16 .f32) : R2 :=
  addf (hmx (hlg A0 A1)) (Host.log (hsum (hex (hlg A0 A1) (hmx (hlg A0 A1)))))

/-- The gates, a head a row. -/
noncomputable def gatesT (A1 : FVec Ideal Cert.ReferenceIdeal.S4096x16 .f32) : R2 :=
  transpose Cert.ReferenceIdeal.S16x4096 [1, 0] A1 Cert.ReferenceIdeal.Gen.transposes_S4096x16_S16x4096_1_0

variable (m : (ℓ : Loc nD τ sig) → Buf (Elt Ideal) ℓ) (c : Dev nD)

theorem V75_is : V m c main_v75 = cols128 (m (c.tc.loc main_arg1)) := by
  unfold V
  simp only [hostOps0, hostOps0_1, hostOps0_2, hostOps0_3, hostOps0_4, List.flatten_cons, List.flatten_nil, List.append_nil, List.cons_append,
    List.nil_append, StableHlo.TRef.nullary, StableHlo.TRef.ternary, StableHlo.TRef.unary, StableHlo.TRef.toBuf, StableHlo.TRef.ofBuf, cast_eq]
  after_results_simp <;> rfl

theorem V78_is : V m c main_v78 = rows8 (gatesT (m (c.tc.loc main_arg1))) := by
  unfold V
  simp only [hostOps0, hostOps0_1, hostOps0_2, hostOps0_3, hostOps0_4, List.flatten_cons, List.flatten_nil, List.append_nil, List.cons_append,
    List.nil_append, StableHlo.TRef.nullary, StableHlo.TRef.ternary, StableHlo.TRef.unary, StableHlo.TRef.toBuf, StableHlo.TRef.ofBuf, cast_eq]
  after_results_simp <;> rfl

theorem V80_is : V m c main_v80 = rows8 (lseR (m (c.tc.loc main_arg0)) (m (c.tc.loc main_arg1))) := by
  unfold V
  simp only [hostOps0, hostOps0_1, hostOps0_2, hostOps0_3, hostOps0_4, List.flatten_cons, List.flatten_nil, List.append_nil, List.cons_append,
    List.nil_append, StableHlo.TRef.nullary, StableHlo.TRef.ternary, StableHlo.TRef.unary, StableHlo.TRef.toBuf, StableHlo.TRef.ofBuf, cast_eq]
  after_results_simp <;> rfl

theorem V73_is : V m c main_v73 = outR (m (c.tc.loc main_arg0)) (m (c.tc.loc main_arg1)) := by
  unfold V
  simp only [hostOps0, hostOps0_1, hostOps0_2, hostOps0_3, hostOps0_4, List.flatten_cons, List.flatten_nil, List.append_nil, List.cons_append,
    List.nil_append, StableHlo.TRef.nullary, StableHlo.TRef.ternary, StableHlo.TRef.unary, StableHlo.TRef.toBuf, StableHlo.TRef.ofBuf, cast_eq]
  after_results_simp <;> rfl

end FoxBwd
-- ==== Proof.Blocks.lean ====
/-
  The blocks that a grid point reads, at an index: entries of the arrays that the host hands to the kernel.
-/
module

public import proofs.«01_k».proof.Proof.Prologue

@[expose] public section

set_option maxRecDepth 16384

namespace FoxBwd

open Idealize.ShloMosaic Cert.KernelIdeal Cert.KernelIdeal.Gen Idealize.ShloMosaic.TcCoe

variable (m : (ℓ : Loc nD τ sig) → Buf (Elt Ideal) ℓ) (c : Dev nD)

theorem at_ix {α : Type} {a b : ℕ} (f : (Sh a b).Idx → α) {r r' : Fin a} {l l' : Fin b} (hr : r.val = r'.val) (hl : l.val = l'.val) :
    f (ix2 r l) = f (ix2 r' l') := by
  rw [Fin.ext hr, Fin.ext hl]

theorem pt_lt (t : Fin cfg0.N) : t.val < 32 := lt_of_lt_of_eq t.isLt N_0

/-- The place of entry `(r, l)` of a block: the block's number on each axis times its size, and the entry's own place. -/
theorem block_ix {a b : ℕ} (f : (Sh a b).Idx) {r l w0 w1 n0 n1 s0 s1 : ℕ} {i j : ℕ} {bi : i < a} {bj : j < b} (h0 : (f 0).val = w0 * s0 + 1 * r)
    (h1 : (f 1).val = w1 * s1 + 1 * l) (e0 : w0 = n0) (e1 : w1 = n1) (hi : n0 * s0 + r = i)
    (hj : n1 * s1 + l = j) : f = ix2 ⟨i, bi⟩ ⟨j, bj⟩ := by
  funext x
  apply Fin.ext
  match x with
  | ⟨0, _⟩ => exact h0.trans ((by rw [e0, Nat.one_mul] : _ = n0 * s0 + r).trans hi)
  | ⟨1, _⟩ => exact h1.trans ((by rw [e1, Nat.one_mul] : _ = n1 * s1 + l).trans hj)

theorem idx_in0 : ∀ t : Fin cfg0.N, win0_0.index t (0 : Fin 2) = t.val % 4 ∧ win0_0.index t (1 : Fin 2) = t.val / 4 :=
  (by decide +kernel : ∀ t : Fin grid0.N, _)

theorem read0_apply (A : Vec Ideal S4096x3072 .bf16) (t : Fin cfg0.N) (r : Fin 1024) (l : Fin 128) :
    ((cfg0.win 0).blk t).view.read (Elt Ideal) A (ix2 r l) = A (ix2 ⟨1024 * (t.val % 4) + r, by have := pt_lt t; omega⟩ ⟨128 * (t.val / 4) + l, by have := pt_lt t; omega⟩) :=
  congrArg A (block_ix (s0 := 1024) (s1 := 128) (r := r.val) (l := l.val) _ rfl rfl (idx_in0 t).1 (idx_in0 t).2 (by omega) (by omega))

theorem idx_in1 : ∀ t : Fin cfg0.N, win0_1.index t (0 : Fin 2) = 0 ∧ win0_1.index t (1 : Fin 2) = 8 + t.val / 4 :=
  (by decide +kernel : ∀ t : Fin grid0.N, _)

theorem read1_apply (A : Vec Ideal S4096x3072 .bf16) (t : Fin cfg0.N) (r : Fin 4096) (l : Fin 128) :
    ((cfg0.win 1).blk t).view.read (Elt Ideal) A (ix2 r l) = A (ix2 ⟨r, by have := pt_lt t; omega⟩ ⟨1024 + 128 * (t.val / 4) + l, by have := pt_lt t; omega⟩) :=
  congrArg A (block_ix (s0 := 4096) (s1 := 128) (r := r.val) (l := l.val) _ rfl rfl (idx_in1 t).1 (idx_in1 t).2 (by omega) (by omega))

theorem idx_in2 : ∀ t : Fin cfg0.N, win0_2.index t (0 : Fin 2) = 0 ∧ win0_2.index t (1 : Fin 2) = 16 + t.val / 4 :=
  (by decide +kernel : ∀ t : Fin grid0.N, _)

theorem read2_apply (A : Vec Ideal S4096x3072 .bf16) (t : Fin cfg0.N) (r : Fin 4096) (l : Fin 128) :
    ((cfg0.win 2).blk t).view.read (Elt Ideal) A (ix2 r l) = A (ix2 ⟨r, by have := pt_lt t; omega⟩ ⟨2048 + 128 * (t.val / 4) + l, by have := pt_lt t; omega⟩) :=
  congrArg A (block_ix (s0 := 4096) (s1 := 128) (r := r.val) (l := l.val) _ rfl rfl (idx_in2 t).1 (idx_in2 t).2 (by omega) (by omega))

theorem idx_in3 : ∀ t : Fin cfg0.N, win0_3.index t (0 : Fin 2) = t.val % 4 ∧ win0_3.index t (1 : Fin 2) = t.val / 4 :=
  (by decide +kernel : ∀ t : Fin grid0.N, _)

theorem read3_apply (A : Vec Ideal S4096x1024 .f32) (t : Fin cfg0.N) (r : Fin 1024) (l : Fin 128) :
    ((cfg0.win 3).blk t).view.read (Elt Ideal) A (ix2 r l) = A (ix2 ⟨1024 * (t.val % 4) + r, by have := pt_lt t; omega⟩ ⟨128 * (t.val / 4) + l, by have := pt_lt t; omega⟩) :=
  congrArg A (block_ix (s0 := 1024) (s1 := 128) (r := r.val) (l := l.val) _ rfl rfl (idx_in3 t).1 (idx_in3 t).2 (by omega) (by omega))

theorem idx_in4 : ∀ t : Fin cfg0.N, win0_4.index t (0 : Fin 2) = t.val % 4 ∧ win0_4.index t (1 : Fin 2) = t.val / 4 :=
  (by decide +kernel : ∀ t : Fin grid0.N, _)

theorem read4_apply (A : Vec Ideal S4096x1024 .f32) (t : Fin cfg0.N) (r : Fin 1024) (l : Fin 128) :
    ((cfg0.win 4).blk t).view.read (Elt Ideal) A (ix2 r l) = A (ix2 ⟨1024 * (t.val % 4) + r, by have := pt_lt t; omega⟩ ⟨128 * (t.val / 4) + l, by have := pt_lt t; omega⟩) :=
  congrArg A (block_ix (s0 := 1024) (s1 := 128) (r := r.val) (l := l.val) _ rfl rfl (idx_in4 t).1 (idx_in4 t).2 (by omega) (by omega))

theorem idx_in5 : ∀ t : Fin cfg0.N, win0_5.index t (0 : Fin 2) = t.val / 4 ∧ win0_5.index t (1 : Fin 2) = t.val % 4 :=
  (by decide +kernel : ∀ t : Fin grid0.N, _)

theorem read5_apply (A : Vec Ideal S128x4096 .f32) (t : Fin cfg0.N) (r : Fin 16) (l : Fin 1024) :
    ((cfg0.win 5).blk t).view.read (Elt Ideal) A (ix2 r l) = A (ix2 ⟨16 * (t.val / 4) + r, by have := pt_lt t; omega⟩ ⟨1024 * (t.val % 4) + l, by have := pt_lt t; omega⟩) :=
  congrArg A (block_ix (s0 := 16) (s1 := 1024) (r := r.val) (l := l.val) _ rfl rfl (idx_in5 t).1 (idx_in5 t).2 (by omega) (by omega))

theorem idx_in6 : ∀ t : Fin cfg0.N, win0_6.index t (0 : Fin 2) = t.val / 4 ∧ win0_6.index t (1 : Fin 2) = t.val % 4 :=
  (by decide +kernel : ∀ t : Fin grid0.N, _)

theorem read6_apply (A : Vec Ideal S128x4096 .f32) (t : Fin cfg0.N) (r : Fin 16) (l : Fin 1024) :
    ((cfg0.win 6).blk t).view.read (Elt Ideal) A (ix2 r l) = A (ix2 ⟨16 * (t.val / 4) + r, by have := pt_lt t; omega⟩ ⟨1024 * (t.val % 4) + l, by have := pt_lt t; omega⟩) :=
  congrArg A (block_ix (s0 := 16) (s1 := 1024) (r := r.val) (l := l.val) _ rfl rfl (idx_in6 t).1 (idx_in6 t).2 (by omega) (by omega))

theorem idx_in7 : ∀ t : Fin cfg0.N, win0_7.index t (0 : Fin 2) = 0 ∧ win0_7.index t (1 : Fin 2) = t.val / 4 :=
  (by decide +kernel : ∀ t : Fin grid0.N, _)

theorem read7_apply (A : Vec Ideal S4096x2048 .f32) (t : Fin cfg0.N) (r : Fin 4096) (l : Fin 256) :
    ((cfg0.win 7).blk t).view.read (Elt Ideal) A (ix2 r l) = A (ix2 ⟨r, by have := pt_lt t; omega⟩ ⟨256 * (t.val / 4) + l, by have := pt_lt t; omega⟩) :=
  congrArg A (block_ix (s0 := 4096) (s1 := 256) (r := r.val) (l := l.val) _ rfl rfl (idx_in7 t).1 (idx_in7 t).2 (by omega) (by omega))

/-- The blocks at a point of the arrays `A` (queries, keys, values), `D` (the output's gradient), `O` (the output), `L` (the
    logarithms), `Q` and `K` (the gates). -/
noncomputable def blkOf (t : Fin cfg0.N) (A : Vec Ideal S4096x3072 .bf16) (D O : Vec Ideal S4096x1024 .f32) (L Q : Vec Ideal S128x4096 .f32)
    (K : Vec Ideal S4096x2048 .f32) : Blk :=
  blk (grid0.coords t) (((cfg0.win 0).blk t).view.read (Elt Ideal) A) (((cfg0.win 1).blk t).view.read (Elt Ideal) A)
    (((cfg0.win 2).blk t).view.read (Elt Ideal) A) (((cfg0.win 3).blk t).view.read (Elt Ideal) D) (((cfg0.win 4).blk t).view.read (Elt Ideal) O)
    (((cfg0.win 5).blk t).view.read (Elt Ideal) L) (((cfg0.win 6).blk t).view.read (Elt Ideal) Q) (((cfg0.win 7).blk t).view.read (Elt Ideal) K)

theorem blk_congr {i : grid0.Coords} {x0 y0 : Vec Ideal S1024x128 .bf16} {x1 x2 y1 y2 : Vec Ideal S4096x128 .bf16}
    {x3 x4 y3 y4 : Vec Ideal S1024x128 .f32} {x5 x6 y5 y6 : Vec Ideal S16x1024 .f32} {x7 y7 : Vec Ideal S4096x256 .f32}
    (h0 : x0 = y0) (h1 : x1 = y1) (h2 : x2 = y2) (h3 : x3 = y3) (h4 : x4 = y4) (h5 : x5 = y5) (h6 : x6 = y6) (h7 : x7 = y7) :
    blk i x0 x1 x2 x3 x4 x5 x6 x7 = blk i y0 y1 y2 y3 y4 y5 y6 y7 := by
  subst h0 h1 h2 h3 h4 h5 h6 h7
  rfl

theorem blk_of (t : Fin cfg0.N) {A : Vec Ideal S4096x3072 .bf16} {D O : Vec Ideal S4096x1024 .f32} {L Q : Vec Ideal S128x4096 .f32}
    {K : Vec Ideal S4096x2048 .f32} (hA : V m c main_arg0 = A) (hD : V m c main_arg2 = D) (hO : V m c main_v73 = O) (hL : V m c main_v80 = L)
    (hQ : V m c main_v78 = Q) (hK : V m c main_v75 = K) : bk m c t = blkOf t A D O L Q K :=
  blk_congr (congrArg (((cfg0.win 0).blk t).view.read (Elt Ideal)) hA) (congrArg (((cfg0.win 1).blk t).view.read (Elt Ideal)) hA)
    (congrArg (((cfg0.win 2).blk t).view.read (Elt Ideal)) hA) (congrArg (((cfg0.win 3).blk t).view.read (Elt Ideal)) hD)
    (congrArg (((cfg0.win 4).blk t).view.read (Elt Ideal)) hO) (congrArg (((cfg0.win 5).blk t).view.read (Elt Ideal)) hL)
    (congrArg (((cfg0.win 6).blk t).view.read (Elt Ideal)) hQ) (congrArg (((cfg0.win 7).blk t).view.read (Elt Ideal)) hK)

theorem bk_of (t : Fin cfg0.N) : bk m c t = blkOf t (m (c.tc.loc main_arg0)) (m (c.tc.loc main_arg2))
    (outR (m (c.tc.loc main_arg0)) (m (c.tc.loc main_arg1))) (rows8 (lseR (m (c.tc.loc main_arg0)) (m (c.tc.loc main_arg1))))
    (rows8 (gatesT (m (c.tc.loc main_arg1)))) (cols128 (m (c.tc.loc main_arg1))) :=
  blk_of m c t (V_main_arg0 m c) (V_main_arg2 m c) (V73_is m c) (V80_is m c) (V78_is m c) (V75_is m c)

section fields
variable (t : Fin cfg0.N) (A : Vec Ideal S4096x3072 .bf16) (D O : Vec Ideal S4096x1024 .f32) (L Q : Vec Ideal S128x4096 .f32)
    (K : Vec Ideal S4096x2048 .f32)
theorem blkOf_qi : (blkOf t A D O L Q K).qi = t.val % 4 := by
  have e : (grid0.coords t 1).val = t.val / 1 % 4 := Pipeline.Grid.coords_val t 1 (by decide) rfl
  rw [Nat.div_one] at e
  exact e

theorem blkOf_q {r l : ℕ} (hr : r < 1024) (hl : l < 128) {i : Fin 4096} {j : Fin 3072} (hi : i.val = 1024 * (t.val % 4) + r) (hj : j.val = 128 * (t.val / 4) + l) :
    rd (blkOf t A D O L Q K).q r l = A (ix2 i j) :=
  (rd_of _ hr hl).trans ((read0_apply A t ⟨r, hr⟩ ⟨l, hl⟩).trans (at_ix _ hi.symm hj.symm))

theorem blkOf_k {r l : ℕ} (hr : r < 4096) (hl : l < 128) {i : Fin 4096} {j : Fin 3072} (hi : i.val = r) (hj : j.val = 1024 + 128 * (t.val / 4) + l) :
    rd (blkOf t A D O L Q K).k r l = A (ix2 i j) :=
  (rd_of _ hr hl).trans ((read1_apply A t ⟨r, hr⟩ ⟨l, hl⟩).trans (at_ix _ hi.symm hj.symm))

theorem blkOf_v {r l : ℕ} (hr : r < 4096) (hl : l < 128) {i : Fin 4096} {j : Fin 3072} (hi : i.val = r) (hj : j.val = 2048 + 128 * (t.val / 4) + l) :
    rd (blkOf t A D O L Q K).v r l = A (ix2 i j) :=
  (rd_of _ hr hl).trans ((read2_apply A t ⟨r, hr⟩ ⟨l, hl⟩).trans (at_ix _ hi.symm hj.symm))

theorem blkOf_g {r l : ℕ} (hr : r < 1024) (hl : l < 128) {i : Fin 4096} {j : Fin 1024} (hi : i.val = 1024 * (t.val % 4) + r) (hj : j.val = 128 * (t.val / 4) + l) :
    rd (blkOf t A D O L Q K).g r l = D (ix2 i j) :=
  (rd_of _ hr hl).trans ((read3_apply D t ⟨r, hr⟩ ⟨l, hl⟩).trans (at_ix _ hi.symm hj.symm))

theorem blkOf_o {r l : ℕ} (hr : r < 1024) (hl : l < 128) {i : Fin 4096} {j : Fin 1024} (hi : i.val = 1024 * (t.val % 4) + r) (hj : j.val = 128 * (t.val / 4) + l) :
    rd (blkOf t A D O L Q K).o r l = O (ix2 i j) :=
  (rd_of _ hr hl).trans ((read4_apply O t ⟨r, hr⟩ ⟨l, hl⟩).trans (at_ix _ hi.symm hj.symm))

theorem blkOf_ls {r l : ℕ} (hr : r < 16) (hl : l < 1024) {i : Fin 128} {j : Fin 4096} (hi : i.val = 16 * (t.val / 4) + r) (hj : j.val = 1024 * (t.val % 4) + l) :
    rd (blkOf t A D O L Q K).ls r l = L (ix2 i j) :=
  (rd_of _ hr hl).trans ((read5_apply L t ⟨r, hr⟩ ⟨l, hl⟩).trans (at_ix _ hi.symm hj.symm))

theorem blkOf_cq {r l : ℕ} (hr : r < 16) (hl : l < 1024) {i : Fin 128} {j : Fin 4096} (hi : i.val = 16 * (t.val / 4) + r) (hj : j.val = 1024 * (t.val % 4) + l) :
    rd (blkOf t A D O L Q K).cq r l = Q (ix2 i j) :=
  (rd_of _ hr hl).trans ((read6_apply Q t ⟨r, hr⟩ ⟨l, hl⟩).trans (at_ix _ hi.symm hj.symm))

theorem blkOf_ck {r l : ℕ} (hr : r < 4096) (hl : l < 256) {i : Fin 4096} {j : Fin 2048} (hi : i.val = r) (hj : j.val = 256 * (t.val / 4) + l) :
    rd (blkOf t A D O L Q K).ck r l = K (ix2 i j) :=
  (rd_of _ hr hl).trans ((read7_apply K t ⟨r, hr⟩ ⟨l, hl⟩).trans (at_ix _ hi.symm hj.symm))

end fields

end FoxBwd
-- ==== Proof.BlkReal.lean ====
/-
  A block of real entries: what its point computes are the real weights and gradients of `Softmax`.
-/
module

public import proofs.«01_k».proof.Proof.Softmax
public import proofs.«01_k».proof.Proof.Steps

@[expose] public section

namespace FoxBwd

open Idealize.ShloMosaic

/-- The block's head `hh` has the entries of real queries, keys, values, output gradients and gates, with the output and
    the logarithms of the sums that belong to them. -/
structure BlkReal (B : Blk) (hh : ℕ) (q k v g : Fin 4096 → Fin 64 → ℝ) (c : Fin 4096 → ℝ) : Prop where
  rq : ∀ (t : ℕ) (T : Fin 4096), t < 1024 → T.val = 1024 * B.qi + t → ∀ d : Fin 64, rd B.q t (64 * hh + d) = (q T d : EReal)
  rg : ∀ (t : ℕ) (T : Fin 4096), t < 1024 → T.val = 1024 * B.qi + t → ∀ d : Fin 64, rd B.g t (64 * hh + d) = (g T d : EReal)
  ro : ∀ (t : ℕ) (T : Fin 4096), t < 1024 → T.val = 1024 * B.qi + t → ∀ d : Fin 64,
    rd B.o t (64 * hh + d) = ((∑ s, wt q k c T s * v s d : ℝ) : EReal)
  rls : ∀ (t : ℕ) (T : Fin 4096), t < 1024 → T.val = 1024 * B.qi + t →
    rd B.ls (8 * hh) t = ((mx q k c T + Real.log (den q k c T) : ℝ) : EReal)
  rcq : ∀ (t : ℕ) (T : Fin 4096), t < 1024 → T.val = 1024 * B.qi + t → rd B.cq (8 * hh) t = (c T : EReal)
  rk : ∀ (S : Fin 4096) (d : Fin 64), rd B.k S (64 * hh + d) = (k S d : EReal)
  rv : ∀ (S : Fin 4096) (d : Fin 64), rd B.v S (64 * hh + d) = (v S d : EReal)
  rck : ∀ (S : Fin 4096) (l : ℕ), l < 128 → rd B.ck S (128 * hh + l) = (c S : EReal)

section
variable {B : Blk} {hh : ℕ} {q k v g : Fin 4096 → Fin 64 → ℝ} {c : Fin 4096 → ℝ} (H : BlkReal B hh q k v g c)
  {t : ℕ} {T : Fin 4096} (ht : t < 1024) (hT : T.val = 1024 * B.qi + t)
include H ht hT

theorem qs_real (d : Fin 64) : qsM B hh t d = ((q T d * (1 / 8) : ℝ) : EReal) := by
  unfold qsM c8
  rw [H.rq t T ht hT d, ofBits_eighth, ← EReal.coe_mul]

theorem sc_real (S : Fin 4096) :
    scM B hh S t = ((z q k c T S - (mx q k c T + Real.log (den q k c T)) : ℝ) : EReal) := by
  unfold scM
  rw [H.rls t T ht hT, H.rcq t T ht hT, H.rck S _ (Nat.mod_lt _ (by norm_num))]
  simp only [qs_real H ht hT, H.rk, ← EReal.coe_mul, coe_sum, ← EReal.coe_sub, ← EReal.coe_add]
  congr 1
  unfold z
  rw [Finset.sum_mul]
  congr 2
  exact Finset.sum_congr rfl fun d _ => by ring

theorem pm_real (S : Fin 4096) : pmM B hh S t = (wt q k c T S : EReal) := by
  unfold pmM
  by_cases e : S ≤ T
  · have e' : S.val ≤ T.val := e
    rw [if_neg (by omega), sc_real H ht hT, exp_coe, exp_lse _ _ _ e]
  · have e' : ¬S.val ≤ T.val := e
    rw [if_pos (by omega), wt_of_lt _ _ _ (not_le.mp e), EReal.coe_zero]

theorem dl_real : dlM B hh t = (mean q k v g c T : EReal) := by
  unfold dlM
  simp only [H.rg t T ht hT, H.ro t T ht hT, ← EReal.coe_mul, coe_sum]
  rw [mean_eq]

theorem ds_real (S : Fin 4096) : dsM B hh S t = (dlg q k v g c T S : EReal) := by
  unfold dsM
  rw [pm_real H ht hT, dl_real H ht hT]
  simp only [H.rg t T ht hT, H.rv, ← EReal.coe_mul, coe_sum, ← EReal.coe_sub]
  congr 1
  unfold dlg dw
  congr 2
  exact Finset.sum_congr rfl fun d _ => mul_comm _ _

end

/-- A sum over the first numbers is the sum over all, the others contributing nothing. -/
theorem sum_range_fin {n N : ℕ} (hn : n ≤ N) (f : ℕ → EReal) (F : Fin N → ℝ) (hf : ∀ S : Fin N, S.val < n → f S = (F S : EReal))
    (h0 : ∀ S : Fin N, n ≤ S.val → F S = 0) : ∑ s ∈ Finset.range n, f s = ((∑ S, F S : ℝ) : EReal) := by
  rw [← coe_sum]
  have e : ∀ S : Fin N, (F S : EReal) = if S.val < n then f S else 0 := fun S => by
    split
    · rename_i h; exact (hf S h).symm
    · rename_i h; rw [h0 S (not_lt.mp h), EReal.coe_zero]
  rw [Finset.sum_congr rfl fun S _ => e S, Fin.sum_univ_eq_sum_range (fun s => if s < n then f s else 0)]
  rw [← Finset.sum_subset (Finset.range_subset_range.mpr hn) (fun s _ hs => if_neg (by simpa using hs))]
  exact Finset.sum_congr rfl fun s hs => (if_pos (Finset.mem_range.mp hs)).symm

/-- A sum over tiles of 1024 is the sum over all. -/
theorem sum_tiles (f : ℕ → EReal) (n : ℕ) :
    ∑ x ∈ Finset.range n, ∑ t ∈ Finset.range 1024, f (1024 * x + t) = ∑ T ∈ Finset.range (1024 * n), f T := by
  induction n with
  | zero => rfl
  | succ n ih => rw [Finset.sum_range_succ, ih, Nat.mul_succ, Finset.sum_range_add]

theorem sum_tiles_fin (f : ℕ → ℕ → EReal) (F : Fin 4096 → ℝ)
    (hf : ∀ (x t : ℕ) (T : Fin 4096), x < 4 → t < 1024 → T.val = 1024 * x + t → f x t = (F T : EReal)) :
    ∑ x ∈ Finset.range 4, ∑ t ∈ Finset.range 1024, f x t = ((∑ T, F T : ℝ) : EReal) := by
  have e : ∀ x ∈ Finset.range 4, ∑ t ∈ Finset.range 1024, f x t
      = ∑ t ∈ Finset.range 1024, (fun T => f (T / 1024) (T % 1024)) (1024 * x + t) := fun x _ =>
    Finset.sum_congr rfl fun t ht => by
      have := Finset.mem_range.mp ht
      show f x t = f ((1024 * x + t) / 1024) ((1024 * x + t) % 1024)
      rw [show (1024 * x + t) / 1024 = x by omega, show (1024 * x + t) % 1024 = t by omega]
  rw [Finset.sum_congr rfl e, sum_tiles (fun T => f (T / 1024) (T % 1024))]
  refine sum_range_fin (N := 4096) le_rfl _ F (fun S hS => ?_) (fun S hS => absurd S.isLt (by omega))
  have := S.isLt
  exact hf _ _ S (by omega) (Nat.mod_lt _ (by norm_num)) (by omega)

section sums
variable {q k v g : Fin 4096 → Fin 64 → ℝ} {c : Fin 4096 → ℝ} {hh : ℕ}

theorem dq_real {B : Blk} (H : BlkReal B hh q k v g c) {t : ℕ} {T : Fin 4096} (ht : t < 1024) (hT : T.val = 1024 * B.qi + t) (d : Fin 64) :
    dqM B hh (8 * B.qi + 8) d t * c8 = ((∑ s : Fin 4096, dlg q k v g c T s * (1 / 8) * k s d : ℝ) : EReal) := by
  have hl := T.isLt
  unfold dqM c8
  rw [sum_range_fin (N := 4096) (by omega) _ (fun s => k s d * dlg q k v g c T s)
    (fun S _ => by rw [H.rk, ds_real H ht hT, ← EReal.coe_mul])
    (fun S hS => by rw [dlg_of_lt _ _ _ _ _ (show T < S by show T.val < S.val; omega), mul_zero]),
    ofBits_eighth, ← EReal.coe_mul, Finset.sum_mul]
  exact congrArg _ (Finset.sum_congr rfl fun s _ => by ring)

theorem dcq_real {B : Blk} (H : BlkReal B hh q k v g c) {t : ℕ} {T : Fin 4096} (ht : t < 1024) (hT : T.val = 1024 * B.qi + t) :
    dcqM B hh (8 * B.qi + 8) t = ((∑ s : Fin 4096, dlg q k v g c T s : ℝ) : EReal) := by
  have hl := T.isLt
  unfold dcqM
  exact sum_range_fin (N := 4096) (by omega) _ (fun s => dlg q k v g c T s) (fun S _ => ds_real H ht hT S)
    (fun S hS => dlg_of_lt _ _ _ _ _ (show T < S by show T.val < S.val; omega))

variable {Bs : ℕ → Blk} (H : ∀ x < 4, BlkReal (Bs x) hh q k v g c) (hq : ∀ x < 4, (Bs x).qi = x)
include H hq

theorem dk_real (S : Fin 4096) (d : Fin 64) :
    ∑ x ∈ Finset.range 4, dkM (Bs x) hh S d = ((∑ t : Fin 4096, dlg q k v g c t S * (1 / 8) * q t d : ℝ) : EReal) := by
  unfold dkM
  refine sum_tiles_fin _ (fun t => dlg q k v g c t S * (1 / 8) * q t d) fun x t T hx ht hT => ?_
  have hT' : T.val = 1024 * (Bs x).qi + t := by rw [hq x hx]; exact hT
  rw [ds_real (H x hx) ht hT', qs_real (H x hx) ht hT', ← EReal.coe_mul]
  congr 1
  ring

theorem dv_real (S : Fin 4096) (d : Fin 64) :
    ∑ x ∈ Finset.range 4, dvM (Bs x) hh S d = ((∑ t : Fin 4096, g t d * wt q k c t S : ℝ) : EReal) := by
  unfold dvM
  refine sum_tiles_fin _ (fun t => g t d * wt q k c t S) fun x t T hx ht hT => ?_
  have hT' : T.val = 1024 * (Bs x).qi + t := by rw [hq x hx]; exact hT
  rw [pm_real (H x hx) ht hT', (H x hx).rg t T ht hT', ← EReal.coe_mul, mul_comm]

theorem dc_real (S : Fin 4096) :
    ∑ x ∈ Finset.range 4, -dcM (Bs x) hh S = ((∑ t : Fin 4096, -dlg q k v g c t S : ℝ) : EReal) := by
  have e : ∀ x ∈ Finset.range 4, -dcM (Bs x) hh S = ∑ t ∈ Finset.range 1024, -dsM (Bs x) hh S t := fun x hx => by
    have hx' := Finset.mem_range.mp hx
    have hd : ∀ t ∈ Finset.range 1024, dsM (Bs x) hh S t
        = ((if h : 1024 * x + t < 4096 then dlg q k v g c ⟨1024 * x + t, h⟩ S else 0 : ℝ) : EReal) := fun t ht => by
      have ht' := Finset.mem_range.mp ht
      rw [dif_pos (by omega)]
      exact ds_real (H x hx') ht' (by rw [hq x hx']) S
    unfold dcM
    rw [Finset.sum_congr rfl hd, Finset.sum_congr rfl fun t ht => congrArg (- ·) (hd t ht), coe_sum, ← EReal.coe_neg]
    simp only [← EReal.coe_neg]
    rw [coe_sum, Finset.sum_neg_distrib]
  rw [Finset.sum_congr rfl e]
  refine sum_tiles_fin _ (fun t => -dlg q k v g c t S) fun x t T hx ht hT => ?_
  have hT' : T.val = 1024 * (Bs x).qi + t := by rw [hq x hx]; exact hT
  rw [ds_real (H x hx) ht hT', ← EReal.coe_neg]

end sums

end FoxBwd
-- ==== Proof.RealBlk.lean ====
/-
  The blocks of real arguments are real blocks: head `hh` of the grid's column `p` is head `2p + hh` of the attention.
-/
module

public import proofs.«01_k».proof.Proof.Blocks
public import proofs.«01_k».proof.Proof.BlkReal

@[expose] public section

set_option maxRecDepth 16384

namespace FoxBwd

open Idealize.ShloMosaic Cert.KernelIdeal Cert.KernelIdeal.Gen Idealize.ShloMosaic.TcCoe

attribute [local irreducible] hmx hsum hlg hex mask

theorem lse_at (a b : R2) (i : Cert.ReferenceIdeal.S16x4096.Idx) : (addf a (Host.log b) : R2) i = a i + Ideal.log (b i) := rfl

theorem lseR_apply {A0 : FVec Ideal Cert.ReferenceIdeal.S4096x3072 .bf16} {A1 : FVec Ideal Cert.ReferenceIdeal.S4096x16 .f32}
    {X : Fin 4096 → Fin 3072 → ℝ} {U : Fin 4096 → Fin 16 → ℝ}
    (hX : ∀ r c, A0 (ix2 r c) = (X r c : EReal)) (hU : ∀ r c, A1 (ix2 r c) = (U r c : EReal)) (h : Fin 16) (t : Fin 4096) :
    lseR A0 A1 (ix2 h t)
      = ((mx (qR X h) (kR X h) (cR U h) t + Real.log (den (qR X h) (kR X h) (cR U h) t) : ℝ) : EReal) := by
  have hl := hlg_apply hX hU h t
  have hm := hmx_apply hl
  unfold lseR
  rw [lse_at, hm, hden_apply (hex_apply hl hm), log_coe (den_pos _ _ _ t), ← EReal.coe_add]

theorem gatesT_apply (A1 : FVec Ideal Cert.ReferenceIdeal.S4096x16 .f32) (h : Fin 16) (t : Fin 4096) :
    gatesT A1 (ix2 h t) = A1 (ix2 t h) := by
  unfold gatesT
  pointwise

theorem at_fin {α : Type} {a b : ℕ} (f : Fin a → Fin b → α) {r r' : Fin a} {l l' : Fin b} (hr : r.val = r'.val) (hl : l.val = l'.val) :
    f r l = f r' l' := by
  rw [Fin.ext hr, Fin.ext hl]

/-- The three arguments are arrays of real numbers. -/
structure RealArgs (A0 : FVec Ideal Cert.ReferenceIdeal.S4096x3072 .bf16) (A1 : FVec Ideal Cert.ReferenceIdeal.S4096x16 .f32)
    (A2 : FVec Ideal Cert.ReferenceIdeal.S4096x1024 .f32)
    (X : Fin 4096 → Fin 3072 → ℝ) (U : Fin 4096 → Fin 16 → ℝ) (G : Fin 4096 → Fin 1024 → ℝ) : Prop where
  x : ∀ r c, A0 (ix2 r c) = (X r c : EReal)
  u : ∀ r c, A1 (ix2 r c) = (U r c : EReal)
  g : ∀ r c, A2 (ix2 r c) = (G r c : EReal)

variable {A0 : FVec Ideal Cert.ReferenceIdeal.S4096x3072 .bf16} {A1 : FVec Ideal Cert.ReferenceIdeal.S4096x16 .f32}
  {A2 : FVec Ideal Cert.ReferenceIdeal.S4096x1024 .f32}
  {X : Fin 4096 → Fin 3072 → ℝ} {U : Fin 4096 → Fin 16 → ℝ} {G : Fin 4096 → Fin 1024 → ℝ}

theorem blkOf_real (R : RealArgs A0 A1 A2 X U G) (n : Fin cfg0.N) {p hh : ℕ} (hp : p = n.val / 4) (h2 : hh < 2) (h : Fin 16)
    (hh' : h.val = 2 * p + hh) :
    BlkReal (blkOf n A0 A2 (outR A0 A1) (rows8 (lseR A0 A1)) (rows8 (gatesT A1)) (cols128 A1)) hh
      (qR X h) (kR X h) (vR X h) (gR G h) (cR U h) := by
  have hn := pt_lt n
  have hl := h.isLt
  constructor
  · intro t T ht hT d
    rw [blkOf_qi] at hT
    exact (blkOf_q _ _ _ _ _ _ _ ht (by omega) (i := T) (j := ⟨h.val * 64 + d.val, by omega⟩) hT (by show h.val * 64 + d.val = _; omega)).trans (R.x _ _)
  · intro t T ht hT d
    rw [blkOf_qi] at hT
    exact (blkOf_g _ _ _ _ _ _ _ ht (by omega) (i := T) (j := ⟨h.val * 64 + d.val, by omega⟩) hT (by show h.val * 64 + d.val = _; omega)).trans (R.g _ _)
  · intro t T ht hT d
    rw [blkOf_qi] at hT
    refine (blkOf_o _ _ _ _ _ _ _ ht (by omega) (i := T) (j := ⟨h.val * 64 + d.val, by omega⟩) hT (by show h.val * 64 + d.val = _; omega)).trans
      ((outR_apply R.x R.u _ _).trans ?_)
    have e1 : (⟨(h.val * 64 + d.val) / 64, by omega⟩ : Fin 16) = h := Fin.ext (by show (h.val * 64 + d.val) / 64 = h.val; omega)
    have e2 : (⟨(h.val * 64 + d.val) % 64, by omega⟩ : Fin 64) = d := Fin.ext (by show (h.val * 64 + d.val) % 64 = d.val; omega)
    refine congrArg _ (Finset.sum_congr rfl fun s _ => ?_)
    show wR X U ⟨(h.val * 64 + d.val) / 64, _⟩ T s * vR X ⟨(h.val * 64 + d.val) / 64, _⟩ s ⟨(h.val * 64 + d.val) % 64, _⟩ = _
    rw [e1, e2]
    rfl
  · intro t T ht hT
    rw [blkOf_qi] at hT
    exact (blkOf_ls _ _ _ _ _ _ _ (by omega) ht (i := ⟨8 * h.val, by omega⟩) (j := T) (by show 8 * h.val = _; omega) hT).trans
      ((rows8_apply _ _ _).trans ((at_ix _ (r' := h) (l' := T) (by show 8 * h.val / 8 = h.val; omega) rfl).trans (lseR_apply R.x R.u h T)))
  · intro t T ht hT
    rw [blkOf_qi] at hT
    exact (blkOf_cq _ _ _ _ _ _ _ (by omega) ht (i := ⟨8 * h.val, by omega⟩) (j := T) (by show 8 * h.val = _; omega) hT).trans
      ((rows8_apply _ _ _).trans ((at_ix _ (r' := h) (l' := T) (by show 8 * h.val / 8 = h.val; omega) rfl).trans ((gatesT_apply _ h T).trans (R.u _ _))))
  · intro S d
    exact (blkOf_k _ _ _ _ _ _ _ S.isLt (by omega) (i := S) (j := ⟨1024 + (h.val * 64 + d.val), by omega⟩) rfl
      (by show 1024 + (h.val * 64 + d.val) = _; omega)).trans (R.x _ _)
  · intro S d
    exact (blkOf_v _ _ _ _ _ _ _ S.isLt (by omega) (i := S) (j := ⟨2048 + (h.val * 64 + d.val), by omega⟩) rfl
      (by show 2048 + (h.val * 64 + d.val) = _; omega)).trans (R.x _ _)
  · intro S l hl
    exact (blkOf_ck _ _ _ _ _ _ _ S.isLt (by omega) (i := S) (j := ⟨128 * h.val + l, by omega⟩) rfl
      (by show 128 * h.val + l = _; omega)).trans
      ((cols128_apply _ _ _).trans ((at_ix _ (r' := S) (l' := h) rfl (by show (128 * h.val + l) / 128 = h.val; omega)).trans (R.u _ _)))

variable (m : (ℓ : Loc nD τ sig) → Buf (Elt Ideal) ℓ) (c : Dev nD)

theorem bkN_real (R : RealArgs (m (c.tc.loc main_arg0)) (m (c.tc.loc main_arg1)) (m (c.tc.loc main_arg2)) X U G)
    {p qi hh : ℕ} (hp : p < 8) (hq : qi < 4) (h2 : hh < 2) (h : Fin 16) (hh' : h.val = 2 * p + hh) :
    BlkReal (bkN m c (4 * p + qi)) hh (qR X h) (kR X h) (vR X h) (gR G h) (cR U h) := by
  have lt : 4 * p + qi < cfg0.N := lt_of_lt_of_eq (by omega) N_0.symm
  have e := (bkN_of m c lt).trans (bk_of m c ⟨4 * p + qi, lt⟩)
  exact e ▸ blkOf_real R ⟨4 * p + qi, lt⟩ (by show p = (4 * p + qi) / 4; omega) h2 h hh'

end FoxBwd
-- ==== Proof.Final.lean ====
/-
  The kernel's five arrays of real arguments are the reference's.
-/
module

public import proofs.«01_k».proof.Proof.RealBlk

@[expose] public section

set_option maxRecDepth 16384

namespace FoxBwd

open Idealize.ShloMosaic Cert.KernelIdeal Cert.KernelIdeal.Gen Cert.KernelIdeal.Value Idealize.ShloMosaic.TcCoe

variable {X : Fin 4096 → Fin 3072 → ℝ} {U : Fin 4096 → Fin 16 → ℝ} {G : Fin 4096 → Fin 1024 → ℝ}

section sums
variable {b : ℕ → Blk} (hb : ∀ (p qi hh : ℕ), p < 8 → qi < 4 → hh < 2 → ∀ h : Fin 16, h.val = 2 * p + hh →
    BlkReal (b (4 * p + qi)) hh (qR X h) (kR X h) (vR X h) (gR G h) (cR U h))
  (hqi : ∀ n, n < 32 → (b n).qi = n % 4)
include hb hqi

theorem sumQ (r : Fin 4096) (l : Fin 1024) :
    dqM (b (4 * (l / 128) + r / 1024)) (l % 128 / 64) (8 * (r / 1024) + 8) (l % 128 % 64) (r % 1024) * c8
      = ((∑ s : Fin 4096, lR X U G ⟨l / 64, by omega⟩ r s * (1 / 8) * kR X ⟨l / 64, by omega⟩ s ⟨l % 64, by omega⟩ : ℝ) : EReal) := by
  have hr := r.isLt
  have hl := l.isLt
  have e : (b (4 * (l / 128) + r / 1024)).qi = r / 1024 := (hqi _ (by omega)).trans (by omega)
  have h := dq_real (hb (l / 128) (r / 1024) (l % 128 / 64) (by omega) (by omega) (by omega) ⟨l / 64, by omega⟩
    (by show l.val / 64 = _; omega)) (t := r % 1024) (T := r) (by omega) (by rw [e]; omega) ⟨l % 64, by omega⟩
  rw [e] at h
  rw [show l.val % 128 % 64 = l.val % 64 by omega]
  exact h

theorem sumCq (r : Fin 128) (t : Fin 4096) :
    dcqM (b (4 * (r / 16) + t / 1024)) (r % 16 / 8) (8 * (t / 1024) + 8) (t % 1024)
      = ((∑ s : Fin 4096, lR X U G ⟨r / 8, by omega⟩ t s : ℝ) : EReal) := by
  have hr := r.isLt
  have hl := t.isLt
  have e : (b (4 * (r / 16) + t / 1024)).qi = t / 1024 := (hqi _ (by omega)).trans (by omega)
  have h := dcq_real (hb (r / 16) (t / 1024) (r % 16 / 8) (by omega) (by omega) (by omega) ⟨r / 8, by omega⟩
    (by show r.val / 8 = _; omega)) (t := t % 1024) (T := t) (by omega) (by rw [e]; omega)
  rw [e] at h
  exact h

theorem sumK (s : Fin 4096) (l : Fin 1024) :
    ∑ x ∈ Finset.range 4, dkF (b (4 * (l / 128) + x)) s (l % 128)
      = ((∑ t : Fin 4096, lR X U G ⟨l / 64, by omega⟩ t s * (1 / 8) * qR X ⟨l / 64, by omega⟩ t ⟨l % 64, by omega⟩ : ℝ) : EReal) := by
  have hl := l.isLt
  unfold dkF
  rw [show l.val % 128 % 64 = l.val % 64 by omega]
  exact dk_real (Bs := fun x => b (4 * (l / 128) + x))
    (fun x hx => hb (l / 128) x (l % 128 / 64) (by omega) hx (by omega) ⟨l / 64, by omega⟩ (by show l.val / 64 = _; omega))
    (fun x hx => (hqi _ (by omega)).trans (by omega)) s ⟨l % 64, by omega⟩

theorem sumV (s : Fin 4096) (l : Fin 1024) :
    ∑ x ∈ Finset.range 4, dvF (b (4 * (l / 128) + x)) s (l % 128)
      = ((∑ t : Fin 4096, gR G ⟨l / 64, by omega⟩ t ⟨l % 64, by omega⟩ * wR X U ⟨l / 64, by omega⟩ t s : ℝ) : EReal) := by
  have hl := l.isLt
  unfold dvF
  rw [show l.val % 128 % 64 = l.val % 64 by omega]
  exact dv_real (v := vR X ⟨l / 64, by omega⟩) (Bs := fun x => b (4 * (l / 128) + x))
    (fun x hx => hb (l / 128) x (l % 128 / 64) (by omega) hx (by omega) ⟨l / 64, by omega⟩ (by show l.val / 64 = _; omega))
    (fun x hx => (hqi _ (by omega)).trans (by omega)) s ⟨l % 64, by omega⟩

theorem sumCk (s : Fin 4096) (l : Fin 2048) :
    ∑ x ∈ Finset.range 4, dcF (b (4 * (l / 256) + x)) s (l % 256)
      = ((∑ t : Fin 4096, -lR X U G ⟨l / 128, by omega⟩ t s : ℝ) : EReal) := by
  have hl := l.isLt
  unfold dcF
  exact dc_real (Bs := fun x => b (4 * (l / 256) + x))
    (fun x hx => hb (l / 256) x (l % 256 / 128) (by omega) hx (by omega) ⟨l / 128, by omega⟩ (by show l.val / 128 = _; omega))
    (fun x hx => (hqi _ (by omega)).trans (by omega)) s

end sums

/-- Two matrices with the same entries are the same. -/
theorem ext2 {α : Type} {a b : ℕ} {f g : (Sh a b).Idx → α} (h : ∀ (r : Fin a) (l : Fin b), f (ix2 r l) = g (ix2 r l)) : f = g := by
  funext i
  have e : i = ix2 (i 0) (i 1) := by
    funext a
    match a with
    | ⟨0, _⟩ => rfl
    | ⟨1, _⟩ => rfl
  rw [e]
  exact h _ _

/-- Equal arguments, equal results. -/
theorem args_congr {α β γ δ : Type} (f : α → β → γ → δ) {a a' : α} {b b' : β} {c c' : γ} (ha : a = a') (hb : b = b') (hc : c = c') :
    f a b c = f a' b' c' := by
  rw [ha, hb, hc]

variable (m : (ℓ : Loc nD τ sig) → Buf (Elt Ideal) ℓ) (c : Dev nD)
  (R : RealArgs (m (c.tc.loc main_arg0)) (m (c.tc.loc main_arg1)) (m (c.tc.loc main_arg2)) X U G)
include R

theorem G8_is : G8 m c = resQ (m (c.tc.loc main_arg0)) (m (c.tc.loc main_arg1)) (m (c.tc.loc main_arg2)) :=
  ext2 fun r l => (G8_apply m c r l).trans
    ((sumQ (fun _ _ _ hp hq h2 h e => bkN_real m c R hp hq h2 h e) (fun _ h => bkN_qi m c h) r l).trans (resQ_apply R.x R.u R.g r l).symm)

theorem G9_is : G9 m c = resK (m (c.tc.loc main_arg0)) (m (c.tc.loc main_arg1)) (m (c.tc.loc main_arg2)) :=
  ext2 fun r l => (G9_apply m c r l).trans
    ((sumK (fun _ _ _ hp hq h2 h e => bkN_real m c R hp hq h2 h e) (fun _ h => bkN_qi m c h) r l).trans (resK_apply R.x R.u R.g r l).symm)

theorem G10_is : G10 m c = resV (m (c.tc.loc main_arg0)) (m (c.tc.loc main_arg1)) (m (c.tc.loc main_arg2)) :=
  ext2 fun r l => (G10_apply m c r l).trans
    ((sumV (fun _ _ _ hp hq h2 h e => bkN_real m c R hp hq h2 h e) (fun _ h => bkN_qi m c h) r l).trans (resV_apply R.x R.u R.g r l).symm)

theorem G11_is : G11 m c = resCq (m (c.tc.loc main_arg0)) (m (c.tc.loc main_arg1)) (m (c.tc.loc main_arg2)) :=
  ext2 fun r l => (G11_apply m c r l).trans
    ((sumCq (fun _ _ _ hp hq h2 h e => bkN_real m c R hp hq h2 h e) (fun _ h => bkN_qi m c h) r l).trans (resCq_apply R.x R.u R.g r l).symm)

theorem G12_is : G12 m c = resCk (m (c.tc.loc main_arg0)) (m (c.tc.loc main_arg1)) (m (c.tc.loc main_arg2)) :=
  ext2 fun r l => (G12_apply m c r l).trans
    ((sumCk (fun _ _ _ hp hq h2 h e => bkN_real m c R hp hq h2 h e) (fun _ h => bkN_qi m c h) r l).trans (resCk_apply R.x R.u R.g r l).symm)

end FoxBwd
-- ==== Proof.Finite.lean ====
/-
  Finite arguments are arrays of real numbers.
-/
module

public import proofs.«01_k».proof.Pre_finite
public import proofs.«01_k».proof.Proof.RealBlk

@[expose] public section

namespace FoxBwd

open Idealize.ShloMosaic

/-- The side conditions of the precondition's operations. -/
theorem factsFinite : Cert.Pre_finite.Facts where
  bitsLt_bf16_f32 := by decide
  bcast_S_S4096x3072 := by decide
  bcast_S_S4096x16 := by decide
  bcast_S_S4096x1024 := by decide

/-- A number below plus infinity in absolute value is a real. -/
theorem real_of_lt {x : EReal} (h : Ideal.cmp .olt (max x (-x)) ⊤ = 1#1) : ((x.toReal : ℝ) : EReal) = x := by
  have h' : max x (-x) < ⊤ := by
    by_contra e
    have : Ideal.cmp .olt (max x (-x)) ⊤ = 0#1 := by
      simp only [Ideal.cmp]
      rw [decide_eq_false e]
      rfl
    rw [this] at h
    exact absurd h (by decide)
  have h1 := lt_of_le_of_lt (le_max_left _ _) h'
  have h2 := lt_of_le_of_lt (le_max_right _ _) h'
  refine EReal.coe_toReal h1.ne fun e => ?_
  rw [e] at h2
  exact absurd h2 (by simp)

/-- The test of one array. -/
theorem finite_at {T : Shape} (x : FVec Ideal T .f32) (h : (⟨0, ![]⟩ : Shape).BroadcastsInDim T ![])
    (e : cmpf .olt (Host.absf x) (broadcastInDim T ![] h (constant ⟨0, ![]⟩ .f32 0x7F800000#32 : FVec Ideal ⟨0, ![]⟩ .f32)) = fun _ => 1#1)
    (i : T.Idx) : (((x i : EReal).toReal : ℝ) : EReal) = x i := by
  have e1 : Ideal.cmp .olt (max (x i : EReal) (-(x i))) (Ideal.ofBits .f32 0x7F800000#32) = 1#1 :=
    (congrArg (Ideal.cmp .olt (max (x i : EReal) (-(x i)))) (bc_apply _ h i).symm).trans (congrFun e i)
  rw [ofBits_inf] at e1
  exact real_of_lt e1

theorem realArgs [hP : Cert.Pre_finite.Facts] (A0 : FVec Ideal Cert.ReferenceIdeal.S4096x3072 .bf16) (A1 : FVec Ideal Cert.ReferenceIdeal.S4096x16 .f32)
    (A2 : FVec Ideal Cert.ReferenceIdeal.S4096x1024 .f32)
    (h : (Cert.Pre_finite.fn (F := Ideal) A0 A1 A2).1 = (fun _ => 1#1) ∧ (Cert.Pre_finite.fn (F := Ideal) A0 A1 A2).2.1 = (fun _ => 1#1)
      ∧ (Cert.Pre_finite.fn (F := Ideal) A0 A1 A2).2.2 = (fun _ => 1#1)) :
    RealArgs A0 A1 A2 (fun r c => (A0 (ix2 r c) : EReal).toReal) (fun r c => (A1 (ix2 r c) : EReal).toReal)
      (fun r c => (A2 (ix2 r c) : EReal).toReal) where
  x r c := (finite_at (extf .f32 A0 hP.bitsLt_bf16_f32) _ h.1 (ix2 r c)).symm
  u r c := (finite_at A1 _ h.2.1 (ix2 r c)).symm
  g r c := (finite_at A2 _ h.2.2 (ix2 r c)).symm

end FoxBwd
-- ==== Proof.Product.lean ====
/-
  A product of matrices in tiles: each tile of the result is a sum of products of tiles of the factors, and the tiles
  make up the whole product. Stated for any shapes, with a factor read by its rows or by its columns.
-/
module

public import proofs.«01_k».proof.Proof.Tile
public import Idealize.ShloMosaic.Lib.Pipeline.ValueKit
public import Idealize.ShloMosaic.Lib.StackMember
public import Idealize.ShloMosaic.Lib.ValueLayout
public import Idealize.ShloMosaic.Lib.Pipeline.ReadBack

@[expose] public section

namespace Products

open Idealize.ShloMosaic FoxBwd

/-- A row of a matrix, zero past its end. -/
noncomputable def rowOf {M K : ℕ} (A : (Sh M K).Idx → EReal) (i : Fin M) (k : ℕ) : EReal := if h : k < K then A (ix2 i ⟨k, h⟩) else 0

/-- A column of a matrix, zero past its end. -/
noncomputable def colOf {K N : ℕ} (A : (Sh K N).Idx → EReal) (j : Fin N) (k : ℕ) : EReal := if h : k < K then A (ix2 ⟨k, h⟩ j) else 0

/-- The sum of `n` products from the place `a` on. -/
noncomputable def dot (f g : ℕ → EReal) (a n : ℕ) : EReal := ∑ k ∈ Finset.range n, f (a + k) * g (a + k)

/-- The product of two matrices; the second, or the first, transposed. -/
noncomputable def prodNN {M K N : ℕ} (A : (Sh M K).Idx → EReal) (B : (Sh K N).Idx → EReal) : (Sh M N).Idx → EReal :=
  fun i => dot (rowOf A (i 0)) (colOf B (i 1)) 0 K
noncomputable def prodNT {M K N : ℕ} (A : (Sh M K).Idx → EReal) (B : (Sh N K).Idx → EReal) : (Sh M N).Idx → EReal :=
  fun i => dot (rowOf A (i 0)) (rowOf B (i 1)) 0 K
noncomputable def prodTN {M K N : ℕ} (A : (Sh K M).Idx → EReal) (B : (Sh K N).Idx → EReal) : (Sh M N).Idx → EReal :=
  fun i => dot (colOf A (i 0)) (colOf B (i 1)) 0 K

/-- A sum of products goes on where the sum before it ends. -/
theorem dot_add (f g : ℕ → EReal) (a n l : ℕ) : dot f g a (n + l) = dot f g a n + dot f g (a + n) l := by
  unfold dot
  rw [Finset.sum_range_add]
  exact congrArg _ (Finset.sum_congr rfl fun k _ => by rw [Nat.add_assoc])

theorem dot_congr {f g f' g' : ℕ → EReal} {a a' n : ℕ} (hf : ∀ k < n, f (a + k) = f' (a' + k)) (hg : ∀ k < n, g (a + k) = g' (a' + k)) :
    dot f g a n = dot f' g' a' n :=
  Finset.sum_congr rfl fun k hk => by rw [hf k (Finset.mem_range.mp hk), hg k (Finset.mem_range.mp hk)]

/-- A sum over the entries of two rows or columns. -/
theorem dot_of_sum {n : ℕ} (f g : Fin n → EReal) (f' g' : ℕ → EReal) (hf : ∀ k : Fin n, f' k.val = f k) (hg : ∀ k : Fin n, g' k.val = g k) :
    ∑ k : Fin n, f k * g k = dot f' g' 0 n := by
  unfold dot
  rw [Finset.sum_range]
  exact Finset.sum_congr rfl fun k _ => by rw [Nat.zero_add, hf, hg]

theorem rowOf_fin {M K : ℕ} (A : (Sh M K).Idx → EReal) (i : Fin M) (k : Fin K) : rowOf A i k.val = A (ix2 i k) := dif_pos k.isLt
theorem colOf_fin {K N : ℕ} (A : (Sh K N).Idx → EReal) (j : Fin N) (k : Fin K) : colOf A j k.val = A (ix2 k j) := dif_pos k.isLt

theorem eta2 {M N : ℕ} (i : (Sh M N).Idx) : i = ix2 (i 0) (i 1) := by
  funext a
  match a with
  | ⟨0, _⟩ => rfl
  | ⟨1, _⟩ => rfl

/-- `[K,M]` by `[K,N]` from zero, at an index. -/
theorem mmTN {M K N : ℕ} (x : FVec Ideal (Sh K M) .bf16) (y : FVec Ideal (Sh K N) .bf16) (r : Fin M) (t : Fin N) :
    matmul (dotTL M K N) none x y (constant (F := Ideal) (Sh M N) .f32 0x00000000#32) (ix2 r t) = ∑ d : Fin K, x (ix2 d r) * y (ix2 d t) := by
  refine (Ideal.matmul_apply₁_of (dotTL M K N) (a := (0 : Fin 2)) rfl (K := K) rfl _ _ _ _ (fun d => ix2 d r) (fun d => ix2 d t) ?_ ?_).trans
    ((congrArg (· + _) Ideal.ofBits_zero_f32).trans (zero_add _)) <;>
  · intro d
    funext a
    match a with
    | ⟨0, _⟩ => rfl
    | ⟨1, _⟩ => rfl

/-- The kernel's three products from zero, at an index. -/
theorem mm_nn {M K N : ℕ} (x : FVec Ideal (Sh M K) .bf16) (y : FVec Ideal (Sh K N) .bf16) (i : (Sh M N).Idx) :
    matmul (DotDims.plain M K N) none x y (constant (F := Ideal) (Sh M N) .f32 0x00000000#32) i = prodNN x y i := by
  rw [eta2 i]
  exact (mmNN x y _ _).trans (dot_of_sum _ _ _ _ (rowOf_fin _ _) (colOf_fin _ _))

theorem mm_nt {M K N : ℕ} (x : FVec Ideal (Sh M K) .bf16) (y : FVec Ideal (Sh N K) .bf16) (i : (Sh M N).Idx) :
    matmul (DotDims.transposedRhs M K N) none x y (constant (F := Ideal) (Sh M N) .f32 0x00000000#32) i = prodNT x y i := by
  rw [eta2 i]
  exact (mmNT x y _ _).trans (dot_of_sum _ _ _ _ (rowOf_fin _ _) (rowOf_fin _ _))

theorem mm_tn {M K N : ℕ} (x : FVec Ideal (Sh K M) .bf16) (y : FVec Ideal (Sh K N) .bf16) (i : (Sh M N).Idx) :
    matmul (dotTL M K N) none x y (constant (F := Ideal) (Sh M N) .f32 0x00000000#32) i = prodTN x y i := by
  rw [eta2 i]
  exact (mmTN x y _ _).trans (dot_of_sum _ _ _ _ (colOf_fin _ _) (colOf_fin _ _))

/-! ## Tiles -/

section tiles
variable {M K TM TK : ℕ} (A : (Sh M K).Idx → EReal) (f : (Sh TM TK).Idx → (Sh M K).Idx) {w0 w1 v b : ℕ}
  (a0 : ∀ y, (f y 0).val = w0 * TM + 1 * (y 0).val) (a1 : ∀ y, (f y 1).val = w1 * TK + 1 * (y 1).val)
include a0 a1

/-- A tile's row is a piece of the matrix's row: the tile lies `b` tiles along it. -/
theorem row_tile (e0 : w0 = v) (e1 : w1 = b) (i : Fin M) (r : Fin TM) (hi : i.val = v * TM + 1 * r.val) :
    ∀ k < TK, rowOf (fun y => A (f y)) r (0 + k) = rowOf A i (b * TK + k) := by
  intro k hk
  have h1 : (f (ix2 r ⟨k, hk⟩) 1).val = w1 * TK + 1 * k := a1 _
  have hb : b * TK + k < K := by
    have := (f (ix2 r ⟨k, hk⟩) 1).isLt
    rw [h1, e1, Nat.one_mul] at this
    exact this
  unfold rowOf
  rw [dif_pos (by omega), dif_pos hb]
  refine congrArg A ((eta2 _).trans (congrArg₂ ix2 (Fin.ext ?_) (Fin.ext ?_)))
  · exact (a0 _).trans ((congrArg (· * TM + 1 * r.val) e0).trans hi.symm)
  · refine (a1 _).trans ?_
    show w1 * TK + 1 * (0 + k) = b * TK + k
    rw [e1, Nat.one_mul, Nat.zero_add]

/-- A tile's column is a piece of the matrix's column. -/
theorem col_tile (e0 : w0 = b) (e1 : w1 = v) (j : Fin K) (l : Fin TK) (hj : j.val = v * TK + 1 * l.val) :
    ∀ k < TM, colOf (fun y => A (f y)) l (0 + k) = colOf A j (b * TM + k) := by
  intro k hk
  have h0 : (f (ix2 ⟨k, hk⟩ l) 0).val = w0 * TM + 1 * k := a0 _
  have hb : b * TM + k < M := by
    have := (f (ix2 ⟨k, hk⟩ l) 0).isLt
    rw [h0, e0, Nat.one_mul] at this
    exact this
  unfold colOf
  rw [dif_pos (by omega), dif_pos hb]
  refine congrArg A ((eta2 _).trans (congrArg₂ ix2 (Fin.ext ?_) (Fin.ext ?_)))
  · refine (a0 _).trans ?_
    show w0 * TM + 1 * (0 + k) = b * TM + k
    rw [e0, Nat.one_mul, Nat.zero_add]
  · exact (a1 _).trans ((congrArg (· * TK + 1 * l.val) e1).trans hj.symm)

end tiles

theorem mod_step (n nk : ℕ) (z : ¬(n + 1) % nk = 0) : n % nk + 1 = (n + 1) % nk := by
  have d := Nat.div_add_mod n nk
  rcases Nat.lt_or_ge (n % nk + 1) nk with q | q
  · have e : n + 1 = n % nk + 1 + nk * (n / nk) := by omega
    rw [e, Nat.add_mul_mod_self_left, Nat.mod_eq_of_lt q]
  · rcases Nat.eq_zero_or_pos nk with r | r
    · rw [r, Nat.mod_zero, Nat.mod_zero]
    · have l := Nat.mod_lt n r
      have e : n + 1 = nk * (n / nk + 1) := by rw [Nat.mul_add, Nat.mul_one]; omega
      exact absurd (by rw [e, Nat.mul_mod_right]) z

/-- Sums of products gathered tile by tile over the points of a grid, `nk` points to a tile of the result: the first of them
    stores its piece, each later one adds its own, and their tile of the result is the same. -/
theorem accum {M N TM TN cnt nk TK : ℕ} (s : (n : ℕ) → n < cnt → (Sh TM TN).Idx → EReal) (F : Fin M → ℕ → EReal) (G : Fin N → ℕ → EReal)
    (f : Fin cnt → (Sh TM TN).Idx → (Sh M N).Idx) (n0 n1 : Fin cnt → ℕ)
    (e0 : ∀ t y, (f t y 0).val = n0 t * TM + 1 * (y 0).val) (e1 : ∀ t y, (f t y 1).val = n1 t * TN + 1 * (y 1).val)
    (keep : ∀ t : Fin cnt, ¬t.val % nk = 0 → n0 ⟨t.val - 1, Nat.lt_of_le_of_lt (Nat.sub_le _ _) t.isLt⟩ = n0 t
      ∧ n1 ⟨t.val - 1, Nat.lt_of_le_of_lt (Nat.sub_le _ _) t.isLt⟩ = n1 t)
    (first : ∀ t : Fin cnt, t.val % nk = 0 → ∀ y, s t.val t.isLt y = dot (F (f t y 0)) (G (f t y 1)) (t.val % nk * TK) TK)
    (next : ∀ t : Fin cnt, ¬t.val % nk = 0 → ∀ y, s t.val t.isLt y
      = s (t.val - 1) (Nat.lt_of_le_of_lt (Nat.sub_le _ _) t.isLt) y + dot (F (f t y 0)) (G (f t y 1)) (t.val % nk * TK) TK) :
    ∀ (n : ℕ) (h : n < cnt) (y : (Sh TM TN).Idx), s n h y = dot (F (f ⟨n, h⟩ y 0)) (G (f ⟨n, h⟩ y 1)) 0 ((n % nk + 1) * TK) := by
  intro n
  induction n with
  | zero =>
    intro h y
    refine (first ⟨0, h⟩ (Nat.zero_mod _) y).trans ?_
    simp only [Nat.zero_mod, Nat.zero_mul, Nat.zero_add, Nat.one_mul]
  | succ n ih =>
    intro h y
    by_cases z : (n + 1) % nk = 0
    · refine (first ⟨n + 1, h⟩ z y).trans ?_
      simp only [z, Nat.zero_mul, Nat.zero_add, Nat.one_mul]
    · obtain ⟨k0, k1⟩ := keep ⟨n + 1, h⟩ z
      have e := mod_step n nk z
      have f0 : f ⟨n, Nat.lt_of_succ_lt h⟩ y 0 = f ⟨n + 1, h⟩ y 0 :=
        Fin.ext ((e0 _ _).trans ((congrArg (· * TM + 1 * (y 0).val) k0).trans (e0 _ _).symm))
      have f1 : f ⟨n, Nat.lt_of_succ_lt h⟩ y 1 = f ⟨n + 1, h⟩ y 1 :=
        Fin.ext ((e1 _ _).trans ((congrArg (· * TN + 1 * (y 1).val) k1).trans (e1 _ _).symm))
      refine (next ⟨n + 1, h⟩ z y).trans ?_
      simp only [Nat.add_sub_cancel]
      rw [ih, f0, f1, e, Nat.add_mul _ 1, Nat.one_mul, dot_add, Nat.zero_add]

/-- What a point stores when it opens a sum, and when it adds to one. -/
theorem stored {S : Shape} (h : S.ShapeCasts S) (p : FVec Ideal S .f32) (i : S.Idx) : shapeCast S p h i = p i := congrFun (shapeCast_self p h) i

theorem added {S : Shape} (h : S.ShapeCasts S) (a p : FVec Ideal S .f32) (i : S.Idx) : shapeCast S (addf a p) h i = a i + p i :=
  congrFun (shapeCast_self (addf a p) h) i

/-! ## The reference's products -/

/-- The host's product over one axis, at an index. -/
theorem host_sum {sl sr so : Shape} (d : DotDims sl sr so) {a : Fin sl.rank} (hc : d.lhsContracting = [a]) {K : ℕ} (hK : sl.size a = K)
    (x : FVec Ideal sl .f32) (y : FVec Ideal sr .f32) (j : so.Idx) (L : Fin K → sl.Idx) (R : Fin K → sr.Idx)
    (hL : ∀ k, Shape.Idx.norm (d.lhsIdx j (d.contrIdx₁ hc hK k)) = L k) (hR : ∀ k, Shape.Idx.norm (d.rhsIdx j (d.contrIdx₁ hc hK k)) = R k) :
    Host.dotGeneral d none x y j = ∑ k : Fin K, x (L k) * y (R k) :=
  (Ideal.matmul_apply₁_of d hc hK x y (fun _ => 0) j L R hL hR).trans (zero_add _)

theorem host_nn {M K N : ℕ} (x : FVec Ideal (Sh M K) .f32) (y : FVec Ideal (Sh K N) .f32) (i : Fin M) (j : Fin N) :
    Host.dotGeneral (DotDims.plain M K N) none x y (ix2 i j) = dot (rowOf x i) (colOf y j) 0 K :=
  (StackMember.dotGeneral_plain_apply none x y _ _).trans (dot_of_sum _ _ _ _ (rowOf_fin _ _) (colOf_fin _ _))

theorem host_nt {M K N : ℕ} (x : FVec Ideal (Sh M K) .f32) (y : FVec Ideal (Sh N K) .f32) (i : Fin M) (j : Fin N) :
    Host.dotGeneral (DotDims.transposedRhs M K N) none x y (ix2 i j) = dot (rowOf x i) (rowOf y j) 0 K := by
  refine (host_sum (DotDims.transposedRhs M K N) (a := (1 : Fin 2)) rfl (K := K) rfl x y _ (fun d => ix2 i d) (fun d => ix2 j d) ?_ ?_).trans
    (dot_of_sum _ _ _ _ (rowOf_fin _ _) (rowOf_fin _ _)) <;>
  · intro d
    funext a
    match a with
    | ⟨0, _⟩ => rfl
    | ⟨1, _⟩ => rfl

theorem host_tl {M K N : ℕ} (x : FVec Ideal (Sh K M) .f32) (y : FVec Ideal (Sh K N) .f32) (i : Fin M) (j : Fin N) :
    Host.dotGeneral (dotTL M K N) none x y (ix2 i j) = dot (colOf x i) (colOf y j) 0 K := by
  refine (host_sum (dotTL M K N) (a := (0 : Fin 2)) rfl (K := K) rfl x y _ (fun d => ix2 d i) (fun d => ix2 d j) ?_ ?_).trans
    (dot_of_sum _ _ _ _ (colOf_fin _ _) (colOf_fin _ _)) <;>
  · intro d
    funext a
    match a with
    | ⟨0, _⟩ => rfl
    | ⟨1, _⟩ => rfl

theorem dot_comm (f g : ℕ → EReal) (a n : ℕ) : dot f g a n = dot g f a n := Finset.sum_congr rfl fun _ _ => mul_comm _ _

/-- The forward product, the gradient in its first argument, and the gradient in its weights, which the reference computes with
    the factors exchanged, and transposed. -/
theorem ref_nn {M K N : ℕ} (x : FVec Ideal (Sh M K) .f32) (y : FVec Ideal (Sh K N) .f32) :
    Host.dotGeneral (DotDims.plain M K N) none x y = prodNN x y :=
  funext fun i => (congrArg _ (eta2 i)).trans (host_nn x y _ _)

theorem ref_nt {M K N : ℕ} (x : FVec Ideal (Sh M K) .f32) (y : FVec Ideal (Sh N K) .f32) :
    Host.dotGeneral (DotDims.transposedRhs M K N) none x y = prodNT x y :=
  funext fun i => (congrArg _ (eta2 i)).trans (host_nt x y _ _)

theorem ref_tn {M K N : ℕ} (x : FVec Ideal (Sh K M) .f32) (y : FVec Ideal (Sh K N) .f32) (h : (Sh N M).Transposes [1, 0] (Sh M N)) :
    transpose (Sh M N) [1, 0] (Host.dotGeneral (dotTL N K M) none y x) h = prodTN x y :=
  funext fun i => (congrArg _ (eta2 i)).trans ((ValueIdx.transpose_ix2_apply _ h _ _).trans ((host_tl y x _ _).trans (dot_comm _ _ _ _)))

end Products
-- ==== Proof.UpDx.lean ====
/-
  The call that computes the gradient of a feed-forward product in its first argument (`mm_dh2g`, `mm_dh2u`): its result is
  the cotangent times the transposed weights.
-/
module

public import proofs.«01_k».proof.Proof.Product
public import proofs.«01_k».proof.Proof.Gen.UpDxIdeal.Value
public import proofs.«01_k».proof.Proof.Gen.UpDxRefIdeal.Run
public import proofs.«01_k».proof.Defs

@[expose] public section

set_option maxRecDepth 16384

namespace Products.UpDx

open Idealize.ShloMosaic Idealize.SL.Sem Cert.UpDxIdeal Cert.UpDxIdeal.Gen Cert.UpDxIdeal.Value Idealize.ShloMosaic.TcCoe

theorem idx : ∀ t : Fin cfg0.N, win0_0.index t (0 : Fin 2) = win0_2.index t (0 : Fin 2) ∧ win0_0.index t (1 : Fin 2) = 0
    ∧ win0_1.index t (0 : Fin 2) = win0_2.index t (1 : Fin 2) ∧ win0_1.index t (1 : Fin 2) = 0 :=
  (by decide +kernel : ∀ t : Fin grid0.N, _)

theorem array_is (m : (ℓ : Loc nD τ sig) → Buf (Elt Ideal) ℓ) (c : Dev nD) :
    (dats m 0 c).arrAt 2 cfg0.N = prodNT (m (c.tc.loc main_arg0)) (m (c.tc.loc main_arg1)) := by
  refine (dats m 0 c).arrAt_eq_of_covers 2 _ (by decide +kernel) fun t hf y => ?_
  obtain ⟨h0, h1, h2, h3⟩ := idx t
  blk_simp
  rw [after0_2]
  frame_out
  refine (mm_nt _ _ y).trans ?_
  exact dot_congr (a' := 0 * 2816) (row_tile (m (c.tc.loc main_arg0)) ((cfg0.win 0).blk t).view.emb (fun _ => rfl) (fun _ => rfl) h0 h1 _ _ rfl)
    (row_tile (m (c.tc.loc main_arg1)) ((cfg0.win 1).blk t).view.emb (fun _ => rfl) (fun _ => rfl) h2 h3 _ _ rfl)

theorem value : Cert.algebraic_UpDxIdeal_UpDxRefIdeal := fun m g m' g' _ hm =>
  ⟨fun c => (dats m 0 c).arrAt 2 cfg0.N, run_blocks m g, (θ_run Cert.UpDxRefIdeal.defs _ _).mono
    (fun _ h c => ⟨(h c).1.trans ((ref_nt _ _).trans ((congrArg₂ prodNT (hm c).1 (hm c).2).trans (array_is m c).symm)), (h c).2⟩)
    (Cert.UpDxRefIdeal.Value.run (F := Ideal) m' g')⟩

end Products.UpDx
-- ==== Proof.UpDw.lean ====
/-
  The call that computes the gradient of a feed-forward product in its weights (`mm_dwg`, `mm_dwu`): its result is the
  transposed first argument times the cotangent, gathered over four row blocks.
-/
module

public import proofs.«01_k».proof.Proof.Product
public import proofs.«01_k».proof.Proof.Gen.UpDwIdeal.Value
public import proofs.«01_k».proof.Proof.Gen.UpDwRefIdeal.Run
public import proofs.«01_k».proof.Defs

@[expose] public section

set_option maxRecDepth 16384

namespace Products.UpDw

open Idealize.ShloMosaic Idealize.SL.Sem Cert.UpDwIdeal Cert.UpDwIdeal.Gen Cert.UpDwIdeal.Value Idealize.ShloMosaic.TcCoe

theorem idx : ∀ t : Fin cfg0.N, win0_0.index t (0 : Fin 2) = t.val % 4 ∧ win0_0.index t (1 : Fin 2) = win0_2.index t (0 : Fin 2)
    ∧ win0_1.index t (0 : Fin 2) = t.val % 4 ∧ win0_1.index t (1 : Fin 2) = win0_2.index t (1 : Fin 2) :=
  (by decide +kernel : ∀ t : Fin grid0.N, _)

variable (m : (ℓ : Loc nD τ sig) → Buf (Elt Ideal) ℓ) (c : Dev nD)

theorem piece (t : Fin cfg0.N) (y : S1024x1408.Idx) : k0_pay1 (iblk m c 0 t) (iblk m c 1 t) y
    = dot (colOf (m (c.tc.loc main_arg0)) (((cfg0.win 2).blk t).view.emb y 0)) (colOf (m (c.tc.loc main_arg1)) (((cfg0.win 2).blk t).view.emb y 1))
      (t.val % 4 * 1024) 1024 := by
  obtain ⟨h0, h1, h2, h3⟩ := idx t
  refine (mm_tn _ _ y).trans ?_
  exact dot_congr (col_tile (m (c.tc.loc main_arg0)) ((cfg0.win 0).blk t).view.emb (fun _ => rfl) (fun _ => rfl) h0 h1 _ _ rfl)
    (col_tile (m (c.tc.loc main_arg1)) ((cfg0.win 1).blk t).view.emb (fun _ => rfl) (fun _ => rfl) h2 h3 _ _ rfl)

theorem array_is : (dats m 0 c).arrAt 2 cfg0.N = prodTN (m (c.tc.loc main_arg0)) (m (c.tc.loc main_arg1)) := by
  refine (dats m 0 c).arrAt_eq_of_covers 2 _ (by decide +kernel) fun t hf y => ?_
  have z : t.val % 4 = 3 := (flush0_2 t).mp hf
  have g := accum (nk := 4) (TK := 1024) (fun n h => (outsAt0 m c n h).2) (colOf (m (c.tc.loc main_arg0))) (colOf (m (c.tc.loc main_arg1)))
    (fun t => ((cfg0.win 2).blk t).view.emb) (fun t => win0_2.index t (0 : Fin 2)) (fun t => win0_2.index t (1 : Fin 2))
    (fun _ _ => rfl) (fun _ _ => rfl) (by decide +kernel : ∀ t : Fin grid0.N, _)
    (fun t z y => by rw [outsAt0_A m c t z (by omega) (by omega)]; frame_out; exact (stored _ _ y).trans (piece m c t y))
    (fun t z y => by
      by_cases l : t.val % 4 = 3
      · rw [outsAt0_C m c t z (by omega) l]
        frame_out
        rw [read_unread_whole]
        exact (added _ _ _ y).trans (congrArg _ (piece m c t y))
      · rw [outsAt0_B m c t z (by omega) l]
        frame_out
        rw [read_unread_whole]
        exact (added _ _ _ y).trans (congrArg _ (piece m c t y))) t.val t.isLt y
  rw [z] at g
  blk_simp
  rw [after0_2]
  refine Eq.trans ?_ g
  rw [outsAt0_C m c t (by omega) (by omega) z]
  frame_out

theorem value : Cert.algebraic_UpDwIdeal_UpDwRefIdeal := fun m g m' g' _ hm =>
  ⟨fun c => (dats m 0 c).arrAt 2 cfg0.N, run_blocks m g, (θ_run Cert.UpDwRefIdeal.defs _ _).mono
    (fun _ h c => ⟨(h c).1.trans ((ref_tn _ _ _).trans ((congrArg₂ prodTN (hm c).1 (hm c).2).trans (array_is m c).symm)), (h c).2⟩)
    (Cert.UpDwRefIdeal.Value.run (F := Ideal) m' g')⟩

end Products.UpDw
-- ==== Proof.DownDx.lean ====
/-
  The call that computes the gradient of the down product in its first argument (`mm_da`): its result is the cotangent times
  the transposed weights.
-/
module

public import proofs.«01_k».proof.Proof.Product
public import proofs.«01_k».proof.Proof.Gen.DownDxIdeal.Value
public import proofs.«01_k».proof.Proof.Gen.DownDxRefIdeal.Run
public import proofs.«01_k».proof.Defs

@[expose] public section

set_option maxRecDepth 16384

namespace Products.DownDx

open Idealize.ShloMosaic Idealize.SL.Sem Cert.DownDxIdeal Cert.DownDxIdeal.Gen Cert.DownDxIdeal.Value Idealize.ShloMosaic.TcCoe

theorem idx : ∀ t : Fin cfg0.N, win0_0.index t (0 : Fin 2) = win0_2.index t (0 : Fin 2) ∧ win0_0.index t (1 : Fin 2) = 0
    ∧ win0_1.index t (0 : Fin 2) = win0_2.index t (1 : Fin 2) ∧ win0_1.index t (1 : Fin 2) = 0 :=
  (by decide +kernel : ∀ t : Fin grid0.N, _)

theorem array_is (m : (ℓ : Loc nD τ sig) → Buf (Elt Ideal) ℓ) (c : Dev nD) :
    (dats m 0 c).arrAt 2 cfg0.N = prodNT (m (c.tc.loc main_arg0)) (m (c.tc.loc main_arg1)) := by
  refine (dats m 0 c).arrAt_eq_of_covers 2 _ (by decide +kernel) fun t hf y => ?_
  obtain ⟨h0, h1, h2, h3⟩ := idx t
  blk_simp
  rw [after0_2]
  frame_out
  refine (mm_nt _ _ y).trans ?_
  exact dot_congr (a' := 0 * 1024) (row_tile (m (c.tc.loc main_arg0)) ((cfg0.win 0).blk t).view.emb (fun _ => rfl) (fun _ => rfl) h0 h1 _ _ rfl)
    (row_tile (m (c.tc.loc main_arg1)) ((cfg0.win 1).blk t).view.emb (fun _ => rfl) (fun _ => rfl) h2 h3 _ _ rfl)

theorem value : Cert.algebraic_DownDxIdeal_DownDxRefIdeal := fun m g m' g' _ hm =>
  ⟨fun c => (dats m 0 c).arrAt 2 cfg0.N, run_blocks m g, (θ_run Cert.DownDxRefIdeal.defs _ _).mono
    (fun _ h c => ⟨(h c).1.trans ((ref_nt _ _).trans ((congrArg₂ prodNT (hm c).1 (hm c).2).trans (array_is m c).symm)), (h c).2⟩)
    (Cert.DownDxRefIdeal.Value.run (F := Ideal) m' g')⟩

end Products.DownDx
-- ==== Proof.DownDw.lean ====
/-
  The call that computes the gradient of the down product in its weights (`mm_dwd`): its result is the transposed first argument
  times the cotangent, gathered over four row blocks.
-/
module

public import proofs.«01_k».proof.Proof.Product
public import proofs.«01_k».proof.Proof.Gen.DownDwIdeal.Value
public import proofs.«01_k».proof.Proof.Gen.DownDwRefIdeal.Run
public import proofs.«01_k».proof.Defs

@[expose] public section

set_option maxRecDepth 16384

namespace Products.DownDw

open Idealize.ShloMosaic Idealize.SL.Sem Cert.DownDwIdeal Cert.DownDwIdeal.Gen Cert.DownDwIdeal.Value Idealize.ShloMosaic.TcCoe

theorem idx : ∀ t : Fin cfg0.N, win0_0.index t (0 : Fin 2) = t.val % 4 ∧ win0_0.index t (1 : Fin 2) = win0_2.index t (0 : Fin 2)
    ∧ win0_1.index t (0 : Fin 2) = t.val % 4 ∧ win0_1.index t (1 : Fin 2) = win0_2.index t (1 : Fin 2) :=
  (by decide +kernel : ∀ t : Fin grid0.N, _)

variable (m : (ℓ : Loc nD τ sig) → Buf (Elt Ideal) ℓ) (c : Dev nD)

theorem piece (t : Fin cfg0.N) (y : S1408x1024.Idx) : k0_pay1 (iblk m c 0 t) (iblk m c 1 t) y
    = dot (colOf (m (c.tc.loc main_arg0)) (((cfg0.win 2).blk t).view.emb y 0)) (colOf (m (c.tc.loc main_arg1)) (((cfg0.win 2).blk t).view.emb y 1))
      (t.val % 4 * 1024) 1024 := by
  obtain ⟨h0, h1, h2, h3⟩ := idx t
  refine (mm_tn _ _ y).trans ?_
  exact dot_congr (col_tile (m (c.tc.loc main_arg0)) ((cfg0.win 0).blk t).view.emb (fun _ => rfl) (fun _ => rfl) h0 h1 _ _ rfl)
    (col_tile (m (c.tc.loc main_arg1)) ((cfg0.win 1).blk t).view.emb (fun _ => rfl) (fun _ => rfl) h2 h3 _ _ rfl)

theorem array_is : (dats m 0 c).arrAt 2 cfg0.N = prodTN (m (c.tc.loc main_arg0)) (m (c.tc.loc main_arg1)) := by
  refine (dats m 0 c).arrAt_eq_of_covers 2 _ (by decide +kernel) fun t hf y => ?_
  have z : t.val % 4 = 3 := (flush0_2 t).mp hf
  have g := accum (nk := 4) (TK := 1024) (fun n h => (outsAt0 m c n h).2) (colOf (m (c.tc.loc main_arg0))) (colOf (m (c.tc.loc main_arg1)))
    (fun t => ((cfg0.win 2).blk t).view.emb) (fun t => win0_2.index t (0 : Fin 2)) (fun t => win0_2.index t (1 : Fin 2))
    (fun _ _ => rfl) (fun _ _ => rfl) (by decide +kernel : ∀ t : Fin grid0.N, _)
    (fun t z y => by rw [outsAt0_A m c t z (by omega) (by omega)]; frame_out; exact (stored _ _ y).trans (piece m c t y))
    (fun t z y => by
      by_cases l : t.val % 4 = 3
      · rw [outsAt0_C m c t z (by omega) l]
        frame_out
        rw [read_unread_whole]
        exact (added _ _ _ y).trans (congrArg _ (piece m c t y))
      · rw [outsAt0_B m c t z (by omega) l]
        frame_out
        rw [read_unread_whole]
        exact (added _ _ _ y).trans (congrArg _ (piece m c t y))) t.val t.isLt y
  rw [z] at g
  blk_simp
  rw [after0_2]
  refine Eq.trans ?_ g
  rw [outsAt0_C m c t (by omega) (by omega) z]
  frame_out

theorem value : Cert.algebraic_DownDwIdeal_DownDwRefIdeal := fun m g m' g' _ hm =>
  ⟨fun c => (dats m 0 c).arrAt 2 cfg0.N, run_blocks m g, (θ_run Cert.DownDwRefIdeal.defs _ _).mono
    (fun _ h c => ⟨(h c).1.trans ((ref_tn _ _ _).trans ((congrArg₂ prodTN (hm c).1 (hm c).2).trans (array_is m c).symm)), (h c).2⟩)
    (Cert.DownDwRefIdeal.Value.run (F := Ideal) m' g')⟩

end Products.DownDw
-- ==== Proof.QkvDx.lean ====
/-
  The call that computes the gradient of the joint query, key and value product in its first argument (`mm_dh1`): its result is
  the cotangent times the transposed weights, gathered over three column blocks.
-/
module

public import proofs.«01_k».proof.Proof.Product
public import proofs.«01_k».proof.Proof.Gen.QkvDxIdeal.Value
public import proofs.«01_k».proof.Proof.Gen.QkvDxRefIdeal.Run
public import proofs.«01_k».proof.Defs

@[expose] public section

set_option maxRecDepth 16384

namespace Products.QkvDx

open Idealize.ShloMosaic Idealize.SL.Sem Cert.QkvDxIdeal Cert.QkvDxIdeal.Gen Cert.QkvDxIdeal.Value Idealize.ShloMosaic.TcCoe

theorem idx : ∀ t : Fin cfg0.N, win0_0.index t (0 : Fin 2) = win0_2.index t (0 : Fin 2) ∧ win0_0.index t (1 : Fin 2) = t.val % 3
    ∧ win0_1.index t (0 : Fin 2) = win0_2.index t (1 : Fin 2) ∧ win0_1.index t (1 : Fin 2) = t.val % 3 :=
  (by decide +kernel : ∀ t : Fin grid0.N, _)

variable (m : (ℓ : Loc nD τ sig) → Buf (Elt Ideal) ℓ) (c : Dev nD)

theorem piece (t : Fin cfg0.N) (y : S1024x1024.Idx) : k0_pay1 (iblk m c 0 t) (iblk m c 1 t) y
    = dot (rowOf (m (c.tc.loc main_arg0)) (((cfg0.win 2).blk t).view.emb y 0)) (rowOf (m (c.tc.loc main_arg1)) (((cfg0.win 2).blk t).view.emb y 1))
      (t.val % 3 * 1024) 1024 := by
  obtain ⟨h0, h1, h2, h3⟩ := idx t
  refine (mm_nt _ _ y).trans ?_
  exact dot_congr (row_tile (m (c.tc.loc main_arg0)) ((cfg0.win 0).blk t).view.emb (fun _ => rfl) (fun _ => rfl) h0 h1 _ _ rfl)
    (row_tile (m (c.tc.loc main_arg1)) ((cfg0.win 1).blk t).view.emb (fun _ => rfl) (fun _ => rfl) h2 h3 _ _ rfl)

theorem array_is : (dats m 0 c).arrAt 2 cfg0.N = prodNT (m (c.tc.loc main_arg0)) (m (c.tc.loc main_arg1)) := by
  refine (dats m 0 c).arrAt_eq_of_covers 2 _ (by decide +kernel) fun t hf y => ?_
  have z : t.val % 3 = 2 := (flush0_2 t).mp hf
  have g := accum (nk := 3) (TK := 1024) (fun n h => (outsAt0 m c n h).2) (rowOf (m (c.tc.loc main_arg0))) (rowOf (m (c.tc.loc main_arg1)))
    (fun t => ((cfg0.win 2).blk t).view.emb) (fun t => win0_2.index t (0 : Fin 2)) (fun t => win0_2.index t (1 : Fin 2))
    (fun _ _ => rfl) (fun _ _ => rfl) (by decide +kernel : ∀ t : Fin grid0.N, _)
    (fun t z y => by rw [outsAt0_A m c t z (by omega) (by omega)]; frame_out; exact (stored _ _ y).trans (piece m c t y))
    (fun t z y => by
      by_cases l : t.val % 3 = 2
      · rw [outsAt0_C m c t z (by omega) l]
        frame_out
        rw [read_unread_whole]
        exact (added _ _ _ y).trans (congrArg _ (piece m c t y))
      · rw [outsAt0_B m c t z (by omega) l]
        frame_out
        rw [read_unread_whole]
        exact (added _ _ _ y).trans (congrArg _ (piece m c t y))) t.val t.isLt y
  rw [z] at g
  blk_simp
  rw [after0_2]
  refine Eq.trans ?_ g
  rw [outsAt0_C m c t (by omega) (by omega) z]
  frame_out

theorem value : Cert.algebraic_QkvDxIdeal_QkvDxRefIdeal := fun m g m' g' _ hm =>
  ⟨fun c => (dats m 0 c).arrAt 2 cfg0.N, run_blocks m g, (θ_run Cert.QkvDxRefIdeal.defs _ _).mono
    (fun _ h c => ⟨(h c).1.trans ((ref_nt _ _).trans ((congrArg₂ prodNT (hm c).1 (hm c).2).trans (array_is m c).symm)), (h c).2⟩)
    (Cert.QkvDxRefIdeal.Value.run (F := Ideal) m' g')⟩

end Products.QkvDx
-- ==== Proof.QkvDw.lean ====
/-
  The call that computes the gradient of the joint query, key and value product in its weights (`mm_dwqkv`): its result is the
  transposed first argument times the cotangent, gathered over four row blocks.
-/
module

public import proofs.«01_k».proof.Proof.Product
public import proofs.«01_k».proof.Proof.Gen.QkvDwIdeal.Value
public import proofs.«01_k».proof.Proof.Gen.QkvDwRefIdeal.Run
public import proofs.«01_k».proof.Defs

@[expose] public section

set_option maxRecDepth 16384

namespace Products.QkvDw

open Idealize.ShloMosaic Idealize.SL.Sem Cert.QkvDwIdeal Cert.QkvDwIdeal.Gen Cert.QkvDwIdeal.Value Idealize.ShloMosaic.TcCoe

theorem idx : ∀ t : Fin cfg0.N, win0_0.index t (0 : Fin 2) = t.val % 4 ∧ win0_0.index t (1 : Fin 2) = win0_2.index t (0 : Fin 2)
    ∧ win0_1.index t (0 : Fin 2) = t.val % 4 ∧ win0_1.index t (1 : Fin 2) = win0_2.index t (1 : Fin 2) :=
  (by decide +kernel : ∀ t : Fin grid0.N, _)

variable (m : (ℓ : Loc nD τ sig) → Buf (Elt Ideal) ℓ) (c : Dev nD)

theorem piece (t : Fin cfg0.N) (y : S1024x1536.Idx) : k0_pay1 (iblk m c 0 t) (iblk m c 1 t) y
    = dot (colOf (m (c.tc.loc main_arg0)) (((cfg0.win 2).blk t).view.emb y 0)) (colOf (m (c.tc.loc main_arg1)) (((cfg0.win 2).blk t).view.emb y 1))
      (t.val % 4 * 1024) 1024 := by
  obtain ⟨h0, h1, h2, h3⟩ := idx t
  refine (mm_tn _ _ y).trans ?_
  exact dot_congr (col_tile (m (c.tc.loc main_arg0)) ((cfg0.win 0).blk t).view.emb (fun _ => rfl) (fun _ => rfl) h0 h1 _ _ rfl)
    (col_tile (m (c.tc.loc main_arg1)) ((cfg0.win 1).blk t).view.emb (fun _ => rfl) (fun _ => rfl) h2 h3 _ _ rfl)

theorem array_is : (dats m 0 c).arrAt 2 cfg0.N = prodTN (m (c.tc.loc main_arg0)) (m (c.tc.loc main_arg1)) := by
  refine (dats m 0 c).arrAt_eq_of_covers 2 _ (by decide +kernel) fun t hf y => ?_
  have z : t.val % 4 = 3 := (flush0_2 t).mp hf
  have g := accum (nk := 4) (TK := 1024) (fun n h => (outsAt0 m c n h).2) (colOf (m (c.tc.loc main_arg0))) (colOf (m (c.tc.loc main_arg1)))
    (fun t => ((cfg0.win 2).blk t).view.emb) (fun t => win0_2.index t (0 : Fin 2)) (fun t => win0_2.index t (1 : Fin 2))
    (fun _ _ => rfl) (fun _ _ => rfl) (by decide +kernel : ∀ t : Fin grid0.N, _)
    (fun t z y => by rw [outsAt0_A m c t z (by omega) (by omega)]; frame_out; exact (stored _ _ y).trans (piece m c t y))
    (fun t z y => by
      by_cases l : t.val % 4 = 3
      · rw [outsAt0_C m c t z (by omega) l]
        frame_out
        rw [read_unread_whole]
        exact (added _ _ _ y).trans (congrArg _ (piece m c t y))
      · rw [outsAt0_B m c t z (by omega) l]
        frame_out
        rw [read_unread_whole]
        exact (added _ _ _ y).trans (congrArg _ (piece m c t y))) t.val t.isLt y
  rw [z] at g
  blk_simp
  rw [after0_2]
  refine Eq.trans ?_ g
  rw [outsAt0_C m c t (by omega) (by omega) z]
  frame_out

theorem value : Cert.algebraic_QkvDwIdeal_QkvDwRefIdeal := fun m g m' g' _ hm =>
  ⟨fun c => (dats m 0 c).arrAt 2 cfg0.N, run_blocks m g, (θ_run Cert.QkvDwRefIdeal.defs _ _).mono
    (fun _ h c => ⟨(h c).1.trans ((ref_tn _ _ _).trans ((congrArg₂ prodTN (hm c).1 (hm c).2).trans (array_is m c).symm)), (h c).2⟩)
    (Cert.QkvDwRefIdeal.Value.run (F := Ideal) m' g')⟩

end Products.QkvDw
-- ==== Proof.Up.lean ====
/-
  The call that computes a feed-forward product (`mm_gate`, `mm_up`): its result is the activations times the weights.
-/
module

public import proofs.«01_k».proof.Proof.Product
public import proofs.«01_k».proof.Proof.Gen.UpIdeal.Value
public import proofs.«01_k».proof.Proof.Gen.UpRefIdeal.Run
public import proofs.«01_k».proof.Defs

@[expose] public section

set_option maxRecDepth 16384

namespace Products.Up

open Idealize.ShloMosaic Idealize.SL.Sem Cert.UpIdeal Cert.UpIdeal.Gen Cert.UpIdeal.Value Idealize.ShloMosaic.TcCoe

theorem idx : ∀ t : Fin cfg0.N, win0_0.index t (0 : Fin 2) = win0_2.index t (0 : Fin 2) ∧ win0_0.index t (1 : Fin 2) = 0
    ∧ win0_1.index t (0 : Fin 2) = 0 ∧ win0_1.index t (1 : Fin 2) = win0_2.index t (1 : Fin 2) :=
  (by decide +kernel : ∀ t : Fin grid0.N, _)

theorem array_is (m : (ℓ : Loc nD τ sig) → Buf (Elt Ideal) ℓ) (c : Dev nD) :
    (dats m 0 c).arrAt 2 cfg0.N = prodNN (m (c.tc.loc main_arg0)) (m (c.tc.loc main_arg1)) := by
  refine (dats m 0 c).arrAt_eq_of_covers 2 _ (by decide +kernel) fun t hf y => ?_
  obtain ⟨h0, h1, h2, h3⟩ := idx t
  blk_simp
  rw [after0_2]
  frame_out
  refine (mm_nn _ _ y).trans ?_
  exact dot_congr (a' := 0 * 1024) (row_tile (m (c.tc.loc main_arg0)) ((cfg0.win 0).blk t).view.emb (fun _ => rfl) (fun _ => rfl) h0 h1 _ _ rfl)
    (col_tile (m (c.tc.loc main_arg1)) ((cfg0.win 1).blk t).view.emb (fun _ => rfl) (fun _ => rfl) h2 h3 _ _ rfl)

theorem value : Cert.algebraic_UpIdeal_UpRefIdeal := fun m g m' g' _ hm =>
  ⟨fun c => (dats m 0 c).arrAt 2 cfg0.N, run_blocks m g, (θ_run Cert.UpRefIdeal.defs _ _).mono
    (fun _ h c => ⟨(h c).1.trans ((ref_nn _ _).trans ((congrArg₂ prodNN (hm c).1 (hm c).2).trans (array_is m c).symm)), (h c).2⟩)
    (Cert.UpRefIdeal.Value.run (F := Ideal) m' g')⟩

end Products.Up
-- ==== Proof.Down.lean ====
/-
  The call that computes the down product (`mm_down`): its result is the activations times the weights.
-/
module

public import proofs.«01_k».proof.Proof.Product
public import proofs.«01_k».proof.Proof.Gen.DownIdeal.Value
public import proofs.«01_k».proof.Proof.Gen.DownRefIdeal.Run
public import proofs.«01_k».proof.Defs

@[expose] public section

set_option maxRecDepth 16384

namespace Products.Down

open Idealize.ShloMosaic Idealize.SL.Sem Cert.DownIdeal Cert.DownIdeal.Gen Cert.DownIdeal.Value Idealize.ShloMosaic.TcCoe

theorem idx : ∀ t : Fin cfg0.N, win0_0.index t (0 : Fin 2) = win0_2.index t (0 : Fin 2) ∧ win0_0.index t (1 : Fin 2) = 0
    ∧ win0_1.index t (0 : Fin 2) = 0 ∧ win0_1.index t (1 : Fin 2) = win0_2.index t (1 : Fin 2) :=
  (by decide +kernel : ∀ t : Fin grid0.N, _)

theorem array_is (m : (ℓ : Loc nD τ sig) → Buf (Elt Ideal) ℓ) (c : Dev nD) :
    (dats m 0 c).arrAt 2 cfg0.N = prodNN (m (c.tc.loc main_arg0)) (m (c.tc.loc main_arg1)) := by
  refine (dats m 0 c).arrAt_eq_of_covers 2 _ (by decide +kernel) fun t hf y => ?_
  obtain ⟨h0, h1, h2, h3⟩ := idx t
  blk_simp
  rw [after0_2]
  frame_out
  refine (mm_nn _ _ y).trans ?_
  exact dot_congr (a' := 0 * 2816) (row_tile (m (c.tc.loc main_arg0)) ((cfg0.win 0).blk t).view.emb (fun _ => rfl) (fun _ => rfl) h0 h1 _ _ rfl)
    (col_tile (m (c.tc.loc main_arg1)) ((cfg0.win 1).blk t).view.emb (fun _ => rfl) (fun _ => rfl) h2 h3 _ _ rfl)

theorem value : Cert.algebraic_DownIdeal_DownRefIdeal := fun m g m' g' _ hm =>
  ⟨fun c => (dats m 0 c).arrAt 2 cfg0.N, run_blocks m g, (θ_run Cert.DownRefIdeal.defs _ _).mono
    (fun _ h c => ⟨(h c).1.trans ((ref_nn _ _).trans ((congrArg₂ prodNN (hm c).1 (hm c).2).trans (array_is m c).symm)), (h c).2⟩)
    (Cert.DownRefIdeal.Value.run (F := Ideal) m' g')⟩

end Products.Down
-- ==== Proof.Qkv.lean ====
/-
  The call that computes the joint query, key and value product (`mm_qkv`): its result is the activations times the weights,
  stored in the narrower format.
-/
module

public import proofs.«01_k».proof.Proof.Product
public import proofs.«01_k».proof.Proof.Gen.QkvIdeal.Value
public import proofs.«01_k».proof.Proof.Gen.QkvRefIdeal.Run
public import proofs.«01_k».proof.Defs

@[expose] public section

set_option maxRecDepth 16384

namespace Products.Qkv

open Idealize.ShloMosaic Idealize.SL.Sem Cert.QkvIdeal Cert.QkvIdeal.Gen Cert.QkvIdeal.Value Idealize.ShloMosaic.TcCoe

theorem idx : ∀ t : Fin cfg0.N, win0_0.index t (0 : Fin 2) = win0_2.index t (0 : Fin 2) ∧ win0_0.index t (1 : Fin 2) = 0
    ∧ win0_1.index t (0 : Fin 2) = 0 ∧ win0_1.index t (1 : Fin 2) = win0_2.index t (1 : Fin 2) :=
  (by decide +kernel : ∀ t : Fin grid0.N, _)

theorem array_is (m : (ℓ : Loc nD τ sig) → Buf (Elt Ideal) ℓ) (c : Dev nD) :
    (dats m 0 c).arrAt 2 cfg0.N = prodNN (m (c.tc.loc main_arg0)) (m (c.tc.loc main_arg1)) := by
  refine (dats m 0 c).arrAt_eq_of_covers 2 _ (by decide +kernel) fun t hf y => ?_
  obtain ⟨h0, h1, h2, h3⟩ := idx t
  blk_simp
  rw [after0_2]
  frame_out
  refine (mm_nn _ _ y).trans ?_
  exact dot_congr (a' := 0 * 1024) (row_tile (m (c.tc.loc main_arg0)) ((cfg0.win 0).blk t).view.emb (fun _ => rfl) (fun _ => rfl) h0 h1 _ _ rfl)
    (col_tile (m (c.tc.loc main_arg1)) ((cfg0.win 1).blk t).view.emb (fun _ => rfl) (fun _ => rfl) h2 h3 _ _ rfl)

theorem value : Cert.algebraic_QkvIdeal_QkvRefIdeal := fun m g m' g' _ hm =>
  ⟨fun c => (dats m 0 c).arrAt 2 cfg0.N, run_blocks m g, (θ_run Cert.QkvRefIdeal.defs _ _).mono
    (fun _ h c => ⟨(h c).1.trans ((ref_nn _ _).trans ((congrArg₂ prodNN (hm c).1 (hm c).2).trans (array_is m c).symm)), (h c).2⟩)
    (Cert.QkvRefIdeal.Value.run (F := Ideal) m' g')⟩

end Products.Qkv
-- ==== Proof.OutProj.lean ====
/-
  The call that computes the output projection (`mm_o`): its result is the activations times the weights.
-/
module

public import proofs.«01_k».proof.Proof.Product
public import proofs.«01_k».proof.Proof.Gen.OutProjIdeal.Value
public import proofs.«01_k».proof.Proof.Gen.OutProjRefIdeal.Run
public import proofs.«01_k».proof.Defs

@[expose] public section

set_option maxRecDepth 16384

namespace Products.OutProj

open Idealize.ShloMosaic Idealize.SL.Sem Cert.OutProjIdeal Cert.OutProjIdeal.Gen Cert.OutProjIdeal.Value Idealize.ShloMosaic.TcCoe

theorem idx : ∀ t : Fin cfg0.N, win0_0.index t (0 : Fin 2) = win0_2.index t (0 : Fin 2) ∧ win0_0.index t (1 : Fin 2) = 0
    ∧ win0_1.index t (0 : Fin 2) = 0 ∧ win0_1.index t (1 : Fin 2) = win0_2.index t (1 : Fin 2) :=
  (by decide +kernel : ∀ t : Fin grid0.N, _)

theorem array_is (m : (ℓ : Loc nD τ sig) → Buf (Elt Ideal) ℓ) (c : Dev nD) :
    (dats m 0 c).arrAt 2 cfg0.N = prodNN (m (c.tc.loc main_arg0)) (m (c.tc.loc main_arg1)) := by
  refine (dats m 0 c).arrAt_eq_of_covers 2 _ (by decide +kernel) fun t hf y => ?_
  obtain ⟨h0, h1, h2, h3⟩ := idx t
  blk_simp
  rw [after0_2]
  frame_out
  refine (mm_nn _ _ y).trans ?_
  exact dot_congr (a' := 0 * 1024) (row_tile (m (c.tc.loc main_arg0)) ((cfg0.win 0).blk t).view.emb (fun _ => rfl) (fun _ => rfl) h0 h1 _ _ rfl)
    (col_tile (m (c.tc.loc main_arg1)) ((cfg0.win 1).blk t).view.emb (fun _ => rfl) (fun _ => rfl) h2 h3 _ _ rfl)

theorem value : Cert.algebraic_OutProjIdeal_OutProjRefIdeal := fun m g m' g' _ hm =>
  ⟨fun c => (dats m 0 c).arrAt 2 cfg0.N, run_blocks m g, (θ_run Cert.OutProjRefIdeal.defs _ _).mono
    (fun _ h c => ⟨(h c).1.trans ((ref_nn _ _).trans ((congrArg₂ prodNN (hm c).1 (hm c).2).trans (array_is m c).symm)), (h c).2⟩)
    (Cert.OutProjRefIdeal.Value.run (F := Ideal) m' g')⟩

end Products.OutProj
-- ==== Proof.OutProjDx.lean ====
/-
  The call that computes the gradient of the output projection in its first argument (`mm_do`): its result is
  the cotangent times the transposed weights.
-/
module

public import proofs.«01_k».proof.Proof.Product
public import proofs.«01_k».proof.Proof.Gen.OutProjDxIdeal.Value
public import proofs.«01_k».proof.Proof.Gen.OutProjDxRefIdeal.Run
public import proofs.«01_k».proof.Defs

@[expose] public section

set_option maxRecDepth 16384

namespace Products.OutProjDx

open Idealize.ShloMosaic Idealize.SL.Sem Cert.OutProjDxIdeal Cert.OutProjDxIdeal.Gen Cert.OutProjDxIdeal.Value Idealize.ShloMosaic.TcCoe

theorem idx : ∀ t : Fin cfg0.N, win0_0.index t (0 : Fin 2) = win0_2.index t (0 : Fin 2) ∧ win0_0.index t (1 : Fin 2) = 0
    ∧ win0_1.index t (0 : Fin 2) = win0_2.index t (1 : Fin 2) ∧ win0_1.index t (1 : Fin 2) = 0 :=
  (by decide +kernel : ∀ t : Fin grid0.N, _)

theorem array_is (m : (ℓ : Loc nD τ sig) → Buf (Elt Ideal) ℓ) (c : Dev nD) :
    (dats m 0 c).arrAt 2 cfg0.N = prodNT (m (c.tc.loc main_arg0)) (m (c.tc.loc main_arg1)) := by
  refine (dats m 0 c).arrAt_eq_of_covers 2 _ (by decide +kernel) fun t hf y => ?_
  obtain ⟨h0, h1, h2, h3⟩ := idx t
  blk_simp
  rw [after0_2]
  frame_out
  refine (mm_nt _ _ y).trans ?_
  exact dot_congr (a' := 0 * 1024) (row_tile (m (c.tc.loc main_arg0)) ((cfg0.win 0).blk t).view.emb (fun _ => rfl) (fun _ => rfl) h0 h1 _ _ rfl)
    (row_tile (m (c.tc.loc main_arg1)) ((cfg0.win 1).blk t).view.emb (fun _ => rfl) (fun _ => rfl) h2 h3 _ _ rfl)

theorem value : Cert.algebraic_OutProjDxIdeal_OutProjDxRefIdeal := fun m g m' g' _ hm =>
  ⟨fun c => (dats m 0 c).arrAt 2 cfg0.N, run_blocks m g, (θ_run Cert.OutProjDxRefIdeal.defs _ _).mono
    (fun _ h c => ⟨(h c).1.trans ((ref_nt _ _).trans ((congrArg₂ prodNT (hm c).1 (hm c).2).trans (array_is m c).symm)), (h c).2⟩)
    (Cert.OutProjDxRefIdeal.Value.run (F := Ideal) m' g')⟩

end Products.OutProjDx
-- ==== Proof.OutProjDw.lean ====
/-
  The call that computes the gradient of the output projection in its weights (`mm_dwo`): its result is the
  transposed first argument times the cotangent, gathered over four row blocks.
-/
module

public import proofs.«01_k».proof.Proof.Product
public import proofs.«01_k».proof.Proof.Gen.OutProjDwIdeal.Value
public import proofs.«01_k».proof.Proof.Gen.OutProjDwRefIdeal.Run
public import proofs.«01_k».proof.Defs

@[expose] public section

set_option maxRecDepth 16384

namespace Products.OutProjDw

open Idealize.ShloMosaic Idealize.SL.Sem Cert.OutProjDwIdeal Cert.OutProjDwIdeal.Gen Cert.OutProjDwIdeal.Value Idealize.ShloMosaic.TcCoe

theorem idx : ∀ t : Fin cfg0.N, win0_0.index t (0 : Fin 2) = t.val % 4 ∧ win0_0.index t (1 : Fin 2) = win0_2.index t (0 : Fin 2)
    ∧ win0_1.index t (0 : Fin 2) = t.val % 4 ∧ win0_1.index t (1 : Fin 2) = win0_2.index t (1 : Fin 2) :=
  (by decide +kernel : ∀ t : Fin grid0.N, _)

variable (m : (ℓ : Loc nD τ sig) → Buf (Elt Ideal) ℓ) (c : Dev nD)

theorem piece (t : Fin cfg0.N) (y : S1024x1024.Idx) : k0_pay1 (iblk m c 0 t) (iblk m c 1 t) y
    = dot (colOf (m (c.tc.loc main_arg0)) (((cfg0.win 2).blk t).view.emb y 0)) (colOf (m (c.tc.loc main_arg1)) (((cfg0.win 2).blk t).view.emb y 1))
      (t.val % 4 * 1024) 1024 := by
  obtain ⟨h0, h1, h2, h3⟩ := idx t
  refine (mm_tn _ _ y).trans ?_
  exact dot_congr (col_tile (m (c.tc.loc main_arg0)) ((cfg0.win 0).blk t).view.emb (fun _ => rfl) (fun _ => rfl) h0 h1 _ _ rfl)
    (col_tile (m (c.tc.loc main_arg1)) ((cfg0.win 1).blk t).view.emb (fun _ => rfl) (fun _ => rfl) h2 h3 _ _ rfl)

theorem array_is : (dats m 0 c).arrAt 2 cfg0.N = prodTN (m (c.tc.loc main_arg0)) (m (c.tc.loc main_arg1)) := by
  refine (dats m 0 c).arrAt_eq_of_covers 2 _ (by decide +kernel) fun t hf y => ?_
  have z : t.val % 4 = 3 := (flush0_2 t).mp hf
  have g := accum (nk := 4) (TK := 1024) (fun n h => (outsAt0 m c n h).2) (colOf (m (c.tc.loc main_arg0))) (colOf (m (c.tc.loc main_arg1)))
    (fun t => ((cfg0.win 2).blk t).view.emb) (fun t => win0_2.index t (0 : Fin 2)) (fun t => win0_2.index t (1 : Fin 2))
    (fun _ _ => rfl) (fun _ _ => rfl) (by decide +kernel : ∀ t : Fin grid0.N, _)
    (fun t z y => by rw [outsAt0_A m c t z (by have := lt_of_lt_of_eq t.isLt (show cfg0.N = 4 from N_0); omega) (by omega)]; frame_out; exact (stored _ _ y).trans (piece m c t y))
    (fun t z y => by
      by_cases l : t.val % 4 = 3
      · rw [outsAt0_C m c t z (by omega) l]
        frame_out
        rw [read_unread_whole]
        exact (added _ _ _ y).trans (congrArg _ (piece m c t y))
      · rw [outsAt0_B m c t z (by omega) l]
        frame_out
        rw [read_unread_whole]
        exact (added _ _ _ y).trans (congrArg _ (piece m c t y))) t.val t.isLt y
  rw [z] at g
  blk_simp
  rw [after0_2]
  refine Eq.trans ?_ g
  rw [outsAt0_C m c t (by omega) (by omega) z]
  frame_out

theorem value : Cert.algebraic_OutProjDwIdeal_OutProjDwRefIdeal := fun m g m' g' _ hm =>
  ⟨fun c => (dats m 0 c).arrAt 2 cfg0.N, run_blocks m g, (θ_run Cert.OutProjDwRefIdeal.defs _ _).mono
    (fun _ h c => ⟨(h c).1.trans ((ref_tn _ _ _).trans ((congrArg₂ prodTN (hm c).1 (hm c).2).trans (array_is m c).symm)), (h c).2⟩)
    (Cert.OutProjDwRefIdeal.Value.run (F := Ideal) m' g')⟩

end Products.OutProjDw
-- ==== Proof.Adam.lean ====
/-
  One AdamW step, entry by entry, over the extended reals: what reference.py's update computes, and that the kernel's
  expression — which multiplies by 1 / (1 - b^t) where the reference divides by 1 - b^t — is the same.
-/
module

public import Idealize.ShloMosaic.Lib.Pipeline.ValueKit
public import proofs.«01_k».proof.Proof.Softmax
public import Idealize.ShloMosaic.Lib.IdealHost
public import Idealize.ShloMosaic.Lib.ValueIdx

@[expose] public section

noncomputable section

namespace Adam

open Idealize.ShloMosaic Idealize.ShloMosaic.ValueIdx

variable {s s' : Shape}

/-- A float word at every index. -/
def word (s : Shape) (w : BitVec 32) : FVec Ideal s .f32 := fun _ => Ideal.ofBits .f32 w

/-- The first moment after the step. -/
def newM (g m : FVec Ideal s .f32) : FVec Ideal s .f32 := addf (mulf (word s 0x3F666666#32) m) (mulf (word s 0x3DCCCCCD#32) g)

/-- The second moment after the step. -/
def newV (g v : FVec Ideal s .f32) : FVec Ideal s .f32 :=
  addf (mulf (word s 0x3F7FBE77#32) v) (mulf (word s 0x3A83126F#32) (mulf g g))

/-- The change of the weights. -/
def delta (w g m v : FVec Ideal s .f32) : FVec Ideal s .f32 :=
  mulf (word s 0xBA83126F#32) (addf (Host.divf (Host.divf (newM g m) (word s 0x3F26BD02#32))
    (addf (Host.sqrt (Host.divf (newV g v) (word s 0x3C231ACC#32))) (word s 0x322BCC77#32))) (mulf (word s 0x3C23D70A#32) w))

/-- The word that the first moment is divided by. -/
theorem word1 : Ideal.ofBits .f32 0x3F26BD02#32 = ((5463681 / 8388608 : ℝ) : EReal) := by
  simp [Ideal.ofBits, Ideal.ieee, -EReal.coe_mul]; norm_num

/-- The word that the second moment is divided by. -/
theorem word2 : Ideal.ofBits .f32 0x3C231ACC#32 = ((2672307 / 268435456 : ℝ) : EReal) := by
  simp [Ideal.ofBits, Ideal.ieee, -EReal.coe_mul]; norm_num

/-- Dividing by the first word is multiplying by its inverse. -/
theorem div1 (x : EReal) : Ideal.div x (Ideal.ofBits .f32 0x3F26BD02#32) = x * ((8388608 / 5463681 : ℝ) : EReal) := by
  rw [word1, Ideal.div_coe (by norm_num), one_div_div]

/-- Dividing by the second word is multiplying by its inverse. -/
theorem div2 (x : EReal) : Ideal.div x (Ideal.ofBits .f32 0x3C231ACC#32) = x * ((268435456 / 2672307 : ℝ) : EReal) := by
  rw [word2, Ideal.div_coe (by norm_num), one_div_div]

/-- The kernel's expression for the change of the weights, with the two inverses as factors. -/
theorem kernel_delta (c1 c2 : Ideal .f32) (h1 : c1 = ((8388608 / 5463681 : ℝ) : EReal)) (h2 : c2 = ((268435456 / 2672307 : ℝ) : EReal))
    (w g m v : FVec Ideal s .f32) :
    mulf (word s 0xBA83126F#32) (addf (divf (mulf (newM g m) (broadcast s c1))
      (addf (sqrt (mulf (newV g v) (broadcast s c2))) (word s 0x322BCC77#32))) (mulf (word s 0x3C23D70A#32) w)) = delta w g m v := by
  subst h1 h2
  funext i
  simp only [delta, mulf, addf, divf, sqrt, Host.divf, Host.sqrt, broadcast, word, Ideal.hostDivf_def, Ideal.hostUnary_sqrt_def,
    Ideal.divf_def, Ideal.mulf_def, Ideal.addf_def, Ideal.sqrt_def, div1, div2]

/-- The same where the call first casts each block to its own shape. -/
theorem kernel_delta_cast (h : s.ShapeCasts s) (c1 c2 : Ideal .f32) (h1 : c1 = ((8388608 / 5463681 : ℝ) : EReal))
    (h2 : c2 = ((268435456 / 2672307 : ℝ) : EReal)) (w g m v : FVec Ideal s .f32) :
    mulf (word s 0xBA83126F#32) (addf (divf (mulf (newM (shapeCast s g h) (shapeCast s m h)) (broadcast s c1))
      (addf (sqrt (mulf (newV (shapeCast s g h) (shapeCast s v h)) (broadcast s c2))) (word s 0x322BCC77#32)))
      (mulf (word s 0x3C23D70A#32) (shapeCast s w h))) = delta w g m v := by
  simp only [shapeCast_self]
  exact kernel_delta c1 c2 h1 h2 w g m v

theorem kernel_newM_cast (h : s.ShapeCasts s) (g m : FVec Ideal s .f32) :
    newM (shapeCast s g h) (shapeCast s m h) = newM g m := by simp only [shapeCast_self]

theorem kernel_newV_cast (h : s.ShapeCasts s) (g v : FVec Ideal s .f32) :
    newV (shapeCast s g h) (shapeCast s v h) = newV g v := by simp only [shapeCast_self]

/-- An entry of the change of the weights depends on the arguments' entries there alone. -/
theorem delta_congr {w g m v : FVec Ideal s .f32} {w' g' m' v' : FVec Ideal s' .f32} {y : s.Idx} {z : s'.Idx}
    (hw : w y = w' z) (hg : g y = g' z) (hm : m y = m' z) (hv : v y = v' z) : delta w g m v y = delta w' g' m' v' z := by
  show FloatOps.mulf _ _ = FloatOps.mulf _ _
  simp only [delta, newM, newV, mulf, addf, Host.divf, Host.sqrt, word, hw, hg, hm, hv]

theorem newM_congr {g m : FVec Ideal s .f32} {g' m' : FVec Ideal s' .f32} {y : s.Idx} {z : s'.Idx}
    (hg : g y = g' z) (hm : m y = m' z) : newM g m y = newM g' m' z := by
  simp only [newM, mulf, addf, word, hg, hm]

theorem newV_congr {g v : FVec Ideal s .f32} {g' v' : FVec Ideal s' .f32} {y : s.Idx} {z : s'.Idx}
    (hg : g y = g' z) (hv : v y = v' z) : newV g v y = newV g' v' z := by
  simp only [newV, mulf, addf, word, hg, hv]

/-- Reshaping the arguments reshapes the change of the weights. -/
theorem delta_cast (h : s.ShapeCasts s') (w g m v : FVec Ideal s .f32) :
    shapeCast s' (delta w g m v) h = delta (shapeCast s' w h) (shapeCast s' g h) (shapeCast s' m h) (shapeCast s' v h) := rfl

theorem newM_cast (h : s.ShapeCasts s') (g m : FVec Ideal s .f32) :
    shapeCast s' (newM g m) h = newM (shapeCast s' g h) (shapeCast s' m h) := rfl

theorem newV_cast (h : s.ShapeCasts s') (g v : FVec Ideal s .f32) :
    shapeCast s' (newV g v) h = newV (shapeCast s' g h) (shapeCast s' v h) := rfl

end Adam

end
-- ==== Proof.AdamMod.lean ====
/-
  The optimiser's call on the weights of the conditioning, one device's part of them: its three results are the
  reference's update of the reshaped arguments.
-/
module

public import proofs.«01_k».proof.Proof.Adam
public import proofs.«01_k».proof.Proof.Gen.AdamModIdeal.Value
public import proofs.«01_k».proof.Proof.Gen.AdamModRefIdeal.Run
public import proofs.«01_k».proof.Defs

@[expose] public section

set_option maxRecDepth 16384

namespace Adam.Mod

open Idealize.ShloMosaic Idealize.SL.Sem Cert.AdamModIdeal Cert.AdamModIdeal.Gen Cert.AdamModIdeal.Value Idealize.ShloMosaic.TcCoe

/-- The two named constants are the inverses of the float words that the reference divides by, and round to the kernel's words. -/
theorem named : Cert.preserves_AdamMod_AdamModIdeal :=
  ⟨IdealRules.named_const.statement κ "c1" .f32 0x3FC48605#32 ((8388608 / 5463681 : ℝ) : EReal) rfl,
    IdealRules.named_const.statement κ "c2" .f32 0x42C8E6D3#32 ((268435456 / 2672307 : ℝ) : EReal) rfl⟩

variable (m : (ℓ : Loc nD τ sig) → Buf (Elt Ideal) ℓ) (c : Dev nD)

theorem arrays_are : (dats m 0 c).arrAt 4 cfg0.N = delta (V m c main_v0) (V m c main_v1) (V m c main_v2) (V m c main_v3)
    ∧ (dats m 0 c).arrAt 5 cfg0.N = newM (V m c main_v1) (V m c main_v2)
    ∧ (dats m 0 c).arrAt 6 cfg0.N = newV (V m c main_v1) (V m c main_v3) := by
  refine ⟨(dats m 0 c).arrAt_eq_of_covers 4 _ (by decide +kernel) fun t hf y => ?_,
    (dats m 0 c).arrAt_eq_of_covers 5 _ (by decide +kernel) fun t hf y => ?_,
    (dats m 0 c).arrAt_eq_of_covers 6 _ (by decide +kernel) fun t hf y => ?_⟩ <;> blk_simp
  · rw [after0_4]
    frame_out
    exact (congrFun (kernel_delta_cast shapeCasts_S128x1536_S128x1536 _ _ (IdealRules.named_const.ideal_named_scalar κ "c1" _ _ rfl)
      (IdealRules.named_const.ideal_named_scalar κ "c2" _ _ rfl) (iblk m c 0 t) (iblk m c 1 t) (iblk m c 2 t) (iblk m c 3 t)) y).trans
      (delta_congr rfl rfl rfl rfl)
  · rw [after0_5]
    frame_out
    exact (congrFun (kernel_newM_cast shapeCasts_S128x1536_S128x1536 (iblk m c 1 t) (iblk m c 2 t)) y).trans (newM_congr rfl rfl)
  · rw [after0_6]
    frame_out
    exact (congrFun (kernel_newV_cast shapeCasts_S128x1536_S128x1536 (iblk m c 1 t) (iblk m c 3 t)) y).trans (newV_congr rfl rfl)

theorem args_are : V m c main_v0 = shapeCast S4096x1536 (m (c.tc.loc main_arg0)) shapeCasts_S4x1024x1536_S4096x1536
    ∧ V m c main_v1 = shapeCast S4096x1536 (m (c.tc.loc main_arg1)) shapeCasts_S4x1024x1536_S4096x1536
    ∧ V m c main_v2 = shapeCast S4096x1536 (m (c.tc.loc main_arg2)) shapeCasts_S4x1024x1536_S4096x1536
    ∧ V m c main_v3 = shapeCast S4096x1536 (m (c.tc.loc main_arg3)) shapeCasts_S4x1024x1536_S4096x1536 := by
  unfold V
  simp only [hostOps0]
  refine ⟨?_, ?_, ?_, ?_⟩ <;> after_results_simp <;> rfl

theorem value : Cert.algebraic_AdamModIdeal_AdamModRefIdeal := fun m g m' g' _ hm =>
  ⟨fun c => (dats m 0 c).arrAt 4 cfg0.N, fun c => (dats m 0 c).arrAt 5 cfg0.N, fun c => (dats m 0 c).arrAt 6 cfg0.N, run_blocks m g,
    (θ_run Cert.AdamModRefIdeal.defs _ _).mono (fun _ h c => by
      obtain ⟨e0, e1, e2, e3⟩ := hm c
      obtain ⟨v0, v1, v2, v3⟩ := args_are m c
      obtain ⟨a4, a5, a6⟩ := arrays_are m c
      rw [v0, v1, v2, v3, ← e0, ← e1, ← e2, ← e3] at a4
      rw [v1, v2, ← e1, ← e2] at a5
      rw [v1, v3, ← e1, ← e3] at a6
      exact ⟨(h c).1.trans a4.symm, (h c).2.1.trans a5.symm, (h c).2.2.1.trans a6.symm, (h c).2.2.2⟩)
    (Cert.AdamModRefIdeal.Value.run (F := Ideal) m' g')⟩

end Adam.Mod
-- ==== Proof.AdamModBias.lean ====
/-
  The optimiser's call on the conditioning's bias: its three results are the reference's update.
-/
module

public import proofs.«01_k».proof.Proof.Adam
public import proofs.«01_k».proof.Proof.Gen.AdamModBiasIdeal.Value
public import proofs.«01_k».proof.Proof.Gen.AdamModBiasRefIdeal.Run
public import proofs.«01_k».proof.Defs

@[expose] public section

set_option maxRecDepth 16384

namespace Adam.ModBias

open Idealize.ShloMosaic Idealize.SL.Sem Cert.AdamModBiasIdeal Cert.AdamModBiasIdeal.Gen Cert.AdamModBiasIdeal.Value Idealize.ShloMosaic.TcCoe

/-- The two named constants are the inverses of the float words that the reference divides by, and round to the kernel's words. -/
theorem named : Cert.preserves_AdamModBias_AdamModBiasIdeal :=
  ⟨IdealRules.named_const.statement κ "c1" .f32 0x3FC48605#32 ((8388608 / 5463681 : ℝ) : EReal) rfl,
    IdealRules.named_const.statement κ "c2" .f32 0x42C8E6D3#32 ((268435456 / 2672307 : ℝ) : EReal) rfl⟩

variable (m : (ℓ : Loc nD τ sig) → Buf (Elt Ideal) ℓ) (c : Dev nD)

theorem arrays_are : (dats m 0 c).arrAt 4 cfg0.N
      = delta (m (c.tc.loc main_arg0)) (m (c.tc.loc main_arg1)) (m (c.tc.loc main_arg2)) (m (c.tc.loc main_arg3))
    ∧ (dats m 0 c).arrAt 5 cfg0.N = newM (m (c.tc.loc main_arg1)) (m (c.tc.loc main_arg2))
    ∧ (dats m 0 c).arrAt 6 cfg0.N = newV (m (c.tc.loc main_arg1)) (m (c.tc.loc main_arg3)) := by
  refine ⟨(dats m 0 c).arrAt_eq_of_covers 4 _ (by decide +kernel) fun t hf y => ?_,
    (dats m 0 c).arrAt_eq_of_covers 5 _ (by decide +kernel) fun t hf y => ?_,
    (dats m 0 c).arrAt_eq_of_covers 6 _ (by decide +kernel) fun t hf y => ?_⟩ <;> blk_simp
  · rw [after0_4]
    frame_out
    exact (congrFun (kernel_delta _ _ (IdealRules.named_const.ideal_named_scalar κ "c1" _ _ rfl)
      (IdealRules.named_const.ideal_named_scalar κ "c2" _ _ rfl) (iblk m c 0 t) (iblk m c 1 t) (iblk m c 2 t) (iblk m c 3 t)) y).trans
      (delta_congr rfl rfl rfl rfl)
  · rw [after0_5]
    frame_out
    exact newM_congr (g := iblk m c 1 t) (m := iblk m c 2 t) rfl rfl
  · rw [after0_6]
    frame_out
    exact newV_congr (g := iblk m c 1 t) (v := iblk m c 3 t) rfl rfl

theorem value : Cert.algebraic_AdamModBiasIdeal_AdamModBiasRefIdeal := fun m g m' g' _ hm =>
  ⟨fun c => (dats m 0 c).arrAt 4 cfg0.N, fun c => (dats m 0 c).arrAt 5 cfg0.N, fun c => (dats m 0 c).arrAt 6 cfg0.N, run_blocks m g,
    (θ_run Cert.AdamModBiasRefIdeal.defs _ _).mono (fun _ h c => by
      obtain ⟨e0, e1, e2, e3⟩ := hm c
      obtain ⟨a4, a5, a6⟩ := arrays_are m c
      rw [← e0, ← e1, ← e2, ← e3] at a4
      rw [← e1, ← e2] at a5
      rw [← e1, ← e3] at a6
      exact ⟨(h c).1.trans a4.symm, (h c).2.1.trans a5.symm, (h c).2.2.1.trans a6.symm, (h c).2.2.2⟩)
    (Cert.AdamModBiasRefIdeal.Value.run (F := Ideal) m' g')⟩

end Adam.ModBias
-- ==== Proof.AdamNorm.lean ====
/-
  The optimiser's call on the scales of the norms: its three results are the reference's update.
-/
module

public import proofs.«01_k».proof.Proof.Adam
public import proofs.«01_k».proof.Proof.Gen.AdamNormIdeal.Value
public import proofs.«01_k».proof.Proof.Gen.AdamNormRefIdeal.Run
public import proofs.«01_k».proof.Defs

@[expose] public section

set_option maxRecDepth 16384

namespace Adam.Norm

open Idealize.ShloMosaic Idealize.SL.Sem Cert.AdamNormIdeal Cert.AdamNormIdeal.Gen Cert.AdamNormIdeal.Value Idealize.ShloMosaic.TcCoe

/-- The two named constants are the inverses of the float words that the reference divides by, and round to the kernel's words. -/
theorem named : Cert.preserves_AdamNorm_AdamNormIdeal :=
  ⟨IdealRules.named_const.statement κ "c1" .f32 0x3FC48605#32 ((8388608 / 5463681 : ℝ) : EReal) rfl,
    IdealRules.named_const.statement κ "c2" .f32 0x42C8E6D3#32 ((268435456 / 2672307 : ℝ) : EReal) rfl⟩

variable (m : (ℓ : Loc nD τ sig) → Buf (Elt Ideal) ℓ) (c : Dev nD)

theorem arrays_are : (dats m 0 c).arrAt 4 cfg0.N
      = delta (m (c.tc.loc main_arg0)) (m (c.tc.loc main_arg1)) (m (c.tc.loc main_arg2)) (m (c.tc.loc main_arg3))
    ∧ (dats m 0 c).arrAt 5 cfg0.N = newM (m (c.tc.loc main_arg1)) (m (c.tc.loc main_arg2))
    ∧ (dats m 0 c).arrAt 6 cfg0.N = newV (m (c.tc.loc main_arg1)) (m (c.tc.loc main_arg3)) := by
  refine ⟨(dats m 0 c).arrAt_eq_of_covers 4 _ (by decide +kernel) fun t hf y => ?_,
    (dats m 0 c).arrAt_eq_of_covers 5 _ (by decide +kernel) fun t hf y => ?_,
    (dats m 0 c).arrAt_eq_of_covers 6 _ (by decide +kernel) fun t hf y => ?_⟩ <;> blk_simp
  · rw [after0_4]
    frame_out
    exact (congrFun (kernel_delta _ _ (IdealRules.named_const.ideal_named_scalar κ "c1" _ _ rfl)
      (IdealRules.named_const.ideal_named_scalar κ "c2" _ _ rfl) (iblk m c 0 t) (iblk m c 1 t) (iblk m c 2 t) (iblk m c 3 t)) y).trans
      (delta_congr rfl rfl rfl rfl)
  · rw [after0_5]
    frame_out
    exact newM_congr (g := iblk m c 1 t) (m := iblk m c 2 t) rfl rfl
  · rw [after0_6]
    frame_out
    exact newV_congr (g := iblk m c 1 t) (v := iblk m c 3 t) rfl rfl

theorem value : Cert.algebraic_AdamNormIdeal_AdamNormRefIdeal := fun m g m' g' _ hm =>
  ⟨fun c => (dats m 0 c).arrAt 4 cfg0.N, fun c => (dats m 0 c).arrAt 5 cfg0.N, fun c => (dats m 0 c).arrAt 6 cfg0.N, run_blocks m g,
    (θ_run Cert.AdamNormRefIdeal.defs _ _).mono (fun _ h c => by
      obtain ⟨e0, e1, e2, e3⟩ := hm c
      obtain ⟨a4, a5, a6⟩ := arrays_are m c
      rw [← e0, ← e1, ← e2, ← e3] at a4
      rw [← e1, ← e2] at a5
      rw [← e1, ← e3] at a6
      exact ⟨(h c).1.trans a4.symm, (h c).2.1.trans a5.symm, (h c).2.2.1.trans a6.symm, (h c).2.2.2⟩)
    (Cert.AdamNormRefIdeal.Value.run (F := Ideal) m' g')⟩

end Adam.Norm
-- ==== Proof.AdamQkv.lean ====
/-
  The optimiser's call on the weights of the projection to q, k, v, one device's part of them: its three results are the
  reference's update of the reshaped arguments.
-/
module

public import proofs.«01_k».proof.Proof.Adam
public import proofs.«01_k».proof.Proof.Gen.AdamQkvIdeal.Value
public import proofs.«01_k».proof.Proof.Gen.AdamQkvRefIdeal.Run
public import proofs.«01_k».proof.Defs

@[expose] public section

set_option maxRecDepth 16384

namespace Adam.Qkv

open Idealize.ShloMosaic Idealize.SL.Sem Cert.AdamQkvIdeal Cert.AdamQkvIdeal.Gen Cert.AdamQkvIdeal.Value Idealize.ShloMosaic.TcCoe

/-- The two named constants are the inverses of the float words that the reference divides by, and round to the kernel's words. -/
theorem named : Cert.preserves_AdamQkv_AdamQkvIdeal :=
  ⟨IdealRules.named_const.statement κ "c1" .f32 0x3FC48605#32 ((8388608 / 5463681 : ℝ) : EReal) rfl,
    IdealRules.named_const.statement κ "c2" .f32 0x42C8E6D3#32 ((268435456 / 2672307 : ℝ) : EReal) rfl⟩

variable (m : (ℓ : Loc nD τ sig) → Buf (Elt Ideal) ℓ) (c : Dev nD)

theorem arrays_are : (dats m 0 c).arrAt 4 cfg0.N = delta (V m c main_v0) (V m c main_v1) (V m c main_v2) (V m c main_v3)
    ∧ (dats m 0 c).arrAt 5 cfg0.N = newM (V m c main_v1) (V m c main_v2)
    ∧ (dats m 0 c).arrAt 6 cfg0.N = newV (V m c main_v1) (V m c main_v3) := by
  refine ⟨(dats m 0 c).arrAt_eq_of_covers 4 _ (by decide +kernel) fun t hf y => ?_,
    (dats m 0 c).arrAt_eq_of_covers 5 _ (by decide +kernel) fun t hf y => ?_,
    (dats m 0 c).arrAt_eq_of_covers 6 _ (by decide +kernel) fun t hf y => ?_⟩ <;> blk_simp
  · rw [after0_4]
    frame_out
    exact (congrFun (kernel_delta_cast shapeCasts_S256x768_S256x768 _ _ (IdealRules.named_const.ideal_named_scalar κ "c1" _ _ rfl)
      (IdealRules.named_const.ideal_named_scalar κ "c2" _ _ rfl) (iblk m c 0 t) (iblk m c 1 t) (iblk m c 2 t) (iblk m c 3 t)) y).trans
      (delta_congr rfl rfl rfl rfl)
  · rw [after0_5]
    frame_out
    exact (congrFun (kernel_newM_cast shapeCasts_S256x768_S256x768 (iblk m c 1 t) (iblk m c 2 t)) y).trans (newM_congr rfl rfl)
  · rw [after0_6]
    frame_out
    exact (congrFun (kernel_newV_cast shapeCasts_S256x768_S256x768 (iblk m c 1 t) (iblk m c 3 t)) y).trans (newV_congr rfl rfl)

theorem args_are : V m c main_v0 = shapeCast S4096x768 (m (c.tc.loc main_arg0)) shapeCasts_S4x1024x768_S4096x768
    ∧ V m c main_v1 = shapeCast S4096x768 (m (c.tc.loc main_arg1)) shapeCasts_S4x1024x768_S4096x768
    ∧ V m c main_v2 = shapeCast S4096x768 (m (c.tc.loc main_arg2)) shapeCasts_S4x1024x768_S4096x768
    ∧ V m c main_v3 = shapeCast S4096x768 (m (c.tc.loc main_arg3)) shapeCasts_S4x1024x768_S4096x768 := by
  unfold V
  simp only [hostOps0]
  refine ⟨?_, ?_, ?_, ?_⟩ <;> after_results_simp <;> rfl

theorem value : Cert.algebraic_AdamQkvIdeal_AdamQkvRefIdeal := fun m g m' g' _ hm =>
  ⟨fun c => (dats m 0 c).arrAt 4 cfg0.N, fun c => (dats m 0 c).arrAt 5 cfg0.N, fun c => (dats m 0 c).arrAt 6 cfg0.N, run_blocks m g,
    (θ_run Cert.AdamQkvRefIdeal.defs _ _).mono (fun _ h c => by
      obtain ⟨e0, e1, e2, e3⟩ := hm c
      obtain ⟨v0, v1, v2, v3⟩ := args_are m c
      obtain ⟨a4, a5, a6⟩ := arrays_are m c
      rw [v0, v1, v2, v3, ← e0, ← e1, ← e2, ← e3] at a4
      rw [v1, v2, ← e1, ← e2] at a5
      rw [v1, v3, ← e1, ← e3] at a6
      exact ⟨(h c).1.trans a4.symm, (h c).2.1.trans a5.symm, (h c).2.2.1.trans a6.symm, (h c).2.2.2⟩)
    (Cert.AdamQkvRefIdeal.Value.run (F := Ideal) m' g')⟩

end Adam.Qkv
-- ==== Proof.AdamO.lean ====
/-
  The optimiser's call on the weights of the output projection, one device's part of them: its three results are the
  reference's update of the reshaped arguments.
-/
module

public import proofs.«01_k».proof.Proof.Adam
public import proofs.«01_k».proof.Proof.Gen.AdamOIdeal.Value
public import proofs.«01_k».proof.Proof.Gen.AdamORefIdeal.Run
public import proofs.«01_k».proof.Defs

@[expose] public section

set_option maxRecDepth 16384

namespace Adam.O

open Idealize.ShloMosaic Idealize.SL.Sem Cert.AdamOIdeal Cert.AdamOIdeal.Gen Cert.AdamOIdeal.Value Idealize.ShloMosaic.TcCoe

/-- The two named constants are the inverses of the float words that the reference divides by, and round to the kernel's words. -/
theorem named : Cert.preserves_AdamO_AdamOIdeal :=
  ⟨IdealRules.named_const.statement κ "c1" .f32 0x3FC48605#32 ((8388608 / 5463681 : ℝ) : EReal) rfl,
    IdealRules.named_const.statement κ "c2" .f32 0x42C8E6D3#32 ((268435456 / 2672307 : ℝ) : EReal) rfl⟩

variable (m : (ℓ : Loc nD τ sig) → Buf (Elt Ideal) ℓ) (c : Dev nD)

theorem arrays_are : (dats m 0 c).arrAt 4 cfg0.N = delta (V m c main_v0) (V m c main_v1) (V m c main_v2) (V m c main_v3)
    ∧ (dats m 0 c).arrAt 5 cfg0.N = newM (V m c main_v1) (V m c main_v2)
    ∧ (dats m 0 c).arrAt 6 cfg0.N = newV (V m c main_v1) (V m c main_v3) := by
  refine ⟨(dats m 0 c).arrAt_eq_of_covers 4 _ (by decide +kernel) fun t hf y => ?_,
    (dats m 0 c).arrAt_eq_of_covers 5 _ (by decide +kernel) fun t hf y => ?_,
    (dats m 0 c).arrAt_eq_of_covers 6 _ (by decide +kernel) fun t hf y => ?_⟩ <;> blk_simp
  · rw [after0_4]
    frame_out
    exact (congrFun (kernel_delta_cast shapeCasts_S256x1024_S256x1024 _ _ (IdealRules.named_const.ideal_named_scalar κ "c1" _ _ rfl)
      (IdealRules.named_const.ideal_named_scalar κ "c2" _ _ rfl) (iblk m c 0 t) (iblk m c 1 t) (iblk m c 2 t) (iblk m c 3 t)) y).trans
      (delta_congr rfl rfl rfl rfl)
  · rw [after0_5]
    frame_out
    exact (congrFun (kernel_newM_cast shapeCasts_S256x1024_S256x1024 (iblk m c 1 t) (iblk m c 2 t)) y).trans (newM_congr rfl rfl)
  · rw [after0_6]
    frame_out
    exact (congrFun (kernel_newV_cast shapeCasts_S256x1024_S256x1024 (iblk m c 1 t) (iblk m c 3 t)) y).trans (newV_congr rfl rfl)

theorem args_are : V m c main_v0 = shapeCast S1024x1024 (m (c.tc.loc main_arg0)) shapeCasts_S4x256x1024_S1024x1024
    ∧ V m c main_v1 = shapeCast S1024x1024 (m (c.tc.loc main_arg1)) shapeCasts_S4x256x1024_S1024x1024
    ∧ V m c main_v2 = shapeCast S1024x1024 (m (c.tc.loc main_arg2)) shapeCasts_S4x256x1024_S1024x1024
    ∧ V m c main_v3 = shapeCast S1024x1024 (m (c.tc.loc main_arg3)) shapeCasts_S4x256x1024_S1024x1024 := by
  unfold V
  simp only [hostOps0]
  refine ⟨?_, ?_, ?_, ?_⟩ <;> after_results_simp <;> rfl

theorem value : Cert.algebraic_AdamOIdeal_AdamORefIdeal := fun m g m' g' _ hm =>
  ⟨fun c => (dats m 0 c).arrAt 4 cfg0.N, fun c => (dats m 0 c).arrAt 5 cfg0.N, fun c => (dats m 0 c).arrAt 6 cfg0.N, run_blocks m g,
    (θ_run Cert.AdamORefIdeal.defs _ _).mono (fun _ h c => by
      obtain ⟨e0, e1, e2, e3⟩ := hm c
      obtain ⟨v0, v1, v2, v3⟩ := args_are m c
      obtain ⟨a4, a5, a6⟩ := arrays_are m c
      rw [v0, v1, v2, v3, ← e0, ← e1, ← e2, ← e3] at a4
      rw [v1, v2, ← e1, ← e2] at a5
      rw [v1, v3, ← e1, ← e3] at a6
      exact ⟨(h c).1.trans a4.symm, (h c).2.1.trans a5.symm, (h c).2.2.1.trans a6.symm, (h c).2.2.2⟩)
    (Cert.AdamORefIdeal.Value.run (F := Ideal) m' g')⟩

end Adam.O
-- ==== Proof.AdamForget.lean ====
/-
  The optimiser's call on the weights of the forget gates, one device's part of them: its three results are the
  reference's update of the reshaped arguments.
-/
module

public import proofs.«01_k».proof.Proof.Adam
public import proofs.«01_k».proof.Proof.Gen.AdamForgetIdeal.Value
public import proofs.«01_k».proof.Proof.Gen.AdamForgetRefIdeal.Run
public import proofs.«01_k».proof.Defs

@[expose] public section

set_option maxRecDepth 16384

namespace Adam.Forget

open Idealize.ShloMosaic Idealize.SL.Sem Cert.AdamForgetIdeal Cert.AdamForgetIdeal.Gen Cert.AdamForgetIdeal.Value Idealize.ShloMosaic.TcCoe

/-- The two named constants are the inverses of the float words that the reference divides by, and round to the kernel's words. -/
theorem named : Cert.preserves_AdamForget_AdamForgetIdeal :=
  ⟨IdealRules.named_const.statement κ "c1" .f32 0x3FC48605#32 ((8388608 / 5463681 : ℝ) : EReal) rfl,
    IdealRules.named_const.statement κ "c2" .f32 0x42C8E6D3#32 ((268435456 / 2672307 : ℝ) : EReal) rfl⟩

variable (m : (ℓ : Loc nD τ sig) → Buf (Elt Ideal) ℓ) (c : Dev nD)

theorem arrays_are : (dats m 0 c).arrAt 4 cfg0.N = delta (V m c main_v0) (V m c main_v1) (V m c main_v2) (V m c main_v3)
    ∧ (dats m 0 c).arrAt 5 cfg0.N = newM (V m c main_v1) (V m c main_v2)
    ∧ (dats m 0 c).arrAt 6 cfg0.N = newV (V m c main_v1) (V m c main_v3) := by
  refine ⟨(dats m 0 c).arrAt_eq_of_covers 4 _ (by decide +kernel) fun t hf y => ?_,
    (dats m 0 c).arrAt_eq_of_covers 5 _ (by decide +kernel) fun t hf y => ?_,
    (dats m 0 c).arrAt_eq_of_covers 6 _ (by decide +kernel) fun t hf y => ?_⟩ <;> blk_simp
  · rw [after0_4]
    frame_out
    exact (congrFun (kernel_delta_cast shapeCasts_S512x16_S512x16 _ _ (IdealRules.named_const.ideal_named_scalar κ "c1" _ _ rfl)
      (IdealRules.named_const.ideal_named_scalar κ "c2" _ _ rfl) (iblk m c 0 t) (iblk m c 1 t) (iblk m c 2 t) (iblk m c 3 t)) y).trans
      (delta_congr rfl rfl rfl rfl)
  · rw [after0_5]
    frame_out
    exact (congrFun (kernel_newM_cast shapeCasts_S512x16_S512x16 (iblk m c 1 t) (iblk m c 2 t)) y).trans (newM_congr rfl rfl)
  · rw [after0_6]
    frame_out
    exact (congrFun (kernel_newV_cast shapeCasts_S512x16_S512x16 (iblk m c 1 t) (iblk m c 3 t)) y).trans (newV_congr rfl rfl)

theorem args_are : V m c main_v0 = shapeCast S512x16 (m (c.tc.loc main_arg0)) shapeCasts_S2x256x16_S512x16
    ∧ V m c main_v1 = shapeCast S512x16 (m (c.tc.loc main_arg1)) shapeCasts_S2x256x16_S512x16
    ∧ V m c main_v2 = shapeCast S512x16 (m (c.tc.loc main_arg2)) shapeCasts_S2x256x16_S512x16
    ∧ V m c main_v3 = shapeCast S512x16 (m (c.tc.loc main_arg3)) shapeCasts_S2x256x16_S512x16 := by
  unfold V
  simp only [hostOps0]
  refine ⟨?_, ?_, ?_, ?_⟩ <;> after_results_simp <;> rfl

theorem value : Cert.algebraic_AdamForgetIdeal_AdamForgetRefIdeal := fun m g m' g' _ hm =>
  ⟨fun c => (dats m 0 c).arrAt 4 cfg0.N, fun c => (dats m 0 c).arrAt 5 cfg0.N, fun c => (dats m 0 c).arrAt 6 cfg0.N, run_blocks m g,
    (θ_run Cert.AdamForgetRefIdeal.defs _ _).mono (fun _ h c => by
      obtain ⟨e0, e1, e2, e3⟩ := hm c
      obtain ⟨v0, v1, v2, v3⟩ := args_are m c
      obtain ⟨a4, a5, a6⟩ := arrays_are m c
      rw [v0, v1, v2, v3, ← e0, ← e1, ← e2, ← e3] at a4
      rw [v1, v2, ← e1, ← e2] at a5
      rw [v1, v3, ← e1, ← e3] at a6
      exact ⟨(h c).1.trans a4.symm, (h c).2.1.trans a5.symm, (h c).2.2.1.trans a6.symm, (h c).2.2.2⟩)
    (Cert.AdamForgetRefIdeal.Value.run (F := Ideal) m' g')⟩

end Adam.Forget
-- ==== Proof.AdamForgetBias.lean ====
/-
  The optimiser's call on the forget gates' bias: its three results are the reference's update.
-/
module

public import proofs.«01_k».proof.Proof.Adam
public import proofs.«01_k».proof.Proof.Gen.AdamForgetBiasIdeal.Value
public import proofs.«01_k».proof.Proof.Gen.AdamForgetBiasRefIdeal.Run
public import proofs.«01_k».proof.Defs

@[expose] public section

set_option maxRecDepth 16384

namespace Adam.ForgetBias

open Idealize.ShloMosaic Idealize.SL.Sem Cert.AdamForgetBiasIdeal Cert.AdamForgetBiasIdeal.Gen Cert.AdamForgetBiasIdeal.Value Idealize.ShloMosaic.TcCoe

/-- The two named constants are the inverses of the float words that the reference divides by, and round to the kernel's words. -/
theorem named : Cert.preserves_AdamForgetBias_AdamForgetBiasIdeal :=
  ⟨IdealRules.named_const.statement κ "c1" .f32 0x3FC48605#32 ((8388608 / 5463681 : ℝ) : EReal) rfl,
    IdealRules.named_const.statement κ "c2" .f32 0x42C8E6D3#32 ((268435456 / 2672307 : ℝ) : EReal) rfl⟩

variable (m : (ℓ : Loc nD τ sig) → Buf (Elt Ideal) ℓ) (c : Dev nD)

theorem arrays_are : (dats m 0 c).arrAt 4 cfg0.N
      = delta (m (c.tc.loc main_arg0)) (m (c.tc.loc main_arg1)) (m (c.tc.loc main_arg2)) (m (c.tc.loc main_arg3))
    ∧ (dats m 0 c).arrAt 5 cfg0.N = newM (m (c.tc.loc main_arg1)) (m (c.tc.loc main_arg2))
    ∧ (dats m 0 c).arrAt 6 cfg0.N = newV (m (c.tc.loc main_arg1)) (m (c.tc.loc main_arg3)) := by
  refine ⟨(dats m 0 c).arrAt_eq_of_covers 4 _ (by decide +kernel) fun t hf y => ?_,
    (dats m 0 c).arrAt_eq_of_covers 5 _ (by decide +kernel) fun t hf y => ?_,
    (dats m 0 c).arrAt_eq_of_covers 6 _ (by decide +kernel) fun t hf y => ?_⟩ <;> blk_simp
  · rw [after0_4]
    frame_out
    exact (congrFun (kernel_delta _ _ (IdealRules.named_const.ideal_named_scalar κ "c1" _ _ rfl)
      (IdealRules.named_const.ideal_named_scalar κ "c2" _ _ rfl) (iblk m c 0 t) (iblk m c 1 t) (iblk m c 2 t) (iblk m c 3 t)) y).trans
      (delta_congr rfl rfl rfl rfl)
  · rw [after0_5]
    frame_out
    exact newM_congr (g := iblk m c 1 t) (m := iblk m c 2 t) rfl rfl
  · rw [after0_6]
    frame_out
    exact newV_congr (g := iblk m c 1 t) (v := iblk m c 3 t) rfl rfl

theorem value : Cert.algebraic_AdamForgetBiasIdeal_AdamForgetBiasRefIdeal := fun m g m' g' _ hm =>
  ⟨fun c => (dats m 0 c).arrAt 4 cfg0.N, fun c => (dats m 0 c).arrAt 5 cfg0.N, fun c => (dats m 0 c).arrAt 6 cfg0.N, run_blocks m g,
    (θ_run Cert.AdamForgetBiasRefIdeal.defs _ _).mono (fun _ h c => by
      obtain ⟨e0, e1, e2, e3⟩ := hm c
      obtain ⟨a4, a5, a6⟩ := arrays_are m c
      rw [← e0, ← e1, ← e2, ← e3] at a4
      rw [← e1, ← e2] at a5
      rw [← e1, ← e3] at a6
      exact ⟨(h c).1.trans a4.symm, (h c).2.1.trans a5.symm, (h c).2.2.1.trans a6.symm, (h c).2.2.2⟩)
    (Cert.AdamForgetBiasRefIdeal.Value.run (F := Ideal) m' g')⟩

end Adam.ForgetBias
-- ==== Proof.AdamUp.lean ====
/-
  The optimiser's call on the weights of one of the feed-forward's products up (gate and up have one shape), one device's part of them: its three results are the
  reference's update of the reshaped arguments.
-/
module

public import proofs.«01_k».proof.Proof.Adam
public import proofs.«01_k».proof.Proof.Gen.AdamUpIdeal.Value
public import proofs.«01_k».proof.Proof.Gen.AdamUpRefIdeal.Run
public import proofs.«01_k».proof.Defs

@[expose] public section

set_option maxRecDepth 16384

namespace Adam.Up

open Idealize.ShloMosaic Idealize.SL.Sem Cert.AdamUpIdeal Cert.AdamUpIdeal.Gen Cert.AdamUpIdeal.Value Idealize.ShloMosaic.TcCoe

/-- The two named constants are the inverses of the float words that the reference divides by, and round to the kernel's words. -/
theorem named : Cert.preserves_AdamUp_AdamUpIdeal :=
  ⟨IdealRules.named_const.statement κ "c1" .f32 0x3FC48605#32 ((8388608 / 5463681 : ℝ) : EReal) rfl,
    IdealRules.named_const.statement κ "c2" .f32 0x42C8E6D3#32 ((268435456 / 2672307 : ℝ) : EReal) rfl⟩

variable (m : (ℓ : Loc nD τ sig) → Buf (Elt Ideal) ℓ) (c : Dev nD)

theorem arrays_are : (dats m 0 c).arrAt 4 cfg0.N = delta (V m c main_v0) (V m c main_v1) (V m c main_v2) (V m c main_v3)
    ∧ (dats m 0 c).arrAt 5 cfg0.N = newM (V m c main_v1) (V m c main_v2)
    ∧ (dats m 0 c).arrAt 6 cfg0.N = newV (V m c main_v1) (V m c main_v3) := by
  refine ⟨(dats m 0 c).arrAt_eq_of_covers 4 _ (by decide +kernel) fun t hf y => ?_,
    (dats m 0 c).arrAt_eq_of_covers 5 _ (by decide +kernel) fun t hf y => ?_,
    (dats m 0 c).arrAt_eq_of_covers 6 _ (by decide +kernel) fun t hf y => ?_⟩ <;> blk_simp
  · rw [after0_4]
    frame_out
    exact (congrFun (kernel_delta_cast shapeCasts_S256x704_S256x704 _ _ (IdealRules.named_const.ideal_named_scalar κ "c1" _ _ rfl)
      (IdealRules.named_const.ideal_named_scalar κ "c2" _ _ rfl) (iblk m c 0 t) (iblk m c 1 t) (iblk m c 2 t) (iblk m c 3 t)) y).trans
      (delta_congr rfl rfl rfl rfl)
  · rw [after0_5]
    frame_out
    exact (congrFun (kernel_newM_cast shapeCasts_S256x704_S256x704 (iblk m c 1 t) (iblk m c 2 t)) y).trans (newM_congr rfl rfl)
  · rw [after0_6]
    frame_out
    exact (congrFun (kernel_newV_cast shapeCasts_S256x704_S256x704 (iblk m c 1 t) (iblk m c 3 t)) y).trans (newV_congr rfl rfl)

theorem args_are : V m c main_v0 = shapeCast S4096x704 (m (c.tc.loc main_arg0)) shapeCasts_S4x1024x704_S4096x704
    ∧ V m c main_v1 = shapeCast S4096x704 (m (c.tc.loc main_arg1)) shapeCasts_S4x1024x704_S4096x704
    ∧ V m c main_v2 = shapeCast S4096x704 (m (c.tc.loc main_arg2)) shapeCasts_S4x1024x704_S4096x704
    ∧ V m c main_v3 = shapeCast S4096x704 (m (c.tc.loc main_arg3)) shapeCasts_S4x1024x704_S4096x704 := by
  unfold V
  simp only [hostOps0]
  refine ⟨?_, ?_, ?_, ?_⟩ <;> after_results_simp <;> rfl

theorem value : Cert.algebraic_AdamUpIdeal_AdamUpRefIdeal := fun m g m' g' _ hm =>
  ⟨fun c => (dats m 0 c).arrAt 4 cfg0.N, fun c => (dats m 0 c).arrAt 5 cfg0.N, fun c => (dats m 0 c).arrAt 6 cfg0.N, run_blocks m g,
    (θ_run Cert.AdamUpRefIdeal.defs _ _).mono (fun _ h c => by
      obtain ⟨e0, e1, e2, e3⟩ := hm c
      obtain ⟨v0, v1, v2, v3⟩ := args_are m c
      obtain ⟨a4, a5, a6⟩ := arrays_are m c
      rw [v0, v1, v2, v3, ← e0, ← e1, ← e2, ← e3] at a4
      rw [v1, v2, ← e1, ← e2] at a5
      rw [v1, v3, ← e1, ← e3] at a6
      exact ⟨(h c).1.trans a4.symm, (h c).2.1.trans a5.symm, (h c).2.2.1.trans a6.symm, (h c).2.2.2⟩)
    (Cert.AdamUpRefIdeal.Value.run (F := Ideal) m' g')⟩

end Adam.Up
-- ==== Proof.AdamConv.lean ====
/-
  The optimiser's call on the weights of the convolution, one device's part of them: its three results are the
  reference's update of the reshaped arguments.
-/
module

public import proofs.«01_k».proof.Proof.Adam
public import proofs.«01_k».proof.Proof.Gen.AdamConvIdeal.Value
public import proofs.«01_k».proof.Proof.Gen.AdamConvRefIdeal.Run
public import proofs.«01_k».proof.Defs

@[expose] public section

set_option maxRecDepth 16384

namespace Adam.Conv

open Idealize.ShloMosaic Idealize.SL.Sem Cert.AdamConvIdeal Cert.AdamConvIdeal.Gen Cert.AdamConvIdeal.Value Idealize.ShloMosaic.TcCoe

/-- The two named constants are the inverses of the float words that the reference divides by, and round to the kernel's words. -/
theorem named : Cert.preserves_AdamConv_AdamConvIdeal :=
  ⟨IdealRules.named_const.statement κ "c1" .f32 0x3FC48605#32 ((8388608 / 5463681 : ℝ) : EReal) rfl,
    IdealRules.named_const.statement κ "c2" .f32 0x42C8E6D3#32 ((268435456 / 2672307 : ℝ) : EReal) rfl⟩

variable (m : (ℓ : Loc nD τ sig) → Buf (Elt Ideal) ℓ) (c : Dev nD)

theorem arrays_are : (dats m 0 c).arrAt 4 cfg0.N = delta (V m c main_v0) (V m c main_v1) (V m c main_v2) (V m c main_v3)
    ∧ (dats m 0 c).arrAt 5 cfg0.N = newM (V m c main_v1) (V m c main_v2)
    ∧ (dats m 0 c).arrAt 6 cfg0.N = newV (V m c main_v1) (V m c main_v3) := by
  refine ⟨(dats m 0 c).arrAt_eq_of_covers 4 _ (by decide +kernel) fun t hf y => ?_,
    (dats m 0 c).arrAt_eq_of_covers 5 _ (by decide +kernel) fun t hf y => ?_,
    (dats m 0 c).arrAt_eq_of_covers 6 _ (by decide +kernel) fun t hf y => ?_⟩ <;> blk_simp
  · rw [after0_4]
    frame_out
    exact (congrFun (kernel_delta_cast shapeCasts_S12x704_S12x704 _ _ (IdealRules.named_const.ideal_named_scalar κ "c1" _ _ rfl)
      (IdealRules.named_const.ideal_named_scalar κ "c2" _ _ rfl) (iblk m c 0 t) (iblk m c 1 t) (iblk m c 2 t) (iblk m c 3 t)) y).trans
      (delta_congr rfl rfl rfl rfl)
  · rw [after0_5]
    frame_out
    exact (congrFun (kernel_newM_cast shapeCasts_S12x704_S12x704 (iblk m c 1 t) (iblk m c 2 t)) y).trans (newM_congr rfl rfl)
  · rw [after0_6]
    frame_out
    exact (congrFun (kernel_newV_cast shapeCasts_S12x704_S12x704 (iblk m c 1 t) (iblk m c 3 t)) y).trans (newV_congr rfl rfl)

theorem args_are : V m c main_v0 = shapeCast S12x704 (m (c.tc.loc main_arg0)) shapeCasts_S4x3x704_S12x704
    ∧ V m c main_v1 = shapeCast S12x704 (m (c.tc.loc main_arg1)) shapeCasts_S4x3x704_S12x704
    ∧ V m c main_v2 = shapeCast S12x704 (m (c.tc.loc main_arg2)) shapeCasts_S4x3x704_S12x704
    ∧ V m c main_v3 = shapeCast S12x704 (m (c.tc.loc main_arg3)) shapeCasts_S4x3x704_S12x704 := by
  unfold V
  simp only [hostOps0]
  refine ⟨?_, ?_, ?_, ?_⟩ <;> after_results_simp <;> rfl

theorem value : Cert.algebraic_AdamConvIdeal_AdamConvRefIdeal := fun m g m' g' _ hm =>
  ⟨fun c => (dats m 0 c).arrAt 4 cfg0.N, fun c => (dats m 0 c).arrAt 5 cfg0.N, fun c => (dats m 0 c).arrAt 6 cfg0.N, run_blocks m g,
    (θ_run Cert.AdamConvRefIdeal.defs _ _).mono (fun _ h c => by
      obtain ⟨e0, e1, e2, e3⟩ := hm c
      obtain ⟨v0, v1, v2, v3⟩ := args_are m c
      obtain ⟨a4, a5, a6⟩ := arrays_are m c
      rw [v0, v1, v2, v3, ← e0, ← e1, ← e2, ← e3] at a4
      rw [v1, v2, ← e1, ← e2] at a5
      rw [v1, v3, ← e1, ← e3] at a6
      exact ⟨(h c).1.trans a4.symm, (h c).2.1.trans a5.symm, (h c).2.2.1.trans a6.symm, (h c).2.2.2⟩)
    (Cert.AdamConvRefIdeal.Value.run (F := Ideal) m' g')⟩

end Adam.Conv
-- ==== Proof.AdamConvBias.lean ====
/-
  The optimiser's call on the convolution's bias: its three results are the reference's update.
-/
module

public import proofs.«01_k».proof.Proof.Adam
public import proofs.«01_k».proof.Proof.Gen.AdamConvBiasIdeal.Value
public import proofs.«01_k».proof.Proof.Gen.AdamConvBiasRefIdeal.Run
public import proofs.«01_k».proof.Defs

@[expose] public section

set_option maxRecDepth 16384

namespace Adam.ConvBias

open Idealize.ShloMosaic Idealize.SL.Sem Cert.AdamConvBiasIdeal Cert.AdamConvBiasIdeal.Gen Cert.AdamConvBiasIdeal.Value Idealize.ShloMosaic.TcCoe

/-- The two named constants are the inverses of the float words that the reference divides by, and round to the kernel's words. -/
theorem named : Cert.preserves_AdamConvBias_AdamConvBiasIdeal :=
  ⟨IdealRules.named_const.statement κ "c1" .f32 0x3FC48605#32 ((8388608 / 5463681 : ℝ) : EReal) rfl,
    IdealRules.named_const.statement κ "c2" .f32 0x42C8E6D3#32 ((268435456 / 2672307 : ℝ) : EReal) rfl⟩

variable (m : (ℓ : Loc nD τ sig) → Buf (Elt Ideal) ℓ) (c : Dev nD)

theorem arrays_are : (dats m 0 c).arrAt 4 cfg0.N
      = delta (m (c.tc.loc main_arg0)) (m (c.tc.loc main_arg1)) (m (c.tc.loc main_arg2)) (m (c.tc.loc main_arg3))
    ∧ (dats m 0 c).arrAt 5 cfg0.N = newM (m (c.tc.loc main_arg1)) (m (c.tc.loc main_arg2))
    ∧ (dats m 0 c).arrAt 6 cfg0.N = newV (m (c.tc.loc main_arg1)) (m (c.tc.loc main_arg3)) := by
  refine ⟨(dats m 0 c).arrAt_eq_of_covers 4 _ (by decide +kernel) fun t hf y => ?_,
    (dats m 0 c).arrAt_eq_of_covers 5 _ (by decide +kernel) fun t hf y => ?_,
    (dats m 0 c).arrAt_eq_of_covers 6 _ (by decide +kernel) fun t hf y => ?_⟩ <;> blk_simp
  · rw [after0_4]
    frame_out
    exact (congrFun (kernel_delta _ _ (IdealRules.named_const.ideal_named_scalar κ "c1" _ _ rfl)
      (IdealRules.named_const.ideal_named_scalar κ "c2" _ _ rfl) (iblk m c 0 t) (iblk m c 1 t) (iblk m c 2 t) (iblk m c 3 t)) y).trans
      (delta_congr rfl rfl rfl rfl)
  · rw [after0_5]
    frame_out
    exact newM_congr (g := iblk m c 1 t) (m := iblk m c 2 t) rfl rfl
  · rw [after0_6]
    frame_out
    exact newV_congr (g := iblk m c 1 t) (v := iblk m c 3 t) rfl rfl

theorem value : Cert.algebraic_AdamConvBiasIdeal_AdamConvBiasRefIdeal := fun m g m' g' _ hm =>
  ⟨fun c => (dats m 0 c).arrAt 4 cfg0.N, fun c => (dats m 0 c).arrAt 5 cfg0.N, fun c => (dats m 0 c).arrAt 6 cfg0.N, run_blocks m g,
    (θ_run Cert.AdamConvBiasRefIdeal.defs _ _).mono (fun _ h c => by
      obtain ⟨e0, e1, e2, e3⟩ := hm c
      obtain ⟨a4, a5, a6⟩ := arrays_are m c
      rw [← e0, ← e1, ← e2, ← e3] at a4
      rw [← e1, ← e2] at a5
      rw [← e1, ← e3] at a6
      exact ⟨(h c).1.trans a4.symm, (h c).2.1.trans a5.symm, (h c).2.2.1.trans a6.symm, (h c).2.2.2⟩)
    (Cert.AdamConvBiasRefIdeal.Value.run (F := Ideal) m' g')⟩

end Adam.ConvBias
-- ==== Proof.AdamDown.lean ====
/-
  The optimiser's call on the weights of the feed-forward's product down, one device's part of them: its three results are the
  reference's update of the reshaped arguments.
-/
module

public import proofs.«01_k».proof.Proof.Adam
public import proofs.«01_k».proof.Proof.Gen.AdamDownIdeal.Value
public import proofs.«01_k».proof.Proof.Gen.AdamDownRefIdeal.Run
public import proofs.«01_k».proof.Defs

@[expose] public section

set_option maxRecDepth 16384

namespace Adam.Down

open Idealize.ShloMosaic Idealize.SL.Sem Cert.AdamDownIdeal Cert.AdamDownIdeal.Gen Cert.AdamDownIdeal.Value Idealize.ShloMosaic.TcCoe

/-- The two named constants are the inverses of the float words that the reference divides by, and round to the kernel's words. -/
theorem named : Cert.preserves_AdamDown_AdamDownIdeal :=
  ⟨IdealRules.named_const.statement κ "c1" .f32 0x3FC48605#32 ((8388608 / 5463681 : ℝ) : EReal) rfl,
    IdealRules.named_const.statement κ "c2" .f32 0x42C8E6D3#32 ((268435456 / 2672307 : ℝ) : EReal) rfl⟩

variable (m : (ℓ : Loc nD τ sig) → Buf (Elt Ideal) ℓ) (c : Dev nD)

theorem arrays_are : (dats m 0 c).arrAt 4 cfg0.N = delta (V m c main_v0) (V m c main_v1) (V m c main_v2) (V m c main_v3)
    ∧ (dats m 0 c).arrAt 5 cfg0.N = newM (V m c main_v1) (V m c main_v2)
    ∧ (dats m 0 c).arrAt 6 cfg0.N = newV (V m c main_v1) (V m c main_v3) := by
  refine ⟨(dats m 0 c).arrAt_eq_of_covers 4 _ (by decide +kernel) fun t hf y => ?_,
    (dats m 0 c).arrAt_eq_of_covers 5 _ (by decide +kernel) fun t hf y => ?_,
    (dats m 0 c).arrAt_eq_of_covers 6 _ (by decide +kernel) fun t hf y => ?_⟩ <;> blk_simp
  · rw [after0_4]
    frame_out
    exact (congrFun (kernel_delta_cast shapeCasts_S256x1024_S256x1024 _ _ (IdealRules.named_const.ideal_named_scalar κ "c1" _ _ rfl)
      (IdealRules.named_const.ideal_named_scalar κ "c2" _ _ rfl) (iblk m c 0 t) (iblk m c 1 t) (iblk m c 2 t) (iblk m c 3 t)) y).trans
      (delta_congr rfl rfl rfl rfl)
  · rw [after0_5]
    frame_out
    exact (congrFun (kernel_newM_cast shapeCasts_S256x1024_S256x1024 (iblk m c 1 t) (iblk m c 2 t)) y).trans (newM_congr rfl rfl)
  · rw [after0_6]
    frame_out
    exact (congrFun (kernel_newV_cast shapeCasts_S256x1024_S256x1024 (iblk m c 1 t) (iblk m c 3 t)) y).trans (newV_congr rfl rfl)

theorem args_are : V m c main_v0 = shapeCast S2816x1024 (m (c.tc.loc main_arg0)) shapeCasts_S4x704x1024_S2816x1024
    ∧ V m c main_v1 = shapeCast S2816x1024 (m (c.tc.loc main_arg1)) shapeCasts_S4x704x1024_S2816x1024
    ∧ V m c main_v2 = shapeCast S2816x1024 (m (c.tc.loc main_arg2)) shapeCasts_S4x704x1024_S2816x1024
    ∧ V m c main_v3 = shapeCast S2816x1024 (m (c.tc.loc main_arg3)) shapeCasts_S4x704x1024_S2816x1024 := by
  unfold V
  simp only [hostOps0]
  refine ⟨?_, ?_, ?_, ?_⟩ <;> after_results_simp <;> rfl

theorem value : Cert.algebraic_AdamDownIdeal_AdamDownRefIdeal := fun m g m' g' _ hm =>
  ⟨fun c => (dats m 0 c).arrAt 4 cfg0.N, fun c => (dats m 0 c).arrAt 5 cfg0.N, fun c => (dats m 0 c).arrAt 6 cfg0.N, run_blocks m g,
    (θ_run Cert.AdamDownRefIdeal.defs _ _).mono (fun _ h c => by
      obtain ⟨e0, e1, e2, e3⟩ := hm c
      obtain ⟨v0, v1, v2, v3⟩ := args_are m c
      obtain ⟨a4, a5, a6⟩ := arrays_are m c
      rw [v0, v1, v2, v3, ← e0, ← e1, ← e2, ← e3] at a4
      rw [v1, v2, ← e1, ← e2] at a5
      rw [v1, v3, ← e1, ← e3] at a6
      exact ⟨(h c).1.trans a4.symm, (h c).2.1.trans a5.symm, (h c).2.2.1.trans a6.symm, (h c).2.2.2⟩)
    (Cert.AdamDownRefIdeal.Value.run (F := Ideal) m' g')⟩

end Adam.Down
-- ==== Proof.ModDw.lean ====
/-
  The call that computes the gradient of the conditioning's weights (`mm_dwmod`): its result is the transposed activations
  times the modulations' gradients, both padded with rows of zeros, which add nothing.
-/
module

public import proofs.«01_k».proof.Proof.Product
public import proofs.«01_k».proof.Proof.Gen.ModDwIdeal.Value
public import proofs.«01_k».proof.Proof.Gen.ModDwRefIdeal.Run
public import proofs.«01_k».proof.Defs
public import Idealize.ShloMosaic.Lib.KernelVsHost

@[expose] public section

set_option maxRecDepth 16384

namespace Products.ModDw

open Idealize.ShloMosaic Idealize.SL.Sem Cert.ModDwIdeal Cert.ModDwIdeal.Gen Cert.ModDwIdeal.Value Idealize.ShloMosaic.TcCoe FoxBwd

/-- A column of a matrix padded with rows of zeros is the matrix's column, which counts as zero past its end. -/
theorem col_pad {K P N : ℕ} (A : FVec Ideal (Sh K N) .f32) (v : FVec Ideal S_ .f32) (hv : ∀ i, v i = 0)
    (h : (Sh K N).Pads (![0, 0] : Fin 2 → ℕ) ![P, 0] ![0, 0] (Sh (K + P) N)) (hu : 0 < S_.numel) (j : Fin N) :
    ∀ k < K + P, colOf (pad (Sh (K + P) N) ![0, 0] ![P, 0] ![0, 0] A v h hu) j k = colOf A j k := by
  intro k hk
  unfold colOf
  rw [dif_pos hk]
  by_cases q : k < K
  · rw [dif_pos q]
    refine pad_apply_of_inside _ _ _ _ _ _ _ _ _ fun a => ?_
    match a with
    | 0 => exact (by omega : k = 0 + k * (0 + 1))
    | 1 => exact (by omega : j.val = 0 + j.val * (0 + 1))
  · rw [dif_neg q]
    refine (pad_apply_of_not_inside _ _ _ _ _ _ _ _ (0 : Fin 2) fun z => q ?_).trans (hv _)
    have z2 : (k - 0) / (0 + 1) < K := z.2.2
    rwa [Nat.sub_zero, Nat.zero_add, Nat.div_one] at z2

/-- So the product of the padded matrices is the product of the matrices. -/
theorem prod_pad {K P M N : ℕ} (A A' : _) (B B' : _) (a : ∀ (i : Fin M), ∀ k < K + P, colOf A' i k = colOf (K := K) A i k)
    (b : ∀ (j : Fin N), ∀ k < K + P, colOf B' j k = colOf (K := K) B j k) :
    prodTN (K := K + P) A' B' = prodTN A B := by
  funext i
  have e : prodTN (K := K + P) A' B' i = dot (colOf A (i 0)) (colOf B (i 1)) 0 (K + P) :=
    dot_congr (fun k hk => (Nat.zero_add k).symm ▸ a _ k hk) (fun k hk => (Nat.zero_add k).symm ▸ b _ k hk)
  refine e.trans ?_
  refine (dot_add _ _ 0 K P).trans ((congrArg _ (Finset.sum_eq_zero fun k _ => ?_)).trans (add_zero _))
  have z : colOf A (i 0) (0 + K + k) = 0 := dif_neg (by omega)
  rw [z, zero_mul]

theorem idx : ∀ t : Fin cfg0.N, win0_0.index t (0 : Fin 2) = 0 ∧ win0_0.index t (1 : Fin 2) = win0_2.index t (0 : Fin 2)
    ∧ win0_1.index t (0 : Fin 2) = 0 ∧ win0_1.index t (1 : Fin 2) = win0_2.index t (1 : Fin 2) :=
  (by decide +kernel : ∀ t : Fin grid0.N, _)

variable (m : (ℓ : Loc nD τ sig) → Buf (Elt Ideal) ℓ) (c : Dev nD)

theorem zero_at (i : S_.Idx) : (sitofp (F := Ideal) .f32 (constantI S_ 32 0#32) : FVec Ideal S_ .f32) i = 0 :=
  show (((0#32).toInt : ℝ) : EReal) = 0 by simp

theorem args_are : V m c main_v0 = pad S128x1024 ![0, 0] ![120, 0] ![0, 0] (m (c.tc.loc main_arg0)) (sitofp (F := Ideal) .f32 (constantI S_ 32 0#32)) pads_S8x1024_S128x1024_01200_000 h_S_
    ∧ V m c main_v1 = pad S128x6144 ![0, 0] ![120, 0] ![0, 0] (m (c.tc.loc main_arg1)) (sitofp (F := Ideal) .f32 (constantI S_ 32 0#32)) pads_S8x6144_S128x6144_01200_000 h_S_ := by
  unfold V
  simp only [hostOps0, hostOps0_1, hostOps0_2, hostOps0_3, List.flatten_cons, List.flatten_nil, List.cons_append, List.nil_append]
  refine ⟨?_, ?_⟩ <;> after_results_simp <;> rfl

theorem array_is : (dats m 0 c).arrAt 2 cfg0.N = prodTN (V m c main_v0) (V m c main_v1) := by
  refine (dats m 0 c).arrAt_eq_of_covers 2 _ (by decide +kernel) fun t hf y => ?_
  obtain ⟨h0, h1, h2, h3⟩ := idx t
  blk_simp
  rw [after0_2]
  frame_out
  refine (mm_tn _ _ y).trans ?_
  rw [shapeCast_self, shapeCast_self]
  exact dot_congr (a' := 0 * 128) (col_tile (V m c main_v0) ((cfg0.win 0).blk t).view.emb (fun _ => rfl) (fun _ => rfl) h0 h1 _ _ rfl)
    (col_tile (V m c main_v1) ((cfg0.win 1).blk t).view.emb (fun _ => rfl) (fun _ => rfl) h2 h3 _ _ rfl)

theorem result_is : (dats m 0 c).arrAt 2 cfg0.N = prodTN (m (c.tc.loc main_arg0)) (m (c.tc.loc main_arg1)) := by
  obtain ⟨v0, v1⟩ := args_are m c
  refine (array_is m c).trans ?_
  rw [v0, v1]
  exact prod_pad (K := 8) (P := 120) _ _ _ _ (col_pad _ _ zero_at _ _) (col_pad _ _ zero_at _ _)

theorem value : Cert.algebraic_ModDwIdeal_ModDwRefIdeal := fun m g m' g' _ hm =>
  ⟨fun c => (dats m 0 c).arrAt 2 cfg0.N, run_blocks m g, (θ_run Cert.ModDwRefIdeal.defs _ _).mono
    (fun _ h c => ⟨(h c).1.trans ((ref_tn _ _ _).trans ((congrArg₂ prodTN (hm c).1 (hm c).2).trans (result_is m c).symm)), (h c).2⟩)
    (Cert.ModDwRefIdeal.Value.run (F := Ideal) m' g')⟩

end Products.ModDw
-- ==== Proof.Sum.lean ====
/-
  What the calls that add up the eight devices' gradients share: the sum at an entry, and that the host's sum over the first
  axis is it.
-/
module

public import proofs.«01_k».proof.Proof.Product

@[expose] public section

set_option maxRecDepth 16384

namespace Sums

open Idealize.ShloMosaic Idealize.SL.Sem Idealize.ShloMosaic.TcCoe FoxBwd

/-- Eight matrices, one of each device. -/
abbrev Sh8 (R C : ℕ) : Shape := ⟨3, ![8, R, C]⟩

/-- The sum over the devices, at an entry. -/
noncomputable def total {R C : ℕ} (x : (Sh8 R C).Idx → EReal) : (Sh R C).Idx → EReal := fun i => ∑ d : Fin 8, x (ix3 d (i 0) (i 1))

theorem ref_total {R C : ℕ} (x : FVec Ideal (Sh8 R C) .f32) (h : (Sh8 R C).ReducesTo [0] (Sh R C)) (hu : 0 < (⟨0, ![]⟩ : Shape).numel) :
    Host.reduceAdd x (constant (⟨0, ![]⟩ : Shape) .f32 0x00000000#32 : FVec Ideal (⟨0, ![]⟩ : Shape) .f32) h hu = total x := by
  funext i
  rw [Products.eta2 i]
  unfold total
  pointwise

/-- A tile's sum over the devices is the tile of the sum. -/
theorem total_tile {R C T W : ℕ} (A : (Sh8 R C).Idx → EReal) (f : (Sh8 T W).Idx → (Sh8 R C).Idx) (g : (Sh T W).Idx → (Sh R C).Idx) {w0 w1 w2 b v : ℕ}
    (a0 : ∀ z, (f z 0).val = w0 * 8 + 1 * (z 0).val) (a1 : ∀ z, (f z 1).val = w1 * T + 1 * (z 1).val) (a2 : ∀ z, (f z 2).val = w2 * W + 1 * (z 2).val)
    (b0 : ∀ z, (g z 0).val = b * T + 1 * (z 0).val) (b1 : ∀ z, (g z 1).val = v * W + 1 * (z 1).val)
    (e0 : w0 = 0) (e1 : w1 = b) (e2 : w2 = v) (y : (Sh T W).Idx) : total (fun z => A (f z)) y = total A (g y) :=
  Finset.sum_congr rfl fun d _ => congrArg A (funext fun a => Fin.ext (by
    match a with
    | 0 => exact (a0 _).trans (by rw [e0, Nat.zero_mul, Nat.zero_add, Nat.one_mul]; rfl)
    | 1 => exact (a1 _).trans (by rw [e1]; exact (b0 y).symm)
    | 2 => exact (a2 _).trans (by rw [e2]; exact (b1 y).symm)))

end Sums
-- ==== Proof.SumQkv.lean ====
/-
  The sum of the eight devices' gradients of the projection to q, k, v (`sum_grad_shard_0`), tile by tile.
-/
module

public import proofs.«01_k».proof.Proof.Sum
public import proofs.«01_k».proof.Proof.Gen.SumQkvIdeal.Value
public import proofs.«01_k».proof.Proof.Gen.SumQkvRefIdeal.Run
public import proofs.«01_k».proof.Defs

@[expose] public section

set_option maxRecDepth 16384

namespace Sums.Qkv

open Idealize.ShloMosaic Idealize.SL.Sem Cert.SumQkvIdeal Cert.SumQkvIdeal.Gen Cert.SumQkvIdeal.Value Idealize.ShloMosaic.TcCoe FoxBwd

variable (m : (ℓ : Loc nD τ sig) → Buf (Elt Ideal) ℓ) (c : Dev nD)

theorem idx : ∀ t : Fin cfg0.N, win0_0.index t (0 : Fin 3) = 0 ∧ win0_0.index t (1 : Fin 3) = win0_1.index t (0 : Fin 2)
    ∧ win0_0.index t (2 : Fin 3) = win0_1.index t (1 : Fin 2) :=
  (by decide +kernel : ∀ t : Fin grid0.N, _)

theorem array_is : (dats m 0 c).arrAt 1 cfg0.N = total (m (c.tc.loc main_arg0)) := by
  refine (dats m 0 c).arrAt_eq_of_covers 1 _ (by decide +kernel) fun t hf y => ?_
  obtain ⟨h0, h1, h2⟩ := idx t
  blk_simp
  rw [after0_1]
  frame_out
  refine Eq.trans ?_ (total_tile (m (c.tc.loc main_arg0)) ((cfg0.win 0).blk t).view.emb ((cfg0.win 1).blk t).view.emb
    (fun _ => rfl) (fun _ => rfl) (fun _ => rfl) (fun _ => rfl) (fun _ => rfl) h0 h1 h2 y)
  rw [Products.eta2 y]
  unfold total k0_pay1
  rw [Fin.sum_univ_eight]
  pointwise
  rfl

theorem value : Cert.algebraic_SumQkvIdeal_SumQkvRefIdeal := fun m g m' g' _ hm =>
  ⟨fun c => (dats m 0 c).arrAt 1 cfg0.N, run_blocks m g, (θ_run Cert.SumQkvRefIdeal.defs _ _).mono
    (fun _ h c => ⟨(h c).1.trans ((ref_total _ _ _).trans ((congrArg total (hm c)).trans (array_is m c).symm)), (h c).2⟩)
    (Cert.SumQkvRefIdeal.Value.run (F := Ideal) m' g')⟩

end Sums.Qkv
-- ==== Proof.SumO.lean ====
/-
  The sum of the eight devices' gradients of the output projection (`sum_grad_shard_1`), tile by tile.
-/
module

public import proofs.«01_k».proof.Proof.Sum
public import proofs.«01_k».proof.Proof.Gen.SumOIdeal.Value
public import proofs.«01_k».proof.Proof.Gen.SumORefIdeal.Run
public import proofs.«01_k».proof.Defs

@[expose] public section

set_option maxRecDepth 16384

namespace Sums.O

open Idealize.ShloMosaic Idealize.SL.Sem Cert.SumOIdeal Cert.SumOIdeal.Gen Cert.SumOIdeal.Value Idealize.ShloMosaic.TcCoe FoxBwd

variable (m : (ℓ : Loc nD τ sig) → Buf (Elt Ideal) ℓ) (c : Dev nD)

theorem idx : ∀ t : Fin cfg0.N, win0_0.index t (0 : Fin 3) = 0 ∧ win0_0.index t (1 : Fin 3) = win0_1.index t (0 : Fin 2)
    ∧ win0_0.index t (2 : Fin 3) = win0_1.index t (1 : Fin 2) :=
  (by decide +kernel : ∀ t : Fin grid0.N, _)

theorem array_is : (dats m 0 c).arrAt 1 cfg0.N = total (m (c.tc.loc main_arg0)) := by
  refine (dats m 0 c).arrAt_eq_of_covers 1 _ (by decide +kernel) fun t hf y => ?_
  obtain ⟨h0, h1, h2⟩ := idx t
  blk_simp
  rw [after0_1]
  frame_out
  refine Eq.trans ?_ (total_tile (m (c.tc.loc main_arg0)) ((cfg0.win 0).blk t).view.emb ((cfg0.win 1).blk t).view.emb
    (fun _ => rfl) (fun _ => rfl) (fun _ => rfl) (fun _ => rfl) (fun _ => rfl) h0 h1 h2 y)
  rw [Products.eta2 y]
  unfold total k0_pay1
  rw [Fin.sum_univ_eight]
  pointwise
  rfl

theorem value : Cert.algebraic_SumOIdeal_SumORefIdeal := fun m g m' g' _ hm =>
  ⟨fun c => (dats m 0 c).arrAt 1 cfg0.N, run_blocks m g, (θ_run Cert.SumORefIdeal.defs _ _).mono
    (fun _ h c => ⟨(h c).1.trans ((ref_total _ _ _).trans ((congrArg total (hm c)).trans (array_is m c).symm)), (h c).2⟩)
    (Cert.SumORefIdeal.Value.run (F := Ideal) m' g')⟩

end Sums.O
-- ==== Proof.SumUp.lean ====
/-
  The sum of the eight devices' gradients of the products up (`sum_grad_shard_2`, `sum_grad_shard_3`), tile by tile.
-/
module

public import proofs.«01_k».proof.Proof.Sum
public import proofs.«01_k».proof.Proof.Gen.SumUpIdeal.Value
public import proofs.«01_k».proof.Proof.Gen.SumUpRefIdeal.Run
public import proofs.«01_k».proof.Defs

@[expose] public section

set_option maxRecDepth 16384

namespace Sums.Up

open Idealize.ShloMosaic Idealize.SL.Sem Cert.SumUpIdeal Cert.SumUpIdeal.Gen Cert.SumUpIdeal.Value Idealize.ShloMosaic.TcCoe FoxBwd

variable (m : (ℓ : Loc nD τ sig) → Buf (Elt Ideal) ℓ) (c : Dev nD)

theorem idx : ∀ t : Fin cfg0.N, win0_0.index t (0 : Fin 3) = 0 ∧ win0_0.index t (1 : Fin 3) = win0_1.index t (0 : Fin 2)
    ∧ win0_0.index t (2 : Fin 3) = win0_1.index t (1 : Fin 2) :=
  (by decide +kernel : ∀ t : Fin grid0.N, _)

theorem array_is : (dats m 0 c).arrAt 1 cfg0.N = total (m (c.tc.loc main_arg0)) := by
  refine (dats m 0 c).arrAt_eq_of_covers 1 _ (by decide +kernel) fun t hf y => ?_
  obtain ⟨h0, h1, h2⟩ := idx t
  blk_simp
  rw [after0_1]
  frame_out
  refine Eq.trans ?_ (total_tile (m (c.tc.loc main_arg0)) ((cfg0.win 0).blk t).view.emb ((cfg0.win 1).blk t).view.emb
    (fun _ => rfl) (fun _ => rfl) (fun _ => rfl) (fun _ => rfl) (fun _ => rfl) h0 h1 h2 y)
  rw [Products.eta2 y]
  unfold total k0_pay1
  rw [Fin.sum_univ_eight]
  pointwise
  rfl

theorem value : Cert.algebraic_SumUpIdeal_SumUpRefIdeal := fun m g m' g' _ hm =>
  ⟨fun c => (dats m 0 c).arrAt 1 cfg0.N, run_blocks m g, (θ_run Cert.SumUpRefIdeal.defs _ _).mono
    (fun _ h c => ⟨(h c).1.trans ((ref_total _ _ _).trans ((congrArg total (hm c)).trans (array_is m c).symm)), (h c).2⟩)
    (Cert.SumUpRefIdeal.Value.run (F := Ideal) m' g')⟩

end Sums.Up
-- ==== Proof.SumDown.lean ====
/-
  The sum of the eight devices' gradients of the product down (`sum_grad_shard_4`), tile by tile.
-/
module

public import proofs.«01_k».proof.Proof.Sum
public import proofs.«01_k».proof.Proof.Gen.SumDownIdeal.Value
public import proofs.«01_k».proof.Proof.Gen.SumDownRefIdeal.Run
public import proofs.«01_k».proof.Defs

@[expose] public section

set_option maxRecDepth 16384

namespace Sums.Down

open Idealize.ShloMosaic Idealize.SL.Sem Cert.SumDownIdeal Cert.SumDownIdeal.Gen Cert.SumDownIdeal.Value Idealize.ShloMosaic.TcCoe FoxBwd

variable (m : (ℓ : Loc nD τ sig) → Buf (Elt Ideal) ℓ) (c : Dev nD)

theorem idx : ∀ t : Fin cfg0.N, win0_0.index t (0 : Fin 3) = 0 ∧ win0_0.index t (1 : Fin 3) = win0_1.index t (0 : Fin 2)
    ∧ win0_0.index t (2 : Fin 3) = win0_1.index t (1 : Fin 2) :=
  (by decide +kernel : ∀ t : Fin grid0.N, _)

theorem array_is : (dats m 0 c).arrAt 1 cfg0.N = total (m (c.tc.loc main_arg0)) := by
  refine (dats m 0 c).arrAt_eq_of_covers 1 _ (by decide +kernel) fun t hf y => ?_
  obtain ⟨h0, h1, h2⟩ := idx t
  blk_simp
  rw [after0_1]
  frame_out
  refine Eq.trans ?_ (total_tile (m (c.tc.loc main_arg0)) ((cfg0.win 0).blk t).view.emb ((cfg0.win 1).blk t).view.emb
    (fun _ => rfl) (fun _ => rfl) (fun _ => rfl) (fun _ => rfl) (fun _ => rfl) h0 h1 h2 y)
  rw [Products.eta2 y]
  unfold total k0_pay1
  rw [Fin.sum_univ_eight]
  pointwise
  rfl

theorem value : Cert.algebraic_SumDownIdeal_SumDownRefIdeal := fun m g m' g' _ hm =>
  ⟨fun c => (dats m 0 c).arrAt 1 cfg0.N, run_blocks m g, (θ_run Cert.SumDownRefIdeal.defs _ _).mono
    (fun _ h c => ⟨(h c).1.trans ((ref_total _ _ _).trans ((congrArg total (hm c)).trans (array_is m c).symm)), (h c).2⟩)
    (Cert.SumDownRefIdeal.Value.run (F := Ideal) m' g')⟩

end Sums.Down
-- ==== Proof.SumSmall.lean ====
/-
  The sum of the eight devices' gradients of the small weights (`sum_small_grads`), tile by tile.
-/
module

public import proofs.«01_k».proof.Proof.Sum
public import proofs.«01_k».proof.Proof.Gen.SumSmallIdeal.Value
public import proofs.«01_k».proof.Proof.Gen.SumSmallRefIdeal.Run
public import proofs.«01_k».proof.Defs

@[expose] public section

set_option maxRecDepth 16384

namespace Sums.Small

open Idealize.ShloMosaic Idealize.SL.Sem Cert.SumSmallIdeal Cert.SumSmallIdeal.Gen Cert.SumSmallIdeal.Value Idealize.ShloMosaic.TcCoe FoxBwd

variable (m : (ℓ : Loc nD τ sig) → Buf (Elt Ideal) ℓ) (c : Dev nD)

theorem idx : ∀ t : Fin cfg0.N, win0_0.index t (0 : Fin 3) = 0 ∧ win0_0.index t (1 : Fin 3) = win0_1.index t (0 : Fin 2)
    ∧ win0_0.index t (2 : Fin 3) = win0_1.index t (1 : Fin 2) :=
  (by decide +kernel : ∀ t : Fin grid0.N, _)

theorem array_is : (dats m 0 c).arrAt 1 cfg0.N = total (m (c.tc.loc main_arg0)) := by
  refine (dats m 0 c).arrAt_eq_of_covers 1 _ (by decide +kernel) fun t hf y => ?_
  obtain ⟨h0, h1, h2⟩ := idx t
  blk_simp
  rw [after0_1]
  frame_out
  refine Eq.trans ?_ (total_tile (m (c.tc.loc main_arg0)) ((cfg0.win 0).blk t).view.emb ((cfg0.win 1).blk t).view.emb
    (fun _ => rfl) (fun _ => rfl) (fun _ => rfl) (fun _ => rfl) (fun _ => rfl) h0 h1 h2 y)
  rw [Products.eta2 y]
  unfold total k0_pay1
  rw [Fin.sum_univ_eight]
  pointwise
  rfl

theorem value : Cert.algebraic_SumSmallIdeal_SumSmallRefIdeal := fun m g m' g' _ hm =>
  ⟨fun c => (dats m 0 c).arrAt 1 cfg0.N, run_blocks m g, (θ_run Cert.SumSmallRefIdeal.defs _ _).mono
    (fun _ h c => ⟨(h c).1.trans ((ref_total _ _ _).trans ((congrArg total (hm c)).trans (array_is m c).symm)), (h c).2⟩)
    (Cert.SumSmallRefIdeal.Value.run (F := Ideal) m' g')⟩

end Sums.Small
-- ==== Proof.lean ====
module

public import proofs.«01_k».proof.Defs
public import proofs.«01_k».proof.Proof.Frames
public import proofs.«01_k».proof.Proof.Final
public import proofs.«01_k».proof.Proof.Finite
public import proofs.«01_k».proof.Proof.Gen.KernelIdeal.Value
public import proofs.«01_k».proof.Proof.UpDx
public import proofs.«01_k».proof.Proof.Gen.UpDx
public import proofs.«01_k».proof.Proof.Gen.UpDx.Frame
public import proofs.«01_k».proof.Proof.Gen.UpDxIdeal.Frame
public import proofs.«01_k».proof.Proof.Gen.UpDxIdeal.Value
public import proofs.«01_k».proof.Proof.Gen.UpDxRefIdeal
public import proofs.«01_k».proof.Proof.Gen.UpDxRefIdeal.Run
public import proofs.«01_k».proof.Proof.UpDw
public import proofs.«01_k».proof.Proof.Gen.UpDw
public import proofs.«01_k».proof.Proof.Gen.UpDw.Frame
public import proofs.«01_k».proof.Proof.Gen.UpDwIdeal.Frame
public import proofs.«01_k».proof.Proof.Gen.UpDwIdeal.Value
public import proofs.«01_k».proof.Proof.Gen.UpDwRefIdeal
public import proofs.«01_k».proof.Proof.Gen.UpDwRefIdeal.Run
public import proofs.«01_k».proof.Proof.DownDx
public import proofs.«01_k».proof.Proof.Gen.DownDx
public import proofs.«01_k».proof.Proof.Gen.DownDx.Frame
public import proofs.«01_k».proof.Proof.Gen.DownDxIdeal.Frame
public import proofs.«01_k».proof.Proof.Gen.DownDxIdeal.Value
public import proofs.«01_k».proof.Proof.Gen.DownDxRefIdeal
public import proofs.«01_k».proof.Proof.Gen.DownDxRefIdeal.Run
public import proofs.«01_k».proof.Proof.DownDw
public import proofs.«01_k».proof.Proof.Gen.DownDw
public import proofs.«01_k».proof.Proof.Gen.DownDw.Frame
public import proofs.«01_k».proof.Proof.Gen.DownDwIdeal.Frame
public import proofs.«01_k».proof.Proof.Gen.DownDwIdeal.Value
public import proofs.«01_k».proof.Proof.Gen.DownDwRefIdeal
public import proofs.«01_k».proof.Proof.Gen.DownDwRefIdeal.Run
public import proofs.«01_k».proof.Proof.QkvDx
public import proofs.«01_k».proof.Proof.Gen.QkvDx
public import proofs.«01_k».proof.Proof.Gen.QkvDx.Frame
public import proofs.«01_k».proof.Proof.Gen.QkvDxIdeal.Frame
public import proofs.«01_k».proof.Proof.Gen.QkvDxIdeal.Value
public import proofs.«01_k».proof.Proof.Gen.QkvDxRefIdeal
public import proofs.«01_k».proof.Proof.Gen.QkvDxRefIdeal.Run
public import proofs.«01_k».proof.Proof.QkvDw
public import proofs.«01_k».proof.Proof.Gen.QkvDw
public import proofs.«01_k».proof.Proof.Gen.QkvDw.Frame
public import proofs.«01_k».proof.Proof.Gen.QkvDwIdeal.Frame
public import proofs.«01_k».proof.Proof.Gen.QkvDwIdeal.Value
public import proofs.«01_k».proof.Proof.Gen.QkvDwRefIdeal
public import proofs.«01_k».proof.Proof.Gen.QkvDwRefIdeal.Run
public import proofs.«01_k».proof.Proof.Up
public import proofs.«01_k».proof.Proof.Gen.Up
public import proofs.«01_k».proof.Proof.Gen.Up.Frame
public import proofs.«01_k».proof.Proof.Gen.UpIdeal.Frame
public import proofs.«01_k».proof.Proof.Gen.UpIdeal.Value
public import proofs.«01_k».proof.Proof.Gen.UpRefIdeal
public import proofs.«01_k».proof.Proof.Gen.UpRefIdeal.Run
public import proofs.«01_k».proof.Proof.Down
public import proofs.«01_k».proof.Proof.Gen.Down
public import proofs.«01_k».proof.Proof.Gen.Down.Frame
public import proofs.«01_k».proof.Proof.Gen.DownIdeal.Frame
public import proofs.«01_k».proof.Proof.Gen.DownIdeal.Value
public import proofs.«01_k».proof.Proof.Gen.DownRefIdeal
public import proofs.«01_k».proof.Proof.Gen.DownRefIdeal.Run
public import proofs.«01_k».proof.Proof.Qkv
public import proofs.«01_k».proof.Proof.Gen.Qkv
public import proofs.«01_k».proof.Proof.Gen.Qkv.Frame
public import proofs.«01_k».proof.Proof.Gen.QkvIdeal.Frame
public import proofs.«01_k».proof.Proof.Gen.QkvIdeal.Value
public import proofs.«01_k».proof.Proof.Gen.QkvRefIdeal
public import proofs.«01_k».proof.Proof.Gen.QkvRefIdeal.Run
public import proofs.«01_k».proof.Proof.OutProj
public import proofs.«01_k».proof.Proof.Gen.OutProj
public import proofs.«01_k».proof.Proof.Gen.OutProj.Frame
public import proofs.«01_k».proof.Proof.Gen.OutProjIdeal.Frame
public import proofs.«01_k».proof.Proof.Gen.OutProjIdeal.Value
public import proofs.«01_k».proof.Proof.Gen.OutProjRefIdeal
public import proofs.«01_k».proof.Proof.Gen.OutProjRefIdeal.Run
public import proofs.«01_k».proof.Proof.OutProjDx
public import proofs.«01_k».proof.Proof.Gen.OutProjDx
public import proofs.«01_k».proof.Proof.Gen.OutProjDx.Frame
public import proofs.«01_k».proof.Proof.Gen.OutProjDxIdeal.Frame
public import proofs.«01_k».proof.Proof.Gen.OutProjDxIdeal.Value
public import proofs.«01_k».proof.Proof.Gen.OutProjDxRefIdeal
public import proofs.«01_k».proof.Proof.Gen.OutProjDxRefIdeal.Run
public import proofs.«01_k».proof.Proof.OutProjDw
public import proofs.«01_k».proof.Proof.Gen.OutProjDw
public import proofs.«01_k».proof.Proof.Gen.OutProjDw.Frame
public import proofs.«01_k».proof.Proof.Gen.OutProjDwIdeal.Frame
public import proofs.«01_k».proof.Proof.Gen.OutProjDwIdeal.Value
public import proofs.«01_k».proof.Proof.Gen.OutProjDwRefIdeal
public import proofs.«01_k».proof.Proof.Gen.OutProjDwRefIdeal.Run
public import proofs.«01_k».proof.Proof.AdamMod
public import proofs.«01_k».proof.Proof.Gen.AdamMod
public import proofs.«01_k».proof.Proof.Gen.AdamMod.Frame
public import proofs.«01_k».proof.Proof.Gen.AdamModIdeal.Frame
public import proofs.«01_k».proof.Proof.Gen.AdamModIdeal.Value
public import proofs.«01_k».proof.Proof.Gen.AdamModRefIdeal
public import proofs.«01_k».proof.Proof.Gen.AdamModRefIdeal.Run
public import proofs.«01_k».proof.Proof.AdamModBias
public import proofs.«01_k».proof.Proof.Gen.AdamModBias
public import proofs.«01_k».proof.Proof.Gen.AdamModBias.Frame
public import proofs.«01_k».proof.Proof.Gen.AdamModBiasIdeal.Frame
public import proofs.«01_k».proof.Proof.Gen.AdamModBiasIdeal.Value
public import proofs.«01_k».proof.Proof.Gen.AdamModBiasRefIdeal
public import proofs.«01_k».proof.Proof.Gen.AdamModBiasRefIdeal.Run
public import proofs.«01_k».proof.Proof.AdamNorm
public import proofs.«01_k».proof.Proof.Gen.AdamNorm
public import proofs.«01_k».proof.Proof.Gen.AdamNorm.Frame
public import proofs.«01_k».proof.Proof.Gen.AdamNormIdeal.Frame
public import proofs.«01_k».proof.Proof.Gen.AdamNormIdeal.Value
public import proofs.«01_k».proof.Proof.Gen.AdamNormRefIdeal
public import proofs.«01_k».proof.Proof.Gen.AdamNormRefIdeal.Run
public import proofs.«01_k».proof.Proof.AdamQkv
public import proofs.«01_k».proof.Proof.Gen.AdamQkv
public import proofs.«01_k».proof.Proof.Gen.AdamQkv.Frame
public import proofs.«01_k».proof.Proof.Gen.AdamQkvIdeal.Frame
public import proofs.«01_k».proof.Proof.Gen.AdamQkvIdeal.Value
public import proofs.«01_k».proof.Proof.Gen.AdamQkvRefIdeal
public import proofs.«01_k».proof.Proof.Gen.AdamQkvRefIdeal.Run
public import proofs.«01_k».proof.Proof.AdamO
public import proofs.«01_k».proof.Proof.Gen.AdamO
public import proofs.«01_k».proof.Proof.Gen.AdamO.Frame
public import proofs.«01_k».proof.Proof.Gen.AdamOIdeal.Frame
public import proofs.«01_k».proof.Proof.Gen.AdamOIdeal.Value
public import proofs.«01_k».proof.Proof.Gen.AdamORefIdeal
public import proofs.«01_k».proof.Proof.Gen.AdamORefIdeal.Run
public import proofs.«01_k».proof.Proof.AdamForget
public import proofs.«01_k».proof.Proof.Gen.AdamForget
public import proofs.«01_k».proof.Proof.Gen.AdamForget.Frame
public import proofs.«01_k».proof.Proof.Gen.AdamForgetIdeal.Frame
public import proofs.«01_k».proof.Proof.Gen.AdamForgetIdeal.Value
public import proofs.«01_k».proof.Proof.Gen.AdamForgetRefIdeal
public import proofs.«01_k».proof.Proof.Gen.AdamForgetRefIdeal.Run
public import proofs.«01_k».proof.Proof.AdamForgetBias
public import proofs.«01_k».proof.Proof.Gen.AdamForgetBias
public import proofs.«01_k».proof.Proof.Gen.AdamForgetBias.Frame
public import proofs.«01_k».proof.Proof.Gen.AdamForgetBiasIdeal.Frame
public import proofs.«01_k».proof.Proof.Gen.AdamForgetBiasIdeal.Value
public import proofs.«01_k».proof.Proof.Gen.AdamForgetBiasRefIdeal
public import proofs.«01_k».proof.Proof.Gen.AdamForgetBiasRefIdeal.Run
public import proofs.«01_k».proof.Proof.AdamUp
public import proofs.«01_k».proof.Proof.Gen.AdamUp
public import proofs.«01_k».proof.Proof.Gen.AdamUp.Frame
public import proofs.«01_k».proof.Proof.Gen.AdamUpIdeal.Frame
public import proofs.«01_k».proof.Proof.Gen.AdamUpIdeal.Value
public import proofs.«01_k».proof.Proof.Gen.AdamUpRefIdeal
public import proofs.«01_k».proof.Proof.Gen.AdamUpRefIdeal.Run
public import proofs.«01_k».proof.Proof.AdamConv
public import proofs.«01_k».proof.Proof.Gen.AdamConv
public import proofs.«01_k».proof.Proof.Gen.AdamConv.Frame
public import proofs.«01_k».proof.Proof.Gen.AdamConvIdeal.Frame
public import proofs.«01_k».proof.Proof.Gen.AdamConvIdeal.Value
public import proofs.«01_k».proof.Proof.Gen.AdamConvRefIdeal
public import proofs.«01_k».proof.Proof.Gen.AdamConvRefIdeal.Run
public import proofs.«01_k».proof.Proof.AdamConvBias
public import proofs.«01_k».proof.Proof.Gen.AdamConvBias
public import proofs.«01_k».proof.Proof.Gen.AdamConvBias.Frame
public import proofs.«01_k».proof.Proof.Gen.AdamConvBiasIdeal.Frame
public import proofs.«01_k».proof.Proof.Gen.AdamConvBiasIdeal.Value
public import proofs.«01_k».proof.Proof.Gen.AdamConvBiasRefIdeal
public import proofs.«01_k».proof.Proof.Gen.AdamConvBiasRefIdeal.Run
public import proofs.«01_k».proof.Proof.AdamDown
public import proofs.«01_k».proof.Proof.Gen.AdamDown
public import proofs.«01_k».proof.Proof.Gen.AdamDown.Frame
public import proofs.«01_k».proof.Proof.Gen.AdamDownIdeal.Frame
public import proofs.«01_k».proof.Proof.Gen.AdamDownIdeal.Value
public import proofs.«01_k».proof.Proof.Gen.AdamDownRefIdeal
public import proofs.«01_k».proof.Proof.Gen.AdamDownRefIdeal.Run
public import proofs.«01_k».proof.Proof.ModDw
public import proofs.«01_k».proof.Proof.Gen.ModDw
public import proofs.«01_k».proof.Proof.Gen.ModDw.Frame
public import proofs.«01_k».proof.Proof.Gen.ModDwIdeal.Frame
public import proofs.«01_k».proof.Proof.Gen.ModDwIdeal.Value
public import proofs.«01_k».proof.Proof.Gen.ModDwRefIdeal
public import proofs.«01_k».proof.Proof.Gen.ModDwRefIdeal.Run
public import proofs.«01_k».proof.Proof.SumQkv
public import proofs.«01_k».proof.Proof.Gen.SumQkv
public import proofs.«01_k».proof.Proof.Gen.SumQkv.Frame
public import proofs.«01_k».proof.Proof.Gen.SumQkvIdeal.Frame
public import proofs.«01_k».proof.Proof.Gen.SumQkvIdeal.Value
public import proofs.«01_k».proof.Proof.Gen.SumQkvRefIdeal
public import proofs.«01_k».proof.Proof.Gen.SumQkvRefIdeal.Run
public import proofs.«01_k».proof.Proof.SumO
public import proofs.«01_k».proof.Proof.Gen.SumO
public import proofs.«01_k».proof.Proof.Gen.SumO.Frame
public import proofs.«01_k».proof.Proof.Gen.SumOIdeal.Frame
public import proofs.«01_k».proof.Proof.Gen.SumOIdeal.Value
public import proofs.«01_k».proof.Proof.Gen.SumORefIdeal
public import proofs.«01_k».proof.Proof.Gen.SumORefIdeal.Run
public import proofs.«01_k».proof.Proof.SumUp
public import proofs.«01_k».proof.Proof.Gen.SumUp
public import proofs.«01_k».proof.Proof.Gen.SumUp.Frame
public import proofs.«01_k».proof.Proof.Gen.SumUpIdeal.Frame
public import proofs.«01_k».proof.Proof.Gen.SumUpIdeal.Value
public import proofs.«01_k».proof.Proof.Gen.SumUpRefIdeal
public import proofs.«01_k».proof.Proof.Gen.SumUpRefIdeal.Run
public import proofs.«01_k».proof.Proof.SumDown
public import proofs.«01_k».proof.Proof.Gen.SumDown
public import proofs.«01_k».proof.Proof.Gen.SumDown.Frame
public import proofs.«01_k».proof.Proof.Gen.SumDownIdeal.Frame
public import proofs.«01_k».proof.Proof.Gen.SumDownIdeal.Value
public import proofs.«01_k».proof.Proof.Gen.SumDownRefIdeal
public import proofs.«01_k».proof.Proof.Gen.SumDownRefIdeal.Run
public import proofs.«01_k».proof.Proof.SumSmall
public import proofs.«01_k».proof.Proof.Gen.SumSmall
public import proofs.«01_k».proof.Proof.Gen.SumSmall.Frame
public import proofs.«01_k».proof.Proof.Gen.SumSmallIdeal.Frame
public import proofs.«01_k».proof.Proof.Gen.SumSmallIdeal.Value
public import proofs.«01_k».proof.Proof.Gen.SumSmallRefIdeal
public import proofs.«01_k».proof.Proof.Gen.SumSmallRefIdeal.Run
public import Idealize.ShloMosaic.Adequacy
public import Idealize.ShloMosaic.Init

@[expose] public section

noncomputable section

namespace Cert.Proof

open Idealize.ShloMosaic Idealize.SL.Sem

/-- On finite arguments the kernel's results are the reference's. -/
theorem value [Cert.Pre_finite.Facts] : Cert.algebraic_KernelIdeal_ReferenceIdeal_pre_finite := by
  intro m g m' g' hp hm
  refine ⟨fun c => Cert.KernelIdeal.Value.G8 m c, fun c => Cert.KernelIdeal.Value.G9 m c, fun c => Cert.KernelIdeal.Value.G10 m c,
    fun c => Cert.KernelIdeal.Value.G11 m c, fun c => Cert.KernelIdeal.Value.G12 m c, Cert.KernelIdeal.Value.run m g, ?_⟩
  refine (θ_run Cert.ReferenceIdeal.defs _ _).mono (fun r h c => ?_) (Cert.ReferenceIdeal.Value.run (F := Ideal) m' g')
  obtain ⟨h0, h1, h2, h3, h4, ha⟩ := h c
  have R := FoxBwd.realArgs _ _ _ (hp c)
  obtain ⟨e0, e1, e2⟩ := hm c
  refine ⟨h0.trans ?_, h1.trans ?_, h2.trans ?_, h3.trans ?_, h4.trans ?_, ha⟩
  · exact (FoxBwd.res97_is m' c).trans ((FoxBwd.args_congr FoxBwd.resQ e0 e1 e2).trans (FoxBwd.G8_is m c R).symm)
  · exact (FoxBwd.res98_is m' c).trans ((FoxBwd.args_congr FoxBwd.resK e0 e1 e2).trans (FoxBwd.G9_is m c R).symm)
  · exact (FoxBwd.res99_is m' c).trans ((FoxBwd.args_congr FoxBwd.resV e0 e1 e2).trans (FoxBwd.G10_is m c R).symm)
  · exact (FoxBwd.res102_is m' c).trans ((FoxBwd.args_congr FoxBwd.resCq e0 e1 e2).trans (FoxBwd.G11_is m c R).symm)
  · exact (FoxBwd.res104_is m' c).trans ((FoxBwd.args_congr FoxBwd.resCk e0 e1 e2).trans (FoxBwd.G12_is m c R).symm)

/-- The reference of `UpDx`, at extended reals. -/
theorem frame_UpDxRef : Cert.quiescent_UpDxRefIdeal := fun m ρ _ =>
  (θ_run Cert.UpDxRefIdeal.defs _ _).mono (fun r h => ⟨fun c => (h c).2, sem_eq_zero_of_no_sems (by decide) r.2⟩)
    (Cert.UpDxRefIdeal.Value.run (F := Ideal) m ρ)

/-- The reference of `UpDw`, at extended reals. -/
theorem frame_UpDwRef : Cert.quiescent_UpDwRefIdeal := fun m ρ _ =>
  (θ_run Cert.UpDwRefIdeal.defs _ _).mono (fun r h => ⟨fun c => (h c).2, sem_eq_zero_of_no_sems (by decide) r.2⟩)
    (Cert.UpDwRefIdeal.Value.run (F := Ideal) m ρ)

/-- The reference of `DownDx`, at extended reals. -/
theorem frame_DownDxRef : Cert.quiescent_DownDxRefIdeal := fun m ρ _ =>
  (θ_run Cert.DownDxRefIdeal.defs _ _).mono (fun r h => ⟨fun c => (h c).2, sem_eq_zero_of_no_sems (by decide) r.2⟩)
    (Cert.DownDxRefIdeal.Value.run (F := Ideal) m ρ)

/-- The reference of `DownDw`, at extended reals. -/
theorem frame_DownDwRef : Cert.quiescent_DownDwRefIdeal := fun m ρ _ =>
  (θ_run Cert.DownDwRefIdeal.defs _ _).mono (fun r h => ⟨fun c => (h c).2, sem_eq_zero_of_no_sems (by decide) r.2⟩)
    (Cert.DownDwRefIdeal.Value.run (F := Ideal) m ρ)

/-- The reference of `QkvDx`, at extended reals. -/
theorem frame_QkvDxRef : Cert.quiescent_QkvDxRefIdeal := fun m ρ _ =>
  (θ_run Cert.QkvDxRefIdeal.defs _ _).mono (fun r h => ⟨fun c => (h c).2, sem_eq_zero_of_no_sems (by decide) r.2⟩)
    (Cert.QkvDxRefIdeal.Value.run (F := Ideal) m ρ)

/-- The reference of `QkvDw`, at extended reals. -/
theorem frame_QkvDwRef : Cert.quiescent_QkvDwRefIdeal := fun m ρ _ =>
  (θ_run Cert.QkvDwRefIdeal.defs _ _).mono (fun r h => ⟨fun c => (h c).2, sem_eq_zero_of_no_sems (by decide) r.2⟩)
    (Cert.QkvDwRefIdeal.Value.run (F := Ideal) m ρ)

/-- The reference of `Up`, at extended reals. -/
theorem frame_UpRef : Cert.quiescent_UpRefIdeal := fun m ρ _ =>
  (θ_run Cert.UpRefIdeal.defs _ _).mono (fun r h => ⟨fun c => (h c).2, sem_eq_zero_of_no_sems (by decide) r.2⟩)
    (Cert.UpRefIdeal.Value.run (F := Ideal) m ρ)

/-- The reference of `Down`, at extended reals. -/
theorem frame_DownRef : Cert.quiescent_DownRefIdeal := fun m ρ _ =>
  (θ_run Cert.DownRefIdeal.defs _ _).mono (fun r h => ⟨fun c => (h c).2, sem_eq_zero_of_no_sems (by decide) r.2⟩)
    (Cert.DownRefIdeal.Value.run (F := Ideal) m ρ)

/-- The reference of `Qkv`, at extended reals. -/
theorem frame_QkvRef : Cert.quiescent_QkvRefIdeal := fun m ρ _ =>
  (θ_run Cert.QkvRefIdeal.defs _ _).mono (fun r h => ⟨fun c => (h c).2, sem_eq_zero_of_no_sems (by decide) r.2⟩)
    (Cert.QkvRefIdeal.Value.run (F := Ideal) m ρ)

/-- The reference of `OutProj`, at extended reals. -/
theorem frame_OutProjRef : Cert.quiescent_OutProjRefIdeal := fun m ρ _ =>
  (θ_run Cert.OutProjRefIdeal.defs _ _).mono (fun r h => ⟨fun c => (h c).2, sem_eq_zero_of_no_sems (by decide) r.2⟩)
    (Cert.OutProjRefIdeal.Value.run (F := Ideal) m ρ)

/-- The reference of `OutProjDx`, at extended reals. -/
theorem frame_OutProjDxRef : Cert.quiescent_OutProjDxRefIdeal := fun m ρ _ =>
  (θ_run Cert.OutProjDxRefIdeal.defs _ _).mono (fun r h => ⟨fun c => (h c).2, sem_eq_zero_of_no_sems (by decide) r.2⟩)
    (Cert.OutProjDxRefIdeal.Value.run (F := Ideal) m ρ)

/-- The reference of `OutProjDw`, at extended reals. -/
theorem frame_OutProjDwRef : Cert.quiescent_OutProjDwRefIdeal := fun m ρ _ =>
  (θ_run Cert.OutProjDwRefIdeal.defs _ _).mono (fun r h => ⟨fun c => (h c).2, sem_eq_zero_of_no_sems (by decide) r.2⟩)
    (Cert.OutProjDwRefIdeal.Value.run (F := Ideal) m ρ)

/-- The reference of `AdamMod`, at extended reals. -/
theorem frame_AdamModRef : Cert.quiescent_AdamModRefIdeal := fun m ρ _ =>
  (θ_run Cert.AdamModRefIdeal.defs _ _).mono (fun r h => ⟨fun c => (h c).2.2.2, sem_eq_zero_of_no_sems (by decide) r.2⟩)
    (Cert.AdamModRefIdeal.Value.run (F := Ideal) m ρ)

/-- The reference of `AdamModBias`, at extended reals. -/
theorem frame_AdamModBiasRef : Cert.quiescent_AdamModBiasRefIdeal := fun m ρ _ =>
  (θ_run Cert.AdamModBiasRefIdeal.defs _ _).mono (fun r h => ⟨fun c => (h c).2.2.2, sem_eq_zero_of_no_sems (by decide) r.2⟩)
    (Cert.AdamModBiasRefIdeal.Value.run (F := Ideal) m ρ)

/-- The reference of `AdamNorm`, at extended reals. -/
theorem frame_AdamNormRef : Cert.quiescent_AdamNormRefIdeal := fun m ρ _ =>
  (θ_run Cert.AdamNormRefIdeal.defs _ _).mono (fun r h => ⟨fun c => (h c).2.2.2, sem_eq_zero_of_no_sems (by decide) r.2⟩)
    (Cert.AdamNormRefIdeal.Value.run (F := Ideal) m ρ)

/-- The reference of `AdamQkv`, at extended reals. -/
theorem frame_AdamQkvRef : Cert.quiescent_AdamQkvRefIdeal := fun m ρ _ =>
  (θ_run Cert.AdamQkvRefIdeal.defs _ _).mono (fun r h => ⟨fun c => (h c).2.2.2, sem_eq_zero_of_no_sems (by decide) r.2⟩)
    (Cert.AdamQkvRefIdeal.Value.run (F := Ideal) m ρ)

/-- The reference of `AdamO`, at extended reals. -/
theorem frame_AdamORef : Cert.quiescent_AdamORefIdeal := fun m ρ _ =>
  (θ_run Cert.AdamORefIdeal.defs _ _).mono (fun r h => ⟨fun c => (h c).2.2.2, sem_eq_zero_of_no_sems (by decide) r.2⟩)
    (Cert.AdamORefIdeal.Value.run (F := Ideal) m ρ)

/-- The reference of `AdamForget`, at extended reals. -/
theorem frame_AdamForgetRef : Cert.quiescent_AdamForgetRefIdeal := fun m ρ _ =>
  (θ_run Cert.AdamForgetRefIdeal.defs _ _).mono (fun r h => ⟨fun c => (h c).2.2.2, sem_eq_zero_of_no_sems (by decide) r.2⟩)
    (Cert.AdamForgetRefIdeal.Value.run (F := Ideal) m ρ)

/-- The reference of `AdamForgetBias`, at extended reals. -/
theorem frame_AdamForgetBiasRef : Cert.quiescent_AdamForgetBiasRefIdeal := fun m ρ _ =>
  (θ_run Cert.AdamForgetBiasRefIdeal.defs _ _).mono (fun r h => ⟨fun c => (h c).2.2.2, sem_eq_zero_of_no_sems (by decide) r.2⟩)
    (Cert.AdamForgetBiasRefIdeal.Value.run (F := Ideal) m ρ)

/-- The reference of `AdamUp`, at extended reals. -/
theorem frame_AdamUpRef : Cert.quiescent_AdamUpRefIdeal := fun m ρ _ =>
  (θ_run Cert.AdamUpRefIdeal.defs _ _).mono (fun r h => ⟨fun c => (h c).2.2.2, sem_eq_zero_of_no_sems (by decide) r.2⟩)
    (Cert.AdamUpRefIdeal.Value.run (F := Ideal) m ρ)

/-- The reference of `AdamConv`, at extended reals. -/
theorem frame_AdamConvRef : Cert.quiescent_AdamConvRefIdeal := fun m ρ _ =>
  (θ_run Cert.AdamConvRefIdeal.defs _ _).mono (fun r h => ⟨fun c => (h c).2.2.2, sem_eq_zero_of_no_sems (by decide) r.2⟩)
    (Cert.AdamConvRefIdeal.Value.run (F := Ideal) m ρ)

/-- The reference of `AdamConvBias`, at extended reals. -/
theorem frame_AdamConvBiasRef : Cert.quiescent_AdamConvBiasRefIdeal := fun m ρ _ =>
  (θ_run Cert.AdamConvBiasRefIdeal.defs _ _).mono (fun r h => ⟨fun c => (h c).2.2.2, sem_eq_zero_of_no_sems (by decide) r.2⟩)
    (Cert.AdamConvBiasRefIdeal.Value.run (F := Ideal) m ρ)

/-- The reference of `AdamDown`, at extended reals. -/
theorem frame_AdamDownRef : Cert.quiescent_AdamDownRefIdeal := fun m ρ _ =>
  (θ_run Cert.AdamDownRefIdeal.defs _ _).mono (fun r h => ⟨fun c => (h c).2.2.2, sem_eq_zero_of_no_sems (by decide) r.2⟩)
    (Cert.AdamDownRefIdeal.Value.run (F := Ideal) m ρ)

/-- The reference of `ModDw`, at extended reals. -/
theorem frame_ModDwRef : Cert.quiescent_ModDwRefIdeal := fun m ρ _ =>
  (θ_run Cert.ModDwRefIdeal.defs _ _).mono (fun r h => ⟨fun c => (h c).2, sem_eq_zero_of_no_sems (by decide) r.2⟩)
    (Cert.ModDwRefIdeal.Value.run (F := Ideal) m ρ)

/-- The reference of `SumQkv`, at extended reals. -/
theorem frame_SumQkvRef : Cert.quiescent_SumQkvRefIdeal := fun m ρ _ =>
  (θ_run Cert.SumQkvRefIdeal.defs _ _).mono (fun r h => ⟨fun c => (h c).2, sem_eq_zero_of_no_sems (by decide) r.2⟩)
    (Cert.SumQkvRefIdeal.Value.run (F := Ideal) m ρ)

/-- The reference of `SumO`, at extended reals. -/
theorem frame_SumORef : Cert.quiescent_SumORefIdeal := fun m ρ _ =>
  (θ_run Cert.SumORefIdeal.defs _ _).mono (fun r h => ⟨fun c => (h c).2, sem_eq_zero_of_no_sems (by decide) r.2⟩)
    (Cert.SumORefIdeal.Value.run (F := Ideal) m ρ)

/-- The reference of `SumUp`, at extended reals. -/
theorem frame_SumUpRef : Cert.quiescent_SumUpRefIdeal := fun m ρ _ =>
  (θ_run Cert.SumUpRefIdeal.defs _ _).mono (fun r h => ⟨fun c => (h c).2, sem_eq_zero_of_no_sems (by decide) r.2⟩)
    (Cert.SumUpRefIdeal.Value.run (F := Ideal) m ρ)

/-- The reference of `SumDown`, at extended reals. -/
theorem frame_SumDownRef : Cert.quiescent_SumDownRefIdeal := fun m ρ _ =>
  (θ_run Cert.SumDownRefIdeal.defs _ _).mono (fun r h => ⟨fun c => (h c).2, sem_eq_zero_of_no_sems (by decide) r.2⟩)
    (Cert.SumDownRefIdeal.Value.run (F := Ideal) m ρ)

/-- The reference of `SumSmall`, at extended reals. -/
theorem frame_SumSmallRef : Cert.quiescent_SumSmallRefIdeal := fun m ρ _ =>
  (θ_run Cert.SumSmallRefIdeal.defs _ _).mono (fun r h => ⟨fun c => (h c).2, sem_eq_zero_of_no_sems (by decide) r.2⟩)
    (Cert.SumSmallRefIdeal.Value.run (F := Ideal) m ρ)

theorem claim : Cert.Claim := ⟨Cert.Kernel.Gen.facts, Cert.KernelIdeal.Gen.facts, Cert.ReferenceIdeal.Gen.facts,
  Cert.UpDx.Gen.facts, Cert.UpDxIdeal.Gen.facts, Cert.UpDxRefIdeal.Gen.facts,
  Cert.UpDw.Gen.facts, Cert.UpDwIdeal.Gen.facts, Cert.UpDwRefIdeal.Gen.facts,
  Cert.DownDx.Gen.facts, Cert.DownDxIdeal.Gen.facts, Cert.DownDxRefIdeal.Gen.facts,
  Cert.DownDw.Gen.facts, Cert.DownDwIdeal.Gen.facts, Cert.DownDwRefIdeal.Gen.facts,
  Cert.QkvDx.Gen.facts, Cert.QkvDxIdeal.Gen.facts, Cert.QkvDxRefIdeal.Gen.facts,
  Cert.QkvDw.Gen.facts, Cert.QkvDwIdeal.Gen.facts, Cert.QkvDwRefIdeal.Gen.facts,
  Cert.Up.Gen.facts, Cert.UpIdeal.Gen.facts, Cert.UpRefIdeal.Gen.facts,
  Cert.Down.Gen.facts, Cert.DownIdeal.Gen.facts, Cert.DownRefIdeal.Gen.facts,
  Cert.Qkv.Gen.facts, Cert.QkvIdeal.Gen.facts, Cert.QkvRefIdeal.Gen.facts,
  Cert.OutProj.Gen.facts, Cert.OutProjIdeal.Gen.facts, Cert.OutProjRefIdeal.Gen.facts,
  Cert.OutProjDx.Gen.facts, Cert.OutProjDxIdeal.Gen.facts, Cert.OutProjDxRefIdeal.Gen.facts,
  Cert.OutProjDw.Gen.facts, Cert.OutProjDwIdeal.Gen.facts, Cert.OutProjDwRefIdeal.Gen.facts,
  Cert.AdamMod.Gen.facts, Cert.AdamModIdeal.Gen.facts, Cert.AdamModRefIdeal.Gen.facts,
  Cert.AdamModBias.Gen.facts, Cert.AdamModBiasIdeal.Gen.facts, Cert.AdamModBiasRefIdeal.Gen.facts,
  Cert.AdamNorm.Gen.facts, Cert.AdamNormIdeal.Gen.facts, Cert.AdamNormRefIdeal.Gen.facts,
  Cert.AdamQkv.Gen.facts, Cert.AdamQkvIdeal.Gen.facts, Cert.AdamQkvRefIdeal.Gen.facts,
  Cert.AdamO.Gen.facts, Cert.AdamOIdeal.Gen.facts, Cert.AdamORefIdeal.Gen.facts,
  Cert.AdamForget.Gen.facts, Cert.AdamForgetIdeal.Gen.facts, Cert.AdamForgetRefIdeal.Gen.facts,
  Cert.AdamForgetBias.Gen.facts, Cert.AdamForgetBiasIdeal.Gen.facts, Cert.AdamForgetBiasRefIdeal.Gen.facts,
  Cert.AdamUp.Gen.facts, Cert.AdamUpIdeal.Gen.facts, Cert.AdamUpRefIdeal.Gen.facts,
  Cert.AdamConv.Gen.facts, Cert.AdamConvIdeal.Gen.facts, Cert.AdamConvRefIdeal.Gen.facts,
  Cert.AdamConvBias.Gen.facts, Cert.AdamConvBiasIdeal.Gen.facts, Cert.AdamConvBiasRefIdeal.Gen.facts,
  Cert.AdamDown.Gen.facts, Cert.AdamDownIdeal.Gen.facts, Cert.AdamDownRefIdeal.Gen.facts,
  Cert.ModDw.Gen.facts, Cert.ModDwIdeal.Gen.facts, Cert.ModDwRefIdeal.Gen.facts,
  Cert.SumQkv.Gen.facts, Cert.SumQkvIdeal.Gen.facts, Cert.SumQkvRefIdeal.Gen.facts,
  Cert.SumO.Gen.facts, Cert.SumOIdeal.Gen.facts, Cert.SumORefIdeal.Gen.facts,
  Cert.SumUp.Gen.facts, Cert.SumUpIdeal.Gen.facts, Cert.SumUpRefIdeal.Gen.facts,
  Cert.SumDown.Gen.facts, Cert.SumDownIdeal.Gen.facts, Cert.SumDownRefIdeal.Gen.facts,
  Cert.SumSmall.Gen.facts, Cert.SumSmallIdeal.Gen.facts, Cert.SumSmallRefIdeal.Gen.facts,
  FoxBwd.factsFinite,
  frame_kernel, frame_kernel_ideal, fun m g _ => frame_kernel_ideal m g trivial, frame_reference_ideal,
  fun m g _ => frame_reference_ideal m g trivial,
  fun m ρ _ => Cert.UpDx.Gen.frame m ρ, fun m ρ _ => Cert.UpDxIdeal.Gen.frame m ρ, frame_UpDxRef,
  fun m ρ _ => Cert.UpDw.Gen.frame m ρ, fun m ρ _ => Cert.UpDwIdeal.Gen.frame m ρ, frame_UpDwRef,
  fun m ρ _ => Cert.DownDx.Gen.frame m ρ, fun m ρ _ => Cert.DownDxIdeal.Gen.frame m ρ, frame_DownDxRef,
  fun m ρ _ => Cert.DownDw.Gen.frame m ρ, fun m ρ _ => Cert.DownDwIdeal.Gen.frame m ρ, frame_DownDwRef,
  fun m ρ _ => Cert.QkvDx.Gen.frame m ρ, fun m ρ _ => Cert.QkvDxIdeal.Gen.frame m ρ, frame_QkvDxRef,
  fun m ρ _ => Cert.QkvDw.Gen.frame m ρ, fun m ρ _ => Cert.QkvDwIdeal.Gen.frame m ρ, frame_QkvDwRef,
  fun m ρ _ => Cert.Up.Gen.frame m ρ, fun m ρ _ => Cert.UpIdeal.Gen.frame m ρ, frame_UpRef,
  fun m ρ _ => Cert.Down.Gen.frame m ρ, fun m ρ _ => Cert.DownIdeal.Gen.frame m ρ, frame_DownRef,
  fun m ρ _ => Cert.Qkv.Gen.frame m ρ, fun m ρ _ => Cert.QkvIdeal.Gen.frame m ρ, frame_QkvRef,
  fun m ρ _ => Cert.OutProj.Gen.frame m ρ, fun m ρ _ => Cert.OutProjIdeal.Gen.frame m ρ, frame_OutProjRef,
  fun m ρ _ => Cert.OutProjDx.Gen.frame m ρ, fun m ρ _ => Cert.OutProjDxIdeal.Gen.frame m ρ, frame_OutProjDxRef,
  fun m ρ _ => Cert.OutProjDw.Gen.frame m ρ, fun m ρ _ => Cert.OutProjDwIdeal.Gen.frame m ρ, frame_OutProjDwRef,
  fun m ρ _ => Cert.AdamMod.Gen.frame m ρ, fun m ρ _ => Cert.AdamModIdeal.Gen.frame m ρ, frame_AdamModRef,
  fun m ρ _ => Cert.AdamModBias.Gen.frame m ρ, fun m ρ _ => Cert.AdamModBiasIdeal.Gen.frame m ρ, frame_AdamModBiasRef,
  fun m ρ _ => Cert.AdamNorm.Gen.frame m ρ, fun m ρ _ => Cert.AdamNormIdeal.Gen.frame m ρ, frame_AdamNormRef,
  fun m ρ _ => Cert.AdamQkv.Gen.frame m ρ, fun m ρ _ => Cert.AdamQkvIdeal.Gen.frame m ρ, frame_AdamQkvRef,
  fun m ρ _ => Cert.AdamO.Gen.frame m ρ, fun m ρ _ => Cert.AdamOIdeal.Gen.frame m ρ, frame_AdamORef,
  fun m ρ _ => Cert.AdamForget.Gen.frame m ρ, fun m ρ _ => Cert.AdamForgetIdeal.Gen.frame m ρ, frame_AdamForgetRef,
  fun m ρ _ => Cert.AdamForgetBias.Gen.frame m ρ, fun m ρ _ => Cert.AdamForgetBiasIdeal.Gen.frame m ρ, frame_AdamForgetBiasRef,
  fun m ρ _ => Cert.AdamUp.Gen.frame m ρ, fun m ρ _ => Cert.AdamUpIdeal.Gen.frame m ρ, frame_AdamUpRef,
  fun m ρ _ => Cert.AdamConv.Gen.frame m ρ, fun m ρ _ => Cert.AdamConvIdeal.Gen.frame m ρ, frame_AdamConvRef,
  fun m ρ _ => Cert.AdamConvBias.Gen.frame m ρ, fun m ρ _ => Cert.AdamConvBiasIdeal.Gen.frame m ρ, frame_AdamConvBiasRef,
  fun m ρ _ => Cert.AdamDown.Gen.frame m ρ, fun m ρ _ => Cert.AdamDownIdeal.Gen.frame m ρ, frame_AdamDownRef,
  fun m ρ _ => Cert.ModDw.Gen.frame m ρ, fun m ρ _ => Cert.ModDwIdeal.Gen.frame m ρ, frame_ModDwRef,
  fun m ρ _ => Cert.SumQkv.Gen.frame m ρ, fun m ρ _ => Cert.SumQkvIdeal.Gen.frame m ρ, frame_SumQkvRef,
  fun m ρ _ => Cert.SumO.Gen.frame m ρ, fun m ρ _ => Cert.SumOIdeal.Gen.frame m ρ, frame_SumORef,
  fun m ρ _ => Cert.SumUp.Gen.frame m ρ, fun m ρ _ => Cert.SumUpIdeal.Gen.frame m ρ, frame_SumUpRef,
  fun m ρ _ => Cert.SumDown.Gen.frame m ρ, fun m ρ _ => Cert.SumDownIdeal.Gen.frame m ρ, frame_SumDownRef,
  fun m ρ _ => Cert.SumSmall.Gen.frame m ρ, fun m ρ _ => Cert.SumSmallIdeal.Gen.frame m ρ, frame_SumSmallRef,
  trivial, @value FoxBwd.factsFinite,
  trivial, Products.UpDx.value,
  trivial, Products.UpDw.value,
  trivial, Products.DownDx.value,
  trivial, Products.DownDw.value,
  trivial, Products.QkvDx.value,
  trivial, Products.QkvDw.value,
  trivial, Products.Up.value,
  trivial, Products.Down.value,
  trivial, Products.Qkv.value,
  trivial, Products.OutProj.value,
  trivial, Products.OutProjDx.value,
  trivial, Products.OutProjDw.value,
  Adam.Mod.named, Adam.Mod.value,
  Adam.ModBias.named, Adam.ModBias.value,
  Adam.Norm.named, Adam.Norm.value,
  Adam.Qkv.named, Adam.Qkv.value,
  Adam.O.named, Adam.O.value,
  Adam.Forget.named, Adam.Forget.value,
  Adam.ForgetBias.named, Adam.ForgetBias.value,
  Adam.Up.named, Adam.Up.value,
  Adam.Conv.named, Adam.Conv.value,
  Adam.ConvBias.named, Adam.ConvBias.value,
  Adam.Down.named, Adam.Down.value,
  trivial, Products.ModDw.value,
  trivial, Sums.Qkv.value,
  trivial, Sums.O.value,
  trivial, Sums.Up.value,
  trivial, Sums.Down.value,
  trivial, Sums.Small.value⟩

end Cert.Proof

end
